-- ==== Defs.lean ====
def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2Ideal_finite_qk [hPre_finite_qk : Cert.Pre_finite_qk.Facts] (m : (ℓ : Loc Cert.Attn2Ideal.nD Cert.Attn2Ideal.τ Cert.Attn2Ideal.sig) → Buf (Elt Ideal) ℓ) : Prop :=
  ∀ c : Dev Cert.Attn2Ideal.nD,
    (Cert.Pre_finite_qk.fn (F := Ideal) (m ((c.tc : Thread Cert.Attn2Ideal.nD Cert.Attn2Ideal.τ).loc Cert.Attn2Ideal.main_arg0))) = (fun _ => 1#1)

def Pre_Attn2RefIdeal (m : (ℓ : Loc Cert.Attn2RefIdeal.nD Cert.Attn2RefIdeal.τ Cert.Attn2RefIdeal.sig) → Buf (Elt Ideal) ℓ) : Prop :=
  True

def Pre_Attn2RefIdeal_finite_qk [hPre_finite_qk : Cert.Pre_finite_qk.Facts] (m : (ℓ : Loc Cert.Attn2RefIdeal.nD Cert.Attn2RefIdeal.τ Cert.Attn2RefIdeal.sig) → Buf (Elt Ideal) ℓ) : Prop :=
  ∀ c : Dev Cert.Attn2RefIdeal.nD,
    (Cert.Pre_finite_qk.fn (F := Ideal) (m ((c.tc : Thread Cert.Attn2RefIdeal.nD Cert.Attn2RefIdeal.τ).loc Cert.Attn2RefIdeal.main_arg0))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_OutProjAttn (m : (ℓ : Loc Cert.OutProjAttn.nD Cert.OutProjAttn.τ Cert.OutProjAttn.sig) → Buf (Elt Bits) ℓ) : Prop :=
  True

def Pre_OutProjAttnIdeal (m : (ℓ : Loc Cert.OutProjAttnIdeal.nD Cert.OutProjAttnIdeal.τ Cert.OutProjAttnIdeal.sig) → Buf (Elt Ideal) ℓ) : Prop :=
  True

def Pre_OutProjAttnRefIdeal (m : (ℓ : Loc Cert.OutProjAttnRefIdeal.nD Cert.OutProjAttnRefIdeal.τ Cert.OutProjAttnRefIdeal.sig) → Buf (Elt Ideal) ℓ) : Prop :=
  True

def Pre_MemConv (m : (ℓ : Loc Cert.MemConv.nD Cert.MemConv.τ Cert.MemConv.sig) → Buf (Elt Bits) ℓ) : Prop :=
  True

def Pre_MemConvIdeal (m : (ℓ : Loc Cert.MemConvIdeal.nD Cert.MemConvIdeal.τ Cert.MemConvIdeal.sig) → Buf (Elt Ideal) ℓ) : Prop :=
  True

def Pre_MemConvRefIdeal (m : (ℓ : Loc Cert.MemConvRefIdeal.nD Cert.MemConvRefIdeal.τ Cert.MemConvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_finite_qk_g1 [hPre_finite_qk_g1 : Cert.Pre_finite_qk_g1.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_finite_qk_g1.fn (F := Ideal) (m ((c.tc : Thread Cert.Attn1Ideal.nD Cert.Attn1Ideal.τ).loc Cert.Attn1Ideal.main_arg0))) = (fun _ => 1#1)

def Pre_Attn1RefIdeal (m : (ℓ : Loc Cert.Attn1RefIdeal.nD Cert.Attn1RefIdeal.τ Cert.Attn1RefIdeal.sig) → Buf (Elt Ideal) ℓ) : Prop :=
  True

def Pre_Attn1RefIdeal_finite_qk_g1 [hPre_finite_qk_g1 : Cert.Pre_finite_qk_g1.Facts] (m : (ℓ : Loc Cert.Attn1RefIdeal.nD Cert.Attn1RefIdeal.τ Cert.Attn1RefIdeal.sig) → Buf (Elt Ideal) ℓ) : Prop :=
  ∀ c : Dev Cert.Attn1RefIdeal.nD,
    (Cert.Pre_finite_qk_g1.fn (F := Ideal) (m ((c.tc : Thread Cert.Attn1RefIdeal.nD Cert.Attn1RefIdeal.τ).loc Cert.Attn1RefIdeal.main_arg0))) = (fun _ => 1#1)

def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0Ideal_finite_qk_g0 [hPre_finite_qk_g0 : Cert.Pre_finite_qk_g0.Facts] (m : (ℓ : Loc Cert.Attn0Ideal.nD Cert.Attn0Ideal.τ Cert.Attn0Ideal.sig) → Buf (Elt Ideal) ℓ) : Prop :=
  ∀ c : Dev Cert.Attn0Ideal.nD,
    (Cert.Pre_finite_qk_g0.fn (F := Ideal) (m ((c.tc : Thread Cert.Attn0Ideal.nD Cert.Attn0Ideal.τ).loc Cert.Attn0Ideal.main_arg0))) = (fun _ => 1#1)

def Pre_Attn0RefIdeal (m : (ℓ : Loc Cert.Attn0RefIdeal.nD Cert.Attn0RefIdeal.τ Cert.Attn0RefIdeal.sig) → Buf (Elt Ideal) ℓ) : Prop :=
  True

def Pre_Attn0RefIdeal_finite_qk_g0 [hPre_finite_qk_g0 : Cert.Pre_finite_qk_g0.Facts] (m : (ℓ : Loc Cert.Attn0RefIdeal.nD Cert.Attn0RefIdeal.τ Cert.Attn0RefIdeal.sig) → Buf (Elt Ideal) ℓ) : Prop :=
  ∀ c : Dev Cert.Attn0RefIdeal.nD,
    (Cert.Pre_finite_qk_g0.fn (F := Ideal) (m ((c.tc : Thread Cert.Attn0RefIdeal.nD Cert.Attn0RefIdeal.τ).loc Cert.Attn0RefIdeal.main_arg0))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResLast (m : (ℓ : Loc Cert.ResLast.nD Cert.ResLast.τ Cert.ResLast.sig) → Buf (Elt Bits) ℓ) : Prop :=
  True

def Pre_ResLastIdeal (m : (ℓ : Loc Cert.ResLastIdeal.nD Cert.ResLastIdeal.τ Cert.ResLastIdeal.sig) → Buf (Elt Ideal) ℓ) : Prop :=
  True

def Pre_ResLastRefIdeal (m : (ℓ : Loc Cert.ResLastRefIdeal.nD Cert.ResLastRefIdeal.τ Cert.ResLastRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ r.2.sem = fun _ => 0)

def quiescent_Attn2Ideal_pre_finite_qk [hAttn2Ideal : Cert.Attn2Ideal.Facts] [hPre_finite_qk : Cert.Pre_finite_qk.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal_finite_qk m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ r.2.sem = fun _ => 0)

def quiescent_Attn2RefIdeal [hAttn2RefIdeal : Cert.Attn2RefIdeal.Facts] : Prop :=
  ∀ (m : (ℓ : Loc Cert.Attn2RefIdeal.nD Cert.Attn2RefIdeal.τ Cert.Attn2RefIdeal.sig) → Buf (Elt Ideal) ℓ) (g : Dev Cert.Attn2RefIdeal.nD → PrngReg), Pre_Attn2RefIdeal m →
    θ_run (Cert.Attn2RefIdeal.defs (F := Ideal)) (onTc (τ := Cert.Attn2RefIdeal.τ) (Cert.Attn2RefIdeal.main (F := Ideal))) ⟨m, fun _ => 0, g⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0))
      ∧ r.2.sem = fun _ => 0)

def quiescent_Attn2RefIdeal_pre_finite_qk [hAttn2RefIdeal : Cert.Attn2RefIdeal.Facts] [hPre_finite_qk : Cert.Pre_finite_qk.Facts] : Prop :=
  ∀ (m : (ℓ : Loc Cert.Attn2RefIdeal.nD Cert.Attn2RefIdeal.τ Cert.Attn2RefIdeal.sig) → Buf (Elt Ideal) ℓ) (g : Dev Cert.Attn2RefIdeal.nD → PrngReg), Pre_Attn2RefIdeal_finite_qk m →
    θ_run (Cert.Attn2RefIdeal.defs (F := Ideal)) (onTc (τ := Cert.Attn2RefIdeal.τ) (Cert.Attn2RefIdeal.main (F := Ideal))) ⟨m, fun _ => 0, g⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_OutProjAttn [hOutProjAttn : Cert.OutProjAttn.Facts] : Prop :=
  ∀ (m : (ℓ : Loc Cert.OutProjAttn.nD Cert.OutProjAttn.τ Cert.OutProjAttn.sig) → Buf (Elt Bits) ℓ) (g : Dev Cert.OutProjAttn.nD → PrngReg), Pre_OutProjAttn m →
    θ_run (Cert.OutProjAttn.defs (F := Bits)) (onTc (τ := Cert.OutProjAttn.τ) (Cert.OutProjAttn.main (F := Bits))) ⟨m, fun _ => 0, g⟩ (fun r => (∀ c : Dev Cert.OutProjAttn.nD,
      r.2.mem ((c.tc : Thread Cert.OutProjAttn.nD Cert.OutProjAttn.τ).loc Cert.OutProjAttn.main_arg0) = m ((c.tc : Thread Cert.OutProjAttn.nD Cert.OutProjAttn.τ).loc Cert.OutProjAttn.main_arg0)
      ∧ r.2.mem ((c.tc : Thread Cert.OutProjAttn.nD Cert.OutProjAttn.τ).loc Cert.OutProjAttn.main_arg1) = m ((c.tc : Thread Cert.OutProjAttn.nD Cert.OutProjAttn.τ).loc Cert.OutProjAttn.main_arg1)
      ∧ r.2.mem ((c.tc : Thread Cert.OutProjAttn.nD Cert.OutProjAttn.τ).loc Cert.OutProjAttn.main_arg2) = m ((c.tc : Thread Cert.OutProjAttn.nD Cert.OutProjAttn.τ).loc Cert.OutProjAttn.main_arg2))
      ∧ r.2.sem = fun _ => 0)

def quiescent_OutProjAttnIdeal [hOutProjAttnIdeal : Cert.OutProjAttnIdeal.Facts] : Prop :=
  ∀ (m : (ℓ : Loc Cert.OutProjAttnIdeal.nD Cert.OutProjAttnIdeal.τ Cert.OutProjAttnIdeal.sig) → Buf (Elt Ideal) ℓ) (g : Dev Cert.OutProjAttnIdeal.nD → PrngReg), Pre_OutProjAttnIdeal m →
    θ_run (Cert.OutProjAttnIdeal.defs (F := Ideal)) (onTc (τ := Cert.OutProjAttnIdeal.τ) (Cert.OutProjAttnIdeal.main (F := Ideal))) ⟨m, fun _ => 0, g⟩ (fun r => (∀ c : Dev Cert.OutProjAttnIdeal.nD,
      r.2.mem ((c.tc : Thread Cert.OutProjAttnIdeal.nD Cert.OutProjAttnIdeal.τ).loc Cert.OutProjAttnIdeal.main_arg0) = m ((c.tc : Thread Cert.OutProjAttnIdeal.nD Cert.OutProjAttnIdeal.τ).loc Cert.OutProjAttnIdeal.main_arg0)
      ∧ r.2.mem ((c.tc : Thread Cert.OutProjAttnIdeal.nD Cert.OutProjAttnIdeal.τ).loc Cert.OutProjAttnIdeal.main_arg1) = m ((c.tc : Thread Cert.OutProjAttnIdeal.nD Cert.OutProjAttnIdeal.τ).loc Cert.OutProjAttnIdeal.main_arg1)
      ∧ r.2.mem ((c.tc : Thread Cert.OutProjAttnIdeal.nD Cert.OutProjAttnIdeal.τ).loc Cert.OutProjAttnIdeal.main_arg2) = m ((c.tc : Thread Cert.OutProjAttnIdeal.nD Cert.OutProjAttnIdeal.τ).loc Cert.OutProjAttnIdeal.main_arg2))
      ∧ r.2.sem = fun _ => 0)

def quiescent_OutProjAttnRefIdeal [hOutProjAttnRefIdeal : Cert.OutProjAttnRefIdeal.Facts] : Prop :=
  ∀ (m : (ℓ : Loc Cert.OutProjAttnRefIdeal.nD Cert.OutProjAttnRefIdeal.τ Cert.OutProjAttnRefIdeal.sig) → Buf (Elt Ideal) ℓ) (g : Dev Cert.OutProjAttnRefIdeal.nD → PrngReg), Pre_OutProjAttnRefIdeal m →
    θ_run (Cert.OutProjAttnRefIdeal.defs (F := Ideal)) (onTc (τ := Cert.OutProjAttnRefIdeal.τ) (Cert.OutProjAttnRefIdeal.main (F := Ideal))) ⟨m, fun _ => 0, g⟩ (fun r => (∀ c : Dev Cert.OutProjAttnRefIdeal.nD,
      r.2.mem ((c.tc : Thread Cert.OutProjAttnRefIdeal.nD Cert.OutProjAttnRefIdeal.τ).loc Cert.OutProjAttnRefIdeal.main_arg0) = m ((c.tc : Thread Cert.OutProjAttnRefIdeal.nD Cert.OutProjAttnRefIdeal.τ).loc Cert.OutProjAttnRefIdeal.main_arg0)
      ∧ r.2.mem ((c.tc : Thread Cert.OutProjAttnRefIdeal.nD Cert.OutProjAttnRefIdeal.τ).loc Cert.OutProjAttnRefIdeal.main_arg1) = m ((c.tc : Thread Cert.OutProjAttnRefIdeal.nD Cert.OutProjAttnRefIdeal.τ).loc Cert.OutProjAttnRefIdeal.main_arg1)
      ∧ r.2.mem ((c.tc : Thread Cert.OutProjAttnRefIdeal.nD Cert.OutProjAttnRefIdeal.τ).loc Cert.OutProjAttnRefIdeal.main_arg2) = m ((c.tc : Thread Cert.OutProjAttnRefIdeal.nD Cert.OutProjAttnRefIdeal.τ).loc Cert.OutProjAttnRefIdeal.main_arg2))
      ∧ r.2.sem = fun _ => 0)

def quiescent_MemConv [hMemConv : Cert.MemConv.Facts] : Prop :=
  ∀ (m : (ℓ : Loc Cert.MemConv.nD Cert.MemConv.τ Cert.MemConv.sig) → Buf (Elt Bits) ℓ) (g : Dev Cert.MemConv.nD → PrngReg), Pre_MemConv m →
    θ_run (Cert.MemConv.defs (F := Bits)) (onTc (τ := Cert.MemConv.τ) (Cert.MemConv.main (F := Bits))) ⟨m, fun _ => 0, g⟩ (fun r => (∀ c : Dev Cert.MemConv.nD,
      r.2.mem ((c.tc : Thread Cert.MemConv.nD Cert.MemConv.τ).loc Cert.MemConv.main_arg0) = m ((c.tc : Thread Cert.MemConv.nD Cert.MemConv.τ).loc Cert.MemConv.main_arg0)
      ∧ r.2.mem ((c.tc : Thread Cert.MemConv.nD Cert.MemConv.τ).loc Cert.MemConv.main_arg1) = m ((c.tc : Thread Cert.MemConv.nD Cert.MemConv.τ).loc Cert.MemConv.main_arg1)
      ∧ r.2.mem ((c.tc : Thread Cert.MemConv.nD Cert.MemConv.τ).loc Cert.MemConv.main_arg2) = m ((c.tc : Thread Cert.MemConv.nD Cert.MemConv.τ).loc Cert.MemConv.main_arg2))
      ∧ r.2.sem = fun _ => 0)

def quiescent_MemConvIdeal [hMemConvIdeal : Cert.MemConvIdeal.Facts] : Prop :=
  ∀ (m : (ℓ : Loc Cert.MemConvIdeal.nD Cert.MemConvIdeal.τ Cert.MemConvIdeal.sig) → Buf (Elt Ideal) ℓ) (g : Dev Cert.MemConvIdeal.nD → PrngReg), Pre_MemConvIdeal m →
    θ_run (Cert.MemConvIdeal.defs (F := Ideal)) (onTc (τ := Cert.MemConvIdeal.τ) (Cert.MemConvIdeal.main (F := Ideal))) ⟨m, fun _ => 0, g⟩ (fun r => (∀ c : Dev Cert.MemConvIdeal.nD,
      r.2.mem ((c.tc : Thread Cert.MemConvIdeal.nD Cert.MemConvIdeal.τ).loc Cert.MemConvIdeal.main_arg0) = m ((c.tc : Thread Cert.MemConvIdeal.nD Cert.MemConvIdeal.τ).loc Cert.MemConvIdeal.main_arg0)
      ∧ r.2.mem ((c.tc : Thread Cert.MemConvIdeal.nD Cert.MemConvIdeal.τ).loc Cert.MemConvIdeal.main_arg1) = m ((c.tc : Thread Cert.MemConvIdeal.nD Cert.MemConvIdeal.τ).loc Cert.MemConvIdeal.main_arg1)
      ∧ r.2.mem ((c.tc : Thread Cert.MemConvIdeal.nD Cert.MemConvIdeal.τ).loc Cert.MemConvIdeal.main_arg2) = m ((c.tc : Thread Cert.MemConvIdeal.nD Cert.MemConvIdeal.τ).loc Cert.MemConvIdeal.main_arg2))
      ∧ r.2.sem = fun _ => 0)

def quiescent_MemConvRefIdeal [hMemConvRefIdeal : Cert.MemConvRefIdeal.Facts] : Prop :=
  ∀ (m : (ℓ : Loc Cert.MemConvRefIdeal.nD Cert.MemConvRefIdeal.τ Cert.MemConvRefIdeal.sig) → Buf (Elt Ideal) ℓ) (g : Dev Cert.MemConvRefIdeal.nD → PrngReg), Pre_MemConvRefIdeal m →
    θ_run (Cert.MemConvRefIdeal.defs (F := Ideal)) (onTc (τ := Cert.MemConvRefIdeal.τ) (Cert.MemConvRefIdeal.main (F := Ideal))) ⟨m, fun _ => 0, g⟩ (fun r => (∀ c : Dev Cert.MemConvRefIdeal.nD,
      r.2.mem ((c.tc : Thread Cert.MemConvRefIdeal.nD Cert.MemConvRefIdeal.τ).loc Cert.MemConvRefIdeal.main_arg0) = m ((c.tc : Thread Cert.MemConvRefIdeal.nD Cert.MemConvRefIdeal.τ).loc Cert.MemConvRefIdeal.main_arg0)
      ∧ r.2.mem ((c.tc : Thread Cert.MemConvRefIdeal.nD Cert.MemConvRefIdeal.τ).loc Cert.MemConvRefIdeal.main_arg1) = m ((c.tc : Thread Cert.MemConvRefIdeal.nD Cert.MemConvRefIdeal.τ).loc Cert.MemConvRefIdeal.main_arg1)
      ∧ r.2.mem ((c.tc : Thread Cert.MemConvRefIdeal.nD Cert.MemConvRefIdeal.τ).loc Cert.MemConvRefIdeal.main_arg2) = m ((c.tc : Thread Cert.MemConvRefIdeal.nD Cert.MemConvRefIdeal.τ).loc Cert.MemConvRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1Ideal_pre_finite_qk_g1 [hAttn1Ideal : Cert.Attn1Ideal.Facts] [hPre_finite_qk_g1 : Cert.Pre_finite_qk_g1.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_finite_qk_g1 m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0))
      ∧ r.2.sem = fun _ => 0)

def quiescent_Attn1RefIdeal_pre_finite_qk_g1 [hAttn1RefIdeal : Cert.Attn1RefIdeal.Facts] [hPre_finite_qk_g1 : Cert.Pre_finite_qk_g1.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal_finite_qk_g1 m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0))
      ∧ r.2.sem = fun _ => 0)

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ r.2.sem = fun _ => 0)

def quiescent_Attn0Ideal_pre_finite_qk_g0 [hAttn0Ideal : Cert.Attn0Ideal.Facts] [hPre_finite_qk_g0 : Cert.Pre_finite_qk_g0.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal_finite_qk_g0 m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ r.2.sem = fun _ => 0)

def quiescent_Attn0RefIdeal [hAttn0RefIdeal : Cert.Attn0RefIdeal.Facts] : Prop :=
  ∀ (m : (ℓ : Loc Cert.Attn0RefIdeal.nD Cert.Attn0RefIdeal.τ Cert.Attn0RefIdeal.sig) → Buf (Elt Ideal) ℓ) (g : Dev Cert.Attn0RefIdeal.nD → PrngReg), Pre_Attn0RefIdeal m →
    θ_run (Cert.Attn0RefIdeal.defs (F := Ideal)) (onTc (τ := Cert.Attn0RefIdeal.τ) (Cert.Attn0RefIdeal.main (F := Ideal))) ⟨m, fun _ => 0, g⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0))
      ∧ r.2.sem = fun _ => 0)

def quiescent_Attn0RefIdeal_pre_finite_qk_g0 [hAttn0RefIdeal : Cert.Attn0RefIdeal.Facts] [hPre_finite_qk_g0 : Cert.Pre_finite_qk_g0.Facts] : Prop :=
  ∀ (m : (ℓ : Loc Cert.Attn0RefIdeal.nD Cert.Attn0RefIdeal.τ Cert.Attn0RefIdeal.sig) → Buf (Elt Ideal) ℓ) (g : Dev Cert.Attn0RefIdeal.nD → PrngReg), Pre_Attn0RefIdeal_finite_qk_g0 m →
    θ_run (Cert.Attn0RefIdeal.defs (F := Ideal)) (onTc (τ := Cert.Attn0RefIdeal.τ) (Cert.Attn0RefIdeal.main (F := Ideal))) ⟨m, fun _ => 0, g⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ResLast [hResLast : Cert.ResLast.Facts] : Prop :=
  ∀ (m : (ℓ : Loc Cert.ResLast.nD Cert.ResLast.τ Cert.ResLast.sig) → Buf (Elt Bits) ℓ) (g : Dev Cert.ResLast.nD → PrngReg), Pre_ResLast m →
    θ_run (Cert.ResLast.defs (F := Bits)) (onTc (τ := Cert.ResLast.τ) (Cert.ResLast.main (F := Bits))) ⟨m, fun _ => 0, g⟩ (fun r => (∀ c : Dev Cert.ResLast.nD,
      r.2.mem ((c.tc : Thread Cert.ResLast.nD Cert.ResLast.τ).loc Cert.ResLast.main_arg0) = m ((c.tc : Thread Cert.ResLast.nD Cert.ResLast.τ).loc Cert.ResLast.main_arg0)
      ∧ r.2.mem ((c.tc : Thread Cert.ResLast.nD Cert.ResLast.τ).loc Cert.ResLast.main_arg1) = m ((c.tc : Thread Cert.ResLast.nD Cert.ResLast.τ).loc Cert.ResLast.main_arg1)
      ∧ r.2.mem ((c.tc : Thread Cert.ResLast.nD Cert.ResLast.τ).loc Cert.ResLast.main_arg2) = m ((c.tc : Thread Cert.ResLast.nD Cert.ResLast.τ).loc Cert.ResLast.main_arg2))
      ∧ r.2.sem = fun _ => 0)

def quiescent_ResLastIdeal [hResLastIdeal : Cert.ResLastIdeal.Facts] : Prop :=
  ∀ (m : (ℓ : Loc Cert.ResLastIdeal.nD Cert.ResLastIdeal.τ Cert.ResLastIdeal.sig) → Buf (Elt Ideal) ℓ) (g : Dev Cert.ResLastIdeal.nD → PrngReg), Pre_ResLastIdeal m →
    θ_run (Cert.ResLastIdeal.defs (F := Ideal)) (onTc (τ := Cert.ResLastIdeal.τ) (Cert.ResLastIdeal.main (F := Ideal))) ⟨m, fun _ => 0, g⟩ (fun r => (∀ c : Dev Cert.ResLastIdeal.nD,
      r.2.mem ((c.tc : Thread Cert.ResLastIdeal.nD Cert.ResLastIdeal.τ).loc Cert.ResLastIdeal.main_arg0) = m ((c.tc : Thread Cert.ResLastIdeal.nD Cert.ResLastIdeal.τ).loc Cert.ResLastIdeal.main_arg0)
      ∧ r.2.mem ((c.tc : Thread Cert.ResLastIdeal.nD Cert.ResLastIdeal.τ).loc Cert.ResLastIdeal.main_arg1) = m ((c.tc : Thread Cert.ResLastIdeal.nD Cert.ResLastIdeal.τ).loc Cert.ResLastIdeal.main_arg1)
      ∧ r.2.mem ((c.tc : Thread Cert.ResLastIdeal.nD Cert.ResLastIdeal.τ).loc Cert.ResLastIdeal.main_arg2) = m ((c.tc : Thread Cert.ResLastIdeal.nD Cert.ResLastIdeal.τ).loc Cert.ResLastIdeal.main_arg2))
      ∧ r.2.sem = fun _ => 0)

def quiescent_ResLastRefIdeal [hResLastRefIdeal : Cert.ResLastRefIdeal.Facts] : Prop :=
  ∀ (m : (ℓ : Loc Cert.ResLastRefIdeal.nD Cert.ResLastRefIdeal.τ Cert.ResLastRefIdeal.sig) → Buf (Elt Ideal) ℓ) (g : Dev Cert.ResLastRefIdeal.nD → PrngReg), Pre_ResLastRefIdeal m →
    θ_run (Cert.ResLastRefIdeal.defs (F := Ideal)) (onTc (τ := Cert.ResLastRefIdeal.τ) (Cert.ResLastRefIdeal.main (F := Ideal))) ⟨m, fun _ => 0, g⟩ (fun r => (∀ c : Dev Cert.ResLastRefIdeal.nD,
      r.2.mem ((c.tc : Thread Cert.ResLastRefIdeal.nD Cert.ResLastRefIdeal.τ).loc Cert.ResLastRefIdeal.main_arg0) = m ((c.tc : Thread Cert.ResLastRefIdeal.nD Cert.ResLastRefIdeal.τ).loc Cert.ResLastRefIdeal.main_arg0)
      ∧ r.2.mem ((c.tc : Thread Cert.ResLastRefIdeal.nD Cert.ResLastRefIdeal.τ).loc Cert.ResLastRefIdeal.main_arg1) = m ((c.tc : Thread Cert.ResLastRefIdeal.nD Cert.ResLastRefIdeal.τ).loc Cert.ResLastRefIdeal.main_arg1)
      ∧ r.2.mem ((c.tc : Thread Cert.ResLastRefIdeal.nD Cert.ResLastRefIdeal.τ).loc Cert.ResLastRefIdeal.main_arg2) = m ((c.tc : Thread Cert.ResLastRefIdeal.nD Cert.ResLastRefIdeal.τ).loc Cert.ResLastRefIdeal.main_arg2))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Attn2_Attn2Ideal : Prop :=
  True

def algebraic_Attn2Ideal_Attn2RefIdeal_pre_finite_qk [hAttn2Ideal : Cert.Attn2Ideal.Facts] [hAttn2RefIdeal : Cert.Attn2RefIdeal.Facts] [hPre_finite_qk : Cert.Pre_finite_qk.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.Attn2RefIdeal.nD Cert.Attn2RefIdeal.τ Cert.Attn2RefIdeal.sig) → Buf (Elt Ideal) ℓ) (g' : Dev Cert.Attn2RefIdeal.nD → PrngReg), Pre_Attn2Ideal_finite_qk m →
    (∀ c : Dev Cert.Attn2Ideal.nD,
      m' ((c.tc : Thread Cert.Attn2RefIdeal.nD Cert.Attn2RefIdeal.τ).loc Cert.Attn2RefIdeal.main_arg0) = m ((c.tc : Thread Cert.Attn2Ideal.nD Cert.Attn2Ideal.τ).loc Cert.Attn2Ideal.main_arg0)) →
    ∃ (v0 : (c : Dev Cert.Attn2Ideal.nD) → Buf (Elt Ideal) ((c.tc : Thread Cert.Attn2Ideal.nD Cert.Attn2Ideal.τ).loc Cert.Attn2Ideal.main_v1_0)) (v1 : (c : Dev Cert.Attn2Ideal.nD) → Buf (Elt Ideal) ((c.tc : Thread Cert.Attn2Ideal.nD Cert.Attn2Ideal.τ).loc Cert.Attn2Ideal.main_v1_1)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v1_0) = v0 c
          ∧ r.2.mem ((c.tc : Thread Cert.Attn2Ideal.nD Cert.Attn2Ideal.τ).loc Cert.Attn2Ideal.main_v1_1) = v1 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ θ_run (Cert.Attn2RefIdeal.defs (F := Ideal)) (onTc (τ := Cert.Attn2RefIdeal.τ) (Cert.Attn2RefIdeal.main (F := Ideal))) ⟨m', fun _ => 0, g'⟩ (fun r => ∀ c : Dev Cert.Attn2RefIdeal.nD,
          r.2.mem ((c.tc : Thread Cert.Attn2RefIdeal.nD Cert.Attn2RefIdeal.τ).loc Cert.Attn2RefIdeal.main_v65) = v0 c
          ∧ r.2.mem ((c.tc : Thread Cert.Attn2RefIdeal.nD Cert.Attn2RefIdeal.τ).loc Cert.Attn2RefIdeal.main_v67) = v1 c
          ∧ r.2.mem ((c.tc : Thread Cert.Attn2RefIdeal.nD Cert.Attn2RefIdeal.τ).loc Cert.Attn2RefIdeal.main_arg0) = m' ((c.tc : Thread Cert.Attn2RefIdeal.nD Cert.Attn2RefIdeal.τ).loc Cert.Attn2RefIdeal.main_arg0))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v32) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v56) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v30) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_OutProjAttn_OutProjAttnIdeal : Prop :=
  True

def algebraic_OutProjAttnIdeal_OutProjAttnRefIdeal [hOutProjAttnIdeal : Cert.OutProjAttnIdeal.Facts] [hOutProjAttnRefIdeal : Cert.OutProjAttnRefIdeal.Facts] : Prop :=
  ∀ (m : (ℓ : Loc Cert.OutProjAttnIdeal.nD Cert.OutProjAttnIdeal.τ Cert.OutProjAttnIdeal.sig) → Buf (Elt Ideal) ℓ) (g : Dev Cert.OutProjAttnIdeal.nD → PrngReg)
    (m' : (ℓ : Loc Cert.OutProjAttnRefIdeal.nD Cert.OutProjAttnRefIdeal.τ Cert.OutProjAttnRefIdeal.sig) → Buf (Elt Ideal) ℓ) (g' : Dev Cert.OutProjAttnRefIdeal.nD → PrngReg), Pre_OutProjAttnIdeal m →
    (∀ c : Dev Cert.OutProjAttnIdeal.nD,
      m' ((c.tc : Thread Cert.OutProjAttnRefIdeal.nD Cert.OutProjAttnRefIdeal.τ).loc Cert.OutProjAttnRefIdeal.main_arg0) = m ((c.tc : Thread Cert.OutProjAttnIdeal.nD Cert.OutProjAttnIdeal.τ).loc Cert.OutProjAttnIdeal.main_arg0)
      ∧ m' ((c.tc : Thread Cert.OutProjAttnRefIdeal.nD Cert.OutProjAttnRefIdeal.τ).loc Cert.OutProjAttnRefIdeal.main_arg1) = m ((c.tc : Thread Cert.OutProjAttnIdeal.nD Cert.OutProjAttnIdeal.τ).loc Cert.OutProjAttnIdeal.main_arg1)
      ∧ m' ((c.tc : Thread Cert.OutProjAttnRefIdeal.nD Cert.OutProjAttnRefIdeal.τ).loc Cert.OutProjAttnRefIdeal.main_arg2) = m ((c.tc : Thread Cert.OutProjAttnIdeal.nD Cert.OutProjAttnIdeal.τ).loc Cert.OutProjAttnIdeal.main_arg2)) →
    ∃ (v0 : (c : Dev Cert.OutProjAttnIdeal.nD) → Buf (Elt Ideal) ((c.tc : Thread Cert.OutProjAttnIdeal.nD Cert.OutProjAttnIdeal.τ).loc Cert.OutProjAttnIdeal.main_v0)),
      θ_run (Cert.OutProjAttnIdeal.defs (F := Ideal)) (onTc (τ := Cert.OutProjAttnIdeal.τ) (Cert.OutProjAttnIdeal.main (F := Ideal))) ⟨m, fun _ => 0, g⟩ (fun r => ∀ c : Dev Cert.OutProjAttnIdeal.nD,
          r.2.mem ((c.tc : Thread Cert.OutProjAttnIdeal.nD Cert.OutProjAttnIdeal.τ).loc Cert.OutProjAttnIdeal.main_v0) = v0 c
          ∧ r.2.mem ((c.tc : Thread Cert.OutProjAttnIdeal.nD Cert.OutProjAttnIdeal.τ).loc Cert.OutProjAttnIdeal.main_arg0) = m ((c.tc : Thread Cert.OutProjAttnIdeal.nD Cert.OutProjAttnIdeal.τ).loc Cert.OutProjAttnIdeal.main_arg0)
          ∧ r.2.mem ((c.tc : Thread Cert.OutProjAttnIdeal.nD Cert.OutProjAttnIdeal.τ).loc Cert.OutProjAttnIdeal.main_arg1) = m ((c.tc : Thread Cert.OutProjAttnIdeal.nD Cert.OutProjAttnIdeal.τ).loc Cert.OutProjAttnIdeal.main_arg1)
          ∧ r.2.mem ((c.tc : Thread Cert.OutProjAttnIdeal.nD Cert.OutProjAttnIdeal.τ).loc Cert.OutProjAttnIdeal.main_arg2) = m ((c.tc : Thread Cert.OutProjAttnIdeal.nD Cert.OutProjAttnIdeal.τ).loc Cert.OutProjAttnIdeal.main_arg2))
      ∧ θ_run (Cert.OutProjAttnRefIdeal.defs (F := Ideal)) (onTc (τ := Cert.OutProjAttnRefIdeal.τ) (Cert.OutProjAttnRefIdeal.main (F := Ideal))) ⟨m', fun _ => 0, g'⟩ (fun r => ∀ c : Dev Cert.OutProjAttnRefIdeal.nD,
          r.2.mem ((c.tc : Thread Cert.OutProjAttnRefIdeal.nD Cert.OutProjAttnRefIdeal.τ).loc Cert.OutProjAttnRefIdeal.main_v3) = v0 c
          ∧ r.2.mem ((c.tc : Thread Cert.OutProjAttnRefIdeal.nD Cert.OutProjAttnRefIdeal.τ).loc Cert.OutProjAttnRefIdeal.main_arg0) = m' ((c.tc : Thread Cert.OutProjAttnRefIdeal.nD Cert.OutProjAttnRefIdeal.τ).loc Cert.OutProjAttnRefIdeal.main_arg0)
          ∧ r.2.mem ((c.tc : Thread Cert.OutProjAttnRefIdeal.nD Cert.OutProjAttnRefIdeal.τ).loc Cert.OutProjAttnRefIdeal.main_arg1) = m' ((c.tc : Thread Cert.OutProjAttnRefIdeal.nD Cert.OutProjAttnRefIdeal.τ).loc Cert.OutProjAttnRefIdeal.main_arg1)
          ∧ r.2.mem ((c.tc : Thread Cert.OutProjAttnRefIdeal.nD Cert.OutProjAttnRefIdeal.τ).loc Cert.OutProjAttnRefIdeal.main_arg2) = m' ((c.tc : Thread Cert.OutProjAttnRefIdeal.nD Cert.OutProjAttnRefIdeal.τ).loc Cert.OutProjAttnRefIdeal.main_arg2))

def preserves_MemConv_MemConvIdeal : Prop :=
  True

def algebraic_MemConvIdeal_MemConvRefIdeal [hMemConvIdeal : Cert.MemConvIdeal.Facts] [hMemConvRefIdeal : Cert.MemConvRefIdeal.Facts] : Prop :=
  ∀ (m : (ℓ : Loc Cert.MemConvIdeal.nD Cert.MemConvIdeal.τ Cert.MemConvIdeal.sig) → Buf (Elt Ideal) ℓ) (g : Dev Cert.MemConvIdeal.nD → PrngReg)
    (m' : (ℓ : Loc Cert.MemConvRefIdeal.nD Cert.MemConvRefIdeal.τ Cert.MemConvRefIdeal.sig) → Buf (Elt Ideal) ℓ) (g' : Dev Cert.MemConvRefIdeal.nD → PrngReg), Pre_MemConvIdeal m →
    (∀ c : Dev Cert.MemConvIdeal.nD,
      m' ((c.tc : Thread Cert.MemConvRefIdeal.nD Cert.MemConvRefIdeal.τ).loc Cert.MemConvRefIdeal.main_arg0) = m ((c.tc : Thread Cert.MemConvIdeal.nD Cert.MemConvIdeal.τ).loc Cert.MemConvIdeal.main_arg0)
      ∧ m' ((c.tc : Thread Cert.MemConvRefIdeal.nD Cert.MemConvRefIdeal.τ).loc Cert.MemConvRefIdeal.main_arg1) = m ((c.tc : Thread Cert.MemConvIdeal.nD Cert.MemConvIdeal.τ).loc Cert.MemConvIdeal.main_arg1)
      ∧ m' ((c.tc : Thread Cert.MemConvRefIdeal.nD Cert.MemConvRefIdeal.τ).loc Cert.MemConvRefIdeal.main_arg2) = m ((c.tc : Thread Cert.MemConvIdeal.nD Cert.MemConvIdeal.τ).loc Cert.MemConvIdeal.main_arg2)) →
    ∃ (v0 : (c : Dev Cert.MemConvIdeal.nD) → Buf (Elt Ideal) ((c.tc : Thread Cert.MemConvIdeal.nD Cert.MemConvIdeal.τ).loc Cert.MemConvIdeal.main_v0)),
      θ_run (Cert.MemConvIdeal.defs (F := Ideal)) (onTc (τ := Cert.MemConvIdeal.τ) (Cert.MemConvIdeal.main (F := Ideal))) ⟨m, fun _ => 0, g⟩ (fun r => ∀ c : Dev Cert.MemConvIdeal.nD,
          r.2.mem ((c.tc : Thread Cert.MemConvIdeal.nD Cert.MemConvIdeal.τ).loc Cert.MemConvIdeal.main_v0) = v0 c
          ∧ r.2.mem ((c.tc : Thread Cert.MemConvIdeal.nD Cert.MemConvIdeal.τ).loc Cert.MemConvIdeal.main_arg0) = m ((c.tc : Thread Cert.MemConvIdeal.nD Cert.MemConvIdeal.τ).loc Cert.MemConvIdeal.main_arg0)
          ∧ r.2.mem ((c.tc : Thread Cert.MemConvIdeal.nD Cert.MemConvIdeal.τ).loc Cert.MemConvIdeal.main_arg1) = m ((c.tc : Thread Cert.MemConvIdeal.nD Cert.MemConvIdeal.τ).loc Cert.MemConvIdeal.main_arg1)
          ∧ r.2.mem ((c.tc : Thread Cert.MemConvIdeal.nD Cert.MemConvIdeal.τ).loc Cert.MemConvIdeal.main_arg2) = m ((c.tc : Thread Cert.MemConvIdeal.nD Cert.MemConvIdeal.τ).loc Cert.MemConvIdeal.main_arg2))
      ∧ θ_run (Cert.MemConvRefIdeal.defs (F := Ideal)) (onTc (τ := Cert.MemConvRefIdeal.τ) (Cert.MemConvRefIdeal.main (F := Ideal))) ⟨m', fun _ => 0, g'⟩ (fun r => ∀ c : Dev Cert.MemConvRefIdeal.nD,
          r.2.mem ((c.tc : Thread Cert.MemConvRefIdeal.nD Cert.MemConvRefIdeal.τ).loc Cert.MemConvRefIdeal.main_v28) = v0 c
          ∧ r.2.mem ((c.tc : Thread Cert.MemConvRefIdeal.nD Cert.MemConvRefIdeal.τ).loc Cert.MemConvRefIdeal.main_arg0) = m' ((c.tc : Thread Cert.MemConvRefIdeal.nD Cert.MemConvRefIdeal.τ).loc Cert.MemConvRefIdeal.main_arg0)
          ∧ r.2.mem ((c.tc : Thread Cert.MemConvRefIdeal.nD Cert.MemConvRefIdeal.τ).loc Cert.MemConvRefIdeal.main_arg1) = m' ((c.tc : Thread Cert.MemConvRefIdeal.nD Cert.MemConvRefIdeal.τ).loc Cert.MemConvRefIdeal.main_arg1)
          ∧ r.2.mem ((c.tc : Thread Cert.MemConvRefIdeal.nD Cert.MemConvRefIdeal.τ).loc Cert.MemConvRefIdeal.main_arg2) = m' ((c.tc : Thread Cert.MemConvRefIdeal.nD Cert.MemConvRefIdeal.τ).loc Cert.MemConvRefIdeal.main_arg2))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v28) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_Attn1_Attn1Ideal : Prop :=
  True

def algebraic_Attn1Ideal_Attn1RefIdeal_pre_finite_qk_g1 [hAttn1Ideal : Cert.Attn1Ideal.Facts] [hAttn1RefIdeal : Cert.Attn1RefIdeal.Facts] [hPre_finite_qk_g1 : Cert.Pre_finite_qk_g1.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal_finite_qk_g1 m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v1_0)) (v1 : (c : Dev Cert.Attn1Ideal.nD) → Buf (Elt Ideal) ((c.tc : Thread Cert.Attn1Ideal.nD Cert.Attn1Ideal.τ).loc Cert.Attn1Ideal.main_v1_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v1_0) = v0 c
          ∧ r.2.mem ((c.tc : Thread Cert.Attn1Ideal.nD Cert.Attn1Ideal.τ).loc Cert.Attn1Ideal.main_v1_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v65) = v0 c
          ∧ r.2.mem ((c.tc : Thread Cert.Attn1RefIdeal.nD Cert.Attn1RefIdeal.τ).loc Cert.Attn1RefIdeal.main_v67) = v1 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0))

def preserves_Attn0_Attn0Ideal : Prop :=
  True

def algebraic_Attn0Ideal_Attn0RefIdeal_pre_finite_qk_g0 [hAttn0Ideal : Cert.Attn0Ideal.Facts] [hAttn0RefIdeal : Cert.Attn0RefIdeal.Facts] [hPre_finite_qk_g0 : Cert.Pre_finite_qk_g0.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.Attn0RefIdeal.nD Cert.Attn0RefIdeal.τ Cert.Attn0RefIdeal.sig) → Buf (Elt Ideal) ℓ) (g' : Dev Cert.Attn0RefIdeal.nD → PrngReg), Pre_Attn0Ideal_finite_qk_g0 m →
    (∀ c : Dev Cert.Attn0Ideal.nD,
      m' ((c.tc : Thread Cert.Attn0RefIdeal.nD Cert.Attn0RefIdeal.τ).loc Cert.Attn0RefIdeal.main_arg0) = m ((c.tc : Thread Cert.Attn0Ideal.nD Cert.Attn0Ideal.τ).loc Cert.Attn0Ideal.main_arg0)) →
    ∃ (v0 : (c : Dev Cert.Attn0Ideal.nD) → Buf (Elt Ideal) ((c.tc : Thread Cert.Attn0Ideal.nD Cert.Attn0Ideal.τ).loc Cert.Attn0Ideal.main_v0_0)) (v1 : (c : Dev Cert.Attn0Ideal.nD) → Buf (Elt Ideal) ((c.tc : Thread Cert.Attn0Ideal.nD Cert.Attn0Ideal.τ).loc Cert.Attn0Ideal.main_v0_1)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v0_0) = v0 c
          ∧ r.2.mem ((c.tc : Thread Cert.Attn0Ideal.nD Cert.Attn0Ideal.τ).loc Cert.Attn0Ideal.main_v0_1) = v1 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ θ_run (Cert.Attn0RefIdeal.defs (F := Ideal)) (onTc (τ := Cert.Attn0RefIdeal.τ) (Cert.Attn0RefIdeal.main (F := Ideal))) ⟨m', fun _ => 0, g'⟩ (fun r => ∀ c : Dev Cert.Attn0RefIdeal.nD,
          r.2.mem ((c.tc : Thread Cert.Attn0RefIdeal.nD Cert.Attn0RefIdeal.τ).loc Cert.Attn0RefIdeal.main_v65) = v0 c
          ∧ r.2.mem ((c.tc : Thread Cert.Attn0RefIdeal.nD Cert.Attn0RefIdeal.τ).loc Cert.Attn0RefIdeal.main_v66) = v1 c
          ∧ r.2.mem ((c.tc : Thread Cert.Attn0RefIdeal.nD Cert.Attn0RefIdeal.τ).loc Cert.Attn0RefIdeal.main_arg0) = m' ((c.tc : Thread Cert.Attn0RefIdeal.nD Cert.Attn0RefIdeal.τ).loc Cert.Attn0RefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ResLast_ResLastIdeal : Prop :=
  True

def algebraic_ResLastIdeal_ResLastRefIdeal [hResLastIdeal : Cert.ResLastIdeal.Facts] [hResLastRefIdeal : Cert.ResLastRefIdeal.Facts] : Prop :=
  ∀ (m : (ℓ : Loc Cert.ResLastIdeal.nD Cert.ResLastIdeal.τ Cert.ResLastIdeal.sig) → Buf (Elt Ideal) ℓ) (g : Dev Cert.ResLastIdeal.nD → PrngReg)
    (m' : (ℓ : Loc Cert.ResLastRefIdeal.nD Cert.ResLastRefIdeal.τ Cert.ResLastRefIdeal.sig) → Buf (Elt Ideal) ℓ) (g' : Dev Cert.ResLastRefIdeal.nD → PrngReg), Pre_ResLastIdeal m →
    (∀ c : Dev Cert.ResLastIdeal.nD,
      m' ((c.tc : Thread Cert.ResLastRefIdeal.nD Cert.ResLastRefIdeal.τ).loc Cert.ResLastRefIdeal.main_arg0) = m ((c.tc : Thread Cert.ResLastIdeal.nD Cert.ResLastIdeal.τ).loc Cert.ResLastIdeal.main_arg0)
      ∧ m' ((c.tc : Thread Cert.ResLastRefIdeal.nD Cert.ResLastRefIdeal.τ).loc Cert.ResLastRefIdeal.main_arg1) = m ((c.tc : Thread Cert.ResLastIdeal.nD Cert.ResLastIdeal.τ).loc Cert.ResLastIdeal.main_arg1)
      ∧ m' ((c.tc : Thread Cert.ResLastRefIdeal.nD Cert.ResLastRefIdeal.τ).loc Cert.ResLastRefIdeal.main_arg2) = m ((c.tc : Thread Cert.ResLastIdeal.nD Cert.ResLastIdeal.τ).loc Cert.ResLastIdeal.main_arg2)) →
    ∃ (v0 : (c : Dev Cert.ResLastIdeal.nD) → Buf (Elt Ideal) ((c.tc : Thread Cert.ResLastIdeal.nD Cert.ResLastIdeal.τ).loc Cert.ResLastIdeal.main_v0)),
      θ_run (Cert.ResLastIdeal.defs (F := Ideal)) (onTc (τ := Cert.ResLastIdeal.τ) (Cert.ResLastIdeal.main (F := Ideal))) ⟨m, fun _ => 0, g⟩ (fun r => ∀ c : Dev Cert.ResLastIdeal.nD,
          r.2.mem ((c.tc : Thread Cert.ResLastIdeal.nD Cert.ResLastIdeal.τ).loc Cert.ResLastIdeal.main_v0) = v0 c
          ∧ r.2.mem ((c.tc : Thread Cert.ResLastIdeal.nD Cert.ResLastIdeal.τ).loc Cert.ResLastIdeal.main_arg0) = m ((c.tc : Thread Cert.ResLastIdeal.nD Cert.ResLastIdeal.τ).loc Cert.ResLastIdeal.main_arg0)
          ∧ r.2.mem ((c.tc : Thread Cert.ResLastIdeal.nD Cert.ResLastIdeal.τ).loc Cert.ResLastIdeal.main_arg1) = m ((c.tc : Thread Cert.ResLastIdeal.nD Cert.ResLastIdeal.τ).loc Cert.ResLastIdeal.main_arg1)
          ∧ r.2.mem ((c.tc : Thread Cert.ResLastIdeal.nD Cert.ResLastIdeal.τ).loc Cert.ResLastIdeal.main_arg2) = m ((c.tc : Thread Cert.ResLastIdeal.nD Cert.ResLastIdeal.τ).loc Cert.ResLastIdeal.main_arg2))
      ∧ θ_run (Cert.ResLastRefIdeal.defs (F := Ideal)) (onTc (τ := Cert.ResLastRefIdeal.τ) (Cert.ResLastRefIdeal.main (F := Ideal))) ⟨m', fun _ => 0, g'⟩ (fun r => ∀ c : Dev Cert.ResLastRefIdeal.nD,
          r.2.mem ((c.tc : Thread Cert.ResLastRefIdeal.nD Cert.ResLastRefIdeal.τ).loc Cert.ResLastRefIdeal.main_v15) = v0 c
          ∧ r.2.mem ((c.tc : Thread Cert.ResLastRefIdeal.nD Cert.ResLastRefIdeal.τ).loc Cert.ResLastRefIdeal.main_arg0) = m' ((c.tc : Thread Cert.ResLastRefIdeal.nD Cert.ResLastRefIdeal.τ).loc Cert.ResLastRefIdeal.main_arg0)
          ∧ r.2.mem ((c.tc : Thread Cert.ResLastRefIdeal.nD Cert.ResLastRefIdeal.τ).loc Cert.ResLastRefIdeal.main_arg1) = m' ((c.tc : Thread Cert.ResLastRefIdeal.nD Cert.ResLastRefIdeal.τ).loc Cert.ResLastRefIdeal.main_arg1)
          ∧ r.2.mem ((c.tc : Thread Cert.ResLastRefIdeal.nD Cert.ResLastRefIdeal.τ).loc Cert.ResLastRefIdeal.main_arg2) = m' ((c.tc : Thread Cert.ResLastRefIdeal.nD Cert.ResLastRefIdeal.τ).loc Cert.ResLastRefIdeal.main_arg2))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v15) = v0 c
          ∧ r.2.mem ((c.tc : Thread Cert.ResNormRefIdeal.nD Cert.ResNormRefIdeal.τ).loc Cert.ResNormRefIdeal.main_v31) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v16_0)) (v1 : (c : Dev Cert.RopeIdeal.nD) → Buf (Elt Ideal) ((c.tc : Thread Cert.RopeIdeal.nD Cert.RopeIdeal.τ).loc Cert.RopeIdeal.main_v16_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v16_0) = v0 c
          ∧ r.2.mem ((c.tc : Thread Cert.RopeIdeal.nD Cert.RopeIdeal.τ).loc Cert.RopeIdeal.main_v16_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v17) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hAttn2 : Cert.Attn2.Facts) (hAttn2Ideal : Cert.Attn2Ideal.Facts) (hAttn2RefIdeal : Cert.Attn2RefIdeal.Facts) (hFfnOut : Cert.FfnOut.Facts) (hFfnOutIdeal : Cert.FfnOutIdeal.Facts) (hFfnOutRefIdeal : Cert.FfnOutRefIdeal.Facts) (hOutProj : Cert.OutProj.Facts) (hOutProjIdeal : Cert.OutProjIdeal.Facts) (hOutProjRefIdeal : Cert.OutProjRefIdeal.Facts) (hFfnIn : Cert.FfnIn.Facts) (hFfnInIdeal : Cert.FfnInIdeal.Facts) (hFfnInRefIdeal : Cert.FfnInRefIdeal.Facts) (hAttnIn : Cert.AttnIn.Facts) (hAttnInIdeal : Cert.AttnInIdeal.Facts) (hAttnInRefIdeal : Cert.AttnInRefIdeal.Facts) (hConvIn : Cert.ConvIn.Facts) (hConvInIdeal : Cert.ConvInIdeal.Facts) (hConvInRefIdeal : Cert.ConvInRefIdeal.Facts) (hOutProjAttn : Cert.OutProjAttn.Facts) (hOutProjAttnIdeal : Cert.OutProjAttnIdeal.Facts) (hOutProjAttnRefIdeal : Cert.OutProjAttnRefIdeal.Facts) (hMemConv : Cert.MemConv.Facts) (hMemConvIdeal : Cert.MemConvIdeal.Facts) (hMemConvRefIdeal : Cert.MemConvRefIdeal.Facts) (hMemAttn : Cert.MemAttn.Facts) (hMemAttnIdeal : Cert.MemAttnIdeal.Facts) (hMemAttnRefIdeal : Cert.MemAttnRefIdeal.Facts) (hAttn1 : Cert.Attn1.Facts) (hAttn1Ideal : Cert.Attn1Ideal.Facts) (hAttn1RefIdeal : Cert.Attn1RefIdeal.Facts) (hAttn0 : Cert.Attn0.Facts) (hAttn0Ideal : Cert.Attn0Ideal.Facts) (hAttn0RefIdeal : Cert.Attn0RefIdeal.Facts) (hNorm : Cert.Norm.Facts) (hNormIdeal : Cert.NormIdeal.Facts) (hNormRefIdeal : Cert.NormRefIdeal.Facts) (hResLast : Cert.ResLast.Facts) (hResLastIdeal : Cert.ResLastIdeal.Facts) (hResLastRefIdeal : Cert.ResLastRefIdeal.Facts) (hResNorm : Cert.ResNorm.Facts) (hResNormIdeal : Cert.ResNormIdeal.Facts) (hResNormRefIdeal : Cert.ResNormRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hRope : Cert.Rope.Facts) (hRopeIdeal : Cert.RopeIdeal.Facts) (hRopeRefIdeal : Cert.RopeRefIdeal.Facts) (hPre_finite_qk : Cert.Pre_finite_qk.Facts) (hPre_finite_qk_g1 : Cert.Pre_finite_qk_g1.Facts) (hPre_finite_qk_g0 : Cert.Pre_finite_qk_g0.Facts),
    quiescent_Attn2 (hAttn2 := hAttn2)
    ∧ quiescent_Attn2Ideal (hAttn2Ideal := hAttn2Ideal)
    ∧ quiescent_Attn2Ideal_pre_finite_qk (hAttn2Ideal := hAttn2Ideal) (hPre_finite_qk := hPre_finite_qk)
    ∧ quiescent_Attn2RefIdeal (hAttn2RefIdeal := hAttn2RefIdeal)
    ∧ quiescent_Attn2RefIdeal_pre_finite_qk (hAttn2RefIdeal := hAttn2RefIdeal) (hPre_finite_qk := hPre_finite_qk)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_OutProjAttn (hOutProjAttn := hOutProjAttn)
    ∧ quiescent_OutProjAttnIdeal (hOutProjAttnIdeal := hOutProjAttnIdeal)
    ∧ quiescent_OutProjAttnRefIdeal (hOutProjAttnRefIdeal := hOutProjAttnRefIdeal)
    ∧ quiescent_MemConv (hMemConv := hMemConv)
    ∧ quiescent_MemConvIdeal (hMemConvIdeal := hMemConvIdeal)
    ∧ quiescent_MemConvRefIdeal (hMemConvRefIdeal := hMemConvRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Attn1 (hAttn1 := hAttn1)
    ∧ quiescent_Attn1Ideal (hAttn1Ideal := hAttn1Ideal)
    ∧ quiescent_Attn1Ideal_pre_finite_qk_g1 (hAttn1Ideal := hAttn1Ideal) (hPre_finite_qk_g1 := hPre_finite_qk_g1)
    ∧ quiescent_Attn1RefIdeal (hAttn1RefIdeal := hAttn1RefIdeal)
    ∧ quiescent_Attn1RefIdeal_pre_finite_qk_g1 (hAttn1RefIdeal := hAttn1RefIdeal) (hPre_finite_qk_g1 := hPre_finite_qk_g1)
    ∧ quiescent_Attn0 (hAttn0 := hAttn0)
    ∧ quiescent_Attn0Ideal (hAttn0Ideal := hAttn0Ideal)
    ∧ quiescent_Attn0Ideal_pre_finite_qk_g0 (hAttn0Ideal := hAttn0Ideal) (hPre_finite_qk_g0 := hPre_finite_qk_g0)
    ∧ quiescent_Attn0RefIdeal (hAttn0RefIdeal := hAttn0RefIdeal)
    ∧ quiescent_Attn0RefIdeal_pre_finite_qk_g0 (hAttn0RefIdeal := hAttn0RefIdeal) (hPre_finite_qk_g0 := hPre_finite_qk_g0)
    ∧ quiescent_Norm (hNorm := hNorm)
    ∧ quiescent_NormIdeal (hNormIdeal := hNormIdeal)
    ∧ quiescent_NormRefIdeal (hNormRefIdeal := hNormRefIdeal)
    ∧ quiescent_ResLast (hResLast := hResLast)
    ∧ quiescent_ResLastIdeal (hResLastIdeal := hResLastIdeal)
    ∧ quiescent_ResLastRefIdeal (hResLastRefIdeal := hResLastRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Rope (hRope := hRope)
    ∧ quiescent_RopeIdeal (hRopeIdeal := hRopeIdeal)
    ∧ quiescent_RopeRefIdeal (hRopeRefIdeal := hRopeRefIdeal)
    ∧ preserves_Attn2_Attn2Ideal
    ∧ algebraic_Attn2Ideal_Attn2RefIdeal_pre_finite_qk (hAttn2Ideal := hAttn2Ideal) (hAttn2RefIdeal := hAttn2RefIdeal) (hPre_finite_qk := hPre_finite_qk)
    ∧ preserves_FfnOut_FfnOutIdeal
    ∧ algebraic_FfnOutIdeal_FfnOutRefIdeal (hFfnOutIdeal := hFfnOutIdeal) (hFfnOutRefIdeal := hFfnOutRefIdeal)
    ∧ preserves_OutProj_OutProjIdeal
    ∧ algebraic_OutProjIdeal_OutProjRefIdeal (hOutProjIdeal := hOutProjIdeal) (hOutProjRefIdeal := hOutProjRefIdeal)
    ∧ preserves_FfnIn_FfnInIdeal
    ∧ algebraic_FfnInIdeal_FfnInRefIdeal (hFfnInIdeal := hFfnInIdeal) (hFfnInRefIdeal := hFfnInRefIdeal)
    ∧ preserves_AttnIn_AttnInIdeal
    ∧ algebraic_AttnInIdeal_AttnInRefIdeal (hAttnInIdeal := hAttnInIdeal) (hAttnInRefIdeal := hAttnInRefIdeal)
    ∧ preserves_ConvIn_ConvInIdeal
    ∧ algebraic_ConvInIdeal_ConvInRefIdeal (hConvInIdeal := hConvInIdeal) (hConvInRefIdeal := hConvInRefIdeal)
    ∧ preserves_OutProjAttn_OutProjAttnIdeal
    ∧ algebraic_OutProjAttnIdeal_OutProjAttnRefIdeal (hOutProjAttnIdeal := hOutProjAttnIdeal) (hOutProjAttnRefIdeal := hOutProjAttnRefIdeal)
    ∧ preserves_MemConv_MemConvIdeal
    ∧ algebraic_MemConvIdeal_MemConvRefIdeal (hMemConvIdeal := hMemConvIdeal) (hMemConvRefIdeal := hMemConvRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Attn1_Attn1Ideal
    ∧ algebraic_Attn1Ideal_Attn1RefIdeal_pre_finite_qk_g1 (hAttn1Ideal := hAttn1Ideal) (hAttn1RefIdeal := hAttn1RefIdeal) (hPre_finite_qk_g1 := hPre_finite_qk_g1)
    ∧ preserves_Attn0_Attn0Ideal
    ∧ algebraic_Attn0Ideal_Attn0RefIdeal_pre_finite_qk_g0 (hAttn0Ideal := hAttn0Ideal) (hAttn0RefIdeal := hAttn0RefIdeal) (hPre_finite_qk_g0 := hPre_finite_qk_g0)
    ∧ preserves_Norm_NormIdeal
    ∧ algebraic_NormIdeal_NormRefIdeal (hNormIdeal := hNormIdeal) (hNormRefIdeal := hNormRefIdeal)
    ∧ preserves_ResLast_ResLastIdeal
    ∧ algebraic_ResLastIdeal_ResLastRefIdeal (hResLastIdeal := hResLastIdeal) (hResLastRefIdeal := hResLastRefIdeal)
    ∧ preserves_ResNorm_ResNormIdeal
    ∧ algebraic_ResNormIdeal_ResNormRefIdeal (hResNormIdeal := hResNormIdeal) (hResNormRefIdeal := hResNormRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Rope_RopeIdeal
    ∧ algebraic_RopeIdeal_RopeRefIdeal (hRopeIdeal := hRopeIdeal) (hRopeRefIdeal := hRopeRefIdeal)
-- ==== Pre_finite_qk.lean ====
abbrev S8192x18432 : Shape := ⟨2, ![8192, 18432]⟩
abbrev S8192x4096 : Shape := ⟨2, ![8192, 4096]⟩
abbrev S_ : Shape := ⟨0, ![]⟩

class Facts : Prop where
  slices_S8192x18432_S8192x4096_0_12288 : S8192x18432.Slices ![0, 12288] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x18432 .bf16) : IVec S_ 1 :=
  let main_v0 : FVec F S8192x4096 .bf16 := (extractStridedSlice S8192x4096 ![0, 12288] · slices_S8192x18432_S8192x4096_0_12288) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Pre_finite_qk_g0.lean ====
abbrev S8192x18432 : Shape := ⟨2, ![8192, 18432]⟩
abbrev S8192x4096 : Shape := ⟨2, ![8192, 4096]⟩
abbrev S_ : Shape := ⟨0, ![]⟩

class Facts : Prop where
  slices_S8192x18432_S8192x4096_0_0 : S8192x18432.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x18432 .bf16) : IVec S_ 1 :=
  let main_v0 : FVec F S8192x4096 .bf16 := (extractStridedSlice S8192x4096 ![0, 0] · slices_S8192x18432_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Pre_finite_qk_g1.lean ====
abbrev S8192x18432 : Shape := ⟨2, ![8192, 18432]⟩
abbrev S8192x4096 : Shape := ⟨2, ![8192, 4096]⟩
abbrev S_ : Shape := ⟨0, ![]⟩

class Facts : Prop where
  slices_S8192x18432_S8192x4096_0_6144 : S8192x18432.Slices ![0, 6144] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x18432 .bf16) : IVec S_ 1 :=
  let main_v0 : FVec F S8192x4096 .bf16 := (extractStridedSlice S8192x4096 ![0, 6144] · slices_S8192x18432_S8192x4096_0_6144) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Attn2.lean ====
abbrev S8192x18432 : Shape := ⟨2, ![8192, 18432]⟩
abbrev S512x294912 : Shape := ⟨2, ![512, 294912]⟩
abbrev S512x32768 : Shape := ⟨2, ![512, 32768]⟩
abbrev S512x2048 : Shape := ⟨2, ![512, 2048]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x18432, .bf16⟩
  | .hbm, ⟨1, _⟩ => ⟨S512x294912, .bf16⟩
  | .hbm, ⟨2, _⟩ => ⟨S512x32768, .f32⟩
  | .hbm, ⟨3, _⟩ => ⟨S512x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x2048, .bf16⟩
  | .local _ .vmem, ⟨11, _⟩ => ⟨S128x2048, .bf16⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn2RefIdeal.lean ====
abbrev S8192x18432 : Shape := ⟨2, ![8192, 18432]⟩
abbrev S8192x3x3x16x128 : Shape := ⟨5, ![8192, 3, 3, 16, 128]⟩
abbrev S8192x1x1x16x128 : Shape := ⟨5, ![8192, 1, 1, 16, 128]⟩
abbrev S8192x16x128 : Shape := ⟨3, ![8192, 16, 128]⟩
abbrev S4x128x16x16x128 : Shape := ⟨5, ![4, 128, 16, 16, 128]⟩
abbrev S_ : Shape := ⟨0, ![]⟩
abbrev S5x128x16x16x128 : Shape := ⟨5, ![5, 128, 16, 16, 128]⟩
abbrev S4x256x16x16x128 : Shape := ⟨5, ![4, 256, 16, 16, 128]⟩
abbrev S4x16x16x128x256 : Shape := ⟨5, ![4, 16, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S4x1x1x128x256 : Shape := ⟨5, ![4, 1, 1, 128, 256]⟩
abbrev S4x16x16x128 : Shape := ⟨4, ![4, 16, 16, 128]⟩
abbrev S4x16x16x128x1 : Shape := ⟨5, ![4, 16, 16, 128, 1]⟩
abbrev S4x16x16x128x128 : Shape := ⟨5, ![4, 16, 16, 128, 128]⟩
abbrev S4x128x16x16 : Shape := ⟨4, ![4, 128, 16, 16]⟩
abbrev S8192x16 : Shape := ⟨2, ![8192, 16]⟩
abbrev S512x32768 : Shape := ⟨2, ![512, 32768]⟩
abbrev S8192x128 : Shape := ⟨2, ![8192, 128]⟩
abbrev S512x2048 : Shape := ⟨2, ![512, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S8192x18432, .f32⟩
  | .hbm, ⟨2, _⟩ => ⟨S8192x3x3x16x128, .f32⟩
  | .hbm, ⟨3, _⟩ => ⟨S8192x1x1x16x128, .f32⟩
  | .hbm, ⟨4, _⟩ => ⟨S8192x16x128, .f32⟩
  | .hbm, ⟨5, _⟩ => ⟨S8192x1x1x16x128, .f32⟩
  | .hbm, ⟨6, _⟩ => ⟨S8192x16x128, .f32⟩
  | .hbm, ⟨7, _⟩ => ⟨S8192x1x1x16x128, .f32⟩
  | .hbm, ⟨8, _⟩ => ⟨S8192x16x128, .f32⟩
  | .hbm, ⟨9, _⟩ => ⟨S4x128x16x16x128, .f32⟩
  | .hbm, ⟨10, _⟩ => ⟨S4x128x16x16x128, .f32⟩
  | .hbm, ⟨11, _⟩ => ⟨S_, .i32⟩
  | .hbm, ⟨12, _⟩ => ⟨S_, .f32⟩
  | .hbm, ⟨13, _⟩ => ⟨S5x128x16x16x128, .f32⟩
  | .hbm, ⟨14, _⟩ => ⟨S4x128x16x16x128, .f32⟩
  | .hbm, ⟨15, _⟩ => ⟨S4x256x16x16x128, .f32⟩
  | .hbm, ⟨16, _⟩ => ⟨S4x128x16x16x128, .f32⟩
  | .hbm, ⟨17, _⟩ => ⟨S_, .i32⟩
  | .hbm, ⟨18, _⟩ => ⟨S_, .f32⟩
  | .hbm, ⟨19, _⟩ => ⟨S5x128x16x16x128, .f32⟩
  | .hbm, ⟨20, _⟩ => ⟨S4x128x16x16x128, .f32⟩
  | .hbm, ⟨21, _⟩ => ⟨S4x256x16x16x128, .f32⟩
  | .hbm, ⟨22, _⟩ => ⟨S4x16x16x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S4, .i32⟩
  | .hbm, ⟨34, _⟩ => ⟨S4x1x1, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S_, .i32⟩
  | .hbm, ⟨43, _⟩ => ⟨S4x1x1, .i32⟩
  | .hbm, ⟨44, _⟩ => ⟨S4x1x1, .i1⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x1x256, .i1⟩
  | .hbm, ⟨49, _⟩ => ⟨S4x1x256, .i1⟩
  | .hbm, ⟨50, _⟩ => ⟨S4x1x256, .i1⟩
  | .hbm, ⟨51, _⟩ => ⟨S4x1x256, .i1⟩
  | .hbm, ⟨52, _⟩ => ⟨S1x128x256, .i1⟩
  | .hbm, ⟨53, _⟩ => ⟨S4x128x256, .i1⟩
  | .hbm, ⟨54, _⟩ => ⟨S4x128x256, .i1⟩
  | .hbm, ⟨55, _⟩ => ⟨S4x128x256, .i1⟩
  | .hbm, ⟨56, _⟩ => ⟨S4x1x1x128x256, .i1⟩
  | .hbm, ⟨57, _⟩ => ⟨S_, .f32⟩
  | .hbm, ⟨58, _⟩ => ⟨S_, .f32⟩
  | .hbm, ⟨59, _⟩ => ⟨S4x16x16x128x256, .i1⟩
  | .hbm, ⟨60, _⟩ => ⟨S4x16x16x128x256, .f32⟩
  | .hbm, ⟨61, _⟩ => ⟨S4x16x16x128x256, .f32⟩
  | .hbm, ⟨62, _⟩ => ⟨S_, .f32⟩
  | .hbm, ⟨63, _⟩ => ⟨S4x16x16x128, .f32⟩
  | .hbm, ⟨64, _⟩ => ⟨S4x16x16x128x1, .f32⟩
  | .hbm, ⟨65, _⟩ => ⟨S4x16x16x128x256, .f32⟩
  | .hbm, ⟨66, _⟩ => ⟨S4x16x16x128x256, .f32⟩
  | .hbm, ⟨67, _⟩ => ⟨S4x16x16x128x256, .f32⟩
  | .hbm, ⟨68, _⟩ => ⟨S_, .f32⟩
  | .hbm, ⟨69, _⟩ => ⟨S4x16x16x128, .f32⟩
  | .hbm, ⟨70, _⟩ => ⟨S4x16x16x128x1, .f32⟩
  | .hbm, ⟨71, _⟩ => ⟨S4x16x16x128x256, .f32⟩
  | .hbm, ⟨72, _⟩ => ⟨S4x16x16x128x256, .f32⟩
  | .hbm, ⟨73, _⟩ => ⟨S4x16x16x128x128, .f32⟩
  | .hbm, ⟨74, _⟩ => ⟨S4x128x16x16x128, .f32⟩
  | .hbm, ⟨75, _⟩ => ⟨S4x16x16x128x1, .f32⟩
  | .hbm, ⟨76, _⟩ => ⟨S4x16x16x128x1, .f32⟩
  | .hbm, ⟨77, _⟩ => ⟨S4x16x16x128, .f32⟩
  | .hbm, ⟨78, _⟩ => ⟨S8192x16x128, .f32⟩
  | .hbm, ⟨79, _⟩ => ⟨S4x128x16x16, .f32⟩
  | .hbm, ⟨80, _⟩ => ⟨S8192x16, .f32⟩
  | .hbm, ⟨81, _⟩ => ⟨S512x32768, .f32⟩
  | .hbm, ⟨82, _⟩ => ⟨S_, .i32⟩
  | .hbm, ⟨83, _⟩ => ⟨S_, .f32⟩
  | .hbm, ⟨84, _⟩ => ⟨S8192x128, .f32⟩
  | .hbm, ⟨85, _⟩ => ⟨S512x2048, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_call3_v0 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== FfnOut.lean ====
abbrev S8192x11008 : Shape := ⟨2, ![8192, 11008]⟩
abbrev S2x11008x4096 : Shape := ⟨3, ![2, 11008, 4096]⟩
abbrev S8192x4096 : Shape := ⟨2, ![8192, 4096]⟩
abbrev S1024x256 : Shape := ⟨2, ![1024, 256]⟩
abbrev S1x256x4096 : Shape := ⟨3, ![1, 256, 4096]⟩
abbrev S1024x4096 : Shape := ⟨2, ![1024, 4096]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .local _ .vmem, ⟨0, _⟩ => ⟨S1024x256, .bf16⟩
  | .local _ .vmem, ⟨1, _⟩ => ⟨S1024x256, .bf16⟩
  | .local _ .vmem, ⟨2, _⟩ => ⟨S1x256x4096, .f32⟩
  | .local _ .vmem, ⟨3, _⟩ => ⟨S1x256x4096, .f32⟩
  | .local _ .vmem, ⟨4, _⟩ => ⟨S1024x4096, .f32⟩
  | .local _ .vmem, ⟨5, _⟩ => ⟨S1024x4096, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutRefIdeal.lean ====
abbrev S8192x11008 : Shape := ⟨2, ![8192, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8192x3072 : Shape := ⟨2, ![8192, 3072]⟩
abbrev S8192x1024 : Shape := ⟨2, ![8192, 1024]⟩
abbrev S1x4096x4096 : Shape := ⟨3, ![1, 4096, 4096]⟩
abbrev S8192x4096 : Shape := ⟨2, ![8192, 4096]⟩
abbrev S1024x3072 : Shape := ⟨2, ![1024, 3072]⟩
abbrev S1024x1024 : Shape := ⟨2, ![1024, 1024]⟩
abbrev S1x3072x512 : Shape := ⟨3, ![1, 3072, 512]⟩
abbrev S1x1024x512 : Shape := ⟨3, ![1, 1024, 512]⟩
abbrev S1024x512 : Shape := ⟨2, ![1024, 512]⟩
abbrev S3072x512 : Shape := ⟨2, ![3072, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S1x4096x4096, .f32⟩
  | .hbm, ⟨3, _⟩ => ⟨S8192x4096, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1x3072x512, .f32⟩
  | .local _ .vmem, ⟨5, _⟩ => ⟨S1x3072x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x3072 : Shape := ⟨2, ![8192, 3072]⟩
abbrev S8192x1024 : Shape := ⟨2, ![8192, 1024]⟩
abbrev S1x4096x4096 : Shape := ⟨3, ![1, 4096, 4096]⟩
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S1x4096x4096, .f32⟩
  | .hbm, ⟨3, _⟩ => ⟨S8192x4096, .bf16⟩
  | .hbm, ⟨4, _⟩ => ⟨S8192x4096, .f32⟩
  | .hbm, ⟨5, _⟩ => ⟨S4096x4096, .f32⟩
  | .hbm, ⟨6, _⟩ => ⟨S8192x4096, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnIn.lean ====
abbrev S8192x4096 : Shape := ⟨2, ![8192, 4096]⟩
abbrev S2x4096x11008 : Shape := ⟨3, ![2, 4096, 11008]⟩
abbrev S2x3x11008 : Shape := ⟨3, ![2, 3, 11008]⟩
abbrev S8192x11008 : Shape := ⟨2, ![8192, 11008]⟩
abbrev S1024x4096 : Shape := ⟨2, ![1024, 4096]⟩
abbrev S1x4096x256 : Shape := ⟨3, ![1, 4096, 256]⟩
abbrev S1x3x256 : Shape := ⟨3, ![1, 3, 256]⟩
abbrev S1024x256 : Shape := ⟨2, ![1024, 256]⟩
abbrev S1032x256 : Shape := ⟨2, ![1032, 256]⟩
abbrev S43x8x256 : Shape := ⟨3, ![43, 8, 256]⟩
abbrev S4096x256 : Shape := ⟨2, ![4096, 256]⟩
abbrev S1x8x256 : Shape := ⟨3, ![1, 8, 256]⟩
abbrev S8x256 : Shape := ⟨2, ![8, 256]⟩
abbrev S1x1x256 : Shape := ⟨3, ![1, 1, 256]⟩
abbrev S1x256 : Shape := ⟨2, ![1, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S2x3x11008, .f32⟩
  | .hbm, ⟨4, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1024x256, .bf16⟩
  | .local _ .vmem, ⟨9, _⟩ => ⟨S1024x256, .bf16⟩
  | .local _ .vmem, ⟨10, _⟩ => ⟨S1032x256, .f32⟩
  | .local _ .vmem, ⟨11, _⟩ => ⟨S43x8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def k0_off1 (i : grid0.Coords) : Fin 3 → Nat :=
  let arg1 : BitVec 32 := BitVec.ofNat 32 (i 1).val
  let v9 : Index := Scalar.indexCast arg1
  let c0_8 : Index := 0#32
  let c0_9 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S8192x4096 : Shape := ⟨2, ![8192, 4096]⟩
abbrev S2x4096x11008 : Shape := ⟨3, ![2, 4096, 11008]⟩
abbrev S2x3x11008 : Shape := ⟨3, ![2, 3, 11008]⟩
abbrev S1x4096x11008 : Shape := ⟨3, ![1, 4096, 11008]⟩
abbrev S4096x11008 : Shape := ⟨2, ![4096, 11008]⟩
abbrev S8192x11008 : Shape := ⟨2, ![8192, 11008]⟩
abbrev S1x3x11008 : Shape := ⟨3, ![1, 3, 11008]⟩
abbrev S3x11008 : Shape := ⟨2, ![3, 11008]⟩
abbrev S_ : Shape := ⟨0, ![]⟩
abbrev S8194x11008 : Shape := ⟨2, ![8194, 11008]⟩
abbrev S1x11008 : Shape := ⟨2, ![1, 11008]⟩
abbrev S11008 : Shape := ⟨1, ![11008]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S2x3x11008, .f32⟩
  | .hbm, ⟨4, _⟩ => ⟨S8192x4096, .f32⟩
  | .hbm, ⟨5, _⟩ => ⟨S1x4096x11008, .f32⟩
  | .hbm, ⟨6, _⟩ => ⟨S4096x11008, .f32⟩
  | .hbm, ⟨7, _⟩ => ⟨S8192x11008, .f32⟩
  | .hbm, ⟨8, _⟩ => ⟨S1x3x11008, .f32⟩
  | .hbm, ⟨9, _⟩ => ⟨S3x11008, .f32⟩
  | .hbm, ⟨10, _⟩ => ⟨S_, .i32⟩
  | .hbm, ⟨11, _⟩ => ⟨S_, .f32⟩
  | .hbm, ⟨12, _⟩ => ⟨S8194x11008, .f32⟩
  | .hbm, ⟨13, _⟩ => ⟨S1x11008, .f32⟩
  | .hbm, ⟨14, _⟩ => ⟨S11008, .f32⟩
  | .hbm, ⟨15, _⟩ => ⟨S8192x11008, .f32⟩
  | .hbm, ⟨16, _⟩ => ⟨S1x11008, .f32⟩
  | .hbm, ⟨17, _⟩ => ⟨S8192x11008, .f32⟩
  | .hbm, ⟨18, _⟩ => ⟨S8192x11008, .f32⟩
  | .hbm, ⟨19, _⟩ => ⟨S1x11008, .f32⟩
  | .hbm, ⟨20, _⟩ => ⟨S11008, .f32⟩
  | .hbm, ⟨21, _⟩ => ⟨S8192x11008, .f32⟩
  | .hbm, ⟨22, _⟩ => ⟨S1x11008, .f32⟩
  | .hbm, ⟨23, _⟩ => ⟨S8192x11008, .f32⟩
  | .hbm, ⟨24, _⟩ => ⟨S8192x11008, .f32⟩
  | .hbm, ⟨25, _⟩ => ⟨S8192x11008, .f32⟩
  | .hbm, ⟨26, _⟩ => ⟨S1x11008, .f32⟩
  | .hbm, ⟨27, _⟩ => ⟨S11008, .f32⟩
  | .hbm, ⟨28, _⟩ => ⟨S8192x11008, .f32⟩
  | .hbm, ⟨29, _⟩ => ⟨S1x11008, .f32⟩
  | .hbm, ⟨30, _⟩ => ⟨S8192x11008, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S_, .f32⟩
  | .hbm, ⟨36, _⟩ => ⟨S8192x11008, .f32⟩
  | .hbm, ⟨37, _⟩ => ⟨S8192x11008, .f32⟩
  | .hbm, ⟨38, _⟩ => ⟨S_, .f32⟩
  | .hbm, ⟨39, _⟩ => ⟨S8192x11008, .f32⟩
  | .hbm, ⟨40, _⟩ => ⟨S8192x11008, .f32⟩
  | .hbm, ⟨41, _⟩ => ⟨S8192x11008, .f32⟩
  | .hbm, ⟨42, _⟩ => ⟨S1x4096x11008, .f32⟩
  | .hbm, ⟨43, _⟩ => ⟨S4096x11008, .f32⟩
  | .hbm, ⟨44, _⟩ => ⟨S8192x11008, .f32⟩
  | .hbm, ⟨45, _⟩ => ⟨S8192x11008, .f32⟩
  | .hbm, ⟨46, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== AttnIn.lean ====
abbrev S8192x4096 : Shape := ⟨2, ![8192, 4096]⟩
abbrev S1x4096x19456 : Shape := ⟨3, ![1, 4096, 19456]⟩
abbrev S8192x128 : Shape := ⟨2, ![8192, 128]⟩
abbrev S8192x18432 : Shape := ⟨2, ![8192, 18432]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x19456, .f32⟩
  | .hbm, ⟨2, _⟩ => ⟨S8192x128, .f32⟩
  | .hbm, ⟨3, _⟩ => ⟨S8192x128, .f32⟩
  | .hbm, ⟨4, _⟩ => ⟨S8192x18432, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 36], ![false, false]⟩

def k0_cond1 (i : grid0.Coords) : BitVec 1 :=
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_4 : BitVec 32 := 0#32
  let v8 : BitVec 1 := Scalar.cmpi .slt arg1 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi arg1 c4_i32
  let c0_i32_7 : BitVec 32 := 0#32
  let v18 : BitVec 1 := Scalar.cmpi .ne v17 c0_i32_7
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c3_i32 : BitVec 32 := 3#32
  let c0_i32_8 : BitVec 32 := 0#32
  let v22 : BitVec 1 := Scalar.cmpi .eq c3_i32 c0_i32_8
  let c1_i32_9 : BitVec 32 := 1#32
  let v23 : BitVec 32 := Scalar.select v22 c1_i32_9 c3_i32
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c2_i32 : BitVec 32 := 2#32
  let v32 : BitVec 1 := Scalar.cmpi .eq v31 c2_i32
  let v33 : BitVec 32 := Scalar.extui v32
  let c0_i32_13 : BitVec 32 := 0#32
  let v34 : BitVec 1 := Scalar.cmpi .ne v33 c0_i32_13
  v34

def k0_cond2 (i : grid0.Coords) : BitVec 1 :=
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_4 : BitVec 32 := 0#32
  let v8 : BitVec 1 := Scalar.cmpi .slt arg1 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi arg1 c4_i32
  let c0_i32_7 : BitVec 32 := 0#32
  let v18 : BitVec 1 := Scalar.cmpi .ne v17 c0_i32_7
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c3_i32 : BitVec 32 := 3#32
  let c0_i32_8 : BitVec 32 := 0#32
  let v22 : BitVec 1 := Scalar.cmpi .eq c3_i32 c0_i32_8
  let c1_i32_9 : BitVec 32 := 1#32
  let v23 : BitVec 32 := Scalar.select v22 c1_i32_9 c3_i32
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c2_i32_14 : BitVec 32 := 2#32
  let v35 : BitVec 1 := Scalar.cmpi .ne v31 c2_i32_14
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnInRefIdeal.lean ====
abbrev S8192x4096 : Shape := ⟨2, ![8192, 4096]⟩
abbrev S1x4096x19456 : Shape := ⟨3, ![1, 4096, 19456]⟩
abbrev S8192x128 : Shape := ⟨2, ![8192, 128]⟩
abbrev S4096x19456 : Shape := ⟨2, ![4096, 19456]⟩
abbrev S8192x19456 : Shape := ⟨2, ![8192, 19456]⟩
abbrev S8192x18432 : Shape := ⟨2, ![8192, 18432]⟩
abbrev S8192x3x3x16x128 : Shape := ⟨5, ![8192, 3, 3, 16, 128]⟩
abbrev S8192x3x1x16x128 : Shape := ⟨5, ![8192, 3, 1, 16, 128]⟩
abbrev S8192x3x16x128 : Shape := ⟨4, ![8192, 3, 16, 128]⟩
abbrev S8192x3x16x64 : Shape := ⟨4, ![8192, 3, 16, 64]⟩
abbrev S8192x1x1x128 : Shape := ⟨4, ![8192, 1, 1, 128]⟩
abbrev S8192x1x1x64 : Shape := ⟨4, ![8192, 1, 1, 64]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x19456, .f32⟩
  | .hbm, ⟨2, _⟩ => ⟨S8192x128, .f32⟩
  | .hbm, ⟨3, _⟩ => ⟨S8192x128, .f32⟩
  | .hbm, ⟨4, _⟩ => ⟨S8192x4096, .f32⟩
  | .hbm, ⟨5, _⟩ => ⟨S4096x19456, .f32⟩
  | .hbm, ⟨6, _⟩ => ⟨S8192x19456, .f32⟩
  | .hbm, ⟨7, _⟩ => ⟨S8192x18432, .f32⟩
  | .hbm, ⟨8, _⟩ => ⟨S8192x3x3x16x128, .f32⟩
  | .hbm, ⟨9, _⟩ => ⟨S8192x3x1x16x128, .f32⟩
  | .hbm, ⟨10, _⟩ => ⟨S8192x3x16x128, .f32⟩
  | .hbm, ⟨11, _⟩ => ⟨S8192x3x16x64, .f32⟩
  | .hbm, ⟨12, _⟩ => ⟨S8192x3x16x64, .f32⟩
  | .hbm, ⟨13, _⟩ => ⟨S8192x1x1x128, .f32⟩
  | .hbm, ⟨14, _⟩ => ⟨S8192x1x1x64, .f32⟩
  | .hbm, ⟨15, _⟩ => ⟨S8192x1x1x64, .f32⟩
  | .hbm, ⟨16, _⟩ => ⟨S8192x1x1x128, .f32⟩
  | .hbm, ⟨17, _⟩ => ⟨S8192x1x1x64, .f32⟩
  | .hbm, ⟨18, _⟩ => ⟨S8192x1x1x64, .f32⟩
  | .hbm, ⟨19, _⟩ => ⟨S8192x3x16x64, .f32⟩
  | .hbm, ⟨20, _⟩ => ⟨S8192x3x16x64, .f32⟩
  | .hbm, ⟨21, _⟩ => ⟨S8192x3x16x64, .f32⟩
  | .hbm, ⟨22, _⟩ => ⟨S8192x3x16x64, .f32⟩
  | .hbm, ⟨23, _⟩ => ⟨S8192x3x16x64, .f32⟩
  | .hbm, ⟨24, _⟩ => ⟨S8192x3x16x64, .f32⟩
  | .hbm, ⟨25, _⟩ => ⟨S8192x3x16x64, .f32⟩
  | .hbm, ⟨26, _⟩ => ⟨S8192x3x16x64, .f32⟩
  | .hbm, ⟨27, _⟩ => ⟨S8192x3x16x64, .f32⟩
  | .hbm, ⟨28, _⟩ => ⟨S8192x3x16x64, .f32⟩
  | .hbm, ⟨29, _⟩ => ⟨S8192x3x16x128, .f32⟩
  | .hbm, ⟨30, _⟩ => ⟨S_, .f32⟩
  | .hbm, ⟨31, _⟩ => ⟨S8192x3x16x128, .f32⟩
  | .hbm, ⟨32, _⟩ => ⟨S8192x3x16x128, .f32⟩
  | .hbm, ⟨33, _⟩ => ⟨S8192x3x1x16x128, .f32⟩
  | .hbm, ⟨34, _⟩ => ⟨S8192x3x16x128, .f32⟩
  | .hbm, ⟨35, _⟩ => ⟨S8192x3x16x64, .f32⟩
  | .hbm, ⟨36, _⟩ => ⟨S8192x3x16x64, .f32⟩
  | .hbm, ⟨37, _⟩ => ⟨S8192x1x1x128, .f32⟩
  | .hbm, ⟨38, _⟩ => ⟨S8192x1x1x64, .f32⟩
  | .hbm, ⟨39, _⟩ => ⟨S8192x1x1x64, .f32⟩
  | .hbm, ⟨40, _⟩ => ⟨S8192x1x1x128, .f32⟩
  | .hbm, ⟨41, _⟩ => ⟨S8192x1x1x64, .f32⟩
  | .hbm, ⟨42, _⟩ => ⟨S8192x1x1x64, .f32⟩
  | .hbm, ⟨43, _⟩ => ⟨S8192x3x16x64, .f32⟩
  | .hbm, ⟨44, _⟩ => ⟨S8192x3x16x64, .f32⟩
  | .hbm, ⟨45, _⟩ => ⟨S8192x3x16x64, .f32⟩
  | .hbm, ⟨46, _⟩ => ⟨S8192x3x16x64, .f32⟩
  | .hbm, ⟨47, _⟩ => ⟨S8192x3x16x64, .f32⟩
  | .hbm, ⟨48, _⟩ => ⟨S8192x3x16x64, .f32⟩
  | .hbm, ⟨49, _⟩ => ⟨S8192x3x16x64, .f32⟩
  | .hbm, ⟨50, _⟩ => ⟨S8192x3x16x64, .f32⟩
  | .hbm, ⟨51, _⟩ => ⟨S8192x3x16x64, .f32⟩
  | .hbm, ⟨52, _⟩ => ⟨S8192x3x16x64, .f32⟩
  | .hbm, ⟨53, _⟩ => ⟨S8192x3x16x128, .f32⟩
  | .hbm, ⟨54, _⟩ => ⟨S8192x3x1x16x128, .f32⟩
  | .hbm, ⟨55, _⟩ => ⟨S8192x3x16x128, .f32⟩
  | .hbm, ⟨56, _⟩ => ⟨S8192x3x1x16x128, .f32⟩
  | .hbm, ⟨57, _⟩ => ⟨S8192x3x1x16x128, .f32⟩
  | .hbm, ⟨58, _⟩ => ⟨S8192x3x1x16x128, .f32⟩
  | .hbm, ⟨59, _⟩ => ⟨S8192x3x3x16x128, .f32⟩
  | .hbm, ⟨60, _⟩ => ⟨S8192x18432, .f32⟩
  | .hbm, ⟨61, _⟩ => ⟨S8192x18432, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩

abbrev nD : Nat := 1
abbrev τ : Topo := Topo.v7x

variable {F : FTy → Type} [FloatOps F]
-- ==== ConvIn.lean ====
abbrev S8192x4096 : Shape := ⟨2, ![8192, 4096]⟩
abbrev S1x4096x10240 : Shape := ⟨3, ![1, 4096, 10240]⟩
abbrev S1x3x3072 : Shape := ⟨3, ![1, 3, 3072]⟩
abbrev S8192x3072 : Shape := ⟨2, ![8192, 3072]⟩
abbrev S1024x4096 : Shape := ⟨2, ![1024, 4096]⟩
abbrev S1x4096x256 : Shape := ⟨3, ![1, 4096, 256]⟩
abbrev S1x3x256 : Shape := ⟨3, ![1, 3, 256]⟩
abbrev S1024x256 : Shape := ⟨2, ![1024, 256]⟩
abbrev S1032x256 : Shape := ⟨2, ![1032, 256]⟩
abbrev S12x8x256 : Shape := ⟨3, ![12, 8, 256]⟩
abbrev S4096x256 : Shape := ⟨2, ![4096, 256]⟩
abbrev S1x8x256 : Shape := ⟨3, ![1, 8, 256]⟩
abbrev S8x256 : Shape := ⟨2, ![8, 256]⟩
abbrev S1x1x256 : Shape := ⟨3, ![1, 1, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S1x3x3072, .f32⟩
  | .hbm, ⟨3, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S1x3x256, .f32⟩
  | .local _ .vmem, ⟨9, _⟩ => ⟨S1x3x256, .f32⟩
  | .local _ .vmem, ⟨10, _⟩ => ⟨S1024x256, .bf16⟩
  | .local _ .vmem, ⟨11, _⟩ => ⟨S1024x256, .bf16⟩
  | .local _ .vmem, ⟨12, _⟩ => ⟨S1032x256, .f32⟩
  | .local _ .vmem, ⟨13, _⟩ => ⟨S12x8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def k0_off1 (i : grid0.Coords) : Fin 3 → Nat :=
  let arg1 : BitVec 32 := BitVec.ofNat 32 (i 1).val
  let v14 : Index := Scalar.indexCast arg1
  let c0_12 : Index := 0#32
  let c0_13 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvInRefIdeal.lean ====
abbrev S8192x4096 : Shape := ⟨2, ![8192, 4096]⟩
abbrev S1x4096x10240 : Shape := ⟨3, ![1, 4096, 10240]⟩
abbrev S1x3x3072 : Shape := ⟨3, ![1, 3, 3072]⟩
abbrev S4096x10240 : Shape := ⟨2, ![4096, 10240]⟩
abbrev S8192x10240 : Shape := ⟨2, ![8192, 10240]⟩
abbrev S8192x3072 : Shape := ⟨2, ![8192, 3072]⟩
abbrev S3x3072 : Shape := ⟨2, ![3, 3072]⟩
abbrev S_ : Shape := ⟨0, ![]⟩
abbrev S8194x3072 : Shape := ⟨2, ![8194, 3072]⟩
abbrev S1x3072 : Shape := ⟨2, ![1, 3072]⟩
abbrev S3072 : Shape := ⟨1, ![3072]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S1x3x3072, .f32⟩
  | .hbm, ⟨3, _⟩ => ⟨S8192x4096, .f32⟩
  | .hbm, ⟨4, _⟩ => ⟨S4096x10240, .f32⟩
  | .hbm, ⟨5, _⟩ => ⟨S8192x10240, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S3x3072, .f32⟩
  | .hbm, ⟨11, _⟩ => ⟨S_, .i32⟩
  | .hbm, ⟨12, _⟩ => ⟨S_, .f32⟩
  | .hbm, ⟨13, _⟩ => ⟨S8194x3072, .f32⟩
  | .hbm, ⟨14, _⟩ => ⟨S1x3072, .f32⟩
  | .hbm, ⟨15, _⟩ => ⟨S3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S3072, .f32⟩
  | .hbm, ⟨29, _⟩ => ⟨S8192x3072, .f32⟩
  | .hbm, ⟨30, _⟩ => ⟨S1x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== OutProjAttn.lean ====
abbrev S8192x2048 : Shape := ⟨2, ![8192, 2048]⟩
abbrev S8192x1024 : Shape := ⟨2, ![8192, 1024]⟩
abbrev S1x3072x4096 : Shape := ⟨3, ![1, 3072, 4096]⟩
abbrev S8192x4096 : Shape := ⟨2, ![8192, 4096]⟩
abbrev S1024x2048 : Shape := ⟨2, ![1024, 2048]⟩
abbrev S1024x1024 : Shape := ⟨2, ![1024, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1x3072x4096, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x512, .f32⟩
  | .local _ .vmem, ⟨5, _⟩ => ⟨S1x2048x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjAttnRefIdeal.lean ====
abbrev S8192x2048 : Shape := ⟨2, ![8192, 2048]⟩
abbrev S8192x1024 : Shape := ⟨2, ![8192, 1024]⟩
abbrev S1x3072x4096 : Shape := ⟨3, ![1, 3072, 4096]⟩
abbrev S8192x3072 : Shape := ⟨2, ![8192, 3072]⟩
abbrev S3072x4096 : Shape := ⟨2, ![3072, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1x3072x4096, .f32⟩
  | .hbm, ⟨3, _⟩ => ⟨S8192x3072, .bf16⟩
  | .hbm, ⟨4, _⟩ => ⟨S8192x3072, .f32⟩
  | .hbm, ⟨5, _⟩ => ⟨S3072x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemConv.lean ====
abbrev S8192x4096 : Shape := ⟨2, ![8192, 4096]⟩
abbrev S1x4096x10240 : Shape := ⟨3, ![1, 4096, 10240]⟩
abbrev S256x2048 : Shape := ⟨2, ![256, 2048]⟩
abbrev S8192x1024 : Shape := ⟨2, ![8192, 1024]⟩
abbrev S1024x4096 : Shape := ⟨2, ![1024, 4096]⟩
abbrev S1x4096x256 : Shape := ⟨3, ![1, 4096, 256]⟩
abbrev S256x256 : Shape := ⟨2, ![256, 256]⟩
abbrev S1024x256 : Shape := ⟨2, ![1024, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S256x2048, .bf16⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1024x256, .bf16⟩
  | .local _ .vmem, ⟨9, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemConvRefIdeal.lean ====
abbrev S8192x4096 : Shape := ⟨2, ![8192, 4096]⟩
abbrev S1x4096x10240 : Shape := ⟨3, ![1, 4096, 10240]⟩
abbrev S256x2048 : Shape := ⟨2, ![256, 2048]⟩
abbrev S4096x10240 : Shape := ⟨2, ![4096, 10240]⟩
abbrev S8192x10240 : Shape := ⟨2, ![8192, 10240]⟩
abbrev S256x2x4x256 : Shape := ⟨4, ![256, 2, 4, 256]⟩
abbrev S8192x1024 : Shape := ⟨2, ![8192, 1024]⟩
abbrev S256x1x4x256 : Shape := ⟨4, ![256, 1, 4, 256]⟩
abbrev S256x4x256 : Shape := ⟨3, ![256, 4, 256]⟩
abbrev S8192x4x256 : Shape := ⟨3, ![8192, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S256x2048, .bf16⟩
  | .hbm, ⟨3, _⟩ => ⟨S8192x4096, .f32⟩
  | .hbm, ⟨4, _⟩ => ⟨S4096x10240, .f32⟩
  | .hbm, ⟨5, _⟩ => ⟨S8192x10240, .f32⟩
  | .hbm, ⟨6, _⟩ => ⟨S256x2048, .f32⟩
  | .hbm, ⟨7, _⟩ => ⟨S256x2x4x256, .f32⟩
  | .hbm, ⟨8, _⟩ => ⟨S8192x1024, .f32⟩
  | .hbm, ⟨9, _⟩ => ⟨S256x1x4x256, .f32⟩
  | .hbm, ⟨10, _⟩ => ⟨S256x4x256, .f32⟩
  | .hbm, ⟨11, _⟩ => ⟨S256x1x4x256, .f32⟩
  | .hbm, ⟨12, _⟩ => ⟨S256x4x256, .f32⟩
  | .hbm, ⟨13, _⟩ => ⟨S8192x4x256, .f32⟩
  | .hbm, ⟨14, _⟩ => ⟨S4x8192x256, .f32⟩
  | .hbm, ⟨15, _⟩ => ⟨S_, .f32⟩
  | .hbm, ⟨16, _⟩ => ⟨S4x8192x256, .f32⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S4x256x8192, .f32⟩
  | .hbm, ⟨33, _⟩ => ⟨S8192x4x256, .f32⟩
  | .hbm, ⟨34, _⟩ => ⟨S8192x1024, .f32⟩
  | .hbm, ⟨35, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== MemAttn.lean ====
abbrev S8192x4096 : Shape := ⟨2, ![8192, 4096]⟩
abbrev S1x4096x19456 : Shape := ⟨3, ![1, 4096, 19456]⟩
abbrev S256x2048 : Shape := ⟨2, ![256, 2048]⟩
abbrev S8192x1024 : Shape := ⟨2, ![8192, 1024]⟩
abbrev S1024x4096 : Shape := ⟨2, ![1024, 4096]⟩
abbrev S1x4096x256 : Shape := ⟨3, ![1, 4096, 256]⟩
abbrev S256x256 : Shape := ⟨2, ![256, 256]⟩
abbrev S1024x256 : Shape := ⟨2, ![1024, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x19456, .f32⟩
  | .hbm, ⟨2, _⟩ => ⟨S256x2048, .bf16⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1024x256, .bf16⟩
  | .local _ .vmem, ⟨9, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S8192x4096 : Shape := ⟨2, ![8192, 4096]⟩
abbrev S1x4096x19456 : Shape := ⟨3, ![1, 4096, 19456]⟩
abbrev S256x2048 : Shape := ⟨2, ![256, 2048]⟩
abbrev S4096x19456 : Shape := ⟨2, ![4096, 19456]⟩
abbrev S8192x19456 : Shape := ⟨2, ![8192, 19456]⟩
abbrev S256x2x4x256 : Shape := ⟨4, ![256, 2, 4, 256]⟩
abbrev S8192x1024 : Shape := ⟨2, ![8192, 1024]⟩
abbrev S256x1x4x256 : Shape := ⟨4, ![256, 1, 4, 256]⟩
abbrev S256x4x256 : Shape := ⟨3, ![256, 4, 256]⟩
abbrev S8192x4x256 : Shape := ⟨3, ![8192, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x19456, .f32⟩
  | .hbm, ⟨2, _⟩ => ⟨S256x2048, .bf16⟩
  | .hbm, ⟨3, _⟩ => ⟨S8192x4096, .f32⟩
  | .hbm, ⟨4, _⟩ => ⟨S4096x19456, .f32⟩
  | .hbm, ⟨5, _⟩ => ⟨S8192x19456, .f32⟩
  | .hbm, ⟨6, _⟩ => ⟨S256x2048, .f32⟩
  | .hbm, ⟨7, _⟩ => ⟨S256x2x4x256, .f32⟩
  | .hbm, ⟨8, _⟩ => ⟨S8192x1024, .f32⟩
  | .hbm, ⟨9, _⟩ => ⟨S256x1x4x256, .f32⟩
  | .hbm, ⟨10, _⟩ => ⟨S256x4x256, .f32⟩
  | .hbm, ⟨11, _⟩ => ⟨S256x1x4x256, .f32⟩
  | .hbm, ⟨12, _⟩ => ⟨S256x4x256, .f32⟩
  | .hbm, ⟨13, _⟩ => ⟨S8192x4x256, .f32⟩
  | .hbm, ⟨14, _⟩ => ⟨S4x8192x256, .f32⟩
  | .hbm, ⟨15, _⟩ => ⟨S_, .f32⟩
  | .hbm, ⟨16, _⟩ => ⟨S4x8192x256, .f32⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S4x256x8192, .f32⟩
  | .hbm, ⟨33, _⟩ => ⟨S8192x4x256, .f32⟩
  | .hbm, ⟨34, _⟩ => ⟨S8192x1024, .f32⟩
  | .hbm, ⟨35, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Attn1.lean ====
abbrev S8192x18432 : Shape := ⟨2, ![8192, 18432]⟩
abbrev S2048x73728 : Shape := ⟨2, ![2048, 73728]⟩
abbrev S2048x8192 : Shape := ⟨2, ![2048, 8192]⟩
abbrev S2048x512 : Shape := ⟨2, ![2048, 512]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x18432, .bf16⟩
  | .hbm, ⟨1, _⟩ => ⟨S2048x73728, .bf16⟩
  | .hbm, ⟨2, _⟩ => ⟨S2048x8192, .f32⟩
  | .hbm, ⟨3, _⟩ => ⟨S2048x512, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x2048, .bf16⟩
  | .local _ .vmem, ⟨11, _⟩ => ⟨S128x2048, .bf16⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn1RefIdeal.lean ====
abbrev S8192x18432 : Shape := ⟨2, ![8192, 18432]⟩
abbrev S8192x3x3x16x128 : Shape := ⟨5, ![8192, 3, 3, 16, 128]⟩
abbrev S8192x1x1x16x128 : Shape := ⟨5, ![8192, 1, 1, 16, 128]⟩
abbrev S8192x16x128 : Shape := ⟨3, ![8192, 16, 128]⟩
abbrev S16x128x4x16x128 : Shape := ⟨5, ![16, 128, 4, 16, 128]⟩
abbrev S_ : Shape := ⟨0, ![]⟩
abbrev S17x128x4x16x128 : Shape := ⟨5, ![17, 128, 4, 16, 128]⟩
abbrev S16x256x4x16x128 : Shape := ⟨5, ![16, 256, 4, 16, 128]⟩
abbrev S16x4x16x128x256 : Shape := ⟨5, ![16, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S16x4x16x128 : Shape := ⟨4, ![16, 4, 16, 128]⟩
abbrev S16x4x16x128x1 : Shape := ⟨5, ![16, 4, 16, 128, 1]⟩
abbrev S16x4x16x128x128 : Shape := ⟨5, ![16, 4, 16, 128, 128]⟩
abbrev S16x128x4x16 : Shape := ⟨4, ![16, 128, 4, 16]⟩
abbrev S8192x16 : Shape := ⟨2, ![8192, 16]⟩
abbrev S2048x8192 : Shape := ⟨2, ![2048, 8192]⟩
abbrev S8192x128 : Shape := ⟨2, ![8192, 128]⟩
abbrev S2048x512 : Shape := ⟨2, ![2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S8192x18432, .f32⟩
  | .hbm, ⟨2, _⟩ => ⟨S8192x3x3x16x128, .f32⟩
  | .hbm, ⟨3, _⟩ => ⟨S8192x1x1x16x128, .f32⟩
  | .hbm, ⟨4, _⟩ => ⟨S8192x16x128, .f32⟩
  | .hbm, ⟨5, _⟩ => ⟨S8192x1x1x16x128, .f32⟩
  | .hbm, ⟨6, _⟩ => ⟨S8192x16x128, .f32⟩
  | .hbm, ⟨7, _⟩ => ⟨S8192x1x1x16x128, .f32⟩
  | .hbm, ⟨8, _⟩ => ⟨S8192x16x128, .f32⟩
  | .hbm, ⟨9, _⟩ => ⟨S16x128x4x16x128, .f32⟩
  | .hbm, ⟨10, _⟩ => ⟨S16x128x4x16x128, .f32⟩
  | .hbm, ⟨11, _⟩ => ⟨S_, .i32⟩
  | .hbm, ⟨12, _⟩ => ⟨S_, .f32⟩
  | .hbm, ⟨13, _⟩ => ⟨S17x128x4x16x128, .f32⟩
  | .hbm, ⟨14, _⟩ => ⟨S16x128x4x16x128, .f32⟩
  | .hbm, ⟨15, _⟩ => ⟨S16x256x4x16x128, .f32⟩
  | .hbm, ⟨16, _⟩ => ⟨S16x128x4x16x128, .f32⟩
  | .hbm, ⟨17, _⟩ => ⟨S_, .i32⟩
  | .hbm, ⟨18, _⟩ => ⟨S_, .f32⟩
  | .hbm, ⟨19, _⟩ => ⟨S17x128x4x16x128, .f32⟩
  | .hbm, ⟨20, _⟩ => ⟨S16x128x4x16x128, .f32⟩
  | .hbm, ⟨21, _⟩ => ⟨S16x256x4x16x128, .f32⟩
  | .hbm, ⟨22, _⟩ => ⟨S16x4x16x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S16, .i32⟩
  | .hbm, ⟨34, _⟩ => ⟨S16x1x1, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S_, .i32⟩
  | .hbm, ⟨43, _⟩ => ⟨S16x1x1, .i32⟩
  | .hbm, ⟨44, _⟩ => ⟨S16x1x1, .i1⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x1x256, .i1⟩
  | .hbm, ⟨49, _⟩ => ⟨S16x1x256, .i1⟩
  | .hbm, ⟨50, _⟩ => ⟨S16x1x256, .i1⟩
  | .hbm, ⟨51, _⟩ => ⟨S16x1x256, .i1⟩
  | .hbm, ⟨52, _⟩ => ⟨S1x128x256, .i1⟩
  | .hbm, ⟨53, _⟩ => ⟨S16x128x256, .i1⟩
  | .hbm, ⟨54, _⟩ => ⟨S16x128x256, .i1⟩
  | .hbm, ⟨55, _⟩ => ⟨S16x128x256, .i1⟩
  | .hbm, ⟨56, _⟩ => ⟨S16x1x1x128x256, .i1⟩
  | .hbm, ⟨57, _⟩ => ⟨S_, .f32⟩
  | .hbm, ⟨58, _⟩ => ⟨S_, .f32⟩
  | .hbm, ⟨59, _⟩ => ⟨S16x4x16x128x256, .i1⟩
  | .hbm, ⟨60, _⟩ => ⟨S16x4x16x128x256, .f32⟩
  | .hbm, ⟨61, _⟩ => ⟨S16x4x16x128x256, .f32⟩
  | .hbm, ⟨62, _⟩ => ⟨S_, .f32⟩
  | .hbm, ⟨63, _⟩ => ⟨S16x4x16x128, .f32⟩
  | .hbm, ⟨64, _⟩ => ⟨S16x4x16x128x1, .f32⟩
  | .hbm, ⟨65, _⟩ => ⟨S16x4x16x128x256, .f32⟩
  | .hbm, ⟨66, _⟩ => ⟨S16x4x16x128x256, .f32⟩
  | .hbm, ⟨67, _⟩ => ⟨S16x4x16x128x256, .f32⟩
  | .hbm, ⟨68, _⟩ => ⟨S_, .f32⟩
  | .hbm, ⟨69, _⟩ => ⟨S16x4x16x128, .f32⟩
  | .hbm, ⟨70, _⟩ => ⟨S16x4x16x128x1, .f32⟩
  | .hbm, ⟨71, _⟩ => ⟨S16x4x16x128x256, .f32⟩
  | .hbm, ⟨72, _⟩ => ⟨S16x4x16x128x256, .f32⟩
  | .hbm, ⟨73, _⟩ => ⟨S16x4x16x128x128, .f32⟩
  | .hbm, ⟨74, _⟩ => ⟨S16x128x4x16x128, .f32⟩
  | .hbm, ⟨75, _⟩ => ⟨S16x4x16x128x1, .f32⟩
  | .hbm, ⟨76, _⟩ => ⟨S16x4x16x128x1, .f32⟩
  | .hbm, ⟨77, _⟩ => ⟨S16x4x16x128, .f32⟩
  | .hbm, ⟨78, _⟩ => ⟨S8192x16x128, .f32⟩
  | .hbm, ⟨79, _⟩ => ⟨S16x128x4x16, .f32⟩
  | .hbm, ⟨80, _⟩ => ⟨S8192x16, .f32⟩
  | .hbm, ⟨81, _⟩ => ⟨S2048x8192, .f32⟩
  | .hbm, ⟨82, _⟩ => ⟨S_, .i32⟩
  | .hbm, ⟨83, _⟩ => ⟨S_, .f32⟩
  | .hbm, ⟨84, _⟩ => ⟨S8192x128, .f32⟩
  | .hbm, ⟨85, _⟩ => ⟨S2048x512, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_call3_v0 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Attn0.lean ====
abbrev S8192x18432 : Shape := ⟨2, ![8192, 18432]⟩
abbrev S8192x2048 : Shape := ⟨2, ![8192, 2048]⟩
abbrev S8192x128 : Shape := ⟨2, ![8192, 128]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 12
  | .smem => 0
  | _ => 0

abbrev bufTy : (tb : Table) → Fin (tcTables nBuf tb) → BufTy
  | .hbm, ⟨0, _⟩ => ⟨S8192x18432, .bf16⟩
  | .hbm, ⟨1, _⟩ => ⟨S8192x2048, .f32⟩
  | .hbm, ⟨2, _⟩ => ⟨S8192x128, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x2048, .bf16⟩
  | .local _ .vmem, ⟨11, _⟩ => ⟨S128x2048, .bf16⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Attn0RefIdeal.lean ====
abbrev S8192x18432 : Shape := ⟨2, ![8192, 18432]⟩
abbrev S8192x3x3x16x128 : Shape := ⟨5, ![8192, 3, 3, 16, 128]⟩
abbrev S8192x1x1x16x128 : Shape := ⟨5, ![8192, 1, 1, 16, 128]⟩
abbrev S8192x16x128 : Shape := ⟨3, ![8192, 16, 128]⟩
abbrev S64x128x1x16x128 : Shape := ⟨5, ![64, 128, 1, 16, 128]⟩
abbrev S_ : Shape := ⟨0, ![]⟩
abbrev S65x128x1x16x128 : Shape := ⟨5, ![65, 128, 1, 16, 128]⟩
abbrev S64x256x1x16x128 : Shape := ⟨5, ![64, 256, 1, 16, 128]⟩
abbrev S64x1x16x128x256 : Shape := ⟨5, ![64, 1, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S64x1x16x128 : Shape := ⟨4, ![64, 1, 16, 128]⟩
abbrev S64x1x16x128x1 : Shape := ⟨5, ![64, 1, 16, 128, 1]⟩
abbrev S64x1x16x128x128 : Shape := ⟨5, ![64, 1, 16, 128, 128]⟩
abbrev S64x128x1x16 : Shape := ⟨4, ![64, 128, 1, 16]⟩
abbrev S8192x16 : Shape := ⟨2, ![8192, 16]⟩
abbrev S8192x2048 : Shape := ⟨2, ![8192, 2048]⟩
abbrev S8192x128 : Shape := ⟨2, ![8192, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S8192x18432, .f32⟩
  | .hbm, ⟨2, _⟩ => ⟨S8192x3x3x16x128, .f32⟩
  | .hbm, ⟨3, _⟩ => ⟨S8192x1x1x16x128, .f32⟩
  | .hbm, ⟨4, _⟩ => ⟨S8192x16x128, .f32⟩
  | .hbm, ⟨5, _⟩ => ⟨S8192x1x1x16x128, .f32⟩
  | .hbm, ⟨6, _⟩ => ⟨S8192x16x128, .f32⟩
  | .hbm, ⟨7, _⟩ => ⟨S8192x1x1x16x128, .f32⟩
  | .hbm, ⟨8, _⟩ => ⟨S8192x16x128, .f32⟩
  | .hbm, ⟨9, _⟩ => ⟨S64x128x1x16x128, .f32⟩
  | .hbm, ⟨10, _⟩ => ⟨S64x128x1x16x128, .f32⟩
  | .hbm, ⟨11, _⟩ => ⟨S_, .i32⟩
  | .hbm, ⟨12, _⟩ => ⟨S_, .f32⟩
  | .hbm, ⟨13, _⟩ => ⟨S65x128x1x16x128, .f32⟩
  | .hbm, ⟨14, _⟩ => ⟨S64x128x1x16x128, .f32⟩
  | .hbm, ⟨15, _⟩ => ⟨S64x256x1x16x128, .f32⟩
  | .hbm, ⟨16, _⟩ => ⟨S64x128x1x16x128, .f32⟩
  | .hbm, ⟨17, _⟩ => ⟨S_, .i32⟩
  | .hbm, ⟨18, _⟩ => ⟨S_, .f32⟩
  | .hbm, ⟨19, _⟩ => ⟨S65x128x1x16x128, .f32⟩
  | .hbm, ⟨20, _⟩ => ⟨S64x128x1x16x128, .f32⟩
  | .hbm, ⟨21, _⟩ => ⟨S64x256x1x16x128, .f32⟩
  | .hbm, ⟨22, _⟩ => ⟨S64x1x16x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S64, .i32⟩
  | .hbm, ⟨34, _⟩ => ⟨S64x1x1, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S_, .i32⟩
  | .hbm, ⟨43, _⟩ => ⟨S64x1x1, .i32⟩
  | .hbm, ⟨44, _⟩ => ⟨S64x1x1, .i1⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x1x256, .i1⟩
  | .hbm, ⟨49, _⟩ => ⟨S64x1x256, .i1⟩
  | .hbm, ⟨50, _⟩ => ⟨S64x1x256, .i1⟩
  | .hbm, ⟨51, _⟩ => ⟨S64x1x256, .i1⟩
  | .hbm, ⟨52, _⟩ => ⟨S1x128x256, .i1⟩
  | .hbm, ⟨53, _⟩ => ⟨S64x128x256, .i1⟩
  | .hbm, ⟨54, _⟩ => ⟨S64x128x256, .i1⟩
  | .hbm, ⟨55, _⟩ => ⟨S64x128x256, .i1⟩
  | .hbm, ⟨56, _⟩ => ⟨S64x1x1x128x256, .i1⟩
  | .hbm, ⟨57, _⟩ => ⟨S_, .f32⟩
  | .hbm, ⟨58, _⟩ => ⟨S_, .f32⟩
  | .hbm, ⟨59, _⟩ => ⟨S64x1x16x128x256, .i1⟩
  | .hbm, ⟨60, _⟩ => ⟨S64x1x16x128x256, .f32⟩
  | .hbm, ⟨61, _⟩ => ⟨S64x1x16x128x256, .f32⟩
  | .hbm, ⟨62, _⟩ => ⟨S_, .f32⟩
  | .hbm, ⟨63, _⟩ => ⟨S64x1x16x128, .f32⟩
  | .hbm, ⟨64, _⟩ => ⟨S64x1x16x128x1, .f32⟩
  | .hbm, ⟨65, _⟩ => ⟨S64x1x16x128x256, .f32⟩
  | .hbm, ⟨66, _⟩ => ⟨S64x1x16x128x256, .f32⟩
  | .hbm, ⟨67, _⟩ => ⟨S64x1x16x128x256, .f32⟩
  | .hbm, ⟨68, _⟩ => ⟨S_, .f32⟩
  | .hbm, ⟨69, _⟩ => ⟨S64x1x16x128, .f32⟩
  | .hbm, ⟨70, _⟩ => ⟨S64x1x16x128x1, .f32⟩
  | .hbm, ⟨71, _⟩ => ⟨S64x1x16x128x256, .f32⟩
  | .hbm, ⟨72, _⟩ => ⟨S64x1x16x128x256, .f32⟩
  | .hbm, ⟨73, _⟩ => ⟨S64x1x16x128x128, .f32⟩
  | .hbm, ⟨74, _⟩ => ⟨S64x128x1x16x128, .f32⟩
  | .hbm, ⟨75, _⟩ => ⟨S64x1x16x128x1, .f32⟩
  | .hbm, ⟨76, _⟩ => ⟨S64x1x16x128x1, .f32⟩
  | .hbm, ⟨77, _⟩ => ⟨S64x1x16x128, .f32⟩
  | .hbm, ⟨78, _⟩ => ⟨S8192x16x128, .f32⟩
  | .hbm, ⟨79, _⟩ => ⟨S64x128x1x16, .f32⟩
  | .hbm, ⟨80, _⟩ => ⟨S8192x16, .f32⟩
  | .hbm, ⟨81, _⟩ => ⟨S8192x2048, .f32⟩
  | .hbm, ⟨82, _⟩ => ⟨S_, .i32⟩
  | .hbm, ⟨83, _⟩ => ⟨S_, .f32⟩
  | .hbm, ⟨84, _⟩ => ⟨S8192x128, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_call3_v0 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Norm.lean ====
abbrev S8192x4096 : Shape := ⟨2, ![8192, 4096]⟩
abbrev S2x1x4096 : Shape := ⟨3, ![2, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x1x4096, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S2x1x4096 : Shape := ⟨3, ![2, 1, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x1x4096, .f32⟩
  | .hbm, ⟨2, _⟩ => ⟨S1x1x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ResLast.lean ====
abbrev S8192x4096 : Shape := ⟨2, ![8192, 4096]⟩
abbrev S2x1x4096 : Shape := ⟨3, ![2, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResLastRefIdeal.lean ====
abbrev S8192x4096 : Shape := ⟨2, ![8192, 4096]⟩
abbrev S2x1x4096 : Shape := ⟨3, ![2, 1, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x1x4096, .f32⟩
  | .hbm, ⟨3, _⟩ => ⟨S1x1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ResNorm.lean ====
abbrev S8192x4096 : Shape := ⟨2, ![8192, 4096]⟩
abbrev S2x1x4096 : Shape := ⟨3, ![2, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x1x4096, .f32⟩
  | .hbm, ⟨3, _⟩ => ⟨S2x1x4096, .f32⟩
  | .hbm, ⟨4, _⟩ => ⟨S8192x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S8192x4096 : Shape := ⟨2, ![8192, 4096]⟩
abbrev S2x1x4096 : Shape := ⟨3, ![2, 1, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x1x4096, .f32⟩
  | .hbm, ⟨3, _⟩ => ⟨S2x1x4096, .f32⟩
  | .hbm, ⟨4, _⟩ => ⟨S1x1x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x1x4096, .f32⟩
  | .hbm, ⟨24, _⟩ => ⟨S4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MemKv.lean ====
abbrev S256x4096 : Shape := ⟨2, ![256, 4096]⟩
abbrev S4096 : Shape := ⟨1, ![4096]⟩
abbrev S4096x2048 : Shape := ⟨2, ![4096, 2048]⟩
abbrev S1x4096 : Shape := ⟨2, ![1, 4096]⟩
abbrev S256x2048 : Shape := ⟨2, ![256, 2048]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4096x2048, .f32⟩
  | .hbm, ⟨3, _⟩ => ⟨S1x4096, .f32⟩
  | .hbm, ⟨4, _⟩ => ⟨S256x2048, .bf16⟩
  | .local _ .vmem, ⟨0, _⟩ => ⟨S256x4096, .f32⟩
  | .local _ .vmem, ⟨1, _⟩ => ⟨S1x4096, .f32⟩
  | .local _ .vmem, ⟨2, _⟩ => ⟨S4096x512, .f32⟩
  | .local _ .vmem, ⟨3, _⟩ => ⟨S4096x512, .f32⟩
  | .local _ .vmem, ⟨4, _⟩ => ⟨S256x512, .bf16⟩
  | .local _ .vmem, ⟨5, _⟩ => ⟨S256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S256x4096 : Shape := ⟨2, ![256, 4096]⟩
abbrev S4096 : Shape := ⟨1, ![4096]⟩
abbrev S4096x2048 : Shape := ⟨2, ![4096, 2048]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4096x2048, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S1x4096, .f32⟩
  | .hbm, ⟨17, _⟩ => ⟨S256x4096, .f32⟩
  | .hbm, ⟨18, _⟩ => ⟨S256x4096, .f32⟩
  | .hbm, ⟨19, _⟩ => ⟨S256x2048, .f32⟩
  | .hbm, ⟨20, _⟩ => ⟨S256x2048, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S8192x2048 : Shape := ⟨2, ![8192, 2048]⟩
abbrev S8192x128 : Shape := ⟨2, ![8192, 128]⟩
abbrev S512x2048 : Shape := ⟨2, ![512, 2048]⟩
abbrev S512x128 : Shape := ⟨2, ![512, 128]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S8192x2048 : Shape := ⟨2, ![8192, 2048]⟩
abbrev S8192x128 : Shape := ⟨2, ![8192, 128]⟩
abbrev S1x8192x128 : Shape := ⟨3, ![1, 8192, 128]⟩
abbrev S3x8192x128 : Shape := ⟨3, ![3, 8192, 128]⟩
abbrev S3x8192x16 : Shape := ⟨3, ![3, 8192, 16]⟩
abbrev S1x8192x2048 : Shape := ⟨3, ![1, 8192, 2048]⟩
abbrev S3x8192x2048 : Shape := ⟨3, ![3, 8192, 2048]⟩
abbrev S3x8192x16x128 : Shape := ⟨4, ![3, 8192, 16, 128]⟩
abbrev S_ : Shape := ⟨0, ![]⟩
abbrev S8192x16 : Shape := ⟨2, ![8192, 16]⟩
abbrev S1x8192x16 : Shape := ⟨3, ![1, 8192, 16]⟩
abbrev S3x8192x16x1 : Shape := ⟨4, ![3, 8192, 16, 1]⟩
abbrev S8192x16x128 : Shape := ⟨3, ![8192, 16, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S1x8192x128, .f32⟩
  | .hbm, ⟨7, _⟩ => ⟨S1x8192x128, .f32⟩
  | .hbm, ⟨8, _⟩ => ⟨S1x8192x128, .f32⟩
  | .hbm, ⟨9, _⟩ => ⟨S3x8192x128, .f32⟩
  | .hbm, ⟨10, _⟩ => ⟨S3x8192x16, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S3x8192x2048, .f32⟩
  | .hbm, ⟨15, _⟩ => ⟨S3x8192x16x128, .f32⟩
  | .hbm, ⟨16, _⟩ => ⟨S_, .f32⟩
  | .hbm, ⟨17, _⟩ => ⟨S8192x16, .f32⟩
  | .hbm, ⟨18, _⟩ => ⟨S_, .f32⟩
  | .hbm, ⟨19, _⟩ => ⟨S8192x16, .f32⟩
  | .hbm, ⟨20, _⟩ => ⟨S8192x16, .f32⟩
  | .hbm, ⟨21, _⟩ => ⟨S1x8192x16, .f32⟩
  | .hbm, ⟨22, _⟩ => ⟨S3x8192x16, .f32⟩
  | .hbm, ⟨23, _⟩ => ⟨S3x8192x16, .f32⟩
  | .hbm, ⟨24, _⟩ => ⟨S3x8192x16, .f32⟩
  | .hbm, ⟨25, _⟩ => ⟨S_, .f32⟩
  | .hbm, ⟨26, _⟩ => ⟨S8192x16, .f32⟩
  | .hbm, ⟨27, _⟩ => ⟨S1x8192x16, .f32⟩
  | .hbm, ⟨28, _⟩ => ⟨S3x8192x16, .f32⟩
  | .hbm, ⟨29, _⟩ => ⟨S3x8192x16, .f32⟩
  | .hbm, ⟨30, _⟩ => ⟨S3x8192x16x1, .f32⟩
  | .hbm, ⟨31, _⟩ => ⟨S3x8192x16x128, .f32⟩
  | .hbm, ⟨32, _⟩ => ⟨S3x8192x16x128, .f32⟩
  | .hbm, ⟨33, _⟩ => ⟨S_, .f32⟩
  | .hbm, ⟨34, _⟩ => ⟨S8192x16x128, .f32⟩
  | .hbm, ⟨35, _⟩ => ⟨S8192x2048, .f32⟩
  | .hbm, ⟨36, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Rope.lean ====
abbrev S1x8192 : Shape := ⟨2, ![1, 8192]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 24
  | .vmem => 8
  | .smem => 0
  | _ => 0

abbrev bufTy : (tb : Table) → Fin (tcTables nBuf tb) → BufTy
  | .hbm, ⟨0, _⟩ => ⟨S1x8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S8192x1, .i32⟩
  | .hbm, ⟨22, _⟩ => ⟨S8192x128, .f32⟩
  | .hbm, ⟨23, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S1x8192 : Shape := ⟨2, ![1, 8192]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x8192, .f32⟩
  | .hbm, ⟨13, _⟩ => ⟨S8192, .f32⟩
  | .hbm, ⟨14, _⟩ => ⟨S8192x1, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8192x128, .f32⟩
  | .hbm, ⟨22, _⟩ => ⟨S8192x64, .f32⟩
  | .hbm, ⟨23, _⟩ => ⟨S8192x128, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.AttnBlock.lean ====
/-
  What one grid point of the windowed-attention kernel leaves in its two output blocks and in the two carried
  scratch arrays, as functions of the point's query, key and value blocks and of the previous point's key and
  value blocks: every head's tile is one function `headO` of the head's columns, and the lane-packed log-sum-exp
  block holds head `h`'s column in lane `h`.
-/
module

public import proofs.«01_k».proof.Proof.Gen.Attn2Ideal.Value
public import Idealize.ShloMosaic.Lib.Pipeline.ReadBack

@[expose] public section

set_option maxRecDepth 16384

noncomputable section

namespace Cert.Attn2Ideal.Own

open Cert.Attn2Ideal Cert.Attn2Ideal.Gen Idealize.ShloMosaic Idealize.ShloMosaic.TcCoe Idealize.SL.Sem

variable {F : FTy → Type} [FloatOps F]
variable (m : (ℓ : Loc nD τ sig) → Buf (Elt F) ℓ)

/-- The tile of head `h`'s 128 columns lies inside a 2048-column block. -/
theorem inbHead (h : Fin 16) : ∀ a : Fin S128x2048.rank,
    (![0, 128 * h.val] : Fin 2 → Nat) a + (![128, 128] : Fin 2 → Nat) a ≤ S128x2048.size a := by
  intro a
  have := h.isLt
  match a with
  | ⟨0, _⟩ => show 0 + 128 ≤ 128; omega
  | ⟨1, _⟩ => show 128 * h.val + 128 ≤ 2048; omega

/-- The rectangle of head `h`'s columns in a block of sixteen heads. -/
abbrev headRect (h : Fin 16) : Rect S128x2048 := Rect.unit (s := S128x2048) ![0, 128 * h.val] ![128, 128] (inbHead h)

/-- Head `h`'s columns of a block of sixteen heads. -/
abbrev headOf (x : Vec F S128x2048 .bf16) (h : Fin 16) : Vec F S128x128 .bf16 := View.ld x (headRect h)

/-- One head's attention over its own key block and the previous one, as the kernel computes it. -/
def headO (i : grid0.Coords) (q k kp v vp : Vec F S128x128 .bf16) : FVec F S128x128 .f32 :=
  k0_pay14 (k0_pay11 i q k kp) (k0_pay12 i q k kp) (k0_pay13 i q k kp) v vp

/-- One head's log-sum-exp column: the maximum plus the logarithm of the denominator. -/
def headL (i : grid0.Coords) (q k kp : Vec F S128x128 .bf16) : FVec F S128x1 .f32 :=
  addf (k0_pay10 i q k kp) (log (k0_pay13 i q k kp))

/-- Writing one head's column into the lane of its number. -/
def laneStep (l : Fin 16 → FVec F S128x1 .f32) (acc : FVec F S128x128 .f32) (h : Fin 16) : FVec F S128x128 .f32 :=
  select (cmpi .eq (iota .tc S128x128 32 [1] iota_S128x128_d1_w32) (broadcast S128x128 (BitVec.ofNat 32 h.val)))
    (broadcastTo S128x128 (shapeCast S128x1 (l h) shapeCasts_S128x1_S128x1) broadcasts_S128x1_S128x128) acc

/-- The sixteen heads in the order the kernel takes them. -/
abbrev heads : List (Fin 16) := [0, 1, 2, 3, 4, 5, 6, 7, 8, 9, 10, 11, 12, 13, 14, 15]

/-- The sixteen heads, last first. -/
abbrev headsRev : List (Fin 16) := [15, 14, 13, 12, 11, 10, 9, 8, 7, 6, 5, 4, 3, 2, 1, 0]

/-- The attention block as the pieces its sixteen stores write. -/
def piecesO (i : grid0.Coords) (q k v kp vp : Vec F S128x2048 .bf16) : List (View.Piece (Elt F) S128x2048 .f32) :=
  headsRev.map fun h => ⟨headRect h, headO i (headOf q h) (headOf k h) (headOf kp h) (headOf v h) (headOf vp h)⟩

/-- The lane-packed log-sum-exp block. -/
def blockL (i : grid0.Coords) (q k kp : Vec F S128x2048 .bf16) : FVec F S128x128 .f32 :=
  heads.foldl (laneStep fun h => headL i (headOf q h) (headOf k h) (headOf kp h)) k0_pay6

theorem zero2 : (![0, 0] : Fin 2 → Nat) = fun _ => 0 := funext fun a => by fin_cases a <;> rfl

theorem zeroAt : ∀ a : Fin S128x2048.rank, (![0, 0] : Fin S128x2048.rank → Nat) a = 0 := fun a => by fin_cases a <;> rfl

theorem zero2' : (![0, 0] : Fin S128x128.rank → Nat) = fun _ => 0 := funext fun a => by fin_cases a <;> rfl

/-- The attention block a first point of a residue class leaves: the previous block is the zeros it stored. -/
theorem outO_A (c : Dev nD) (t : Fin cfg0.N) (h0 : t.val % 4 = 0) :
    (outsAt0 m c t.val t.isLt).1
      = View.canon (piecesO (grid0.coords t) (iblk m c 0 t) (iblk m c 1 t) (iblk m c 2 t) k0_pay2 k0_pay3) := by
  rw [outsAt0_A m c t h0]
  dsimp only
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  refine congrArg View.canon ?_
  unfold piecesO
  simp only [List.map_cons, List.map_nil]
  repeat (refine congrArg₂ List.cons ?_ ?_; · rfl)
  rfl

/-- The attention block a later point leaves: the previous block is what the scratch carries. -/
theorem outO_B (c : Dev nD) (t : Fin cfg0.N) (h0 : ¬t.val % 4 = 0) :
    (outsAt0 m c t.val t.isLt).1
      = View.canon (piecesO (grid0.coords t) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_B m c t h0]
  dsimp only
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  refine congrArg View.canon ?_
  unfold piecesO
  simp only [List.map_cons, List.map_nil]
  repeat (refine congrArg₂ List.cons ?_ ?_; · rfl)
  rfl

/-- The log-sum-exp block a first point leaves. -/
theorem outL_A (c : Dev nD) (t : Fin cfg0.N) (h0 : t.val % 4 = 0) :
    (outsAt0 m c t.val t.isLt).2.1
      = blockL (grid0.coords t) (iblk m c 0 t) (iblk m c 1 t) k0_pay2 := by
  rw [outsAt0_A m c t h0]
  dsimp only
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_unit_zero zero2']
  rfl

/-- The log-sum-exp block a later point leaves. -/
theorem outL_B (c : Dev nD) (t : Fin cfg0.N) (h0 : ¬t.val % 4 = 0) :
    (outsAt0 m c t.val t.isLt).2.1
      = blockL (grid0.coords t) (iblk m c 0 t) (iblk m c 1 t) (outsAt0 m c (t.val - 1) (Nat.lt_of_le_of_lt (Nat.sub_le _ _) t.isLt)).2.2.1 := by
  rw [outsAt0_B m c t h0]
  dsimp only
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_unit_zero zero2']
  rfl

/-- A first point leaves its key block in the first scratch array. -/
theorem scrK_A (c : Dev nD) (t : Fin cfg0.N) (h0 : t.val % 4 = 0) :
    (outsAt0 m c t.val t.isLt).2.2.1
      = iblk m c 1 t := by
  rw [outsAt0_A m c t h0]
  dsimp only
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay170
  dsimp only
  simp only [shapeCast_self]
  exact View.ld_unit_zero (S := S128x2048) zero2 _ _

/-- A first point leaves its value block in the second scratch array. -/
theorem scrV_A (c : Dev nD) (t : Fin cfg0.N) (h0 : t.val % 4 = 0) :
    (outsAt0 m c t.val t.isLt).2.2.2
      = iblk m c 2 t := by
  rw [outsAt0_A m c t h0]
  dsimp only
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay1
  dsimp only
  simp only [shapeCast_self]
  exact View.ld_unit_zero (S := S128x2048) zero2 _ _

/-- A later point leaves its key block in the first scratch array. -/
theorem scrK_B (c : Dev nD) (t : Fin cfg0.N) (h0 : ¬t.val % 4 = 0) :
    (outsAt0 m c t.val t.isLt).2.2.1
      = iblk m c 1 t := by
  rw [outsAt0_B m c t h0]
  dsimp only
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay170
  dsimp only
  simp only [shapeCast_self]
  exact View.ld_unit_zero (S := S128x2048) zero2 _ _

/-- A later point leaves its value block in the second scratch array. -/
theorem scrV_B (c : Dev nD) (t : Fin cfg0.N) (h0 : ¬t.val % 4 = 0) :
    (outsAt0 m c t.val t.isLt).2.2.2
      = iblk m c 2 t := by
  rw [outsAt0_B m c t h0]
  dsimp only
  unfold sout0_B_1
  rw [View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay1
  dsimp only
  simp only [shapeCast_self]
  exact View.ld_unit_zero (S := S128x2048) zero2 _ _

end Cert.Attn2Ideal.Own

end
-- ==== Proof.Softmax.lean ====
/-
  The two forms of a softmax-weighted sum over two blocks of 128 keys, as a statement about extended reals alone:
  the blockwise form (own block and previous block apart, the division last) and the joint form (256 keys in one
  row, every weight divided first) agree whenever every score is a real number.
-/
module

public import Idealize.ShloMosaic.PureOps.Ideal
public import Idealize.ShloMosaic.Init

@[expose] public section

noncomputable section

namespace Cert.Softmax

open Idealize.ShloMosaic

/-- The value the maximum starts from: minus infinity. -/
theorem start_eq_bot : (FloatOps.ofBits (F := Ideal) .f32 0xFF800000#32 : EReal) = ⊥ := by
  show Ideal.ofBits .f32 0xFF800000#32 = ⊥
  simp [Ideal.ofBits, Ideal.ieee]

/-- A row of 256 made of two rows of 128. -/
def join (b a : Fin 128 → EReal) (k : Fin 256) : EReal :=
  if h : k.val < 128 then b ⟨k.val, h⟩ else a ⟨k.val - 128, by omega⟩

theorem join_left (b a : Fin 128 → EReal) (i : Fin 128) : join b a (Fin.castAdd 128 i) = b i := by
  unfold join
  rw [dif_pos (show (Fin.castAdd 128 i).val < 128 from i.isLt)]
  rfl

theorem join_right (b a : Fin 128 → EReal) (i : Fin 128) : join b a (Fin.natAdd 128 i) = a i := by
  unfold join
  rw [dif_neg (show ¬(Fin.natAdd 128 i).val < 128 from by rw [Fin.val_natAdd]; omega)]
  exact congrArg a (Fin.ext (by show (128 + i.val) - 128 = i.val; omega))

/-- A finite sum of reals, taken in the extended reals, is the real sum. -/
theorem coe_sum {n : Nat} (f : Fin n → ℝ) : ((∑ k, f k : ℝ) : EReal) = ∑ k, (f k : EReal) := by
  induction n with
  | zero => simp
  | succ n ih => rw [Fin.sum_univ_castSucc, Fin.sum_univ_castSucc, EReal.coe_add, ih]

theorem fold_max_eq {n : Nat} (f : Fin n → EReal) : (Finset.univ : Finset (Fin n)).fold max ⊥ f = Finset.univ.sup f := rfl

/-- The maximum of a joined row is the larger of the two rows' maxima. -/
theorem max_join (a b : Fin 128 → EReal) :
    (Finset.univ : Finset (Fin 256)).fold max ⊥ (join b a)
      = max ((Finset.univ : Finset (Fin 128)).fold max ⊥ a) ((Finset.univ : Finset (Fin 128)).fold max ⊥ b) := by
  rw [fold_max_eq, fold_max_eq, fold_max_eq]
  apply le_antisymm
  · refine Finset.sup_le fun k _ => ?_
    refine Fin.addCases (m := 128) (n := 128) (fun i => ?_) (fun i => ?_) k
    · rw [join_left]; exact le_max_of_le_right (Finset.le_sup (f := b) (Finset.mem_univ i))
    · rw [join_right]; exact le_max_of_le_left (Finset.le_sup (f := a) (Finset.mem_univ i))
  · refine max_le (Finset.sup_le fun i _ => ?_) (Finset.sup_le fun i _ => ?_)
    · have := Finset.le_sup (f := join b a) (Finset.mem_univ (Fin.natAdd 128 i))
      rwa [join_right] at this
    · have := Finset.le_sup (f := join b a) (Finset.mem_univ (Fin.castAdd 128 i))
      rwa [join_left] at this

/-- The maximum of a nonempty row of reals is a real. -/
theorem max_real (a b : Fin 128 → ℝ) :
    ∃ M : ℝ, max ((Finset.univ : Finset (Fin 128)).fold max ⊥ fun k => (a k : EReal))
      ((Finset.univ : Finset (Fin 128)).fold max ⊥ fun k => (b k : EReal)) = (M : EReal) := by
  rw [fold_max_eq, fold_max_eq]
  have htop : max (Finset.univ.sup fun k => (a k : EReal)) (Finset.univ.sup fun k => (b k : EReal)) ≠ ⊤ := by
    refine ne_of_lt (max_lt ?_ ?_) <;>
      exact (Finset.sup_lt_iff bot_lt_top).mpr fun k _ => EReal.coe_lt_top _
  have hbot : max (Finset.univ.sup fun k => (a k : EReal)) (Finset.univ.sup fun k => (b k : EReal)) ≠ ⊥ := by
    refine ne_of_gt (lt_of_lt_of_le (EReal.bot_lt_coe (a 0)) (le_max_of_le_left ?_))
    exact Finset.le_sup (f := fun k => (a k : EReal)) (Finset.mem_univ 0)
  exact ⟨_, (EReal.coe_toReal htop hbot).symm⟩

/-- The denominators: the two blocks' sums of exponentials are one positive real. -/
theorem den_real (a b : Fin 128 → ℝ) (M : ℝ) :
    ∃ d : ℝ, 0 < d ∧ (∑ k, Ideal.exp ((a k : EReal) - M)) + (∑ k, Ideal.exp ((b k : EReal) - M)) = (d : EReal) := by
  refine ⟨(∑ k, Real.exp (a k - M)) + ∑ k, Real.exp (b k - M), ?_, ?_⟩
  · exact add_pos (Finset.sum_pos (fun k _ => Real.exp_pos _) ⟨0, Finset.mem_univ _⟩)
      (Finset.sum_pos (fun k _ => Real.exp_pos _) ⟨0, Finset.mem_univ _⟩)
  · rw [EReal.coe_add, coe_sum, coe_sum]
    rfl

/-- The joined row's sum of exponentials is the two blocks' sum. -/
theorem den_join (a b : Fin 128 → EReal) (M : EReal) :
    ∑ k : Fin 256, Ideal.exp (join b a k - M) = (∑ k, Ideal.exp (a k - M)) + ∑ k, Ideal.exp (b k - M) := by
  rw [show (∑ k : Fin 256, Ideal.exp (join b a k - M)) = ∑ k : Fin (128 + 128), Ideal.exp (join b a k - M) from rfl,
    Fin.sum_univ_add, add_comm]
  congr 1 <;> exact Finset.sum_congr rfl fun k _ => by simp only [join_left, join_right]

/-- Multiplication by a nonnegative real distributes over a finite sum of extended reals. -/
theorem sum_mul_coe {n : Nat} (f : Fin n → EReal) (r : ℝ) (hr : 0 ≤ r) :
    (∑ k, f k) * (r : EReal) = ∑ k, f k * (r : EReal) := by
  induction n with
  | zero => simp
  | succ n ih =>
    rw [Fin.sum_univ_castSucc, Fin.sum_univ_castSucc, ← ih]
    exact EReal.right_distrib_of_nonneg_of_ne_top (by exact_mod_cast hr) (EReal.coe_ne_top r) _ _

/-- **The blockwise softmax-weighted sum is the joint one.** With every score a real, dividing the two blocks'
    weighted sums by the common denominator once is weighting each of the 256 values by its divided exponential. -/
theorem blockwise (a b va vb : Fin 128 → EReal) (ha : ∀ k, ∃ r : ℝ, a k = (r : EReal)) (hb : ∀ k, ∃ r : ℝ, b k = (r : EReal)) :
    Ideal.div
        ((∑ k, Ideal.exp (a k - max (Finset.univ.fold max ⊥ a) (Finset.univ.fold max ⊥ b)) * va k)
          + ∑ k, Ideal.exp (b k - max (Finset.univ.fold max ⊥ a) (Finset.univ.fold max ⊥ b)) * vb k)
        ((∑ k, Ideal.exp (a k - max (Finset.univ.fold max ⊥ a) (Finset.univ.fold max ⊥ b)))
          + ∑ k, Ideal.exp (b k - max (Finset.univ.fold max ⊥ a) (Finset.univ.fold max ⊥ b)))
      = ∑ k : Fin 256, join vb va k
          * Ideal.div (Ideal.exp (join b a k - (Finset.univ : Finset (Fin 256)).fold max ⊥ (join b a)))
              (∑ j : Fin 256, Ideal.exp (join b a j - (Finset.univ : Finset (Fin 256)).fold max ⊥ (join b a))) := by
  choose ra hra using ha
  choose rb hrb using hb
  obtain rfl : a = fun k => (ra k : EReal) := funext hra
  obtain rfl : b = fun k => (rb k : EReal) := funext hrb
  rw [max_join, den_join]
  obtain ⟨M, hM⟩ := max_real ra rb
  rw [hM]
  obtain ⟨d, hd, hden⟩ := den_real ra rb M
  rw [hden]
  simp only [Ideal.div_coe hd.ne']
  have hr : (0 : ℝ) ≤ 1 / d := (one_div_pos.mpr hd).le
  rw [EReal.right_distrib_of_nonneg_of_ne_top (by exact_mod_cast hr) (EReal.coe_ne_top _), sum_mul_coe _ _ hr, sum_mul_coe _ _ hr]
  rw [show ∀ f : Fin 256 → EReal, (∑ k, f k) = ∑ k : Fin (128 + 128), f k from fun _ => rfl, Fin.sum_univ_add, add_comm]
  congr 1 <;> refine Finset.sum_congr rfl fun k _ => ?_
  · rw [join_left, join_left, mul_comm _ (vb k), mul_assoc]
  · rw [join_right, join_right, mul_comm _ (va k), mul_assoc]

/-! ## The attention of one query row over its own and the previous block -/

/-- The value a masked score takes. -/
abbrev masked : EReal := Ideal.ofBits .f32 0xF149F2CA#32

/-- The score of query row `a` against row `j` of its own key block. -/
def sOwn (q k : Fin 128 → Fin 128 → EReal) (a j : Fin 128) : EReal :=
  if j.val ≤ a.val then ∑ e : Fin 128, q a e * k j e else masked

/-- The score of query row `a` against row `j` of the previous key block, there being one (`0 < nb`). -/
def sPrev (nb : Nat) (q kp : Fin 128 → Fin 128 → EReal) (a j : Fin 128) : EReal :=
  if a.val ≤ j.val ∧ 0 < nb then ∑ e : Fin 128, q a e * kp j e else masked

/-- The larger of a row's two maxima. -/
def mx (nb : Nat) (q k kp : Fin 128 → Fin 128 → EReal) (a : Fin 128) : EReal :=
  max (Finset.univ.fold max ⊥ (sOwn q k a)) (Finset.univ.fold max ⊥ (sPrev nb q kp a))

/-- The sum of a row's exponentials over both blocks. -/
def den (nb : Nat) (q k kp : Fin 128 → Fin 128 → EReal) (a : Fin 128) : EReal :=
  (∑ j, Ideal.exp (sOwn q k a j - mx nb q k kp a)) + ∑ j, Ideal.exp (sPrev nb q kp a j - mx nb q k kp a)

/-- The previous block of a block `nb`: there is none before the first one, where it is all zero. -/
def prevOf (nb : Nat) (x : Fin 128 → Fin 128 → EReal) (a e : Fin 128) : EReal := if 0 < nb then x a e else 0

/-- A row index `a` of block `nb` of residue class `r`: the token it is. -/
def tok (nb : Fin 4) (r : Fin 16) (a : Fin 128) : Fin 8192 := ⟨(nb.val * 128 + a.val) * 16 + r.val, by omega⟩

/-- The column of entry `e` of head `h` of the `j`-th array (0 the queries, 1 the keys, 2 the values) of the last of the three groups. -/
def col (j : Fin 3) (h : Fin 16) (e : Fin 128) : Fin 18432 := ⟨12288 + j.val * 2048 + h.val * 128 + e.val, by omega⟩

end Cert.Softmax

end
-- ==== Proof.AttnHead.lean ====
/-
  One head of the windowed attention, read at the ideal values: the masked scores against a query row's own key
  block and the previous one, the tile of weighted values and the log-sum-exp column, each at an index.
-/
module

public import proofs.«01_k».proof.Proof.AttnBlock
public import proofs.«01_k».proof.Proof.Softmax
public import Idealize.ShloMosaic.Lib.MatmulPlain
public import Idealize.ShloMosaic.PureOps.Ideal.Laws
public import Idealize.ShloMosaic.Lib.WordCmp

@[expose] public section

set_option maxRecDepth 16384

noncomputable section

namespace Cert.Attn2Ideal.Own

open Cert.Attn2Ideal Cert.Attn2Ideal.Gen Idealize.ShloMosaic Idealize.ShloMosaic.TcCoe Idealize.SL.Sem Idealize.ShloMosaic.ValueIdx Cert.Softmax

/-- A block as a function of its row and column. -/
abbrev at2 (x : Vec Ideal S128x128 .bf16) (a b : Fin 128) : EReal := x (ix2 a b)

theorem own_mask (a j : Fin 128) : k0_pay4 (ix2 a j) = BitVec.ofBool (decide (j.val ≤ a.val)) := by
  unfold k0_pay4
  show IntOp.cmpi .sle (BitVec.ofNat 32 (0 * 128 + j.val)) (BitVec.ofNat 32 (0 * 128 + a.val)) = _
  have := a.isLt
  have := j.isLt
  rw [Nat.zero_mul, Nat.zero_add, Nat.zero_add, WordCmp.cmpi_sle_ofNat (by omega) (by omega)]

theorem prev_mask (i : grid0.Coords) (a j : Fin 128) :
    k0_pay5 i (ix2 a j) = BitVec.ofBool (decide (a.val ≤ j.val ∧ 0 < (i 1).val)) := by
  unfold k0_pay5
  show IntOp.andi (IntOp.cmpi .sge (BitVec.ofNat 32 (0 * 128 + j.val)) (BitVec.ofNat 32 (0 * 128 + a.val)))
    (IntOp.cmpi .sgt (BitVec.ofNat 32 (i 1).val) (BitVec.ofNat 32 0)) = _
  have := a.isLt
  have := j.isLt
  have hi : (i 1).val < 4 := (i 1).isLt
  rw [Nat.zero_mul, Nat.zero_add, Nat.zero_add, WordCmp.cmpi_sge_ofNat (by omega) (by omega), WordCmp.cmpi_sgt_ofNat (by omega) (by omega)]
  rw [Bool.decide_and]
  generalize decide (a.val ≤ j.val) = x
  generalize decide (0 < (i 1).val) = y
  cases x <;> cases y <;> rfl

theorem score_own (q k : Vec Ideal S128x128 .bf16) (a j : Fin 128) :
    k0_pay8 q k (ix2 a j) = sOwn (at2 q) (at2 k) a j := by
  unfold k0_pay8 k0_pay7
  simp only [shapeCast_self, select_apply, own_mask, WordCmp.select_ofBool, decide_eq_true_eq]
  refine if_congr Iff.rfl ?_ rfl
  refine (Ideal.matmul_transposedRhs_apply (M := 128) (K := 128) (N := 128) none _ _ _ a j).trans ?_
  show Ideal.ofBits .f32 0x00000000#32 + _ = _
  rw [Ideal.ofBits_zero_f32, zero_add]

theorem score_prev (i : grid0.Coords) (q k : Vec Ideal S128x128 .bf16) (a j : Fin 128) :
    k0_pay9 i q k (ix2 a j) = sPrev (i 1).val (at2 q) (at2 k) a j := by
  unfold k0_pay9 k0_pay7
  simp only [shapeCast_self, select_apply, prev_mask, WordCmp.select_ofBool, decide_eq_true_eq]
  refine if_congr Iff.rfl ?_ rfl
  refine (Ideal.matmul_transposedRhs_apply (M := 128) (K := 128) (N := 128) none _ _ _ a j).trans ?_
  show Ideal.ofBits .f32 0x00000000#32 + _ = _
  rw [Ideal.ofBits_zero_f32, zero_add]

theorem lift_row (a : Fin 128) (k : Fin 128) :
    (reduces_S128x128_S128.lift (ix1 a) k : S128x128.Idx) = ix2 a k := by
  funext c
  apply Fin.ext
  match c with
  | ⟨0, _⟩ => rfl
  | ⟨1, _⟩ => rfl

theorem column_cast (x : FVec Ideal S128 .f32) (a : Fin 128) :
    shapeCast S128x1 x shapeCasts_S128_S128x1 (ix2 a 0) = x (ix1 a) := by
  refine shapeCast_apply (s := S128) (t := S128x1) x _ _ _ ?_
  rw [Shape.rowMajor_val_one, Shape.rowMajor_val_two]
  show a.val = a.val * 1 + 0
  omega

theorem max_apply (i : grid0.Coords) (q k kp : Vec Ideal S128x128 .bf16) (a : Fin 128) :
    k0_pay10 i q k kp (ix2 a 0) = mx (i 1).val (at2 q) (at2 k) (at2 kp) a := by
  unfold k0_pay10
  dsimp only
  show max (shapeCast S128x1 _ shapeCasts_S128_S128x1 (ix2 a 0)) (shapeCast S128x1 _ shapeCasts_S128_S128x1 (ix2 a 0)) = _
  rw [column_cast, column_cast]
  refine congrArg₂ max ((Ideal.multiReduction_maximumf_single _ _ _ _ _ _).trans ?_) ((Ideal.multiReduction_maximumf_single _ _ _ _ _ _).trans ?_) <;>
    rw [start_eq_bot] <;> refine congrArg (fun f : Fin 128 → EReal => Finset.univ.fold max ⊥ f) (funext fun j => ?_)
  · exact (congrArg _ (lift_row a j)).trans (score_own q k a j)
  · exact (congrArg _ (lift_row a j)).trans (score_prev i q kp a j)

theorem row_cast (x : FVec Ideal S128x1 .f32) (a b : Fin 128) :
    broadcastTo S128x128 x broadcasts_S128x1_S128x128 (ix2 a b) = x (ix2 a 0) := by
  refine broadcastTo_apply (s := S128x1) (t := S128x128) x _ _ _ fun c => ?_
  match c with
  | ⟨0, _⟩ => rfl
  | ⟨1, _⟩ => rfl

theorem exp_own (i : grid0.Coords) (q k kp : Vec Ideal S128x128 .bf16) (a j : Fin 128) :
    k0_pay11 i q k kp (ix2 a j) = Ideal.exp (sOwn (at2 q) (at2 k) a j - mx (i 1).val (at2 q) (at2 k) (at2 kp) a) := by
  unfold k0_pay11
  dsimp only
  show Ideal.exp (k0_pay8 q k (ix2 a j) - broadcastTo S128x128 _ broadcasts_S128x1_S128x128 (ix2 a j)) = _
  rw [row_cast, score_own, max_apply]

theorem exp_prev (i : grid0.Coords) (q k kp : Vec Ideal S128x128 .bf16) (a j : Fin 128) :
    k0_pay12 i q k kp (ix2 a j) = Ideal.exp (sPrev (i 1).val (at2 q) (at2 kp) a j - mx (i 1).val (at2 q) (at2 k) (at2 kp) a) := by
  unfold k0_pay12
  dsimp only
  show Ideal.exp (k0_pay9 i q kp (ix2 a j) - broadcastTo S128x128 _ broadcasts_S128x1_S128x128 (ix2 a j)) = _
  rw [row_cast, score_prev, max_apply]

theorem den_apply (i : grid0.Coords) (q k kp : Vec Ideal S128x128 .bf16) (a : Fin 128) :
    k0_pay13 i q k kp (ix2 a 0) = den (i 1).val (at2 q) (at2 k) (at2 kp) a := by
  unfold k0_pay13
  dsimp only
  show (shapeCast S128x1 _ shapeCasts_S128_S128x1 (ix2 a 0) : EReal) + shapeCast S128x1 _ shapeCasts_S128_S128x1 (ix2 a 0) = _
  rw [column_cast, column_cast]
  refine congrArg₂ (· + ·) ((Ideal.multiReduction_add_single _ _ _ _ _ _).trans ?_) ((Ideal.multiReduction_add_single _ _ _ _ _ _).trans ?_) <;>
    refine Finset.sum_congr rfl fun j _ => ?_
  · exact (congrArg _ (lift_row a j)).trans (exp_own i q k kp a j)
  · exact (congrArg _ (lift_row a j)).trans (exp_prev i q k kp a j)

/-- **One head's tile at an index**: the two blocks' weighted values over the common denominator. -/
theorem headO_apply (i : grid0.Coords) (q k kp v vp : Vec Ideal S128x128 .bf16) (a e : Fin 128) :
    headO i q k kp v vp (ix2 a e)
      = Ideal.div
          ((∑ j, Ideal.exp (sOwn (at2 q) (at2 k) a j - mx (i 1).val (at2 q) (at2 k) (at2 kp) a) * at2 v j e)
            + ∑ j, Ideal.exp (sPrev (i 1).val (at2 q) (at2 kp) a j - mx (i 1).val (at2 q) (at2 k) (at2 kp) a) * at2 vp j e)
          (den (i 1).val (at2 q) (at2 k) (at2 kp) a) := by
  unfold headO k0_pay14
  dsimp only
  refine congrArg₂ Ideal.div (congrArg₂ (· + ·) ?_ ?_) ((row_cast _ a e).trans (den_apply i q k kp a))
  · refine (Ideal.matmul_plain_apply (M := 128) (K := 128) (N := 128) none _ _ _ a e).trans ?_
    show Ideal.ofBits .f32 0x00000000#32 + _ = _
    rw [Ideal.ofBits_zero_f32, zero_add, shapeCast_self]
    exact Finset.sum_congr rfl fun j _ => congrArg (· * at2 v j e) (exp_own i q k kp a j)
  · refine (Ideal.matmul_plain_apply (M := 128) (K := 128) (N := 128) none _ _ _ a e).trans ?_
    show Ideal.ofBits .f32 0x00000000#32 + _ = _
    rw [Ideal.ofBits_zero_f32, zero_add]
    exact Finset.sum_congr rfl fun j _ => congrArg (· * at2 vp j e) (exp_prev i q k kp a j)

/-- One head's log-sum-exp at a row. -/
theorem headL_apply (i : grid0.Coords) (q k kp : Vec Ideal S128x128 .bf16) (a : Fin 128) :
    headL i q k kp (ix2 a 0)
      = mx (i 1).val (at2 q) (at2 k) (at2 kp) a + Ideal.log (den (i 1).val (at2 q) (at2 k) (at2 kp) a) := by
  unfold headL
  exact congrArg₂ (fun x y : EReal => x + Ideal.log y) (max_apply i q k kp a) (den_apply i q k kp a)

theorem laneStep_apply (l : Fin 16 → FVec Ideal S128x1 .f32) (acc : FVec Ideal S128x128 .f32) (h : Fin 16) (a j : Fin 128) :
    laneStep l acc h (ix2 a j) = if j.val = h.val then l h (ix2 a 0) else acc (ix2 a j) := by
  unfold laneStep
  rw [select_apply, row_cast, shapeCast_self]
  show Scalar.select (IntOp.cmpi .eq (BitVec.ofNat 32 (0 * 128 + j.val)) (BitVec.ofNat 32 h.val)) _ _ = _
  have := j.isLt
  have := h.isLt
  rw [Nat.zero_mul, Nat.zero_add, WordCmp.cmpi_eq_ofNat (by omega) (by omega), WordCmp.select_ofBool]
  simp only [decide_eq_true_eq]

theorem foldl_lane (l : Fin 16 → FVec Ideal S128x1 .f32) (a j : Fin 128) :
    ∀ (L : List (Fin 16)) (acc : FVec Ideal S128x128 .f32),
      (∀ h : Fin 16, h ∈ L → h.val = j.val → L.foldl (laneStep l) acc (ix2 a j) = l h (ix2 a 0))
        ∧ ((∀ h ∈ L, h.val ≠ j.val) → L.foldl (laneStep l) acc (ix2 a j) = acc (ix2 a j))
  | [], acc => ⟨fun h hm => absurd hm List.not_mem_nil, fun _ => rfl⟩
  | g :: L, acc => by
    have ih := foldl_lane l a j L (laneStep l acc g)
    rw [List.foldl_cons]
    refine ⟨fun h hm e => ?_, fun hn => ?_⟩
    · by_cases hL : ∃ h' ∈ L, h'.val = j.val
      · obtain ⟨h', hm', e'⟩ := hL
        obtain rfl : h' = h := Fin.ext (e'.trans e.symm)
        exact ih.1 h' hm' e'
      · rw [ih.2 fun h' hm' e' => hL ⟨h', hm', e'⟩, laneStep_apply]
        rcases List.mem_cons.mp hm with rfl | hm
        · exact if_pos e.symm
        · exact absurd ⟨h, hm, e⟩ hL
    · rw [ih.2 fun h' hm' => hn h' (List.mem_cons_of_mem _ hm'), laneStep_apply]
      exact if_neg fun e => hn g List.mem_cons_self e.symm

theorem mem_heads : ∀ h : Fin 16, h ∈ heads := by decide
theorem mem_headsRev : ∀ h : Fin 16, h ∈ headsRev := by decide

/-- **The log-sum-exp block at an index**: lane `h < 16` holds head `h`'s column, every later lane zero. -/
theorem blockL_apply (i : grid0.Coords) (q k kp : Vec Ideal S128x2048 .bf16) (a j : Fin 128) :
    blockL i q k kp (ix2 a j)
      = if hj : j.val < 16 then headL i (headOf q ⟨j.val, hj⟩) (headOf k ⟨j.val, hj⟩) (headOf kp ⟨j.val, hj⟩) (ix2 a 0) else 0 := by
  unfold blockL
  split
  · next hj => exact (foldl_lane _ a j heads _).1 ⟨j.val, hj⟩ (mem_heads _) rfl
  · next hj =>
    rw [(foldl_lane _ a j heads _).2 fun h _ e => hj (e ▸ h.isLt)]
    show Ideal.ofBits .f32 0x00000000#32 = 0
    exact Ideal.ofBits_zero_f32

/-- **The attention block at an index**: column `128 h + e` is column `e` of head `h`'s tile. -/
theorem blockO_apply (i : grid0.Coords) (q k v kp vp : Vec Ideal S128x2048 .bf16) (a : Fin 128) (h : Fin 16) (e : Fin 128) :
    View.canon (piecesO i q k v kp vp) (ix2 a (⟨128 * h.val + e.val, by omega⟩ : Fin 2048))
      = headO i (headOf q h) (headOf k h) (headOf kp h) (headOf v h) (headOf vp h) (ix2 a e) := by
  have key := View.canon_apply_of_pieces
    (G := fun y : S128x2048.Idx =>
      (fun g : Fin 16 => headO i (headOf q g) (headOf k g) (headOf kp g) (headOf v g) (headOf vp g))
        ⟨(y 1).val / 128, by have : (y 1).val < 2048 := (y 1).isLt; omega⟩
        (ix2 (y 0 : Fin 128) (⟨(y 1).val % 128, Nat.mod_lt _ (by omega)⟩ : Fin 128)))
    (piecesO i q k v kp vp) ?_ (ix2 a (⟨128 * h.val + e.val, by omega⟩ : Fin 2048)) ?_
  · rw [key]
    have e1 : (⟨(128 * h.val + e.val) / 128, by omega⟩ : Fin 16) = h := Fin.ext (by show (128 * h.val + e.val) / 128 = h.val; omega)
    have e2 : (⟨(128 * h.val + e.val) % 128, Nat.mod_lt _ (by omega)⟩ : Fin 128) = e := Fin.ext (by show (128 * h.val + e.val) % 128 = e.val; omega)
    show headO i (headOf q ⟨(128 * h.val + e.val) / 128, _⟩) _ _ _ _ (ix2 a ⟨(128 * h.val + e.val) % 128, _⟩) = _
    rw [e1, e2]
  · intro p hp x
    obtain ⟨g, -, rfl⟩ := List.mem_map.mp hp
    have hx1 : (x 1).val < 128 := (x 1).isLt
    have hx0 : (x 0).val < 128 := (x 0).isLt
    have e1 : (⟨((headRect g).emb x 1).val / 128, by have : ((headRect g).emb x 1).val < 2048 := ((headRect g).emb x 1).isLt; omega⟩ : Fin 16) = g :=
      Fin.ext (by show (128 * g.val + 1 * (x 1).val) / 128 = g.val; omega)
    have e2 : (⟨((headRect g).emb x 1).val % 128, Nat.mod_lt _ (by omega)⟩ : Fin 128) = (x 1 : Fin 128) :=
      Fin.ext (by show (128 * g.val + 1 * (x 1).val) % 128 = (x 1).val; omega)
    have e3 : ((headRect g).emb x 0 : Fin 128) = (x 0 : Fin 128) := Fin.ext (by show 0 + 1 * (x 0).val = (x 0).val; omega)
    dsimp only
    rw [e1, e2, e3]
    exact congrArg _ (eq_ix2 x)
  · refine ⟨_, List.mem_map.mpr ⟨h, mem_headsRev h, rfl⟩, ?_⟩
    rw [Rect.mem_set_unit]
    intro c
    match c with
    | ⟨0, _⟩ => exact ⟨Nat.zero_le _, by show a.val < 0 + 128; have := a.isLt; omega⟩
    | ⟨1, _⟩ => exact ⟨Nat.le_add_right _ _, by show 128 * h.val + e.val < 128 * h.val + 128; have := e.isLt; omega⟩

end Cert.Attn2Ideal.Own

end
-- ==== Proof.AttnRef.lean ====
/-
  The reference of the windowed attention read at an index, at the ideal values: its two results are the joint
  softmax of a query row over the 256 keys of the previous block and of its own.
-/
module

public import proofs.«01_k».proof.Proof.Gen.Attn2RefIdeal.Read
public import proofs.«01_k».proof.Proof.Softmax
public import Idealize.ShloMosaic.Lib.KernelVsHost
public import Idealize.ShloMosaic.Lib.WordCmp
public import Idealize.ShloMosaic.Lib.Tactic.WordOmega

@[expose] public section

set_option maxRecDepth 16384

noncomputable section

namespace Cert.Attn2RefIdeal.Own

open Cert.Attn2RefIdeal Cert.Attn2RefIdeal.Gen Cert.Attn2RefIdeal.Read Idealize.ShloMosaic Idealize.ShloMosaic.TcCoe Idealize.SL.Sem Idealize.ShloMosaic.ValueIdx Cert.Softmax

abbrev Arg := (⟨S8192x18432, .bf16⟩ : BufTy).Contents (Elt Ideal)

/-- Block `nb` of head `h` of residue class `r` of the queries (0), keys (1) or values (2), by row and entry. -/
def part (x : Arg) (j : Fin 3) (nb : Fin 4) (r h : Fin 16) (a e : Fin 128) : EReal := x (ix2 (tok nb r a) (col j h e))

/-- The block before it. -/
def partPrev (x : Arg) (j : Fin 3) (nb : Fin 4) (r h : Fin 16) : Fin 128 → Fin 128 → EReal :=
  prevOf nb.val (part x j ⟨nb.val - 1, by omega⟩ r h)

/-- The 256-row window of a block: the block before it, then itself. -/
def window (x : Arg) (j : Fin 3) (nb : Fin 4) (r h : Fin 16) (k : Fin 256) (e : Fin 128) : EReal :=
  join (fun i => partPrev x j nb r h i e) (fun i => part x j nb r h i e) k

theorem flat1 (t : Fin 8192) (g j : Fin 3) (h : Fin 16) (e : Fin 128) (hg : g.val = 2) : idx_main_v1 (ix5 t g j h e) = ix2 t (col j h e) := by
  have := t.isLt; have := j.isLt; have := h.isLt; have := e.isLt
  funext c
  apply Fin.ext
  match c with
  | ⟨0, _⟩ => show ((((t.val * 3 + g.val) * 3 + j.val) * 16 + h.val) * 128 + e.val) / 18432 = t.val; omega
  | ⟨1, _⟩ => show ((((t.val * 3 + g.val) * 3 + j.val) * 16 + h.val) * 128 + e.val) % 18432 = 12288 + j.val * 2048 + h.val * 128 + e.val; omega

theorem flat3 (t : Fin 8192) (h : Fin 16) (e : Fin 128) : idx_main_v3 (ix3 t h e) = ix5 t 0 0 h e := by
  have := t.isLt; have := h.isLt; have := e.isLt
  funext c
  apply Fin.ext
  match c with
  | ⟨0, _⟩ => show ((t.val * 16 + h.val) * 128 + e.val) / 2048 = t.val; omega
  | ⟨1, _⟩ => rfl
  | ⟨2, _⟩ => rfl
  | ⟨3, _⟩ => show ((t.val * 16 + h.val) * 128 + e.val) / 128 % 16 = h.val; omega
  | ⟨4, _⟩ => show ((t.val * 16 + h.val) * 128 + e.val) % 128 = e.val; omega

theorem flat8 (nb : Fin 4) (a : Fin 128) (r h : Fin 16) (e : Fin 128) : idx_main_v8 (ix5 nb a r h e) = ix3 (tok nb r a) h e := by
  have := nb.isLt; have := a.isLt; have := r.isLt; have := h.isLt; have := e.isLt
  funext c
  apply Fin.ext
  match c with
  | ⟨0, _⟩ => show ((((nb.val * 128 + a.val) * 16 + r.val) * 16 + h.val) * 128 + e.val) / 2048 = (nb.val * 128 + a.val) * 16 + r.val; omega
  | ⟨1, _⟩ => show ((((nb.val * 128 + a.val) * 16 + r.val) * 16 + h.val) * 128 + e.val) / 128 % 16 = h.val; omega
  | ⟨2, _⟩ => show ((((nb.val * 128 + a.val) * 16 + r.val) * 16 + h.val) * 128 + e.val) % 128 = e.val; omega

theorem slice_idx (t : Fin 8192) (h : Fin 16) (e : Fin 128) :
    idx_main_v2 (ix5 t 0 0 h e) = ix5 t 2 0 h e ∧ idx_main_v4 (ix5 t 0 0 h e) = ix5 t 2 1 h e ∧ idx_main_v6 (ix5 t 0 0 h e) = ix5 t 2 2 h e := by
  refine ⟨?_, ?_, ?_⟩ <;>
  · funext c
    apply Fin.ext
    match c with
    | ⟨0, _⟩ => rfl
    | ⟨1, _⟩ => rfl
    | ⟨2, _⟩ => rfl
    | ⟨3, _⟩ => rfl
    | ⟨4, _⟩ => rfl

theorem query_block (x : Arg) (nb : Fin 4) (a : Fin 128) (r h : Fin 16) (e : Fin 128) :
    val_main_v8 (F := Ideal) x (ix5 nb a r h e) = part x 0 nb r h a e := by
  rw [val_main_v8_apply, flat8, val_main_v3_apply, flat3, val_main_v2_apply, (slice_idx _ h e).1, val_main_v1_apply, flat1 _ _ _ _ _ rfl]
  rfl

theorem key_block (x : Arg) (nb : Fin 4) (a : Fin 128) (r h : Fin 16) (e : Fin 128) :
    val_main_v9 (F := Ideal) x (ix5 nb a r h e) = part x 1 nb r h a e := by
  rw [val_main_v9_apply, show idx_main_v9 (ix5 nb a r h e) = _ from flat8 nb a r h e, val_main_v5_apply,
    show idx_main_v5 (ix3 (tok nb r a) h e) = _ from flat3 _ h e, val_main_v4_apply, (slice_idx _ h e).2.1, val_main_v1_apply, flat1 _ _ _ _ _ rfl]
  rfl

theorem value_block (x : Arg) (nb : Fin 4) (a : Fin 128) (r h : Fin 16) (e : Fin 128) :
    val_main_v13 (F := Ideal) x (ix5 nb a r h e) = part x 2 nb r h a e := by
  rw [val_main_v13_apply, show idx_main_v13 (ix5 nb a r h e) = _ from flat8 nb a r h e, val_main_v7_apply,
    show idx_main_v7 (ix3 (tok nb r a) h e) = _ from flat3 _ h e, val_main_v6_apply, (slice_idx _ h e).2.2, val_main_v1_apply, flat1 _ _ _ _ _ rfl]
  rfl

/-- A block axis padded by one zero block in front and cut back: the block before. -/
theorem shifted (y : (⟨S4x128x16x16x128, .f32⟩ : BufTy).Contents (Elt Ideal)) (z : (⟨S_, .f32⟩ : BufTy).Contents (Elt Ideal)) (hz : ∀ i, z i = (0 : EReal))
    (nb : Fin 4) (a : Fin 128) (r h : Fin 16) (e : Fin 128) :
    pad S5x128x16x16x128 ![1, 0, 0, 0, 0] ![0, 0, 0, 0, 0] ![0, 0, 0, 0, 0] y z pads_S4x128x16x16x128_S5x128x16x16x128_100_000_000_000_000 h_S_
        (idx_main_v11 (ix5 nb a r h e))
      = (if 0 < nb.val then y (ix5 (⟨nb.val - 1, by omega⟩ : Fin 4) a r h e) else 0 : EReal) := by
  by_cases hn : 0 < nb.val
  · rw [if_pos hn]
    refine pad_apply_of_inside _ _ _ _ _ _ _ _ (ix5 (⟨nb.val - 1, by omega⟩ : Fin 4) a r h e) fun c => ?_
    match c with
    | ⟨0, _⟩ => show nb.val = 1 + (nb.val - 1) * (0 + 1); omega
    | ⟨1, _⟩ => show a.val = 0 + a.val * (0 + 1); omega
    | ⟨2, _⟩ => show r.val = 0 + r.val * (0 + 1); omega
    | ⟨3, _⟩ => show h.val = 0 + h.val * (0 + 1); omega
    | ⟨4, _⟩ => show e.val = 0 + e.val * (0 + 1); omega
  · rw [if_neg hn]
    exact (pad_apply_of_not_inside _ _ _ _ _ _ _ _ (0 : Fin 5) fun hin => hn (by have h1 := hin.1; exact h1)).trans (hz _)

/-- Two blocks joined along their rows. -/
theorem joined (y1 y2 : (⟨S4x128x16x16x128, .f32⟩ : BufTy).Contents (Elt Ideal)) (nb : Fin 4) (k : Fin 256) (r h : Fin 16) (e : Fin 128) :
    concatenate S4x256x16x16x128 1 [⟨S4x128x16x16x128, y1⟩, ⟨S4x128x16x16x128, y2⟩] concatenates_S4x128x16x16x128_S4x128x16x16x128_S4x256x16x16x128_d1
        (ix5 nb k r h e)
      = join (fun i => y1 (ix5 nb i r h e)) (fun i => y2 (ix5 nb i r h e)) k := by
  unfold join
  split
  · next hk =>
    refine concatenate_pair_apply_left (t := S4x256x16x16x128) (s₁ := S4x128x16x16x128) (s₂ := S4x128x16x16x128) 1 y1 y2 _ _ rfl (ix5 nb (⟨k.val, hk⟩ : Fin 128) r h e) fun c => ?_
    match c with
    | ⟨0, _⟩ => rfl
    | ⟨1, _⟩ => rfl
    | ⟨2, _⟩ => rfl
    | ⟨3, _⟩ => rfl
    | ⟨4, _⟩ => rfl
  · next hk =>
    refine concatenate_pair_apply_right (t := S4x256x16x16x128) (s₁ := S4x128x16x16x128) (s₂ := S4x128x16x16x128) 1 y1 y2 _ _ rfl rfl (ix5 nb (⟨k.val - 128, by omega⟩ : Fin 128) r h e) (fun c hc => ?_) ?_
    · match c with
      | ⟨0, _⟩ => rfl
      | ⟨1, _⟩ => exact absurd rfl hc
      | ⟨2, _⟩ => rfl
      | ⟨3, _⟩ => rfl
      | ⟨4, _⟩ => rfl
    · show k.val - 128 + 128 = k.val
      omega

theorem zero_pad (i : S_.Idx) : val_main_call0_v0 (F := Ideal) i = (0 : EReal) := by
  show ((((0#32 : BitVec 32).toInt : ℝ)) : EReal) = 0
  simp

theorem zero_pad' (i : S_.Idx) : val_main_call1_v0 (F := Ideal) i = (0 : EReal) := by
  show ((((0#32 : BitVec 32).toInt : ℝ)) : EReal) = 0
  simp

theorem zero_lanes (i : S_.Idx) : val_main_call3_v0 (F := Ideal) i = (0 : EReal) := by
  show ((((0#32 : BitVec 32).toInt : ℝ)) : EReal) = 0
  simp

theorem key_window (x : Arg) (nb : Fin 4) (k : Fin 256) (r h : Fin 16) (e : Fin 128) :
    val_main_v12 (F := Ideal) x (ix5 nb k r h e) = window x 1 nb r h k e := by
  unfold val_main_v12 window
  rw [joined]
  congr 1
  · funext i
    rw [val_main_v11_apply]
    unfold val_main_v10
    rw [shifted _ _ zero_pad, key_block]
    rfl
  · exact funext fun i => key_block x nb i r h e

theorem value_window (x : Arg) (nb : Fin 4) (k : Fin 256) (r h : Fin 16) (e : Fin 128) :
    val_main_v16 (F := Ideal) x (ix5 nb k r h e) = window x 2 nb r h k e := by
  unfold val_main_v16 window
  rw [joined]
  congr 1
  · funext i
    rw [val_main_v15_apply]
    unfold val_main_v14
    rw [show idx_main_v15 (ix5 nb i r h e) = idx_main_v11 (ix5 nb i r h e) from rfl, shifted _ _ zero_pad', value_block]
    rfl
  · exact funext fun i => value_block x nb i r h e

/-- The distance test on words: `128 + q - k` between 0 and 128. -/
theorem back_words (q : Fin 128) (k : Fin 256) :
    IntOp.andi (IntOp.cmpi .sge (IntOp.subi (IntOp.addi 128#32 (BitVec.ofNat 32 q.val)) (BitVec.ofNat 32 k.val)) 0#32)
        (IntOp.cmpi .sle (IntOp.subi (IntOp.addi 128#32 (BitVec.ofNat 32 q.val)) (BitVec.ofNat 32 k.val)) 128#32)
      = BitVec.ofBool (decide (q.val ≤ k.val ∧ k.val ≤ q.val + 128)) := by
  have hq := q.isLt
  have hk := k.isLt
  have e : (IntOp.subi (IntOp.addi 128#32 (BitVec.ofNat 32 q.val)) (BitVec.ofNat 32 k.val)).toInt = 128 + (q.val : Int) - k.val := by
    show ((128#32 + BitVec.ofNat 32 q.val) - BitVec.ofNat 32 k.val).toInt = _
    rw [BitVec.toInt_sub, BitVec.toInt_add, show (128#32).toInt = 128 from rfl, WordCmp.toInt_ofNat_of_lt (by omega), WordCmp.toInt_ofNat_of_lt (by omega)]
    simp only [Int.bmod]
    omega
  rw [WordCmp.cmpi_sge_eq, WordCmp.cmpi_sle_eq, e]
  rw [show (0#32).toInt = 0 from rfl, show (128#32).toInt = 128 from rfl]
  rw [show decide (q.val ≤ k.val ∧ k.val ≤ q.val + 128) = (decide ((128 : Int) + q.val - k.val ≤ 128) && decide ((0 : Int) ≤ 128 + q.val - k.val)) from by
    rw [← Bool.decide_and]; exact decide_eq_decide.mpr (by omega)]
  generalize decide ((128 : Int) + q.val - k.val ≤ 128) = u
  generalize decide ((0 : Int) ≤ 128 + q.val - k.val) = w
  cases u <;> cases w <;> rfl

/-- The block test on words: a later block, or a row of the own block. -/
theorem block_words (n : Nat) (hn : n < 64) (k : Fin 256) :
    IntOp.ori (IntOp.cmpi .sgt (BitVec.ofNat 32 n) 0#32) (IntOp.cmpi .sge (BitVec.ofNat 32 k.val) 128#32)
      = BitVec.ofBool (decide (0 < n ∨ 128 ≤ k.val)) := by
  have hk := k.isLt
  rw [show (0#32 : BitVec 32) = BitVec.ofNat 32 0 from rfl, show (128#32 : BitVec 32) = BitVec.ofNat 32 128 from rfl,
    WordCmp.cmpi_sgt_ofNat (by omega) (by omega), WordCmp.cmpi_sge_ofNat (by omega) (by omega), Bool.decide_or]
  generalize decide (0 < n) = u
  generalize decide (128 ≤ k.val) = w
  cases u <;> cases w <;> rfl

/-- The mask at an index: the key is at most 128 rows back and, before the first block, of the own block. -/
theorem mask_apply (nb : Fin 4) (r h : Fin 16) (q : Fin 128) (k : Fin 256) :
    val_main_call2_v1 (F := Ideal) (ix5 nb r h q k)
      = BitVec.ofBool (decide ((q.val ≤ k.val ∧ k.val ≤ q.val + 128) ∧ (0 < nb.val ∨ 128 ≤ k.val))) := by
  rw [val_main_call2_v1_apply, val_main_v46_apply, val_main_v45_apply, val_main_v43_apply, val_main_v42_apply, val_main_v33_apply,
    val_main_v30_apply, val_main_v32_apply, val_main_v26_apply, val_main_v24_apply, val_main_v25_apply, val_main_v23_apply,
    val_main_v22_apply, val_main_v19_apply, val_main_v18_apply, val_main_v21_apply, val_main_v20_apply, val_main_v29_apply, val_main_v31_apply,
    val_main_c_1_apply, val_main_c_2_apply, val_main_c_3_apply,
    val_main_v44_apply, val_main_v41_apply, val_main_v39_apply, val_main_v40_apply, val_main_v38_apply, val_main_v35_apply, val_main_v37_apply,
    val_main_v28_apply, val_main_v27_apply, val_main_v34_apply, val_main_v36_apply, val_main_v21_apply, val_main_v20_apply, val_main_c_4_apply, val_main_c_5_apply]
  refine (congrArg₂ IntOp.andi (back_words q k) (block_words nb.val (by omega) k)).trans ?_
  rw [Bool.decide_and (q.val ≤ k.val ∧ k.val ≤ q.val + 128)]
  generalize decide (q.val ≤ k.val ∧ k.val ≤ q.val + 128) = u
  generalize decide (0 < nb.val ∨ 128 ≤ k.val) = w
  cases u <;> cases w <;> rfl

/-- The scores of a query row over its 256-row window. -/
def scores (x : Arg) (nb : Fin 4) (r h : Fin 16) (a : Fin 128) : Fin 256 → EReal :=
  join (sPrev nb.val (part x 0 nb r h) (partPrev x 1 nb r h) a) (sOwn (part x 0 nb r h) (part x 1 nb r h) a)

theorem score_apply (x : Arg) (nb : Fin 4) (r h : Fin 16) (a : Fin 128) (k : Fin 256) :
    val_main_v47 (F := Ideal) x (ix5 nb r h a k) = scores x nb r h a k := by
  have ha := a.isLt
  have hk := k.isLt
  rw [val_main_v47_apply, mask_apply, WordCmp.select_ofBool, val_main_v17_apply]
  have dotEq : (∑ e : Fin 128, val_main_v8 (F := Ideal) x (lidx_main_v17 (ix5 nb r h a k) e) * val_main_v12 (F := Ideal) x (ridx_main_v17 (ix5 nb r h a k) e) : EReal)
      = ∑ e : Fin 128, part x 0 nb r h a e * window x 1 nb r h k e := by
    refine Finset.sum_congr rfl fun e _ => ?_
    have el : lidx_main_v17 (ix5 nb r h a k) e = ix5 nb a r h e := by
      funext c; match c with | ⟨0, _⟩ => rfl | ⟨1, _⟩ => rfl | ⟨2, _⟩ => rfl | ⟨3, _⟩ => rfl | ⟨4, _⟩ => rfl
    have er : ridx_main_v17 (ix5 nb r h a k) e = ix5 nb k r h e := by
      funext c; match c with | ⟨0, _⟩ => rfl | ⟨1, _⟩ => rfl | ⟨2, _⟩ => rfl | ⟨3, _⟩ => rfl | ⟨4, _⟩ => rfl
    rw [el, er, query_block, key_window]
  rw [show val_main_call2_v2 (F := Ideal) (ix5 nb r h a k) = masked from rfl, dotEq]
  simp only [decide_eq_true_eq]
  unfold scores window join sPrev sOwn
  by_cases h1 : k.val < 128
  · simp only [dif_pos h1]
    exact if_congr (by constructor <;> intro g <;> (constructor <;> omega)) rfl rfl
  · simp only [dif_neg h1]
    exact if_congr (by constructor <;> intro g <;> first | omega | (constructor <;> omega)) rfl rfl

/-- The maximum of a row's scores. -/
def rowMax (x : Arg) (nb : Fin 4) (r h : Fin 16) (a : Fin 128) : EReal :=
  (Finset.univ : Finset (Fin 256)).fold max ⊥ (scores x nb r h a)

/-- The sum of a row's exponentials. -/
def rowDen (x : Arg) (nb : Fin 4) (r h : Fin 16) (a : Fin 128) : EReal :=
  ∑ k : Fin 256, Ideal.exp (scores x nb r h a k - rowMax x nb r h a)

/-- A maximum over the last axis, from a start of minus infinity, is the fold over that axis. -/
theorem reduce_max (y : FVec Ideal S4x16x16x128x256 .f32) (z : FVec Ideal S_ .f32) (hz : z (Shape.Idx.first h_S_) = (⊥ : EReal))
    (hred : S4x16x16x128x256.Reduces [4] S4x16x16x128)
    (nb : Fin 4) (r h : Fin 16) (a : Fin 128) :
    Host.reduce FloatOps.maximumf y z reducesTo_S4x16x16x128x256_S4x16x16x128_d4 h_S_ (ix4 nb r h a)
      = (Finset.univ : Finset (Fin 256)).fold max (⊥ : EReal) (fun k => y (ix5 nb r h a k)) := by
  rw [Host.reduce_eq_fold_single FloatOps.maximumf y z _ hred h_S_, hz]
  have hf : (y ∘ hred.lift (ix4 nb r h a)) = fun k : Fin 256 => y (ix5 nb r h a k) := funext fun k => congrArg y
    (funext fun c => Fin.ext (by match c with | ⟨0, _⟩ => rfl | ⟨1, _⟩ => rfl | ⟨2, _⟩ => rfl | ⟨3, _⟩ => rfl | ⟨4, _⟩ => rfl))
  exact congrArg (fun f : Fin 256 → EReal => Finset.univ.fold max ⊥ f) hf

theorem max_apply (x : Arg) (nb : Fin 4) (r h : Fin 16) (a : Fin 128) :
    val_main_v48 (F := Ideal) x (ix4 nb r h a) = rowMax x nb r h a := by
  unfold val_main_v48 rowMax
  rw [← show (fun k => val_main_v47 (F := Ideal) x (ix5 nb r h a k)) = scores x nb r h a from funext fun k => score_apply x nb r h a k]
  generalize val_main_v47 (F := Ideal) x = y
  exact reduce_max y _ start_eq_bot (by decide) nb r h a

theorem exp_apply (x : Arg) (nb : Fin 4) (r h : Fin 16) (a : Fin 128) (k : Fin 256) :
    val_main_v52 (F := Ideal) x (ix5 nb r h a k) = Ideal.exp (scores x nb r h a k - rowMax x nb r h a) := by
  rw [val_main_v52_apply, val_main_v51_apply, score_apply, val_main_v50_apply, val_main_v49_apply]
  have e : idx_main_v49 (idx_main_v50 (ix5 nb r h a k)) = ix4 nb r h a := by
    funext c; match c with | ⟨0, _⟩ => rfl | ⟨1, _⟩ => rfl | ⟨2, _⟩ => rfl | ⟨3, _⟩ => rfl
  rw [e, max_apply]
  rfl

theorem den_apply (x : Arg) (nb : Fin 4) (r h : Fin 16) (a : Fin 128) :
    val_main_v53 (F := Ideal) x (ix4 nb r h a) = rowDen x nb r h a := by
  rw [val_main_v53_apply, show val_main_cst_7 (F := Ideal) (Shape.Idx.first h_S_) = (0 : EReal) from Ideal.ofBits_zero_f32, zero_add]
  refine Finset.sum_congr rfl fun k _ => ?_
  have e : idx_main_v53 (ix4 nb r h a) k = ix5 nb r h a k := by
    funext c; match c with | ⟨0, _⟩ => rfl | ⟨1, _⟩ => rfl | ⟨2, _⟩ => rfl | ⟨3, _⟩ => rfl | ⟨4, _⟩ => rfl
  rw [e, exp_apply]

theorem weight_apply (x : Arg) (nb : Fin 4) (r h : Fin 16) (a : Fin 128) (k : Fin 256) :
    val_main_v56 (F := Ideal) x (ix5 nb r h a k)
      = Ideal.div (Ideal.exp (scores x nb r h a k - rowMax x nb r h a)) (rowDen x nb r h a) := by
  rw [val_main_v56_apply, exp_apply, val_main_v55_apply, val_main_v54_apply]
  have e : idx_main_v54 (idx_main_v55 (ix5 nb r h a k)) = ix4 nb r h a := by
    funext c; match c with | ⟨0, _⟩ => rfl | ⟨1, _⟩ => rfl | ⟨2, _⟩ => rfl | ⟨3, _⟩ => rfl
  rw [e, den_apply]
  rfl

theorem flat65 (nb : Fin 4) (a : Fin 128) (r h : Fin 16) (e : Fin 128) :
    idx_main_v62 (idx_main_v65 (ix2 (⟨nb.val * 128 + a.val, by omega⟩ : Fin 512) (⟨r.val * 2048 + h.val * 128 + e.val, by omega⟩ : Fin 32768)))
      = ix5 nb a r h e := by
  have e1 : idx_main_v65 (ix2 (⟨nb.val * 128 + a.val, by omega⟩ : Fin 512) (⟨r.val * 2048 + h.val * 128 + e.val, by omega⟩ : Fin 32768)) = ix3 (tok nb r a) h e := by
    funext c
    apply Fin.ext
    match c with
    | ⟨0, _⟩ => show ((nb.val * 128 + a.val) * 32768 + (r.val * 2048 + h.val * 128 + e.val)) / 2048 = (nb.val * 128 + a.val) * 16 + r.val; omega
    | ⟨1, _⟩ => show ((nb.val * 128 + a.val) * 32768 + (r.val * 2048 + h.val * 128 + e.val)) / 128 % 16 = h.val; omega
    | ⟨2, _⟩ => show ((nb.val * 128 + a.val) * 32768 + (r.val * 2048 + h.val * 128 + e.val)) % 128 = e.val; omega
  rw [e1]
  funext c
  apply Fin.ext
  match c with
  | ⟨0, _⟩ => show ((((nb.val * 128 + a.val) * 16 + r.val) * 16 + h.val) * 128 + e.val) / 4194304 = nb.val; omega
  | ⟨1, _⟩ => show ((((nb.val * 128 + a.val) * 16 + r.val) * 16 + h.val) * 128 + e.val) / 32768 % 128 = a.val; omega
  | ⟨2, _⟩ => show ((((nb.val * 128 + a.val) * 16 + r.val) * 16 + h.val) * 128 + e.val) / 2048 % 16 = r.val; omega
  | ⟨3, _⟩ => show ((((nb.val * 128 + a.val) * 16 + r.val) * 16 + h.val) * 128 + e.val) / 128 % 16 = h.val; omega
  | ⟨4, _⟩ => show ((((nb.val * 128 + a.val) * 16 + r.val) * 16 + h.val) * 128 + e.val) % 128 = e.val; omega

/-- **The first result at an index**: the joint softmax-weighted sum of the window's values. -/
theorem out_apply (x : Arg) (nb : Fin 4) (a : Fin 128) (r h : Fin 16) (e : Fin 128) :
    val_main_v65 (F := Ideal) x (ix2 (⟨nb.val * 128 + a.val, by omega⟩ : Fin 512) (⟨r.val * 2048 + h.val * 128 + e.val, by omega⟩ : Fin 32768))
      = ∑ k : Fin 256, window x 2 nb r h k e
          * Ideal.div (Ideal.exp (scores x nb r h a k - rowMax x nb r h a)) (rowDen x nb r h a) := by
  rw [val_main_v65_apply, val_main_v62_apply, flat65, val_main_v58_apply, val_main_v57_apply]
  refine Finset.sum_congr rfl fun k _ => ?_
  have el : lidx_main_v57 (idx_main_v58 (ix5 nb a r h e)) k = ix5 nb k r h e := by
    funext c; match c with | ⟨0, _⟩ => rfl | ⟨1, _⟩ => rfl | ⟨2, _⟩ => rfl | ⟨3, _⟩ => rfl | ⟨4, _⟩ => rfl
  have er : ridx_main_v57 (idx_main_v58 (ix5 nb a r h e)) k = ix5 nb r h a k := by
    funext c; match c with | ⟨0, _⟩ => rfl | ⟨1, _⟩ => rfl | ⟨2, _⟩ => rfl | ⟨3, _⟩ => rfl | ⟨4, _⟩ => rfl
  rw [el, er, value_window, weight_apply]

theorem flat67 (nb : Fin 4) (a : Fin 128) (r : Fin 16) (j : Fin 128) :
    idx_main_v67 (ix2 (⟨nb.val * 128 + a.val, by omega⟩ : Fin 512) (⟨r.val * 128 + j.val, by omega⟩ : Fin 2048)) = ix2 (tok nb r a) j := by
  funext c
  apply Fin.ext
  match c with
  | ⟨0, _⟩ => show ((nb.val * 128 + a.val) * 2048 + (r.val * 128 + j.val)) / 128 = (nb.val * 128 + a.val) * 16 + r.val; omega
  | ⟨1, _⟩ => show ((nb.val * 128 + a.val) * 2048 + (r.val * 128 + j.val)) % 128 = j.val; omega

/-- **The second result at an index**: lane `h < 16` holds head `h`'s log-sum-exp, every later lane zero. -/
theorem lse_apply (x : Arg) (nb : Fin 4) (a : Fin 128) (r : Fin 16) (j : Fin 128) :
    val_main_v67 (F := Ideal) x (ix2 (⟨nb.val * 128 + a.val, by omega⟩ : Fin 512) (⟨r.val * 128 + j.val, by omega⟩ : Fin 2048))
      = if hj : j.val < 16 then rowMax x nb r ⟨j.val, hj⟩ a + Ideal.log (rowDen x nb r ⟨j.val, hj⟩ a) else (0 : EReal) := by
  rw [val_main_v67_apply, flat67]
  unfold val_main_v66
  split
  · next hj =>
    refine (pad_apply_of_inside _ _ _ _ _ _ _ _ (ix2 (tok nb r a) (⟨j.val, hj⟩ : Fin 16)) fun c => ?_).trans ?_
    · match c with
      | ⟨0, _⟩ => show (tok nb r a).val = 0 + (tok nb r a).val * (0 + 1); omega
      | ⟨1, _⟩ => show j.val = 0 + j.val * (0 + 1); omega
    rw [val_main_v64_apply, val_main_v63_apply, val_main_v61_apply]
    have e1 : idx_main_v64 (ix2 (tok nb r a) (⟨j.val, hj⟩ : Fin 16)) = ix4 nb a r (⟨j.val, hj⟩ : Fin 16) := by
      funext c
      apply Fin.ext
      match c with
      | ⟨0, _⟩ => show (((nb.val * 128 + a.val) * 16 + r.val) * 16 + j.val) / 32768 = nb.val; omega
      | ⟨1, _⟩ => show (((nb.val * 128 + a.val) * 16 + r.val) * 16 + j.val) / 256 % 128 = a.val; omega
      | ⟨2, _⟩ => show (((nb.val * 128 + a.val) * 16 + r.val) * 16 + j.val) / 16 % 16 = r.val; omega
      | ⟨3, _⟩ => show (((nb.val * 128 + a.val) * 16 + r.val) * 16 + j.val) % 16 = j.val; omega
    have e2 : idx_main_v61 (idx_main_v63 (ix4 nb a r (⟨j.val, hj⟩ : Fin 16))) = ix5 nb r (⟨j.val, hj⟩ : Fin 16) a 0 := by
      funext c
      apply Fin.ext
      match c with
      | ⟨0, _⟩ => show (((nb.val * 16 + r.val) * 16 + j.val) * 128 + a.val) / 32768 = nb.val; omega
      | ⟨1, _⟩ => show (((nb.val * 16 + r.val) * 16 + j.val) * 128 + a.val) / 2048 % 16 = r.val; omega
      | ⟨2, _⟩ => show (((nb.val * 16 + r.val) * 16 + j.val) * 128 + a.val) / 128 % 16 = j.val; omega
      | ⟨3, _⟩ => show (((nb.val * 16 + r.val) * 16 + j.val) * 128 + a.val) / 1 % 128 = a.val; omega
      | ⟨4, _⟩ => rfl
    rw [e1, e2, val_main_v60_apply, val_main_v59_apply, val_main_v49_apply, val_main_v54_apply]
    have e3 : idx_main_v49 (ix5 nb r (⟨j.val, hj⟩ : Fin 16) a 0) = ix4 nb r (⟨j.val, hj⟩ : Fin 16) a := by
      funext c; match c with | ⟨0, _⟩ => rfl | ⟨1, _⟩ => rfl | ⟨2, _⟩ => rfl | ⟨3, _⟩ => rfl
    rw [e3, show idx_main_v54 (ix5 nb r (⟨j.val, hj⟩ : Fin 16) a 0) = _ from e3, max_apply, den_apply]
    rfl
  · next hj =>
    refine (pad_apply_of_not_inside _ _ _ _ _ _ _ _ (1 : Fin 2) fun hin => hj ?_).trans (zero_lanes _)
    have h3 : (j.val - 0) / (0 + 1) < 16 := hin.2.2
    omega

end Cert.Attn2RefIdeal.Own

end
-- ==== Proof.AttnPoint.lean ====
/-
  The windowed-attention kernel's two result arrays at an index, as the joint softmax of a query row over its
  window: the blocks the points read off the argument, the key and value block carried from the point before,
  and the two outputs of a point, all by row and entry of the argument array.
-/
module

public import proofs.«01_k».proof.Proof.AttnHead
public import proofs.«01_k».proof.Proof.AttnRef

@[expose] public section

set_option maxRecDepth 16384

noncomputable section

namespace Cert.Attn2Ideal.Own

open Cert.Attn2Ideal Cert.Attn2Ideal.Gen Cert.Attn2Ideal.Value Idealize.ShloMosaic Idealize.ShloMosaic.TcCoe Idealize.SL.Sem Idealize.ShloMosaic.ValueIdx Cert.Softmax
open Cert.Attn2RefIdeal.Own (part partPrev window scores rowMax rowDen)

variable (m : (ℓ : Loc nD τ sig) → Buf (Elt Ideal) ℓ)

/-- The argument array of device `c`. -/
abbrev arg (c : Dev nD) : Cert.Attn2RefIdeal.Own.Arg := m ((c : Thread nD τ).loc main_arg0)

/-- The array the launch reads is the argument, sixteen tokens to a row. -/
theorem launched (c : Dev nD) : V m c main_v0 = shapeCast S512x294912 (arg m c) shapeCasts_S8192x18432_S512x294912 := rfl

theorem row_of_token (x : Cert.Attn2RefIdeal.Own.Arg) (n : Fin 512) (r : Fin 16) (k : Fin 18432) (i : S512x294912.Idx)
    (h0 : (i 0).val = n.val) (h1 : (i 1).val = r.val * 18432 + k.val) :
    shapeCast S512x294912 x shapeCasts_S8192x18432_S512x294912 i = x (ix2 (⟨n.val * 16 + r.val, by omega⟩ : Fin 8192) k) := by
  refine shapeCast_apply (s := S8192x18432) (t := S512x294912) x _ _ _ ?_
  rw [Shape.rowMajor_val_two, Shape.rowMajor_val_two]
  show (n.val * 16 + r.val) * 18432 + k.val = (i 0).val * 294912 + (i 1).val
  rw [h0, h1]
  omega

theorem index_0 : ∀ t : Fin cfg0.N, win0_0.index t = ![t.val % 4, t.val / 4 * 9 + 6] :=
  (by decide +kernel : ∀ t : Fin grid0.N, win0_0.index t = ![t.val % 4, t.val / 4 * 9 + 6])
theorem index_1 : ∀ t : Fin cfg0.N, win0_1.index t = ![t.val % 4, t.val / 4 * 9 + 7] :=
  (by decide +kernel : ∀ t : Fin grid0.N, win0_1.index t = ![t.val % 4, t.val / 4 * 9 + 7])
theorem index_2 : ∀ t : Fin cfg0.N, win0_2.index t = ![t.val % 4, t.val / 4 * 9 + 8] :=
  (by decide +kernel : ∀ t : Fin grid0.N, win0_2.index t = ![t.val % 4, t.val / 4 * 9 + 8])
theorem coord_1 : ∀ t : Fin cfg0.N, (grid0.coords t 1).val = t.val % 4 :=
  (by decide +kernel : ∀ t : Fin grid0.N, (grid0.coords t 1).val = t.val % 4)

/-- A point's block of rows. -/
def nbOf (t : Fin cfg0.N) : Fin 4 := ⟨t.val % 4, by omega⟩
/-- A point's residue class. -/
def rOf (t : Fin cfg0.N) : Fin 16 := ⟨t.val / 4, by have := t.isLt; have : cfg0.N = 64 := N_0; omega⟩

/-- Window 0, 1 or 2 at a point: that point's block of queries, keys or values. -/
theorem block_0 (c : Dev nD) (t : Fin cfg0.N) (a : Fin 128) (h : Fin 16) (e : Fin 128) :
    (iblk m c 0 t : Vec Ideal S128x2048 .bf16) (ix2 a (⟨128 * h.val + e.val, by omega⟩ : Fin 2048)) = part (arg m c) 0 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col 0 h e) _ ?_ ?_
  · show win0_0.index t 0 * 128 + 1 * a.val = t.val % 4 * 128 + a.val
    rw [index_0]; show t.val % 4 * 128 + 1 * a.val = _; omega
  · show win0_0.index t 1 * 2048 + 1 * (128 * h.val + e.val) = t.val / 4 * 18432 + (12288 + 0 * 2048 + h.val * 128 + e.val)
    rw [index_0]; show (t.val / 4 * 9 + 6) * 2048 + 1 * (128 * h.val + e.val) = _; omega

theorem block_1 (c : Dev nD) (t : Fin cfg0.N) (a : Fin 128) (h : Fin 16) (e : Fin 128) :
    (iblk m c 1 t : Vec Ideal S128x2048 .bf16) (ix2 a (⟨128 * h.val + e.val, by omega⟩ : Fin 2048)) = part (arg m c) 1 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col 1 h e) _ ?_ ?_
  · show win0_1.index t 0 * 128 + 1 * a.val = t.val % 4 * 128 + a.val
    rw [index_1]; show t.val % 4 * 128 + 1 * a.val = _; omega
  · show win0_1.index t 1 * 2048 + 1 * (128 * h.val + e.val) = t.val / 4 * 18432 + (12288 + 1 * 2048 + h.val * 128 + e.val)
    rw [index_1]; show (t.val / 4 * 9 + 7) * 2048 + 1 * (128 * h.val + e.val) = _; omega

theorem block_2 (c : Dev nD) (t : Fin cfg0.N) (a : Fin 128) (h : Fin 16) (e : Fin 128) :
    (iblk m c 2 t : Vec Ideal S128x2048 .bf16) (ix2 a (⟨128 * h.val + e.val, by omega⟩ : Fin 2048)) = part (arg m c) 2 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col 2 h e) _ ?_ ?_
  · show win0_2.index t 0 * 128 + 1 * a.val = t.val % 4 * 128 + a.val
    rw [index_2]; show t.val % 4 * 128 + 1 * a.val = _; omega
  · show win0_2.index t 1 * 2048 + 1 * (128 * h.val + e.val) = t.val / 4 * 18432 + (12288 + 2 * 2048 + h.val * 128 + e.val)
    rw [index_2]; show (t.val / 4 * 9 + 8) * 2048 + 1 * (128 * h.val + e.val) = _; omega

/-- A head's tile of a block, by row and entry. -/
theorem at2_head (x : Vec Ideal S128x2048 .bf16) (h : Fin 16) (a e : Fin 128) :
    at2 (headOf x h) a e = x (ix2 a (⟨128 * h.val + e.val, by omega⟩ : Fin 2048)) := by
  unfold at2 headOf View.ld
  refine congrArg x (funext fun c => Fin.ext ?_)
  match c with
  | ⟨0, _⟩ => show 0 + 1 * a.val = a.val; omega
  | ⟨1, _⟩ => show 128 * h.val + 1 * e.val = 128 * h.val + e.val; omega

/-- The key and value block the point finds carried. -/
def carried (c : Dev nD) (t : Fin cfg0.N) (j : Fin 2) : Vec Ideal S128x2048 .bf16 :=
  if t.val % 4 = 0 then (if j = 0 then k0_pay2 (F := Ideal) else k0_pay3 (F := Ideal))
  else if j = 0 then (outsAt0 m c (t.val - 1) (Nat.lt_of_le_of_lt (Nat.sub_le _ _) t.isLt)).2.2.1
  else (outsAt0 m c (t.val - 1) (Nat.lt_of_le_of_lt (Nat.sub_le _ _) t.isLt)).2.2.2

theorem outO (c : Dev nD) (t : Fin cfg0.N) :
    (outsAt0 m c t.val t.isLt).1
      = View.canon (piecesO (grid0.coords t) (iblk m c 0 t) (iblk m c 1 t) (iblk m c 2 t) (carried m c t 0) (carried m c t 1)) := by
  unfold carried
  by_cases h0 : t.val % 4 = 0
  · rw [outO_A m c t h0, if_pos h0, if_pos h0]; rfl
  · rw [outO_B m c t h0, if_neg h0, if_neg h0]; rfl

theorem outL (c : Dev nD) (t : Fin cfg0.N) :
    (outsAt0 m c t.val t.isLt).2.1 = blockL (grid0.coords t) (iblk m c 0 t) (iblk m c 1 t) (carried m c t 0) := by
  unfold carried
  by_cases h0 : t.val % 4 = 0
  · rw [outL_A m c t h0, if_pos h0]; rfl
  · rw [outL_B m c t h0, if_neg h0]; rfl

theorem scrK (c : Dev nD) (t : Fin cfg0.N) : (outsAt0 m c t.val t.isLt).2.2.1 = iblk m c 1 t := by
  by_cases h0 : t.val % 4 = 0
  · exact scrK_A m c t h0
  · exact scrK_B m c t h0

theorem scrV (c : Dev nD) (t : Fin cfg0.N) : (outsAt0 m c t.val t.isLt).2.2.2 = iblk m c 2 t := by
  by_cases h0 : t.val % 4 = 0
  · exact scrV_A m c t h0
  · exact scrV_B m c t h0

theorem zero_bf16 : Ideal.ofBits .bf16 0x0000#16 = (0 : EReal) := by simp [Ideal.ofBits, Ideal.ieee]

/-- The carried key and value tiles are the previous block's, all zero before the first block. -/
theorem carried_K (c : Dev nD) (t : Fin cfg0.N) (h : Fin 16) :
    at2 (headOf (carried m c t 0) h) = partPrev (arg m c) 1 (nbOf t) (rOf t) h := by
  funext a e
  rw [at2_head]
  unfold carried partPrev prevOf
  by_cases h0 : t.val % 4 = 0
  · rw [if_pos h0, if_pos rfl, if_neg (by show ¬ 0 < t.val % 4; omega)]
    unfold k0_pay2
    rw [shapeCast_self]
    exact zero_bf16
  · rw [if_neg h0, if_pos rfl, if_pos (by show 0 < t.val % 4; omega)]
    refine (congrFun (scrK m c ⟨t.val - 1, Nat.lt_of_le_of_lt (Nat.sub_le _ _) t.isLt⟩) _).trans ?_
    rw [block_1]
    have e1 : nbOf ⟨t.val - 1, Nat.lt_of_le_of_lt (Nat.sub_le _ _) t.isLt⟩ = (⟨(nbOf t).val - 1, by have := (nbOf t).isLt; omega⟩ : Fin 4) :=
      Fin.ext (by show (t.val - 1) % 4 = t.val % 4 - 1; omega)
    have e2 : rOf ⟨t.val - 1, Nat.lt_of_le_of_lt (Nat.sub_le _ _) t.isLt⟩ = rOf t :=
      Fin.ext (by show (t.val - 1) / 4 = t.val / 4; omega)
    rw [e1, e2]

theorem carried_V (c : Dev nD) (t : Fin cfg0.N) (h : Fin 16) :
    at2 (headOf (carried m c t 1) h) = partPrev (arg m c) 2 (nbOf t) (rOf t) h := by
  funext a e
  rw [at2_head]
  unfold carried partPrev prevOf
  by_cases h0 : t.val % 4 = 0
  · rw [if_pos h0, if_neg (by decide), if_neg (by show ¬ 0 < t.val % 4; omega)]
    unfold k0_pay3
    rw [shapeCast_self]
    exact zero_bf16
  · rw [if_neg h0, if_neg (by decide), if_pos (by show 0 < t.val % 4; omega)]
    refine (congrFun (scrV m c ⟨t.val - 1, Nat.lt_of_le_of_lt (Nat.sub_le _ _) t.isLt⟩) _).trans ?_
    rw [block_2]
    have e1 : nbOf ⟨t.val - 1, Nat.lt_of_le_of_lt (Nat.sub_le _ _) t.isLt⟩ = (⟨(nbOf t).val - 1, by have := (nbOf t).isLt; omega⟩ : Fin 4) :=
      Fin.ext (by show (t.val - 1) % 4 = t.val % 4 - 1; omega)
    have e2 : rOf ⟨t.val - 1, Nat.lt_of_le_of_lt (Nat.sub_le _ _) t.isLt⟩ = rOf t :=
      Fin.ext (by show (t.val - 1) / 4 = t.val / 4; omega)
    rw [e1, e2]

theorem tile_0 (c : Dev nD) (t : Fin cfg0.N) (h : Fin 16) : at2 (headOf (iblk m c 0 t) h) = part (arg m c) 0 (nbOf t) (rOf t) h := by
  funext a e; rw [at2_head, block_0]
theorem tile_1 (c : Dev nD) (t : Fin cfg0.N) (h : Fin 16) : at2 (headOf (iblk m c 1 t) h) = part (arg m c) 1 (nbOf t) (rOf t) h := by
  funext a e; rw [at2_head, block_1]
theorem tile_2 (c : Dev nD) (t : Fin cfg0.N) (h : Fin 16) : at2 (headOf (iblk m c 2 t) h) = part (arg m c) 2 (nbOf t) (rOf t) h := by
  funext a e; rw [at2_head, block_2]

/-- Every query and key of the group is a real number. -/
def Finite (x : Cert.Attn2RefIdeal.Own.Arg) : Prop :=
  ∀ (j : Fin 3) (n : Fin 8192) (h : Fin 16) (e : Fin 128), j.val < 2 → ∃ v : ℝ, x (ix2 n (col j h e)) = (v : EReal)

theorem masked_real : ∃ v : ℝ, masked = (v : EReal) := by
  unfold masked
  simp only [Ideal.ofBits, Ideal.ieee]
  exact ⟨_, rfl⟩

theorem dot_real (q k : Fin 128 → EReal) (hq : ∀ e, ∃ v : ℝ, q e = (v : EReal)) (hk : ∀ e, ∃ v : ℝ, k e = (v : EReal)) :
    ∃ v : ℝ, ∑ e : Fin 128, q e * k e = (v : EReal) := by
  choose a ha using hq
  choose b hb using hk
  refine ⟨∑ e, a e * b e, ?_⟩
  rw [coe_sum]
  exact Finset.sum_congr rfl fun e _ => by rw [ha, hb, EReal.coe_mul]

theorem part_real (x : Cert.Attn2RefIdeal.Own.Arg) (hx : Finite x) (j : Fin 3) (hj : j.val < 2) (nb : Fin 4) (r h : Fin 16) (a e : Fin 128) :
    ∃ v : ℝ, part x j nb r h a e = (v : EReal) := hx j (tok nb r a) h e hj

theorem own_real (x : Cert.Attn2RefIdeal.Own.Arg) (hx : Finite x) (nb : Fin 4) (r h : Fin 16) (a j : Fin 128) :
    ∃ v : ℝ, sOwn (part x 0 nb r h) (part x 1 nb r h) a j = (v : EReal) := by
  unfold sOwn
  split
  · exact dot_real _ _ (part_real x hx 0 (by decide) nb r h a) (part_real x hx 1 (by decide) nb r h j)
  · exact masked_real

theorem prev_real (x : Cert.Attn2RefIdeal.Own.Arg) (hx : Finite x) (nb : Fin 4) (r h : Fin 16) (a j : Fin 128) :
    ∃ v : ℝ, sPrev nb.val (part x 0 nb r h) (partPrev x 1 nb r h) a j = (v : EReal) := by
  unfold sPrev
  split
  · next hc =>
    refine dot_real _ _ (part_real x hx 0 (by decide) nb r h a) fun e => ?_
    unfold partPrev prevOf
    rw [if_pos hc.2]
    exact part_real x hx 1 (by decide) _ r h j e
  · exact masked_real

theorem mx_eq (x : Cert.Attn2RefIdeal.Own.Arg) (nb : Fin 4) (r h : Fin 16) (a : Fin 128) :
    mx nb.val (part x 0 nb r h) (part x 1 nb r h) (partPrev x 1 nb r h) a = rowMax x nb r h a := by
  unfold mx rowMax scores
  rw [max_join]

theorem den_eq (x : Cert.Attn2RefIdeal.Own.Arg) (nb : Fin 4) (r h : Fin 16) (a : Fin 128) :
    den nb.val (part x 0 nb r h) (part x 1 nb r h) (partPrev x 1 nb r h) a = rowDen x nb r h a := by
  unfold den rowDen scores
  rw [mx_eq, den_join]

/-- **The attention output of a point**: entry `e` of head `h` of row `a` is the softmax-weighted sum over the window. -/
theorem pointO (c : Dev nD) (t : Fin cfg0.N) (hx : Finite (arg m c)) (a : Fin 128) (h : Fin 16) (e : Fin 128) :
    (outsAt0 m c t.val t.isLt).1 (ix2 a (⟨128 * h.val + e.val, by omega⟩ : Fin 2048))
      = ∑ k : Fin 256, window (arg m c) 2 (nbOf t) (rOf t) h k e
          * Ideal.div (Ideal.exp (scores (arg m c) (nbOf t) (rOf t) h a k - rowMax (arg m c) (nbOf t) (rOf t) h a)) (rowDen (arg m c) (nbOf t) (rOf t) h a) := by
  rw [outO, blockO_apply, headO_apply, tile_0, tile_1, tile_2, carried_K, carried_V, coord_1]
  refine (blockwise _ _ (fun j => part (arg m c) 2 (nbOf t) (rOf t) h j e) (fun j => partPrev (arg m c) 2 (nbOf t) (rOf t) h j e)
    (own_real (arg m c) hx (nbOf t) (rOf t) h a) (prev_real (arg m c) hx (nbOf t) (rOf t) h a)).trans ?_
  rfl

/-- **The log-sum-exp output of a point**: lane `h < 16` holds head `h`'s, every later lane zero. -/
theorem pointL (c : Dev nD) (t : Fin cfg0.N) (a j : Fin 128) :
    (outsAt0 m c t.val t.isLt).2.1 (ix2 a j)
      = if hj : j.val < 16 then rowMax (arg m c) (nbOf t) (rOf t) ⟨j.val, hj⟩ a + Ideal.log (rowDen (arg m c) (nbOf t) (rOf t) ⟨j.val, hj⟩ a)
        else (0 : EReal) := by
  rw [outL, blockL_apply]
  split
  · next hj =>
    rw [headL_apply, tile_0, tile_1, carried_K, coord_1]
    exact congrArg₂ (fun x y : EReal => x + Ideal.log y) (mx_eq _ _ _ _ _) (den_eq _ _ _ _ _)
  · rfl

/-- **The first result array** at a row and an entry. -/
theorem result_o (c : Dev nD) (hx : Finite (arg m c)) (nb : Fin 4) (a : Fin 128) (r h : Fin 16) (e : Fin 128) :
    G3 m c (ix2 (⟨nb.val * 128 + a.val, by omega⟩ : Fin 512) (⟨r.val * 2048 + h.val * 128 + e.val, by omega⟩ : Fin 32768))
      = ∑ k : Fin 256, window (arg m c) 2 nb r h k e
          * Ideal.div (Ideal.exp (scores (arg m c) nb r h a k - rowMax (arg m c) nb r h a)) (rowDen (arg m c) nb r h a) := by
  have hN : cfg0.N = 64 := N_0
  have hlt : r.val * 4 + nb.val < cfg0.N := by omega
  have hp : pt3Of (ix2 (⟨nb.val * 128 + a.val, by omega⟩ : Fin 512) (⟨r.val * 2048 + h.val * 128 + e.val, by omega⟩ : Fin 32768)) = r.val * 4 + nb.val := by
    show 1 * ((nb.val * 128 + a.val) / 128 - 0) + 4 * ((r.val * 2048 + h.val * 128 + e.val) / 2048 - 0) = _
    omega
  have hl : loc3Of (ix2 (⟨nb.val * 128 + a.val, by omega⟩ : Fin 512) (⟨r.val * 2048 + h.val * 128 + e.val, by omega⟩ : Fin 32768))
      = ix2 a (⟨128 * h.val + e.val, by omega⟩ : Fin 2048) := by
    funext k
    apply Fin.ext
    match k with
    | ⟨0, _⟩ => show (nb.val * 128 + a.val) % 128 = a.val; omega
    | ⟨1, _⟩ => show (r.val * 2048 + h.val * 128 + e.val) % 2048 = 128 * h.val + e.val; omega
  unfold G3
  simp only [hp, hl]
  rw [dif_pos hlt, ← outsAt0_sweep m c _ hlt]
  have e1 : nbOf ⟨r.val * 4 + nb.val, hlt⟩ = nb := Fin.ext (by show (r.val * 4 + nb.val) % 4 = nb.val; omega)
  have e2 : rOf ⟨r.val * 4 + nb.val, hlt⟩ = r := Fin.ext (by show (r.val * 4 + nb.val) / 4 = r.val; omega)
  have key := pointO m c ⟨r.val * 4 + nb.val, hlt⟩ hx a h e
  rw [e1, e2] at key
  exact key

/-- **The second result array** at a row and a lane. -/
theorem result_l (c : Dev nD) (nb : Fin 4) (a : Fin 128) (r : Fin 16) (j : Fin 128) :
    G4 m c (ix2 (⟨nb.val * 128 + a.val, by omega⟩ : Fin 512) (⟨r.val * 128 + j.val, by omega⟩ : Fin 2048))
      = if hj : j.val < 16 then rowMax (arg m c) nb r ⟨j.val, hj⟩ a + Ideal.log (rowDen (arg m c) nb r ⟨j.val, hj⟩ a) else (0 : EReal) := by
  have hN : cfg0.N = 64 := N_0
  have hlt : r.val * 4 + nb.val < cfg0.N := by omega
  have hp : pt4Of (ix2 (⟨nb.val * 128 + a.val, by omega⟩ : Fin 512) (⟨r.val * 128 + j.val, by omega⟩ : Fin 2048)) = r.val * 4 + nb.val := by
    show 1 * ((nb.val * 128 + a.val) / 128 - 0) + 4 * ((r.val * 128 + j.val) / 128 - 0) = _
    omega
  have hl : loc4Of (ix2 (⟨nb.val * 128 + a.val, by omega⟩ : Fin 512) (⟨r.val * 128 + j.val, by omega⟩ : Fin 2048)) = ix2 a j := by
    funext k
    apply Fin.ext
    match k with
    | ⟨0, _⟩ => show (nb.val * 128 + a.val) % 128 = a.val; omega
    | ⟨1, _⟩ => show (r.val * 128 + j.val) % 128 = j.val; omega
  unfold G4
  simp only [hp, hl]
  rw [dif_pos hlt, ← outsAt0_sweep m c _ hlt]
  have e1 : nbOf ⟨r.val * 4 + nb.val, hlt⟩ = nb := Fin.ext (by show (r.val * 4 + nb.val) % 4 = nb.val; omega)
  have e2 : rOf ⟨r.val * 4 + nb.val, hlt⟩ = r := Fin.ext (by show (r.val * 4 + nb.val) / 4 = r.val; omega)
  have key := pointL m c ⟨r.val * 4 + nb.val, hlt⟩ a j
  rw [e1, e2] at key
  exact key

end Cert.Attn2Ideal.Own

end
-- ==== Proof.Attn.lean ====
/-
  The claims about the windowed attention: the kernel's frames, the reference's frame, and the equality of their
  results over the extended reals for finite queries and keys.
-/
module

public import proofs.«01_k».proof.Defs
public import proofs.«01_k».proof.Proof.AttnPoint
public import proofs.«01_k».proof.Proof.Gen.Attn2
public import proofs.«01_k».proof.Proof.Gen.Attn2.Frame
public import proofs.«01_k».proof.Proof.Gen.Attn2Ideal
public import proofs.«01_k».proof.Proof.Gen.Attn2RefIdeal
public import proofs.«01_k».proof.Proof.Gen.Pre_finite_qk
public import Idealize.ShloMosaic.Lib.ReduceAll
public import Idealize.ShloMosaic.Lib.Quiescent

@[expose] public section

set_option maxRecDepth 16384

noncomputable section

namespace Cert.Proof.Attn

open Idealize.ShloMosaic Idealize.ShloMosaic.TcCoe Idealize.SL.Sem Idealize.ShloMosaic.ValueIdx Cert.Softmax

/-- An extended real of absolute value below plus infinity is a real number. -/
theorem real_of_abs_lt (v : EReal) (h : max v (-v) < ⊤) : ∃ r : ℝ, v = (r : EReal) := by
  induction v with
  | bot => exact absurd h (by simp)
  | coe r => exact ⟨r, rfl⟩
  | top => exact absurd h (by simp)

theorem infinity_eq_top : Ideal.ofBits .f32 0x7F800000#32 = (⊤ : EReal) := by
  simp [Ideal.ofBits, Ideal.ieee]

/-- The stated predicate says that every query and key of the group is a real number. -/
theorem finite_of_pre (x : Cert.Attn2RefIdeal.Own.Arg) (h : Cert.Pre_finite_qk.fn (F := Ideal) x = fun _ => 1#1) :
    Cert.Attn2Ideal.Own.Finite x := by
  intro j n hd e hj
  have h0 := congrFun h (fun a => a.elim0)
  unfold Cert.Pre_finite_qk.fn at h0
  dsimp only at h0
  haveI : Subsingleton Cert.Pre_finite_qk.S_.Idx := ⟨fun a b => funext fun k => k.elim0⟩
  have h1 := Host.reduce_andi_all _ _ _ _ _ h0 (ix2 n (⟨j.val * 2048 + hd.val * 128 + e.val, by omega⟩ : Fin 4096))
  have h2 : Ideal.cmp .olt (max (x (ix2 n (col j hd e))) (-(x (ix2 n (col j hd e))))) (Ideal.ofBits .f32 0x7F800000#32) = 1#1 := by
    refine Eq.trans ?_ h1
    refine congrArg (fun v : EReal => Ideal.cmp .olt (max v (-v)) (Ideal.ofBits .f32 0x7F800000#32)) ?_
    refine congrArg x (funext fun k => Fin.ext ?_)
    match k with
    | ⟨0, _⟩ => show n.val = 0 + n.val; omega
    | ⟨1, _⟩ => show 12288 + j.val * 2048 + hd.val * 128 + e.val = 12288 + (j.val * 2048 + hd.val * 128 + e.val); omega
  rw [infinity_eq_top] at h2
  refine real_of_abs_lt _ ?_
  by_contra hc
  rw [show Ideal.cmp .olt (max (x (ix2 n (col j hd e))) (-(x (ix2 n (col j hd e))))) (⊤ : EReal) = 0#1 from by
    show BitVec.ofBool (decide (_ < _)) = _
    rw [decide_eq_false hc]; rfl] at h2
  exact absurd h2 (by decide)

/-- The two programs' first results agree, index by index. -/
theorem results_o (m : (ℓ : Loc Cert.Attn2Ideal.nD Cert.Attn2Ideal.τ Cert.Attn2Ideal.sig) → Buf (Elt Ideal) ℓ) (c : Dev Cert.Attn2Ideal.nD)
    (hx : Cert.Attn2Ideal.Own.Finite (Cert.Attn2Ideal.Own.arg m c)) :
    Cert.Attn2RefIdeal.Read.val_main_v65 (F := Ideal) (Cert.Attn2Ideal.Own.arg m c) = Cert.Attn2Ideal.Value.G3 m c := by
  funext i
  have i0 : (i 0).val < 512 := (i 0).isLt
  have i1 : (i 1).val < 32768 := (i 1).isLt
  have ei : i = ix2 (⟨(⟨(i 0).val / 128, by omega⟩ : Fin 4).val * 128 + (⟨(i 0).val % 128, by omega⟩ : Fin 128).val, by omega⟩ : Fin 512)
      (⟨(⟨(i 1).val / 2048, by omega⟩ : Fin 16).val * 2048 + (⟨(i 1).val / 128 % 16, by omega⟩ : Fin 16).val * 128
        + (⟨(i 1).val % 128, by omega⟩ : Fin 128).val, by dsimp only; omega⟩ : Fin 32768) := by
    funext k
    apply Fin.ext
    match k with
    | ⟨0, _⟩ => show (i 0).val = (i 0).val / 128 * 128 + (i 0).val % 128; omega
    | ⟨1, _⟩ => show (i 1).val = (i 1).val / 2048 * 2048 + (i 1).val / 128 % 16 * 128 + (i 1).val % 128; omega
  rw [ei]
  exact (Cert.Attn2RefIdeal.Own.out_apply _ _ _ _ _ _).trans (Cert.Attn2Ideal.Own.result_o m c hx _ _ _ _ _).symm

/-- The two programs' second results agree, index by index. -/
theorem results_l (m : (ℓ : Loc Cert.Attn2Ideal.nD Cert.Attn2Ideal.τ Cert.Attn2Ideal.sig) → Buf (Elt Ideal) ℓ) (c : Dev Cert.Attn2Ideal.nD) :
    Cert.Attn2RefIdeal.Read.val_main_v67 (F := Ideal) (Cert.Attn2Ideal.Own.arg m c) = Cert.Attn2Ideal.Value.G4 m c := by
  funext i
  have i0 : (i 0).val < 512 := (i 0).isLt
  have i1 : (i 1).val < 2048 := (i 1).isLt
  have ei : i = ix2 (⟨(⟨(i 0).val / 128, by omega⟩ : Fin 4).val * 128 + (⟨(i 0).val % 128, by omega⟩ : Fin 128).val, by omega⟩ : Fin 512)
      (⟨(⟨(i 1).val / 128, by omega⟩ : Fin 16).val * 128 + (⟨(i 1).val % 128, by omega⟩ : Fin 128).val, by dsimp only; omega⟩ : Fin 2048) := by
    funext k
    apply Fin.ext
    match k with
    | ⟨0, _⟩ => show (i 0).val = (i 0).val / 128 * 128 + (i 0).val % 128; omega
    | ⟨1, _⟩ => show (i 1).val = (i 1).val / 128 * 128 + (i 1).val % 128; omega
  rw [ei]
  exact (Cert.Attn2RefIdeal.Own.lse_apply _ _ _ _ _).trans (Cert.Attn2Ideal.Own.result_l m c _ _ _ _).symm

theorem frame_p : Cert.quiescent_Attn2 := fun m ρ _ => Cert.Attn2.Gen.frame m ρ
theorem frame_pi : Cert.quiescent_Attn2Ideal := fun m ρ _ => Cert.Attn2Ideal.Gen.frame m ρ
theorem frame_pi_pre : Cert.quiescent_Attn2Ideal_pre_finite_qk := fun m ρ _ => Cert.Attn2Ideal.Gen.frame m ρ

theorem frame_ref (m : (ℓ : Loc Cert.Attn2RefIdeal.nD Cert.Attn2RefIdeal.τ Cert.Attn2RefIdeal.sig) → Buf (Elt Ideal) ℓ) (ρ : Dev Cert.Attn2RefIdeal.nD → PrngReg) :
    θ_run (Cert.Attn2RefIdeal.defs (F := Ideal)) (onTc (τ := Cert.Attn2RefIdeal.τ) (Cert.Attn2RefIdeal.main (F := Ideal))) ⟨m, fun _ => 0, ρ⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0))
      ∧ r.2.sem = fun _ => 0) :=
  (θ_run Cert.Attn2RefIdeal.defs _ _).mono
    (fun r h => ⟨fun c => (h c).2.2, Idealize.ShloMosaic.sem_eq_zero_of_no_sems (by decide) r.2⟩)
    (Cert.Attn2RefIdeal.Value.run (F := Ideal) m ρ)

theorem frame_ri : Cert.quiescent_Attn2RefIdeal := fun m ρ _ => frame_ref m ρ
theorem frame_ri_pre : Cert.quiescent_Attn2RefIdeal_pre_finite_qk := fun m ρ _ => frame_ref m ρ

theorem preserves : Cert.preserves_Attn2_Attn2Ideal := trivial

/-- **The kernel and the reference end with equal results** from equal arguments whose queries and keys are finite. -/
theorem algebraic : Cert.algebraic_Attn2Ideal_Attn2RefIdeal_pre_finite_qk := fun m ρ m' ρ' hpre hag =>
  ⟨fun c => Cert.Attn2Ideal.Value.G3 m c, fun c => Cert.Attn2Ideal.Value.G4 m c, Cert.Attn2Ideal.Value.run m ρ,
    (θ_run Cert.Attn2RefIdeal.defs _ _).mono
      (fun r h c => by
        refine ⟨(h c).1.trans ?_, (h c).2.1.trans ?_, (h c).2.2⟩
        · rw [Cert.Attn2RefIdeal.Read.val_main_v65_eq, hag c]
          exact results_o m c (finite_of_pre _ (hpre c))
        · rw [Cert.Attn2RefIdeal.Read.val_main_v67_eq, hag c]
          exact results_l m c)
      (Cert.Attn2RefIdeal.Value.run (F := Ideal) m' ρ')⟩

end Cert.Proof.Attn

end
-- ==== Proof.FfnOutBlock.lean ====
/-
  What one grid point of the down projection leaves in its output block.
-/
module

public import proofs.«01_k».proof.Proof.Gen.FfnOutIdeal.Value
public import Idealize.ShloMosaic.Lib.Pipeline.ReadBack

@[expose] public section

set_option maxRecDepth 16384

noncomputable section

namespace Cert.FfnOutIdeal.Own

open Cert.FfnOutIdeal Cert.FfnOutIdeal.Gen Idealize.ShloMosaic Idealize.ShloMosaic.TcCoe Idealize.SL.Sem

variable {F : FTy → Type} [FloatOps F]
variable (m : (ℓ : Loc nD τ sig) → Buf (Elt F) ℓ)

/-- The tile of column chunk `h` lies inside the output block. -/
theorem inbCol (h : Fin 8) : ∀ a : Fin S1024x4096.rank,
    (![0, 512 * h.val] : Fin 2 → Nat) a + (![1024, 512] : Fin 2 → Nat) a ≤ S1024x4096.size a := by
  intro a
  have := h.isLt
  match a with
  | ⟨0, _⟩ => show 0 + 1024 ≤ 1024; omega
  | ⟨1, _⟩ => show 512 * h.val + 512 ≤ 4096; omega

/-- The tile of column chunk `h` lies inside the weight block. -/
theorem inbW (h : Fin 8) : ∀ a : Fin S1x256x4096.rank,
    (![0, 0, 512 * h.val] : Fin 3 → Nat) a + (![1, 256, 512] : Fin 3 → Nat) a ≤ S1x256x4096.size a := by
  intro a
  have := h.isLt
  match a with
  | ⟨0, _⟩ => show 0 + 1 ≤ 1; omega
  | ⟨1, _⟩ => show 0 + 256 ≤ 256; omega
  | ⟨2, _⟩ => show 512 * h.val + 512 ≤ 4096; omega

/-- The rectangle of column chunk `h` of an output block. -/
abbrev colRect (h : Fin 8) : Rect S1024x4096 := Rect.unit (s := S1024x4096) ![0, 512 * h.val] ![1024, 512] (inbCol h)

/-- The rectangle of column chunk `h` of a weight block. -/
abbrev wRect (h : Fin 8) : Rect S1x256x4096 := Rect.unit (s := S1x256x4096) ![0, 0, 512 * h.val] ![1, 256, 512] (inbW h)

/-- The eight column chunks, last first. -/
abbrev chunksRev : List (Fin 8) := [7, 6, 5, 4, 3, 2, 1, 0]

/-- The pieces a point's eight stores write: each chunk of what the block held plus the chunk's product. -/
def pieces (x : Vec F S1024x256 .bf16) (w : Vec F S1x256x4096 .f32) (o : Vec F S1024x4096 .f32) : List (View.Piece (Elt F) S1024x4096 .f32) :=
  chunksRev.map fun h => ⟨colRect h, k0_pay4 x (View.ld o (colRect h)) (View.ld w (wRect h))⟩

theorem zero2 : (![0, 0] : Fin S1024x256.rank → Nat) = fun _ => 0 := funext fun a => by fin_cases a <;> rfl

theorem out_B (c : Dev nD) (t : Fin cfg0.N) (h0 : ¬t.val % 43 = 0) :
    outsAt0 m c t.val t.isLt
      = View.canon (pieces (iblk m c 0 t) (iblk m c 1 t) (outsAt0 m c (t.val - 1) (Nat.lt_of_le_of_lt (Nat.sub_le _ _) t.isLt))) := by
  rw [outsAt0_B m c t h0]
  unfold out0_B_2
  rw [View.read_writes_eq_canon _ _ _ (cover0_B_2 c (grid0.coords t) (ms0_0 t) (hs0_0 t) (ms0_1 t) (hs0_1 t) (ms0_2 t) (hs0_2 t) (fun h => h0 ((hcond0_0 t).mp h)) (iblk m c 0 t) (iblk m c 1 t) _)]
  unfold kernelRun0_B
  dsimp only
  sl_unfold_words
  try simp only [View.readAt_eq_ld, (hs0_0 t).read_unread, (hs0_1 t).read_unread, (hs0_2 t).read_unread]
  rw [View.ld_unit_zero (S := S1024x256) zero2]
  refine congrArg View.canon ?_
  unfold pieces
  simp only [List.map_cons, List.map_nil]
  repeat (refine congrArg₂ List.cons ?_ ?_; · rfl)
  rfl

theorem zeroAt : ∀ a : Fin S1024x4096.rank, (![0, 0] : Fin S1024x4096.rank → Nat) a = 0 := fun a => by fin_cases a <;> rfl

theorem out_A (c : Dev nD) (t : Fin cfg0.N) (h0 : t.val % 43 = 0) :
    outsAt0 m c t.val t.isLt
      = View.canon (pieces (iblk m c 0 t) (iblk m c 1 t) k0_pay3 ++ [⟨Rect.unit (s := S1024x4096) ![0, 0] S1024x4096.size inb_S1024x4096_S1024x4096_0_0, k0_pay3⟩]) := by
  rw [outsAt0_A m c t h0]
  unfold out0_A_2
  rw [View.read_writes_eq_canon _ _ _ (cover0_A_2 c (grid0.coords t) (ms0_0 t) (hs0_0 t) (ms0_1 t) (hs0_1 t) (ms0_2 t) (hs0_2 t) ((hcond0_0 t).mpr h0) (iblk m c 0 t) (iblk m c 1 t))]
  unfold kernelRun0_A
  dsimp only
  sl_unfold_words
  simp (disch := decide) only [↓ View.readCov_skip, ↓ View.readCov_fill (s := S1024x4096) _ _ _ _ _ zeroAt]
  try simp only [View.readAt_eq_ld, (hs0_0 t).read_unread, (hs0_1 t).read_unread, (hs0_2 t).read_unread]
  rw [View.ld_unit_zero (S := S1024x256) zero2]
  refine congrArg View.canon ?_
  unfold pieces
  simp only [List.map_cons, List.map_nil]
  simp only [List.cons_append, List.nil_append]
  repeat (refine congrArg₂ List.cons ?_ ?_; · rfl)
  rfl

end Cert.FfnOutIdeal.Own

end
-- ==== Proof.Blocks.lean ====
/-
  Facts shared by the matrix-product calls: what pieces that agree with one function leave over earlier writes, a
  product's sum taken a block of terms at a time, and the index with given coordinates.
-/
module

public import Idealize.ShloMosaic.Lib.Pipeline.ReadBack
public import Idealize.ShloMosaic.Lib.MatmulPlain
public import Idealize.ShloMosaic.Lib.ValueIdx
public import Idealize.ShloMosaic.Lib.Pipeline.ValueKit.Tiles

@[expose] public section

noncomputable section

namespace Cert.Blocks

open Idealize.ShloMosaic Idealize.ShloMosaic.ValueIdx

/-- Pieces that all agree with one function leave that function at every index one of them covers, whatever was
    written before them. -/
theorem canon_append {s : Shape} {e : EltTy} {Val : EltTy → Type} [∀ e, Nonempty (Val e)] (G : s.Idx → Val e) (R : List (View.Piece Val s e)) :
    ∀ (L : List (View.Piece Val s e)) (_ : ∀ p ∈ L, ∀ x : p.1.shape.Idx, p.2 x = G (p.1.emb x)) (y : s.Idx)
      (_ : ∃ p ∈ L, y ∈ p.1.set), View.canon (L ++ R) y = G y
  | [], _, _, hy => by obtain ⟨p, hp, _⟩ := hy; exact absurd hp List.not_mem_nil
  | p :: L, hL, y, hy => by
    rw [List.cons_append]
    by_cases hm : y ∈ p.1.set
    · obtain ⟨x, rfl⟩ := p.1.exists_idx_of_mem hm
      exact (View.canon_cons_emb p.1 p.2 (L ++ R) x).trans (hL p List.mem_cons_self x)
    · rw [View.canon_cons_of_not_mem p _ hm]
      refine canon_append G R L (fun q hq => hL q (List.mem_cons_of_mem _ hq)) y ?_
      obtain ⟨q, hq, hqy⟩ := hy
      rcases List.mem_cons.mp hq with rfl | hq
      · exact absurd hqy hm
      · exact ⟨q, hq, hqy⟩

/-- A sum over the first `K` terms and the next block of `n` is the sum over the first `K + n`. -/
theorem sum_block (f : ℕ → EReal) (K n : ℕ) :
    (∑ j ∈ Finset.range K, f j) + ∑ x : Fin n, f (K + x.val) = ∑ j ∈ Finset.range (K + n), f j := by
  rw [Finset.sum_range_add, Finset.sum_range (fun x => f (K + x))]

/-- A product of rows with one layer's weights (rounded to bf16, which is nothing at the ideal values), at an index. -/
theorem layer_matmul {M K N : ℕ} (x : FVec Ideal ⟨2, ![M, K]⟩ .bf16) (w : FVec Ideal ⟨3, ![1, K, N]⟩ .f32)
    (hc : (⟨3, ![1, K, N]⟩ : Shape).ShapeCasts ⟨2, ![K, N]⟩) (hb : FTy.bits .bf16 < FTy.bits .f32) (a : Fin M) (e : Fin N) :
    FloatOps.matmul (DotDims.plain M K N) none x (truncf .bf16 (shapeCast ⟨2, ![K, N]⟩ w hc) hb) (constant ⟨2, ![M, N]⟩ .f32 0x00000000#32) (ix2 a e)
      = ∑ k : Fin K, (x (ix2 a k) * w (ix3 0 k e) : EReal) := by
  refine (Ideal.matmul_plain_apply (M := M) (K := K) (N := N) none _ _ _ a e).trans ?_
  show Ideal.ofBits .f32 0x00000000#32 + _ = _
  rw [Ideal.ofBits_zero_f32, zero_add]
  refine Finset.sum_congr rfl fun k _ => congrArg (x (ix2 a k) * ·) ?_
  refine shapeCast_apply w hc (ix2 k e) (ix3 0 k e) ?_
  rw [Shape.rowMajor_val_two, Shape.rowMajor_val_three]
  show (0 * K + k.val) * N + e.val = k.val * N + e.val
  rw [Nat.zero_mul, Nat.zero_add]

end Cert.Blocks

end
-- ==== Proof.FfnOutValue.lean ====
/-
  The down projection at the ideal values: after the `k`-th of its 43 steps an output block holds the first
  `256 (k + 1)` terms of the product, so the result array holds the whole product.
-/
module

public import proofs.«01_k».proof.Proof.FfnOutBlock
public import proofs.«01_k».proof.Proof.Blocks
public import Idealize.ShloMosaic.Lib.Pipeline.ValueKit.Tiles

@[expose] public section

set_option maxRecDepth 16384

noncomputable section

namespace Cert.FfnOutIdeal.Own

open Cert.FfnOutIdeal Cert.FfnOutIdeal.Gen Idealize.ShloMosaic Idealize.ShloMosaic.TcCoe Idealize.SL.Sem Idealize.ShloMosaic.ValueIdx Cert.Blocks

variable (m : (ℓ : Loc nD τ sig) → Buf (Elt Ideal) ℓ)

theorem mem_chunks : ∀ h : Fin 8, h ∈ chunksRev := by decide

/-- One chunk's payload: what it held plus the product of the rows with the chunk's weights. -/
theorem chunk_apply (x : Vec Ideal S1024x256 .bf16) (o : Vec Ideal S1024x512 .f32) (w : Vec Ideal S1x256x512 .f32) (a : Fin 1024) (e : Fin 512) :
    k0_pay4 x o w (ix2 a e) = o (ix2 a e) + ∑ k : Fin 256, (x (ix2 a k) * w (ix3 0 k e) : EReal) := by
  unfold k0_pay4
  rw [shapeCast_self]
  refine congrArg (fun v : EReal => o (ix2 a e) + v) ?_
  exact layer_matmul (M := 1024) (K := 256) (N := 512) x w _ _ a e

/-- What a point leaves at an index of the block. -/
def after (x : Vec Ideal S1024x256 .bf16) (w : Vec Ideal S1x256x4096 .f32) (o : Vec Ideal S1024x4096 .f32) (y : S1024x4096.Idx) : EReal :=
  o y + ∑ k : Fin 256, (x (ix2 (y 0 : Fin 1024) k) * w (ix3 0 k (y 1 : Fin 4096)) : EReal)

/-- One chunk's payload is the chunk of it. -/
theorem piece_apply (x : Vec Ideal S1024x256 .bf16) (w : Vec Ideal S1x256x4096 .f32) (o : Vec Ideal S1024x4096 .f32) (g : Fin 8) (a : Fin 1024) (e : Fin 512) :
    k0_pay4 x (View.ld o (colRect g)) (View.ld w (wRect g)) (ix2 a e) = after x w o ((colRect g).emb (ix2 a e)) := by
  refine (chunk_apply _ _ _ _ _).trans ?_
  unfold after
  have e0 : ((colRect g).emb (ix2 a e) 0 : Fin 1024) = a := Fin.ext (by show 0 + 1 * a.val = a.val; omega)
  rw [e0]
  refine congrArg₂ (fun u v : EReal => u + v) rfl (Finset.sum_congr rfl fun k _ => congrArg (x (ix2 a k) * ·) ?_)
  refine View.ld_unit_apply_of w _ _ _ _ (ix3 0 k ((colRect g).emb (ix2 a e) 1 : Fin 4096)) fun c => ?_
  match c with
  | ⟨0, _⟩ => rfl
  | ⟨1, _⟩ => show k.val = 0 + k.val; omega
  | ⟨2, _⟩ => show 512 * g.val + 1 * e.val = 512 * g.val + e.val; omega

/-- The block a point leaves, at an index: what it held before plus the point's part of the product. -/
theorem block_apply (x : Vec Ideal S1024x256 .bf16) (w : Vec Ideal S1x256x4096 .f32) (o : Vec Ideal S1024x4096 .f32)
    (R : List (View.Piece (Elt Ideal) S1024x4096 .f32)) (a : Fin 1024) (n : Fin 4096) :
    View.canon (pieces x w o ++ R) (ix2 a n) = o (ix2 a n) + ∑ k : Fin 256, (x (ix2 a k) * w (ix3 0 k n) : EReal) := by
  refine canon_append (Val := Elt Ideal) (e := .f32) (after x w o)
    R (pieces x w o) ?_ (ix2 a n) ?_
  · intro p hp y
    obtain ⟨g, -, rfl⟩ := List.mem_map.mp hp
    have ey : y = ix2 (y 0 : Fin 1024) (y 1 : Fin 512) := eq_ix2 (n0 := 1024) (n1 := 512) y
    exact (congrArg (k0_pay4 x (View.ld o (colRect g)) (View.ld w (wRect g))) ey).trans
      ((piece_apply x w o g (y 0) (y 1)).trans (congrArg (fun z => after x w o ((colRect g).emb z)) ey.symm))
  · have hn := n.isLt
    refine ⟨_, List.mem_map.mpr ⟨(⟨n.val / 512, by omega⟩ : Fin 8), mem_chunks _, rfl⟩, ?_⟩
    rw [Rect.mem_set_unit]
    intro c
    match c with
    | ⟨0, _⟩ => exact ⟨Nat.zero_le _, by show a.val < 0 + 1024; have := a.isLt; omega⟩
    | ⟨1, _⟩ => exact ⟨by show 512 * (n.val / 512) ≤ n.val; omega, by show n.val < 512 * (n.val / 512) + 512; omega⟩

/-- The activations and the weights, as launched. -/
abbrev actArg (c : Dev nD) : S8192x11008.Idx → EReal := m ((c : Thread nD τ).loc main_arg0)
abbrev wArg (c : Dev nD) : S2x11008x4096.Idx → EReal := m ((c : Thread nD τ).loc main_arg1)

/-- Term `j` of the product at row `i` and column `n`. -/
def term (c : Dev nD) (i : Fin 8192) (n : Fin 4096) (j : ℕ) : EReal :=
  if h : j < 11008 then actArg m c (ix2 i ⟨j, h⟩) * wArg m c (ix3 1 ⟨j, h⟩ n) else 0

theorem lt_N (t : Fin cfg0.N) : t.val < 344 := lt_of_lt_of_eq t.isLt (show cfg0.N = 344 from N_0)

theorem index_0 : ∀ t : Fin grid0.N, win0_0.index t = ![t.val / 43, t.val % 43] := by decide +kernel
theorem index_1 : ∀ t : Fin grid0.N, win0_1.index t = ![1, t.val % 43, 0] := by decide +kernel
theorem index_2 : ∀ t : Fin grid0.N, win0_2.index t = ![t.val / 43, 0] := by decide +kernel

/-- A point's blocks of the two arguments. -/
abbrev actBlk (c : Dev nD) (t : Fin cfg0.N) : S1024x256.Idx → EReal := iblk m c 0 t
abbrev wBlk (c : Dev nD) (t : Fin cfg0.N) : S1x256x4096.Idx → EReal := iblk m c 1 t

/-- A point's part of the product is its block of terms. -/
theorem part_eq (c : Dev nD) (t : Fin cfg0.N) (a : Fin 1024) (n : Fin 4096) (i : Fin 8192) (hi : i.val = 1024 * (t.val / 43) + a.val) (k : Fin 256) :
    actBlk m c t (ix2 a k) * wBlk m c t (ix3 0 k n)
      = term m c i n (256 * (t.val % 43) + k.val) := by
  have := k.isLt
  unfold term
  rw [dif_pos (by omega)]
  refine congrArg₂ (fun u v : EReal => u * v) ?_ ?_
  · unfold actBlk iblk
    rw [View.read_apply]
    show V m c main_arg0 _ = _
    rw [V_main_arg0]
    refine congrArg (actArg m c) (funext fun b => Fin.ext ?_)
    match b with
    | ⟨0, _⟩ => show win0_0.index t 0 * 1024 + 1 * a.val = i.val
                rw [index_0]; show t.val / 43 * 1024 + 1 * a.val = _; omega
    | ⟨1, _⟩ => show win0_0.index t 1 * 256 + 1 * k.val = 256 * (t.val % 43) + k.val
                rw [index_0]; show t.val % 43 * 256 + 1 * k.val = _; omega
  · unfold wBlk iblk
    rw [View.read_apply]
    show V m c main_arg1 _ = _
    rw [V_main_arg1]
    refine congrArg (wArg m c) (funext fun b => Fin.ext ?_)
    match b with
    | ⟨0, _⟩ => show win0_1.index t 0 * 1 + 1 * 0 = 1
                rw [index_1]; rfl
    | ⟨1, _⟩ => show win0_1.index t 1 * 256 + 1 * k.val = 256 * (t.val % 43) + k.val
                rw [index_1]; show t.val % 43 * 256 + 1 * k.val = _; omega
    | ⟨2, _⟩ => show win0_1.index t 2 * 4096 + 1 * n.val = n.val
                rw [index_1]; show 0 * 4096 + 1 * n.val = _; omega

/-- One step at an index: the block before plus the step's block of terms, the block before being zero at a first step. -/
theorem step (c : Dev nD) (t : Fin cfg0.N) (a : Fin 1024) (n : Fin 4096) (i : Fin 8192) (hi : i.val = 1024 * (t.val / 43) + a.val) :
    (outsAt0 m c t.val t.isLt : Vec Ideal S1024x4096 .f32) (ix2 a n)
      = (if t.val % 43 = 0 then 0 else (outsAt0 m c (t.val - 1) (Nat.lt_of_le_of_lt (Nat.sub_le _ _) t.isLt) : Vec Ideal S1024x4096 .f32) (ix2 a n))
        + ∑ k : Fin 256, term m c i n (256 * (t.val % 43) + k.val) := by
  by_cases h0 : t.val % 43 = 0
  · rw [out_A m c t h0, block_apply, if_pos h0]
    refine congrArg₂ (fun u v : EReal => u + v) ?_ (Finset.sum_congr rfl fun k _ => part_eq m c t a n i hi k)
    show Ideal.ofBits .f32 0x00000000#32 = 0
    exact Ideal.ofBits_zero_f32
  · rw [out_B m c t h0, if_neg h0]
    have hb := block_apply (iblk m c 0 t) (iblk m c 1 t) (outsAt0 m c (t.val - 1) (Nat.lt_of_le_of_lt (Nat.sub_le _ _) t.isLt)) [] a n
    rw [List.append_nil] at hb
    rw [hb]
    exact congrArg₂ (fun u v : EReal => u + v) rfl (Finset.sum_congr rfl fun k _ => part_eq m c t a n i hi k)

/-- **The accumulation**: after step `k` of its row block the output block holds the first `256 (k + 1)` terms. -/
theorem accumulated (c : Dev nD) (a : Fin 1024) (n : Fin 4096) : ∀ (t : ℕ) (ht : t < cfg0.N) (i : Fin 8192), i.val = 1024 * (t / 43) + a.val →
    (outsAt0 m c t ht : Vec Ideal S1024x4096 .f32) (ix2 a n) = ∑ j ∈ Finset.range (256 * (t % 43) + 256), term m c i n j
  | 0, ht, i, hi => by
    rw [step m c ⟨0, ht⟩ a n i hi, ← sum_block]; rfl
  | t + 1, ht, i, hi => by
    rw [step m c ⟨t + 1, ht⟩ a n i hi, ← sum_block]
    refine congrArg₂ (fun u v : EReal => u + v) ?_ rfl
    by_cases h0 : (t + 1) % 43 = 0
    · rw [if_pos h0, h0]; rfl
    · rw [if_neg h0]
      have e : (t + 1) % 43 = t % 43 + 1 := by omega
      rw [e]
      exact accumulated c a n t (by omega) i (hi.trans (by rw [show (t + 1) / 43 = t / 43 by omega]))

/-- The whole product. -/
def result (c : Dev nD) : S8192x4096.Idx → EReal := fun y =>
  ∑ j : Fin 11008, actArg m c (ix2 (y 0 : Fin 8192) j) * wArg m c (ix3 1 j (y 1 : Fin 4096))

theorem sum_terms (c : Dev nD) (i : Fin 8192) (n : Fin 4096) :
    ∑ j ∈ Finset.range 11008, term m c i n j = ∑ j : Fin 11008, actArg m c (ix2 i j) * wArg m c (ix3 1 j n) := by
  rw [Finset.sum_range]
  refine Finset.sum_congr rfl fun j _ => ?_
  unfold term
  rw [dif_pos j.isLt]

/-- A point that writes its block back writes its block of the product. -/
theorem flushed_eq (c : Dev nD) (t : Fin cfg0.N) (hf : (cfg0.win 2).flush t = true) :
    (dats m 0 c).flushed 2 t = ((cfg0.win 2).blk t).view.read (Elt Ideal) (result m c) := by
  have hN := lt_N t
  have h42 : t.val % 43 = 42 := (flush0_2 t).mp hf
  rw [Value.flushed2]
  funext y
  rw [View.read_apply]
  have y0 : (y 0).val < 1024 := (y 0).isLt
  have y1 : (y 1).val < 4096 := (y 1).isLt
  have e := accumulated m c ⟨(y 0).val, y0⟩ ⟨(y 1).val, y1⟩ t.val t.isLt ⟨1024 * (t.val / 43) + (y 0).val, by omega⟩ rfl
  rw [h42] at e
  have e' := e.trans (sum_terms m c _ _)
  refine Eq.trans ?_ (e'.trans ?_)
  · show (outsAt0 m c t.val t.isLt : Vec Ideal S1024x4096 .f32) _ = _
    refine congrArg (outsAt0 m c t.val t.isLt : Vec Ideal S1024x4096 .f32) (funext fun b => Fin.ext ?_)
    match b with
    | ⟨0, _⟩ => rfl
    | ⟨1, _⟩ => rfl
  · unfold result
    have r0 : (⟨1024 * (t.val / 43) + (y 0).val, by omega⟩ : Fin 8192) = ((((cfg0.win 2).blk t).view.emb y) 0 : Fin 8192) := Fin.ext (by
      show _ = win0_2.index t 0 * 1024 + 1 * (y 0).val
      rw [index_2]; show _ = t.val / 43 * 1024 + 1 * (y 0).val; dsimp only; omega)
    have r1 : (⟨(y 1).val, y1⟩ : Fin 4096) = ((((cfg0.win 2).blk t).view.emb y) 1 : Fin 4096) := Fin.ext (by
      show _ = win0_2.index t 1 * 4096 + 1 * (y 1).val
      rw [index_2]; show _ = 0 * 4096 + 1 * (y 1).val; dsimp only; omega)
    rw [r0, r1]
    rfl

/-- The result array ends holding the product. -/
theorem final_o (c : Dev nD) : (dats m 0 c).arrAt 2 cfg0.N = result m c :=
  (dats m 0 c).arrAt_eq_of_cover 2 (result m c) (flushed_eq m c) fun i => by
    have h0 : (i 0 : Nat) < 8192 := (i 0).isLt
    have h1 : (i 1 : Nat) < 4096 := (i 1).isLt
    have hN : cfg0.N = 344 := N_0
    have ht : (i 0 : Nat) / 1024 * 43 + 42 < cfg0.N := by omega
    refine ⟨⟨(i 0 : Nat) / 1024 * 43 + 42, ht⟩, (flush0_2 _).mpr (by dsimp only; omega), ?_⟩
    show i ∈ ((View.whole main_v0).slice (win0_2.rect ⟨(i 0 : Nat) / 1024 * 43 + 42, ht⟩)).set
    rw [View.set_slice_whole, Rect.mem_set_unit]
    intro b
    match b with
    | ⟨0, _⟩ => show win0_2.index _ 0 * 1024 ≤ (i 0 : Nat) ∧ (i 0 : Nat) < win0_2.index _ 0 * 1024 + 1024
                rw [index_2]; show ((i 0 : Nat) / 1024 * 43 + 42) / 43 * 1024 ≤ (i 0 : Nat) ∧ (i 0 : Nat) < ((i 0 : Nat) / 1024 * 43 + 42) / 43 * 1024 + 1024; omega
    | ⟨1, _⟩ => show win0_2.index _ 1 * 4096 ≤ (i 1 : Nat) ∧ (i 1 : Nat) < win0_2.index _ 1 * 4096 + 4096
                rw [index_2]; show 0 * 4096 ≤ (i 1 : Nat) ∧ (i 1 : Nat) < 0 * 4096 + 4096; omega

end Cert.FfnOutIdeal.Own

end
-- ==== Proof.FfnOut.lean ====
/-
  The claims about the down projection of the feed-forward block (second layer): the frames of the kernel and of the
  reference, and the equality of their results over the extended reals, with no condition on the arguments.
-/
module

public import proofs.«01_k».proof.Defs
public import proofs.«01_k».proof.Proof.FfnOutValue
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Value
public import proofs.«01_k».proof.Proof.Gen.FfnOutRefIdeal
public import proofs.«01_k».proof.Proof.Gen.FfnOutRefIdeal.Read
public import Idealize.ShloMosaic.Lib.Quiescent

@[expose] public section

set_option maxRecDepth 16384

noncomputable section

namespace Cert.Proof.FfnOut

open Idealize.ShloMosaic Idealize.ShloMosaic.TcCoe Idealize.SL.Sem Idealize.ShloMosaic.ValueIdx
open Cert.FfnOutRefIdeal.Read

/-- The reference's product at an index is the kernel's. -/
theorem results (m : (ℓ : Loc Cert.FfnOutIdeal.nD Cert.FfnOutIdeal.τ Cert.FfnOutIdeal.sig) → Buf (Elt Ideal) ℓ) (c : Dev Cert.FfnOutIdeal.nD) :
    val_main_v3 (F := Ideal) (Cert.FfnOutIdeal.Own.actArg m c) (Cert.FfnOutIdeal.Own.wArg m c) = Cert.FfnOutIdeal.Own.result m c := by
  funext i
  rw [val_main_v3_apply]
  unfold Cert.FfnOutIdeal.Own.result
  refine Finset.sum_congr rfl fun k _ => congrArg₂ (fun u v : EReal => u * v) ?_ ?_
  · rw [val_main_v0_apply]
    refine congrArg (Cert.FfnOutIdeal.Own.actArg m c) (funext fun b => Fin.ext ?_)
    match b with
    | ⟨0, _⟩ => rfl
    | ⟨1, _⟩ => rfl
  · have h1 : (i 1).val < 4096 := (i 1).isLt
    rw [val_main_v2_apply, val_main_v1_apply]
    refine congrArg (Cert.FfnOutIdeal.Own.wArg m c) (funext fun b => Fin.ext ?_)
    match b with
    | ⟨0, _⟩ => rfl
    | ⟨1, _⟩ => show (k.val * 4096 + (i 1).val) / 4096 % 11008 = k.val; omega
    | ⟨2, _⟩ => show (k.val * 4096 + (i 1).val) % 4096 = (i 1).val; omega

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ =>
  (θ_run Cert.FfnOutRefIdeal.defs _ _).mono
    (fun r h => ⟨fun c => (h c).2, Idealize.ShloMosaic.sem_eq_zero_of_no_sems (by decide) r.2⟩)
    (Cert.FfnOutRefIdeal.Value.run (F := Ideal) m ρ)

theorem preserves : Cert.preserves_FfnOut_FfnOutIdeal := trivial

/-- **The kernel and the reference end with equal results** from equal arguments. -/
theorem algebraic : Cert.algebraic_FfnOutIdeal_FfnOutRefIdeal := fun m ρ m' ρ' _ hag =>
  ⟨fun c => Cert.FfnOutIdeal.Own.result m c,
    (θ_run Cert.FfnOutIdeal.defs _ _).mono (fun r h c => ⟨(h c).1.trans (Cert.FfnOutIdeal.Own.final_o m c), (h c).2⟩)
      (Cert.FfnOutIdeal.Value.run_blocks m ρ),
    (θ_run Cert.FfnOutRefIdeal.defs _ _).mono
      (fun r h c => by
        refine ⟨(h c).1.trans ?_, (h c).2⟩
        rw [val_main_v3_eq, (hag c).1, (hag c).2]
        exact results m c)
      (Cert.FfnOutRefIdeal.Value.run (F := Ideal) m' ρ')⟩

end Cert.Proof.FfnOut

end
-- ==== Proof.OutProjValue.lean ====
/-
  The output projection at the ideal values: each block of the result is the product of its rows of the attention
  output with the first 3072 weight rows plus the product of its rows of the memory output with the last 1024.
-/
module

public import proofs.«01_k».proof.Proof.Gen.OutProjIdeal.Value
public import Idealize.ShloMosaic.Lib.Pipeline.ReadBack
public import proofs.«01_k».proof.Proof.Blocks

@[expose] public section

set_option maxRecDepth 16384

noncomputable section

namespace Cert.OutProjIdeal.Own

open Cert.OutProjIdeal Cert.OutProjIdeal.Gen Idealize.ShloMosaic Idealize.ShloMosaic.TcCoe Idealize.SL.Sem Idealize.ShloMosaic.ValueIdx Cert.Blocks

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block a point leaves is its one payload of the point's four blocks. -/
theorem out_A (c : Dev nD) (t : Fin cfg0.N) :
    outsAt0 m c t = k0_pay1 (iblk m c 0 t) (X0_2 m c t) (iblk m c 1 t) (iblk m c 3 t) := by
  unfold outsAt0 out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (X0_2 m c t) (iblk m c 3 t))]
  unfold kernelRun0_A
  dsimp only
  sl_unfold_words
  simp only [View.readAt_eq_ld, (hs0_0 t).read_unread, (hs0_1 t).read_unread, (hs0_2 t).read_unread, (hs0_3 t).read_unread]
  rw [View.canon_unit_zero zero2, View.ld_unit_zero (S := S1024x3072) zero2, View.ld_unit_zero (S := S1024x1024) zero2,
    View.ld_unit_zero (S := S1x3072x512) zero3, View.ld_unit_zero (S := S1x1024x512) zero3]

/-- The payload at an index. -/
theorem payload_apply (x : Vec Ideal S1024x3072 .bf16) (wx : Vec Ideal S1x3072x512 .f32) (y : Vec Ideal S1024x1024 .bf16) (wy : Vec Ideal S1x1024x512 .f32)
    (a : Fin 1024) (e : Fin 512) :
    k0_pay1 x wx y wy (ix2 a e)
      = (∑ k : Fin 3072, (x (ix2 a k) * wx (ix3 0 k e) : EReal)) + ∑ k : Fin 1024, (y (ix2 a k) * wy (ix3 0 k e) : EReal) := by
  unfold k0_pay1
  exact congrArg₂ (fun u v : EReal => u + v) (layer_matmul (M := 1024) (K := 3072) (N := 512) x wx _ _ a e)
    (layer_matmul (M := 1024) (K := 1024) (N := 512) y wy _ _ a e)

/-- The attention output, the memory output and the weights, as launched. -/
abbrev attnArg (c : Dev nD) : S8192x3072.Idx → EReal := m ((c : Thread nD τ).loc main_arg0)
abbrev memArg (c : Dev nD) : S8192x1024.Idx → EReal := m ((c : Thread nD τ).loc main_arg1)
abbrev wArg (c : Dev nD) : S1x4096x4096.Idx → EReal := m ((c : Thread nD τ).loc main_arg2)

/-- A point's four blocks. -/
abbrev attnBlk (c : Dev nD) (t : Fin cfg0.N) : S1024x3072.Idx → EReal := iblk m c 0 t
abbrev memBlk (c : Dev nD) (t : Fin cfg0.N) : S1024x1024.Idx → EReal := iblk m c 1 t
abbrev wTop (c : Dev nD) (t : Fin cfg0.N) : S1x3072x512.Idx → EReal := X0_2 m c t
abbrev wLow (c : Dev nD) (t : Fin cfg0.N) : S1x1024x512.Idx → EReal := iblk m c 3 t

theorem lt_N (t : Fin cfg0.N) : t.val < 64 := lt_of_lt_of_eq t.isLt (show cfg0.N = 64 from N_0)

theorem index_0 : ∀ t : Fin grid0.N, win0_0.index t = ![t.val / 8, 0] := by decide +kernel
theorem index_1 : ∀ t : Fin grid0.N, win0_1.index t = ![t.val / 8, 0] := by decide +kernel
theorem index_2 : ∀ t : Fin grid0.N, win0_2.index t = ![0, 0, t.val % 8] := by decide +kernel
theorem index_3 : ∀ t : Fin grid0.N, win0_3.index t = ![0, 3, t.val % 8] := by decide +kernel
theorem index_4 : ∀ t : Fin grid0.N, win0_4.index t = ![t.val / 8, t.val % 8] := by decide +kernel

theorem attnBlk_apply (c : Dev nD) (t : Fin cfg0.N) (a : Fin 1024) (k : Fin 3072) (i : Fin 8192) (hi : i.val = 1024 * (t.val / 8) + a.val) :
    attnBlk m c t (ix2 a k) = attnArg m c (ix2 i k) := by
  unfold attnBlk iblk
  rw [View.read_apply]
  show V m c main_arg0 _ = _
  rw [V_main_arg0]
  refine congrArg (attnArg m c) (funext fun b => Fin.ext ?_)
  match b with
  | ⟨0, _⟩ => show win0_0.index t 0 * 1024 + 1 * a.val = i.val
              rw [index_0]; show t.val / 8 * 1024 + 1 * a.val = _; omega
  | ⟨1, _⟩ => show win0_0.index t 1 * 3072 + 1 * k.val = k.val
              rw [index_0]; show 0 * 3072 + 1 * k.val = _; omega

theorem memBlk_apply (c : Dev nD) (t : Fin cfg0.N) (a : Fin 1024) (k : Fin 1024) (i : Fin 8192) (hi : i.val = 1024 * (t.val / 8) + a.val) :
    memBlk m c t (ix2 a k) = memArg m c (ix2 i k) := by
  unfold memBlk iblk
  rw [View.read_apply]
  show V m c main_arg1 _ = _
  rw [V_main_arg1]
  refine congrArg (memArg m c) (funext fun b => Fin.ext ?_)
  match b with
  | ⟨0, _⟩ => show win0_1.index t 0 * 1024 + 1 * a.val = i.val
              rw [index_1]; show t.val / 8 * 1024 + 1 * a.val = _; omega
  | ⟨1, _⟩ => show win0_1.index t 1 * 1024 + 1 * k.val = k.val
              rw [index_1]; show 0 * 1024 + 1 * k.val = _; omega

theorem wTop_apply (c : Dev nD) (t : Fin cfg0.N) (k : Fin 3072) (e : Fin 512) (j n : Fin 4096) (hj : j.val = k.val) (hn : n.val = 512 * (t.val % 8) + e.val) :
    wTop m c t (ix3 0 k e) = wArg m c (ix3 0 j n) := by
  unfold wTop X0_2 Pipeline.Window.fill
  rw [dif_pos (moved0_2 t _)]
  unfold iblk
  rw [View.read_apply]
  show V m c main_arg2 _ = _
  rw [V_main_arg2]
  refine congrArg (wArg m c) (funext fun b => Fin.ext ?_)
  match b with
  | ⟨0, _⟩ => show win0_2.index t 0 * 1 + 1 * 0 = 0
              rw [index_2]; rfl
  | ⟨1, _⟩ => show win0_2.index t 1 * 3072 + 1 * k.val = j.val
              rw [index_2]; show 0 * 3072 + 1 * k.val = _; omega
  | ⟨2, _⟩ => show win0_2.index t 2 * 512 + 1 * e.val = n.val
              rw [index_2]; show t.val % 8 * 512 + 1 * e.val = _; omega

theorem wLow_apply (c : Dev nD) (t : Fin cfg0.N) (k : Fin 1024) (e : Fin 512) (j n : Fin 4096) (hj : j.val = 3072 + k.val) (hn : n.val = 512 * (t.val % 8) + e.val) :
    wLow m c t (ix3 0 k e) = wArg m c (ix3 0 j n) := by
  unfold wLow iblk
  rw [View.read_apply]
  show V m c main_arg2 _ = _
  rw [V_main_arg2]
  refine congrArg (wArg m c) (funext fun b => Fin.ext ?_)
  match b with
  | ⟨0, _⟩ => show win0_3.index t 0 * 1 + 1 * 0 = 0
              rw [index_3]; rfl
  | ⟨1, _⟩ => show win0_3.index t 1 * 1024 + 1 * k.val = j.val
              rw [index_3]; show 3 * 1024 + 1 * k.val = _; omega
  | ⟨2, _⟩ => show win0_3.index t 2 * 512 + 1 * e.val = n.val
              rw [index_3]; show t.val % 8 * 512 + 1 * e.val = _; omega

/-- The whole result: the attention part plus the memory part. -/
def result (c : Dev nD) : S8192x4096.Idx → EReal := fun y =>
  (∑ k : Fin 3072, attnArg m c (ix2 (y 0 : Fin 8192) k) * wArg m c (ix3 0 (⟨k.val, by omega⟩ : Fin 4096) (y 1 : Fin 4096)))
    + ∑ k : Fin 1024, memArg m c (ix2 (y 0 : Fin 8192) k) * wArg m c (ix3 0 (⟨3072 + k.val, by omega⟩ : Fin 4096) (y 1 : Fin 4096))

theorem point (c : Dev nD) (t : Fin cfg0.N) (a : Fin 1024) (e : Fin 512) (i : Fin 8192) (n : Fin 4096)
    (hi : i.val = 1024 * (t.val / 8) + a.val) (hn : n.val = 512 * (t.val % 8) + e.val) :
    (outsAt0 m c t : Vec Ideal S1024x512 .f32) (ix2 a e) = result m c (ix2 i n) := by
  rw [out_A, payload_apply]
  exact congrArg₂ (fun u v : EReal => u + v)
    (Finset.sum_congr rfl fun k _ => congrArg₂ (fun u v : EReal => u * v) (attnBlk_apply m c t a k i hi) (wTop_apply m c t k e _ n rfl hn))
    (Finset.sum_congr rfl fun k _ => congrArg₂ (fun u v : EReal => u * v) (memBlk_apply m c t a k i hi) (wLow_apply m c t k e _ n rfl hn))

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [Value.flushed4]
  funext y
  rw [View.read_apply]
  have y0 : (y 0).val < 1024 := (y 0).isLt
  have y1 : (y 1).val < 512 := (y 1).isLt
  have e := point m c t ⟨(y 0).val, y0⟩ ⟨(y 1).val, y1⟩ ⟨1024 * (t.val / 8) + (y 0).val, by omega⟩ ⟨512 * (t.val % 8) + (y 1).val, by omega⟩ rfl rfl
  refine Eq.trans ?_ (e.trans ?_)
  · show (outsAt0 m c t : Vec Ideal S1024x512 .f32) _ = _
    refine congrArg (outsAt0 m c t : Vec Ideal S1024x512 .f32) (funext fun b => Fin.ext ?_)
    match b with
    | ⟨0, _⟩ => rfl
    | ⟨1, _⟩ => rfl
  · refine congrArg (result m c) (funext fun b => Fin.ext ?_)
    match b with
    | ⟨0, _⟩ => show 1024 * (t.val / 8) + (y 0).val = win0_4.index t 0 * 1024 + 1 * (y 0).val
                rw [index_4]; show _ = t.val / 8 * 1024 + 1 * (y 0).val; omega
    | ⟨1, _⟩ => show 512 * (t.val % 8) + (y 1).val = win0_4.index t 1 * 512 + 1 * (y 1).val
                rw [index_4]; show _ = t.val % 8 * 512 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 4096 := (i 1).isLt
    have hN : cfg0.N = 64 := N_0
    have ht : (i 0 : Nat) / 1024 * 8 + (i 1 : Nat) / 512 < cfg0.N := by omega
    refine ⟨⟨(i 0 : Nat) / 1024 * 8 + (i 1 : Nat) / 512, ht⟩, flush0_4 _, ?_⟩
    show i ∈ ((View.whole main_v0).slice (win0_4.rect ⟨(i 0 : Nat) / 1024 * 8 + (i 1 : Nat) / 512, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 8 + (i 1 : Nat) / 512) / 8 * 1024 ≤ (i 0 : Nat) ∧ (i 0 : Nat) < ((i 0 : Nat) / 1024 * 8 + (i 1 : Nat) / 512) / 8 * 1024 + 1024
                omega
    | ⟨1, _⟩ => show win0_4.index _ 1 * 512 ≤ (i 1 : Nat) ∧ (i 1 : Nat) < win0_4.index _ 1 * 512 + 512
                rw [index_4]
                show ((i 0 : Nat) / 1024 * 8 + (i 1 : Nat) / 512) % 8 * 512 ≤ (i 1 : Nat) ∧ (i 1 : Nat) < ((i 0 : Nat) / 1024 * 8 + (i 1 : Nat) / 512) % 8 * 512 + 512
                omega

end Cert.OutProjIdeal.Own

end
-- ==== Proof.OutProj.lean ====
/-
  The claims about the output projection (first layer): the frames of the kernel and of the reference, and the
  equality of their results over the extended reals, with no condition on the arguments.
-/
module

public import proofs.«01_k».proof.Defs
public import proofs.«01_k».proof.Proof.OutProjValue
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Read
public import Idealize.ShloMosaic.Lib.Quiescent

@[expose] public section

set_option maxRecDepth 16384

noncomputable section

namespace Cert.Proof.OutProj

open Idealize.ShloMosaic Idealize.ShloMosaic.TcCoe Idealize.SL.Sem Idealize.ShloMosaic.ValueIdx
open Cert.OutProjRefIdeal Cert.OutProjRefIdeal.Read

/-- A column of the joined rows before 3072 is the attention output's. -/
theorem joined_left (x : (⟨S8192x3072, .bf16⟩ : BufTy).Contents (Elt Ideal)) (y : (⟨S8192x1024, .bf16⟩ : BufTy).Contents (Elt Ideal))
    (i : Fin 8192) (j : Fin 4096) (k : Fin 3072) (hj : j.val = k.val) : val_main_v0 (F := Ideal) x y (ix2 i j) = x (ix2 i k) := by
  unfold val_main_v0
  refine concatenate_pair_apply_left (t := S8192x4096) (s₁ := S8192x3072) (s₂ := S8192x1024) 1 x y _ _ rfl (ix2 i k) fun c => ?_
  match c with
  | ⟨0, _⟩ => rfl
  | ⟨1, _⟩ => exact hj.symm

/-- A column from 3072 on is the memory output's. -/
theorem joined_right (x : (⟨S8192x3072, .bf16⟩ : BufTy).Contents (Elt Ideal)) (y : (⟨S8192x1024, .bf16⟩ : BufTy).Contents (Elt Ideal))
    (i : Fin 8192) (j : Fin 4096) (k : Fin 1024) (hj : j.val = 3072 + k.val) : val_main_v0 (F := Ideal) x y (ix2 i j) = y (ix2 i k) := by
  unfold val_main_v0
  refine concatenate_pair_apply_right (t := S8192x4096) (s₁ := S8192x3072) (s₂ := S8192x1024) 1 x y _ _ rfl rfl (ix2 i k) (fun c hc => ?_) ?_
  · match c with
    | ⟨0, _⟩ => rfl
    | ⟨1, _⟩ => exact absurd rfl hc
  · show k.val + 3072 = j.val
    omega

theorem weight (w : (⟨S1x4096x4096, .f32⟩ : BufTy).Contents (Elt Ideal)) (j n : Fin 4096) :
    val_main_v2 (F := Ideal) w (ix2 j n) = w (ix3 0 j n) := by
  rw [val_main_v2_apply]
  have := n.isLt
  have := j.isLt
  refine congrArg w (funext fun b => Fin.ext ?_)
  match b with
  | ⟨0, _⟩ => rfl
  | ⟨1, _⟩ => show (j.val * 4096 + n.val) / 4096 % 4096 = j.val; omega
  | ⟨2, _⟩ => show (j.val * 4096 + n.val) % 4096 = n.val; omega

/-- The reference's product at an index is the kernel's two products added. -/
theorem results (m : (ℓ : Loc Cert.OutProjIdeal.nD Cert.OutProjIdeal.τ Cert.OutProjIdeal.sig) → Buf (Elt Ideal) ℓ) (c : Dev Cert.OutProjIdeal.nD) :
    val_main_v3 (F := Ideal) (Cert.OutProjIdeal.Own.attnArg m c) (Cert.OutProjIdeal.Own.memArg m c) (Cert.OutProjIdeal.Own.wArg m c) = Cert.OutProjIdeal.Own.result m c := by
  funext i
  rw [val_main_v3_apply]
  unfold Cert.OutProjIdeal.Own.result
  have split := Fin.sum_univ_add (a := 3072) (b := 1024) fun k : Fin 4096 =>
    (val_main_v1 (F := Ideal) (Cert.OutProjIdeal.Own.attnArg m c) (Cert.OutProjIdeal.Own.memArg m c) (ix2 (i 0 : Fin 8192) k)
      * val_main_v2 (F := Ideal) (Cert.OutProjIdeal.Own.wArg m c) (ix2 k (i 1 : Fin 4096)) : EReal)
  refine Eq.trans ?_ (split.trans ?_)
  · refine Finset.sum_congr rfl fun k _ => congrArg₂ (fun u v : EReal => u * v) (congrArg _ ?_) (congrArg _ ?_)
    all_goals
      funext b
      match b with
      | ⟨0, _⟩ => rfl
      | ⟨1, _⟩ => rfl
  · refine congrArg₂ (fun u v : EReal => u + v) (Finset.sum_congr rfl fun k _ => ?_) (Finset.sum_congr rfl fun k _ => ?_)
    · refine congrArg₂ (fun u v : EReal => u * v) ?_ (weight _ _ _)
      rw [val_main_v1_apply]
      exact joined_left _ _ _ _ k rfl
    · refine congrArg₂ (fun u v : EReal => u * v) ?_ (weight _ _ _)
      rw [val_main_v1_apply]
      exact joined_right _ _ _ _ k rfl

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

theorem preserves : Cert.preserves_OutProj_OutProjIdeal := trivial

/-- **The kernel and the reference end with equal results** from equal arguments. -/
theorem algebraic : Cert.algebraic_OutProjIdeal_OutProjRefIdeal := fun m ρ m' ρ' _ hag =>
  ⟨fun c => Cert.OutProjIdeal.Own.result m c,
    (θ_run Cert.OutProjIdeal.defs _ _).mono (fun r h c => ⟨(h c).1.trans (Cert.OutProjIdeal.Own.final_o m c), (h c).2⟩)
      (Cert.OutProjIdeal.Value.run_blocks m ρ),
    (θ_run Cert.OutProjRefIdeal.defs _ _).mono
      (fun r h c => by
        refine ⟨(h c).1.trans ?_, (h c).2⟩
        rw [val_main_v3_eq, (hag c).1, (hag c).2.1, (hag c).2.2]
        exact results m c)
      (Cert.OutProjRefIdeal.Value.run (F := Ideal) m' ρ')⟩

end Cert.Proof.OutProj

end
-- ==== Proof.FfnInRun.lean ====
/-
  One point of the gated feed-forward input kernel, run on any staging memrefs and any contents of its two scratch
  buffers: what it stores, as pieces.
-/
module

public import proofs.«01_k».proof.Proof.Gen.FfnInIdeal.Launch
public import proofs.«01_k».proof.Proof.Gen.FfnInIdeal.Skeleton
public import proofs.«01_k».proof.Proof.Gen.FfnInIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnInIdeal.Own

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a point stores into its result block and into its two scratch buffers, from the four input blocks and the
    scratch as found, with the body's triple: the inputs stay, the result block ends as some contents with its pieces
    written, each scratch as found with its pieces written. -/
noncomputable def kernelRun (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1024x256 .bf16) (harg6 : arg6.IsWhole) (arg7 : Memref sig .tc .vmem S1032x256 .f32) (harg7 : arg7.IsWhole) (arg8 : Memref sig .tc .vmem S43x8x256 .f32) (harg8 : arg8.IsWhole)
    (x0 : Vec F S1024x4096 .bf16) (x1 : Vec F S1x4096x256 .f32) (x2 : Vec F S1x4096x256 .f32) (x3 : Vec F S1x3x256 .f32) (xs0 : Vec F S1032x256 .f32) (xs1 : Vec F S43x8x256 .f32) :
    Σ' (L4 : List (View.Piece (Elt F) S1024x256 .bf16)), Σ' (LS0 : List (View.Piece (Elt F) S1032x256 .f32)), { LS1 : List (View.Piece (Elt F) S43x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
              ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_ffn_in i arg2 harg2 arg3 harg3 arg4 harg4 arg5 harg5 arg6 harg6 arg7 harg7 arg8 harg8) K } := by
  refine ⟨?_, ?_, ?_, fun E K => ?run⟩
  case run =>
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexact HS0
    iexact HS1

end Cert.FfnInIdeal.Own

end
-- ==== Proof.FfnInPoint.lean ====
/-
  The gated feed-forward input kernel, any number system: what each point leaves in its result block, what the carried
  tails hold, the proof data, the body's triple at every point, and the run with its frame.
-/
module

public import proofs.«01_k».proof.Proof.FfnInRun
public import Idealize.ShloMosaic.Lib.Claim
public import Idealize.ShloMosaic.Lib.WritesUnit
public import Idealize.ShloMosaic.Lib.Pipeline.ReadBack

@[expose] public section

set_option maxRecDepth 16384

noncomputable section

namespace Cert.FfnInIdeal.Own

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- The extended rows: the eight rows before the block, then the block's rows. -/
def extPieces (i : grid0.Coords) (x0 : Vec F S1024x4096 .bf16) (x1 : Vec F S1x4096x256 .f32) (p : Vec F S1x8x256 .f32) : List (View.Piece (Elt F) S1032x256 .f32) :=
  [⟨Rect.unit (s := S1032x256) ![8, 0] S1024x256.size inb_S1032x256_S1024x256_8_0, k0_pay5 x0 x1⟩,
   ⟨Rect.unit (s := S1032x256) ![0, 0] S8x256.size inb_S1032x256_S8x256_0_0, k0_pay4 i p⟩]

/-- The result block of a point, from its four input blocks and the tail `p` of the column's rows before the block. -/
def point (i : grid0.Coords) (x0 : Vec F S1024x4096 .bf16) (x1 : Vec F S1x4096x256 .f32) (x2 : Vec F S1x4096x256 .f32) (x3 : Vec F S1x3x256 .f32) (p : Vec F S1x8x256 .f32) : Vec F S1024x256 .bf16 :=
  k0_pay1 (k0_pay2 x0 x1) (k0_pay3 x0 x2)
    (View.ld (View.canon (extPieces i x0 x1 p)) (Rect.unit (s := S1032x256) ![7, 0] S1024x256.size inb_S1032x256_S1024x256_7_0))
    (View.ld (View.canon (extPieces i x0 x1 p)) (Rect.unit (s := S1032x256) ![6, 0] S1024x256.size inb_S1032x256_S1024x256_6_0))
    (View.ld x3 (Rect.unit (s := S1x3x256) ![0, 0, 0] S1x1x256.size inb_S1x3x256_S1x1x256_0_0_0))
    (View.ld x3 (Rect.unit (s := S1x3x256) ![0, 1, 0] S1x1x256.size inb_S1x3x256_S1x1x256_0_1_0))
    (View.ld x3 (Rect.unit (s := S1x3x256) ![0, 2, 0] S1x1x256.size inb_S1x3x256_S1x1x256_0_2_0))

/-- The rectangle of a point's column in the carried tails. -/
abbrev tailRect (i : grid0.Coords) : Rect S43x8x256 := Rect.unit (s := S43x8x256) (k0_off1 i) S1x8x256.size (k0_off1_inb i)

theorem zero2 : (![0, 0] : Fin 2 → Nat) = fun _ => 0 := funext fun a => by fin_cases a <;> rfl
theorem zero3 : (![0, 0, 0] : Fin 3 → Nat) = fun _ => 0 := funext fun a => by fin_cases a <;> rfl

/-- The two stores of the extended rows fill the buffer. -/
theorem ext_cover (i : grid0.Coords) (x0 : Vec F S1024x4096 .bf16) (x1 : Vec F S1x4096x256 .f32) (p : Vec F S1x8x256 .f32) (y : S1032x256.Idx) :
    ∃ pc ∈ extPieces i x0 x1 p, y ∈ pc.1.set := by
  have h0 : (y 0).val < 1032 := (y 0).isLt
  have h1 : (y 1).val < 256 := (y 1).isLt
  unfold extPieces
  by_cases h : (y 0).val < 8
  · refine ⟨_, List.mem_cons_of_mem _ (List.mem_singleton.mpr rfl), ?_⟩
    rw [Rect.mem_set_unit]
    intro a
    match a with
    | ⟨0, _⟩ => exact ⟨Nat.zero_le _, (show (y 0).val < 0 + 8 by omega)⟩
    | ⟨1, _⟩ => exact ⟨Nat.zero_le _, (show (y 1).val < 0 + 256 by omega)⟩
  · refine ⟨_, List.mem_cons_self, ?_⟩
    rw [Rect.mem_set_unit]
    intro a
    match a with
    | ⟨0, _⟩ => exact ⟨(show 8 ≤ (y 0).val by omega), (show (y 0).val < 8 + 1024 by omega)⟩
    | ⟨1, _⟩ => exact ⟨Nat.zero_le _, (show (y 1).val < 0 + 256 by omega)⟩

/-- A load over the two stores reads the extended rows. -/
theorem ext_read (arg7 : Memref sig .tc .vmem S1032x256 .f32) (i : grid0.Coords) (x0 : Vec F S1024x4096 .bf16) (x1 : Vec F S1x4096x256 .f32) (p : Vec F S1x8x256 .f32)
    (r : Rect S1032x256) : arg7.view.readCov (extPieces i x0 x1 p) r.toLoadRect = View.ld (View.canon (extPieces i x0 x1 p)) r := by
  unfold View.readCov
  rw [View.readAt_eq_ld, View.read_writes_eq_canon _ _ _ (ext_cover i x0 x1 p)]

/-- The result block after a store of the whole of it. -/
theorem whole_read (v : View sig .tc .vmem S1024x256 .bf16) (f : v.ty.shape.Idx → Elt F v.ty.elt) (w : Vec F S1024x256 .bf16) :
    v.read (Elt F) (v.writes (Elt F) f [⟨Rect.unit (s := S1024x256) ![0, 0] S1024x256.size inb_S1024x256_S1024x256_0_0, w⟩]) = w :=
  (View.read_writes_eq_canon v f _ (fun y => ⟨_, List.mem_singleton.mpr rfl, by
    rw [Rect.mem_set_unit]
    intro a
    match a with
    | ⟨0, _⟩ => exact ⟨Nat.zero_le _, (show (y 0).val < 0 + 1024 by have := (y 0).isLt; simpa using this)⟩
    | ⟨1, _⟩ => exact ⟨Nat.zero_le _, (show (y 1).val < 0 + 256 by have := (y 1).isLt; simpa using this)⟩⟩)).trans
    (View.canon_unit_zero (S := S1024x256) zero2 _ _)

section Run

variable (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1024x256 .bf16) (harg6 : arg6.IsWhole) (arg7 : Memref sig .tc .vmem S1032x256 .f32) (harg7 : arg7.IsWhole) (arg8 : Memref sig .tc .vmem S43x8x256 .f32) (harg8 : arg8.IsWhole)
  (x0 : Vec F S1024x4096 .bf16) (x1 : Vec F S1x4096x256 .f32) (x2 : Vec F S1x4096x256 .f32) (x3 : Vec F S1x3x256 .f32) (xs0 : Vec F S1032x256 .f32) (xs1 : Vec F S43x8x256 .f32)

/-- The run's piece for the result block is the whole block at the point's value. -/
theorem run_out : (kernelRun c i arg2 harg2 arg3 harg3 arg4 harg4 arg5 harg5 arg6 harg6 arg7 harg7 arg8 harg8 x0 x1 x2 x3 xs0 xs1).1
    = [⟨Rect.unit (s := S1024x256) ![0, 0] S1024x256.size inb_S1024x256_S1024x256_0_0, point i x0 x1 x2 x3 (View.ld xs1 (tailRect i))⟩] := by
  unfold kernelRun
  dsimp only
  sl_unfold_words
  simp only [View.readAt_eq_ld, harg2.read_unread, harg3.read_unread, harg4.read_unread, harg5.read_unread, harg8.read_unread]
  rw [View.ld_unit_zero (S := S1024x4096) zero2]
  simp only [View.ld_unit_zero (S := S1x4096x256) zero3]
  unfold point
  refine congrArg (fun w => [(⟨Rect.unit (s := S1024x256) ![0, 0] S1024x256.size inb_S1024x256_S1024x256_0_0, w⟩ : View.Piece (Elt F) S1024x256 .bf16)]) ?_
  exact congrArg₂ (fun u v => k0_pay1 (k0_pay2 x0 x1) (k0_pay3 x0 x2) u v _ _ _) (ext_read arg7 i x0 x1 (View.ld xs1 (tailRect i)) _) (ext_read arg7 i x0 x1 (View.ld xs1 (tailRect i)) _)

/-- The run's piece for the tails is the block's last eight rows at the point's column. -/
theorem run_tail : (kernelRun c i arg2 harg2 arg3 harg3 arg4 harg4 arg5 harg5 arg6 harg6 arg7 harg7 arg8 harg8 x0 x1 x2 x3 xs0 xs1).2.2.1
    = [⟨tailRect i, k0_pay6 x0 x1⟩] := by
  unfold kernelRun
  dsimp only
  sl_unfold_words
  simp only [View.readAt_eq_ld, harg2.read_unread, harg3.read_unread]
  rw [View.ld_unit_zero (S := S1024x4096) zero2, View.ld_unit_zero (S := S1x4096x256) zero3]
  rfl

/-- The body's triple with named pieces: the inputs stay, the result block ends as something with `L4` written, the two
    scratch buffers as found with `LS0` and `LS1` written. -/
def Triple (L4 : List (View.Piece (Elt F) S1024x256 .bf16)) (LS0 : List (View.Piece (Elt F) S1032x256 .f32)) (LS1 : List (View.Piece (Elt F) S43x8x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
          ∗ (arg7.view.loc (c : Thread nD τ) ↦[arg7.view.set]{fullShare} arg7.view.writes (Elt F) (harg7.unread xs0) LS0) ∗ (arg8.view.loc (c : Thread nD τ) ↦[arg8.view.set]{fullShare} arg8.view.writes (Elt F) (harg8.unread xs1) LS1)) -∗ K ⟨⟩))
      ⊢ wp frame (wpE (defs₀ (F := F)) Variants.none c none) E (cc0_ffn_in i arg2 harg2 arg3 harg3 arg4 harg4 arg5 harg5 arg6 harg6 arg7 harg7 arg8 harg8) K

/-- The body's triple at the point's values. -/
theorem run_named : ∃ LS0, Triple c i arg2 harg2 arg3 harg3 arg4 harg4 arg5 harg5 arg6 harg6 arg7 harg7 arg8 harg8 x0 x1 x2 x3 xs0 xs1
    [⟨Rect.unit (s := S1024x256) ![0, 0] S1024x256.size inb_S1024x256_S1024x256_0_0, point i x0 x1 x2 x3 (View.ld xs1 (tailRect i))⟩] LS0 [⟨tailRect i, k0_pay6 x0 x1⟩] :=
  ⟨_, Eq.mp (congrArg₂ (fun u v => Triple c i arg2 harg2 arg3 harg3 arg4 harg4 arg5 harg5 arg6 harg6 arg7 harg7 arg8 harg8 x0 x1 x2 x3 xs0 xs1 u (kernelRun c i arg2 harg2 arg3 harg3 arg4 harg4 arg5 harg5 arg6 harg6 arg7 harg7 arg8 harg8 x0 x1 x2 x3 xs0 xs1).2.1 v)
      (run_out c i arg2 harg2 arg3 harg3 arg4 harg4 arg5 harg5 arg6 harg6 arg7 harg7 arg8 harg8 x0 x1 x2 x3 xs0 xs1)
      (run_tail c i arg2 harg2 arg3 harg3 arg4 harg4 arg5 harg5 arg6 harg6 arg7 harg7 arg8 harg8 x0 x1 x2 x3 xs0 xs1))
    (kernelRun c i arg2 harg2 arg3 harg3 arg4 harg4 arg5 harg5 arg6 harg6 arg7 harg7 arg8 harg8 x0 x1 x2 x3 xs0 xs1).2.2.2⟩

set_option maxHeartbeats 800000 in
/-- One point's triple: the inputs stay, the result block ends at the point's value, the scratch of the extended rows at
    something, the tails as found with the point's column replaced. -/
theorem run_triple (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (point i x0 x1 x2 x3 (View.ld xs1 (tailRect i)))
          ∗ (∃ d, owns (c : Thread nD τ) arg7 fullShare d) ∗ owns (c : Thread nD τ) arg8 fullShare (arg8.view.read (Elt F) (arg8.view.writes (Elt F) (harg8.unread xs1) [⟨tailRect i, k0_pay6 x0 x1⟩]))) -∗ K ⟨⟩))
      ⊢ wp frame (wpE (defs₀ (F := F)) Variants.none c none) E (cc0_ffn_in i arg2 harg2 arg3 harg3 arg4 harg4 arg5 harg5 arg6 harg6 arg7 harg7 arg8 harg8) K := by
  obtain ⟨LS0, h⟩ := run_named c i arg2 harg2 arg3 harg3 arg4 harg4 arg5 harg5 arg6 harg6 arg7 harg7 arg8 harg8 x0 x1 x2 x3 xs0 xs1
  iintro ⟨H0, H1, H2, H3, H4, HS0, HS1, Hk⟩
  iapply (h E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, ⟨%e4, H4⟩, HS0, HS1⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact whole_read _ _ _
  isplitl [HS0]
  · iexists _; unfold owns; iexists _; isplitr
    swap; · iexact HS0
    ipureintro; rfl
  unfold owns; iexists _; isplitr
  swap; · iexact HS1
  ipureintro; rfl

end Run

end Cert.FfnInIdeal.Own

end
-- ==== Proof.FfnInFrame.lean ====
/-
  The gated feed-forward input kernel, any number system: what the carried tails hold between points, the proof data, the
  body's triple at every point, and the run with its frame.
-/
module

public import proofs.«01_k».proof.Proof.FfnInPoint

@[expose] public section

set_option maxRecDepth 16384

noncomputable section

namespace Cert.FfnInIdeal.Own

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch and the windows' blocks -/

/-- A core's buffers as the launch finds them. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-- The block window `w` stages at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffers at a point, and the two scratch buffers. -/
abbrev ms0_0 (t : Fin cfg0.N) : Memref sig .tc .vmem S1024x4096 .bf16 := win0_0.stage (cfg0.slots t 0)
abbrev ms0_1 (t : Fin cfg0.N) : Memref sig .tc .vmem S1x4096x256 .f32 := win0_1.stage (cfg0.slots t 1)
abbrev ms0_2 (t : Fin cfg0.N) : Memref sig .tc .vmem S1x4096x256 .f32 := win0_2.stage (cfg0.slots t 2)
abbrev ms0_3 (t : Fin cfg0.N) : Memref sig .tc .vmem S1x3x256 .f32 := win0_3.stage (cfg0.slots t 3)
abbrev ms0_4 (t : Fin cfg0.N) : Memref sig .tc .vmem S1024x256 .bf16 := win0_4.stage (cfg0.slots t 4)
abbrev scM0_0 : Memref sig .tc .vmem S1032x256 .f32 := Memref.whole cc0_scratch0
abbrev scM0_1 : Memref sig .tc .vmem S43x8x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The carried tails -/

/-- The rows a point leaves behind: the last eight of its gate block. -/
def tail (c : Dev nD) (t : Fin cfg0.N) : Vec F S1x8x256 .f32 := k0_pay6 (iblk m c 0 t) (iblk m c 1 t)

/-- The rows a point finds: those of the point one row of blocks above, of no account in the first row of blocks. -/
def prior (c : Dev nD) (t : Fin cfg0.N) : Vec F S1x8x256 .f32 :=
  tail m c ⟨t.val - 43, lt_of_le_of_lt (Nat.sub_le _ _) t.isLt⟩

/-- What a point leaves in its result block. -/
def left (c : Dev nD) (t : Fin cfg0.N) : Vec F S1024x256 .bf16 :=
  point (grid0.coords t) (iblk m c 0 t) (iblk m c 1 t) (iblk m c 2 t) (iblk m c 3 t) (prior m c t)

theorem off_tail : ∀ t : Fin grid0.N, k0_off1 (grid0.coords t) = ![t.val % 43, 0, 0] := by decide +kernel

theorem first_row : ∀ t : Fin grid0.N, t.val < 43 → Scalar.cmpi .eq (BitVec.ofNat 32 ((grid0.coords t) 0).val) 0#32 = 1#1 := by decide +kernel

/-- In the first row of blocks the rows before the block are zeros whatever the tails hold. -/
theorem pay4_first (t : Fin cfg0.N) (h : t.val < 43) (p q : Vec F S1x8x256 .f32) : k0_pay4 (grid0.coords t) p = k0_pay4 (grid0.coords t) q := by
  have e := first_row t h
  unfold k0_pay4
  show shapeCast S8x256 (Scalar.select (Scalar.cmpi .eq (BitVec.ofNat 32 ((grid0.coords t) 0).val) 0#32) _ _) _ = shapeCast S8x256 (Scalar.select (Scalar.cmpi .eq (BitVec.ofNat 32 ((grid0.coords t) 0).val) 0#32) _ _) _
  rw [e]
  rfl

/-- Loads through one rectangle written at two offsets that agree. -/
theorem ld_congr {s : Shape} {e : EltTy} (d : s.Idx → Elt F e) {size off off' : Fin s.rank → ℕ} (h : off = off')
    (inb : ∀ a, off a + size a ≤ s.size a) (inb' : ∀ a, off' a + size a ≤ s.size a) :
    View.ld d (Rect.unit off size inb) = View.ld d (Rect.unit off' size inb') := by
  subst h; rfl

/-- Before position `n` every column whose latest point lies before `n` holds that point's tail. -/
def Good (c : Dev nD) (n : ℕ) (d : Vec F S43x8x256 .f32) : Prop :=
  ∀ s : Fin cfg0.N, s.val < n → n ≤ s.val + 43 → View.ld d (tailRect (grid0.coords s)) = tail m c s

theorem good_zero (c : Dev nD) (d : Vec F S43x8x256 .f32) : Good m c 0 d := fun s h _ => absurd h (Nat.not_lt_zero _)

/-- The rows a point finds are those it should, or are of no account. -/
theorem found (c : Dev nD) (t : Fin cfg0.N) (d : Vec F S43x8x256 .f32) (g : Good m c t.val d) :
    point (grid0.coords t) (iblk m c 0 t) (iblk m c 1 t) (iblk m c 2 t) (iblk m c 3 t) (View.ld d (tailRect (grid0.coords t))) = left m c t := by
  unfold left
  by_cases h : t.val < 43
  · unfold point extPieces
    rw [pay4_first t h (View.ld d (tailRect (grid0.coords t))) (prior m c t)]
  · have hs : t.val - 43 < cfg0.N := lt_of_le_of_lt (Nat.sub_le _ _) t.isLt
    have e := g ⟨t.val - 43, hs⟩ (show t.val - 43 < t.val by omega) (show t.val ≤ t.val - 43 + 43 by omega)
    unfold prior
    rw [← e]
    refine congrArg _ (ld_congr d ?_ _ _)
    rw [off_tail t, off_tail ⟨t.val - 43, hs⟩]
    exact congrArg (fun k => (![k, 0, 0] : Fin 3 → ℕ)) (show t.val % 43 = (t.val - 43) % 43 by omega)

/-- A point's store of its tail keeps the columns as they should be. -/
theorem good_succ (c : Dev nD) (t : Fin cfg0.N) (f : (scM0_1.view (sig := sig)).ty.shape.Idx → Elt F (scM0_1.view (sig := sig)).ty.elt) (d : Vec F S43x8x256 .f32) (hd : scM0_1.view.read (Elt F) f = d) (g : Good m c t.val d) :
    Good m c (t.val + 1) (scM0_1.view.read (Elt F) (scM0_1.view.writes (Elt F) f [⟨tailRect (grid0.coords t), tail m c t⟩])) := by
  intro s hs hn
  funext x
  have hx : (x 0).val < 1 := (x 0).isLt
  by_cases h : s = t
  · subst h
    exact View.read_writes_cons_unit_of_mem scM0_1.view f _ (tail m c s) [] _ x rfl fun a => by
      show _ + 1 * (x a).val = _ + (x a).val
      rw [Nat.one_mul]
      rfl
  · have hv : s.val ≠ t.val := fun e => h (Fin.ext e)
    have hsN : s.val < 344 := lt_of_lt_of_eq s.isLt N_0
    refine (View.read_writes_cons_unit_of_not_mem scM0_1.view f _ (tail m c t) [] ((tailRect (grid0.coords s)).idx x) (off_tail t) 0 ?_).trans ?_
    · show k0_off1 (grid0.coords s) 0 + 1 * (x 0).val < t.val % 43 ∨ t.val % 43 + 1 ≤ k0_off1 (grid0.coords s) 0 + 1 * (x 0).val
      rw [off_tail s]
      show s.val % 43 + 1 * (x 0).val < t.val % 43 ∨ t.val % 43 + 1 ≤ s.val % 43 + 1 * (x 0).val
      omega
    · show scM0_1.view.read (Elt F) f _ = _
      rw [hd]
      exact congrFun (g s (by omega) (by omega)) x

/-! ## The invariant and the proof data -/

/-- Before position `n`: the scratch of the extended rows at anything, the tails as they should be, the generator at some
    state. -/
def PhiS (c : Dev nD) (n : ℕ) (_ : n ≤ cfg0.N) : sProp 𝕄 :=
  iprop(iprop((∃ d, owns (c : Thread nD τ) scM0_0 fullShare d) ∗ (∃ d, ⌜Good m c n d⌝ ∗ owns (c : Thread nD τ) scM0_1 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_castSucc m c t]
  unfold PhiS
  iintro ⟨⟨⟨⟨%ds0, HS0⟩, ⟨%ds1, %hg, HS1⟩⟩, Hg⟩, Ho, ⟨%d0, H0⟩, ⟨%d1, H1⟩, ⟨%d2, H2⟩, ⟨%d3, H3⟩, ⟨%d4, H4⟩⟩
  iapply (run_triple c (grid0.coords t) _ _ _ _ _ _ _ _ _ _ _ _ _ _ (iblk m c 0 t) (iblk m c 1 t) (iblk m c 2 t) (iblk m c 3 t) ds0 ds1 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexists _; isplitr
      swap
      · iexact HS1
      ipureintro; exact good_succ m c t _ ds1 (Memref.IsWhole.read_unread _ _) hg
    iexact Hg
  isplitl [Ho]; · iexact Ho
  isplitl [H0]; · iexact H0
  isplitl [H1]; · iexact H1
  isplitl [H2]; · iexact H2
  isplitl [H3]; · iexact H3
  rw [← found m c t ds1 hg]
  iexact H4

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region gives the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨HS0, ⟨%d, HS1⟩⟩, Hg⟩
  isplitl [HS0 HS1]
  · isplitl [HS0]
    · iexact HS0
    iexists d; isplitr
    · ipureintro; exact good_zero m c d
    iexact HS1
  iexact Hg

/-- After the last point the invariant gives back what the launch takes. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨⟨HS0, ⟨%d, %hg, HS1⟩⟩, Hg⟩
  isplitl [HS0 HS1]
  · isplitl [HS0]
    · iexact HS0
    iexists d; iexact HS1
  iexact Hg

/-! ## The run -/

set_option backward.isDefEq.respectTransparency.types false in
/-- Every fair execution ends, with the pipeline's arrays at what the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem kept (w : Fin cfg0.W) (hw : (cfg0.win w).isOut = false) (r : PUnit × MemSt nD τ sig (Elt F)) (h : Pipeline.FramePost cfgs (dats m) 0 (V m) r) (c : Dev nD) :
    r.2.mem ((c : Thread nD τ).loc (Pipeline.arrRef spec0 w)) = V m c (Pipeline.arrRef spec0 w) :=
  ((h c).1 w).trans (((dats m 0 c).arrAt_in w hw _).trans (A_eq m c w))

/-- Every run ends with the result array at what the proof data names and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, kept m 0 rfl r h.1 c, kept m 1 rfl r h.1 c, kept m 2 rfl r h.1 c, kept m 3 rfl r h.1 c⟩)
    (run_main_quiescent m ρ)

/-- THE FRAME: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ)) ((θ_run defs _ _).mono (fun _ h => h.2) (run_main_quiescent m ρ))

/-- WHAT A POINT WRITES BACK to the result array. -/
theorem flushed4 (c : Dev nD) (t : Fin cfg0.N) :
    (dats m 0 c).flushed 4 t = (cfg0.win 4).cut (grid0.coords t) (left m c t) := by
  show (cfg0.win 4).cut (grid0.coords t) ((dats m 0 c).after 4 t) = _
  rw [after0_4]

end Cert.FfnInIdeal.Own

end
-- ==== Proof.Conv.lean ====
/-
  Facts shared by the two input products with a causal convolution of width three: the rows a block's convolution reads,
  what a buffer holds after stores at literal offsets, and the two spellings of `x · sigmoid x`.
-/
module

public import Idealize.ShloMosaic.Lib.Pipeline.ReadBack
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.ValueKit.Tiles

@[expose] public section

noncomputable section

namespace Cert.Conv

open Idealize.ShloMosaic Idealize.ShloMosaic.ValueIdx

/-- A column with eight zero rows before it: row `q` is the column's row `q - 8`. -/
def lifted (G : Fin 8192 → EReal) (q : ℕ) : EReal := if h : 8 ≤ q ∧ q < 8200 then G ⟨q - 8, by omega⟩ else 0

theorem lifted_of (G : Fin 8192 → EReal) (q : ℕ) (i : Fin 8192) (h : q = i.val + 8) : lifted G q = G i := by
  have := i.isLt
  unfold lifted
  rw [dif_pos (show 8 ≤ q ∧ q < 8200 by omega)]
  exact congrArg G (Fin.ext (show q - 8 = i.val by omega))

theorem lifted_zero (G : Fin 8192 → EReal) (q : ℕ) (h : q < 8) : lifted G q = 0 := by
  unfold lifted
  rw [dif_neg (show ¬(8 ≤ q ∧ q < 8200) by omega)]

/-- The causal convolution of width three of a column, at a row. -/
def conv (w0 w1 w2 : EReal) (G : Fin 8192 → EReal) (i : ℕ) : EReal := w0 * lifted G (i + 6) + w1 * lifted G (i + 7) + w2 * lifted G (i + 8)

theorem exp_nonneg (x : EReal) : 0 ≤ Ideal.exp x := by
  induction x with
  | bot => exact le_refl (0 : EReal)
  | top => exact le_top
  | coe r => exact EReal.coe_nonneg.mpr (Real.exp_pos r).le

theorem one_add_exp_ne (x : EReal) : (1 : EReal) + Ideal.exp x ≠ 0 := by
  have h : (1 : EReal) ≤ 1 + Ideal.exp x := le_add_of_nonneg_right (exp_nonneg x)
  exact ne_of_gt (lt_of_lt_of_le zero_lt_one h)

/-- The quotient `x / (1 + exp (0 - x))`. -/
def gated (x : EReal) : EReal := Ideal.div x (1 + Ideal.exp (0 - x))

/-- The product with the reciprocal is the quotient. -/
theorem mul_recip (x : EReal) : x * Ideal.div 1 (1 + Ideal.exp (-x)) = gated x := by
  unfold gated
  rw [zero_sub]
  exact Ideal.mul_one_div (one_add_exp_ne _)

variable {s : Shape} {e : EltTy} {Val : EltTy → Type} [∀ e, Nonempty (Val e)]

/-- An index inside the last store's rectangle holds that store's value. -/
theorem canon_of_mem {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : View.Piece Val s e) :: L)) hy.symm).trans
    (View.canon_cons_emb (Rect.unit off size inb) w L x)

/-- An index outside the last store's rectangle holds what the stores before left. -/
theorem canon_of_not_mem {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon ((⟨Rect.unit off size inb, w⟩ : View.Piece Val s e) :: L) y = View.canon L y := by
  refine View.canon_cons_of_not_mem (⟨Rect.unit off size inb, w⟩ : View.Piece Val s e) L fun h => ?_
  have h' : y ∈ (Rect.unit off size inb).set := h
  rw [Rect.mem_set_unit] at h'
  have := h' a
  omega

/-- One tap of the convolution's weights, spread over a block's rows. -/
theorem tap_apply {M N : ℕ} (w : FVec Ideal ⟨3, ![1, 1, N]⟩ .f32) (hc : (⟨3, ![1, 1, N]⟩ : Shape).ShapeCasts ⟨2, ![1, N]⟩)
    (hb : (⟨2, ![1, N]⟩ : Shape).Broadcasts ⟨2, ![M, N]⟩) (a : Fin M) (e : Fin N) :
    broadcastTo ⟨2, ![M, N]⟩ (shapeCast ⟨2, ![1, N]⟩ w hc) hb (ix2 a e) = w (ix3 0 0 e) := by
  refine (broadcastTo_1b_ab_apply _ hb a e).trans (shapeCast_apply w hc (ix2 0 e) (ix3 0 0 e) ?_)
  rw [Shape.rowMajor_val_two, Shape.rowMajor_val_three]
  show (0 * 1 + 0) * N + e.val = 0 * N + e.val
  rw [Nat.zero_mul]

end Cert.Conv

end
-- ==== Proof.FfnInValue.lean ====
/-
  The gated feed-forward input product at the ideal values: each block of the result is the gated causal convolution of
  its rows' gate products, times their up products.
-/
module

public import proofs.«01_k».proof.Proof.FfnInFrame
public import proofs.«01_k».proof.Proof.Blocks
public import proofs.«01_k».proof.Proof.Conv

@[expose] public section

set_option maxRecDepth 16384

noncomputable section

namespace Cert.FfnInIdeal.Own

open Cert.FfnInIdeal Cert.FfnInIdeal.Gen Idealize.ShloMosaic Idealize.ShloMosaic.TcCoe Idealize.SL.Sem Idealize.ShloMosaic.ValueIdx Cert.Blocks Cert.Conv

/-! ## The payloads at an index -/

theorem pay2_apply (x : Vec Ideal S1024x4096 .bf16) (w : Vec Ideal S1x4096x256 .f32) (a : Fin 1024) (e : Fin 256) :
    k0_pay2 x w (ix2 a e) = ∑ k : Fin 4096, (x (ix2 a k) * w (ix3 0 k e) : EReal) := by
  unfold k0_pay2
  exact layer_matmul (M := 1024) (K := 4096) (N := 256) x w _ _ a e

theorem pay3_apply (x : Vec Ideal S1024x4096 .bf16) (w : Vec Ideal S1x4096x256 .f32) (a : Fin 1024) (e : Fin 256) :
    k0_pay3 x w (ix2 a e) = ∑ k : Fin 4096, (x (ix2 a k) * w (ix3 0 k e) : EReal) := by
  unfold k0_pay3
  exact layer_matmul (M := 1024) (K := 4096) (N := 256) x w _ _ a e

theorem pay5_eq (x : Vec Ideal S1024x4096 .bf16) (w : Vec Ideal S1x4096x256 .f32) (y : S1024x256.Idx) :
    k0_pay5 x w y = k0_pay2 x w y := by
  unfold k0_pay5
  exact shapeCast_apply (k0_pay2 x w) _ y y rfl

theorem pay6_apply (x : Vec Ideal S1024x4096 .bf16) (w : Vec Ideal S1x4096x256 .f32) (r : Fin 8) (e : Fin 256) (a : Fin 1024) (ha : a.val = 1016 + r.val) :
    k0_pay6 x w (ix3 0 r e) = k0_pay2 x w (ix2 a e) := by
  unfold k0_pay6
  generalize k0_pay2 x w = z
  refine (shapeCast_apply (s := S8x256) (t := S1x8x256) _ _ (ix3 0 r e) (ix2 r e) ?_).trans ?_
  · rw [Shape.rowMajor_val_two, Shape.rowMajor_val_three]
    show r.val * 256 + e.val = (0 * 8 + r.val) * 256 + e.val
    omega
  · refine extractStridedSlice_apply (s := S1024x256) (t := S8x256) ![1016, 0] z _ (ix2 r e) (ix2 a e) fun b => ?_
    match b with
    | ⟨0, _⟩ => exact ha
    | ⟨1, _⟩ => show e.val = 0 + e.val; omega

theorem pay4_zero (t : Fin cfg0.N) (h : t.val < 43) (p : Vec Ideal S1x8x256 .f32) (y : S8x256.Idx) :
    (k0_pay4 (F := Ideal) (grid0.coords t) p y : EReal) = 0 := by
  have e := first_row t h
  unfold k0_pay4
  refine (shapeCast_apply _ _ y y rfl).trans ?_
  show (Scalar.select (Scalar.cmpi .eq (BitVec.ofNat 32 ((grid0.coords t) 0).val) 0#32) _ _ : FVec Ideal S8x256 .f32) y = (0 : EReal)
  rw [e]
  exact Ideal.ofBits_zero_f32

theorem later_row : ∀ t : Fin grid0.N, 43 ≤ t.val → Scalar.cmpi .eq (BitVec.ofNat 32 ((grid0.coords t) 0).val) 0#32 = 0#1 := by decide +kernel

theorem pay4_later (t : Fin cfg0.N) (h : 43 ≤ t.val) (p : Vec Ideal S1x8x256 .f32) (r : Fin 8) (e : Fin 256) :
    (k0_pay4 (F := Ideal) (grid0.coords t) p (ix2 r e) : EReal) = p (ix3 0 r e) := by
  have e' := later_row t h
  unfold k0_pay4
  refine (shapeCast_apply _ _ (ix2 r e) (ix2 r e) rfl).trans ?_
  show (Scalar.select (Scalar.cmpi .eq (BitVec.ofNat 32 ((grid0.coords t) 0).val) 0#32) _ _ : FVec Ideal S8x256 .f32) (ix2 r e) = (p (ix3 0 r e) : EReal)
  rw [e']
  refine shapeCast_apply p _ (ix2 r e) (ix3 0 r e) ?_
  rw [Shape.rowMajor_val_two, Shape.rowMajor_val_three]
  show (0 * 8 + r.val) * 256 + e.val = r.val * 256 + e.val
  omega

theorem pay1_apply (g u v1 v2 : Vec Ideal S1024x256 .f32) (w0 w1 w2 : Vec Ideal S1x1x256 .f32) (a : Fin 1024) (e : Fin 256) :
    (k0_pay1 (F := Ideal) g u v1 v2 w0 w1 w2 (ix2 a e) : EReal)
      = gated (w0 (ix3 0 0 e) * v2 (ix2 a e) + w1 (ix3 0 0 e) * v1 (ix2 a e) + w2 (ix3 0 0 e) * g (ix2 a e)) * u (ix2 a e) := by
  have t0 := tap_apply (M := 1024) (N := 256) w0 shapeCasts_S1x1x256_S1x256 broadcasts_S1x256_S1024x256 a e
  have t1 := tap_apply (M := 1024) (N := 256) w1 shapeCasts_S1x1x256_S1x256 broadcasts_S1x256_S1024x256 a e
  have t2 := tap_apply (M := 1024) (N := 256) w2 shapeCasts_S1x1x256_S1x256 broadcasts_S1x256_S1024x256 a e
  have z : (Scalar.ofBits (F := Ideal) .f32 0x00000000#32 : EReal) = 0 := Ideal.ofBits_zero_f32
  have o : (Scalar.ofBits (F := Ideal) .f32 0x3F800000#32 : EReal) = 1 := Ideal.ofBits_one_f32
  rw [← t0, ← t1, ← t2]
  unfold gated
  rw [← z, ← o]
  rfl

/-! ## The blocks -/

variable (m : (ℓ : Loc nD τ sig) → Buf (Elt Ideal) ℓ)

/-- The rows, the gate and up weights and the convolution's weights, as launched. -/
abbrev xArg (c : Dev nD) : S8192x4096.Idx → EReal := m ((c : Thread nD τ).loc main_arg0)
abbrev gateArg (c : Dev nD) : S2x4096x11008.Idx → EReal := m ((c : Thread nD τ).loc main_arg1)
abbrev upArg (c : Dev nD) : S2x4096x11008.Idx → EReal := m ((c : Thread nD τ).loc main_arg2)
abbrev tapArg (c : Dev nD) : S2x3x11008.Idx → EReal := m ((c : Thread nD τ).loc main_arg3)

/-- A point's four blocks. -/
abbrev xBlk (c : Dev nD) (t : Fin cfg0.N) : S1024x4096.Idx → EReal := iblk m c 0 t
abbrev gateBlk (c : Dev nD) (t : Fin cfg0.N) : S1x4096x256.Idx → EReal := iblk m c 1 t
abbrev upBlk (c : Dev nD) (t : Fin cfg0.N) : S1x4096x256.Idx → EReal := iblk m c 2 t
abbrev tapBlk (c : Dev nD) (t : Fin cfg0.N) : S1x3x256.Idx → EReal := iblk m c 3 t

theorem lt_N (t : Fin cfg0.N) : t.val < 344 := lt_of_lt_of_eq t.isLt (show cfg0.N = 344 from N_0)

theorem index_0 : ∀ t : Fin grid0.N, win0_0.index t = ![t.val / 43, 0] := by decide +kernel
theorem index_1 : ∀ t : Fin grid0.N, win0_1.index t = ![1, 0, t.val % 43] := by decide +kernel
theorem index_2 : ∀ t : Fin grid0.N, win0_2.index t = ![1, 0, t.val % 43] := by decide +kernel
theorem index_3 : ∀ t : Fin grid0.N, win0_3.index t = ![1, 0, t.val % 43] := by decide +kernel
theorem index_4 : ∀ t : Fin grid0.N, win0_4.index t = ![t.val / 43, t.val % 43] := by decide +kernel

theorem xBlk_apply (c : Dev nD) (t : Fin cfg0.N) (a : Fin 1024) (k : Fin 4096) (i : Fin 8192) (hi : i.val = 1024 * (t.val / 43) + a.val) :
    xBlk m c t (ix2 a k) = xArg m c (ix2 i k) := by
  unfold xBlk iblk
  rw [View.read_apply]
  show V m c main_arg0 _ = _
  rw [V_main_arg0]
  refine congrArg (xArg m c) (funext fun b => Fin.ext ?_)
  match b with
  | ⟨0, _⟩ => show win0_0.index t 0 * 1024 + 1 * a.val = i.val
              rw [index_0]; show t.val / 43 * 1024 + 1 * a.val = _; omega
  | ⟨1, _⟩ => show win0_0.index t 1 * 4096 + 1 * k.val = k.val
              rw [index_0]; show 0 * 4096 + 1 * k.val = _; omega

theorem gateBlk_apply (c : Dev nD) (t : Fin cfg0.N) (k : Fin 4096) (e : Fin 256) (n : Fin 11008) (hn : n.val = 256 * (t.val % 43) + e.val) :
    gateBlk m c t (ix3 0 k e) = gateArg m c (ix3 1 k n) := by
  unfold gateBlk iblk
  rw [View.read_apply]
  show V m c main_arg1 _ = _
  rw [V_main_arg1]
  refine congrArg (gateArg m c) (funext fun b => Fin.ext ?_)
  match b with
  | ⟨0, _⟩ => show win0_1.index t 0 * 1 + 1 * 0 = 1
              rw [index_1]; rfl
  | ⟨1, _⟩ => show win0_1.index t 1 * 4096 + 1 * k.val = k.val
              rw [index_1]; show 0 * 4096 + 1 * k.val = _; omega
  | ⟨2, _⟩ => show win0_1.index t 2 * 256 + 1 * e.val = n.val
              rw [index_1]; show t.val % 43 * 256 + 1 * e.val = _; omega

theorem upBlk_apply (c : Dev nD) (t : Fin cfg0.N) (k : Fin 4096) (e : Fin 256) (n : Fin 11008) (hn : n.val = 256 * (t.val % 43) + e.val) :
    upBlk m c t (ix3 0 k e) = upArg m c (ix3 1 k n) := by
  unfold upBlk iblk
  rw [View.read_apply]
  show V m c main_arg2 _ = _
  rw [V_main_arg2]
  refine congrArg (upArg m c) (funext fun b => Fin.ext ?_)
  match b with
  | ⟨0, _⟩ => show win0_2.index t 0 * 1 + 1 * 0 = 1
              rw [index_2]; rfl
  | ⟨1, _⟩ => show win0_2.index t 1 * 4096 + 1 * k.val = k.val
              rw [index_2]; show 0 * 4096 + 1 * k.val = _; omega
  | ⟨2, _⟩ => show win0_2.index t 2 * 256 + 1 * e.val = n.val
              rw [index_2]; show t.val % 43 * 256 + 1 * e.val = _; omega

/-- One tap's load of the convolution's weights. -/
theorem tapBlk_apply (c : Dev nD) (t : Fin cfg0.N) (d : ℕ) (hd : d < 3) (inb : ∀ a, (![0, d, 0] : Fin 3 → ℕ) a + S1x1x256.size a ≤ S1x3x256.size a) (e : Fin 256) (n : Fin 11008) (hn : n.val = 256 * (t.val % 43) + e.val) :
    (View.ld (Val := Elt Ideal) (e' := .f32) (tapBlk m c t) (Rect.unit (s := S1x3x256) ![0, d, 0] S1x1x256.size inb) (ix3 0 0 e) : EReal) = tapArg m c (ix3 1 (⟨d, hd⟩ : Fin 3) n) := by
  unfold View.ld tapBlk iblk
  rw [View.read_apply]
  show V m c main_arg3 _ = _
  rw [V_main_arg3]
  refine congrArg (tapArg m c) (funext fun b => Fin.ext ?_)
  match b with
  | ⟨0, _⟩ => show win0_3.index t 0 * 1 + 1 * (0 + 1 * 0) = 1
              rw [index_3]; rfl
  | ⟨1, _⟩ => show win0_3.index t 1 * 3 + 1 * (d + 1 * 0) = d
              rw [index_3]; show 0 * 3 + 1 * (d + 1 * 0) = d; omega
  | ⟨2, _⟩ => show win0_3.index t 2 * 256 + 1 * (0 + 1 * e.val) = n.val
              rw [index_3]; show t.val % 43 * 256 + 1 * (0 + 1 * e.val) = _; omega

/-! ## The result -/

/-- A column of the rows' product with a layer's weights. -/
def column (x : S8192x4096.Idx → EReal) (w : S2x4096x11008.Idx → EReal) (n : Fin 11008) (i : Fin 8192) : EReal :=
  ∑ k : Fin 4096, x (ix2 i k) * w (ix3 1 k n)

/-- The whole result. -/
def result (c : Dev nD) : S8192x11008.Idx → EReal := fun y =>
  gated (conv (tapArg m c (ix3 1 0 (y 1 : Fin 11008))) (tapArg m c (ix3 1 1 (y 1 : Fin 11008))) (tapArg m c (ix3 1 2 (y 1 : Fin 11008)))
      (column (xArg m c) (gateArg m c) (y 1 : Fin 11008)) (y 0).val)
    * column (xArg m c) (upArg m c) (y 1 : Fin 11008) (y 0 : Fin 8192)

theorem gate_apply (c : Dev nD) (t : Fin cfg0.N) (a : Fin 1024) (e : Fin 256) (i : Fin 8192) (n : Fin 11008)
    (hi : i.val = 1024 * (t.val / 43) + a.val) (hn : n.val = 256 * (t.val % 43) + e.val) :
    k0_pay2 (F := Ideal) (xBlk m c t) (gateBlk m c t) (ix2 a e) = column (xArg m c) (gateArg m c) n i := by
  rw [pay2_apply]
  exact Finset.sum_congr rfl fun k _ => congrArg₂ (fun u v : EReal => u * v) (xBlk_apply m c t a k i hi) (gateBlk_apply m c t k e n hn)

theorem up_apply (c : Dev nD) (t : Fin cfg0.N) (a : Fin 1024) (e : Fin 256) (i : Fin 8192) (n : Fin 11008)
    (hi : i.val = 1024 * (t.val / 43) + a.val) (hn : n.val = 256 * (t.val % 43) + e.val) :
    k0_pay3 (F := Ideal) (xBlk m c t) (upBlk m c t) (ix2 a e) = column (xArg m c) (upArg m c) n i := by
  rw [pay3_apply]
  exact Finset.sum_congr rfl fun k _ => congrArg₂ (fun u v : EReal => u * v) (xBlk_apply m c t a k i hi) (upBlk_apply m c t k e n hn)

/-- Row `r` of a point's extended rows is row `r` counted from eight before the block. -/
theorem ext_apply (c : Dev nD) (t : Fin cfg0.N) (r : Fin 1032) (e : Fin 256) (n : Fin 11008) (hn : n.val = 256 * (t.val % 43) + e.val) :
    (View.canon (Val := Elt Ideal) (extPieces (grid0.coords t) (xBlk m c t) (gateBlk m c t) (prior m c t)) (ix2 r e) : EReal)
      = lifted (column (xArg m c) (gateArg m c) n) (1024 * (t.val / 43) + r.val) := by
  have hN := lt_N t
  have hr := r.isLt
  unfold extPieces
  by_cases h : r.val < 8
  · refine (canon_of_not_mem _ _ _ (ix2 r e) 0 (Or.inl h)).trans ?_
    refine (canon_of_mem _ _ _ (ix2 r e) (ix2 (⟨r.val, h⟩ : Fin 8) e) fun b => ?_).trans ?_
    · match b with
      | ⟨0, _⟩ => show r.val = 0 + r.val; omega
      | ⟨1, _⟩ => show e.val = 0 + e.val; omega
    · by_cases h' : t.val < 43
      · exact (pay4_zero t h' _ _).trans (lifted_zero _ _ (by omega)).symm
      · have hs : t.val - 43 < cfg0.N := lt_of_le_of_lt (Nat.sub_le _ _) t.isLt
        refine (pay4_later t (by omega) (prior m c t) ⟨r.val, h⟩ e).trans ?_
        refine (pay6_apply (xBlk m c ⟨t.val - 43, hs⟩) (gateBlk m c ⟨t.val - 43, hs⟩) ⟨r.val, h⟩ e ⟨1016 + r.val, by omega⟩ rfl).trans ?_
        have hi : 1024 * ((t.val - 43) / 43) + (1016 + r.val) < 8192 := by omega
        refine (gate_apply m c ⟨t.val - 43, hs⟩ ⟨1016 + r.val, by omega⟩ e ⟨1024 * ((t.val - 43) / 43) + (1016 + r.val), hi⟩ n rfl ?_).trans ?_
        · show n.val = 256 * ((t.val - 43) % 43) + e.val
          omega
        · refine (lifted_of _ _ _ ?_).symm
          show 1024 * (t.val / 43) + r.val = 1024 * ((t.val - 43) / 43) + (1016 + r.val) + 8
          omega
  · refine (canon_of_mem _ _ _ (ix2 r e) (ix2 (⟨r.val - 8, by omega⟩ : Fin 1024) e) fun b => ?_).trans ?_
    · match b with
      | ⟨0, _⟩ => show r.val = 8 + (r.val - 8); omega
      | ⟨1, _⟩ => show e.val = 0 + e.val; omega
    · refine (pay5_eq _ _ _).trans ?_
      have hi : 1024 * (t.val / 43) + (r.val - 8) < 8192 := by omega
      refine (gate_apply m c t ⟨r.val - 8, by omega⟩ e ⟨1024 * (t.val / 43) + (r.val - 8), hi⟩ n rfl hn).trans ?_
      refine (lifted_of _ _ _ ?_).symm
      show 1024 * (t.val / 43) + r.val = 1024 * (t.val / 43) + (r.val - 8) + 8
      omega

/-- A load of the extended rows from row `d` on. -/
theorem ext_load (c : Dev nD) (t : Fin cfg0.N) (d : ℕ) (hd : d ≤ 8) (inb : ∀ a, (![d, 0] : Fin 2 → ℕ) a + S1024x256.size a ≤ S1032x256.size a)
    (a : Fin 1024) (e : Fin 256) (n : Fin 11008) (hn : n.val = 256 * (t.val % 43) + e.val) :
    (View.ld (View.canon (Val := Elt Ideal) (extPieces (grid0.coords t) (xBlk m c t) (gateBlk m c t) (prior m c t)))
        (Rect.unit (s := S1032x256) ![d, 0] S1024x256.size inb) (ix2 a e) : EReal)
      = lifted (column (xArg m c) (gateArg m c) n) (1024 * (t.val / 43) + a.val + d) := by
  have ha := a.isLt
  refine Eq.trans ?_ ((ext_apply m c t ⟨d + a.val, by omega⟩ e n hn).trans (congrArg _ (show 1024 * (t.val / 43) + (d + a.val) = _ by omega)))
  unfold View.ld
  refine congrArg _ (funext fun b => Fin.ext ?_)
  match b with
  | ⟨0, _⟩ => show d + 1 * a.val = d + a.val; omega
  | ⟨1, _⟩ => show 0 + 1 * e.val = e.val; omega

theorem point_apply (c : Dev nD) (t : Fin cfg0.N) (a : Fin 1024) (e : Fin 256) (i : Fin 8192) (n : Fin 11008)
    (hi : i.val = 1024 * (t.val / 43) + a.val) (hn : n.val = 256 * (t.val % 43) + e.val) :
    (left m c t (ix2 a e) : EReal) = result m c (ix2 i n) := by
  unfold left point
  refine (pay1_apply _ _ _ _ _ _ _ a e).trans ?_
  unfold result conv
  refine congrArg₂ (fun u v : EReal => gated u * v) ?_ (up_apply m c t a e i n hi hn)
  refine congrArg₂ (fun u v : EReal => u + v) (congrArg₂ (fun u v : EReal => u + v) ?_ ?_) ?_
  · refine congrArg₂ (fun u v : EReal => u * v) (tapBlk_apply m c t 0 (by omega) _ e n hn) ((ext_load m c t 6 (by omega) _ a e n hn).trans ?_)
    exact congrArg _ (show 1024 * (t.val / 43) + a.val + 6 = i.val + 6 by omega)
  · refine congrArg₂ (fun u v : EReal => u * v) (tapBlk_apply m c t 1 (by omega) _ e n hn) ((ext_load m c t 7 (by omega) _ a e n hn).trans ?_)
    exact congrArg _ (show 1024 * (t.val / 43) + a.val + 7 = i.val + 7 by omega)
  · refine congrArg₂ (fun u v : EReal => u * v) (tapBlk_apply m c t 2 (by omega) _ e n hn) ((gate_apply m c t a e i n hi hn).trans ?_)
    exact (lifted_of _ _ i rfl).symm

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [flushed4]
  funext y
  rw [View.read_apply]
  have y0 : (y 0).val < 1024 := (y 0).isLt
  have y1 : (y 1).val < 256 := (y 1).isLt
  have e := point_apply m c t ⟨(y 0).val, y0⟩ ⟨(y 1).val, y1⟩ ⟨1024 * (t.val / 43) + (y 0).val, by omega⟩ ⟨256 * (t.val % 43) + (y 1).val, by omega⟩ rfl rfl
  refine Eq.trans ?_ (e.trans ?_)
  · show (left m c t : Vec Ideal S1024x256 .bf16) _ = _
    refine congrArg (left m c t : Vec Ideal S1024x256 .bf16) (funext fun b => Fin.ext ?_)
    match b with
    | ⟨0, _⟩ => rfl
    | ⟨1, _⟩ => rfl
  · refine congrArg (result m c) (funext fun b => Fin.ext ?_)
    match b with
    | ⟨0, _⟩ => show 1024 * (t.val / 43) + (y 0).val = win0_4.index t 0 * 1024 + 1 * (y 0).val
                rw [index_4]; show _ = t.val / 43 * 1024 + 1 * (y 0).val; omega
    | ⟨1, _⟩ => show 256 * (t.val % 43) + (y 1).val = win0_4.index t 1 * 256 + 1 * (y 1).val
                rw [index_4]; show _ = t.val % 43 * 256 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 11008 := (i 1).isLt
    have hN : cfg0.N = 344 := N_0
    have ht : (i 0 : Nat) / 1024 * 43 + (i 1 : Nat) / 256 < cfg0.N := by omega
    refine ⟨⟨(i 0 : Nat) / 1024 * 43 + (i 1 : Nat) / 256, ht⟩, flush0_4 _, ?_⟩
    show i ∈ ((View.whole main_v0).slice (win0_4.rect ⟨(i 0 : Nat) / 1024 * 43 + (i 1 : Nat) / 256, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 43 + (i 1 : Nat) / 256) / 43 * 1024 ≤ (i 0 : Nat) ∧ (i 0 : Nat) < ((i 0 : Nat) / 1024 * 43 + (i 1 : Nat) / 256) / 43 * 1024 + 1024
                omega
    | ⟨1, _⟩ => show win0_4.index _ 1 * 256 ≤ (i 1 : Nat) ∧ (i 1 : Nat) < win0_4.index _ 1 * 256 + 256
                rw [index_4]
                show ((i 0 : Nat) / 1024 * 43 + (i 1 : Nat) / 256) % 43 * 256 ≤ (i 1 : Nat) ∧ (i 1 : Nat) < ((i 0 : Nat) / 1024 * 43 + (i 1 : Nat) / 256) % 43 * 256 + 256
                omega

end Cert.FfnInIdeal.Own

end
-- ==== Proof.FfnIn.lean ====
/-
  The claims about the gated feed-forward input product: the frames of the kernel and of the reference, and the equality
  of their results over the extended reals, with no condition on the arguments.
-/
module

public import proofs.«01_k».proof.Defs
public import proofs.«01_k».proof.Proof.FfnInValue
public import proofs.«01_k».proof.Proof.Gen.FfnIn
public import proofs.«01_k».proof.Proof.Gen.FfnInIdeal
public import proofs.«01_k».proof.Proof.Gen.FfnInRefIdeal
public import proofs.«01_k».proof.Proof.Gen.FfnInRefIdeal.Read
public import Idealize.ShloMosaic.Lib.Quiescent

@[expose] public section

set_option maxRecDepth 65536

noncomputable section

namespace Cert.Proof.FfnIn

open Idealize.ShloMosaic Idealize.ShloMosaic.TcCoe Idealize.SL.Sem Idealize.ShloMosaic.ValueIdx
open Cert.FfnInRefIdeal Cert.FfnInRefIdeal.Gen Cert.FfnInRefIdeal.Read Cert.Conv
open Cert.FfnInIdeal.Own (column)

/-- The second layer's gate weights. -/
theorem weight (w : (⟨S2x4096x11008, .f32⟩ : BufTy).Contents (Elt Ideal)) (k : Fin 4096) (n : Fin 11008) :
    val_main_v2 (F := Ideal) w (ix2 k n) = w (ix3 1 k n) := by
  rw [val_main_v2_apply, val_main_v1_apply]
  have := n.isLt
  have := k.isLt
  refine congrArg w (funext fun b => Fin.ext ?_)
  match b with
  | ⟨0, _⟩ => rfl
  | ⟨1, _⟩ => show (k.val * 11008 + n.val) / 11008 % 4096 = k.val; omega
  | ⟨2, _⟩ => show (k.val * 11008 + n.val) % 11008 = n.val; omega

/-- The second layer's up weights. -/
theorem weight_up (w : (⟨S2x4096x11008, .f32⟩ : BufTy).Contents (Elt Ideal)) (k : Fin 4096) (n : Fin 11008) :
    val_main_v29 (F := Ideal) w (ix2 k n) = w (ix3 1 k n) := by
  rw [val_main_v29_apply, val_main_v28_apply]
  have := n.isLt
  have := k.isLt
  refine congrArg w (funext fun b => Fin.ext ?_)
  match b with
  | ⟨0, _⟩ => rfl
  | ⟨1, _⟩ => show (k.val * 11008 + n.val) / 11008 % 4096 = k.val; omega
  | ⟨2, _⟩ => show (k.val * 11008 + n.val) % 11008 = n.val; omega

/-- The gate product at an index. -/
theorem gate (x : (⟨S8192x4096, .bf16⟩ : BufTy).Contents (Elt Ideal)) (w : (⟨S2x4096x11008, .f32⟩ : BufTy).Contents (Elt Ideal)) (i : Fin 8192) (n : Fin 11008) :
    val_main_v3 (F := Ideal) x w (ix2 i n) = column x w n i := by
  rw [val_main_v3_apply]
  refine Finset.sum_congr rfl fun k _ => congrArg₂ (fun u v : EReal => u * v) ?_ (Eq.trans (congrArg _ ?_) (weight w k n))
  · rw [val_main_v0_apply]
    refine congrArg (x : S8192x4096.Idx → EReal) (funext fun b => ?_)
    match b with
    | ⟨0, _⟩ => rfl
    | ⟨1, _⟩ => rfl
  · funext b
    match b with
    | ⟨0, _⟩ => rfl
    | ⟨1, _⟩ => rfl

/-- The up product at an index. -/
theorem up (x : (⟨S8192x4096, .bf16⟩ : BufTy).Contents (Elt Ideal)) (w : (⟨S2x4096x11008, .f32⟩ : BufTy).Contents (Elt Ideal)) (i : Fin 8192) (n : Fin 11008) :
    val_main_v30 (F := Ideal) x w (ix2 i n) = column x w n i := by
  rw [val_main_v30_apply]
  refine Finset.sum_congr rfl fun k _ => congrArg₂ (fun u v : EReal => u * v) ?_ (Eq.trans (congrArg _ ?_) (weight_up w k n))
  · rw [val_main_v0_apply]
    refine congrArg (x : S8192x4096.Idx → EReal) (funext fun b => ?_)
    match b with
    | ⟨0, _⟩ => rfl
    | ⟨1, _⟩ => rfl
  · funext b
    match b with
    | ⟨0, _⟩ => rfl
    | ⟨1, _⟩ => rfl

/-- The gate product with two zero rows before it. -/
theorem padded (x : (⟨S8192x4096, .bf16⟩ : BufTy).Contents (Elt Ideal)) (w : (⟨S2x4096x11008, .f32⟩ : BufTy).Contents (Elt Ideal)) (p : Fin 8194) (n : Fin 11008) :
    val_main_v6 (F := Ideal) x w (ix2 p n) = lifted (column x w n) (p.val + 6) := by
  have hp := p.isLt
  unfold val_main_v6
  by_cases h : p.val < 2
  · refine (pad_apply_of_not_inside (s := S8192x11008) (t := S8194x11008) _ _ _ _ _ _ _ (ix2 p n) 0 fun hin => ?_).trans ?_
    · have : 2 ≤ p.val := hin.1
      omega
    · rw [val_main_call0_v0_apply, val_main_c_apply, lifted_zero _ _ (by omega)]
      show (((0#32 : BitVec 32).toInt : ℝ) : EReal) = 0
      norm_num
  · have hi : p.val - 2 < 8192 := by omega
    refine (pad_apply_of_inside (s := S8192x11008) (t := S8194x11008) _ _ _ _ _ _ _ (ix2 p n) (ix2 (⟨p.val - 2, hi⟩ : Fin 8192) n) fun b => ?_).trans ?_
    · match b with
      | ⟨0, _⟩ => show p.val = 2 + (p.val - 2) * (0 + 1); omega
      | ⟨1, _⟩ => show n.val = 0 + n.val * (0 + 1); omega
    · rw [gate]
      exact (lifted_of _ _ _ (show p.val + 6 = p.val - 2 + 8 by omega)).symm

/-- A tap's weights spread over the rows. -/
theorem tap0 (w : (⟨S2x3x11008, .f32⟩ : BufTy).Contents (Elt Ideal)) (i : Fin 8192) (n : Fin 11008) :
    val_main_v11 (F := Ideal) w (ix2 i n) = w (ix3 1 0 n) := by
  rw [val_main_v11_apply, val_main_v10_apply, val_main_v8_apply, val_main_v7_apply, val_main_v5_apply, val_main_v4_apply]
  have := n.isLt
  refine congrArg w (funext fun b => Fin.ext ?_)
  match b with
  | ⟨0, _⟩ => rfl
  | ⟨1, _⟩ => simp
  | ⟨2, _⟩ => simp

/-- The middle tap, likewise. -/
theorem tap1 (w : (⟨S2x3x11008, .f32⟩ : BufTy).Contents (Elt Ideal)) (i : Fin 8192) (n : Fin 11008) :
    val_main_v17 (F := Ideal) w (ix2 i n) = w (ix3 1 1 n) := by
  rw [val_main_v17_apply, val_main_v16_apply, val_main_v14_apply, val_main_v13_apply, val_main_v5_apply, val_main_v4_apply]
  have := n.isLt
  refine congrArg w (funext fun b => Fin.ext ?_)
  match b with
  | ⟨0, _⟩ => rfl
  | ⟨1, _⟩ => simp
  | ⟨2, _⟩ => simp

/-- The last tap, likewise. -/
theorem tap2 (w : (⟨S2x3x11008, .f32⟩ : BufTy).Contents (Elt Ideal)) (i : Fin 8192) (n : Fin 11008) :
    val_main_v24 (F := Ideal) w (ix2 i n) = w (ix3 1 2 n) := by
  rw [val_main_v24_apply, val_main_v23_apply, val_main_v21_apply, val_main_v20_apply, val_main_v5_apply, val_main_v4_apply]
  have := n.isLt
  refine congrArg w (funext fun b => Fin.ext ?_)
  match b with
  | ⟨0, _⟩ => rfl
  | ⟨1, _⟩ => simp; omega
  | ⟨2, _⟩ => simp; show (22016 + n.val) % 11008 = n.val; omega

/-- The reference's convolution at an index. -/
theorem convolved (x : (⟨S8192x4096, .bf16⟩ : BufTy).Contents (Elt Ideal)) (w : (⟨S2x4096x11008, .f32⟩ : BufTy).Contents (Elt Ideal))
    (k : (⟨S2x3x11008, .f32⟩ : BufTy).Contents (Elt Ideal)) (i : Fin 8192) (n : Fin 11008) :
    val_main_v26 (F := Ideal) x w k (ix2 i n) = conv (k (ix3 1 0 n)) (k (ix3 1 1 n)) (k (ix3 1 2 n)) (column x w n) i.val := by
  have hi := i.isLt
  rw [val_main_v26_apply, val_main_v19_apply, val_main_v12_apply, val_main_v18_apply, val_main_v25_apply, tap0, tap1, tap2,
    val_main_v9_apply, val_main_v15_apply, val_main_v22_apply]
  unfold conv
  refine congrArg₂ (fun u v : EReal => u + v) (congrArg₂ (fun u v : EReal => u + v) (congrArg (fun u : EReal => k (ix3 1 0 n) * u) ?_) (congrArg (fun u : EReal => k (ix3 1 1 n) * u) ?_)) (congrArg (fun u : EReal => k (ix3 1 2 n) * u) ?_)
  · refine Eq.trans (congrArg _ (funext fun b => ?_)) (padded x w ⟨i.val, by omega⟩ n)
    match b with
    | ⟨0, _⟩ => rfl
    | ⟨1, _⟩ => rfl
  · refine Eq.trans (congrArg _ (funext fun b => ?_)) ((padded x w ⟨1 + i.val, by omega⟩ n).trans (congrArg _ (show 1 + i.val + 6 = i.val + 7 by omega)))
    match b with
    | ⟨0, _⟩ => rfl
    | ⟨1, _⟩ => rfl
  · refine Eq.trans (congrArg _ (funext fun b => ?_)) ((padded x w ⟨2 + i.val, by omega⟩ n).trans (congrArg _ (show 2 + i.val + 6 = i.val + 8 by omega)))
    match b with
    | ⟨0, _⟩ => rfl
    | ⟨1, _⟩ => rfl

/-- The reference's gate: the product with the reciprocal. -/
theorem silu (x : (⟨S8192x4096, .bf16⟩ : BufTy).Contents (Elt Ideal)) (w : (⟨S2x4096x11008, .f32⟩ : BufTy).Contents (Elt Ideal))
    (k : (⟨S2x3x11008, .f32⟩ : BufTy).Contents (Elt Ideal)) (y : S8192x11008.Idx) :
    val_main_v27 (F := Ideal) x w k y = gated (val_main_v26 (F := Ideal) x w k y) := by
  rw [val_main_v27_apply, val_main_call1_v5_apply, val_main_call1_v3_apply, val_main_call1_v1_apply, val_main_call1_v0_apply,
    val_main_call1_v4_apply, val_main_call1_v2_apply, val_main_call1_cst_apply, val_main_call1_cst_0_apply]
  have o : (FloatOps.ofBits (F := Ideal) .f32 0x3F800000#32 : EReal) = 1 := Ideal.ofBits_one_f32
  rw [o]
  exact mul_recip _

/-- The reference's result is the kernel's. -/
theorem results (m : (ℓ : Loc Cert.FfnInIdeal.nD Cert.FfnInIdeal.τ Cert.FfnInIdeal.sig) → Buf (Elt Ideal) ℓ) (c : Dev Cert.FfnInIdeal.nD) :
    val_main_v32 (F := Ideal) (Cert.FfnInIdeal.Own.xArg m c) (Cert.FfnInIdeal.Own.gateArg m c) (Cert.FfnInIdeal.Own.upArg m c) (Cert.FfnInIdeal.Own.tapArg m c)
      = Cert.FfnInIdeal.Own.result m c := by
  funext y
  obtain ⟨i, n, rfl⟩ : ∃ (i : Fin 8192) (n : Fin 11008), y = ix2 i n := ⟨y 0, y 1, eq_ix2 (n0 := 8192) (n1 := 11008) y⟩
  rw [val_main_v32_apply, val_main_v31_apply, silu, convolved, up]
  rfl

/-! ## The frames -/

/-- The two printed programs start the same launches. -/
theorem defs₀_eq {F : FTy → Type} [FloatOps F] : (Cert.FfnIn.defs₀ (F := F)) = Cert.FfnInIdeal.defs₀ (F := F) := by
  unfold Cert.FfnIn.defs₀ Cert.FfnInIdeal.defs₀
  refine congrArg (Defs.onTc (nD := Cert.FfnIn.nD) (τ := Cert.FfnIn.τ) (sig := Cert.FfnIn.sig) (Val := Elt F) (Λ := Cert.FfnIn.Λ₀)) ?_
  funext l a
  match l, a with
  | 0, (t, s) => rfl

/-- The two printed programs, which no rewriting separates, run the same calls. -/
theorem defs_eq {F : FTy → Type} [FloatOps F] : (Cert.FfnIn.defs (F := F)) = Cert.FfnInIdeal.defs (F := F) :=
  congrArg (Pipeline.defs Cert.FfnIn.pcfgs) defs₀_eq

/-- The kernel terminates with its arguments kept, at every float arithmetic. -/
theorem frame_p : Cert.quiescent_FfnIn := fun m ρ _ => by
  rw [defs_eq]
  exact Cert.FfnInIdeal.Own.frame m ρ

/-- So does the kernel read over the extended reals. -/
theorem frame_pi : Cert.quiescent_FfnInIdeal := fun m ρ _ => Cert.FfnInIdeal.Own.frame m ρ
/-- And the reference. -/
theorem frame_ri : Cert.quiescent_FfnInRefIdeal := fun m ρ _ =>
  (θ_run Cert.FfnInRefIdeal.defs _ _).mono
    (fun r h => ⟨fun c => (h c).2, Idealize.ShloMosaic.sem_eq_zero_of_no_sems (by decide) r.2⟩)
    (Cert.FfnInRefIdeal.Value.run (F := Ideal) m ρ)

/-- Nothing was rewritten between the two printed programs. -/
theorem preserves : Cert.preserves_FfnIn_FfnInIdeal := trivial

/-- **The kernel and the reference end with equal results** from equal arguments. -/
theorem algebraic : Cert.algebraic_FfnInIdeal_FfnInRefIdeal := fun m ρ m' ρ' _ hag =>
  ⟨fun c => Cert.FfnInIdeal.Own.result m c,
    (θ_run Cert.FfnInIdeal.defs _ _).mono (fun r h c => ⟨(h c).1.trans (Cert.FfnInIdeal.Own.final_o m c), (h c).2⟩)
      (Cert.FfnInIdeal.Own.run_blocks m ρ),
    (θ_run Cert.FfnInRefIdeal.defs _ _).mono
      (fun r h c => by
        refine ⟨(h c).1.trans ?_, (h c).2⟩
        rw [val_main_v32_eq, (hag c).1, (hag c).2.1, (hag c).2.2.1, (hag c).2.2.2]
        exact results m c)
      (Cert.FfnInRefIdeal.Value.run (F := Ideal) m' ρ')⟩

end Cert.Proof.FfnIn

end
-- ==== Proof.AttnInValue.lean ====
/-
  The projection of the attention's input at the ideal values: each block of the result is its rows' product with the
  weights, and in a query or a key section that product turned by the rotary tables and scaled.
-/
module

public import proofs.«01_k».proof.Proof.Gen.AttnInIdeal.Value
public import Idealize.ShloMosaic.Lib.Pipeline.ReadBack
public import Idealize.ShloMosaic.Lib.KernelVsHost
public import proofs.«01_k».proof.Proof.Blocks
public import proofs.«01_k».proof.Proof.Conv

@[expose] public section

set_option maxRecDepth 16384

noncomputable section

namespace Cert.AttnInIdeal.Own

open Cert.AttnInIdeal Cert.AttnInIdeal.Gen Idealize.ShloMosaic Idealize.ShloMosaic.TcCoe Idealize.SL.Sem Idealize.ShloMosaic.ValueIdx Cert.Blocks

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- In a value section a point leaves the product. -/
theorem out_B (c : Dev nD) (t : Fin cfg0.N) (h0 : (t.val % 12 = 8 ∨ t.val % 12 = 9 ∨ t.val % 12 = 10 ∨ t.val % 12 = 11)) :
    outsAt0 m c t.val t.isLt = k0_pay9 (iblk m c 0 t) (iblk m c 1 t) := by
  rw [outsAt0_B m c t h0 (not_not_intro h0)]
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) _ _ (iblk m c 0 t) (iblk m c 1 t) (iblk m c 2 t) (iblk m c 3 t))]
  unfold kernelRun0_B
  dsimp only
  sl_unfold_words
  simp only [View.readAt_eq_ld, (hs0_0 t).read_unread, (hs0_1 t).read_unread, (hs0_2 t).read_unread, (hs0_3 t).read_unread]
  rw [View.canon_unit_zero zero2, View.ld_unit_zero (S := S1024x4096) zero2, View.ld_unit_zero (S := S1x4096x512) zero3]

/-- The column block's quotient by four, as the kernel rounds it. -/
def quarter (x : BitVec 32) : BitVec 32 :=
  Scalar.select (Scalar.andi (Scalar.cmpi .ne (Scalar.subi (Scalar.extui (Scalar.cmpi .sgt x 0#32)) (Scalar.extui (Scalar.cmpi .slt x 0#32))) 1#32)
    (Scalar.cmpi .ne (Scalar.remsi x 4#32) 0#32)) (Scalar.subi (Scalar.divsi x 4#32) 1#32) (Scalar.divsi x 4#32)

/-- Its remainder by three: the section of a column block. -/
def part (x : BitVec 32) : BitVec 32 :=
  Scalar.select (Scalar.andi (Scalar.xori (Scalar.cmpi .slt (Scalar.remsi (quarter x) 3#32) 0#32) 0#1) (Scalar.cmpi .ne (Scalar.remsi (quarter x) 3#32) 0#32))
    (Scalar.addi (Scalar.remsi (quarter x) 3#32) 3#32) (Scalar.remsi (quarter x) 3#32)

/-- The section at a point. -/
abbrev sec (t : Fin cfg0.N) : BitVec 32 := part (BitVec.ofNat 32 ((grid0.coords t) 1).val)

theorem sec_query : ∀ t : Fin grid0.N, t.val % 12 < 4 → Scalar.cmpi .eq (part (BitVec.ofNat 32 ((grid0.coords t) 1).val)) 0#32 = 1#1 := by decide +kernel
theorem sec_key : ∀ t : Fin grid0.N, 4 ≤ t.val % 12 → Scalar.cmpi .eq (part (BitVec.ofNat 32 ((grid0.coords t) 1).val)) 0#32 = 0#1 := by decide +kernel

/-- In a query or a key section a point leaves four heads' pieces. -/
theorem out_A (c : Dev nD) (t : Fin cfg0.N) (h0 : ¬(t.val % 12 = 8 ∨ t.val % 12 = 9 ∨ t.val % 12 = 10 ∨ t.val % 12 = 11)) :
    outsAt0 m c t.val t.isLt = View.canon (Val := Elt Ideal) (s := S1024x512) (e := .bf16)
      [⟨Rect.unit ![0, 384] S1024x128.size inb_S1024x512_S1024x128_0_384, k0_pay7 (k0_pay8 (iblk m c 0 t) (iblk m c 1 t)) (sec t) (iblk m c 2 t) (iblk m c 3 t)⟩,
       ⟨Rect.unit ![0, 256] S1024x128.size inb_S1024x512_S1024x128_0_256, k0_pay6 (k0_pay8 (iblk m c 0 t) (iblk m c 1 t)) (sec t) (iblk m c 2 t) (iblk m c 3 t)⟩,
       ⟨Rect.unit ![0, 128] S1024x128.size inb_S1024x512_S1024x128_0_128, k0_pay5 (k0_pay8 (iblk m c 0 t) (iblk m c 1 t)) (sec t) (iblk m c 2 t) (iblk m c 3 t)⟩,
       ⟨Rect.unit ![0, 0] S1024x128.size inb_S1024x512_S1024x128_0_0, k0_pay4 (k0_pay8 (iblk m c 0 t) (iblk m c 1 t)) (sec t) (iblk m c 2 t) (iblk m c 3 t)⟩] := by
  rw [outsAt0_A m c t h0 h0]
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) _ _ (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread]
  rw [View.ld_unit_zero (S := S1024x4096) zero2, View.ld_unit_zero (S := S1x4096x512) zero3, View.ld_unit_zero (S := S1024x128) zero2, View.ld_unit_zero (S := S1024x128) zero2]
  rfl

/-! ## The payloads at an index -/

/-- The column half a head away, within the head. -/
def turn (n : ℕ) : ℕ := n - n % 128 + (n % 128 + 64) % 128

theorem turn_lt {n K : ℕ} (h : n < 128 * K) : turn n < 128 * K := by
  unfold turn; omega

/-- One entry of a block turned by the tables. -/
def turned (z : S1024x512.Idx → EReal) (s : EReal) (cs sn : S1024x128.Idx → EReal) : S1024x512.Idx → EReal := fun y =>
  z y * (cs (ix2 (y 0 : Fin 1024) (⟨(y 1).val % 128, Nat.mod_lt _ (by decide)⟩ : Fin 128)) * s)
    + z (ix2 (y 0 : Fin 1024) (⟨turn (y 1).val, turn_lt (K := 4) (y 1).isLt⟩ : Fin 512)) * (sn (ix2 (y 0 : Fin 1024) (⟨(y 1).val % 128, Nat.mod_lt _ (by decide)⟩ : Fin 128)) * s)

/-- A head's piece, whichever of the four heads it is. -/
theorem head_apply (o : ℕ) (ho : o % 128 = 0) (hs : S1024x512.Slices ![0, o] S1024x128) (z : FVec Ideal S1024x512 .f32) (v : BitVec 32)
    (cs sn : Vec Ideal S1024x128 .f32) (a : Fin 1024) (e : Fin 128) (y : S1024x512.Idx) (y0 : (y 0).val = a.val) (y1 : (y 1).val = o + e.val) :
    (truncf .bf16 (addf (mulf (extractStridedSlice S1024x128 ![0, o] z hs) (k0_pay2 v cs))
      (mulf (dynamicRotate 1 64#32 none (extractStridedSlice S1024x128 ![0, o] z hs) rotates_S1024x128_d1) (k0_pay3 v sn))) bitsLt_bf16_f32 (ix2 a e) : EReal)
      = turned z (k0_pay1 (F := Ideal) v) cs sn y := by
  have he := e.isLt
  have hy : (y 1).val % 128 = e.val := by omega
  have key : ∀ (e' : Fin 128) (y' : S1024x512.Idx), (y' 0).val = a.val → (y' 1).val = o + e'.val →
      (extractStridedSlice S1024x128 ![0, o] z hs (ix2 a e') : EReal) = z y' := fun e' y' h0 h1 =>
    extractStridedSlice_apply (s := S1024x512) (t := S1024x128) ![0, o] z hs (ix2 a e') y' fun b => by
      match b with
      | ⟨0, _⟩ => show (y' 0).val = 0 + a.val; omega
      | ⟨1, _⟩ => exact h1
  have hr : (dynamicRotate 1 64#32 none (extractStridedSlice S1024x128 ![0, o] z hs) rotates_S1024x128_d1 (ix2 a e) : EReal)
      = z (ix2 (y 0 : Fin 1024) (⟨turn (y 1).val, turn_lt (K := 4) (y 1).isLt⟩ : Fin 512)) := by
    refine (dynamicRotate_apply (s := S1024x128) 1 64#32 _ _ (ix2 a e) (ix2 a (⟨(e.val + 64) % 128, Nat.mod_lt _ (by decide)⟩ : Fin 128)) fun b => ?_).trans
      (key _ _ y0 ?_)
    · match b with
      | ⟨0, _⟩ => rfl
      | ⟨1, _⟩ => show (e.val + 64) % 128 = (e.val + 128 - 64) % 128; omega
    · show turn (y 1).val = o + (e.val + 64) % 128
      unfold turn; omega
  have hi : ix2 (y 0 : Fin 1024) (⟨(y 1).val % 128, Nat.mod_lt _ (by decide)⟩ : Fin 128) = ix2 a e := funext fun b => Fin.ext (by
    match b with
    | ⟨0, _⟩ => exact y0
    | ⟨1, _⟩ => exact hy)
  have hc (f : S1024x128.Idx → EReal) : f (ix2 a e) * k0_pay1 (F := Ideal) v = f (ix2 (y 0 : Fin 1024) (⟨(y 1).val % 128, Nat.mod_lt _ (by decide)⟩ : Fin 128)) * k0_pay1 (F := Ideal) v :=
    congrArg (fun u : EReal => u * k0_pay1 (F := Ideal) v) (congrArg f hi.symm)
  exact congrArg₂ (fun u v : EReal => u + v) (congrArg₂ (fun u v : EReal => u * v) (key e y y0 y1) (hc cs)) (congrArg₂ (fun u v : EReal => u * v) hr (hc sn))

/-- Four heads' pieces are one function of the index. -/
theorem heads_apply (z : FVec Ideal S1024x512 .f32) (v : BitVec 32) (cs sn : Vec Ideal S1024x128 .f32) (y : S1024x512.Idx) :
    (View.canon (Val := Elt Ideal) (s := S1024x512) (e := .bf16)
      [⟨Rect.unit ![0, 384] S1024x128.size inb_S1024x512_S1024x128_0_384, k0_pay7 z v cs sn⟩,
       ⟨Rect.unit ![0, 256] S1024x128.size inb_S1024x512_S1024x128_0_256, k0_pay6 z v cs sn⟩,
       ⟨Rect.unit ![0, 128] S1024x128.size inb_S1024x512_S1024x128_0_128, k0_pay5 z v cs sn⟩,
       ⟨Rect.unit ![0, 0] S1024x128.size inb_S1024x512_S1024x128_0_0, k0_pay4 z v cs sn⟩] y : EReal) = turned z (k0_pay1 (F := Ideal) v) cs sn y := by
  have h0 : (y 0).val < 1024 := (y 0).isLt
  have h1 : (y 1).val < 512 := (y 1).isLt
  have piece : ∀ (o : ℕ) (ho : o % 128 = 0) (hs : S1024x512.Slices ![0, o] S1024x128) (lo : o ≤ (y 1).val) (hi : (y 1).val < o + 128),
      ∃ x : S1024x128.Idx, (∀ a : Fin 2, (y a).val = (![0, o] : Fin 2 → ℕ) a + (x a).val) ∧
        (truncf .bf16 (addf (mulf (extractStridedSlice S1024x128 ![0, o] z hs) (k0_pay2 v cs))
          (mulf (dynamicRotate 1 64#32 none (extractStridedSlice S1024x128 ![0, o] z hs) rotates_S1024x128_d1) (k0_pay3 v sn))) bitsLt_bf16_f32 x : EReal)
          = turned z (k0_pay1 (F := Ideal) v) cs sn y := fun o ho hs lo hi =>
    ⟨ix2 (⟨(y 0).val, h0⟩ : Fin 1024) (⟨(y 1).val - o, by omega⟩ : Fin 128), fun a => by
      match a with
      | ⟨0, _⟩ => show (y 0).val = 0 + (y 0).val; omega
      | ⟨1, _⟩ => show (y 1).val = o + ((y 1).val - o); omega,
      head_apply o ho hs z v cs sn _ _ y rfl (show (y 1).val = o + ((y 1).val - o) by omega)⟩
  by_cases c3 : 384 ≤ (y 1).val
  · obtain ⟨x, hx, e⟩ := piece 384 (by decide) slices_S1024x512_o0_384_S1024x128 c3 (by omega)
    exact (Cert.Conv.canon_of_mem _ _ _ y x hx).trans e
  refine (Cert.Conv.canon_of_not_mem _ _ _ y 1 (.inl (by show (y 1).val < 384; omega))).trans ?_
  by_cases c2 : 256 ≤ (y 1).val
  · obtain ⟨x, hx, e⟩ := piece 256 (by decide) slices_S1024x512_o0_256_S1024x128 c2 (by omega)
    exact (Cert.Conv.canon_of_mem _ _ _ y x hx).trans e
  refine (Cert.Conv.canon_of_not_mem _ _ _ y 1 (.inl (by show (y 1).val < 256; omega))).trans ?_
  by_cases c1 : 128 ≤ (y 1).val
  · obtain ⟨x, hx, e⟩ := piece 128 (by decide) slices_S1024x512_o0_128_S1024x128 c1 (by omega)
    exact (Cert.Conv.canon_of_mem _ _ _ y x hx).trans e
  refine (Cert.Conv.canon_of_not_mem _ _ _ y 1 (.inl (by show (y 1).val < 128; omega))).trans ?_
  obtain ⟨x, hx, e⟩ := piece 0 (by decide) slices_S1024x512_o0_0_S1024x128 (Nat.zero_le _) (by omega)
  exact (Cert.Conv.canon_of_mem _ _ _ y x hx).trans e

theorem pay8_apply (x : Vec Ideal S1024x4096 .bf16) (w : Vec Ideal S1x4096x512 .f32) (a : Fin 1024) (e : Fin 512) :
    k0_pay8 x w (ix2 a e) = ∑ k : Fin 4096, (x (ix2 a k) * w (ix3 0 k e) : EReal) := by
  unfold k0_pay8
  exact layer_matmul (M := 1024) (K := 4096) (N := 512) x w _ _ a e

/-! ## The blocks -/

/-- The rows, the weights and the two tables, as launched. -/
abbrev xArg (c : Dev nD) : S8192x4096.Idx → EReal := m ((c : Thread nD τ).loc main_arg0)
abbrev wArg (c : Dev nD) : S1x4096x19456.Idx → EReal := m ((c : Thread nD τ).loc main_arg1)
abbrev cosArg (c : Dev nD) : S8192x128.Idx → EReal := m ((c : Thread nD τ).loc main_arg2)
abbrev sinArg (c : Dev nD) : S8192x128.Idx → EReal := m ((c : Thread nD τ).loc main_arg3)

/-- A point's four blocks. -/
abbrev xBlk (c : Dev nD) (t : Fin cfg0.N) : S1024x4096.Idx → EReal := iblk m c 0 t
abbrev wBlk (c : Dev nD) (t : Fin cfg0.N) : S1x4096x512.Idx → EReal := iblk m c 1 t
abbrev cosBlk (c : Dev nD) (t : Fin cfg0.N) : S1024x128.Idx → EReal := iblk m c 2 t
abbrev sinBlk (c : Dev nD) (t : Fin cfg0.N) : S1024x128.Idx → EReal := iblk m c 3 t

theorem lt_N (t : Fin cfg0.N) : t.val < 288 := lt_of_lt_of_eq t.isLt (show cfg0.N = 288 from N_0)

theorem index_0 : ∀ t : Fin grid0.N, win0_0.index t = ![t.val / 36, 0] := by decide +kernel
theorem index_1 : ∀ t : Fin grid0.N, win0_1.index t = ![0, 0, t.val % 36] := by decide +kernel
theorem index_2 : ∀ t : Fin grid0.N, win0_2.index t = ![t.val / 36, 0] := by decide +kernel
theorem index_3 : ∀ t : Fin grid0.N, win0_3.index t = ![t.val / 36, 0] := by decide +kernel
theorem index_4 : ∀ t : Fin grid0.N, win0_4.index t = ![t.val / 36, t.val % 36] := by decide +kernel

theorem xBlk_apply (c : Dev nD) (t : Fin cfg0.N) (a : Fin 1024) (k : Fin 4096) (i : Fin 8192) (hi : i.val = 1024 * (t.val / 36) + a.val) :
    xBlk m c t (ix2 a k) = xArg m c (ix2 i k) := by
  unfold xBlk iblk
  rw [View.read_apply]
  show V m c main_arg0 _ = _
  rw [V_main_arg0]
  refine congrArg (xArg m c) (funext fun b => Fin.ext ?_)
  match b with
  | ⟨0, _⟩ => show win0_0.index t 0 * 1024 + 1 * a.val = i.val
              rw [index_0]; show t.val / 36 * 1024 + 1 * a.val = _; omega
  | ⟨1, _⟩ => show win0_0.index t 1 * 4096 + 1 * k.val = k.val
              rw [index_0]; show 0 * 4096 + 1 * k.val = _; omega

theorem wBlk_apply (c : Dev nD) (t : Fin cfg0.N) (k : Fin 4096) (e : Fin 512) (n : Fin 19456) (hn : n.val = 512 * (t.val % 36) + e.val) :
    wBlk m c t (ix3 0 k e) = wArg m c (ix3 0 k n) := by
  unfold wBlk iblk
  rw [View.read_apply]
  show V m c main_arg1 _ = _
  rw [V_main_arg1]
  refine congrArg (wArg m c) (funext fun b => Fin.ext ?_)
  match b with
  | ⟨0, _⟩ => show win0_1.index t 0 * 1 + 1 * 0 = 0
              rw [index_1]; rfl
  | ⟨1, _⟩ => show win0_1.index t 1 * 4096 + 1 * k.val = k.val
              rw [index_1]; show 0 * 4096 + 1 * k.val = _; omega
  | ⟨2, _⟩ => show win0_1.index t 2 * 512 + 1 * e.val = n.val
              rw [index_1]; show t.val % 36 * 512 + 1 * e.val = _; omega

theorem cosBlk_apply (c : Dev nD) (t : Fin cfg0.N) (a : Fin 1024) (k : Fin 128) (i : Fin 8192) (hi : i.val = 1024 * (t.val / 36) + a.val) :
    cosBlk m c t (ix2 a k) = cosArg m c (ix2 i k) := by
  unfold cosBlk iblk
  rw [View.read_apply]
  show V m c main_arg2 _ = _
  rw [V_main_arg2]
  refine congrArg (cosArg m c) (funext fun b => Fin.ext ?_)
  match b with
  | ⟨0, _⟩ => show win0_2.index t 0 * 1024 + 1 * a.val = i.val
              rw [index_2]; show t.val / 36 * 1024 + 1 * a.val = _; omega
  | ⟨1, _⟩ => show win0_2.index t 1 * 128 + 1 * k.val = k.val
              rw [index_2]; show 0 * 128 + 1 * k.val = _; omega

theorem sinBlk_apply (c : Dev nD) (t : Fin cfg0.N) (a : Fin 1024) (k : Fin 128) (i : Fin 8192) (hi : i.val = 1024 * (t.val / 36) + a.val) :
    sinBlk m c t (ix2 a k) = sinArg m c (ix2 i k) := by
  unfold sinBlk iblk
  rw [View.read_apply]
  show V m c main_arg3 _ = _
  rw [V_main_arg3]
  refine congrArg (sinArg m c) (funext fun b => Fin.ext ?_)
  match b with
  | ⟨0, _⟩ => show win0_3.index t 0 * 1024 + 1 * a.val = i.val
              rw [index_3]; show t.val / 36 * 1024 + 1 * a.val = _; omega
  | ⟨1, _⟩ => show win0_3.index t 1 * 128 + 1 * k.val = k.val
              rw [index_3]; show 0 * 128 + 1 * k.val = _; omega

/-! ## The result -/

/-- An entry of the rows' product with the weights. -/
def product (x : S8192x4096.Idx → EReal) (w : S1x4096x19456.Idx → EReal) (i : Fin 8192) (n : Fin 19456) : EReal :=
  ∑ k : Fin 4096, x (ix2 i k) * w (ix3 0 k n)

/-- The scale of a column's section: the queries' or one. -/
def scale (n : ℕ) : EReal := if n / 2048 % 3 = 0 then Ideal.ofBits .f32 0x3DB504F3#32 else Ideal.ofBits .f32 0x3F800000#32

/-- One entry of the result: the product in a value section, else turned and scaled. -/
def entry (P : Fin 8192 → Fin 19456 → EReal) (cs sn : S8192x128.Idx → EReal) (i : Fin 8192) (n : Fin 18432) : EReal :=
  if n.val / 2048 % 3 = 2 then P i (⟨n.val, by omega⟩ : Fin 19456)
  else P i (⟨n.val, by omega⟩ : Fin 19456) * (cs (ix2 i (⟨n.val % 128, Nat.mod_lt _ (by decide)⟩ : Fin 128)) * scale n.val)
    + P i (⟨turn n.val, (turn_lt (K := 144) n.isLt).trans (by decide)⟩ : Fin 19456) * (sn (ix2 i (⟨n.val % 128, Nat.mod_lt _ (by decide)⟩ : Fin 128)) * scale n.val)

/-- The whole result. -/
def result (c : Dev nD) : S8192x18432.Idx → EReal := fun y =>
  entry (product (xArg m c) (wArg m c)) (cosArg m c) (sinArg m c) (y 0 : Fin 8192) (y 1 : Fin 18432)

theorem product_apply (c : Dev nD) (t : Fin cfg0.N) (a : Fin 1024) (e : Fin 512) (i : Fin 8192) (n : Fin 19456)
    (hi : i.val = 1024 * (t.val / 36) + a.val) (hn : n.val = 512 * (t.val % 36) + e.val) :
    k0_pay8 (F := Ideal) (xBlk m c t) (wBlk m c t) (ix2 a e) = product (xArg m c) (wArg m c) i n := by
  rw [pay8_apply]
  exact Finset.sum_congr rfl fun k _ => congrArg₂ (fun u v : EReal => u * v) (xBlk_apply m c t a k i hi) (wBlk_apply m c t k e n hn)

theorem scale_eq (t : Fin cfg0.N) (e : Fin 512) (n : ℕ) (hn : n = 512 * (t.val % 36) + e.val) : (k0_pay1 (F := Ideal) (sec t) : EReal) = scale n := by
  have hN := lt_N t
  have he := e.isLt
  unfold k0_pay1 scale
  by_cases h : t.val % 12 < 4
  · rw [if_pos (by omega)]
    show (Scalar.select (Scalar.cmpi .eq (sec t) 0#32) (Ideal.ofBits .f32 0x3DB504F3#32) (Ideal.ofBits .f32 0x3F800000#32) : EReal) = _
    rw [sec_query t h]
    rfl
  · rw [if_neg (by omega)]
    show (Scalar.select (Scalar.cmpi .eq (sec t) 0#32) (Ideal.ofBits .f32 0x3DB504F3#32) (Ideal.ofBits .f32 0x3F800000#32) : EReal) = _
    rw [sec_key t (by omega)]
    rfl

theorem point (c : Dev nD) (t : Fin cfg0.N) (a : Fin 1024) (e : Fin 512) (i : Fin 8192) (n : Fin 18432)
    (hi : i.val = 1024 * (t.val / 36) + a.val) (hn : n.val = 512 * (t.val % 36) + e.val) :
    (outsAt0 m c t.val t.isLt : Vec Ideal S1024x512 .bf16) (ix2 a e) = result m c (ix2 i n) := by
  have hN := lt_N t
  have he := e.isLt
  have hp := product_apply m c t a e i (⟨n.val, by omega⟩ : Fin 19456) hi hn
  show _ = entry _ _ _ i n
  unfold entry
  by_cases h : t.val % 12 = 8 ∨ t.val % 12 = 9 ∨ t.val % 12 = 10 ∨ t.val % 12 = 11
  · rw [out_B m c t h, if_pos (by omega)]
    exact hp
  · rw [out_A m c t h, if_neg (by omega)]
    refine (heads_apply _ _ _ _ (ix2 a e)).trans ?_
    have hd : (⟨e.val % 128, Nat.mod_lt _ (by decide)⟩ : Fin 128) = ⟨n.val % 128, Nat.mod_lt _ (by decide)⟩ := Fin.ext (by show e.val % 128 = n.val % 128; omega)
    have ht : turn n.val = 512 * (t.val % 36) + turn e.val := by unfold turn; omega
    have hq := product_apply m c t a (⟨turn e.val, turn_lt (K := 4) he⟩ : Fin 512) i (⟨turn n.val, (turn_lt (K := 144) n.isLt).trans (by decide)⟩ : Fin 19456) hi ht
    have hs := scale_eq t e n.val hn
    have hc := cosBlk_apply m c t a (⟨n.val % 128, Nat.mod_lt _ (by decide)⟩ : Fin 128) i hi
    have hk := sinBlk_apply m c t a (⟨n.val % 128, Nat.mod_lt _ (by decide)⟩ : Fin 128) i hi
    rw [← hp, ← hq, ← hs, ← hc, ← hk, ← hd]
    rfl

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [Value.flushed4]
  funext y
  rw [View.read_apply]
  have y0 : (y 0).val < 1024 := (y 0).isLt
  have y1 : (y 1).val < 512 := (y 1).isLt
  have e := point m c t ⟨(y 0).val, y0⟩ ⟨(y 1).val, y1⟩ ⟨1024 * (t.val / 36) + (y 0).val, by omega⟩ ⟨512 * (t.val % 36) + (y 1).val, by omega⟩ rfl rfl
  refine Eq.trans ?_ (e.trans ?_)
  · show (outsAt0 m c t.val t.isLt : Vec Ideal S1024x512 .bf16) _ = _
    refine congrArg (outsAt0 m c t.val t.isLt : Vec Ideal S1024x512 .bf16) (funext fun b => Fin.ext ?_)
    match b with
    | ⟨0, _⟩ => rfl
    | ⟨1, _⟩ => rfl
  · refine congrArg (result m c) (funext fun b => Fin.ext ?_)
    match b with
    | ⟨0, _⟩ => show 1024 * (t.val / 36) + (y 0).val = win0_4.index t 0 * 1024 + 1 * (y 0).val
                rw [index_4]; show _ = t.val / 36 * 1024 + 1 * (y 0).val; omega
    | ⟨1, _⟩ => show 512 * (t.val % 36) + (y 1).val = win0_4.index t 1 * 512 + 1 * (y 1).val
                rw [index_4]; show _ = t.val % 36 * 512 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 18432 := (i 1).isLt
    have hN : cfg0.N = 288 := N_0
    have ht : (i 0 : Nat) / 1024 * 36 + (i 1 : Nat) / 512 < cfg0.N := by omega
    refine ⟨⟨(i 0 : Nat) / 1024 * 36 + (i 1 : Nat) / 512, ht⟩, flush0_4 _, ?_⟩
    show i ∈ ((View.whole main_v0).slice (win0_4.rect ⟨(i 0 : Nat) / 1024 * 36 + (i 1 : Nat) / 512, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 36 + (i 1 : Nat) / 512) / 36 * 1024 ≤ (i 0 : Nat) ∧ (i 0 : Nat) < ((i 0 : Nat) / 1024 * 36 + (i 1 : Nat) / 512) / 36 * 1024 + 1024
                omega
    | ⟨1, _⟩ => show win0_4.index _ 1 * 512 ≤ (i 1 : Nat) ∧ (i 1 : Nat) < win0_4.index _ 1 * 512 + 512
                rw [index_4]
                show ((i 0 : Nat) / 1024 * 36 + (i 1 : Nat) / 512) % 36 * 512 ≤ (i 1 : Nat) ∧ (i 1 : Nat) < ((i 0 : Nat) / 1024 * 36 + (i 1 : Nat) / 512) % 36 * 512 + 512
                omega

end Cert.AttnInIdeal.Own

end
-- ==== Proof.AttnIn.lean ====
/-
  The claims about the projection of the attention's input: the frames of the kernel and of the reference, and the
  equality of their results over the extended reals, with no condition on the arguments.
-/
module

public import proofs.«01_k».proof.Defs
public import proofs.«01_k».proof.Proof.AttnInValue
public import proofs.«01_k».proof.Proof.Gen.AttnIn
public import proofs.«01_k».proof.Proof.Gen.AttnInIdeal
public import proofs.«01_k».proof.Proof.Gen.AttnInRefIdeal
public import proofs.«01_k».proof.Proof.Gen.AttnInRefIdeal.Read
public import Idealize.ShloMosaic.Lib.Quiescent
public import Idealize.ShloMosaic.Lib.IdealHost

@[expose] public section

set_option maxRecDepth 65536

noncomputable section

namespace Cert.Proof.AttnIn

open Idealize.ShloMosaic Idealize.ShloMosaic.TcCoe Idealize.SL.Sem Idealize.ShloMosaic.ValueIdx
open Cert.AttnInRefIdeal Cert.AttnInRefIdeal.Gen Cert.AttnInRefIdeal.Read
open Cert.AttnInIdeal.Own (product scale entry turn)

/-- The queries' scale as a real number. -/
theorem query_scale : Ideal.ofBits .f32 0x3DB504F3#32 = (((11863283 : ℝ) / 134217728 : ℝ) : EReal) := by
  simp [Ideal.ofBits, Ideal.ieee, -EReal.coe_mul]
  norm_num

/-- Scaling the turned sum is scaling the tables. -/
theorem scaled (a b c d : EReal) : (a * b + c * d) * Ideal.ofBits .f32 0x3DB504F3#32
    = a * (b * Ideal.ofBits .f32 0x3DB504F3#32) + c * (d * Ideal.ofBits .f32 0x3DB504F3#32) := by
  rw [query_scale, EReal.right_distrib_of_nonneg_of_ne_top (by exact_mod_cast (by norm_num : (0 : ℝ) ≤ 11863283 / 134217728)) (EReal.coe_ne_top _), mul_assoc, mul_assoc]

variable (x : (⟨S8192x4096, .bf16⟩ : BufTy).Contents (Elt Ideal)) (w : (⟨S1x4096x19456, .f32⟩ : BufTy).Contents (Elt Ideal))
  (cs sn : (⟨S8192x128, .f32⟩ : BufTy).Contents (Elt Ideal))

theorem weight (k : Fin 4096) (n : Fin 19456) : val_main_v1 (F := Ideal) w (ix2 k n) = w (ix3 0 k n) := by
  rw [val_main_v1_apply]
  have := n.isLt
  have := k.isLt
  refine congrArg w (funext fun b => Fin.ext ?_)
  match b with
  | ⟨0, _⟩ => rfl
  | ⟨1, _⟩ => show (k.val * 19456 + n.val) / 19456 % 4096 = k.val; omega
  | ⟨2, _⟩ => show (k.val * 19456 + n.val) % 19456 = n.val; omega

/-- The reference's product at an index. -/
theorem multiplied (i : Fin 8192) (n : Fin 19456) : val_main_v2 (F := Ideal) x w (ix2 i n) = product x w i n := by
  rw [val_main_v2_apply]
  refine Finset.sum_congr rfl fun k _ => congrArg₂ (fun u v : EReal => u * v) ?_ (Eq.trans (congrArg _ ?_) (weight w k n))
  · rw [val_main_v0_apply]
    refine congrArg (x : S8192x4096.Idx → EReal) (funext fun b => ?_)
    match b with
    | ⟨0, _⟩ => rfl
    | ⟨1, _⟩ => rfl
  · funext b
    match b with
    | ⟨0, _⟩ => rfl
    | ⟨1, _⟩ => rfl

/-- The column of a group's, a section's, a head's coordinate. -/
def place (g s h d : ℕ) : ℕ := 6144 * g + 2048 * s + 128 * h + d

theorem place_lt {g s h d : ℕ} (hg : g < 3) (hs : s < 3) (hh : h < 16) (hd : d < 128) : place g s h d < 19456 := by
  unfold place; omega

/-- The product split into groups, sections and heads. -/
theorem split_apply (i : Fin 8192) (g s : Fin 3) (h : Fin 16) (d : Fin 128) :
    val_main_v4 (F := Ideal) x w (ix5 i g s h d) = product x w i ⟨place g.val s.val h.val d.val, place_lt g.isLt s.isLt h.isLt d.isLt⟩ := by
  rw [val_main_v4_apply, val_main_v3_apply, ← multiplied]
  have := g.isLt
  have := s.isLt
  have := h.isLt
  have := d.isLt
  refine congrArg _ (funext fun b => Fin.ext ?_)
  match b with
  | ⟨0, _⟩ => show ((((i.val * 3 + g.val) * 3 + s.val) * 16 + h.val) * 128 + d.val) / 18432 = i.val; omega
  | ⟨1, _⟩ => show ((((i.val * 3 + g.val) * 3 + s.val) * 16 + h.val) * 128 + d.val) % 18432 = place g.val s.val h.val d.val; unfold place; omega

/-- The index a section is read at once its axis is dropped. -/
theorem dropped (i : Fin 8192) (g : Fin 3) (h : Fin 16) (d : Fin 128) : idx_main_v6 (ix4 i g h d) = ix5 i g 0 h d := by
  have := g.isLt
  have := h.isLt
  have := d.isLt
  refine funext fun b => Fin.ext ?_
  match b with
  | ⟨0, _⟩ => show (((i.val * 3 + g.val) * 16 + h.val) * 128 + d.val) / 6144 = i.val; omega
  | ⟨1, _⟩ => show (((i.val * 3 + g.val) * 16 + h.val) * 128 + d.val) / 2048 % 3 = g.val; omega
  | ⟨2, _⟩ => rfl
  | ⟨3, _⟩ => show (((i.val * 3 + g.val) * 16 + h.val) * 128 + d.val) / 128 % 16 = h.val; omega
  | ⟨4, _⟩ => show (((i.val * 3 + g.val) * 16 + h.val) * 128 + d.val) % 128 = d.val; omega

theorem queries (i : Fin 8192) (g : Fin 3) (h : Fin 16) (d : Fin 128) :
    val_main_v6 (F := Ideal) x w (ix4 i g h d) = val_main_v4 (F := Ideal) x w (ix5 i g 0 h d) := by
  rw [val_main_v6_apply, dropped, val_main_v5_apply]
  refine congrArg _ (funext fun b => ?_)
  match b with
  | ⟨0, _⟩ => rfl
  | ⟨1, _⟩ => rfl
  | ⟨2, _⟩ => rfl
  | ⟨3, _⟩ => rfl
  | ⟨4, _⟩ => rfl

theorem keys (i : Fin 8192) (g : Fin 3) (h : Fin 16) (d : Fin 128) :
    val_main_v29 (F := Ideal) x w (ix4 i g h d) = val_main_v4 (F := Ideal) x w (ix5 i g 1 h d) := by
  rw [val_main_v29_apply, show idx_main_v29 (ix4 i g h d) = ix5 i g 0 h d from dropped i g h d, val_main_v28_apply]
  refine congrArg _ (funext fun b => ?_)
  match b with
  | ⟨0, _⟩ => rfl
  | ⟨1, _⟩ => rfl
  | ⟨2, _⟩ => rfl
  | ⟨3, _⟩ => rfl
  | ⟨4, _⟩ => rfl

theorem values (i : Fin 8192) (g : Fin 3) (h : Fin 16) (d : Fin 128) :
    val_main_v50 (F := Ideal) x w (ix4 i g h d) = val_main_v4 (F := Ideal) x w (ix5 i g 2 h d) := by
  rw [val_main_v50_apply, show idx_main_v50 (ix4 i g h d) = ix5 i g 0 h d from dropped i g h d, val_main_v49_apply]
  refine congrArg _ (funext fun b => ?_)
  match b with
  | ⟨0, _⟩ => rfl
  | ⟨1, _⟩ => rfl
  | ⟨2, _⟩ => rfl
  | ⟨3, _⟩ => rfl
  | ⟨4, _⟩ => rfl

/-! ## The rotation -/

/-- The lower half of a head. -/
abbrev low (e : Fin 64) : Fin 128 := ⟨e.val, by omega⟩
/-- The upper half of a head. -/
abbrev high (e : Fin 64) : Fin 128 := ⟨64 + e.val, by omega⟩

theorem cos_low (i : Fin 8192) (g : Fin 3) (h : Fin 16) (e : Fin 64) : val_main_v15 (F := Ideal) cs (ix4 i g h e) = cs (ix2 i (low e)) := by
  rw [val_main_v15_apply, val_main_v10_apply, val_main_v9_apply]
  refine congrArg cs (funext fun b => ?_)
  match b with
  | ⟨0, _⟩ => rfl
  | ⟨1, _⟩ => rfl

theorem cos_high (i : Fin 8192) (g : Fin 3) (h : Fin 16) (e : Fin 64) : val_main_v20 (F := Ideal) cs (ix4 i g h e) = cs (ix2 i (high e)) := by
  rw [val_main_v20_apply, val_main_v11_apply, val_main_v9_apply]
  refine congrArg cs (funext fun b => ?_)
  match b with
  | ⟨0, _⟩ => rfl
  | ⟨1, _⟩ => rfl

theorem sin_low (i : Fin 8192) (g : Fin 3) (h : Fin 16) (e : Fin 64) : val_main_v17 (F := Ideal) sn (ix4 i g h e) = sn (ix2 i (low e)) := cos_low sn i g h e

theorem sin_high (i : Fin 8192) (g : Fin 3) (h : Fin 16) (e : Fin 64) : val_main_v22 (F := Ideal) sn (ix4 i g h e) = sn (ix2 i (high e)) := cos_high sn i g h e

theorem query_low (i : Fin 8192) (g : Fin 3) (h : Fin 16) (e : Fin 64) :
    val_main_v7 (F := Ideal) x w (ix4 i g h e) = val_main_v6 (F := Ideal) x w (ix4 i g h (low e)) := by
  rw [val_main_v7_apply]
  refine congrArg _ (funext fun b => ?_)
  match b with
  | ⟨0, _⟩ => rfl
  | ⟨1, _⟩ => rfl
  | ⟨2, _⟩ => rfl
  | ⟨3, _⟩ => rfl

theorem query_high (i : Fin 8192) (g : Fin 3) (h : Fin 16) (e : Fin 64) :
    val_main_v8 (F := Ideal) x w (ix4 i g h e) = val_main_v6 (F := Ideal) x w (ix4 i g h (high e)) := by
  rw [val_main_v8_apply]
  refine congrArg _ (funext fun b => ?_)
  match b with
  | ⟨0, _⟩ => rfl
  | ⟨1, _⟩ => rfl
  | ⟨2, _⟩ => rfl
  | ⟨3, _⟩ => rfl

theorem key_low (i : Fin 8192) (g : Fin 3) (h : Fin 16) (e : Fin 64) :
    val_main_v30 (F := Ideal) x w (ix4 i g h e) = val_main_v29 (F := Ideal) x w (ix4 i g h (low e)) := by
  rw [val_main_v30_apply]
  refine congrArg _ (funext fun b => ?_)
  match b with
  | ⟨0, _⟩ => rfl
  | ⟨1, _⟩ => rfl
  | ⟨2, _⟩ => rfl
  | ⟨3, _⟩ => rfl

theorem key_high (i : Fin 8192) (g : Fin 3) (h : Fin 16) (e : Fin 64) :
    val_main_v31 (F := Ideal) x w (ix4 i g h e) = val_main_v29 (F := Ideal) x w (ix4 i g h (high e)) := by
  rw [val_main_v31_apply]
  refine congrArg _ (funext fun b => ?_)
  match b with
  | ⟨0, _⟩ => rfl
  | ⟨1, _⟩ => rfl
  | ⟨2, _⟩ => rfl
  | ⟨3, _⟩ => rfl

/-- The coordinate half a head away. -/
abbrev other (d : Fin 128) : Fin 128 := ⟨(d.val + 64) % 128, Nat.mod_lt _ (by decide)⟩

/-- The two halves joined are the rotation of the whole head. -/
theorem rotated (y1 y2 : (⟨S8192x3x16x64, .f32⟩ : BufTy).Contents (Elt Ideal)) (T : Fin 128 → EReal) (i : Fin 8192) (g : Fin 3) (h : Fin 16) (d : Fin 128)
    (h1 : ∀ e : Fin 64, (y1 (ix4 i g h e) : EReal) = T (low e) * cs (ix2 i (low e)) + T (high e) * sn (ix2 i (low e)))
    (h2 : ∀ e : Fin 64, (y2 (ix4 i g h e) : EReal) = T (high e) * cs (ix2 i (high e)) + T (low e) * sn (ix2 i (high e))) :
    (concatenate S8192x3x16x128 3 [⟨S8192x3x16x64, y1⟩, ⟨S8192x3x16x64, y2⟩] concatenates_S8192x3x16x64_S8192x3x16x64_S8192x3x16x128_d3 (ix4 i g h d) : EReal)
      = T d * cs (ix2 i d) + T (other d) * sn (ix2 i d) := by
  have hd := d.isLt
  by_cases hl : d.val < 64
  · have e1 : low ⟨d.val, hl⟩ = d := rfl
    have e2 : high ⟨d.val, hl⟩ = other d := Fin.ext (show 64 + d.val = (d.val + 64) % 128 by omega)
    rw [← e2]
    refine Eq.trans ?_ (h1 ⟨d.val, hl⟩)
    refine concatenate_pair_apply_left (t := S8192x3x16x128) (s₁ := S8192x3x16x64) (s₂ := S8192x3x16x64) 3 y1 y2 _ _ rfl (ix4 i g h (⟨d.val, hl⟩ : Fin 64)) fun c => ?_
    match c with
    | ⟨0, _⟩ => rfl
    | ⟨1, _⟩ => rfl
    | ⟨2, _⟩ => rfl
    | ⟨3, _⟩ => rfl
  · have hh : d.val - 64 < 64 := by omega
    have e1 : high ⟨d.val - 64, hh⟩ = d := Fin.ext (show 64 + (d.val - 64) = d.val by omega)
    have e2 : low ⟨d.val - 64, hh⟩ = other d := Fin.ext (show d.val - 64 = (d.val + 64) % 128 by omega)
    have r := h2 ⟨d.val - 64, hh⟩
    rw [e1, e2] at r
    refine Eq.trans ?_ r
    refine concatenate_pair_apply_right (t := S8192x3x16x128) (s₁ := S8192x3x16x64) (s₂ := S8192x3x16x64) 3 y1 y2 _ _ rfl rfl (ix4 i g h (⟨d.val - 64, hh⟩ : Fin 64)) (fun c hc => ?_) ?_
    · match c with
      | ⟨0, _⟩ => rfl
      | ⟨1, _⟩ => rfl
      | ⟨2, _⟩ => rfl
      | ⟨3, _⟩ => exact absurd rfl hc
    · show d.val - 64 + 64 = d.val
      omega

/-- A query turned and scaled. -/
theorem query (i : Fin 8192) (g : Fin 3) (h : Fin 16) (d : Fin 128) :
    (val_main_v27 (F := Ideal) x w cs sn (ix4 i g h d) : EReal)
      = (val_main_v6 (F := Ideal) x w (ix4 i g h d) * cs (ix2 i d) + val_main_v6 (F := Ideal) x w (ix4 i g h (other d)) * sn (ix2 i d))
          * Ideal.ofBits .f32 0x3DB504F3#32 := by
  rw [val_main_v27_apply, val_main_v26_apply]
  refine congrArg₂ (fun u v : EReal => u * v) ?_ rfl
  unfold val_main_v25
  refine rotated cs sn _ _ (fun d => val_main_v6 (F := Ideal) x w (ix4 i g h d)) i g h d (fun e => ?_) fun e => ?_
  · rw [val_main_v19_apply, val_main_v16_apply, val_main_v18_apply, query_low, query_high, cos_low, sin_low]; rfl
  · rw [val_main_v24_apply, val_main_v21_apply, val_main_v23_apply, query_low, query_high, cos_high, sin_high]; rfl

/-- A key turned. -/
theorem key (i : Fin 8192) (g : Fin 3) (h : Fin 16) (d : Fin 128) :
    (val_main_v48 (F := Ideal) x w cs sn (ix4 i g h d) : EReal)
      = val_main_v29 (F := Ideal) x w (ix4 i g h d) * cs (ix2 i d) + val_main_v29 (F := Ideal) x w (ix4 i g h (other d)) * sn (ix2 i d) := by
  unfold val_main_v48
  refine rotated cs sn _ _ (fun d => val_main_v29 (F := Ideal) x w (ix4 i g h d)) i g h d (fun e => ?_) fun e => ?_
  · rw [val_main_v42_apply, val_main_v39_apply, val_main_v41_apply, key_low, key_high,
      show val_main_v38 (F := Ideal) cs (ix4 i g h e) = cs (ix2 i (low e)) from cos_low cs i g h e,
      show val_main_v40 (F := Ideal) sn (ix4 i g h e) = sn (ix2 i (low e)) from cos_low sn i g h e]; rfl
  · rw [val_main_v47_apply, val_main_v44_apply, val_main_v46_apply, key_low, key_high,
      show val_main_v43 (F := Ideal) cs (ix4 i g h e) = cs (ix2 i (high e)) from cos_high cs i g h e,
      show val_main_v45 (F := Ideal) sn (ix4 i g h e) = sn (ix2 i (high e)) from cos_high sn i g h e]; rfl

/-- A stacked array read at one of its three sections. -/
theorem stacked (y0 y1 y2 : (⟨S8192x3x1x16x128, .f32⟩ : BufTy).Contents (Elt Ideal))
    (i : Fin 8192) (g s : Fin 3) (h : Fin 16) (d : Fin 128) (hc) :
    concatenate S8192x3x3x16x128 2 [⟨S8192x3x1x16x128, y0⟩, ⟨S8192x3x1x16x128, y1⟩, ⟨S8192x3x1x16x128, y2⟩] hc (ix5 i g s h d)
      = ![y0, y1, y2] s (ix5 i g 0 h d) := by
  refine concatenate_apply_piece (t := S8192x3x3x16x128) 2 _ hc (ix5 i g s h d) s.val s.isLt S8192x3x1x16x128 (![y0, y1, y2] s) ?_ rfl s.val ?_ (ix5 i g 0 h d) (fun b hb => ?_) rfl
  · match s with
    | ⟨0, _⟩ => rfl
    | ⟨1, _⟩ => rfl
    | ⟨2, _⟩ => rfl
  · match s with
    | ⟨0, _⟩ => rfl
    | ⟨1, _⟩ => rfl
    | ⟨2, _⟩ => rfl
  · match b with
    | ⟨0, _⟩ => rfl
    | ⟨1, _⟩ => rfl
    | ⟨2, _⟩ => exact absurd rfl hb
    | ⟨3, _⟩ => rfl
    | ⟨4, _⟩ => rfl

theorem unstack (i : Fin 8192) (g : Fin 3) (h : Fin 16) (d : Fin 128) : idx_main_v51 (ix5 i g 0 h d) = ix4 i g h d := by
  funext b
  match b with
  | ⟨0, _⟩ => rfl
  | ⟨1, _⟩ => rfl
  | ⟨2, _⟩ => rfl
  | ⟨3, _⟩ => rfl

/-- The reference's result at an index is the entry. -/
theorem entries (i : Fin 8192) (n : Fin 18432) : (val_main_v56 (F := Ideal) x w cs sn (ix2 i n) : EReal) = entry (product x w) cs sn i n := by
  have hn := n.isLt
  have hi := i.isLt
  have hidx : idx_main_v55 (ix2 i n) = ix5 i (⟨n.val / 6144, by omega⟩ : Fin 3) (⟨n.val / 2048 % 3, Nat.mod_lt _ (by decide)⟩ : Fin 3) (⟨n.val / 128 % 16, Nat.mod_lt _ (by decide)⟩ : Fin 16) (⟨n.val % 128, Nat.mod_lt _ (by decide)⟩ : Fin 128) := by
    refine funext fun b => Fin.ext ?_
    match b with
    | ⟨0, _⟩ => show (i.val * 18432 + n.val) / 18432 = i.val; omega
    | ⟨1, _⟩ => show (i.val * 18432 + n.val) / 6144 % 3 = n.val / 6144; omega
    | ⟨2, _⟩ => show (i.val * 18432 + n.val) / 2048 % 3 = n.val / 2048 % 3; omega
    | ⟨3, _⟩ => show (i.val * 18432 + n.val) / 128 % 16 = n.val / 128 % 16; omega
    | ⟨4, _⟩ => show (i.val * 18432 + n.val) % 128 = n.val % 128; omega
  have e : (val_main_v56 (F := Ideal) x w cs sn (ix2 i n) : EReal) = val_main_v54 (F := Ideal) x w cs sn (idx_main_v55 (ix2 i n)) :=
    (val_main_v56_apply x w cs sn (ix2 i n)).trans (val_main_v55_apply x w cs sn (ix2 i n))
  rw [e, hidx]
  unfold val_main_v54
  rw [stacked]
  generalize hs : (⟨n.val / 2048 % 3, Nat.mod_lt _ (by decide)⟩ : Fin 3) = s
  have hsv : n.val / 2048 % 3 = s.val := congrArg Fin.val hs
  have at_place : ∀ (h1 : place (n.val / 6144) s.val (n.val / 128 % 16) (n.val % 128) < 19456) (h2 : n.val < 19456), (⟨_, h1⟩ : Fin 19456) = ⟨n.val, h2⟩ := fun _ _ =>
    Fin.ext (by show place _ _ _ _ = n.val; unfold place; omega)
  have at_turn : ∀ (h1 : place (n.val / 6144) s.val (n.val / 128 % 16) ((n.val % 128 + 64) % 128) < 19456) (h2 : turn n.val < 19456), (⟨_, h1⟩ : Fin 19456) = ⟨turn n.val, h2⟩ := fun _ _ =>
    Fin.ext (by show place _ _ _ _ = turn n.val; unfold place turn; omega)
  unfold entry scale
  rw [hsv]
  match s with
  | ⟨0, _⟩ =>
    rw [if_neg (show ¬ 0 = 2 by decide), if_pos (show 0 = 0 from rfl), ← at_place (place_lt (by omega) (Fin.isLt _) (by omega) (by omega)) (by omega),
      ← at_turn (place_lt (by omega) (Fin.isLt _) (by omega) (by omega)) ((Cert.AttnInIdeal.Own.turn_lt (K := 144) hn).trans (by decide)), ← scaled]
    refine (val_main_v51_apply (F := Ideal) x w cs sn _).trans ?_
    rw [unstack, query, queries, queries, split_apply, split_apply]
    rfl
  | ⟨1, _⟩ =>
    have o : Ideal.ofBits .f32 0x3F800000#32 = 1 := Ideal.ofBits_one_f32
    rw [if_neg (show ¬ 1 = 2 by decide), if_neg (show ¬ 1 = 0 by decide), o, mul_one, mul_one, ← at_place (place_lt (by omega) (Fin.isLt _) (by omega) (by omega)) (by omega),
      ← at_turn (place_lt (by omega) (Fin.isLt _) (by omega) (by omega)) ((Cert.AttnInIdeal.Own.turn_lt (K := 144) hn).trans (by decide))]
    refine (val_main_v52_apply (F := Ideal) x w cs sn _).trans ?_
    rw [show idx_main_v52 (ix5 i _ 0 _ _) = _ from unstack i _ _ _, key, keys, keys, split_apply, split_apply]
    rfl
  | ⟨2, _⟩ =>
    rw [if_pos (show 2 = 2 from rfl), ← at_place (place_lt (by omega) (Fin.isLt _) (by omega) (by omega)) (by omega)]
    refine (val_main_v53_apply (F := Ideal) x w _).trans ?_
    rw [show idx_main_v53 (ix5 i _ 0 _ _) = _ from unstack i _ _ _, values, split_apply]
    rfl

/-- The reference's result is the kernel's. -/
theorem results (m : (ℓ : Loc Cert.AttnInIdeal.nD Cert.AttnInIdeal.τ Cert.AttnInIdeal.sig) → Buf (Elt Ideal) ℓ) (c : Dev Cert.AttnInIdeal.nD) :
    val_main_v56 (F := Ideal) (Cert.AttnInIdeal.Own.xArg m c) (Cert.AttnInIdeal.Own.wArg m c) (Cert.AttnInIdeal.Own.cosArg m c) (Cert.AttnInIdeal.Own.sinArg m c)
      = Cert.AttnInIdeal.Own.result m c := by
  funext y
  obtain ⟨i, n, rfl⟩ : ∃ (i : Fin 8192) (n : Fin 18432), y = ix2 i n := ⟨y 0, y 1, eq_ix2 (n0 := 8192) (n1 := 18432) y⟩
  exact entries _ _ _ _ i n

/-! ## The frames -/

/-- The two printed programs start the same launches. -/
theorem defs₀_eq {F : FTy → Type} [FloatOps F] : (Cert.AttnIn.defs₀ (F := F)) = Cert.AttnInIdeal.defs₀ (F := F) := by
  unfold Cert.AttnIn.defs₀ Cert.AttnInIdeal.defs₀
  refine congrArg (Defs.onTc (nD := Cert.AttnIn.nD) (τ := Cert.AttnIn.τ) (sig := Cert.AttnIn.sig) (Val := Elt F) (Λ := Cert.AttnIn.Λ₀)) ?_
  funext l a
  match l, a with
  | 0, (t, s) => rfl

/-- The two printed programs, which no rewriting separates, run the same calls. -/
theorem defs_eq {F : FTy → Type} [FloatOps F] : (Cert.AttnIn.defs (F := F)) = Cert.AttnInIdeal.defs (F := F) :=
  congrArg (Pipeline.defs Cert.AttnIn.pcfgs) defs₀_eq

/-- The kernel terminates with its arguments kept, at every float arithmetic. -/
theorem frame_p : Cert.quiescent_AttnIn := fun m ρ _ => by
  rw [defs_eq]
  exact Cert.AttnInIdeal.Gen.frame m ρ

/-- So does the kernel read over the extended reals. -/
theorem frame_pi : Cert.quiescent_AttnInIdeal := fun m ρ _ => Cert.AttnInIdeal.Gen.frame m ρ
/-- And the reference. -/
theorem frame_ri : Cert.quiescent_AttnInRefIdeal := fun m ρ _ =>
  (θ_run Cert.AttnInRefIdeal.defs _ _).mono
    (fun r h => ⟨fun c => (h c).2, Idealize.ShloMosaic.sem_eq_zero_of_no_sems (by decide) r.2⟩)
    (Cert.AttnInRefIdeal.Value.run (F := Ideal) m ρ)

/-- Nothing was rewritten between the two printed programs. -/
theorem preserves : Cert.preserves_AttnIn_AttnInIdeal := trivial

/-- **The kernel and the reference end with equal results** from equal arguments. -/
theorem algebraic : Cert.algebraic_AttnInIdeal_AttnInRefIdeal := fun m ρ m' ρ' _ hag =>
  ⟨fun c => Cert.AttnInIdeal.Own.result m c,
    (θ_run Cert.AttnInIdeal.defs _ _).mono (fun r h c => ⟨(h c).1.trans (Cert.AttnInIdeal.Own.final_o m c), (h c).2⟩)
      (Cert.AttnInIdeal.Value.run_blocks m ρ),
    (θ_run Cert.AttnInRefIdeal.defs _ _).mono
      (fun r h c => by
        refine ⟨(h c).1.trans ?_, (h c).2⟩
        rw [val_main_v56_eq, (hag c).1, (hag c).2.1, (hag c).2.2.1, (hag c).2.2.2]
        exact results m c)
      (Cert.AttnInRefIdeal.Value.run (F := Ideal) m' ρ')⟩

end Cert.Proof.AttnIn

end
-- ==== Proof.ConvInRun.lean ====
/-
  One point of the gated convolution input kernel, run on any staging memrefs and any contents of its two scratch
  buffers: what it stores, as pieces.
-/
module

public import proofs.«01_k».proof.Proof.Gen.ConvInIdeal.Launch
public import proofs.«01_k».proof.Proof.Gen.ConvInIdeal.Skeleton
public import proofs.«01_k».proof.Proof.Gen.ConvInIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ConvInIdeal.Own

open Cert.ConvInIdeal Cert.ConvInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a point stores into its result block and into its two scratch buffers, from the five input blocks and the
    scratch as found, with the body's triple: the inputs stay, the result block ends as some contents with its pieces
    written, each scratch as found with its pieces written. -/
noncomputable def kernelRun (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1024x256 .bf16) (harg7 : arg7.IsWhole) (arg8 : Memref sig .tc .vmem S1032x256 .f32) (harg8 : arg8.IsWhole) (arg9 : Memref sig .tc .vmem S12x8x256 .f32) (harg9 : arg9.IsWhole)
    (x0 : Vec F S1024x4096 .bf16) (x1 : Vec F S1x4096x256 .f32) (x2 : Vec F S1x4096x256 .f32) (x3 : Vec F S1x4096x256 .f32) (x4 : Vec F S1x3x256 .f32) (xs0 : Vec F S1032x256 .f32) (xs1 : Vec F S12x8x256 .f32) :
    Σ' (L5 : List (View.Piece (Elt F) S1024x256 .bf16)), Σ' (LS0 : List (View.Piece (Elt F) S1032x256 .f32)), { LS1 : List (View.Piece (Elt F) S12x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
              ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0_conv_in i arg2 harg2 arg3 harg3 arg4 harg4 arg5 harg5 arg6 harg6 arg7 harg7 arg8 harg8 arg9 harg9) K } := by
  refine ⟨?_, ?_, ?_, fun E K => ?run⟩
  case run =>
    simp only [cc0_conv_in_eq_skeleton]; unfold cc0_conv_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    iexact HS1

end Cert.ConvInIdeal.Own

end
-- ==== Proof.ConvInPoint.lean ====
/-
  The gated convolution input kernel, any number system: what each point leaves in its result block, what the carried
  tails hold, the proof data, the body's triple at every point, and the run with its frame.
-/
module

public import proofs.«01_k».proof.Proof.ConvInRun
public import Idealize.ShloMosaic.Lib.Claim
public import Idealize.ShloMosaic.Lib.WritesUnit
public import Idealize.ShloMosaic.Lib.Pipeline.ReadBack

@[expose] public section

set_option maxRecDepth 16384

noncomputable section

namespace Cert.ConvInIdeal.Own

open Cert.ConvInIdeal Cert.ConvInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- The extended rows: the eight rows before the block, then the block's rows. -/
def extPieces (i : grid0.Coords) (x0 : Vec F S1024x4096 .bf16) (x2 x3 : Vec F S1x4096x256 .f32) (p : Vec F S1x8x256 .f32) : List (View.Piece (Elt F) S1032x256 .f32) :=
  [⟨Rect.unit (s := S1032x256) ![8, 0] S1024x256.size inb_S1032x256_S1024x256_8_0, k0_pay5 x0 x2 x3⟩,
   ⟨Rect.unit (s := S1032x256) ![0, 0] S8x256.size inb_S1032x256_S8x256_0_0, k0_pay4 i p⟩]

/-- The result block of a point, from its five input blocks and the tail `p` of the column's rows before the block. -/
def point (i : grid0.Coords) (x0 : Vec F S1024x4096 .bf16) (x1 : Vec F S1x4096x256 .f32) (x2 : Vec F S1x4096x256 .f32) (x3 : Vec F S1x4096x256 .f32) (x4 : Vec F S1x3x256 .f32) (p : Vec F S1x8x256 .f32) : Vec F S1024x256 .bf16 :=
  k0_pay1 (k0_pay2 x0 x1) (k0_pay3 x0 x2 x3)
    (View.ld (View.canon (extPieces i x0 x2 x3 p)) (Rect.unit (s := S1032x256) ![7, 0] S1024x256.size inb_S1032x256_S1024x256_7_0))
    (View.ld (View.canon (extPieces i x0 x2 x3 p)) (Rect.unit (s := S1032x256) ![6, 0] S1024x256.size inb_S1032x256_S1024x256_6_0))
    (View.ld x4 (Rect.unit (s := S1x3x256) ![0, 0, 0] S1x1x256.size inb_S1x3x256_S1x1x256_0_0_0))
    (View.ld x4 (Rect.unit (s := S1x3x256) ![0, 1, 0] S1x1x256.size inb_S1x3x256_S1x1x256_0_1_0))
    (View.ld x4 (Rect.unit (s := S1x3x256) ![0, 2, 0] S1x1x256.size inb_S1x3x256_S1x1x256_0_2_0))

/-- The rectangle of a point's column in the carried tails. -/
abbrev tailRect (i : grid0.Coords) : Rect S12x8x256 := Rect.unit (s := S12x8x256) (k0_off1 i) S1x8x256.size (k0_off1_inb i)

theorem zero2 : (![0, 0] : Fin 2 → Nat) = fun _ => 0 := funext fun a => by fin_cases a <;> rfl
theorem zero3 : (![0, 0, 0] : Fin 3 → Nat) = fun _ => 0 := funext fun a => by fin_cases a <;> rfl

/-- The two stores of the extended rows fill the buffer. -/
theorem ext_cover (i : grid0.Coords) (x0 : Vec F S1024x4096 .bf16) (x2 x3 : Vec F S1x4096x256 .f32) (p : Vec F S1x8x256 .f32) (y : S1032x256.Idx) :
    ∃ pc ∈ extPieces i x0 x2 x3 p, y ∈ pc.1.set := by
  have h0 : (y 0).val < 1032 := (y 0).isLt
  have h1 : (y 1).val < 256 := (y 1).isLt
  unfold extPieces
  by_cases h : (y 0).val < 8
  · refine ⟨_, List.mem_cons_of_mem _ (List.mem_singleton.mpr rfl), ?_⟩
    rw [Rect.mem_set_unit]
    intro a
    match a with
    | ⟨0, _⟩ => exact ⟨Nat.zero_le _, (show (y 0).val < 0 + 8 by omega)⟩
    | ⟨1, _⟩ => exact ⟨Nat.zero_le _, (show (y 1).val < 0 + 256 by omega)⟩
  · refine ⟨_, List.mem_cons_self, ?_⟩
    rw [Rect.mem_set_unit]
    intro a
    match a with
    | ⟨0, _⟩ => exact ⟨(show 8 ≤ (y 0).val by omega), (show (y 0).val < 8 + 1024 by omega)⟩
    | ⟨1, _⟩ => exact ⟨Nat.zero_le _, (show (y 1).val < 0 + 256 by omega)⟩

/-- A load over the two stores reads the extended rows. -/
theorem ext_read (arg8 : Memref sig .tc .vmem S1032x256 .f32) (i : grid0.Coords) (x0 : Vec F S1024x4096 .bf16) (x2 x3 : Vec F S1x4096x256 .f32) (p : Vec F S1x8x256 .f32)
    (r : Rect S1032x256) : arg8.view.readCov (extPieces i x0 x2 x3 p) r.toLoadRect = View.ld (View.canon (extPieces i x0 x2 x3 p)) r := by
  unfold View.readCov
  rw [View.readAt_eq_ld, View.read_writes_eq_canon _ _ _ (ext_cover i x0 x2 x3 p)]

/-- The result block after a store of the whole of it. -/
theorem whole_read (v : View sig .tc .vmem S1024x256 .bf16) (f : v.ty.shape.Idx → Elt F v.ty.elt) (w : Vec F S1024x256 .bf16) :
    v.read (Elt F) (v.writes (Elt F) f [⟨Rect.unit (s := S1024x256) ![0, 0] S1024x256.size inb_S1024x256_S1024x256_0_0, w⟩]) = w :=
  (View.read_writes_eq_canon v f _ (fun y => ⟨_, List.mem_singleton.mpr rfl, by
    rw [Rect.mem_set_unit]
    intro a
    match a with
    | ⟨0, _⟩ => exact ⟨Nat.zero_le _, (show (y 0).val < 0 + 1024 by have := (y 0).isLt; simpa using this)⟩
    | ⟨1, _⟩ => exact ⟨Nat.zero_le _, (show (y 1).val < 0 + 256 by have := (y 1).isLt; simpa using this)⟩⟩)).trans
    (View.canon_unit_zero (S := S1024x256) zero2 _ _)

section Run

variable (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1024x256 .bf16) (harg7 : arg7.IsWhole) (arg8 : Memref sig .tc .vmem S1032x256 .f32) (harg8 : arg8.IsWhole) (arg9 : Memref sig .tc .vmem S12x8x256 .f32) (harg9 : arg9.IsWhole)
  (x0 : Vec F S1024x4096 .bf16) (x1 : Vec F S1x4096x256 .f32) (x2 : Vec F S1x4096x256 .f32) (x3 : Vec F S1x4096x256 .f32) (x4 : Vec F S1x3x256 .f32) (xs0 : Vec F S1032x256 .f32) (xs1 : Vec F S12x8x256 .f32)

/-- The run's piece for the result block is the whole block at the point's value. -/
theorem run_out : (kernelRun c i arg2 harg2 arg3 harg3 arg4 harg4 arg5 harg5 arg6 harg6 arg7 harg7 arg8 harg8 arg9 harg9 x0 x1 x2 x3 x4 xs0 xs1).1
    = [⟨Rect.unit (s := S1024x256) ![0, 0] S1024x256.size inb_S1024x256_S1024x256_0_0, point i x0 x1 x2 x3 x4 (View.ld xs1 (tailRect i))⟩] := by
  unfold kernelRun
  dsimp only
  sl_unfold_words
  simp only [View.readAt_eq_ld, harg2.read_unread, harg3.read_unread, harg4.read_unread, harg5.read_unread, harg6.read_unread, harg9.read_unread]
  rw [View.ld_unit_zero (S := S1024x4096) zero2]
  simp only [View.ld_unit_zero (S := S1x4096x256) zero3]
  unfold point
  refine congrArg (fun w => [(⟨Rect.unit (s := S1024x256) ![0, 0] S1024x256.size inb_S1024x256_S1024x256_0_0, w⟩ : View.Piece (Elt F) S1024x256 .bf16)]) ?_
  exact congrArg₂ (fun u v => k0_pay1 (k0_pay2 x0 x1) (k0_pay3 x0 x2 x3) u v _ _ _) (ext_read arg8 i x0 x2 x3 (View.ld xs1 (tailRect i)) _) (ext_read arg8 i x0 x2 x3 (View.ld xs1 (tailRect i)) _)

/-- The run's piece for the tails is the block's last eight rows at the point's column. -/
theorem run_tail : (kernelRun c i arg2 harg2 arg3 harg3 arg4 harg4 arg5 harg5 arg6 harg6 arg7 harg7 arg8 harg8 arg9 harg9 x0 x1 x2 x3 x4 xs0 xs1).2.2.1
    = [⟨tailRect i, k0_pay6 x0 x2 x3⟩] := by
  unfold kernelRun
  dsimp only
  sl_unfold_words
  simp only [View.readAt_eq_ld, harg2.read_unread, harg4.read_unread, harg5.read_unread]
  rw [View.ld_unit_zero (S := S1024x4096) zero2]
  simp only [View.ld_unit_zero (S := S1x4096x256) zero3]
  rfl

/-- The body's triple with named pieces: the inputs stay, the result block ends as something with `L5` written, the two
    scratch buffers as found with `LS0` and `LS1` written. -/
def Triple (L5 : List (View.Piece (Elt F) S1024x256 .bf16)) (LS0 : List (View.Piece (Elt F) S1032x256 .f32)) (LS1 : List (View.Piece (Elt F) S12x8x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
          ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
      ⊢ wp frame (wpE (defs₀ (F := F)) Variants.none c none) E (cc0_conv_in i arg2 harg2 arg3 harg3 arg4 harg4 arg5 harg5 arg6 harg6 arg7 harg7 arg8 harg8 arg9 harg9) K

/-- The body's triple at the point's values. -/
theorem run_named : ∃ LS0, Triple c i arg2 harg2 arg3 harg3 arg4 harg4 arg5 harg5 arg6 harg6 arg7 harg7 arg8 harg8 arg9 harg9 x0 x1 x2 x3 x4 xs0 xs1
    [⟨Rect.unit (s := S1024x256) ![0, 0] S1024x256.size inb_S1024x256_S1024x256_0_0, point i x0 x1 x2 x3 x4 (View.ld xs1 (tailRect i))⟩] LS0 [⟨tailRect i, k0_pay6 x0 x2 x3⟩] :=
  ⟨_, Eq.mp (congrArg₂ (fun u v => Triple c i arg2 harg2 arg3 harg3 arg4 harg4 arg5 harg5 arg6 harg6 arg7 harg7 arg8 harg8 arg9 harg9 x0 x1 x2 x3 x4 xs0 xs1 u (kernelRun c i arg2 harg2 arg3 harg3 arg4 harg4 arg5 harg5 arg6 harg6 arg7 harg7 arg8 harg8 arg9 harg9 x0 x1 x2 x3 x4 xs0 xs1).2.1 v)
      (run_out c i arg2 harg2 arg3 harg3 arg4 harg4 arg5 harg5 arg6 harg6 arg7 harg7 arg8 harg8 arg9 harg9 x0 x1 x2 x3 x4 xs0 xs1)
      (run_tail c i arg2 harg2 arg3 harg3 arg4 harg4 arg5 harg5 arg6 harg6 arg7 harg7 arg8 harg8 arg9 harg9 x0 x1 x2 x3 x4 xs0 xs1))
    (kernelRun c i arg2 harg2 arg3 harg3 arg4 harg4 arg5 harg5 arg6 harg6 arg7 harg7 arg8 harg8 arg9 harg9 x0 x1 x2 x3 x4 xs0 xs1).2.2.2⟩

set_option maxHeartbeats 800000 in
/-- One point's triple: the inputs stay, the result block ends at the point's value, the scratch of the extended rows at
    something, the tails as found with the point's column replaced. -/
theorem run_triple (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (point i x0 x1 x2 x3 x4 (View.ld xs1 (tailRect i)))
          ∗ (∃ d, owns (c : Thread nD τ) arg8 fullShare d) ∗ owns (c : Thread nD τ) arg9 fullShare (arg9.view.read (Elt F) (arg9.view.writes (Elt F) (harg9.unread xs1) [⟨tailRect i, k0_pay6 x0 x2 x3⟩]))) -∗ K ⟨⟩))
      ⊢ wp frame (wpE (defs₀ (F := F)) Variants.none c none) E (cc0_conv_in i arg2 harg2 arg3 harg3 arg4 harg4 arg5 harg5 arg6 harg6 arg7 harg7 arg8 harg8 arg9 harg9) K := by
  obtain ⟨LS0, h⟩ := run_named c i arg2 harg2 arg3 harg3 arg4 harg4 arg5 harg5 arg6 harg6 arg7 harg7 arg8 harg8 arg9 harg9 x0 x1 x2 x3 x4 xs0 xs1
  iintro ⟨H0, H1, H2, H3, H4, H5, HS0, HS1, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, ⟨%e5, H5⟩, HS0, HS1⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact whole_read _ _ _
  isplitl [HS0]
  · iexists _; unfold owns; iexists _; isplitr
    swap; · iexact HS0
    ipureintro; rfl
  unfold owns; iexists _; isplitr
  swap; · iexact HS1
  ipureintro; rfl

end Run

end Cert.ConvInIdeal.Own

end
-- ==== Proof.ConvInFrame.lean ====
/-
  The gated convolution input kernel, any number system: what the carried tails hold between points, the proof data, the
  body's triple at every point, and the run with its frame.
-/
module

public import proofs.«01_k».proof.Proof.ConvInPoint

@[expose] public section

set_option maxRecDepth 16384

noncomputable section

namespace Cert.ConvInIdeal.Own

open Cert.ConvInIdeal Cert.ConvInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch and the windows' blocks -/

/-- A core's buffers as the launch finds them. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The block window `w` stages at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffers at a point, and the two scratch buffers. -/
abbrev ms0_0 (t : Fin cfg0.N) : Memref sig .tc .vmem S1024x4096 .bf16 := win0_0.stage (cfg0.slots t 0)
abbrev ms0_1 (t : Fin cfg0.N) : Memref sig .tc .vmem S1x4096x256 .f32 := win0_1.stage (cfg0.slots t 1)
abbrev ms0_2 (t : Fin cfg0.N) : Memref sig .tc .vmem S1x4096x256 .f32 := win0_2.stage (cfg0.slots t 2)
abbrev ms0_3 (t : Fin cfg0.N) : Memref sig .tc .vmem S1x4096x256 .f32 := win0_3.stage (cfg0.slots t 3)
abbrev ms0_4 (t : Fin cfg0.N) : Memref sig .tc .vmem S1x3x256 .f32 := win0_4.stage (cfg0.slots t 4)
abbrev ms0_5 (t : Fin cfg0.N) : Memref sig .tc .vmem S1024x256 .bf16 := win0_5.stage (cfg0.slots t 5)
abbrev scM0_0 : Memref sig .tc .vmem S1032x256 .f32 := Memref.whole cc0_scratch0
abbrev scM0_1 : Memref sig .tc .vmem S12x8x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The carried tails -/

/-- The rows a point leaves behind: the last eight of its block to be convolved. -/
def tail (c : Dev nD) (t : Fin cfg0.N) : Vec F S1x8x256 .f32 := k0_pay6 (iblk m c 0 t) (iblk m c 2 t) (iblk m c 3 t)

/-- The rows a point finds: those of the point one row of blocks above, of no account in the first row of blocks. -/
def prior (c : Dev nD) (t : Fin cfg0.N) : Vec F S1x8x256 .f32 :=
  tail m c ⟨t.val - 12, lt_of_le_of_lt (Nat.sub_le _ _) t.isLt⟩

/-- What a point leaves in its result block. -/
def left (c : Dev nD) (t : Fin cfg0.N) : Vec F S1024x256 .bf16 :=
  point (grid0.coords t) (iblk m c 0 t) (iblk m c 1 t) (iblk m c 2 t) (iblk m c 3 t) (iblk m c 4 t) (prior m c t)

theorem off_tail : ∀ t : Fin grid0.N, k0_off1 (grid0.coords t) = ![t.val % 12, 0, 0] := by decide +kernel

theorem first_row : ∀ t : Fin grid0.N, t.val < 12 → Scalar.cmpi .eq (BitVec.ofNat 32 ((grid0.coords t) 0).val) 0#32 = 1#1 := by decide +kernel

/-- In the first row of blocks the rows before the block are zeros whatever the tails hold. -/
theorem pay4_first (t : Fin cfg0.N) (h : t.val < 12) (p q : Vec F S1x8x256 .f32) : k0_pay4 (grid0.coords t) p = k0_pay4 (grid0.coords t) q := by
  have e := first_row t h
  unfold k0_pay4
  show shapeCast S8x256 (Scalar.select (Scalar.cmpi .eq (BitVec.ofNat 32 ((grid0.coords t) 0).val) 0#32) _ _) _ = shapeCast S8x256 (Scalar.select (Scalar.cmpi .eq (BitVec.ofNat 32 ((grid0.coords t) 0).val) 0#32) _ _) _
  rw [e]
  rfl

/-- Loads through one rectangle written at two offsets that agree. -/
theorem ld_congr {s : Shape} {e : EltTy} (d : s.Idx → Elt F e) {size off off' : Fin s.rank → ℕ} (h : off = off')
    (inb : ∀ a, off a + size a ≤ s.size a) (inb' : ∀ a, off' a + size a ≤ s.size a) :
    View.ld d (Rect.unit off size inb) = View.ld d (Rect.unit off' size inb') := by
  subst h; rfl

/-- Before position `n` every column whose latest point lies before `n` holds that point's tail. -/
def Good (c : Dev nD) (n : ℕ) (d : Vec F S12x8x256 .f32) : Prop :=
  ∀ s : Fin cfg0.N, s.val < n → n ≤ s.val + 12 → View.ld d (tailRect (grid0.coords s)) = tail m c s

theorem good_zero (c : Dev nD) (d : Vec F S12x8x256 .f32) : Good m c 0 d := fun s h _ => absurd h (Nat.not_lt_zero _)

/-- The rows a point finds are those it should, or are of no account. -/
theorem found (c : Dev nD) (t : Fin cfg0.N) (d : Vec F S12x8x256 .f32) (g : Good m c t.val d) :
    point (grid0.coords t) (iblk m c 0 t) (iblk m c 1 t) (iblk m c 2 t) (iblk m c 3 t) (iblk m c 4 t) (View.ld d (tailRect (grid0.coords t))) = left m c t := by
  unfold left
  by_cases h : t.val < 12
  · unfold point extPieces
    rw [pay4_first t h (View.ld d (tailRect (grid0.coords t))) (prior m c t)]
  · have hs : t.val - 12 < cfg0.N := lt_of_le_of_lt (Nat.sub_le _ _) t.isLt
    have e := g ⟨t.val - 12, hs⟩ (show t.val - 12 < t.val by omega) (show t.val ≤ t.val - 12 + 12 by omega)
    unfold prior
    rw [← e]
    refine congrArg _ (ld_congr d ?_ _ _)
    rw [off_tail t, off_tail ⟨t.val - 12, hs⟩]
    exact congrArg (fun k => (![k, 0, 0] : Fin 3 → ℕ)) (show t.val % 12 = (t.val - 12) % 12 by omega)

/-- A point's store of its tail keeps the columns as they should be. -/
theorem good_succ (c : Dev nD) (t : Fin cfg0.N) (f : (scM0_1.view (sig := sig)).ty.shape.Idx → Elt F (scM0_1.view (sig := sig)).ty.elt) (d : Vec F S12x8x256 .f32) (hd : scM0_1.view.read (Elt F) f = d) (g : Good m c t.val d) :
    Good m c (t.val + 1) (scM0_1.view.read (Elt F) (scM0_1.view.writes (Elt F) f [⟨tailRect (grid0.coords t), tail m c t⟩])) := by
  intro s hs hn
  funext x
  have hx : (x 0).val < 1 := (x 0).isLt
  by_cases h : s = t
  · subst h
    exact View.read_writes_cons_unit_of_mem scM0_1.view f _ (tail m c s) [] _ x rfl fun a => by
      show _ + 1 * (x a).val = _ + (x a).val
      rw [Nat.one_mul]
      rfl
  · have hv : s.val ≠ t.val := fun e => h (Fin.ext e)
    have hsN : s.val < 96 := lt_of_lt_of_eq s.isLt N_0
    refine (View.read_writes_cons_unit_of_not_mem scM0_1.view f _ (tail m c t) [] ((tailRect (grid0.coords s)).idx x) (off_tail t) 0 ?_).trans ?_
    · show k0_off1 (grid0.coords s) 0 + 1 * (x 0).val < t.val % 12 ∨ t.val % 12 + 1 ≤ k0_off1 (grid0.coords s) 0 + 1 * (x 0).val
      rw [off_tail s]
      show s.val % 12 + 1 * (x 0).val < t.val % 12 ∨ t.val % 12 + 1 ≤ s.val % 12 + 1 * (x 0).val
      omega
    · show scM0_1.view.read (Elt F) f _ = _
      rw [hd]
      exact congrFun (g s (by omega) (by omega)) x

/-! ## The invariant and the proof data -/

/-- Before position `n`: the scratch of the extended rows at anything, the tails as they should be, the generator at some
    state. -/
def PhiS (c : Dev nD) (n : ℕ) (_ : n ≤ cfg0.N) : sProp 𝕄 :=
  iprop(iprop((∃ d, owns (c : Thread nD τ) scM0_0 fullShare d) ∗ (∃ d, ⌜Good m c n d⌝ ∗ owns (c : Thread nD τ) scM0_1 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_castSucc m c t]
  unfold PhiS
  iintro ⟨⟨⟨⟨%ds0, HS0⟩, ⟨%ds1, %hg, HS1⟩⟩, Hg⟩, Ho, ⟨%d0, H0⟩, ⟨%d1, H1⟩, ⟨%d2, H2⟩, ⟨%d3, H3⟩, ⟨%d4, H4⟩, ⟨%d5, H5⟩⟩
  iapply (run_triple c (grid0.coords t) _ _ _ _ _ _ _ _ _ _ _ _ _ _ _ _ (iblk m c 0 t) (iblk m c 1 t) (iblk m c 2 t) (iblk m c 3 t) (iblk m c 4 t) ds0 ds1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexists _; isplitr
      swap
      · iexact HS1
      ipureintro; exact good_succ m c t _ ds1 (Memref.IsWhole.read_unread _ _) hg
    iexact Hg
  isplitl [Ho]; · iexact Ho
  isplitl [H0]; · iexact H0
  isplitl [H1]; · iexact H1
  isplitl [H2]; · iexact H2
  isplitl [H3]; · iexact H3
  isplitl [H4]; · iexact H4
  rw [← found m c t ds1 hg]
  iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region gives the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨HS0, ⟨%d, HS1⟩⟩, Hg⟩
  isplitl [HS0 HS1]
  · isplitl [HS0]
    · iexact HS0
    iexists d; isplitr
    · ipureintro; exact good_zero m c d
    iexact HS1
  iexact Hg

/-- After the last point the invariant gives back what the launch takes. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨⟨HS0, ⟨%d, %hg, HS1⟩⟩, Hg⟩
  isplitl [HS0 HS1]
  · isplitl [HS0]
    · iexact HS0
    iexists d; iexact HS1
  iexact Hg

/-! ## The run -/

set_option backward.isDefEq.respectTransparency.types false in
/-- Every fair execution ends, with the pipeline's arrays at what the proof data names and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem kept (w : Fin cfg0.W) (hw : (cfg0.win w).isOut = false) (r : PUnit × MemSt nD τ sig (Elt F)) (h : Pipeline.FramePost cfgs (dats m) 0 (V m) r) (c : Dev nD) :
    r.2.mem ((c : Thread nD τ).loc (Pipeline.arrRef spec0 w)) = V m c (Pipeline.arrRef spec0 w) :=
  ((h c).1 w).trans (((dats m 0 c).arrAt_in w hw _).trans (A_eq m c w))

/-- Every run ends with the result array at what the proof data names and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, kept m 0 rfl r h.1 c, kept m 1 rfl r h.1 c, kept m 4 rfl r h.1 c⟩)
    (run_main_quiescent m ρ)

/-- THE FRAME: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_blocks m ρ)) ((θ_run defs _ _).mono (fun _ h => h.2) (run_main_quiescent m ρ))

/-- WHAT A POINT WRITES BACK to the result array. -/
theorem flushed5 (c : Dev nD) (t : Fin cfg0.N) :
    (dats m 0 c).flushed 5 t = (cfg0.win 5).cut (grid0.coords t) (left m c t) := by
  show (cfg0.win 5).cut (grid0.coords t) ((dats m 0 c).after 5 t) = _
  rw [after0_5]

end Cert.ConvInIdeal.Own

end
-- ==== Proof.ConvInValue.lean ====
/-
  The gated convolution input kernel at the ideal values: each block of the result is its rows' first products times the
  causal convolution of the products of their second and third.
-/
module

public import proofs.«01_k».proof.Proof.ConvInFrame
public import proofs.«01_k».proof.Proof.Blocks
public import proofs.«01_k».proof.Proof.Conv

@[expose] public section

set_option maxRecDepth 16384

noncomputable section

namespace Cert.ConvInIdeal.Own

open Cert.ConvInIdeal Cert.ConvInIdeal.Gen Idealize.ShloMosaic Idealize.ShloMosaic.TcCoe Idealize.SL.Sem Idealize.ShloMosaic.ValueIdx Cert.Blocks Cert.Conv

/-! ## The payloads at an index -/

theorem pay2_apply (x : Vec Ideal S1024x4096 .bf16) (w : Vec Ideal S1x4096x256 .f32) (a : Fin 1024) (e : Fin 256) :
    k0_pay2 x w (ix2 a e) = ∑ k : Fin 4096, (x (ix2 a k) * w (ix3 0 k e) : EReal) := by
  unfold k0_pay2
  exact layer_matmul (M := 1024) (K := 4096) (N := 256) x w _ _ a e

theorem pay3_apply (x : Vec Ideal S1024x4096 .bf16) (w w' : Vec Ideal S1x4096x256 .f32) (a : Fin 1024) (e : Fin 256) :
    k0_pay3 x w w' (ix2 a e) = (∑ k : Fin 4096, (x (ix2 a k) * w (ix3 0 k e) : EReal)) * ∑ k : Fin 4096, (x (ix2 a k) * w' (ix3 0 k e) : EReal) := by
  unfold k0_pay3
  exact congrArg₂ (fun u v : EReal => u * v) (layer_matmul (M := 1024) (K := 4096) (N := 256) x w _ _ a e) (layer_matmul (M := 1024) (K := 4096) (N := 256) x w' _ _ a e)

theorem pay5_eq (x : Vec Ideal S1024x4096 .bf16) (w w' : Vec Ideal S1x4096x256 .f32) (y : S1024x256.Idx) :
    k0_pay5 x w w' y = k0_pay3 x w w' y := by
  unfold k0_pay5
  exact shapeCast_apply (k0_pay3 x w w') _ y y rfl

theorem pay6_apply (x : Vec Ideal S1024x4096 .bf16) (w w' : Vec Ideal S1x4096x256 .f32) (r : Fin 8) (e : Fin 256) (a : Fin 1024) (ha : a.val = 1016 + r.val) :
    k0_pay6 x w w' (ix3 0 r e) = k0_pay3 x w w' (ix2 a e) := by
  unfold k0_pay6
  generalize k0_pay3 x w w' = z
  refine (shapeCast_apply (s := S8x256) (t := S1x8x256) _ _ (ix3 0 r e) (ix2 r e) ?_).trans ?_
  · rw [Shape.rowMajor_val_two, Shape.rowMajor_val_three]
    show r.val * 256 + e.val = (0 * 8 + r.val) * 256 + e.val
    omega
  · refine extractStridedSlice_apply (s := S1024x256) (t := S8x256) ![1016, 0] z _ (ix2 r e) (ix2 a e) fun b => ?_
    match b with
    | ⟨0, _⟩ => exact ha
    | ⟨1, _⟩ => show e.val = 0 + e.val; omega

theorem pay4_zero (t : Fin cfg0.N) (h : t.val < 12) (p : Vec Ideal S1x8x256 .f32) (y : S8x256.Idx) :
    (k0_pay4 (F := Ideal) (grid0.coords t) p y : EReal) = 0 := by
  have e := first_row t h
  unfold k0_pay4
  refine (shapeCast_apply _ _ y y rfl).trans ?_
  show (Scalar.select (Scalar.cmpi .eq (BitVec.ofNat 32 ((grid0.coords t) 0).val) 0#32) _ _ : FVec Ideal S8x256 .f32) y = (0 : EReal)
  rw [e]
  exact Ideal.ofBits_zero_f32

theorem later_row : ∀ t : Fin grid0.N, 12 ≤ t.val → Scalar.cmpi .eq (BitVec.ofNat 32 ((grid0.coords t) 0).val) 0#32 = 0#1 := by decide +kernel

theorem pay4_later (t : Fin cfg0.N) (h : 12 ≤ t.val) (p : Vec Ideal S1x8x256 .f32) (r : Fin 8) (e : Fin 256) :
    (k0_pay4 (F := Ideal) (grid0.coords t) p (ix2 r e) : EReal) = p (ix3 0 r e) := by
  have e' := later_row t h
  unfold k0_pay4
  refine (shapeCast_apply _ _ (ix2 r e) (ix2 r e) rfl).trans ?_
  show (Scalar.select (Scalar.cmpi .eq (BitVec.ofNat 32 ((grid0.coords t) 0).val) 0#32) _ _ : FVec Ideal S8x256 .f32) (ix2 r e) = (p (ix3 0 r e) : EReal)
  rw [e']
  refine shapeCast_apply p _ (ix2 r e) (ix3 0 r e) ?_
  rw [Shape.rowMajor_val_two, Shape.rowMajor_val_three]
  show (0 * 8 + r.val) * 256 + e.val = r.val * 256 + e.val
  omega

theorem pay1_apply (b g v1 v2 : Vec Ideal S1024x256 .f32) (w0 w1 w2 : Vec Ideal S1x1x256 .f32) (a : Fin 1024) (e : Fin 256) :
    (k0_pay1 (F := Ideal) b g v1 v2 w0 w1 w2 (ix2 a e) : EReal)
      = b (ix2 a e) * (w0 (ix3 0 0 e) * v2 (ix2 a e) + w1 (ix3 0 0 e) * v1 (ix2 a e) + w2 (ix3 0 0 e) * g (ix2 a e)) := by
  have t0 := tap_apply (M := 1024) (N := 256) w0 shapeCasts_S1x1x256_S1x256 broadcasts_S1x256_S1024x256 a e
  have t1 := tap_apply (M := 1024) (N := 256) w1 shapeCasts_S1x1x256_S1x256 broadcasts_S1x256_S1024x256 a e
  have t2 := tap_apply (M := 1024) (N := 256) w2 shapeCasts_S1x1x256_S1x256 broadcasts_S1x256_S1024x256 a e
  rw [← t0, ← t1, ← t2]
  rfl

/-! ## The blocks -/

variable (m : (ℓ : Loc nD τ sig) → Buf (Elt Ideal) ℓ)

/-- The rows, the weights and the convolution's weights, as launched. -/
abbrev xArg (c : Dev nD) : S8192x4096.Idx → EReal := m ((c : Thread nD τ).loc main_arg0)
abbrev wArg (c : Dev nD) : S1x4096x10240.Idx → EReal := m ((c : Thread nD τ).loc main_arg1)
abbrev tapArg (c : Dev nD) : S1x3x3072.Idx → EReal := m ((c : Thread nD τ).loc main_arg2)

/-- A point's five blocks. -/
abbrev xBlk (c : Dev nD) (t : Fin cfg0.N) : S1024x4096.Idx → EReal := iblk m c 0 t
abbrev outerBlk (c : Dev nD) (t : Fin cfg0.N) : S1x4096x256.Idx → EReal := iblk m c 1 t
abbrev gateBlk (c : Dev nD) (t : Fin cfg0.N) : S1x4096x256.Idx → EReal := iblk m c 2 t
abbrev upBlk (c : Dev nD) (t : Fin cfg0.N) : S1x4096x256.Idx → EReal := iblk m c 3 t
abbrev tapBlk (c : Dev nD) (t : Fin cfg0.N) : S1x3x256.Idx → EReal := iblk m c 4 t

theorem lt_N (t : Fin cfg0.N) : t.val < 96 := lt_of_lt_of_eq t.isLt (show cfg0.N = 96 from N_0)

theorem index_0 : ∀ t : Fin grid0.N, win0_0.index t = ![t.val / 12, 0] := by decide +kernel
theorem index_1 : ∀ t : Fin grid0.N, win0_1.index t = ![0, 0, t.val % 12] := by decide +kernel
theorem index_2 : ∀ t : Fin grid0.N, win0_2.index t = ![0, 0, 12 + t.val % 12] := by decide +kernel
theorem index_3 : ∀ t : Fin grid0.N, win0_3.index t = ![0, 0, 24 + t.val % 12] := by decide +kernel
theorem index_4 : ∀ t : Fin grid0.N, win0_4.index t = ![0, 0, t.val % 12] := by decide +kernel
theorem index_5 : ∀ t : Fin grid0.N, win0_5.index t = ![t.val / 12, t.val % 12] := by decide +kernel

theorem xBlk_apply (c : Dev nD) (t : Fin cfg0.N) (a : Fin 1024) (k : Fin 4096) (i : Fin 8192) (hi : i.val = 1024 * (t.val / 12) + a.val) :
    xBlk m c t (ix2 a k) = xArg m c (ix2 i k) := by
  unfold xBlk iblk
  rw [View.read_apply]
  show V m c main_arg0 _ = _
  rw [V_main_arg0]
  refine congrArg (xArg m c) (funext fun b => Fin.ext ?_)
  match b with
  | ⟨0, _⟩ => show win0_0.index t 0 * 1024 + 1 * a.val = i.val
              rw [index_0]; show t.val / 12 * 1024 + 1 * a.val = _; omega
  | ⟨1, _⟩ => show win0_0.index t 1 * 4096 + 1 * k.val = k.val
              rw [index_0]; show 0 * 4096 + 1 * k.val = _; omega

theorem outerBlk_apply (c : Dev nD) (t : Fin cfg0.N) (k : Fin 4096) (e : Fin 256) (n : Fin 10240) (hn : n.val = 0 + 256 * (t.val % 12) + e.val) :
    outerBlk m c t (ix3 0 k e) = wArg m c (ix3 0 k n) := by
  unfold outerBlk iblk
  rw [View.read_apply]
  show V m c main_arg1 _ = _
  rw [V_main_arg1]
  refine congrArg (wArg m c) (funext fun b => Fin.ext ?_)
  match b with
  | ⟨0, _⟩ => show win0_1.index t 0 * 1 + 1 * 0 = 0
              rw [index_1]; rfl
  | ⟨1, _⟩ => show win0_1.index t 1 * 4096 + 1 * k.val = k.val
              rw [index_1]; show 0 * 4096 + 1 * k.val = _; omega
  | ⟨2, _⟩ => show win0_1.index t 2 * 256 + 1 * e.val = n.val
              rw [index_1]; show t.val % 12 * 256 + 1 * e.val = _; omega

theorem gateBlk_apply (c : Dev nD) (t : Fin cfg0.N) (k : Fin 4096) (e : Fin 256) (n : Fin 10240) (hn : n.val = 3072 + 256 * (t.val % 12) + e.val) :
    gateBlk m c t (ix3 0 k e) = wArg m c (ix3 0 k n) := by
  unfold gateBlk iblk
  rw [View.read_apply]
  show V m c main_arg1 _ = _
  rw [V_main_arg1]
  refine congrArg (wArg m c) (funext fun b => Fin.ext ?_)
  match b with
  | ⟨0, _⟩ => show win0_2.index t 0 * 1 + 1 * 0 = 0
              rw [index_2]; rfl
  | ⟨1, _⟩ => show win0_2.index t 1 * 4096 + 1 * k.val = k.val
              rw [index_2]; show 0 * 4096 + 1 * k.val = _; omega
  | ⟨2, _⟩ => show win0_2.index t 2 * 256 + 1 * e.val = n.val
              rw [index_2]; show (12 + t.val % 12) * 256 + 1 * e.val = _; omega

theorem upBlk_apply (c : Dev nD) (t : Fin cfg0.N) (k : Fin 4096) (e : Fin 256) (n : Fin 10240) (hn : n.val = 6144 + 256 * (t.val % 12) + e.val) :
    upBlk m c t (ix3 0 k e) = wArg m c (ix3 0 k n) := by
  unfold upBlk iblk
  rw [View.read_apply]
  show V m c main_arg1 _ = _
  rw [V_main_arg1]
  refine congrArg (wArg m c) (funext fun b => Fin.ext ?_)
  match b with
  | ⟨0, _⟩ => show win0_3.index t 0 * 1 + 1 * 0 = 0
              rw [index_3]; rfl
  | ⟨1, _⟩ => show win0_3.index t 1 * 4096 + 1 * k.val = k.val
              rw [index_3]; show 0 * 4096 + 1 * k.val = _; omega
  | ⟨2, _⟩ => show win0_3.index t 2 * 256 + 1 * e.val = n.val
              rw [index_3]; show (24 + t.val % 12) * 256 + 1 * e.val = _; omega

/-- One tap's load of the convolution's weights. -/
theorem tapBlk_apply (c : Dev nD) (t : Fin cfg0.N) (d : ℕ) (hd : d < 3) (inb : ∀ a, (![0, d, 0] : Fin 3 → ℕ) a + S1x1x256.size a ≤ S1x3x256.size a) (e : Fin 256) (n : Fin 3072) (hn : n.val = 256 * (t.val % 12) + e.val) :
    (View.ld (Val := Elt Ideal) (e' := .f32) (tapBlk m c t) (Rect.unit (s := S1x3x256) ![0, d, 0] S1x1x256.size inb) (ix3 0 0 e) : EReal) = tapArg m c (ix3 0 (⟨d, hd⟩ : Fin 3) n) := by
  unfold View.ld tapBlk iblk
  rw [View.read_apply]
  show V m c main_arg2 _ = _
  rw [V_main_arg2]
  refine congrArg (tapArg m c) (funext fun b => Fin.ext ?_)
  match b with
  | ⟨0, _⟩ => show win0_4.index t 0 * 1 + 1 * (0 + 1 * 0) = 0
              rw [index_4]; rfl
  | ⟨1, _⟩ => show win0_4.index t 1 * 3 + 1 * (d + 1 * 0) = d
              rw [index_4]; show 0 * 3 + 1 * (d + 1 * 0) = d; omega
  | ⟨2, _⟩ => show win0_4.index t 2 * 256 + 1 * (0 + 1 * e.val) = n.val
              rw [index_4]; show t.val % 12 * 256 + 1 * (0 + 1 * e.val) = _; omega

/-! ## The result -/

/-- A column of the rows' product with the weights. -/
def column (x : S8192x4096.Idx → EReal) (w : S1x4096x10240.Idx → EReal) (n : Fin 10240) (i : Fin 8192) : EReal :=
  ∑ k : Fin 4096, x (ix2 i k) * w (ix3 0 k n)

/-- A column of the three sections of the weights' columns. -/
abbrev first (n : Fin 3072) : Fin 10240 := ⟨n.val, by omega⟩
abbrev second (n : Fin 3072) : Fin 10240 := ⟨3072 + n.val, by omega⟩
abbrev third (n : Fin 3072) : Fin 10240 := ⟨6144 + n.val, by omega⟩

/-- A column of what is convolved: the products of the second and the third section. -/
def fed (x : S8192x4096.Idx → EReal) (w : S1x4096x10240.Idx → EReal) (n : Fin 3072) (i : Fin 8192) : EReal :=
  column x w (second n) i * column x w (third n) i

/-- The whole result. -/
def result (c : Dev nD) : S8192x3072.Idx → EReal := fun y =>
  column (xArg m c) (wArg m c) (first (y 1 : Fin 3072)) (y 0 : Fin 8192)
    * conv (tapArg m c (ix3 0 0 (y 1 : Fin 3072))) (tapArg m c (ix3 0 1 (y 1 : Fin 3072))) (tapArg m c (ix3 0 2 (y 1 : Fin 3072)))
      (fed (xArg m c) (wArg m c) (y 1 : Fin 3072)) (y 0).val

theorem outer_apply (c : Dev nD) (t : Fin cfg0.N) (a : Fin 1024) (e : Fin 256) (i : Fin 8192) (n : Fin 3072)
    (hi : i.val = 1024 * (t.val / 12) + a.val) (hn : n.val = 256 * (t.val % 12) + e.val) :
    k0_pay2 (F := Ideal) (xBlk m c t) (outerBlk m c t) (ix2 a e) = column (xArg m c) (wArg m c) (first n) i := by
  rw [pay2_apply]
  exact Finset.sum_congr rfl fun k _ => congrArg₂ (fun u v : EReal => u * v) (xBlk_apply m c t a k i hi) (outerBlk_apply m c t k e (first n) (show n.val = _ by omega))

theorem fed_apply (c : Dev nD) (t : Fin cfg0.N) (a : Fin 1024) (e : Fin 256) (i : Fin 8192) (n : Fin 3072)
    (hi : i.val = 1024 * (t.val / 12) + a.val) (hn : n.val = 256 * (t.val % 12) + e.val) :
    k0_pay3 (F := Ideal) (xBlk m c t) (gateBlk m c t) (upBlk m c t) (ix2 a e) = fed (xArg m c) (wArg m c) n i := by
  rw [pay3_apply]
  exact congrArg₂ (fun u v : EReal => u * v)
    (Finset.sum_congr rfl fun k _ => congrArg₂ (fun u v : EReal => u * v) (xBlk_apply m c t a k i hi) (gateBlk_apply m c t k e (second n) (show 3072 + n.val = _ by omega)))
    (Finset.sum_congr rfl fun k _ => congrArg₂ (fun u v : EReal => u * v) (xBlk_apply m c t a k i hi) (upBlk_apply m c t k e (third n) (show 6144 + n.val = _ by omega)))

/-- Row `r` of a point's extended rows is row `r` counted from eight before the block. -/
theorem ext_apply (c : Dev nD) (t : Fin cfg0.N) (r : Fin 1032) (e : Fin 256) (n : Fin 3072) (hn : n.val = 256 * (t.val % 12) + e.val) :
    (View.canon (Val := Elt Ideal) (extPieces (grid0.coords t) (xBlk m c t) (gateBlk m c t) (upBlk m c t) (prior m c t)) (ix2 r e) : EReal)
      = lifted (fed (xArg m c) (wArg m c) n) (1024 * (t.val / 12) + r.val) := by
  have hN := lt_N t
  have hr := r.isLt
  unfold extPieces
  by_cases h : r.val < 8
  · refine (canon_of_not_mem _ _ _ (ix2 r e) 0 (Or.inl h)).trans ?_
    refine (canon_of_mem _ _ _ (ix2 r e) (ix2 (⟨r.val, h⟩ : Fin 8) e) fun b => ?_).trans ?_
    · match b with
      | ⟨0, _⟩ => show r.val = 0 + r.val; omega
      | ⟨1, _⟩ => show e.val = 0 + e.val; omega
    · by_cases h' : t.val < 12
      · exact (pay4_zero t h' _ _).trans (lifted_zero _ _ (by omega)).symm
      · have hs : t.val - 12 < cfg0.N := lt_of_le_of_lt (Nat.sub_le _ _) t.isLt
        refine (pay4_later t (by omega) (prior m c t) ⟨r.val, h⟩ e).trans ?_
        refine (pay6_apply (xBlk m c ⟨t.val - 12, hs⟩) (gateBlk m c ⟨t.val - 12, hs⟩) (upBlk m c ⟨t.val - 12, hs⟩) ⟨r.val, h⟩ e ⟨1016 + r.val, by omega⟩ rfl).trans ?_
        have hi : 1024 * ((t.val - 12) / 12) + (1016 + r.val) < 8192 := by omega
        refine (fed_apply m c ⟨t.val - 12, hs⟩ ⟨1016 + r.val, by omega⟩ e ⟨1024 * ((t.val - 12) / 12) + (1016 + r.val), hi⟩ n rfl ?_).trans ?_
        · show n.val = 256 * ((t.val - 12) % 12) + e.val
          omega
        · refine (lifted_of _ _ _ ?_).symm
          show 1024 * (t.val / 12) + r.val = 1024 * ((t.val - 12) / 12) + (1016 + r.val) + 8
          omega
  · refine (canon_of_mem _ _ _ (ix2 r e) (ix2 (⟨r.val - 8, by omega⟩ : Fin 1024) e) fun b => ?_).trans ?_
    · match b with
      | ⟨0, _⟩ => show r.val = 8 + (r.val - 8); omega
      | ⟨1, _⟩ => show e.val = 0 + e.val; omega
    · refine (pay5_eq _ _ _ _).trans ?_
      have hi : 1024 * (t.val / 12) + (r.val - 8) < 8192 := by omega
      refine (fed_apply m c t ⟨r.val - 8, by omega⟩ e ⟨1024 * (t.val / 12) + (r.val - 8), hi⟩ n rfl hn).trans ?_
      refine (lifted_of _ _ _ ?_).symm
      show 1024 * (t.val / 12) + r.val = 1024 * (t.val / 12) + (r.val - 8) + 8
      omega

/-- A load of the extended rows from row `d` on. -/
theorem ext_load (c : Dev nD) (t : Fin cfg0.N) (d : ℕ) (hd : d ≤ 8) (inb : ∀ a, (![d, 0] : Fin 2 → ℕ) a + S1024x256.size a ≤ S1032x256.size a)
    (a : Fin 1024) (e : Fin 256) (n : Fin 3072) (hn : n.val = 256 * (t.val % 12) + e.val) :
    (View.ld (View.canon (Val := Elt Ideal) (extPieces (grid0.coords t) (xBlk m c t) (gateBlk m c t) (upBlk m c t) (prior m c t)))
        (Rect.unit (s := S1032x256) ![d, 0] S1024x256.size inb) (ix2 a e) : EReal)
      = lifted (fed (xArg m c) (wArg m c) n) (1024 * (t.val / 12) + a.val + d) := by
  have ha := a.isLt
  refine Eq.trans ?_ ((ext_apply m c t ⟨d + a.val, by omega⟩ e n hn).trans (congrArg _ (show 1024 * (t.val / 12) + (d + a.val) = _ by omega)))
  unfold View.ld
  refine congrArg _ (funext fun b => Fin.ext ?_)
  match b with
  | ⟨0, _⟩ => show d + 1 * a.val = d + a.val; omega
  | ⟨1, _⟩ => show 0 + 1 * e.val = e.val; omega

theorem point_apply (c : Dev nD) (t : Fin cfg0.N) (a : Fin 1024) (e : Fin 256) (i : Fin 8192) (n : Fin 3072)
    (hi : i.val = 1024 * (t.val / 12) + a.val) (hn : n.val = 256 * (t.val % 12) + e.val) :
    (left m c t (ix2 a e) : EReal) = result m c (ix2 i n) := by
  unfold left point
  refine (pay1_apply _ _ _ _ _ _ _ a e).trans ?_
  unfold result conv
  refine congrArg₂ (fun u v : EReal => u * v) (outer_apply m c t a e i n hi hn) ?_
  refine congrArg₂ (fun u v : EReal => u + v) (congrArg₂ (fun u v : EReal => u + v) ?_ ?_) ?_
  · refine congrArg₂ (fun u v : EReal => u * v) (tapBlk_apply m c t 0 (by omega) _ e n hn) ((ext_load m c t 6 (by omega) _ a e n hn).trans ?_)
    exact congrArg _ (show 1024 * (t.val / 12) + a.val + 6 = i.val + 6 by omega)
  · refine congrArg₂ (fun u v : EReal => u * v) (tapBlk_apply m c t 1 (by omega) _ e n hn) ((ext_load m c t 7 (by omega) _ a e n hn).trans ?_)
    exact congrArg _ (show 1024 * (t.val / 12) + a.val + 7 = i.val + 7 by omega)
  · refine congrArg₂ (fun u v : EReal => u * v) (tapBlk_apply m c t 2 (by omega) _ e n hn) ((fed_apply m c t a e i n hi hn).trans ?_)
    exact (lifted_of _ _ i rfl).symm

/-- Every point writes back its block of the result. -/
theorem flushed_eq (c : Dev nD) (t : Fin cfg0.N) (_ : (cfg0.win 5).flush t = true) :
    (dats m 0 c).flushed 5 t = ((cfg0.win 5).blk t).view.read (Elt Ideal) (result m c) := by
  have hN := lt_N t
  rw [flushed5]
  funext y
  rw [View.read_apply]
  have y0 : (y 0).val < 1024 := (y 0).isLt
  have y1 : (y 1).val < 256 := (y 1).isLt
  have e := point_apply m c t ⟨(y 0).val, y0⟩ ⟨(y 1).val, y1⟩ ⟨1024 * (t.val / 12) + (y 0).val, by omega⟩ ⟨256 * (t.val % 12) + (y 1).val, by omega⟩ rfl rfl
  refine Eq.trans ?_ (e.trans ?_)
  · show (left m c t : Vec Ideal S1024x256 .bf16) _ = _
    refine congrArg (left m c t : Vec Ideal S1024x256 .bf16) (funext fun b => Fin.ext ?_)
    match b with
    | ⟨0, _⟩ => rfl
    | ⟨1, _⟩ => rfl
  · refine congrArg (result m c) (funext fun b => Fin.ext ?_)
    match b with
    | ⟨0, _⟩ => show 1024 * (t.val / 12) + (y 0).val = win0_5.index t 0 * 1024 + 1 * (y 0).val
                rw [index_5]; show _ = t.val / 12 * 1024 + 1 * (y 0).val; omega
    | ⟨1, _⟩ => show 256 * (t.val % 12) + (y 1).val = win0_5.index t 1 * 256 + 1 * (y 1).val
                rw [index_5]; show _ = t.val % 12 * 256 + 1 * (y 1).val; omega

/-- The result array ends holding it. -/
theorem final_o (c : Dev nD) : (dats m 0 c).arrAt 5 cfg0.N = result m c :=
  (dats m 0 c).arrAt_eq_of_cover 5 (result m c) (flushed_eq m c) fun i => by
    have h0 : (i 0 : Nat) < 8192 := (i 0).isLt
    have h1 : (i 1 : Nat) < 3072 := (i 1).isLt
    have hN : cfg0.N = 96 := N_0
    have ht : (i 0 : Nat) / 1024 * 12 + (i 1 : Nat) / 256 < cfg0.N := by omega
    refine ⟨⟨(i 0 : Nat) / 1024 * 12 + (i 1 : Nat) / 256, ht⟩, flush0_5 _, ?_⟩
    show i ∈ ((View.whole main_v0).slice (win0_5.rect ⟨(i 0 : Nat) / 1024 * 12 + (i 1 : Nat) / 256, ht⟩)).set
    rw [View.set_slice_whole, Rect.mem_set_unit]
    intro b
    match b with
    | ⟨0, _⟩ => show win0_5.index _ 0 * 1024 ≤ (i 0 : Nat) ∧ (i 0 : Nat) < win0_5.index _ 0 * 1024 + 1024
                rw [index_5]
                show ((i 0 : Nat) / 1024 * 12 + (i 1 : Nat) / 256) / 12 * 1024 ≤ (i 0 : Nat) ∧ (i 0 : Nat) < ((i 0 : Nat) / 1024 * 12 + (i 1 : Nat) / 256) / 12 * 1024 + 1024
                omega
    | ⟨1, _⟩ => show win0_5.index _ 1 * 256 ≤ (i 1 : Nat) ∧ (i 1 : Nat) < win0_5.index _ 1 * 256 + 256
                rw [index_5]
                show ((i 0 : Nat) / 1024 * 12 + (i 1 : Nat) / 256) % 12 * 256 ≤ (i 1 : Nat) ∧ (i 1 : Nat) < ((i 0 : Nat) / 1024 * 12 + (i 1 : Nat) / 256) % 12 * 256 + 256
                omega

end Cert.ConvInIdeal.Own

end
-- ==== Proof.ConvIn.lean ====
/-
  The claims about the gated convolution's input: the frames of the kernel and of the reference, and the equality of their
  results over the extended reals, with no condition on the arguments.
-/
module

public import proofs.«01_k».proof.Defs
public import proofs.«01_k».proof.Proof.ConvInValue
public import proofs.«01_k».proof.Proof.Gen.ConvIn
public import proofs.«01_k».proof.Proof.Gen.ConvInIdeal
public import proofs.«01_k».proof.Proof.Gen.ConvInRefIdeal
public import proofs.«01_k».proof.Proof.Gen.ConvInRefIdeal.Read
public import Idealize.ShloMosaic.Lib.Quiescent

@[expose] public section

set_option maxRecDepth 65536

noncomputable section

namespace Cert.Proof.ConvIn

open Idealize.ShloMosaic Idealize.ShloMosaic.TcCoe Idealize.SL.Sem Idealize.ShloMosaic.ValueIdx
open Cert.ConvInRefIdeal Cert.ConvInRefIdeal.Gen Cert.ConvInRefIdeal.Read Cert.Conv
open Cert.ConvInIdeal.Own (column first second third fed)

theorem weight (w : (⟨S1x4096x10240, .f32⟩ : BufTy).Contents (Elt Ideal)) (k : Fin 4096) (n : Fin 10240) :
    val_main_v1 (F := Ideal) w (ix2 k n) = w (ix3 0 k n) := by
  rw [val_main_v1_apply]
  have := n.isLt
  have := k.isLt
  refine congrArg w (funext fun b => Fin.ext ?_)
  match b with
  | ⟨0, _⟩ => rfl
  | ⟨1, _⟩ => show (k.val * 10240 + n.val) / 10240 % 4096 = k.val; omega
  | ⟨2, _⟩ => show (k.val * 10240 + n.val) % 10240 = n.val; omega

/-- The reference's product at an index. -/
theorem multiplied (x : (⟨S8192x4096, .bf16⟩ : BufTy).Contents (Elt Ideal)) (w : (⟨S1x4096x10240, .f32⟩ : BufTy).Contents (Elt Ideal)) (i : Fin 8192) (n : Fin 10240) :
    val_main_v2 (F := Ideal) x w (ix2 i n) = column x w n i := by
  rw [val_main_v2_apply]
  refine Finset.sum_congr rfl fun k _ => congrArg₂ (fun u v : EReal => u * v) ?_ (Eq.trans (congrArg _ ?_) (weight w k n))
  · rw [val_main_v0_apply]
    refine congrArg (x : S8192x4096.Idx → EReal) (funext fun b => ?_)
    match b with
    | ⟨0, _⟩ => rfl
    | ⟨1, _⟩ => rfl
  · funext b
    match b with
    | ⟨0, _⟩ => rfl
    | ⟨1, _⟩ => rfl

/-- The first section of the columns. -/
theorem outer_section (x : (⟨S8192x4096, .bf16⟩ : BufTy).Contents (Elt Ideal)) (w : (⟨S1x4096x10240, .f32⟩ : BufTy).Contents (Elt Ideal)) (i : Fin 8192) (n : Fin 3072) :
    val_main_v3 (F := Ideal) x w (ix2 i n) = column x w (first n) i := by
  rw [val_main_v3_apply, ← multiplied]
  refine congrArg _ (funext fun b => Fin.ext ?_)
  match b with
  | ⟨0, _⟩ => rfl
  | ⟨1, _⟩ => rfl

/-- The second. -/
theorem second_section (x : (⟨S8192x4096, .bf16⟩ : BufTy).Contents (Elt Ideal)) (w : (⟨S1x4096x10240, .f32⟩ : BufTy).Contents (Elt Ideal)) (i : Fin 8192) (n : Fin 3072) :
    val_main_v4 (F := Ideal) x w (ix2 i n) = column x w (second n) i := by
  rw [val_main_v4_apply, ← multiplied]
  refine congrArg _ (funext fun b => Fin.ext ?_)
  match b with
  | ⟨0, _⟩ => rfl
  | ⟨1, _⟩ => rfl

/-- The third. -/
theorem third_section (x : (⟨S8192x4096, .bf16⟩ : BufTy).Contents (Elt Ideal)) (w : (⟨S1x4096x10240, .f32⟩ : BufTy).Contents (Elt Ideal)) (i : Fin 8192) (n : Fin 3072) :
    val_main_v5 (F := Ideal) x w (ix2 i n) = column x w (third n) i := by
  rw [val_main_v5_apply, ← multiplied]
  refine congrArg _ (funext fun b => Fin.ext ?_)
  match b with
  | ⟨0, _⟩ => rfl
  | ⟨1, _⟩ => rfl

/-- The product of the second and the third section. -/
theorem multiplicand (x : (⟨S8192x4096, .bf16⟩ : BufTy).Contents (Elt Ideal)) (w : (⟨S1x4096x10240, .f32⟩ : BufTy).Contents (Elt Ideal)) (i : Fin 8192) (n : Fin 3072) :
    val_main_v6 (F := Ideal) x w (ix2 i n) = fed x w n i := by
  rw [val_main_v6_apply, second_section, third_section]
  rfl

/-- That product with two zero rows before it. -/
theorem padded (x : (⟨S8192x4096, .bf16⟩ : BufTy).Contents (Elt Ideal)) (w : (⟨S1x4096x10240, .f32⟩ : BufTy).Contents (Elt Ideal)) (p : Fin 8194) (n : Fin 3072) :
    val_main_v8 (F := Ideal) x w (ix2 p n) = lifted (fed x w n) (p.val + 6) := by
  have hp := p.isLt
  unfold val_main_v8
  by_cases h : p.val < 2
  · refine (pad_apply_of_not_inside (s := S8192x3072) (t := S8194x3072) _ _ _ _ _ _ _ (ix2 p n) 0 fun hin => ?_).trans ?_
    · have : 2 ≤ p.val := hin.1
      omega
    · rw [val_main_call0_v0_apply, val_main_c_apply, lifted_zero _ _ (by omega)]
      show (((0#32 : BitVec 32).toInt : ℝ) : EReal) = 0
      norm_num
  · have hi : p.val - 2 < 8192 := by omega
    refine (pad_apply_of_inside (s := S8192x3072) (t := S8194x3072) _ _ _ _ _ _ _ (ix2 p n) (ix2 (⟨p.val - 2, hi⟩ : Fin 8192) n) fun b => ?_).trans ?_
    · match b with
      | ⟨0, _⟩ => show p.val = 2 + (p.val - 2) * (0 + 1); omega
      | ⟨1, _⟩ => show n.val = 0 + n.val * (0 + 1); omega
    · rw [multiplicand]
      exact (lifted_of _ _ _ (show p.val + 6 = p.val - 2 + 8 by omega)).symm

/-- A tap's weights spread over the rows. -/
theorem tap0 (w : (⟨S1x3x3072, .f32⟩ : BufTy).Contents (Elt Ideal)) (i : Fin 8192) (n : Fin 3072) :
    val_main_v13 (F := Ideal) w (ix2 i n) = w (ix3 0 0 n) := by
  rw [val_main_v13_apply, val_main_v12_apply, val_main_v10_apply, val_main_v9_apply, val_main_v7_apply]
  have := n.isLt
  refine congrArg w (funext fun b => Fin.ext ?_)
  match b with
  | ⟨0, _⟩ => rfl
  | ⟨1, _⟩ => simp
  | ⟨2, _⟩ => simp

/-- The middle tap, likewise. -/
theorem tap1 (w : (⟨S1x3x3072, .f32⟩ : BufTy).Contents (Elt Ideal)) (i : Fin 8192) (n : Fin 3072) :
    val_main_v19 (F := Ideal) w (ix2 i n) = w (ix3 0 1 n) := by
  rw [val_main_v19_apply, val_main_v18_apply, val_main_v16_apply, val_main_v15_apply, val_main_v7_apply]
  have := n.isLt
  refine congrArg w (funext fun b => Fin.ext ?_)
  match b with
  | ⟨0, _⟩ => rfl
  | ⟨1, _⟩ => simp
  | ⟨2, _⟩ => simp

/-- The last tap, likewise. -/
theorem tap2 (w : (⟨S1x3x3072, .f32⟩ : BufTy).Contents (Elt Ideal)) (i : Fin 8192) (n : Fin 3072) :
    val_main_v26 (F := Ideal) w (ix2 i n) = w (ix3 0 2 n) := by
  rw [val_main_v26_apply, val_main_v25_apply, val_main_v23_apply, val_main_v22_apply, val_main_v7_apply]
  have := n.isLt
  refine congrArg w (funext fun b => Fin.ext ?_)
  match b with
  | ⟨0, _⟩ => rfl
  | ⟨1, _⟩ => simp; omega
  | ⟨2, _⟩ => simp; show (6144 + n.val) % 3072 = n.val; omega

/-- The reference's convolution at an index. -/
theorem convolved (x : (⟨S8192x4096, .bf16⟩ : BufTy).Contents (Elt Ideal)) (w : (⟨S1x4096x10240, .f32⟩ : BufTy).Contents (Elt Ideal))
    (k : (⟨S1x3x3072, .f32⟩ : BufTy).Contents (Elt Ideal)) (i : Fin 8192) (n : Fin 3072) :
    val_main_v28 (F := Ideal) x w k (ix2 i n) = conv (k (ix3 0 0 n)) (k (ix3 0 1 n)) (k (ix3 0 2 n)) (fed x w n) i.val := by
  have hi := i.isLt
  rw [val_main_v28_apply, val_main_v21_apply, val_main_v14_apply, val_main_v20_apply, val_main_v27_apply, tap0, tap1, tap2,
    val_main_v11_apply, val_main_v17_apply, val_main_v24_apply]
  unfold conv
  refine congrArg₂ (fun u v : EReal => u + v) (congrArg₂ (fun u v : EReal => u + v) (congrArg (fun u : EReal => k (ix3 0 0 n) * u) ?_) (congrArg (fun u : EReal => k (ix3 0 1 n) * u) ?_)) (congrArg (fun u : EReal => k (ix3 0 2 n) * u) ?_)
  · refine Eq.trans (congrArg _ (funext fun b => ?_)) (padded x w ⟨i.val, by omega⟩ n)
    match b with
    | ⟨0, _⟩ => rfl
    | ⟨1, _⟩ => rfl
  · refine Eq.trans (congrArg _ (funext fun b => ?_)) ((padded x w ⟨1 + i.val, by omega⟩ n).trans (congrArg _ (show 1 + i.val + 6 = i.val + 7 by omega)))
    match b with
    | ⟨0, _⟩ => rfl
    | ⟨1, _⟩ => rfl
  · refine Eq.trans (congrArg _ (funext fun b => ?_)) ((padded x w ⟨2 + i.val, by omega⟩ n).trans (congrArg _ (show 2 + i.val + 6 = i.val + 8 by omega)))
    match b with
    | ⟨0, _⟩ => rfl
    | ⟨1, _⟩ => rfl

/-- The reference's result is the kernel's. -/
theorem results (m : (ℓ : Loc Cert.ConvInIdeal.nD Cert.ConvInIdeal.τ Cert.ConvInIdeal.sig) → Buf (Elt Ideal) ℓ) (c : Dev Cert.ConvInIdeal.nD) :
    val_main_v30 (F := Ideal) (Cert.ConvInIdeal.Own.xArg m c) (Cert.ConvInIdeal.Own.wArg m c) (Cert.ConvInIdeal.Own.tapArg m c)
      = Cert.ConvInIdeal.Own.result m c := by
  funext y
  obtain ⟨i, n, rfl⟩ : ∃ (i : Fin 8192) (n : Fin 3072), y = ix2 i n := ⟨y 0, y 1, eq_ix2 (n0 := 8192) (n1 := 3072) y⟩
  rw [val_main_v30_apply, val_main_v29_apply, convolved, outer_section]
  rfl

/-! ## The frames -/

/-- The two printed programs start the same launches. -/
theorem defs₀_eq {F : FTy → Type} [FloatOps F] : (Cert.ConvIn.defs₀ (F := F)) = Cert.ConvInIdeal.defs₀ (F := F) := by
  unfold Cert.ConvIn.defs₀ Cert.ConvInIdeal.defs₀
  refine congrArg (Defs.onTc (nD := Cert.ConvIn.nD) (τ := Cert.ConvIn.τ) (sig := Cert.ConvIn.sig) (Val := Elt F) (Λ := Cert.ConvIn.Λ₀)) ?_
  funext l a
  match l, a with
  | 0, (t, s) => rfl

/-- The two printed programs, which no rewriting separates, run the same calls. -/
theorem defs_eq {F : FTy → Type} [FloatOps F] : (Cert.ConvIn.defs (F := F)) = Cert.ConvInIdeal.defs (F := F) :=
  congrArg (Pipeline.defs Cert.ConvIn.pcfgs) defs₀_eq

/-- The kernel terminates with its arguments kept, at every float arithmetic. -/
theorem frame_p : Cert.quiescent_ConvIn := fun m ρ _ => by
  rw [defs_eq]
  exact Cert.ConvInIdeal.Own.frame m ρ

/-- So does the kernel read over the extended reals. -/
theorem frame_pi : Cert.quiescent_ConvInIdeal := fun m ρ _ => Cert.ConvInIdeal.Own.frame m ρ
/-- And the reference. -/
theorem frame_ri : Cert.quiescent_ConvInRefIdeal := fun m ρ _ =>
  (θ_run Cert.ConvInRefIdeal.defs _ _).mono
    (fun r h => ⟨fun c => (h c).2, Idealize.ShloMosaic.sem_eq_zero_of_no_sems (by decide) r.2⟩)
    (Cert.ConvInRefIdeal.Value.run (F := Ideal) m ρ)

/-- Nothing was rewritten between the two printed programs. -/
theorem preserves : Cert.preserves_ConvIn_ConvInIdeal := trivial

/-- **The kernel and the reference end with equal results** from equal arguments. -/
theorem algebraic : Cert.algebraic_ConvInIdeal_ConvInRefIdeal := fun m ρ m' ρ' _ hag =>
  ⟨fun c => Cert.ConvInIdeal.Own.result m c,
    (θ_run Cert.ConvInIdeal.defs _ _).mono (fun r h c => ⟨(h c).1.trans (Cert.ConvInIdeal.Own.final_o m c), (h c).2⟩)
      (Cert.ConvInIdeal.Own.run_blocks m ρ),
    (θ_run Cert.ConvInRefIdeal.defs _ _).mono
      (fun r h c => by
        refine ⟨(h c).1.trans ?_, (h c).2⟩
        rw [val_main_v30_eq, (hag c).1, (hag c).2.1, (hag c).2.2]
        exact results m c)
      (Cert.ConvInRefIdeal.Value.run (F := Ideal) m' ρ')⟩

end Cert.Proof.ConvIn

end
-- ==== Proof.OutProjAttnValue.lean ====
/-
  The output projection of the attention layer at the ideal values: each block of the result is the product of its rows of the attention
  output with the first 2048 weight rows plus the product of its rows of the memory output with the last 1024.
-/
module

public import proofs.«01_k».proof.Proof.Gen.OutProjAttnIdeal.Value
public import Idealize.ShloMosaic.Lib.Pipeline.ReadBack
public import proofs.«01_k».proof.Proof.Blocks

@[expose] public section

set_option maxRecDepth 16384

noncomputable section

namespace Cert.OutProjAttnIdeal.Own

open Cert.OutProjAttnIdeal Cert.OutProjAttnIdeal.Gen Idealize.ShloMosaic Idealize.ShloMosaic.TcCoe Idealize.SL.Sem Idealize.ShloMosaic.ValueIdx Cert.Blocks

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block a point leaves is its one payload of the point's four blocks. -/
theorem out_A (c : Dev nD) (t : Fin cfg0.N) :
    outsAt0 m c t = k0_pay1 (iblk m c 0 t) (X0_2 m c t) (iblk m c 1 t) (iblk m c 3 t) := by
  unfold outsAt0 out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (X0_2 m c t) (iblk m c 3 t))]
  unfold kernelRun0_A
  dsimp only
  sl_unfold_words
  simp only [View.readAt_eq_ld, (hs0_0 t).read_unread, (hs0_1 t).read_unread, (hs0_2 t).read_unread, (hs0_3 t).read_unread]
  rw [View.canon_unit_zero zero2, View.ld_unit_zero (S := S1024x2048) zero2, View.ld_unit_zero (S := S1024x1024) zero2,
    View.ld_unit_zero (S := S1x2048x512) zero3, View.ld_unit_zero (S := S1x1024x512) zero3]

/-- The payload at an index. -/
theorem payload_apply (x : Vec Ideal S1024x2048 .bf16) (wx : Vec Ideal S1x2048x512 .f32) (y : Vec Ideal S1024x1024 .bf16) (wy : Vec Ideal S1x1024x512 .f32)
    (a : Fin 1024) (e : Fin 512) :
    k0_pay1 x wx y wy (ix2 a e)
      = (∑ k : Fin 2048, (x (ix2 a k) * wx (ix3 0 k e) : EReal)) + ∑ k : Fin 1024, (y (ix2 a k) * wy (ix3 0 k e) : EReal) := by
  unfold k0_pay1
  exact congrArg₂ (fun u v : EReal => u + v) (layer_matmul (M := 1024) (K := 2048) (N := 512) x wx _ _ a e)
    (layer_matmul (M := 1024) (K := 1024) (N := 512) y wy _ _ a e)

/-- The attention output, the memory output and the weights, as launched. -/
abbrev attnArg (c : Dev nD) : S8192x2048.Idx → EReal := m ((c : Thread nD τ).loc main_arg0)
abbrev memArg (c : Dev nD) : S8192x1024.Idx → EReal := m ((c : Thread nD τ).loc main_arg1)
abbrev wArg (c : Dev nD) : S1x3072x4096.Idx → EReal := m ((c : Thread nD τ).loc main_arg2)

/-- A point's four blocks. -/
abbrev attnBlk (c : Dev nD) (t : Fin cfg0.N) : S1024x2048.Idx → EReal := iblk m c 0 t
abbrev memBlk (c : Dev nD) (t : Fin cfg0.N) : S1024x1024.Idx → EReal := iblk m c 1 t
abbrev wTop (c : Dev nD) (t : Fin cfg0.N) : S1x2048x512.Idx → EReal := X0_2 m c t
abbrev wLow (c : Dev nD) (t : Fin cfg0.N) : S1x1024x512.Idx → EReal := iblk m c 3 t

theorem lt_N (t : Fin cfg0.N) : t.val < 64 := lt_of_lt_of_eq t.isLt (show cfg0.N = 64 from N_0)

theorem index_0 : ∀ t : Fin grid0.N, win0_0.index t = ![t.val / 8, 0] := by decide +kernel
theorem index_1 : ∀ t : Fin grid0.N, win0_1.index t = ![t.val / 8, 0] := by decide +kernel
theorem index_2 : ∀ t : Fin grid0.N, win0_2.index t = ![0, 0, t.val % 8] := by decide +kernel
theorem index_3 : ∀ t : Fin grid0.N, win0_3.index t = ![0, 2, t.val % 8] := by decide +kernel
theorem index_4 : ∀ t : Fin grid0.N, win0_4.index t = ![t.val / 8, t.val % 8] := by decide +kernel

theorem attnBlk_apply (c : Dev nD) (t : Fin cfg0.N) (a : Fin 1024) (k : Fin 2048) (i : Fin 8192) (hi : i.val = 1024 * (t.val / 8) + a.val) :
    attnBlk m c t (ix2 a k) = attnArg m c (ix2 i k) := by
  unfold attnBlk iblk
  rw [View.read_apply]
  show V m c main_arg0 _ = _
  rw [V_main_arg0]
  refine congrArg (attnArg m c) (funext fun b => Fin.ext ?_)
  match b with
  | ⟨0, _⟩ => show win0_0.index t 0 * 1024 + 1 * a.val = i.val
              rw [index_0]; show t.val / 8 * 1024 + 1 * a.val = _; omega
  | ⟨1, _⟩ => show win0_0.index t 1 * 2048 + 1 * k.val = k.val
              rw [index_0]; show 0 * 2048 + 1 * k.val = _; omega

theorem memBlk_apply (c : Dev nD) (t : Fin cfg0.N) (a : Fin 1024) (k : Fin 1024) (i : Fin 8192) (hi : i.val = 1024 * (t.val / 8) + a.val) :
    memBlk m c t (ix2 a k) = memArg m c (ix2 i k) := by
  unfold memBlk iblk
  rw [View.read_apply]
  show V m c main_arg1 _ = _
  rw [V_main_arg1]
  refine congrArg (memArg m c) (funext fun b => Fin.ext ?_)
  match b with
  | ⟨0, _⟩ => show win0_1.index t 0 * 1024 + 1 * a.val = i.val
              rw [index_1]; show t.val / 8 * 1024 + 1 * a.val = _; omega
  | ⟨1, _⟩ => show win0_1.index t 1 * 1024 + 1 * k.val = k.val
              rw [index_1]; show 0 * 1024 + 1 * k.val = _; omega

theorem wTop_apply (c : Dev nD) (t : Fin cfg0.N) (k : Fin 2048) (e : Fin 512) (j : Fin 3072) (n : Fin 4096) (hj : j.val = k.val) (hn : n.val = 512 * (t.val % 8) + e.val) :
    wTop m c t (ix3 0 k e) = wArg m c (ix3 0 j n) := by
  unfold wTop X0_2 Pipeline.Window.fill
  rw [dif_pos (moved0_2 t _)]
  unfold iblk
  rw [View.read_apply]
  show V m c main_arg2 _ = _
  rw [V_main_arg2]
  refine congrArg (wArg m c) (funext fun b => Fin.ext ?_)
  match b with
  | ⟨0, _⟩ => show win0_2.index t 0 * 1 + 1 * 0 = 0
              rw [index_2]; rfl
  | ⟨1, _⟩ => show win0_2.index t 1 * 2048 + 1 * k.val = j.val
              rw [index_2]; show 0 * 2048 + 1 * k.val = _; omega
  | ⟨2, _⟩ => show win0_2.index t 2 * 512 + 1 * e.val = n.val
              rw [index_2]; show t.val % 8 * 512 + 1 * e.val = _; omega

theorem wLow_apply (c : Dev nD) (t : Fin cfg0.N) (k : Fin 1024) (e : Fin 512) (j : Fin 3072) (n : Fin 4096) (hj : j.val = 2048 + k.val) (hn : n.val = 512 * (t.val % 8) + e.val) :
    wLow m c t (ix3 0 k e) = wArg m c (ix3 0 j n) := by
  unfold wLow iblk
  rw [View.read_apply]
  show V m c main_arg2 _ = _
  rw [V_main_arg2]
  refine congrArg (wArg m c) (funext fun b => Fin.ext ?_)
  match b with
  | ⟨0, _⟩ => show win0_3.index t 0 * 1 + 1 * 0 = 0
              rw [index_3]; rfl
  | ⟨1, _⟩ => show win0_3.index t 1 * 1024 + 1 * k.val = j.val
              rw [index_3]; show 2 * 1024 + 1 * k.val = _; omega
  | ⟨2, _⟩ => show win0_3.index t 2 * 512 + 1 * e.val = n.val
              rw [index_3]; show t.val % 8 * 512 + 1 * e.val = _; omega

/-- The whole result: the attention part plus the memory part. -/
def result (c : Dev nD) : S8192x4096.Idx → EReal := fun y =>
  (∑ k : Fin 2048, attnArg m c (ix2 (y 0 : Fin 8192) k) * wArg m c (ix3 0 (⟨k.val, by omega⟩ : Fin 3072) (y 1 : Fin 4096)))
    + ∑ k : Fin 1024, memArg m c (ix2 (y 0 : Fin 8192) k) * wArg m c (ix3 0 (⟨2048 + k.val, by omega⟩ : Fin 3072) (y 1 : Fin 4096))

theorem point (c : Dev nD) (t : Fin cfg0.N) (a : Fin 1024) (e : Fin 512) (i : Fin 8192) (n : Fin 4096)
    (hi : i.val = 1024 * (t.val / 8) + a.val) (hn : n.val = 512 * (t.val % 8) + e.val) :
    (outsAt0 m c t : Vec Ideal S1024x512 .f32) (ix2 a e) = result m c (ix2 i n) := by
  rw [out_A, payload_apply]
  exact congrArg₂ (fun u v : EReal => u + v)
    (Finset.sum_congr rfl fun k _ => congrArg₂ (fun u v : EReal => u * v) (attnBlk_apply m c t a k i hi) (wTop_apply m c t k e _ n rfl hn))
    (Finset.sum_congr rfl fun k _ => congrArg₂ (fun u v : EReal => u * v) (memBlk_apply m c t a k i hi) (wLow_apply m c t k e _ n rfl hn))

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [Value.flushed4]
  funext y
  rw [View.read_apply]
  have y0 : (y 0).val < 1024 := (y 0).isLt
  have y1 : (y 1).val < 512 := (y 1).isLt
  have e := point m c t ⟨(y 0).val, y0⟩ ⟨(y 1).val, y1⟩ ⟨1024 * (t.val / 8) + (y 0).val, by omega⟩ ⟨512 * (t.val % 8) + (y 1).val, by omega⟩ rfl rfl
  refine Eq.trans ?_ (e.trans ?_)
  · show (outsAt0 m c t : Vec Ideal S1024x512 .f32) _ = _
    refine congrArg (outsAt0 m c t : Vec Ideal S1024x512 .f32) (funext fun b => Fin.ext ?_)
    match b with
    | ⟨0, _⟩ => rfl
    | ⟨1, _⟩ => rfl
  · refine congrArg (result m c) (funext fun b => Fin.ext ?_)
    match b with
    | ⟨0, _⟩ => show 1024 * (t.val / 8) + (y 0).val = win0_4.index t 0 * 1024 + 1 * (y 0).val
                rw [index_4]; show _ = t.val / 8 * 1024 + 1 * (y 0).val; omega
    | ⟨1, _⟩ => show 512 * (t.val % 8) + (y 1).val = win0_4.index t 1 * 512 + 1 * (y 1).val
                rw [index_4]; show _ = t.val % 8 * 512 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 4096 := (i 1).isLt
    have hN : cfg0.N = 64 := N_0
    have ht : (i 0 : Nat) / 1024 * 8 + (i 1 : Nat) / 512 < cfg0.N := by omega
    refine ⟨⟨(i 0 : Nat) / 1024 * 8 + (i 1 : Nat) / 512, ht⟩, flush0_4 _, ?_⟩
    show i ∈ ((View.whole main_v0).slice (win0_4.rect ⟨(i 0 : Nat) / 1024 * 8 + (i 1 : Nat) / 512, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 8 + (i 1 : Nat) / 512) / 8 * 1024 ≤ (i 0 : Nat) ∧ (i 0 : Nat) < ((i 0 : Nat) / 1024 * 8 + (i 1 : Nat) / 512) / 8 * 1024 + 1024
                omega
    | ⟨1, _⟩ => show win0_4.index _ 1 * 512 ≤ (i 1 : Nat) ∧ (i 1 : Nat) < win0_4.index _ 1 * 512 + 512
                rw [index_4]
                show ((i 0 : Nat) / 1024 * 8 + (i 1 : Nat) / 512) % 8 * 512 ≤ (i 1 : Nat) ∧ (i 1 : Nat) < ((i 0 : Nat) / 1024 * 8 + (i 1 : Nat) / 512) % 8 * 512 + 512
                omega

end Cert.OutProjAttnIdeal.Own

end
-- ==== Proof.OutProjAttn.lean ====
/-
  The claims about the output projection (attention layer): the frames of the kernel and of the reference, and the
  equality of their results over the extended reals, with no condition on the arguments.
-/
module

public import proofs.«01_k».proof.Defs
public import proofs.«01_k».proof.Proof.OutProjAttnValue
public import proofs.«01_k».proof.Proof.Gen.OutProjAttn
public import proofs.«01_k».proof.Proof.Gen.OutProjAttn.Frame
public import proofs.«01_k».proof.Proof.Gen.OutProjAttnIdeal
public import proofs.«01_k».proof.Proof.Gen.OutProjAttnIdeal.Value
public import proofs.«01_k».proof.Proof.Gen.OutProjAttnRefIdeal
public import proofs.«01_k».proof.Proof.Gen.OutProjAttnRefIdeal.Read
public import Idealize.ShloMosaic.Lib.Quiescent

@[expose] public section

set_option maxRecDepth 16384

noncomputable section

namespace Cert.Proof.OutProjAttn

open Idealize.ShloMosaic Idealize.ShloMosaic.TcCoe Idealize.SL.Sem Idealize.ShloMosaic.ValueIdx
open Cert.OutProjAttnRefIdeal Cert.OutProjAttnRefIdeal.Read

/-- A column of the joined rows before 2048 is the attention output's. -/
theorem joined_left (x : (⟨S8192x2048, .bf16⟩ : BufTy).Contents (Elt Ideal)) (y : (⟨S8192x1024, .bf16⟩ : BufTy).Contents (Elt Ideal))
    (i : Fin 8192) (j : Fin 3072) (k : Fin 2048) (hj : j.val = k.val) : val_main_v0 (F := Ideal) x y (ix2 i j) = x (ix2 i k) := by
  unfold val_main_v0
  refine concatenate_pair_apply_left (t := S8192x3072) (s₁ := S8192x2048) (s₂ := S8192x1024) 1 x y _ _ rfl (ix2 i k) fun c => ?_
  match c with
  | ⟨0, _⟩ => rfl
  | ⟨1, _⟩ => exact hj.symm

/-- A column from 2048 on is the memory output's. -/
theorem joined_right (x : (⟨S8192x2048, .bf16⟩ : BufTy).Contents (Elt Ideal)) (y : (⟨S8192x1024, .bf16⟩ : BufTy).Contents (Elt Ideal))
    (i : Fin 8192) (j : Fin 3072) (k : Fin 1024) (hj : j.val = 2048 + k.val) : val_main_v0 (F := Ideal) x y (ix2 i j) = y (ix2 i k) := by
  unfold val_main_v0
  refine concatenate_pair_apply_right (t := S8192x3072) (s₁ := S8192x2048) (s₂ := S8192x1024) 1 x y _ _ rfl rfl (ix2 i k) (fun c hc => ?_) ?_
  · match c with
    | ⟨0, _⟩ => rfl
    | ⟨1, _⟩ => exact absurd rfl hc
  · show k.val + 2048 = j.val
    omega

theorem weight (w : (⟨S1x3072x4096, .f32⟩ : BufTy).Contents (Elt Ideal)) (j : Fin 3072) (n : Fin 4096) :
    val_main_v2 (F := Ideal) w (ix2 j n) = w (ix3 0 j n) := by
  rw [val_main_v2_apply]
  have := n.isLt
  have := j.isLt
  refine congrArg w (funext fun b => Fin.ext ?_)
  match b with
  | ⟨0, _⟩ => rfl
  | ⟨1, _⟩ => show (j.val * 4096 + n.val) / 4096 % 3072 = j.val; omega
  | ⟨2, _⟩ => show (j.val * 4096 + n.val) % 4096 = n.val; omega

/-- The reference's product at an index is the kernel's two products added. -/
theorem results (m : (ℓ : Loc Cert.OutProjAttnIdeal.nD Cert.OutProjAttnIdeal.τ Cert.OutProjAttnIdeal.sig) → Buf (Elt Ideal) ℓ) (c : Dev Cert.OutProjAttnIdeal.nD) :
    val_main_v3 (F := Ideal) (Cert.OutProjAttnIdeal.Own.attnArg m c) (Cert.OutProjAttnIdeal.Own.memArg m c) (Cert.OutProjAttnIdeal.Own.wArg m c) = Cert.OutProjAttnIdeal.Own.result m c := by
  funext i
  rw [val_main_v3_apply]
  unfold Cert.OutProjAttnIdeal.Own.result
  have split := Fin.sum_univ_add (a := 2048) (b := 1024) fun k : Fin 3072 =>
    (val_main_v1 (F := Ideal) (Cert.OutProjAttnIdeal.Own.attnArg m c) (Cert.OutProjAttnIdeal.Own.memArg m c) (ix2 (i 0 : Fin 8192) k)
      * val_main_v2 (F := Ideal) (Cert.OutProjAttnIdeal.Own.wArg m c) (ix2 k (i 1 : Fin 4096)) : EReal)
  refine Eq.trans ?_ (split.trans ?_)
  · refine Finset.sum_congr rfl fun k _ => congrArg₂ (fun u v : EReal => u * v) (congrArg _ ?_) (congrArg _ ?_)
    all_goals
      funext b
      match b with
      | ⟨0, _⟩ => rfl
      | ⟨1, _⟩ => rfl
  · refine congrArg₂ (fun u v : EReal => u + v) (Finset.sum_congr rfl fun k _ => ?_) (Finset.sum_congr rfl fun k _ => ?_)
    · refine congrArg₂ (fun u v : EReal => u * v) ?_ (weight _ _ _)
      rw [val_main_v1_apply]
      exact joined_left _ _ _ _ k rfl
    · refine congrArg₂ (fun u v : EReal => u * v) ?_ (weight _ _ _)
      rw [val_main_v1_apply]
      exact joined_right _ _ _ _ k rfl

theorem frame_p : Cert.quiescent_OutProjAttn := fun m ρ _ => Cert.OutProjAttn.Gen.frame m ρ
theorem frame_pi : Cert.quiescent_OutProjAttnIdeal := fun m ρ _ => Cert.OutProjAttnIdeal.Gen.frame m ρ
theorem frame_ri : Cert.quiescent_OutProjAttnRefIdeal := fun m ρ _ =>
  (θ_run Cert.OutProjAttnRefIdeal.defs _ _).mono
    (fun r h => ⟨fun c => (h c).2, Idealize.ShloMosaic.sem_eq_zero_of_no_sems (by decide) r.2⟩)
    (Cert.OutProjAttnRefIdeal.Value.run (F := Ideal) m ρ)

theorem preserves : Cert.preserves_OutProjAttn_OutProjAttnIdeal := trivial

/-- **The kernel and the reference end with equal results** from equal arguments. -/
theorem algebraic : Cert.algebraic_OutProjAttnIdeal_OutProjAttnRefIdeal := fun m ρ m' ρ' _ hag =>
  ⟨fun c => Cert.OutProjAttnIdeal.Own.result m c,
    (θ_run Cert.OutProjAttnIdeal.defs _ _).mono (fun r h c => ⟨(h c).1.trans (Cert.OutProjAttnIdeal.Own.final_o m c), (h c).2⟩)
      (Cert.OutProjAttnIdeal.Value.run_blocks m ρ),
    (θ_run Cert.OutProjAttnRefIdeal.defs _ _).mono
      (fun r h c => by
        refine ⟨(h c).1.trans ?_, (h c).2⟩
        rw [val_main_v3_eq, (hag c).1, (hag c).2.1, (hag c).2.2]
        exact results m c)
      (Cert.OutProjAttnRefIdeal.Value.run (F := Ideal) m' ρ')⟩

end Cert.Proof.OutProjAttn

end
-- ==== Proof.MemBlock.lean ====
/-
  The attention to the memory at the ideal values, one block of 1024 tokens and one head: the queries scaled before
  the scores are taken or the scores scaled afterwards is the same softmax-weighted sum of the memory's values.
-/
module

public import proofs.«01_k».proof.Proof.Gen.MemConvIdeal.Value
public import proofs.«01_k».proof.Proof.Blocks
public import proofs.«01_k».proof.Proof.Softmax

@[expose] public section

set_option maxRecDepth 16384

noncomputable section

namespace Cert.Mem

open Cert.MemConvIdeal Cert.MemConvIdeal.Gen Idealize.ShloMosaic Idealize.ShloMosaic.TcCoe Idealize.SL.Sem Idealize.ShloMosaic.ValueIdx Cert.Blocks Cert.Softmax

/-- The scale of the scores. -/
theorem scale_bits : Ideal.ofBits .f32 0x3D800000#32 = ((1 / 16 : ℝ) : EReal) := by
  simp [Ideal.ofBits, Ideal.ieee, -EReal.coe_mul]
  norm_num

/-- The maximum of a row of scores. -/
def top (s : Fin 256 → EReal) : EReal := (Finset.univ : Finset (Fin 256)).fold max ⊥ s

/-- The sum of a row's exponentials. -/
def total (s : Fin 256 → EReal) : EReal := ∑ j, Ideal.exp (s j - top s)

/-- The values weighted by the softmax of the scores. -/
def attend (s v : Fin 256 → EReal) : EReal := ∑ j, Ideal.div (Ideal.exp (s j - top s)) (total s) * v j

/-- The scores of one query against the memory's keys. -/
def scores (q : Fin 256 → EReal) (k : Fin 256 → Fin 256 → EReal) (j : Fin 256) : EReal :=
  (∑ e, q e * k j e) * ((1 / 16 : ℝ) : EReal)

/-- Scaling the query scales the score. -/
theorem scaled_query (q k : Fin 256 → EReal) :
    ∑ e, q e * ((1 / 16 : ℝ) : EReal) * k e = (∑ e, q e * k e) * ((1 / 16 : ℝ) : EReal) := by
  rw [sum_mul_coe _ _ (by norm_num)]
  exact Finset.sum_congr rfl fun e _ => mul_right_comm _ _ _

/-- The query of a token at an entry of the head. -/
def query (x : S1024x4096.Idx → EReal) (w : S1x4096x256.Idx → EReal) (a : Fin 1024) (e : Fin 256) : EReal :=
  ∑ d : Fin 4096, x (ix2 a d) * w (ix3 0 d e)

/-- The kernel's queries, scores, exponentials and weights. -/
def queriesV (x : Vec Ideal S1024x4096 .bf16) (w : Vec Ideal S1x4096x256 .f32) : FVec Ideal S1024x256 .bf16 :=
  have y : FVec Ideal S4096x256 .bf16 := truncf .bf16 (shapeCast S4096x256 w shapeCasts_S1x4096x256_S4096x256 : FVec Ideal S4096x256 .f32) bitsLt_bf16_f32
  have q : FVec Ideal S1024x256 .f32 := matmul (φ₁ := .bf16) (φ₂ := .bf16) dot_S1024x4096_S4096x256_S1024x256_1_0_0_1_n_n none x y (constant S1024x256 .f32 0x00000000#32)
  truncf .bf16 (mulf q (broadcast S1024x256 (Scalar.ofBits (F := Ideal) .f32 0x3D800000#32))) bitsLt_bf16_f32

def scoresV (x : Vec Ideal S1024x4096 .bf16) (w : Vec Ideal S1x4096x256 .f32) (k : Vec Ideal S256x256 .bf16) : FVec Ideal S1024x256 .f32 :=
  matmul (φ₁ := .bf16) (φ₂ := .bf16) dot_S1024x256_S256x256_S1024x256_1_1_0_0_n_n none (queriesV x w) k (constant S1024x256 .f32 0x00000000#32)

def expsV (s : FVec Ideal S1024x256 .f32) : FVec Ideal S1024x256 .f32 :=
  exp (subf s (broadcastTo S1024x256 (shapeCast S1024x1
    (multiReduction .maximumf [1] S1024 s 0xFF800000#32 reduces_S1024x256_S1024 (.inl rfl) rfl) shapeCasts_S1024_S1024x1) broadcasts_S1024x1_S1024x256))

def weightsV (s : FVec Ideal S1024x256 .f32) : FVec Ideal S1024x256 .f32 :=
  divf (expsV s) (broadcastTo S1024x256 (shapeCast S1024x1
    (multiReduction .add [1] S1024 (expsV s) 0x00000000#32 reduces_S1024x256_S1024 (.inl rfl) rfl) shapeCasts_S1024_S1024x1) broadcasts_S1024x1_S1024x256)

/-- The weighted sum of the values. -/
def sumV (s : FVec Ideal S1024x256 .f32) (v : Vec Ideal S256x256 .bf16) : FVec Ideal S1024x256 .bf16 :=
  have p : FVec Ideal S1024x256 .bf16 := truncf .bf16 (weightsV s) bitsLt_bf16_f32
  have o : FVec Ideal S1024x256 .f32 := matmul (φ₁ := .bf16) (φ₂ := .bf16) dot_S1024x256_S256x256_S1024x256_1_0_0_1_n_n none p v (constant S1024x256 .f32 0x00000000#32)
  truncf .bf16 o bitsLt_bf16_f32

theorem payload_eq (x : Vec Ideal S1024x4096 .bf16) (w : Vec Ideal S1x4096x256 .f32) (k v : Vec Ideal S256x256 .bf16) :
    k0_pay1 x w k v = sumV (scoresV x w k) v := rfl

theorem queries_apply (x : Vec Ideal S1024x4096 .bf16) (w : Vec Ideal S1x4096x256 .f32) (a : Fin 1024) (e : Fin 256) :
    queriesV x w (ix2 a e) = query x w a e * ((1 / 16 : ℝ) : EReal) := by
  unfold queriesV
  exact congrArg₂ (fun u v : EReal => u * v) (layer_matmul (M := 1024) (K := 4096) (N := 256) x w _ _ a e) scale_bits

theorem scores_apply (x : Vec Ideal S1024x4096 .bf16) (w : Vec Ideal S1x4096x256 .f32) (k : Vec Ideal S256x256 .bf16) (a : Fin 1024) (j : Fin 256) :
    scoresV x w k (ix2 a j) = scores (query x w a) (fun j e => k (ix2 j e)) j := by
  unfold scoresV
  refine (Ideal.matmul_transposedRhs_apply (M := 1024) (K := 256) (N := 256) (φ₁ := .bf16) (φ₂ := .bf16) none _ _ _ a j).trans ?_
  show Ideal.ofBits .f32 0x00000000#32 + _ = _
  rw [Ideal.ofBits_zero_f32, zero_add]
  refine Eq.trans ?_ (scaled_query (query x w a) fun e => k (ix2 j e))
  exact Finset.sum_congr rfl fun e _ => congrArg (fun u : EReal => u * k (ix2 j e)) (queries_apply x w a e)

theorem lift_row (a : Fin 1024) (k : Fin 256) : (reduces_S1024x256_S1024.lift (ix1 a) k : S1024x256.Idx) = ix2 a k := by
  funext c
  apply Fin.ext
  match c with
  | ⟨0, _⟩ => rfl
  | ⟨1, _⟩ => rfl

/-- A value of each row, stretched along the row. -/
theorem stretched (x : FVec Ideal S1024 .f32) (a : Fin 1024) (b : Fin 256) :
    broadcastTo S1024x256 (shapeCast S1024x1 x shapeCasts_S1024_S1024x1) broadcasts_S1024x1_S1024x256 (ix2 a b) = x (ix1 a) := by
  refine Eq.trans (broadcastTo_apply (s := S1024x1) (t := S1024x256) _ _ _ (ix2 a 0) fun c => ?_) ?_
  · match c with
    | ⟨0, _⟩ => rfl
    | ⟨1, _⟩ => rfl
  · refine shapeCast_apply (s := S1024) (t := S1024x1) x _ _ _ ?_
    rw [Shape.rowMajor_val_one, Shape.rowMajor_val_two]
    show a.val = a.val * 1 + 0
    omega

theorem exps_apply (s : FVec Ideal S1024x256 .f32) (a : Fin 1024) (f : Fin 256 → EReal) (hf : ∀ j, s (ix2 a j) = f j) (j : Fin 256) :
    expsV s (ix2 a j) = Ideal.exp (f j - top f) := by
  unfold expsV
  refine congrArg₂ (fun u v : EReal => Ideal.exp (u - v)) (hf j) ((stretched _ a j).trans ?_)
  refine (Ideal.multiReduction_maximumf_single _ _ _ _ _ _).trans ?_
  rw [start_eq_bot]
  exact congrArg (fun g : Fin 256 → EReal => Finset.univ.fold max ⊥ g) (funext fun b => (congrArg s (lift_row a b)).trans (hf b))

theorem weights_apply (s : FVec Ideal S1024x256 .f32) (a : Fin 1024) (f : Fin 256 → EReal) (hf : ∀ j, s (ix2 a j) = f j) (j : Fin 256) :
    weightsV s (ix2 a j) = Ideal.div (Ideal.exp (f j - top f)) (total f) := by
  unfold weightsV
  refine congrArg₂ Ideal.div (exps_apply s a f hf j) ((stretched _ a j).trans ?_)
  refine (Ideal.multiReduction_add_single _ _ _ _ _ _).trans ?_
  exact Finset.sum_congr rfl fun b _ => (congrArg (expsV s) (lift_row a b)).trans (exps_apply s a f hf b)

/-- **The kernel's block at an index**: the softmax-weighted sum of the memory's values. -/
theorem payload_apply (x : Vec Ideal S1024x4096 .bf16) (w : Vec Ideal S1x4096x256 .f32) (k v : Vec Ideal S256x256 .bf16) (a : Fin 1024) (e : Fin 256) :
    k0_pay1 x w k v (ix2 a e) = attend (scores (query x w a) fun j e => k (ix2 j e)) fun j => v (ix2 j e) := by
  rw [payload_eq]
  unfold sumV
  refine (Ideal.matmul_plain_apply (M := 1024) (K := 256) (N := 256) (φ₁ := .bf16) (φ₂ := .bf16) none _ _ _ a e).trans ?_
  show Ideal.ofBits .f32 0x00000000#32 + _ = _
  rw [Ideal.ofBits_zero_f32, zero_add]
  exact Finset.sum_congr rfl fun j _ => congrArg (fun u : EReal => u * v (ix2 j e)) (weights_apply _ a _ (scores_apply x w k a) j)

end Cert.Mem

end
-- ==== Proof.MemRef.lean ====
/-
  The reference of the attention to the memory read at an index, at the ideal values.
-/
module

public import proofs.«01_k».proof.Proof.Gen.MemConvRefIdeal.Read
public import proofs.«01_k».proof.Proof.MemBlock
public import Idealize.ShloMosaic.Lib.KernelVsHost

@[expose] public section

set_option maxRecDepth 16384

noncomputable section

namespace Cert.MemConvRefIdeal.Own

open Cert.MemConvRefIdeal Cert.MemConvRefIdeal.Gen Cert.MemConvRefIdeal.Read Idealize.ShloMosaic Idealize.ShloMosaic.TcCoe Idealize.SL.Sem Idealize.ShloMosaic.ValueIdx Cert.Softmax Cert.Mem

abbrev X := (⟨S8192x4096, .bf16⟩ : BufTy).Contents (Elt Ideal)
abbrev W := (⟨S1x4096x10240, .f32⟩ : BufTy).Contents (Elt Ideal)
abbrev KV := (⟨S256x2048, .bf16⟩ : BufTy).Contents (Elt Ideal)

/-- Entry `e` of head `h` among the 1024 columns. -/
def entry (h : Fin 4) (e : Fin 256) : Fin 1024 := ⟨256 * h.val + e.val, by omega⟩

/-- The head and the entry of a column. -/
def headOf (n : Fin 1024) : Fin 4 := ⟨n.val / 256, by omega⟩
def placeOf (n : Fin 1024) : Fin 256 := ⟨n.val % 256, by omega⟩

theorem headOf_entry (h : Fin 4) (e : Fin 256) : headOf (entry h e) = h := Fin.ext (by show (256 * h.val + e.val) / 256 = h.val; omega)
theorem placeOf_entry (h : Fin 4) (e : Fin 256) : placeOf (entry h e) = e := Fin.ext (by show (256 * h.val + e.val) % 256 = e.val; omega)
theorem entry_of (n : Fin 1024) : entry (headOf n) (placeOf n) = n := Fin.ext (by show 256 * (n.val / 256) + n.val % 256 = n.val; omega)

/-- A token's query of head `h`: the product with the last 1024 columns of the weights. -/
def queryOf (x : X) (w : W) (i : Fin 8192) (h : Fin 4) (e : Fin 256) : EReal :=
  ∑ d : Fin 4096, x (ix2 i d) * w (ix3 0 d (⟨9216 + (entry h e).val, by omega⟩ : Fin 10240))

/-- The memory's keys and values of head `h`. -/
def keyOf (kv : KV) (h : Fin 4) (j e : Fin 256) : EReal := kv (ix2 j (⟨(entry h e).val, by omega⟩ : Fin 2048))
def valueOf (kv : KV) (h : Fin 4) (j e : Fin 256) : EReal := kv (ix2 j (⟨1024 + (entry h e).val, by omega⟩ : Fin 2048))

/-- The result at an entry. -/
def outOf (x : X) (w : W) (kv : KV) (i : Fin 8192) (h : Fin 4) (e : Fin 256) : EReal :=
  attend (scores (queryOf x w i h) (keyOf kv h)) fun j => valueOf kv h j e

theorem weight_apply (w : W) (d : Fin 4096) (n : Fin 10240) : val_main_v1 (F := Ideal) w (ix2 d n) = w (ix3 0 d n) := by
  rw [val_main_v1_apply]
  have := d.isLt
  have := n.isLt
  refine congrArg w (funext fun b => Fin.ext ?_)
  match b with
  | ⟨0, _⟩ => rfl
  | ⟨1, _⟩ => show (d.val * 10240 + n.val) / 10240 % 4096 = d.val; omega
  | ⟨2, _⟩ => show (d.val * 10240 + n.val) % 10240 = n.val; omega

theorem query_apply (x : X) (w : W) (i : Fin 8192) (h : Fin 4) (e : Fin 256) :
    val_main_v10 (F := Ideal) x w (ix3 i h e) = queryOf x w i h e := by
  have := i.isLt
  have := h.isLt
  have := e.isLt
  rw [val_main_v10_apply, val_main_v5_apply, val_main_v2_apply]
  refine Finset.sum_congr rfl fun d _ => congrArg₂ (fun u v : EReal => u * v) ?_ ?_
  · rw [val_main_v0_apply]
    refine congrArg x (funext fun b => Fin.ext ?_)
    match b with
    | ⟨0, _⟩ => show ((i.val * 4 + h.val) * 256 + e.val) / 1024 = i.val; omega
    | ⟨1, _⟩ => rfl
  · refine (congrArg (val_main_v1 (F := Ideal) w) (funext fun b => Fin.ext ?_)).trans (weight_apply w d _)
    match b with
    | ⟨0, _⟩ => rfl
    | ⟨1, _⟩ => show 9216 + ((i.val * 4 + h.val) * 256 + e.val) % 1024 = 9216 + (256 * h.val + e.val); omega

theorem memory_apply (kv : KV) (j : Fin 256) (s : Fin 2) (h : Fin 4) (e : Fin 256) (n : Fin 2048) (hn : n.val = 1024 * s.val + (entry h e).val) :
    val_main_v4 (F := Ideal) kv (ix4 j s h e) = kv (ix2 j n) := by
  have := j.isLt
  have := s.isLt
  have := h.isLt
  have := e.isLt
  have hn' : n.val = 1024 * s.val + (256 * h.val + e.val) := hn
  rw [val_main_v4_apply, val_main_v3_apply]
  refine congrArg kv (funext fun b => Fin.ext ?_)
  match b with
  | ⟨0, _⟩ => show (((j.val * 2 + s.val) * 4 + h.val) * 256 + e.val) / 2048 = j.val; omega
  | ⟨1, _⟩ => show (((j.val * 2 + s.val) * 4 + h.val) * 256 + e.val) % 2048 = n.val; omega

theorem key_apply (kv : KV) (j : Fin 256) (h : Fin 4) (e : Fin 256) : val_main_v7 (F := Ideal) kv (ix3 j h e) = keyOf kv h j e := by
  have := j.isLt
  have := h.isLt
  have := e.isLt
  rw [val_main_v7_apply, val_main_v6_apply]
  refine (congrArg (val_main_v4 (F := Ideal) kv) (funext fun b => Fin.ext ?_)).trans (memory_apply kv j 0 h e _ (by simp))
  match b with
  | ⟨0, _⟩ => show ((j.val * 4 + h.val) * 256 + e.val) / 1024 = j.val; omega
  | ⟨1, _⟩ => rfl
  | ⟨2, _⟩ => show ((j.val * 4 + h.val) * 256 + e.val) / 256 % 4 = h.val; omega
  | ⟨3, _⟩ => show ((j.val * 4 + h.val) * 256 + e.val) % 256 = e.val; omega

theorem value_apply (kv : KV) (j : Fin 256) (h : Fin 4) (e : Fin 256) : val_main_v9 (F := Ideal) kv (ix3 j h e) = valueOf kv h j e := by
  have := j.isLt
  have := h.isLt
  have := e.isLt
  rw [val_main_v9_apply, val_main_v8_apply]
  refine (congrArg (val_main_v4 (F := Ideal) kv) (funext fun b => Fin.ext ?_)).trans (memory_apply kv j 1 h e _ (by simp))
  match b with
  | ⟨0, _⟩ => show ((j.val * 4 + h.val) * 256 + e.val) / 1024 = j.val; omega
  | ⟨1, _⟩ => rfl
  | ⟨2, _⟩ => show ((j.val * 4 + h.val) * 256 + e.val) / 256 % 4 = h.val; omega
  | ⟨3, _⟩ => show ((j.val * 4 + h.val) * 256 + e.val) % 256 = e.val; omega

theorem score_apply (x : X) (w : W) (kv : KV) (h : Fin 4) (i : Fin 8192) (j : Fin 256) :
    val_main_v13 (F := Ideal) x w kv (ix3 h i j) = scores (queryOf x w i h) (keyOf kv h) j := by
  rw [val_main_v13_apply, val_main_v11_apply, val_main_v12_apply, val_main_cst_apply]
  refine congrArg₂ (fun u v : EReal => u * v) (Finset.sum_congr rfl fun e _ => ?_) scale_bits
  refine congrArg₂ (fun u v : EReal => u * v) (Eq.trans (congrArg _ (funext fun b => ?_)) (query_apply x w i h e))
    (Eq.trans (congrArg _ (funext fun b => ?_)) (key_apply kv j h e))
  all_goals
    match b with
    | ⟨0, _⟩ => rfl
    | ⟨1, _⟩ => rfl
    | ⟨2, _⟩ => rfl

theorem max_apply (x : X) (w : W) (kv : KV) (h : Fin 4) (i : Fin 8192) :
    val_main_v16 (F := Ideal) x w kv (ix2 h i) = top (scores (queryOf x w i h) (keyOf kv h)) := by
  rw [val_main_v16_apply, val_main_v15_apply, val_main_cst_1_apply]
  have hv : val_main_v14 (F := Ideal) x w kv (ix2 h i) = top (scores (queryOf x w i h) (keyOf kv h)) := by
    unfold val_main_v14 top
    have hred : S4x8192x256.Reduces [2] S4x8192 := by decide
    rw [Host.reduce_eq_fold_single FloatOps.maximumf _ _ _ hred h_S_]
    refine Eq.trans (congrArg (fun z : EReal => Finset.univ.fold max z _) start_eq_bot) ?_
    refine congrArg (fun f : Fin 256 → EReal => Finset.univ.fold max ⊥ f) (funext fun k => Eq.trans (congrArg (val_main_v13 (F := Ideal) x w kv) (a₂ := ix3 h i k) ?_) (score_apply x w kv h i k))
    funext c
    apply Fin.ext
    match c with
    | ⟨0, _⟩ => rfl
    | ⟨1, _⟩ => rfl
    | ⟨2, _⟩ => rfl
  rw [hv]
  exact (congrArg (fun z : EReal => max z _) start_eq_bot).trans (max_eq_right bot_le)

theorem exp_apply (x : X) (w : W) (kv : KV) (h : Fin 4) (i : Fin 8192) (j : Fin 256) :
    val_main_v20 (F := Ideal) x w kv (ix3 h i j)
      = Ideal.exp (scores (queryOf x w i h) (keyOf kv h) j - top (scores (queryOf x w i h) (keyOf kv h))) := by
  rw [val_main_v20_apply, val_main_v19_apply, score_apply, val_main_v18_apply, val_main_v17_apply]
  have e : idx_main_v17 (idx_main_v18 (ix3 h i j)) = ix2 h i := by
    funext c; match c with | ⟨0, _⟩ => rfl | ⟨1, _⟩ => rfl
  rw [e, max_apply]
  rfl

theorem total_apply (x : X) (w : W) (kv : KV) (h : Fin 4) (i : Fin 8192) :
    val_main_v21 (F := Ideal) x w kv (ix2 h i) = total (scores (queryOf x w i h) (keyOf kv h)) := by
  rw [val_main_v21_apply, show val_main_cst_2 (F := Ideal) (Shape.Idx.first h_S_) = (0 : EReal) from Ideal.ofBits_zero_f32, zero_add]
  refine Finset.sum_congr rfl fun k _ => ?_
  have e : idx_main_v21 (ix2 h i) k = ix3 h i k := by
    funext c; match c with | ⟨0, _⟩ => rfl | ⟨1, _⟩ => rfl | ⟨2, _⟩ => rfl
  rw [e, exp_apply]

/-- **The reference at an index.** -/
theorem out_apply (x : X) (w : W) (kv : KV) (i : Fin 8192) (h : Fin 4) (e : Fin 256) :
    val_main_v28 (F := Ideal) x w kv (ix2 i (entry h e)) = outOf x w kv i h e := by
  have := i.isLt
  have := h.isLt
  have := e.isLt
  rw [val_main_v28_apply, val_main_v27_apply]
  have e27 : idx_main_v27 (ix2 i (entry h e)) = ix3 i h e := by
    funext c
    apply Fin.ext
    match c with
    | ⟨0, _⟩ => show (i.val * 1024 + (256 * h.val + e.val)) / 1024 = i.val; omega
    | ⟨1, _⟩ => show (i.val * 1024 + (256 * h.val + e.val)) / 256 % 4 = h.val; omega
    | ⟨2, _⟩ => show (i.val * 1024 + (256 * h.val + e.val)) % 256 = e.val; omega
  have e26 : idx_main_v26 (ix3 i h e) = ix3 h e i := by
    funext c; match c with | ⟨0, _⟩ => rfl | ⟨1, _⟩ => rfl | ⟨2, _⟩ => rfl
  rw [e27, val_main_v26_apply, e26, val_main_v25_apply]
  unfold outOf attend
  refine Finset.sum_congr rfl fun j _ => ?_
  have el : lidx_main_v25 (ix3 h e i) j = ix3 j h e := by
    funext c; match c with | ⟨0, _⟩ => rfl | ⟨1, _⟩ => rfl | ⟨2, _⟩ => rfl
  have er : ridx_main_v25 (ix3 h e i) j = ix3 h i j := by
    funext c; match c with | ⟨0, _⟩ => rfl | ⟨1, _⟩ => rfl | ⟨2, _⟩ => rfl
  rw [el, er, value_apply, val_main_v24_apply, exp_apply, val_main_v23_apply, val_main_v22_apply]
  have e22 : idx_main_v22 (idx_main_v23 (ix3 h i j)) = ix2 h i := by
    funext c; match c with | ⟨0, _⟩ => rfl | ⟨1, _⟩ => rfl
  rw [e22, total_apply]
  exact mul_comm _ _

end Cert.MemConvRefIdeal.Own

end
-- ==== Proof.MemConvValue.lean ====
/-
  The attention to the memory at the ideal values, first layer: each grid point leaves one head's block of 1024 tokens,
  and together they are the whole result.
-/
module

public import proofs.«01_k».proof.Proof.MemRef
public import Idealize.ShloMosaic.Lib.Pipeline.ReadBack

@[expose] public section

set_option maxRecDepth 16384

noncomputable section

namespace Cert.MemConvIdeal.Own

open Cert.MemConvIdeal Cert.MemConvIdeal.Gen Idealize.ShloMosaic Idealize.ShloMosaic.TcCoe Idealize.SL.Sem Idealize.ShloMosaic.ValueIdx Cert.Mem
open Cert.MemConvRefIdeal.Own (entry headOf placeOf headOf_entry placeOf_entry queryOf keyOf valueOf outOf)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block a point leaves is its one payload of the point's four blocks. -/
theorem out_eq (x : Vec Ideal S1024x4096 .bf16) (w : Vec Ideal S1x4096x256 .f32) (k v : Vec Ideal S256x256 .bf16) :
    out0_4 x w k v = k0_pay1 x w k v := by
  unfold out0_4
  rw [View.canon_unit_zero zero2, View.ld_unit_zero (S := S1024x4096) zero2, View.ld_unit_zero (S := S1x4096x256) zero3,
    View.ld_unit_zero (S := S256x256) zero2, View.ld_unit_zero (S := S256x256) zero2]

/-- The tokens, the weights and the memory's keys and values, as launched. -/
abbrev xArg (c : Dev nD) : S8192x4096.Idx → EReal := m ((c : Thread nD τ).loc main_arg0)
abbrev wArg (c : Dev nD) : S1x4096x10240.Idx → EReal := m ((c : Thread nD τ).loc main_arg1)
abbrev kvArg (c : Dev nD) : S256x2048.Idx → EReal := m ((c : Thread nD τ).loc main_arg2)

/-- A point's four blocks. -/
abbrev xBlk (c : Dev nD) (t : Fin cfg0.N) : S1024x4096.Idx → EReal := iblk m c 0 t
abbrev wBlk (c : Dev nD) (t : Fin cfg0.N) : S1x4096x256.Idx → EReal := iblk m c 1 t
abbrev kBlk (c : Dev nD) (t : Fin cfg0.N) : S256x256.Idx → EReal := iblk m c 2 t
abbrev vBlk (c : Dev nD) (t : Fin cfg0.N) : S256x256.Idx → EReal := iblk m c 3 t

theorem lt_N (t : Fin cfg0.N) : t.val < 32 := lt_of_lt_of_eq t.isLt (show cfg0.N = 32 from N_0)

theorem index_0 : ∀ t : Fin grid0.N, win0_0.index t = ![t.val / 4, 0] := by decide +kernel
theorem index_1 : ∀ t : Fin grid0.N, win0_1.index t = ![0, 0, 36 + t.val % 4] := by decide +kernel
theorem index_2 : ∀ t : Fin grid0.N, win0_2.index t = ![0, t.val % 4] := by decide +kernel
theorem index_3 : ∀ t : Fin grid0.N, win0_3.index t = ![0, 4 + t.val % 4] := by decide +kernel
theorem index_4 : ∀ t : Fin grid0.N, win0_4.index t = ![t.val / 4, t.val % 4] := by decide +kernel

theorem xBlk_apply (c : Dev nD) (t : Fin cfg0.N) (a : Fin 1024) (k : Fin 4096) (i : Fin 8192) (hi : i.val = 1024 * (t.val / 4) + a.val) :
    xBlk m c t (ix2 a k) = xArg m c (ix2 i k) := by
  unfold xBlk iblk
  rw [View.read_apply]
  show V m c main_arg0 _ = _
  rw [V_main_arg0]
  refine congrArg (xArg m c) (funext fun b => Fin.ext ?_)
  match b with
  | ⟨0, _⟩ => show win0_0.index t 0 * 1024 + 1 * a.val = i.val
              rw [index_0]; show t.val / 4 * 1024 + 1 * a.val = _; omega
  | ⟨1, _⟩ => show win0_0.index t 1 * 4096 + 1 * k.val = k.val
              rw [index_0]; show 0 * 4096 + 1 * k.val = _; omega

theorem wBlk_apply (c : Dev nD) (t : Fin cfg0.N) (k : Fin 4096) (e : Fin 256) (n : Fin 10240) (hn : n.val = 256 * (36 + t.val % 4) + e.val) :
    wBlk m c t (ix3 0 k e) = wArg m c (ix3 0 k n) := by
  unfold wBlk iblk
  rw [View.read_apply]
  show V m c main_arg1 _ = _
  rw [V_main_arg1]
  refine congrArg (wArg m c) (funext fun b => Fin.ext ?_)
  match b with
  | ⟨0, _⟩ => show win0_1.index t 0 * 1 + 1 * 0 = 0
              rw [index_1]; rfl
  | ⟨1, _⟩ => show win0_1.index t 1 * 4096 + 1 * k.val = k.val
              rw [index_1]; show 0 * 4096 + 1 * k.val = _; omega
  | ⟨2, _⟩ => show win0_1.index t 2 * 256 + 1 * e.val = n.val
              rw [index_1]; show (36 + t.val % 4) * 256 + 1 * e.val = _; omega

theorem kBlk_apply (c : Dev nD) (t : Fin cfg0.N) (j e : Fin 256) (n : Fin 2048) (hn : n.val = 256 * (t.val % 4) + e.val) :
    kBlk m c t (ix2 j e) = kvArg m c (ix2 j n) := by
  unfold kBlk iblk
  rw [View.read_apply]
  show V m c main_arg2 _ = _
  rw [V_main_arg2]
  refine congrArg (kvArg m c) (funext fun b => Fin.ext ?_)
  match b with
  | ⟨0, _⟩ => show win0_2.index t 0 * 256 + 1 * j.val = j.val
              rw [index_2]; show 0 * 256 + 1 * j.val = _; omega
  | ⟨1, _⟩ => show win0_2.index t 1 * 256 + 1 * e.val = n.val
              rw [index_2]; show t.val % 4 * 256 + 1 * e.val = _; omega

theorem vBlk_apply (c : Dev nD) (t : Fin cfg0.N) (j e : Fin 256) (n : Fin 2048) (hn : n.val = 1024 + (256 * (t.val % 4) + e.val)) :
    vBlk m c t (ix2 j e) = kvArg m c (ix2 j n) := by
  unfold vBlk iblk
  rw [View.read_apply]
  show V m c main_arg2 _ = _
  rw [V_main_arg2]
  refine congrArg (kvArg m c) (funext fun b => Fin.ext ?_)
  match b with
  | ⟨0, _⟩ => show win0_3.index t 0 * 256 + 1 * j.val = j.val
              rw [index_3]; show 0 * 256 + 1 * j.val = _; omega
  | ⟨1, _⟩ => show win0_3.index t 1 * 256 + 1 * e.val = n.val
              rw [index_3]; show (4 + t.val % 4) * 256 + 1 * e.val = _; omega

/-- The whole result: every head of every token. -/
def result (c : Dev nD) : S8192x1024.Idx → EReal := fun y =>
  outOf (xArg m c) (wArg m c) (kvArg m c) (y 0 : Fin 8192) (headOf (y 1)) (placeOf (y 1))

theorem result_apply (c : Dev nD) (i : Fin 8192) (h : Fin 4) (e : Fin 256) :
    result m c (ix2 i (entry h e)) = outOf (xArg m c) (wArg m c) (kvArg m c) i h e := by
  show outOf (xArg m c) (wArg m c) (kvArg m c) i (headOf (entry h e)) (placeOf (entry h e)) = _
  rw [headOf_entry, placeOf_entry]

theorem point (c : Dev nD) (t : Fin cfg0.N) (a : Fin 1024) (e : Fin 256) (i : Fin 8192) (h : Fin 4)
    (hi : i.val = 1024 * (t.val / 4) + a.val) (hh : h.val = t.val % 4) :
    out0_4 (iblk m c 0 t) (iblk m c 1 t) (iblk m c 2 t) (iblk m c 3 t) (ix2 a e) = outOf (xArg m c) (wArg m c) (kvArg m c) i h e := by
  rw [out_eq, payload_apply]
  unfold outOf
  have hq : query (xBlk m c t) (wBlk m c t) a = queryOf (xArg m c) (wArg m c) i h := funext fun e' =>
    Finset.sum_congr rfl fun d _ => congrArg₂ (fun u v : EReal => u * v) (xBlk_apply m c t a d i hi)
      (wBlk_apply m c t d e' _ (by show 9216 + (256 * h.val + e'.val) = _; omega))
  have hk : (fun j e' => kBlk m c t (ix2 j e')) = keyOf (kvArg m c) h := funext fun j => funext fun e' =>
    kBlk_apply m c t j e' _ (by show 256 * h.val + e'.val = _; omega)
  have hv : (fun j => vBlk m c t (ix2 j e)) = fun j => valueOf (kvArg m c) h j e := funext fun j =>
    vBlk_apply m c t j e _ (by show 1024 + (256 * h.val + e.val) = _; omega)
  exact congrArg₂ attend (congrArg₂ scores hq hk) hv

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [Value.flushed4]
  funext y
  rw [View.read_apply]
  have y0 : (y 0).val < 1024 := (y 0).isLt
  have y1 : (y 1).val < 256 := (y 1).isLt
  have e := point m c t ⟨(y 0).val, y0⟩ ⟨(y 1).val, y1⟩ ⟨1024 * (t.val / 4) + (y 0).val, by omega⟩ ⟨t.val % 4, by omega⟩ rfl rfl
  refine Eq.trans ?_ ((e.trans (result_apply m c _ _ _).symm).trans ?_)
  · show (out0_4 (iblk m c 0 t) (iblk m c 1 t) (iblk m c 2 t) (iblk m c 3 t) : Vec Ideal S1024x256 .bf16) _ = _
    refine congrArg (out0_4 (iblk m c 0 t) (iblk m c 1 t) (iblk m c 2 t) (iblk m c 3 t) : Vec Ideal S1024x256 .bf16) (funext fun b => Fin.ext ?_)
    match b with
    | ⟨0, _⟩ => rfl
    | ⟨1, _⟩ => rfl
  · refine congrArg (result m c) (funext fun b => Fin.ext ?_)
    match b with
    | ⟨0, _⟩ => show 1024 * (t.val / 4) + (y 0).val = win0_4.index t 0 * 1024 + 1 * (y 0).val
                rw [index_4]; show _ = t.val / 4 * 1024 + 1 * (y 0).val; omega
    | ⟨1, _⟩ => show 256 * (t.val % 4) + (y 1).val = win0_4.index t 1 * 256 + 1 * (y 1).val
                rw [index_4]; show _ = t.val % 4 * 256 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 1024 := (i 1).isLt
    have hN : cfg0.N = 32 := N_0
    have ht : (i 0 : Nat) / 1024 * 4 + (i 1 : Nat) / 256 < cfg0.N := by omega
    refine ⟨⟨(i 0 : Nat) / 1024 * 4 + (i 1 : Nat) / 256, ht⟩, flush0_4 _, ?_⟩
    show i ∈ ((View.whole main_v0).slice (win0_4.rect ⟨(i 0 : Nat) / 1024 * 4 + (i 1 : Nat) / 256, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 4 + (i 1 : Nat) / 256) / 4 * 1024 ≤ (i 0 : Nat) ∧ (i 0 : Nat) < ((i 0 : Nat) / 1024 * 4 + (i 1 : Nat) / 256) / 4 * 1024 + 1024
                omega
    | ⟨1, _⟩ => show win0_4.index _ 1 * 256 ≤ (i 1 : Nat) ∧ (i 1 : Nat) < win0_4.index _ 1 * 256 + 256
                rw [index_4]
                show ((i 0 : Nat) / 1024 * 4 + (i 1 : Nat) / 256) % 4 * 256 ≤ (i 1 : Nat) ∧ (i 1 : Nat) < ((i 0 : Nat) / 1024 * 4 + (i 1 : Nat) / 256) % 4 * 256 + 256
                omega

end Cert.MemConvIdeal.Own

end
-- ==== Proof.MemConv.lean ====
/-
  The claims about the attention to the memory (first layer): the frames of the kernel and of the reference, and the
  equality of their results over the extended reals, with no condition on the arguments.
-/
module

public import proofs.«01_k».proof.Defs
public import proofs.«01_k».proof.Proof.MemConvValue
public import proofs.«01_k».proof.Proof.Gen.MemConv
public import proofs.«01_k».proof.Proof.Gen.MemConv.Frame
public import proofs.«01_k».proof.Proof.Gen.MemConvIdeal
public import proofs.«01_k».proof.Proof.Gen.MemConvIdeal.Value
public import proofs.«01_k».proof.Proof.Gen.MemConvRefIdeal
public import proofs.«01_k».proof.Proof.Gen.MemConvRefIdeal.Read
public import Idealize.ShloMosaic.Lib.Quiescent

@[expose] public section

set_option maxRecDepth 16384

noncomputable section

namespace Cert.Proof.MemConv

open Idealize.ShloMosaic Idealize.ShloMosaic.TcCoe Idealize.SL.Sem Idealize.ShloMosaic.ValueIdx
open Cert.MemConvRefIdeal Cert.MemConvRefIdeal.Read Cert.MemConvRefIdeal.Own

/-- The reference's result is the kernel's. -/
theorem results (m : (ℓ : Loc Cert.MemConvIdeal.nD Cert.MemConvIdeal.τ Cert.MemConvIdeal.sig) → Buf (Elt Ideal) ℓ) (c : Dev Cert.MemConvIdeal.nD) :
    val_main_v28 (F := Ideal) (Cert.MemConvIdeal.Own.xArg m c) (Cert.MemConvIdeal.Own.wArg m c) (Cert.MemConvIdeal.Own.kvArg m c)
      = Cert.MemConvIdeal.Own.result m c := by
  funext y
  have ey : y = ix2 (y 0 : Fin 8192) (entry (headOf (y 1)) (placeOf (y 1))) :=
    (eq_ix2 (n0 := 8192) (n1 := 1024) y).trans (congrArg (fun n : Fin 1024 => (ix2 (y 0 : Fin 8192) n : S8192x1024.Idx)) (entry_of (y 1)).symm)
  exact (congrArg _ ey).trans (out_apply _ _ _ (y 0) (headOf (y 1)) (placeOf (y 1)))

theorem frame_p : Cert.quiescent_MemConv := fun m ρ _ => Cert.MemConv.Gen.frame m ρ
theorem frame_pi : Cert.quiescent_MemConvIdeal := fun m ρ _ => Cert.MemConvIdeal.Gen.frame m ρ
theorem frame_ri : Cert.quiescent_MemConvRefIdeal := fun m ρ _ =>
  (θ_run Cert.MemConvRefIdeal.defs _ _).mono
    (fun r h => ⟨fun c => (h c).2, Idealize.ShloMosaic.sem_eq_zero_of_no_sems (by decide) r.2⟩)
    (Cert.MemConvRefIdeal.Value.run (F := Ideal) m ρ)

theorem preserves : Cert.preserves_MemConv_MemConvIdeal := trivial

/-- **The kernel and the reference end with equal results** from equal arguments. -/
theorem algebraic : Cert.algebraic_MemConvIdeal_MemConvRefIdeal := fun m ρ m' ρ' _ hag =>
  ⟨fun c => Cert.MemConvIdeal.Own.result m c,
    (θ_run Cert.MemConvIdeal.defs _ _).mono (fun r h c => ⟨(h c).1.trans (Cert.MemConvIdeal.Own.final_o m c), (h c).2⟩)
      (Cert.MemConvIdeal.Value.run_blocks m ρ),
    (θ_run Cert.MemConvRefIdeal.defs _ _).mono
      (fun r h c => by
        refine ⟨(h c).1.trans ?_, (h c).2⟩
        rw [val_main_v28_eq, (hag c).1, (hag c).2.1, (hag c).2.2]
        exact results m c)
      (Cert.MemConvRefIdeal.Value.run (F := Ideal) m' ρ')⟩

end Cert.Proof.MemConv

end
-- ==== Proof.MemAttnValue.lean ====
/-
  The attention to the memory at the ideal values, attention layer: each grid point leaves one head's block of 1024 tokens,
  and together they are the whole result.
-/
module

public import proofs.«01_k».proof.Proof.MemRef
public import proofs.«01_k».proof.Proof.Gen.MemAttnIdeal.Value
public import Idealize.ShloMosaic.Lib.Pipeline.ReadBack

@[expose] public section

set_option maxRecDepth 16384

noncomputable section

namespace Cert.MemAttnIdeal.Own

open Cert.MemAttnIdeal Cert.MemAttnIdeal.Gen Idealize.ShloMosaic Idealize.ShloMosaic.TcCoe Idealize.SL.Sem Idealize.ShloMosaic.ValueIdx Cert.Mem
open Cert.MemConvRefIdeal.Own (entry headOf placeOf headOf_entry placeOf_entry W queryOf keyOf valueOf outOf)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block a point leaves is its one payload of the point's four blocks. -/
theorem out_eq (x : Vec Ideal S1024x4096 .bf16) (w : Vec Ideal S1x4096x256 .f32) (k v : Vec Ideal S256x256 .bf16) :
    out0_4 x w k v = Cert.MemConvIdeal.Gen.k0_pay1 x w k v := by
  refine Eq.trans ?_ (show k0_pay1 x w k v = _ from rfl)
  unfold out0_4
  rw [View.canon_unit_zero zero2, View.ld_unit_zero (S := S1024x4096) zero2, View.ld_unit_zero (S := S1x4096x256) zero3,
    View.ld_unit_zero (S := S256x256) zero2, View.ld_unit_zero (S := S256x256) zero2]

/-- The tokens, the weights and the memory's keys and values, as launched. -/
abbrev xArg (c : Dev nD) : S8192x4096.Idx → EReal := m ((c : Thread nD τ).loc main_arg0)
abbrev wArg (c : Dev nD) : S1x4096x19456.Idx → EReal := m ((c : Thread nD τ).loc main_arg1)
abbrev kvArg (c : Dev nD) : S256x2048.Idx → EReal := m ((c : Thread nD τ).loc main_arg2)

/-- The weights from column 9216 on, which hold the memory's queries in the same columns as the first layer's weights do. -/
def wTail (c : Dev nD) : W := fun y => wArg m c (ix3 0 (y 1 : Fin 4096) (⟨9216 + (y 2 : Fin 10240).val, by have h : (y 2).val < 10240 := (y 2).isLt; show 9216 + (y 2).val < 19456; omega⟩ : Fin 19456))

/-- A point's four blocks. -/
abbrev xBlk (c : Dev nD) (t : Fin cfg0.N) : S1024x4096.Idx → EReal := iblk m c 0 t
abbrev wBlk (c : Dev nD) (t : Fin cfg0.N) : S1x4096x256.Idx → EReal := iblk m c 1 t
abbrev kBlk (c : Dev nD) (t : Fin cfg0.N) : S256x256.Idx → EReal := iblk m c 2 t
abbrev vBlk (c : Dev nD) (t : Fin cfg0.N) : S256x256.Idx → EReal := iblk m c 3 t

theorem lt_N (t : Fin cfg0.N) : t.val < 32 := lt_of_lt_of_eq t.isLt (show cfg0.N = 32 from N_0)

theorem index_0 : ∀ t : Fin grid0.N, win0_0.index t = ![t.val / 4, 0] := by decide +kernel
theorem index_1 : ∀ t : Fin grid0.N, win0_1.index t = ![0, 0, 72 + t.val % 4] := by decide +kernel
theorem index_2 : ∀ t : Fin grid0.N, win0_2.index t = ![0, t.val % 4] := by decide +kernel
theorem index_3 : ∀ t : Fin grid0.N, win0_3.index t = ![0, 4 + t.val % 4] := by decide +kernel
theorem index_4 : ∀ t : Fin grid0.N, win0_4.index t = ![t.val / 4, t.val % 4] := by decide +kernel

theorem xBlk_apply (c : Dev nD) (t : Fin cfg0.N) (a : Fin 1024) (k : Fin 4096) (i : Fin 8192) (hi : i.val = 1024 * (t.val / 4) + a.val) :
    xBlk m c t (ix2 a k) = xArg m c (ix2 i k) := by
  unfold xBlk iblk
  rw [View.read_apply]
  show V m c main_arg0 _ = _
  rw [V_main_arg0]
  refine congrArg (xArg m c) (funext fun b => Fin.ext ?_)
  match b with
  | ⟨0, _⟩ => show win0_0.index t 0 * 1024 + 1 * a.val = i.val
              rw [index_0]; show t.val / 4 * 1024 + 1 * a.val = _; omega
  | ⟨1, _⟩ => show win0_0.index t 1 * 4096 + 1 * k.val = k.val
              rw [index_0]; show 0 * 4096 + 1 * k.val = _; omega

theorem wBlk_apply (c : Dev nD) (t : Fin cfg0.N) (k : Fin 4096) (e : Fin 256) (n : Fin 10240) (hn : n.val = 256 * (36 + t.val % 4) + e.val) :
    wBlk m c t (ix3 0 k e) = wTail m c (ix3 0 k n) := by
  unfold wBlk iblk
  rw [View.read_apply]
  show V m c main_arg1 _ = _
  rw [V_main_arg1]
  refine congrArg (wArg m c) (funext fun b => Fin.ext ?_)
  match b with
  | ⟨0, _⟩ => show win0_1.index t 0 * 1 + 1 * 0 = 0
              rw [index_1]; rfl
  | ⟨1, _⟩ => show win0_1.index t 1 * 4096 + 1 * k.val = k.val
              rw [index_1]; show 0 * 4096 + 1 * k.val = _; omega
  | ⟨2, _⟩ => show win0_1.index t 2 * 256 + 1 * e.val = 9216 + n.val
              rw [index_1]; show (72 + t.val % 4) * 256 + 1 * e.val = _; omega

theorem kBlk_apply (c : Dev nD) (t : Fin cfg0.N) (j e : Fin 256) (n : Fin 2048) (hn : n.val = 256 * (t.val % 4) + e.val) :
    kBlk m c t (ix2 j e) = kvArg m c (ix2 j n) := by
  unfold kBlk iblk
  rw [View.read_apply]
  show V m c main_arg2 _ = _
  rw [V_main_arg2]
  refine congrArg (kvArg m c) (funext fun b => Fin.ext ?_)
  match b with
  | ⟨0, _⟩ => show win0_2.index t 0 * 256 + 1 * j.val = j.val
              rw [index_2]; show 0 * 256 + 1 * j.val = _; omega
  | ⟨1, _⟩ => show win0_2.index t 1 * 256 + 1 * e.val = n.val
              rw [index_2]; show t.val % 4 * 256 + 1 * e.val = _; omega

theorem vBlk_apply (c : Dev nD) (t : Fin cfg0.N) (j e : Fin 256) (n : Fin 2048) (hn : n.val = 1024 + (256 * (t.val % 4) + e.val)) :
    vBlk m c t (ix2 j e) = kvArg m c (ix2 j n) := by
  unfold vBlk iblk
  rw [View.read_apply]
  show V m c main_arg2 _ = _
  rw [V_main_arg2]
  refine congrArg (kvArg m c) (funext fun b => Fin.ext ?_)
  match b with
  | ⟨0, _⟩ => show win0_3.index t 0 * 256 + 1 * j.val = j.val
              rw [index_3]; show 0 * 256 + 1 * j.val = _; omega
  | ⟨1, _⟩ => show win0_3.index t 1 * 256 + 1 * e.val = n.val
              rw [index_3]; show (4 + t.val % 4) * 256 + 1 * e.val = _; omega

/-- The whole result: every head of every token. -/
def result (c : Dev nD) : S8192x1024.Idx → EReal := fun y =>
  outOf (xArg m c) (wTail m c) (kvArg m c) (y 0 : Fin 8192) (headOf (y 1)) (placeOf (y 1))

theorem result_apply (c : Dev nD) (i : Fin 8192) (h : Fin 4) (e : Fin 256) :
    result m c (ix2 i (entry h e)) = outOf (xArg m c) (wTail m c) (kvArg m c) i h e := by
  show outOf (xArg m c) (wTail m c) (kvArg m c) i (headOf (entry h e)) (placeOf (entry h e)) = _
  rw [headOf_entry, placeOf_entry]

theorem point (c : Dev nD) (t : Fin cfg0.N) (a : Fin 1024) (e : Fin 256) (i : Fin 8192) (h : Fin 4)
    (hi : i.val = 1024 * (t.val / 4) + a.val) (hh : h.val = t.val % 4) :
    out0_4 (iblk m c 0 t) (iblk m c 1 t) (iblk m c 2 t) (iblk m c 3 t) (ix2 a e) = outOf (xArg m c) (wTail m c) (kvArg m c) i h e := by
  rw [out_eq, payload_apply]
  unfold outOf
  have hq : query (xBlk m c t) (wBlk m c t) a = queryOf (xArg m c) (wTail m c) i h := funext fun e' =>
    Finset.sum_congr rfl fun d _ => congrArg₂ (fun u v : EReal => u * v) (xBlk_apply m c t a d i hi)
      (wBlk_apply m c t d e' _ (by show 9216 + (256 * h.val + e'.val) = _; omega))
  have hk : (fun j e' => kBlk m c t (ix2 j e')) = keyOf (kvArg m c) h := funext fun j => funext fun e' =>
    kBlk_apply m c t j e' _ (by show 256 * h.val + e'.val = _; omega)
  have hv : (fun j => vBlk m c t (ix2 j e)) = fun j => valueOf (kvArg m c) h j e := funext fun j =>
    vBlk_apply m c t j e _ (by show 1024 + (256 * h.val + e.val) = _; omega)
  exact congrArg₂ attend (congrArg₂ scores hq hk) hv

/-- Every point writes back its block of the result. -/
theorem flushed_eq (c : Dev nD) (t : Fin cfg0.N) (_ : (cfg0.win 4).flush t = true) :
    (dats m 0 c).flushed 4 t = ((cfg0.win 4).blk t).view.read (Elt Ideal) (result m c) := by
  have hN := lt_N t
  rw [Value.flushed4]
  funext y
  rw [View.read_apply]
  have y0 : (y 0).val < 1024 := (y 0).isLt
  have y1 : (y 1).val < 256 := (y 1).isLt
  have e := point m c t ⟨(y 0).val, y0⟩ ⟨(y 1).val, y1⟩ ⟨1024 * (t.val / 4) + (y 0).val, by omega⟩ ⟨t.val % 4, by omega⟩ rfl rfl
  refine Eq.trans ?_ ((e.trans (result_apply m c _ _ _).symm).trans ?_)
  · show (out0_4 (iblk m c 0 t) (iblk m c 1 t) (iblk m c 2 t) (iblk m c 3 t) : Vec Ideal S1024x256 .bf16) _ = _
    refine congrArg (out0_4 (iblk m c 0 t) (iblk m c 1 t) (iblk m c 2 t) (iblk m c 3 t) : Vec Ideal S1024x256 .bf16) (funext fun b => Fin.ext ?_)
    match b with
    | ⟨0, _⟩ => rfl
    | ⟨1, _⟩ => rfl
  · refine congrArg (result m c) (funext fun b => Fin.ext ?_)
    match b with
    | ⟨0, _⟩ => show 1024 * (t.val / 4) + (y 0).val = win0_4.index t 0 * 1024 + 1 * (y 0).val
                rw [index_4]; show _ = t.val / 4 * 1024 + 1 * (y 0).val; omega
    | ⟨1, _⟩ => show 256 * (t.val % 4) + (y 1).val = win0_4.index t 1 * 256 + 1 * (y 1).val
                rw [index_4]; show _ = t.val % 4 * 256 + 1 * (y 1).val; omega

/-- The result array ends holding it. -/
theorem final_o (c : Dev nD) : (dats m 0 c).arrAt 4 cfg0.N = result m c :=
  (dats m 0 c).arrAt_eq_of_cover 4 (result m c) (flushed_eq m c) fun i => by
    have h0 : (i 0 : Nat) < 8192 := (i 0).isLt
    have h1 : (i 1 : Nat) < 1024 := (i 1).isLt
    have hN : cfg0.N = 32 := N_0
    have ht : (i 0 : Nat) / 1024 * 4 + (i 1 : Nat) / 256 < cfg0.N := by omega
    refine ⟨⟨(i 0 : Nat) / 1024 * 4 + (i 1 : Nat) / 256, ht⟩, flush0_4 _, ?_⟩
    show i ∈ ((View.whole main_v0).slice (win0_4.rect ⟨(i 0 : Nat) / 1024 * 4 + (i 1 : Nat) / 256, ht⟩)).set
    rw [View.set_slice_whole, Rect.mem_set_unit]
    intro b
    match b with
    | ⟨0, _⟩ => show win0_4.index _ 0 * 1024 ≤ (i 0 : Nat) ∧ (i 0 : Nat) < win0_4.index _ 0 * 1024 + 1024
                rw [index_4]
                show ((i 0 : Nat) / 1024 * 4 + (i 1 : Nat) / 256) / 4 * 1024 ≤ (i 0 : Nat) ∧ (i 0 : Nat) < ((i 0 : Nat) / 1024 * 4 + (i 1 : Nat) / 256) / 4 * 1024 + 1024
                omega
    | ⟨1, _⟩ => show win0_4.index _ 1 * 256 ≤ (i 1 : Nat) ∧ (i 1 : Nat) < win0_4.index _ 1 * 256 + 256
                rw [index_4]
                show ((i 0 : Nat) / 1024 * 4 + (i 1 : Nat) / 256) % 4 * 256 ≤ (i 1 : Nat) ∧ (i 1 : Nat) < ((i 0 : Nat) / 1024 * 4 + (i 1 : Nat) / 256) % 4 * 256 + 256
                omega

end Cert.MemAttnIdeal.Own

end
-- ==== Proof.MemAttn.lean ====
/-
  The claims about the attention to the memory (attention layer): the frames of the kernel and of the reference, and the
  equality of their results over the extended reals, with no condition on the arguments.
-/
module

public import proofs.«01_k».proof.Defs
public import proofs.«01_k».proof.Proof.MemAttnValue
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Value
public import proofs.«01_k».proof.Proof.Gen.MemAttnRefIdeal
public import proofs.«01_k».proof.Proof.Gen.MemAttnRefIdeal.Read
public import Idealize.ShloMosaic.Lib.Quiescent

@[expose] public section

set_option maxRecDepth 16384

noncomputable section

namespace Cert.Proof.MemAttn

open Idealize.ShloMosaic Idealize.ShloMosaic.TcCoe Idealize.SL.Sem Idealize.ShloMosaic.ValueIdx
open Cert.MemAttnRefIdeal Cert.MemAttnRefIdeal.Read
open Cert.MemConvRefIdeal.Own (entry headOf placeOf entry_of out_apply)

/-- The reference's queries are those of the first layer's reference from the weights' tail. -/
theorem queries (m : (ℓ : Loc Cert.MemAttnIdeal.nD Cert.MemAttnIdeal.τ Cert.MemAttnIdeal.sig) → Buf (Elt Ideal) ℓ) (c : Dev Cert.MemAttnIdeal.nD) :
    val_main_v5 (F := Ideal) (Cert.MemAttnIdeal.Own.xArg m c) (Cert.MemAttnIdeal.Own.wArg m c)
      = Cert.MemConvRefIdeal.Read.val_main_v5 (F := Ideal) (Cert.MemAttnIdeal.Own.xArg m c) (Cert.MemAttnIdeal.Own.wTail m c) := by
  funext y
  have h1 : (y 1).val < 1024 := (y 1).isLt
  rw [val_main_v5_apply, val_main_v2_apply, Cert.MemConvRefIdeal.Read.val_main_v5_apply, Cert.MemConvRefIdeal.Read.val_main_v2_apply]
  refine Finset.sum_congr rfl fun d _ => congrArg₂ (fun u v : EReal => u * v) rfl ?_
  rw [val_main_v1_apply, Cert.MemConvRefIdeal.Read.val_main_v1_apply]
  have hd := d.isLt
  refine congrArg (Cert.MemAttnIdeal.Own.wArg m c) (funext fun b => Fin.ext ?_)
  match b with
  | ⟨0, _⟩ => rfl
  | ⟨1, _⟩ => show (d.val * 19456 + (18432 + (y 1).val)) / 19456 % 4096 = (d.val * 10240 + (9216 + (y 1).val)) / 10240 % 4096; omega
  | ⟨2, _⟩ => show (d.val * 19456 + (18432 + (y 1).val)) % 19456 = 9216 + (d.val * 10240 + (9216 + (y 1).val)) % 10240; omega

/-- From equal queries the two references go on alike. -/
theorem same_reference (x : Cert.MemConvRefIdeal.Own.X) (w : (⟨S1x4096x19456, .f32⟩ : BufTy).Contents (Elt Ideal)) (w' : Cert.MemConvRefIdeal.Own.W) (kv : Cert.MemConvRefIdeal.Own.KV)
    (h : val_main_v5 (F := Ideal) x w = Cert.MemConvRefIdeal.Read.val_main_v5 (F := Ideal) x w') :
    val_main_v28 (F := Ideal) x w kv = Cert.MemConvRefIdeal.Read.val_main_v28 (F := Ideal) x w' kv := by
  have h10 : val_main_v10 (F := Ideal) x w = Cert.MemConvRefIdeal.Read.val_main_v10 (F := Ideal) x w' := congrArg (fun y => shapeCast S8192x4x256 y _) h
  have h13 : val_main_v13 (F := Ideal) x w kv = Cert.MemConvRefIdeal.Read.val_main_v13 (F := Ideal) x w' kv := by
    unfold val_main_v13 val_main_v11
    rw [h10]
    rfl
  have h20 : val_main_v20 (F := Ideal) x w kv = Cert.MemConvRefIdeal.Read.val_main_v20 (F := Ideal) x w' kv := by
    unfold val_main_v20 val_main_v19 val_main_v18 val_main_v17 val_main_v16 val_main_v14
    rw [h13]
    rfl
  have h24 : val_main_v24 (F := Ideal) x w kv = Cert.MemConvRefIdeal.Read.val_main_v24 (F := Ideal) x w' kv := by
    unfold val_main_v24 val_main_v23 val_main_v22 val_main_v21
    rw [h20]
    rfl
  unfold val_main_v28 val_main_v27 val_main_v26 val_main_v25
  rw [h24]
  rfl

/-- The reference's result is the kernel's. -/
theorem results (m : (ℓ : Loc Cert.MemAttnIdeal.nD Cert.MemAttnIdeal.τ Cert.MemAttnIdeal.sig) → Buf (Elt Ideal) ℓ) (c : Dev Cert.MemAttnIdeal.nD) :
    val_main_v28 (F := Ideal) (Cert.MemAttnIdeal.Own.xArg m c) (Cert.MemAttnIdeal.Own.wArg m c) (Cert.MemAttnIdeal.Own.kvArg m c)
      = Cert.MemAttnIdeal.Own.result m c := by
  rw [same_reference _ _ _ _ (queries m c)]
  funext y
  have ey : y = ix2 (y 0 : Fin 8192) (entry (headOf (y 1)) (placeOf (y 1))) :=
    (eq_ix2 (n0 := 8192) (n1 := 1024) y).trans (congrArg (fun n : Fin 1024 => (ix2 (y 0 : Fin 8192) n : S8192x1024.Idx)) (entry_of (y 1)).symm)
  exact (congrArg _ ey).trans (out_apply _ _ _ (y 0) (headOf (y 1)) (placeOf (y 1)))

theorem frame_p : Cert.quiescent_MemAttn := fun m ρ _ => Cert.MemAttn.Gen.frame m ρ
theorem frame_pi : Cert.quiescent_MemAttnIdeal := fun m ρ _ => Cert.MemAttnIdeal.Gen.frame m ρ
theorem frame_ri : Cert.quiescent_MemAttnRefIdeal := fun m ρ _ =>
  (θ_run Cert.MemAttnRefIdeal.defs _ _).mono
    (fun r h => ⟨fun c => (h c).2, Idealize.ShloMosaic.sem_eq_zero_of_no_sems (by decide) r.2⟩)
    (Cert.MemAttnRefIdeal.Value.run (F := Ideal) m ρ)

theorem preserves : Cert.preserves_MemAttn_MemAttnIdeal := trivial

/-- **The kernel and the reference end with equal results** from equal arguments. -/
theorem algebraic : Cert.algebraic_MemAttnIdeal_MemAttnRefIdeal := fun m ρ m' ρ' _ hag =>
  ⟨fun c => Cert.MemAttnIdeal.Own.result m c,
    (θ_run Cert.MemAttnIdeal.defs _ _).mono (fun r h c => ⟨(h c).1.trans (Cert.MemAttnIdeal.Own.final_o m c), (h c).2⟩)
      (Cert.MemAttnIdeal.Value.run_blocks m ρ),
    (θ_run Cert.MemAttnRefIdeal.defs _ _).mono
      (fun r h c => by
        refine ⟨(h c).1.trans ?_, (h c).2⟩
        rw [val_main_v28_eq, (hag c).1, (hag c).2.1, (hag c).2.2]
        exact results m c)
      (Cert.MemAttnRefIdeal.Value.run (F := Ideal) m' ρ')⟩

end Cert.Proof.MemAttn

end
-- ==== Proof.Attn1Block.lean ====
/-
  What one grid point of the middle group's windowed-attention kernel leaves in its two output blocks and in the two carried
  scratch arrays, as functions of the point's query, key and value blocks and of the previous point's key and
  value blocks: every head's tile is one function `headO` of the head's columns, and the lane-packed log-sum-exp
  block holds head `h`'s column in lane `h`.
-/
module

public import proofs.«01_k».proof.Proof.AttnHead
public import proofs.«01_k».proof.Proof.Gen.Attn1Ideal.Value
public import Idealize.ShloMosaic.Lib.Pipeline.ReadBack

@[expose] public section

set_option maxRecDepth 16384

noncomputable section

namespace Cert.Attn1Ideal.Own

open Cert.Attn2Ideal.Own (headRect headOf laneStep heads headsRev zero2 zero2' zeroAt)
open Cert.Attn1Ideal Cert.Attn1Ideal.Gen Idealize.ShloMosaic Idealize.ShloMosaic.TcCoe Idealize.SL.Sem

variable {F : FTy → Type} [FloatOps F]
variable (m : (ℓ : Loc nD τ sig) → Buf (Elt F) ℓ)

/-- One head's attention over its own key block and the previous one, as the kernel computes it. -/
def headO (i : grid0.Coords) (q k kp v vp : Vec F S128x128 .bf16) : FVec F S128x128 .f32 :=
  k0_pay14 (k0_pay11 i q k kp) (k0_pay12 i q k kp) (k0_pay13 i q k kp) v vp

/-- One head's log-sum-exp column: the maximum plus the logarithm of the denominator. -/
def headL (i : grid0.Coords) (q k kp : Vec F S128x128 .bf16) : FVec F S128x1 .f32 :=
  addf (k0_pay10 i q k kp) (log (k0_pay13 i q k kp))

/-- The attention block as the pieces its sixteen stores write. -/
def piecesO (i : grid0.Coords) (q k v kp vp : Vec F S128x2048 .bf16) : List (View.Piece (Elt F) S128x2048 .f32) :=
  headsRev.map fun h => ⟨headRect h, headO i (headOf q h) (headOf k h) (headOf kp h) (headOf v h) (headOf vp h)⟩

/-- The lane-packed log-sum-exp block. -/
def blockL (i : grid0.Coords) (q k kp : Vec F S128x2048 .bf16) : FVec F S128x128 .f32 :=
  heads.foldl (laneStep fun h => headL i (headOf q h) (headOf k h) (headOf kp h)) k0_pay6

/-- The attention block a first point of a residue class leaves: the previous block is the zeros it stored. -/
theorem outO_A (c : Dev nD) (t : Fin cfg0.N) (h0 : t.val % 16 = 0) :
    (outsAt0 m c t.val t.isLt).1
      = View.canon (piecesO (grid0.coords t) (iblk m c 0 t) (iblk m c 1 t) (iblk m c 2 t) k0_pay2 k0_pay3) := by
  rw [outsAt0_A m c t h0]
  dsimp only
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  refine congrArg View.canon ?_
  unfold piecesO
  simp only [List.map_cons, List.map_nil]
  repeat (refine congrArg₂ List.cons ?_ ?_; · rfl)
  rfl

/-- The attention block a later point leaves: the previous block is what the scratch carries. -/
theorem outO_B (c : Dev nD) (t : Fin cfg0.N) (h0 : ¬t.val % 16 = 0) :
    (outsAt0 m c t.val t.isLt).1
      = View.canon (piecesO (grid0.coords t) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_B m c t h0]
  dsimp only
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  refine congrArg View.canon ?_
  unfold piecesO
  simp only [List.map_cons, List.map_nil]
  repeat (refine congrArg₂ List.cons ?_ ?_; · rfl)
  rfl

/-- The log-sum-exp block a first point leaves. -/
theorem outL_A (c : Dev nD) (t : Fin cfg0.N) (h0 : t.val % 16 = 0) :
    (outsAt0 m c t.val t.isLt).2.1
      = blockL (grid0.coords t) (iblk m c 0 t) (iblk m c 1 t) k0_pay2 := by
  rw [outsAt0_A m c t h0]
  dsimp only
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_unit_zero zero2']
  rfl

/-- The log-sum-exp block a later point leaves. -/
theorem outL_B (c : Dev nD) (t : Fin cfg0.N) (h0 : ¬t.val % 16 = 0) :
    (outsAt0 m c t.val t.isLt).2.1
      = blockL (grid0.coords t) (iblk m c 0 t) (iblk m c 1 t) (outsAt0 m c (t.val - 1) (Nat.lt_of_le_of_lt (Nat.sub_le _ _) t.isLt)).2.2.1 := by
  rw [outsAt0_B m c t h0]
  dsimp only
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_unit_zero zero2']
  rfl

/-- A first point leaves its key block in the first scratch array. -/
theorem scrK_A (c : Dev nD) (t : Fin cfg0.N) (h0 : t.val % 16 = 0) :
    (outsAt0 m c t.val t.isLt).2.2.1
      = iblk m c 1 t := by
  rw [outsAt0_A m c t h0]
  dsimp only
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay170
  dsimp only
  simp only [shapeCast_self]
  exact View.ld_unit_zero (S := S128x2048) zero2 _ _

/-- A first point leaves its value block in the second scratch array. -/
theorem scrV_A (c : Dev nD) (t : Fin cfg0.N) (h0 : t.val % 16 = 0) :
    (outsAt0 m c t.val t.isLt).2.2.2
      = iblk m c 2 t := by
  rw [outsAt0_A m c t h0]
  dsimp only
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay1
  dsimp only
  simp only [shapeCast_self]
  exact View.ld_unit_zero (S := S128x2048) zero2 _ _

/-- A later point leaves its key block in the first scratch array. -/
theorem scrK_B (c : Dev nD) (t : Fin cfg0.N) (h0 : ¬t.val % 16 = 0) :
    (outsAt0 m c t.val t.isLt).2.2.1
      = iblk m c 1 t := by
  rw [outsAt0_B m c t h0]
  dsimp only
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay170
  dsimp only
  simp only [shapeCast_self]
  exact View.ld_unit_zero (S := S128x2048) zero2 _ _

/-- A later point leaves its value block in the second scratch array. -/
theorem scrV_B (c : Dev nD) (t : Fin cfg0.N) (h0 : ¬t.val % 16 = 0) :
    (outsAt0 m c t.val t.isLt).2.2.2
      = iblk m c 2 t := by
  rw [outsAt0_B m c t h0]
  dsimp only
  unfold sout0_B_1
  rw [View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay1
  dsimp only
  simp only [shapeCast_self]
  exact View.ld_unit_zero (S := S128x2048) zero2 _ _

end Cert.Attn1Ideal.Own

end
-- ==== Proof.Attn1Head.lean ====
/-
  The kernel body of the middle group's windowed attention is the last group's: it reads its grid point only
  through the question whether the point is a residue class's first.
-/
module

public import proofs.«01_k».proof.Proof.Attn1Block

@[expose] public section

set_option maxRecDepth 16384

noncomputable section

namespace Cert.Attn1Ideal.Own

open Cert.Attn2Ideal.Own (headRect headOf at2 headO_apply headL_apply blockO_apply blockL_apply)
open Cert.Attn1Ideal Cert.Attn1Ideal.Gen Idealize.ShloMosaic Idealize.ShloMosaic.TcCoe Idealize.SL.Sem Idealize.ShloMosaic.ValueIdx Cert.Softmax

/-- The point of the last group's grid that is first in its class exactly when `i` is. -/
def like (i : grid0.Coords) : Cert.Attn2Ideal.grid0.Coords := fun a => match a with
  | ⟨0, _⟩ => (0 : Fin 16)
  | ⟨1, _⟩ => if 0 < (i 1).val then (1 : Fin 4) else (0 : Fin 4)

theorem like_pos (i : grid0.Coords) : 0 < (like i 1).val ↔ 0 < (i 1).val := by
  show 0 < (if 0 < (i 1).val then (1 : Fin 4) else (0 : Fin 4)).val ↔ _
  by_cases h : 0 < (i 1).val
  · rw [if_pos h]; exact ⟨fun _ => h, fun _ => by decide⟩
  · rw [if_neg h]; exact ⟨fun g => absurd g (by decide), fun g => absurd g h⟩

/-- The mask of the previous block depends on the point only through that question. -/
theorem prev_mask_like (i : grid0.Coords) : k0_pay5 i = Cert.Attn2Ideal.Gen.k0_pay5 (like i) := by
  funext y
  refine (?_ : k0_pay5 i y = BitVec.ofBool (decide ((y 0).val ≤ (y 1).val ∧ 0 < (i 1).val))).trans ?_
  · unfold k0_pay5
    show IntOp.andi (IntOp.cmpi .sge (BitVec.ofNat 32 (0 * 128 + (y 1).val)) (BitVec.ofNat 32 (0 * 128 + (y 0).val)))
      (IntOp.cmpi .sgt (BitVec.ofNat 32 (i 1).val) (BitVec.ofNat 32 0)) = _
    have h0 : (y 0).val < 128 := (y 0).isLt
    have h1 : (y 1).val < 128 := (y 1).isLt
    have hi : (i 1).val < 16 := (i 1).isLt
    rw [Nat.zero_mul, Nat.zero_add, Nat.zero_add, WordCmp.cmpi_sge_ofNat (by omega) (by omega), WordCmp.cmpi_sgt_ofNat (by omega) (by omega)]
    rw [Bool.decide_and]
    generalize decide ((y 0).val ≤ (y 1).val) = u
    generalize decide (0 < (i 1).val) = w
    cases u <;> cases w <;> rfl
  · refine Eq.trans ?_ ((congrArg _ (eq_ix2 y)).trans (Cert.Attn2Ideal.Own.prev_mask (like i) (y 0 : Fin 128) (y 1 : Fin 128))).symm
    exact congrArg BitVec.ofBool (decide_eq_decide.mpr (and_congr_right fun _ => (like_pos i).symm))

theorem pay9_like (i : grid0.Coords) (q k : Vec Ideal S128x128 .bf16) : k0_pay9 i q k = Cert.Attn2Ideal.Gen.k0_pay9 (F := Ideal) (like i) q k := by
  unfold k0_pay9
  rw [prev_mask_like]
  rfl

theorem pay10_like (i : grid0.Coords) (q k kp : Vec Ideal S128x128 .bf16) : k0_pay10 i q k kp = Cert.Attn2Ideal.Gen.k0_pay10 (F := Ideal) (like i) q k kp := by
  unfold k0_pay10
  rw [pay9_like]
  rfl

theorem pay11_like (i : grid0.Coords) (q k kp : Vec Ideal S128x128 .bf16) : k0_pay11 i q k kp = Cert.Attn2Ideal.Gen.k0_pay11 (F := Ideal) (like i) q k kp := by
  unfold k0_pay11
  rw [pay10_like]
  rfl

theorem pay12_like (i : grid0.Coords) (q k kp : Vec Ideal S128x128 .bf16) : k0_pay12 i q k kp = Cert.Attn2Ideal.Gen.k0_pay12 (F := Ideal) (like i) q k kp := by
  unfold k0_pay12
  rw [pay9_like, pay10_like]
  rfl

theorem pay13_like (i : grid0.Coords) (q k kp : Vec Ideal S128x128 .bf16) : k0_pay13 i q k kp = Cert.Attn2Ideal.Gen.k0_pay13 (F := Ideal) (like i) q k kp := by
  unfold k0_pay13
  rw [pay11_like, pay12_like]
  rfl

theorem headO_like (i : grid0.Coords) (q k kp v vp : Vec Ideal S128x128 .bf16) :
    headO i q k kp v vp = Cert.Attn2Ideal.Own.headO (F := Ideal) (like i) q k kp v vp := by
  unfold headO
  rw [pay11_like, pay12_like, pay13_like]
  rfl

theorem headL_like (i : grid0.Coords) (q k kp : Vec Ideal S128x128 .bf16) :
    headL i q k kp = Cert.Attn2Ideal.Own.headL (F := Ideal) (like i) q k kp := by
  unfold headL
  rw [pay10_like, pay13_like]
  rfl

/-- The pieces of the attention block are the last group's. -/
theorem piecesO_like (i : grid0.Coords) (q k v kp vp : Vec Ideal S128x2048 .bf16) :
    piecesO i q k v kp vp = Cert.Attn2Ideal.Own.piecesO (F := Ideal) (like i) q k v kp vp :=
  List.map_congr_left fun h _ => congrArg (fun x => (⟨headRect h, x⟩ : View.Piece (Elt Ideal) S128x2048 .f32)) (headO_like i _ _ _ _ _)

/-- The log-sum-exp block is the last group's. -/
theorem blockL_like (i : grid0.Coords) (q k kp : Vec Ideal S128x2048 .bf16) :
    blockL i q k kp = Cert.Attn2Ideal.Own.blockL (F := Ideal) (like i) q k kp := by
  unfold blockL
  rw [show (fun h => headL i (headOf q h) (headOf k h) (headOf kp h)) = fun h => Cert.Attn2Ideal.Own.headL (F := Ideal) (like i) (headOf q h) (headOf k h) (headOf kp h) from
    funext fun h => headL_like i _ _ _]
  rfl

/-- The masked scores of the previous block depend on the block's number only through its being the first. -/
theorem sPrev_like (i : grid0.Coords) : sPrev (like i 1).val = sPrev (i 1).val := by
  funext q k a j
  unfold sPrev
  exact if_congr (and_congr_right fun _ => like_pos i) rfl rfl

theorem mx_like (i : grid0.Coords) : mx (like i 1).val = mx (i 1).val := by
  funext q k kp a
  unfold mx
  rw [sPrev_like]

theorem den_like (i : grid0.Coords) : den (like i 1).val = den (i 1).val := by
  funext q k kp a
  unfold den
  rw [sPrev_like, mx_like]

/-- **The attention block at an index.** -/
theorem blockO_at (i : grid0.Coords) (q k v kp vp : Vec Ideal S128x2048 .bf16) (a : Fin 128) (h : Fin 16) (e : Fin 128) :
    View.canon (piecesO i q k v kp vp) (ix2 a (⟨128 * h.val + e.val, by omega⟩ : Fin 2048))
      = Ideal.div
          ((∑ j, Ideal.exp (sOwn (at2 (headOf q h)) (at2 (headOf k h)) a j - mx (i 1).val (at2 (headOf q h)) (at2 (headOf k h)) (at2 (headOf kp h)) a) * at2 (headOf v h) j e)
            + ∑ j, Ideal.exp (sPrev (i 1).val (at2 (headOf q h)) (at2 (headOf kp h)) a j - mx (i 1).val (at2 (headOf q h)) (at2 (headOf k h)) (at2 (headOf kp h)) a) * at2 (headOf vp h) j e)
          (den (i 1).val (at2 (headOf q h)) (at2 (headOf k h)) (at2 (headOf kp h)) a) := by
  rw [piecesO_like]
  refine (blockO_apply (like i) q k v kp vp a h e).trans ?_
  rw [headO_apply, sPrev_like, mx_like, den_like]

/-- **The log-sum-exp block at an index.** -/
theorem blockL_at (i : grid0.Coords) (q k kp : Vec Ideal S128x2048 .bf16) (a j : Fin 128) :
    blockL i q k kp (ix2 a j)
      = if hj : j.val < 16 then mx (i 1).val (at2 (headOf q ⟨j.val, hj⟩)) (at2 (headOf k ⟨j.val, hj⟩)) (at2 (headOf kp ⟨j.val, hj⟩)) a
            + Ideal.log (den (i 1).val (at2 (headOf q ⟨j.val, hj⟩)) (at2 (headOf k ⟨j.val, hj⟩)) (at2 (headOf kp ⟨j.val, hj⟩)) a)
        else 0 := by
  rw [blockL_like]
  refine (blockL_apply (like i) q k kp a j).trans ?_
  split
  · rw [headL_apply, mx_like, den_like]
  · rfl

end Cert.Attn1Ideal.Own

end
-- ==== Proof.Attn1Ref.lean ====
/-
  The reference of the middle group's windowed attention read at an index, at the ideal values: its two results are the joint
  softmax of a query row over the 256 keys of the previous block and of its own.
-/
module

public import proofs.«01_k».proof.Proof.Gen.Attn1RefIdeal.Read
public import proofs.«01_k».proof.Proof.AttnRef
public import Idealize.ShloMosaic.Lib.KernelVsHost
public import Idealize.ShloMosaic.Lib.WordCmp
public import Idealize.ShloMosaic.Lib.Tactic.WordOmega

@[expose] public section

set_option maxRecDepth 16384

noncomputable section

namespace Cert.Attn1RefIdeal.Own

open Cert.Attn1RefIdeal Cert.Attn1RefIdeal.Gen Cert.Attn1RefIdeal.Read Idealize.ShloMosaic Idealize.ShloMosaic.TcCoe Idealize.SL.Sem Idealize.ShloMosaic.ValueIdx Cert.Softmax
open Cert.Attn2RefIdeal.Own (back_words block_words)

/-- The token of row `a` of block `nb` of residue class `r`. -/
def tok1 (nb : Fin 16) (r : Fin 4) (a : Fin 128) : Fin 8192 := ⟨(nb.val * 128 + a.val) * 4 + r.val, by omega⟩

/-- The column of entry `e` of head `h` of the queries (0), keys (1) or values (2) of the middle group. -/
def col1 (j : Fin 3) (h : Fin 16) (e : Fin 128) : Fin 18432 := ⟨6144 + j.val * 2048 + h.val * 128 + e.val, by omega⟩

abbrev Arg := (⟨S8192x18432, .bf16⟩ : BufTy).Contents (Elt Ideal)

/-- Block `nb` of head `h` of residue class `r` of the queries (0), keys (1) or values (2), by row and entry. -/
def part (x : Arg) (j : Fin 3) (nb : Fin 16) (r : Fin 4) (h : Fin 16) (a e : Fin 128) : EReal := x (ix2 (tok1 nb r a) (col1 j h e))

/-- The block before it. -/
def partPrev (x : Arg) (j : Fin 3) (nb : Fin 16) (r : Fin 4) (h : Fin 16) : Fin 128 → Fin 128 → EReal :=
  prevOf nb.val (part x j ⟨nb.val - 1, by omega⟩ r h)

/-- The 256-row window of a block: the block before it, then itself. -/
def window (x : Arg) (j : Fin 3) (nb : Fin 16) (r : Fin 4) (h : Fin 16) (k : Fin 256) (e : Fin 128) : EReal :=
  join (fun i => partPrev x j nb r h i e) (fun i => part x j nb r h i e) k

theorem flat1 (t : Fin 8192) (g j : Fin 3) (h : Fin 16) (e : Fin 128) (hg : g.val = 1) : idx_main_v1 (ix5 t g j h e) = ix2 t (col1 j h e) := by
  have := t.isLt; have := j.isLt; have := h.isLt; have := e.isLt
  funext c
  apply Fin.ext
  match c with
  | ⟨0, _⟩ => show ((((t.val * 3 + g.val) * 3 + j.val) * 16 + h.val) * 128 + e.val) / 18432 = t.val; omega
  | ⟨1, _⟩ => show ((((t.val * 3 + g.val) * 3 + j.val) * 16 + h.val) * 128 + e.val) % 18432 = 6144 + j.val * 2048 + h.val * 128 + e.val; omega

theorem flat3 (t : Fin 8192) (h : Fin 16) (e : Fin 128) : idx_main_v3 (ix3 t h e) = ix5 t 0 0 h e := by
  have := t.isLt; have := h.isLt; have := e.isLt
  funext c
  apply Fin.ext
  match c with
  | ⟨0, _⟩ => show ((t.val * 16 + h.val) * 128 + e.val) / 2048 = t.val; omega
  | ⟨1, _⟩ => rfl
  | ⟨2, _⟩ => rfl
  | ⟨3, _⟩ => show ((t.val * 16 + h.val) * 128 + e.val) / 128 % 16 = h.val; omega
  | ⟨4, _⟩ => show ((t.val * 16 + h.val) * 128 + e.val) % 128 = e.val; omega

theorem flat8 (nb : Fin 16) (a : Fin 128) (r : Fin 4) (h : Fin 16) (e : Fin 128) : idx_main_v8 (ix5 nb a r h e) = ix3 (tok1 nb r a) h e := by
  have := nb.isLt; have := a.isLt; have := r.isLt; have := h.isLt; have := e.isLt
  funext c
  apply Fin.ext
  match c with
  | ⟨0, _⟩ => show ((((nb.val * 128 + a.val) * 4 + r.val) * 16 + h.val) * 128 + e.val) / 2048 = (nb.val * 128 + a.val) * 4 + r.val; omega
  | ⟨1, _⟩ => show ((((nb.val * 128 + a.val) * 4 + r.val) * 16 + h.val) * 128 + e.val) / 128 % 16 = h.val; omega
  | ⟨2, _⟩ => show ((((nb.val * 128 + a.val) * 4 + r.val) * 16 + h.val) * 128 + e.val) % 128 = e.val; omega

theorem slice_idx (t : Fin 8192) (h : Fin 16) (e : Fin 128) :
    idx_main_v2 (ix5 t 0 0 h e) = ix5 t 1 0 h e ∧ idx_main_v4 (ix5 t 0 0 h e) = ix5 t 1 1 h e ∧ idx_main_v6 (ix5 t 0 0 h e) = ix5 t 1 2 h e := by
  refine ⟨?_, ?_, ?_⟩ <;>
  · funext c
    apply Fin.ext
    match c with
    | ⟨0, _⟩ => rfl
    | ⟨1, _⟩ => rfl
    | ⟨2, _⟩ => rfl
    | ⟨3, _⟩ => rfl
    | ⟨4, _⟩ => rfl

theorem query_block (x : Arg) (nb : Fin 16) (a : Fin 128) (r : Fin 4) (h : Fin 16) (e : Fin 128) :
    val_main_v8 (F := Ideal) x (ix5 nb a r h e) = part x 0 nb r h a e := by
  rw [val_main_v8_apply, flat8, val_main_v3_apply, flat3, val_main_v2_apply, (slice_idx _ h e).1, val_main_v1_apply, flat1 _ _ _ _ _ rfl]
  rfl

theorem key_block (x : Arg) (nb : Fin 16) (a : Fin 128) (r : Fin 4) (h : Fin 16) (e : Fin 128) :
    val_main_v9 (F := Ideal) x (ix5 nb a r h e) = part x 1 nb r h a e := by
  rw [val_main_v9_apply, show idx_main_v9 (ix5 nb a r h e) = _ from flat8 nb a r h e, val_main_v5_apply,
    show idx_main_v5 (ix3 (tok1 nb r a) h e) = _ from flat3 _ h e, val_main_v4_apply, (slice_idx _ h e).2.1, val_main_v1_apply, flat1 _ _ _ _ _ rfl]
  rfl

theorem value_block (x : Arg) (nb : Fin 16) (a : Fin 128) (r : Fin 4) (h : Fin 16) (e : Fin 128) :
    val_main_v13 (F := Ideal) x (ix5 nb a r h e) = part x 2 nb r h a e := by
  rw [val_main_v13_apply, show idx_main_v13 (ix5 nb a r h e) = _ from flat8 nb a r h e, val_main_v7_apply,
    show idx_main_v7 (ix3 (tok1 nb r a) h e) = _ from flat3 _ h e, val_main_v6_apply, (slice_idx _ h e).2.2, val_main_v1_apply, flat1 _ _ _ _ _ rfl]
  rfl

/-- A block axis padded by one zero block in front and cut back: the block before. -/
theorem shifted (y : (⟨S16x128x4x16x128, .f32⟩ : BufTy).Contents (Elt Ideal)) (z : (⟨S_, .f32⟩ : BufTy).Contents (Elt Ideal)) (hz : ∀ i, z i = (0 : EReal))
    (nb : Fin 16) (a : Fin 128) (r : Fin 4) (h : Fin 16) (e : Fin 128) :
    pad S17x128x4x16x128 ![1, 0, 0, 0, 0] ![0, 0, 0, 0, 0] ![0, 0, 0, 0, 0] y z pads_S16x128x4x16x128_S17x128x4x16x128_100_000_000_000_000 h_S_
        (idx_main_v11 (ix5 nb a r h e))
      = (if 0 < nb.val then y (ix5 (⟨nb.val - 1, by omega⟩ : Fin 16) a r h e) else 0 : EReal) := by
  by_cases hn : 0 < nb.val
  · rw [if_pos hn]
    refine pad_apply_of_inside _ _ _ _ _ _ _ _ (ix5 (⟨nb.val - 1, by omega⟩ : Fin 16) a r h e) fun c => ?_
    match c with
    | ⟨0, _⟩ => show nb.val = 1 + (nb.val - 1) * (0 + 1); omega
    | ⟨1, _⟩ => show a.val = 0 + a.val * (0 + 1); omega
    | ⟨2, _⟩ => show r.val = 0 + r.val * (0 + 1); omega
    | ⟨3, _⟩ => show h.val = 0 + h.val * (0 + 1); omega
    | ⟨4, _⟩ => show e.val = 0 + e.val * (0 + 1); omega
  · rw [if_neg hn]
    exact (pad_apply_of_not_inside _ _ _ _ _ _ _ _ (0 : Fin 5) fun hin => hn (by have h1 := hin.1; exact h1)).trans (hz _)

/-- Two blocks joined along their rows. -/
theorem joined (y1 y2 : (⟨S16x128x4x16x128, .f32⟩ : BufTy).Contents (Elt Ideal)) (nb : Fin 16) (k : Fin 256) (r : Fin 4) (h : Fin 16) (e : Fin 128) :
    concatenate S16x256x4x16x128 1 [⟨S16x128x4x16x128, y1⟩, ⟨S16x128x4x16x128, y2⟩] concatenates_S16x128x4x16x128_S16x128x4x16x128_S16x256x4x16x128_d1
        (ix5 nb k r h e)
      = join (fun i => y1 (ix5 nb i r h e)) (fun i => y2 (ix5 nb i r h e)) k := by
  unfold join
  split
  · next hk =>
    refine concatenate_pair_apply_left (t := S16x256x4x16x128) (s₁ := S16x128x4x16x128) (s₂ := S16x128x4x16x128) 1 y1 y2 _ _ rfl (ix5 nb (⟨k.val, hk⟩ : Fin 128) r h e) fun c => ?_
    match c with
    | ⟨0, _⟩ => rfl
    | ⟨1, _⟩ => rfl
    | ⟨2, _⟩ => rfl
    | ⟨3, _⟩ => rfl
    | ⟨4, _⟩ => rfl
  · next hk =>
    refine concatenate_pair_apply_right (t := S16x256x4x16x128) (s₁ := S16x128x4x16x128) (s₂ := S16x128x4x16x128) 1 y1 y2 _ _ rfl rfl (ix5 nb (⟨k.val - 128, by omega⟩ : Fin 128) r h e) (fun c hc => ?_) ?_
    · match c with
      | ⟨0, _⟩ => rfl
      | ⟨1, _⟩ => exact absurd rfl hc
      | ⟨2, _⟩ => rfl
      | ⟨3, _⟩ => rfl
      | ⟨4, _⟩ => rfl
    · show k.val - 128 + 128 = k.val
      omega

theorem zero_pad (i : S_.Idx) : val_main_call0_v0 (F := Ideal) i = (0 : EReal) := by
  show ((((0#32 : BitVec 32).toInt : ℝ)) : EReal) = 0
  simp

theorem zero_pad' (i : S_.Idx) : val_main_call1_v0 (F := Ideal) i = (0 : EReal) := by
  show ((((0#32 : BitVec 32).toInt : ℝ)) : EReal) = 0
  simp

theorem zero_lanes (i : S_.Idx) : val_main_call3_v0 (F := Ideal) i = (0 : EReal) := by
  show ((((0#32 : BitVec 32).toInt : ℝ)) : EReal) = 0
  simp

theorem key_window (x : Arg) (nb : Fin 16) (k : Fin 256) (r : Fin 4) (h : Fin 16) (e : Fin 128) :
    val_main_v12 (F := Ideal) x (ix5 nb k r h e) = window x 1 nb r h k e := by
  unfold val_main_v12 window
  rw [joined]
  congr 1
  · funext i
    rw [val_main_v11_apply]
    unfold val_main_v10
    rw [shifted _ _ zero_pad, key_block]
    rfl
  · exact funext fun i => key_block x nb i r h e

theorem value_window (x : Arg) (nb : Fin 16) (k : Fin 256) (r : Fin 4) (h : Fin 16) (e : Fin 128) :
    val_main_v16 (F := Ideal) x (ix5 nb k r h e) = window x 2 nb r h k e := by
  unfold val_main_v16 window
  rw [joined]
  congr 1
  · funext i
    rw [val_main_v15_apply]
    unfold val_main_v14
    rw [show idx_main_v15 (ix5 nb i r h e) = idx_main_v11 (ix5 nb i r h e) from rfl, shifted _ _ zero_pad', value_block]
    rfl
  · exact funext fun i => value_block x nb i r h e

/-- The mask at an index: the key is at most 128 rows back and, before the first block, of the own block. -/
theorem mask_apply (nb : Fin 16) (r : Fin 4) (h : Fin 16) (q : Fin 128) (k : Fin 256) :
    val_main_call2_v1 (F := Ideal) (ix5 nb r h q k)
      = BitVec.ofBool (decide ((q.val ≤ k.val ∧ k.val ≤ q.val + 128) ∧ (0 < nb.val ∨ 128 ≤ k.val))) := by
  rw [val_main_call2_v1_apply, val_main_v46_apply, val_main_v45_apply, val_main_v43_apply, val_main_v42_apply, val_main_v33_apply,
    val_main_v30_apply, val_main_v32_apply, val_main_v26_apply, val_main_v24_apply, val_main_v25_apply, val_main_v23_apply,
    val_main_v22_apply, val_main_v19_apply, val_main_v18_apply, val_main_v21_apply, val_main_v20_apply, val_main_v29_apply, val_main_v31_apply,
    val_main_c_1_apply, val_main_c_2_apply, val_main_c_3_apply,
    val_main_v44_apply, val_main_v41_apply, val_main_v39_apply, val_main_v40_apply, val_main_v38_apply, val_main_v35_apply, val_main_v37_apply,
    val_main_v28_apply, val_main_v27_apply, val_main_v34_apply, val_main_v36_apply, val_main_v21_apply, val_main_v20_apply, val_main_c_4_apply, val_main_c_5_apply]
  refine (congrArg₂ IntOp.andi (back_words q k) (block_words nb.val (by omega) k)).trans ?_
  rw [Bool.decide_and (q.val ≤ k.val ∧ k.val ≤ q.val + 128)]
  generalize decide (q.val ≤ k.val ∧ k.val ≤ q.val + 128) = u
  generalize decide (0 < nb.val ∨ 128 ≤ k.val) = w
  cases u <;> cases w <;> rfl

/-- The scores of a query row over its 256-row window. -/
def scores (x : Arg) (nb : Fin 16) (r : Fin 4) (h : Fin 16) (a : Fin 128) : Fin 256 → EReal :=
  join (sPrev nb.val (part x 0 nb r h) (partPrev x 1 nb r h) a) (sOwn (part x 0 nb r h) (part x 1 nb r h) a)

theorem score_apply (x : Arg) (nb : Fin 16) (r : Fin 4) (h : Fin 16) (a : Fin 128) (k : Fin 256) :
    val_main_v47 (F := Ideal) x (ix5 nb r h a k) = scores x nb r h a k := by
  have ha := a.isLt
  have hk := k.isLt
  rw [val_main_v47_apply, mask_apply, WordCmp.select_ofBool, val_main_v17_apply]
  have dotEq : (∑ e : Fin 128, val_main_v8 (F := Ideal) x (lidx_main_v17 (ix5 nb r h a k) e) * val_main_v12 (F := Ideal) x (ridx_main_v17 (ix5 nb r h a k) e) : EReal)
      = ∑ e : Fin 128, part x 0 nb r h a e * window x 1 nb r h k e := by
    refine Finset.sum_congr rfl fun e _ => ?_
    have el : lidx_main_v17 (ix5 nb r h a k) e = ix5 nb a r h e := by
      funext c; match c with | ⟨0, _⟩ => rfl | ⟨1, _⟩ => rfl | ⟨2, _⟩ => rfl | ⟨3, _⟩ => rfl | ⟨4, _⟩ => rfl
    have er : ridx_main_v17 (ix5 nb r h a k) e = ix5 nb k r h e := by
      funext c; match c with | ⟨0, _⟩ => rfl | ⟨1, _⟩ => rfl | ⟨2, _⟩ => rfl | ⟨3, _⟩ => rfl | ⟨4, _⟩ => rfl
    rw [el, er, query_block, key_window]
  rw [show val_main_call2_v2 (F := Ideal) (ix5 nb r h a k) = masked from rfl, dotEq]
  simp only [decide_eq_true_eq]
  unfold scores window join sPrev sOwn
  by_cases h1 : k.val < 128
  · simp only [dif_pos h1]
    exact if_congr (by constructor <;> intro g <;> (constructor <;> omega)) rfl rfl
  · simp only [dif_neg h1]
    exact if_congr (by constructor <;> intro g <;> first | omega | (constructor <;> omega)) rfl rfl

/-- The maximum of a row's scores. -/
def rowMax (x : Arg) (nb : Fin 16) (r : Fin 4) (h : Fin 16) (a : Fin 128) : EReal :=
  (Finset.univ : Finset (Fin 256)).fold max ⊥ (scores x nb r h a)

/-- The sum of a row's exponentials. -/
def rowDen (x : Arg) (nb : Fin 16) (r : Fin 4) (h : Fin 16) (a : Fin 128) : EReal :=
  ∑ k : Fin 256, Ideal.exp (scores x nb r h a k - rowMax x nb r h a)

/-- A maximum over the last axis, from a start of minus infinity, is the fold over that axis. -/
theorem reduce_max (y : FVec Ideal S16x4x16x128x256 .f32) (z : FVec Ideal S_ .f32) (hz : z (Shape.Idx.first h_S_) = (⊥ : EReal))
    (hred : S16x4x16x128x256.Reduces [4] S16x4x16x128)
    (nb : Fin 16) (r : Fin 4) (h : Fin 16) (a : Fin 128) :
    Host.reduce FloatOps.maximumf y z reducesTo_S16x4x16x128x256_S16x4x16x128_d4 h_S_ (ix4 nb r h a)
      = (Finset.univ : Finset (Fin 256)).fold max (⊥ : EReal) (fun k => y (ix5 nb r h a k)) := by
  rw [Host.reduce_eq_fold_single FloatOps.maximumf y z _ hred h_S_, hz]
  have hf : (y ∘ hred.lift (ix4 nb r h a)) = fun k : Fin 256 => y (ix5 nb r h a k) := funext fun k => congrArg y
    (funext fun c => Fin.ext (by match c with | ⟨0, _⟩ => rfl | ⟨1, _⟩ => rfl | ⟨2, _⟩ => rfl | ⟨3, _⟩ => rfl | ⟨4, _⟩ => rfl))
  exact congrArg (fun f : Fin 256 → EReal => Finset.univ.fold max ⊥ f) hf

theorem max_apply (x : Arg) (nb : Fin 16) (r : Fin 4) (h : Fin 16) (a : Fin 128) :
    val_main_v48 (F := Ideal) x (ix4 nb r h a) = rowMax x nb r h a := by
  unfold val_main_v48 rowMax
  rw [← show (fun k => val_main_v47 (F := Ideal) x (ix5 nb r h a k)) = scores x nb r h a from funext fun k => score_apply x nb r h a k]
  generalize val_main_v47 (F := Ideal) x = y
  exact reduce_max y _ start_eq_bot (by decide) nb r h a

theorem exp_apply (x : Arg) (nb : Fin 16) (r : Fin 4) (h : Fin 16) (a : Fin 128) (k : Fin 256) :
    val_main_v52 (F := Ideal) x (ix5 nb r h a k) = Ideal.exp (scores x nb r h a k - rowMax x nb r h a) := by
  rw [val_main_v52_apply, val_main_v51_apply, score_apply, val_main_v50_apply, val_main_v49_apply]
  have e : idx_main_v49 (idx_main_v50 (ix5 nb r h a k)) = ix4 nb r h a := by
    funext c; match c with | ⟨0, _⟩ => rfl | ⟨1, _⟩ => rfl | ⟨2, _⟩ => rfl | ⟨3, _⟩ => rfl
  rw [e, max_apply]
  rfl

theorem den_apply (x : Arg) (nb : Fin 16) (r : Fin 4) (h : Fin 16) (a : Fin 128) :
    val_main_v53 (F := Ideal) x (ix4 nb r h a) = rowDen x nb r h a := by
  rw [val_main_v53_apply, show val_main_cst_7 (F := Ideal) (Shape.Idx.first h_S_) = (0 : EReal) from Ideal.ofBits_zero_f32, zero_add]
  refine Finset.sum_congr rfl fun k _ => ?_
  have e : idx_main_v53 (ix4 nb r h a) k = ix5 nb r h a k := by
    funext c; match c with | ⟨0, _⟩ => rfl | ⟨1, _⟩ => rfl | ⟨2, _⟩ => rfl | ⟨3, _⟩ => rfl | ⟨4, _⟩ => rfl
  rw [e, exp_apply]

theorem weight_apply (x : Arg) (nb : Fin 16) (r : Fin 4) (h : Fin 16) (a : Fin 128) (k : Fin 256) :
    val_main_v56 (F := Ideal) x (ix5 nb r h a k)
      = Ideal.div (Ideal.exp (scores x nb r h a k - rowMax x nb r h a)) (rowDen x nb r h a) := by
  rw [val_main_v56_apply, exp_apply, val_main_v55_apply, val_main_v54_apply]
  have e : idx_main_v54 (idx_main_v55 (ix5 nb r h a k)) = ix4 nb r h a := by
    funext c; match c with | ⟨0, _⟩ => rfl | ⟨1, _⟩ => rfl | ⟨2, _⟩ => rfl | ⟨3, _⟩ => rfl
  rw [e, den_apply]
  rfl

theorem flat65 (nb : Fin 16) (a : Fin 128) (r : Fin 4) (h : Fin 16) (e : Fin 128) :
    idx_main_v62 (idx_main_v65 (ix2 (⟨nb.val * 128 + a.val, by omega⟩ : Fin 2048) (⟨r.val * 2048 + h.val * 128 + e.val, by omega⟩ : Fin 8192)))
      = ix5 nb a r h e := by
  have e1 : idx_main_v65 (ix2 (⟨nb.val * 128 + a.val, by omega⟩ : Fin 2048) (⟨r.val * 2048 + h.val * 128 + e.val, by omega⟩ : Fin 8192)) = ix3 (tok1 nb r a) h e := by
    funext c
    apply Fin.ext
    match c with
    | ⟨0, _⟩ => show ((nb.val * 128 + a.val) * 8192 + (r.val * 2048 + h.val * 128 + e.val)) / 2048 = (nb.val * 128 + a.val) * 4 + r.val; omega
    | ⟨1, _⟩ => show ((nb.val * 128 + a.val) * 8192 + (r.val * 2048 + h.val * 128 + e.val)) / 128 % 16 = h.val; omega
    | ⟨2, _⟩ => show ((nb.val * 128 + a.val) * 8192 + (r.val * 2048 + h.val * 128 + e.val)) % 128 = e.val; omega
  rw [e1]
  funext c
  apply Fin.ext
  match c with
  | ⟨0, _⟩ => show ((((nb.val * 128 + a.val) * 4 + r.val) * 16 + h.val) * 128 + e.val) / 1048576 = nb.val; omega
  | ⟨1, _⟩ => show ((((nb.val * 128 + a.val) * 4 + r.val) * 16 + h.val) * 128 + e.val) / 8192 % 128 = a.val; omega
  | ⟨2, _⟩ => show ((((nb.val * 128 + a.val) * 4 + r.val) * 16 + h.val) * 128 + e.val) / 2048 % 4 = r.val; omega
  | ⟨3, _⟩ => show ((((nb.val * 128 + a.val) * 4 + r.val) * 16 + h.val) * 128 + e.val) / 128 % 16 = h.val; omega
  | ⟨4, _⟩ => show ((((nb.val * 128 + a.val) * 4 + r.val) * 16 + h.val) * 128 + e.val) % 128 = e.val; omega

/-- **The first result at an index**: the joint softmax-weighted sum of the window's values. -/
theorem out_apply (x : Arg) (nb : Fin 16) (a : Fin 128) (r : Fin 4) (h : Fin 16) (e : Fin 128) :
    val_main_v65 (F := Ideal) x (ix2 (⟨nb.val * 128 + a.val, by omega⟩ : Fin 2048) (⟨r.val * 2048 + h.val * 128 + e.val, by omega⟩ : Fin 8192))
      = ∑ k : Fin 256, window x 2 nb r h k e
          * Ideal.div (Ideal.exp (scores x nb r h a k - rowMax x nb r h a)) (rowDen x nb r h a) := by
  rw [val_main_v65_apply, val_main_v62_apply, flat65, val_main_v58_apply, val_main_v57_apply]
  refine Finset.sum_congr rfl fun k _ => ?_
  have el : lidx_main_v57 (idx_main_v58 (ix5 nb a r h e)) k = ix5 nb k r h e := by
    funext c; match c with | ⟨0, _⟩ => rfl | ⟨1, _⟩ => rfl | ⟨2, _⟩ => rfl | ⟨3, _⟩ => rfl | ⟨4, _⟩ => rfl
  have er : ridx_main_v57 (idx_main_v58 (ix5 nb a r h e)) k = ix5 nb r h a k := by
    funext c; match c with | ⟨0, _⟩ => rfl | ⟨1, _⟩ => rfl | ⟨2, _⟩ => rfl | ⟨3, _⟩ => rfl | ⟨4, _⟩ => rfl
  rw [el, er, value_window, weight_apply]

theorem flat67 (nb : Fin 16) (a : Fin 128) (r : Fin 4) (j : Fin 128) :
    idx_main_v67 (ix2 (⟨nb.val * 128 + a.val, by omega⟩ : Fin 2048) (⟨r.val * 128 + j.val, by omega⟩ : Fin 512)) = ix2 (tok1 nb r a) j := by
  funext c
  apply Fin.ext
  match c with
  | ⟨0, _⟩ => show ((nb.val * 128 + a.val) * 512 + (r.val * 128 + j.val)) / 128 = (nb.val * 128 + a.val) * 4 + r.val; omega
  | ⟨1, _⟩ => show ((nb.val * 128 + a.val) * 512 + (r.val * 128 + j.val)) % 128 = j.val; omega

/-- **The second result at an index**: lane `h < 16` holds head `h`'s log-sum-exp, every later lane zero. -/
theorem lse_apply (x : Arg) (nb : Fin 16) (a : Fin 128) (r : Fin 4) (j : Fin 128) :
    val_main_v67 (F := Ideal) x (ix2 (⟨nb.val * 128 + a.val, by omega⟩ : Fin 2048) (⟨r.val * 128 + j.val, by omega⟩ : Fin 512))
      = if hj : j.val < 16 then rowMax x nb r ⟨j.val, hj⟩ a + Ideal.log (rowDen x nb r ⟨j.val, hj⟩ a) else (0 : EReal) := by
  rw [val_main_v67_apply, flat67]
  unfold val_main_v66
  split
  · next hj =>
    refine (pad_apply_of_inside _ _ _ _ _ _ _ _ (ix2 (tok1 nb r a) (⟨j.val, hj⟩ : Fin 16)) fun c => ?_).trans ?_
    · match c with
      | ⟨0, _⟩ => show (tok1 nb r a).val = 0 + (tok1 nb r a).val * (0 + 1); omega
      | ⟨1, _⟩ => show j.val = 0 + j.val * (0 + 1); omega
    rw [val_main_v64_apply, val_main_v63_apply, val_main_v61_apply]
    have e1 : idx_main_v64 (ix2 (tok1 nb r a) (⟨j.val, hj⟩ : Fin 16)) = ix4 nb a r (⟨j.val, hj⟩ : Fin 16) := by
      funext c
      apply Fin.ext
      match c with
      | ⟨0, _⟩ => show (((nb.val * 128 + a.val) * 4 + r.val) * 16 + j.val) / 8192 = nb.val; omega
      | ⟨1, _⟩ => show (((nb.val * 128 + a.val) * 4 + r.val) * 16 + j.val) / 64 % 128 = a.val; omega
      | ⟨2, _⟩ => show (((nb.val * 128 + a.val) * 4 + r.val) * 16 + j.val) / 16 % 4 = r.val; omega
      | ⟨3, _⟩ => show (((nb.val * 128 + a.val) * 4 + r.val) * 16 + j.val) % 16 = j.val; omega
    have e2 : idx_main_v61 (idx_main_v63 (ix4 nb a r (⟨j.val, hj⟩ : Fin 16))) = ix5 nb r (⟨j.val, hj⟩ : Fin 16) a 0 := by
      funext c
      apply Fin.ext
      match c with
      | ⟨0, _⟩ => show (((nb.val * 4 + r.val) * 16 + j.val) * 128 + a.val) / 8192 = nb.val; omega
      | ⟨1, _⟩ => show (((nb.val * 4 + r.val) * 16 + j.val) * 128 + a.val) / 2048 % 4 = r.val; omega
      | ⟨2, _⟩ => show (((nb.val * 4 + r.val) * 16 + j.val) * 128 + a.val) / 128 % 16 = j.val; omega
      | ⟨3, _⟩ => show (((nb.val * 4 + r.val) * 16 + j.val) * 128 + a.val) / 1 % 128 = a.val; omega
      | ⟨4, _⟩ => rfl
    rw [e1, e2, val_main_v60_apply, val_main_v59_apply, val_main_v49_apply, val_main_v54_apply]
    have e3 : idx_main_v49 (ix5 nb r (⟨j.val, hj⟩ : Fin 16) a 0) = ix4 nb r (⟨j.val, hj⟩ : Fin 16) a := by
      funext c; match c with | ⟨0, _⟩ => rfl | ⟨1, _⟩ => rfl | ⟨2, _⟩ => rfl | ⟨3, _⟩ => rfl
    rw [e3, show idx_main_v54 (ix5 nb r (⟨j.val, hj⟩ : Fin 16) a 0) = _ from e3, max_apply, den_apply]
    rfl
  · next hj =>
    refine (pad_apply_of_not_inside _ _ _ _ _ _ _ _ (1 : Fin 2) fun hin => hj ?_).trans (zero_lanes _)
    have h3 : (j.val - 0) / (0 + 1) < 16 := hin.2.2
    omega

end Cert.Attn1RefIdeal.Own

end
-- ==== Proof.Attn1Point.lean ====
/-
  The middle group's windowed-attention kernel's two result arrays at an index, as the joint softmax of a query row over its
  window: the blocks the points read off the argument, the key and value block carried from the point before,
  and the two outputs of a point, all by row and entry of the argument array.
-/
module

public import proofs.«01_k».proof.Proof.Attn1Head
public import proofs.«01_k».proof.Proof.AttnPoint
public import proofs.«01_k».proof.Proof.Attn1Ref

@[expose] public section

set_option maxRecDepth 16384

noncomputable section

namespace Cert.Attn1Ideal.Own

open Cert.Attn2Ideal.Own (headOf at2 at2_head zero_bf16 masked_real dot_real)
open Cert.Attn1Ideal Cert.Attn1Ideal.Gen Cert.Attn1Ideal.Value Idealize.ShloMosaic Idealize.ShloMosaic.TcCoe Idealize.SL.Sem Idealize.ShloMosaic.ValueIdx Cert.Softmax
open Cert.Attn1RefIdeal.Own (part partPrev window scores rowMax rowDen tok1 col1)

variable (m : (ℓ : Loc nD τ sig) → Buf (Elt Ideal) ℓ)

/-- The argument array of device `c`. -/
abbrev arg (c : Dev nD) : Cert.Attn1RefIdeal.Own.Arg := m ((c : Thread nD τ).loc main_arg0)

/-- The array the launch reads is the argument, four tokens to a row. -/
theorem launched (c : Dev nD) : V m c main_v0 = shapeCast S2048x73728 (arg m c) shapeCasts_S8192x18432_S2048x73728 := rfl

theorem row_of_token (x : Cert.Attn1RefIdeal.Own.Arg) (n : Fin 2048) (r : Fin 4) (k : Fin 18432) (i : S2048x73728.Idx)
    (h0 : (i 0).val = n.val) (h1 : (i 1).val = r.val * 18432 + k.val) :
    shapeCast S2048x73728 x shapeCasts_S8192x18432_S2048x73728 i = x (ix2 (⟨n.val * 4 + r.val, by omega⟩ : Fin 8192) k) := by
  refine shapeCast_apply (s := S8192x18432) (t := S2048x73728) x _ _ _ ?_
  rw [Shape.rowMajor_val_two, Shape.rowMajor_val_two]
  show (n.val * 4 + r.val) * 18432 + k.val = (i 0).val * 73728 + (i 1).val
  rw [h0, h1]
  omega

theorem index_0 : ∀ t : Fin cfg0.N, win0_0.index t = ![t.val % 16, t.val / 16 * 9 + 3] :=
  (by decide +kernel : ∀ t : Fin grid0.N, win0_0.index t = ![t.val % 16, t.val / 16 * 9 + 3])
theorem index_1 : ∀ t : Fin cfg0.N, win0_1.index t = ![t.val % 16, t.val / 16 * 9 + 4] :=
  (by decide +kernel : ∀ t : Fin grid0.N, win0_1.index t = ![t.val % 16, t.val / 16 * 9 + 4])
theorem index_2 : ∀ t : Fin cfg0.N, win0_2.index t = ![t.val % 16, t.val / 16 * 9 + 5] :=
  (by decide +kernel : ∀ t : Fin grid0.N, win0_2.index t = ![t.val % 16, t.val / 16 * 9 + 5])
theorem coord_1 : ∀ t : Fin cfg0.N, (grid0.coords t 1).val = t.val % 16 :=
  (by decide +kernel : ∀ t : Fin grid0.N, (grid0.coords t 1).val = t.val % 16)

/-- A point's block of rows. -/
def nbOf (t : Fin cfg0.N) : Fin 16 := ⟨t.val % 16, by omega⟩
/-- A point's residue class. -/
def rOf (t : Fin cfg0.N) : Fin 4 := ⟨t.val / 16, by have := t.isLt; have : cfg0.N = 64 := N_0; omega⟩

/-- Window 0, 1 or 2 at a point: that point's block of queries, keys or values. -/
theorem block_0 (c : Dev nD) (t : Fin cfg0.N) (a : Fin 128) (h : Fin 16) (e : Fin 128) :
    (iblk m c 0 t : Vec Ideal S128x2048 .bf16) (ix2 a (⟨128 * h.val + e.val, by omega⟩ : Fin 2048)) = part (arg m c) 0 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col1 0 h e) _ ?_ ?_
  · show win0_0.index t 0 * 128 + 1 * a.val = t.val % 16 * 128 + a.val
    rw [index_0]; show t.val % 16 * 128 + 1 * a.val = _; omega
  · show win0_0.index t 1 * 2048 + 1 * (128 * h.val + e.val) = t.val / 16 * 18432 + (6144 + 0 * 2048 + h.val * 128 + e.val)
    rw [index_0]; show (t.val / 16 * 9 + 3) * 2048 + 1 * (128 * h.val + e.val) = _; omega

theorem block_1 (c : Dev nD) (t : Fin cfg0.N) (a : Fin 128) (h : Fin 16) (e : Fin 128) :
    (iblk m c 1 t : Vec Ideal S128x2048 .bf16) (ix2 a (⟨128 * h.val + e.val, by omega⟩ : Fin 2048)) = part (arg m c) 1 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col1 1 h e) _ ?_ ?_
  · show win0_1.index t 0 * 128 + 1 * a.val = t.val % 16 * 128 + a.val
    rw [index_1]; show t.val % 16 * 128 + 1 * a.val = _; omega
  · show win0_1.index t 1 * 2048 + 1 * (128 * h.val + e.val) = t.val / 16 * 18432 + (6144 + 1 * 2048 + h.val * 128 + e.val)
    rw [index_1]; show (t.val / 16 * 9 + 4) * 2048 + 1 * (128 * h.val + e.val) = _; omega

theorem block_2 (c : Dev nD) (t : Fin cfg0.N) (a : Fin 128) (h : Fin 16) (e : Fin 128) :
    (iblk m c 2 t : Vec Ideal S128x2048 .bf16) (ix2 a (⟨128 * h.val + e.val, by omega⟩ : Fin 2048)) = part (arg m c) 2 (nbOf t) (rOf t) h a e := by
  unfold iblk
  rw [View.read_apply]
  show V m c main_v0 _ = _
  rw [launched]
  refine row_of_token (arg m c) ⟨(nbOf t).val * 128 + a.val, by have := (nbOf t).isLt; omega⟩ (rOf t) (col1 2 h e) _ ?_ ?_
  · show win0_2.index t 0 * 128 + 1 * a.val = t.val % 16 * 128 + a.val
    rw [index_2]; show t.val % 16 * 128 + 1 * a.val = _; omega
  · show win0_2.index t 1 * 2048 + 1 * (128 * h.val + e.val) = t.val / 16 * 18432 + (6144 + 2 * 2048 + h.val * 128 + e.val)
    rw [index_2]; show (t.val / 16 * 9 + 5) * 2048 + 1 * (128 * h.val + e.val) = _; omega

/-- The key and value block the point finds carried. -/
def carried (c : Dev nD) (t : Fin cfg0.N) (j : Fin 2) : Vec Ideal S128x2048 .bf16 :=
  if t.val % 16 = 0 then (if j = 0 then k0_pay2 (F := Ideal) else k0_pay3 (F := Ideal))
  else if j = 0 then (outsAt0 m c (t.val - 1) (Nat.lt_of_le_of_lt (Nat.sub_le _ _) t.isLt)).2.2.1
  else (outsAt0 m c (t.val - 1) (Nat.lt_of_le_of_lt (Nat.sub_le _ _) t.isLt)).2.2.2

theorem outO (c : Dev nD) (t : Fin cfg0.N) :
    (outsAt0 m c t.val t.isLt).1
      = View.canon (piecesO (grid0.coords t) (iblk m c 0 t) (iblk m c 1 t) (iblk m c 2 t) (carried m c t 0) (carried m c t 1)) := by
  unfold carried
  by_cases h0 : t.val % 16 = 0
  · rw [outO_A m c t h0, if_pos h0, if_pos h0]; rfl
  · rw [outO_B m c t h0, if_neg h0, if_neg h0]; rfl

theorem outL (c : Dev nD) (t : Fin cfg0.N) :
    (outsAt0 m c t.val t.isLt).2.1 = blockL (grid0.coords t) (iblk m c 0 t) (iblk m c 1 t) (carried m c t 0) := by
  unfold carried
  by_cases h0 : t.val % 16 = 0
  · rw [outL_A m c t h0, if_pos h0]; rfl
  · rw [outL_B m c t h0, if_neg h0]; rfl

theorem scrK (c : Dev nD) (t : Fin cfg0.N) : (outsAt0 m c t.val t.isLt).2.2.1 = iblk m c 1 t := by
  by_cases h0 : t.val % 16 = 0
  · exact scrK_A m c t h0
  · exact scrK_B m c t h0

theorem scrV (c : Dev nD) (t : Fin cfg0.N) : (outsAt0 m c t.val t.isLt).2.2.2 = iblk m c 2 t := by
  by_cases h0 : t.val % 16 = 0
  · exact scrV_A m c t h0
  · exact scrV_B m c t h0

/-- The carried key and value tiles are the previous block's, all zero before the first block. -/
theorem carried_K (c : Dev nD) (t : Fin cfg0.N) (h : Fin 16) :
    at2 (headOf (carried m c t 0) h) = partPrev (arg m c) 1 (nbOf t) (rOf t) h := by
  funext a e
  rw [at2_head]
  unfold carried partPrev prevOf
  by_cases h0 : t.val % 16 = 0
  · rw [if_pos h0, if_pos rfl, if_neg (by show ¬ 0 < t.val % 16; omega)]
    unfold k0_pay2
    rw [shapeCast_self]
    exact zero_bf16
  · rw [if_neg h0, if_pos rfl, if_pos (by show 0 < t.val % 16; omega)]
    refine (congrFun (scrK m c ⟨t.val - 1, Nat.lt_of_le_of_lt (Nat.sub_le _ _) t.isLt⟩) _).trans ?_
    rw [block_1]
    have e1 : nbOf ⟨t.val - 1, Nat.lt_of_le_of_lt (Nat.sub_le _ _) t.isLt⟩ = (⟨(nbOf t).val - 1, by have := (nbOf t).isLt; omega⟩ : Fin 16) :=
      Fin.ext (by show (t.val - 1) % 16 = t.val % 16 - 1; omega)
    have e2 : rOf ⟨t.val - 1, Nat.lt_of_le_of_lt (Nat.sub_le _ _) t.isLt⟩ = rOf t :=
      Fin.ext (by show (t.val - 1) / 16 = t.val / 16; omega)
    rw [e1, e2]

theorem carried_V (c : Dev nD) (t : Fin cfg0.N) (h : Fin 16) :
    at2 (headOf (carried m c t 1) h) = partPrev (arg m c) 2 (nbOf t) (rOf t) h := by
  funext a e
  rw [at2_head]
  unfold carried partPrev prevOf
  by_cases h0 : t.val % 16 = 0
  · rw [if_pos h0, if_neg (by decide), if_neg (by show ¬ 0 < t.val % 16; omega)]
    unfold k0_pay3
    rw [shapeCast_self]
    exact zero_bf16
  · rw [if_neg h0, if_neg (by decide), if_pos (by show 0 < t.val % 16; omega)]
    refine (congrFun (scrV m c ⟨t.val - 1, Nat.lt_of_le_of_lt (Nat.sub_le _ _) t.isLt⟩) _).trans ?_
    rw [block_2]
    have e1 : nbOf ⟨t.val - 1, Nat.lt_of_le_of_lt (Nat.sub_le _ _) t.isLt⟩ = (⟨(nbOf t).val - 1, by have := (nbOf t).isLt; omega⟩ : Fin 16) :=
      Fin.ext (by show (t.val - 1) % 16 = t.val % 16 - 1; omega)
    have e2 : rOf ⟨t.val - 1, Nat.lt_of_le_of_lt (Nat.sub_le _ _) t.isLt⟩ = rOf t :=
      Fin.ext (by show (t.val - 1) / 16 = t.val / 16; omega)
    rw [e1, e2]

theorem tile_0 (c : Dev nD) (t : Fin cfg0.N) (h : Fin 16) : at2 (headOf (iblk m c 0 t) h) = part (arg m c) 0 (nbOf t) (rOf t) h := by
  funext a e; rw [at2_head, block_0]
theorem tile_1 (c : Dev nD) (t : Fin cfg0.N) (h : Fin 16) : at2 (headOf (iblk m c 1 t) h) = part (arg m c) 1 (nbOf t) (rOf t) h := by
  funext a e; rw [at2_head, block_1]
theorem tile_2 (c : Dev nD) (t : Fin cfg0.N) (h : Fin 16) : at2 (headOf (iblk m c 2 t) h) = part (arg m c) 2 (nbOf t) (rOf t) h := by
  funext a e; rw [at2_head, block_2]

/-- Every query and key of the group is a real number. -/
def Finite (x : Cert.Attn1RefIdeal.Own.Arg) : Prop :=
  ∀ (j : Fin 3) (n : Fin 8192) (h : Fin 16) (e : Fin 128), j.val < 2 → ∃ v : ℝ, x (ix2 n (col1 j h e)) = (v : EReal)

theorem part_real (x : Cert.Attn1RefIdeal.Own.Arg) (hx : Finite x) (j : Fin 3) (hj : j.val < 2) (nb : Fin 16) (r : Fin 4) (h : Fin 16) (a e : Fin 128) :
    ∃ v : ℝ, part x j nb r h a e = (v : EReal) := hx j (tok1 nb r a) h e hj

theorem own_real (x : Cert.Attn1RefIdeal.Own.Arg) (hx : Finite x) (nb : Fin 16) (r : Fin 4) (h : Fin 16) (a j : Fin 128) :
    ∃ v : ℝ, sOwn (part x 0 nb r h) (part x 1 nb r h) a j = (v : EReal) := by
  unfold sOwn
  split
  · exact dot_real _ _ (part_real x hx 0 (by decide) nb r h a) (part_real x hx 1 (by decide) nb r h j)
  · exact masked_real

theorem prev_real (x : Cert.Attn1RefIdeal.Own.Arg) (hx : Finite x) (nb : Fin 16) (r : Fin 4) (h : Fin 16) (a j : Fin 128) :
    ∃ v : ℝ, sPrev nb.val (part x 0 nb r h) (partPrev x 1 nb r h) a j = (v : EReal) := by
  unfold sPrev
  split
  · next hc =>
    refine dot_real _ _ (part_real x hx 0 (by decide) nb r h a) fun e => ?_
    unfold partPrev prevOf
    rw [if_pos hc.2]
    exact part_real x hx 1 (by decide) _ r h j e
  · exact masked_real

theorem mx_eq (x : Cert.Attn1RefIdeal.Own.Arg) (nb : Fin 16) (r : Fin 4) (h : Fin 16) (a : Fin 128) :
    mx nb.val (part x 0 nb r h) (part x 1 nb r h) (partPrev x 1 nb r h) a = rowMax x nb r h a := by
  unfold mx rowMax scores
  rw [max_join]

theorem den_eq (x : Cert.Attn1RefIdeal.Own.Arg) (nb : Fin 16) (r : Fin 4) (h : Fin 16) (a : Fin 128) :
    den nb.val (part x 0 nb r h) (part x 1 nb r h) (partPrev x 1 nb r h) a = rowDen x nb r h a := by
  unfold den rowDen scores
  rw [mx_eq, den_join]

/-- **The attention output of a point**: entry `e` of head `h` of row `a` is the softmax-weighted sum over the window. -/
theorem pointO (c : Dev nD) (t : Fin cfg0.N) (hx : Finite (arg m c)) (a : Fin 128) (h : Fin 16) (e : Fin 128) :
    (outsAt0 m c t.val t.isLt).1 (ix2 a (⟨128 * h.val + e.val, by omega⟩ : Fin 2048))
      = ∑ k : Fin 256, window (arg m c) 2 (nbOf t) (rOf t) h k e
          * Ideal.div (Ideal.exp (scores (arg m c) (nbOf t) (rOf t) h a k - rowMax (arg m c) (nbOf t) (rOf t) h a)) (rowDen (arg m c) (nbOf t) (rOf t) h a) := by
  rw [outO, blockO_at, tile_0, tile_1, tile_2, carried_K, carried_V, coord_1]
  refine (blockwise _ _ (fun j => part (arg m c) 2 (nbOf t) (rOf t) h j e) (fun j => partPrev (arg m c) 2 (nbOf t) (rOf t) h j e)
    (own_real (arg m c) hx (nbOf t) (rOf t) h a) (prev_real (arg m c) hx (nbOf t) (rOf t) h a)).trans ?_
  rfl

/-- **The log-sum-exp output of a point**: lane `h < 16` holds head `h`'s, every later lane zero. -/
theorem pointL (c : Dev nD) (t : Fin cfg0.N) (a j : Fin 128) :
    (outsAt0 m c t.val t.isLt).2.1 (ix2 a j)
      = if hj : j.val < 16 then rowMax (arg m c) (nbOf t) (rOf t) ⟨j.val, hj⟩ a + Ideal.log (rowDen (arg m c) (nbOf t) (rOf t) ⟨j.val, hj⟩ a)
        else (0 : EReal) := by
  rw [outL, blockL_at]
  split
  · next hj =>
    rw [tile_0, tile_1, carried_K, coord_1]
    exact congrArg₂ (fun x y : EReal => x + Ideal.log y) (mx_eq _ _ _ _ _) (den_eq _ _ _ _ _)
  · rfl

/-- **The first result array** at a row and an entry. -/
theorem result_o (c : Dev nD) (hx : Finite (arg m c)) (nb : Fin 16) (a : Fin 128) (r : Fin 4) (h : Fin 16) (e : Fin 128) :
    G3 m c (ix2 (⟨nb.val * 128 + a.val, by omega⟩ : Fin 2048) (⟨r.val * 2048 + h.val * 128 + e.val, by omega⟩ : Fin 8192))
      = ∑ k : Fin 256, window (arg m c) 2 nb r h k e
          * Ideal.div (Ideal.exp (scores (arg m c) nb r h a k - rowMax (arg m c) nb r h a)) (rowDen (arg m c) nb r h a) := by
  have hN : cfg0.N = 64 := N_0
  have hlt : r.val * 16 + nb.val < cfg0.N := by omega
  have hp : pt3Of (ix2 (⟨nb.val * 128 + a.val, by omega⟩ : Fin 2048) (⟨r.val * 2048 + h.val * 128 + e.val, by omega⟩ : Fin 8192)) = r.val * 16 + nb.val := by
    show 1 * ((nb.val * 128 + a.val) / 128 - 0) + 16 * ((r.val * 2048 + h.val * 128 + e.val) / 2048 - 0) = _
    omega
  have hl : loc3Of (ix2 (⟨nb.val * 128 + a.val, by omega⟩ : Fin 2048) (⟨r.val * 2048 + h.val * 128 + e.val, by omega⟩ : Fin 8192))
      = ix2 a (⟨128 * h.val + e.val, by omega⟩ : Fin 2048) := by
    funext k
    apply Fin.ext
    match k with
    | ⟨0, _⟩ => show (nb.val * 128 + a.val) % 128 = a.val; omega
    | ⟨1, _⟩ => show (r.val * 2048 + h.val * 128 + e.val) % 2048 = 128 * h.val + e.val; omega
  unfold G3
  simp only [hp, hl]
  rw [dif_pos hlt, ← outsAt0_sweep m c _ hlt]
  have e1 : nbOf ⟨r.val * 16 + nb.val, hlt⟩ = nb := Fin.ext (by show (r.val * 16 + nb.val) % 16 = nb.val; omega)
  have e2 : rOf ⟨r.val * 16 + nb.val, hlt⟩ = r := Fin.ext (by show (r.val * 16 + nb.val) / 16 = r.val; omega)
  have key := pointO m c ⟨r.val * 16 + nb.val, hlt⟩ hx a h e
  rw [e1, e2] at key
  exact key

/-- **The second result array** at a row and a lane. -/
theorem result_l (c : Dev nD) (nb : Fin 16) (a : Fin 128) (r : Fin 4) (j : Fin 128) :
    G4 m c (ix2 (⟨nb.val * 128 + a.val, by omega⟩ : Fin 2048) (⟨r.val * 128 + j.val, by omega⟩ : Fin 512))
      = if hj : j.val < 16 then rowMax (arg m c) nb r ⟨j.val, hj⟩ a + Ideal.log (rowDen (arg m c) nb r ⟨j.val, hj⟩ a) else (0 : EReal) := by
  have hN : cfg0.N = 64 := N_0
  have hlt : r.val * 16 + nb.val < cfg0.N := by omega
  have hp : pt4Of (ix2 (⟨nb.val * 128 + a.val, by omega⟩ : Fin 2048) (⟨r.val * 128 + j.val, by omega⟩ : Fin 512)) = r.val * 16 + nb.val := by
    show 1 * ((nb.val * 128 + a.val) / 128 - 0) + 16 * ((r.val * 128 + j.val) / 128 - 0) = _
    omega
  have hl : loc4Of (ix2 (⟨nb.val * 128 + a.val, by omega⟩ : Fin 2048) (⟨r.val * 128 + j.val, by omega⟩ : Fin 512)) = ix2 a j := by
    funext k
    apply Fin.ext
    match k with
    | ⟨0, _⟩ => show (nb.val * 128 + a.val) % 128 = a.val; omega
    | ⟨1, _⟩ => show (r.val * 128 + j.val) % 128 = j.val; omega
  unfold G4
  simp only [hp, hl]
  rw [dif_pos hlt, ← outsAt0_sweep m c _ hlt]
  have e1 : nbOf ⟨r.val * 16 + nb.val, hlt⟩ = nb := Fin.ext (by show (r.val * 16 + nb.val) % 16 = nb.val; omega)
  have e2 : rOf ⟨r.val * 16 + nb.val, hlt⟩ = r := Fin.ext (by show (r.val * 16 + nb.val) / 16 = r.val; omega)
  have key := pointL m c ⟨r.val * 16 + nb.val, hlt⟩ a j
  rw [e1, e2] at key
  exact key

end Cert.Attn1Ideal.Own

end
-- ==== Proof.Attn1.lean ====
/-
  The claims about the middle group's windowed attention: the kernel's frames, the reference's frame, and the equality of their
  results over the extended reals for finite queries and keys.
-/
module

public import proofs.«01_k».proof.Defs
public import proofs.«01_k».proof.Proof.Attn
public import proofs.«01_k».proof.Proof.Attn1Point
public import proofs.«01_k».proof.Proof.Gen.Attn1
public import proofs.«01_k».proof.Proof.Gen.Attn1.Frame
public import proofs.«01_k».proof.Proof.Gen.Attn1Ideal
public import proofs.«01_k».proof.Proof.Gen.Attn1RefIdeal
public import proofs.«01_k».proof.Proof.Gen.Pre_finite_qk_g1
public import Idealize.ShloMosaic.Lib.ReduceAll
public import Idealize.ShloMosaic.Lib.Quiescent

@[expose] public section

set_option maxRecDepth 16384

noncomputable section

namespace Cert.Proof.Attn1

open Cert.Attn1RefIdeal.Own (col1)
open Cert.Proof.Attn (real_of_abs_lt infinity_eq_top)
open Idealize.ShloMosaic Idealize.ShloMosaic.TcCoe Idealize.SL.Sem Idealize.ShloMosaic.ValueIdx Cert.Softmax

/-- The stated predicate says that every query and key of the group is a real number. -/
theorem finite_of_pre (x : Cert.Attn1RefIdeal.Own.Arg) (h : Cert.Pre_finite_qk_g1.fn (F := Ideal) x = fun _ => 1#1) :
    Cert.Attn1Ideal.Own.Finite x := by
  intro j n hd e hj
  have h0 := congrFun h (fun a => a.elim0)
  unfold Cert.Pre_finite_qk_g1.fn at h0
  dsimp only at h0
  haveI : Subsingleton Cert.Pre_finite_qk_g1.S_.Idx := ⟨fun a b => funext fun k => k.elim0⟩
  have h1 := Host.reduce_andi_all _ _ _ _ _ h0 (ix2 n (⟨j.val * 2048 + hd.val * 128 + e.val, by omega⟩ : Fin 4096))
  have h2 : Ideal.cmp .olt (max (x (ix2 n (col1 j hd e))) (-(x (ix2 n (col1 j hd e))))) (Ideal.ofBits .f32 0x7F800000#32) = 1#1 := by
    refine Eq.trans ?_ h1
    refine congrArg (fun v : EReal => Ideal.cmp .olt (max v (-v)) (Ideal.ofBits .f32 0x7F800000#32)) ?_
    refine congrArg x (funext fun k => Fin.ext ?_)
    match k with
    | ⟨0, _⟩ => show n.val = 0 + n.val; omega
    | ⟨1, _⟩ => show 6144 + j.val * 2048 + hd.val * 128 + e.val = 6144 + (j.val * 2048 + hd.val * 128 + e.val); omega
  rw [infinity_eq_top] at h2
  refine real_of_abs_lt _ ?_
  by_contra hc
  rw [show Ideal.cmp .olt (max (x (ix2 n (col1 j hd e))) (-(x (ix2 n (col1 j hd e))))) (⊤ : EReal) = 0#1 from by
    show BitVec.ofBool (decide (_ < _)) = _
    rw [decide_eq_false hc]; rfl] at h2
  exact absurd h2 (by decide)

/-- The two programs' first results agree, index by index. -/
theorem results_o (m : (ℓ : Loc Cert.Attn1Ideal.nD Cert.Attn1Ideal.τ Cert.Attn1Ideal.sig) → Buf (Elt Ideal) ℓ) (c : Dev Cert.Attn1Ideal.nD)
    (hx : Cert.Attn1Ideal.Own.Finite (Cert.Attn1Ideal.Own.arg m c)) :
    Cert.Attn1RefIdeal.Read.val_main_v65 (F := Ideal) (Cert.Attn1Ideal.Own.arg m c) = Cert.Attn1Ideal.Value.G3 m c := by
  funext i
  have i0 : (i 0).val < 2048 := (i 0).isLt
  have i1 : (i 1).val < 8192 := (i 1).isLt
  have ei : i = ix2 (⟨(⟨(i 0).val / 128, by omega⟩ : Fin 16).val * 128 + (⟨(i 0).val % 128, by omega⟩ : Fin 128).val, by omega⟩ : Fin 2048)
      (⟨(⟨(i 1).val / 2048, by omega⟩ : Fin 4).val * 2048 + (⟨(i 1).val / 128 % 16, by omega⟩ : Fin 16).val * 128
        + (⟨(i 1).val % 128, by omega⟩ : Fin 128).val, by dsimp only; omega⟩ : Fin 8192) := by
    funext k
    apply Fin.ext
    match k with
    | ⟨0, _⟩ => show (i 0).val = (i 0).val / 128 * 128 + (i 0).val % 128; omega
    | ⟨1, _⟩ => show (i 1).val = (i 1).val / 2048 * 2048 + (i 1).val / 128 % 16 * 128 + (i 1).val % 128; omega
  rw [ei]
  exact (Cert.Attn1RefIdeal.Own.out_apply _ _ _ _ _ _).trans (Cert.Attn1Ideal.Own.result_o m c hx _ _ _ _ _).symm

/-- The two programs' second results agree, index by index. -/
theorem results_l (m : (ℓ : Loc Cert.Attn1Ideal.nD Cert.Attn1Ideal.τ Cert.Attn1Ideal.sig) → Buf (Elt Ideal) ℓ) (c : Dev Cert.Attn1Ideal.nD) :
    Cert.Attn1RefIdeal.Read.val_main_v67 (F := Ideal) (Cert.Attn1Ideal.Own.arg m c) = Cert.Attn1Ideal.Value.G4 m c := by
  funext i
  have i0 : (i 0).val < 2048 := (i 0).isLt
  have i1 : (i 1).val < 512 := (i 1).isLt
  have ei : i = ix2 (⟨(⟨(i 0).val / 128, by omega⟩ : Fin 16).val * 128 + (⟨(i 0).val % 128, by omega⟩ : Fin 128).val, by omega⟩ : Fin 2048)
      (⟨(⟨(i 1).val / 128, by omega⟩ : Fin 4).val * 128 + (⟨(i 1).val % 128, by omega⟩ : Fin 128).val, by dsimp only; omega⟩ : Fin 512) := by
    funext k
    apply Fin.ext
    match k with
    | ⟨0, _⟩ => show (i 0).val = (i 0).val / 128 * 128 + (i 0).val % 128; omega
    | ⟨1, _⟩ => show (i 1).val = (i 1).val / 128 * 128 + (i 1).val % 128; omega
  rw [ei]
  exact (Cert.Attn1RefIdeal.Own.lse_apply _ _ _ _ _).trans (Cert.Attn1Ideal.Own.result_l m c _ _ _ _).symm

theorem frame_p : Cert.quiescent_Attn1 := fun m ρ _ => Cert.Attn1.Gen.frame m ρ
theorem frame_pi : Cert.quiescent_Attn1Ideal := fun m ρ _ => Cert.Attn1Ideal.Gen.frame m ρ
theorem frame_pi_pre : Cert.quiescent_Attn1Ideal_pre_finite_qk_g1 := fun m ρ _ => Cert.Attn1Ideal.Gen.frame m ρ

theorem frame_ref (m : (ℓ : Loc Cert.Attn1RefIdeal.nD Cert.Attn1RefIdeal.τ Cert.Attn1RefIdeal.sig) → Buf (Elt Ideal) ℓ) (ρ : Dev Cert.Attn1RefIdeal.nD → PrngReg) :
    θ_run (Cert.Attn1RefIdeal.defs (F := Ideal)) (onTc (τ := Cert.Attn1RefIdeal.τ) (Cert.Attn1RefIdeal.main (F := Ideal))) ⟨m, fun _ => 0, ρ⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0))
      ∧ r.2.sem = fun _ => 0) :=
  (θ_run Cert.Attn1RefIdeal.defs _ _).mono
    (fun r h => ⟨fun c => (h c).2.2, Idealize.ShloMosaic.sem_eq_zero_of_no_sems (by decide) r.2⟩)
    (Cert.Attn1RefIdeal.Value.run (F := Ideal) m ρ)

theorem frame_ri : Cert.quiescent_Attn1RefIdeal := fun m ρ _ => frame_ref m ρ
theorem frame_ri_pre : Cert.quiescent_Attn1RefIdeal_pre_finite_qk_g1 := fun m ρ _ => frame_ref m ρ

theorem preserves : Cert.preserves_Attn1_Attn1Ideal := trivial

/-- **The kernel and the reference end with equal results** from equal arguments whose queries and keys are finite. -/
theorem algebraic : Cert.algebraic_Attn1Ideal_Attn1RefIdeal_pre_finite_qk_g1 := fun m ρ m' ρ' hpre hag =>
  ⟨fun c => Cert.Attn1Ideal.Value.G3 m c, fun c => Cert.Attn1Ideal.Value.G4 m c, Cert.Attn1Ideal.Value.run m ρ,
    (θ_run Cert.Attn1RefIdeal.defs _ _).mono
      (fun r h c => by
        refine ⟨(h c).1.trans ?_, (h c).2.1.trans ?_, (h c).2.2⟩
        · rw [Cert.Attn1RefIdeal.Read.val_main_v65_eq, hag c]
          exact results_o m c (finite_of_pre _ (hpre c))
        · rw [Cert.Attn1RefIdeal.Read.val_main_v67_eq, hag c]
          exact results_l m c)
      (Cert.Attn1RefIdeal.Value.run (F := Ideal) m' ρ')⟩

end Cert.Proof.Attn1

end
-- ==== Proof.Attn0Block.lean ====
/-
  What one grid point of the first group's windowed-attention kernel leaves in its two output blocks and in the two carried
  scratch arrays, as functions of the point's query, key and value blocks and of the previous point's key and
  value blocks: every head's tile is one function `headO` of the head's columns, and the lane-packed log-sum-exp
  block holds head `h`'s column in lane `h`.
-/
module

public import proofs.«01_k».proof.Proof.AttnHead
public import proofs.«01_k».proof.Proof.Gen.Attn0Ideal.Value
public import Idealize.ShloMosaic.Lib.Pipeline.ReadBack

@[expose] public section

set_option maxRecDepth 16384

noncomputable section

namespace Cert.Attn0Ideal.Own

open Cert.Attn2Ideal.Own (headRect headOf laneStep heads headsRev zero2 zero2' zeroAt)
open Cert.Attn0Ideal Cert.Attn0Ideal.Gen Idealize.ShloMosaic Idealize.ShloMosaic.TcCoe Idealize.SL.Sem

variable {F : FTy → Type} [FloatOps F]
variable (m : (ℓ : Loc nD τ sig) → Buf (Elt F) ℓ)

/-- One head's attention over its own key block and the previous one, as the kernel computes it. -/
def headO (i : grid0.Coords) (q k kp v vp : Vec F S128x128 .bf16) : FVec F S128x128 .f32 :=
  k0_pay15 (k0_pay12 i q k kp) (k0_pay13 i q k kp) (k0_pay14 i q k kp) v vp

/-- One head's log-sum-exp column: the maximum plus the logarithm of the denominator. -/
def headL (i : grid0.Coords) (q k kp : Vec F S128x128 .bf16) : FVec F S128x1 .f32 :=
  addf (k0_pay10 i q k kp) (log (k0_pay13 i q k kp))

/-- The attention block as the pieces its sixteen stores write. -/
def piecesO (i : grid0.Coords) (q k v kp vp : Vec F S128x2048 .bf16) : List (View.Piece (Elt F) S128x2048 .f32) :=
  headsRev.map fun h => ⟨headRect h, headO i (headOf q h) (headOf k h) (headOf kp h) (headOf v h) (headOf vp h)⟩

/-- The lane-packed log-sum-exp block. -/
def blockL (i : grid0.Coords) (q k kp : Vec F S128x2048 .bf16) : FVec F S128x128 .f32 :=
  heads.foldl (laneStep fun h => headL i (headOf q h) (headOf k h) (headOf kp h)) k0_pay7

/-- The attention block a first point of a residue class leaves: the previous block is the zeros it stored. -/
theorem outO_A (c : Dev nD) (t : Fin cfg0.N) (h0 : t.val % 64 = 0) :
    (outsAt0 m c t.val t.isLt).1
      = View.canon (piecesO (grid0.coords t) (iblk m c 0 t) (iblk m c 1 t) (iblk m c 2 t) k0_pay3 k0_pay4) := by
  rw [outsAt0_A m c t h0]
  dsimp only
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  refine congrArg View.canon ?_
  unfold piecesO
  simp only [List.map_cons, List.map_nil]
  repeat (refine congrArg₂ List.cons ?_ ?_; · rfl)
  rfl

/-- The attention block a later point leaves: the previous block is what the scratch carries. -/
theorem outO_B (c : Dev nD) (t : Fin cfg0.N) (h0 : ¬t.val % 64 = 0) :
    (outsAt0 m c t.val t.isLt).1
      = View.canon (piecesO (grid0.coords t) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_B m c t h0]
  dsimp only
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  refine congrArg View.canon ?_
  unfold piecesO
  simp only [List.map_cons, List.map_nil]
  repeat (refine congrArg₂ List.cons ?_ ?_; · rfl)
  rfl

/-- The log-sum-exp block a first point leaves. -/
theorem outL_A (c : Dev nD) (t : Fin cfg0.N) (h0 : t.val % 64 = 0) :
    (outsAt0 m c t.val t.isLt).2.1
      = blockL (grid0.coords t) (iblk m c 0 t) (iblk m c 1 t) k0_pay3 := by
  rw [outsAt0_A m c t h0]
  dsimp only
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_unit_zero zero2']
  rfl

/-- The log-sum-exp block a later point leaves. -/
theorem outL_B (c : Dev nD) (t : Fin cfg0.N) (h0 : ¬t.val % 64 = 0) :
    (outsAt0 m c t.val t.isLt).2.1
      = blockL (grid0.coords t) (iblk m c 0 t) (iblk m c 1 t) (outsAt0 m c (t.val - 1) (Nat.lt_of_le_of_lt (Nat.sub_le _ _) t.isLt)).2.2.1 := by
  rw [outsAt0_B m c t h0]
  dsimp only
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_unit_zero zero2']
  rfl

/-- A first point leaves its key block in the first scratch array. -/
theorem scrK_A (c : Dev nD) (t : Fin cfg0.N) (h0 : t.val % 64 = 0) :
    (outsAt0 m c t.val t.isLt).2.2.1
      = iblk m c 1 t := by
  rw [outsAt0_A m c t h0]
  dsimp only
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay1
  dsimp only
  simp only [shapeCast_self]
  exact View.ld_unit_zero (S := S128x2048) zero2 _ _

/-- A first point leaves its value block in the second scratch array. -/
theorem scrV_A (c : Dev nD) (t : Fin cfg0.N) (h0 : t.val % 64 = 0) :
    (outsAt0 m c t.val t.isLt).2.2.2
      = iblk m c 2 t := by
  rw [outsAt0_A m c t h0]
  dsimp only
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))]
  unfold kernelRun0_A
  dsimp only
  sl_unfold_words
  try simp only [View.readAt_eq_ld, (hs0_0 t).read_unread, (hs0_1 t).read_unread, (hs0_2 t).read_unread, (Memref.isWhole_whole _).read_unread, View.readCov_fill (s := S128x2048) _ _ _ _ _ zeroAt]
  rw [View.canon_cons_unit_zero zero2]
  unfold k0_pay2
  dsimp only
  simp only [shapeCast_self]
  exact View.ld_unit_zero (S := S128x2048) zero2 _ _

/-- A later point leaves its key block in the first scratch array. -/
theorem scrK_B (c : Dev nD) (t : Fin cfg0.N) (h0 : ¬t.val % 64 = 0) :
    (outsAt0 m c t.val t.isLt).2.2.1
      = iblk m c 1 t := by
  rw [outsAt0_B m c t h0]
  dsimp only
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay1
  dsimp only
  simp only [shapeCast_self]
  exact View.ld_unit_zero (S := S128x2048) zero2 _ _

/-- A later point leaves its value block in the second scratch array. -/
theorem scrV_B (c : Dev nD) (t : Fin cfg0.N) (h0 : ¬t.val % 64 = 0) :
    (outsAt0 m c t.val t.isLt).2.2.2
      = iblk m c 2 t := by
  rw [outsAt0_B m c t h0]
  dsimp only
  unfold sout0_B_1
  rw [View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  try simp only [View.readAt_eq_ld, (hs0_0 t).read_unread, (hs0_1 t).read_unread, (hs0_2 t).read_unread, (Memref.isWhole_whole _).read_unread]
  rw [View.canon_cons_unit_zero zero2]
  unfold k0_pay2
  dsimp only
  simp only [shapeCast_self]
  exact View.ld_unit_zero (S := S128x2048) zero2 _ _

end Cert.Attn0Ideal.Own

end
-- ==== Proof.Attn0Head.lean ====
/-
  The kernel body of the first group's windowed attention is the last group's: it reads its grid point only
  through the question whether the point is a residue class's first.
-/
module

public import proofs.«01_k».proof.Proof.Attn0Block

@[expose] public section

set_option maxRecDepth 16384

noncomputable section

namespace Cert.Attn0Ideal.Own

open Cert.Attn2Ideal.Own (headRect headOf at2 headO_apply headL_apply blockO_apply blockL_apply)
open Cert.Attn0Ideal Cert.Attn0Ideal.Gen Idealize.ShloMosaic Idealize.ShloMosaic.TcCoe Idealize.SL.Sem Idealize.ShloMosaic.ValueIdx Cert.Softmax

/-- The point of the last group's grid that is first in its class exactly when `i` is. -/
def like (i : grid0.Coords) : Cert.Attn2Ideal.grid0.Coords := fun a => match a with
  | ⟨0, _⟩ => (0 : Fin 16)
  | ⟨1, _⟩ => if 0 < (i 1).val then (1 : Fin 4) else (0 : Fin 4)

theorem like_pos (i : grid0.Coords) : 0 < (like i 1).val ↔ 0 < (i 1).val := by
  show 0 < (if 0 < (i 1).val then (1 : Fin 4) else (0 : Fin 4)).val ↔ _
  by_cases h : 0 < (i 1).val
  · rw [if_pos h]; exact ⟨fun _ => h, fun _ => by decide⟩
  · rw [if_neg h]; exact ⟨fun g => absurd g (by decide), fun g => absurd g h⟩

/-- The mask of the previous block depends on the point only through that question. -/
theorem prev_mask_like (i : grid0.Coords) : k0_pay6 i = Cert.Attn2Ideal.Gen.k0_pay5 (like i) := by
  funext y
  refine (?_ : k0_pay6 i y = BitVec.ofBool (decide ((y 0).val ≤ (y 1).val ∧ 0 < (i 1).val))).trans ?_
  · unfold k0_pay6
    show IntOp.andi (IntOp.cmpi .sge (BitVec.ofNat 32 (0 * 128 + (y 1).val)) (BitVec.ofNat 32 (0 * 128 + (y 0).val)))
      (IntOp.cmpi .sgt (BitVec.ofNat 32 (i 1).val) (BitVec.ofNat 32 0)) = _
    have h0 : (y 0).val < 128 := (y 0).isLt
    have h1 : (y 1).val < 128 := (y 1).isLt
    have hi : (i 1).val < 64 := (i 1).isLt
    rw [Nat.zero_mul, Nat.zero_add, Nat.zero_add, WordCmp.cmpi_sge_ofNat (by omega) (by omega), WordCmp.cmpi_sgt_ofNat (by omega) (by omega)]
    rw [Bool.decide_and]
    generalize decide ((y 0).val ≤ (y 1).val) = u
    generalize decide (0 < (i 1).val) = w
    cases u <;> cases w <;> rfl
  · refine Eq.trans ?_ ((congrArg _ (eq_ix2 y)).trans (Cert.Attn2Ideal.Own.prev_mask (like i) (y 0 : Fin 128) (y 1 : Fin 128))).symm
    exact congrArg BitVec.ofBool (decide_eq_decide.mpr (and_congr_right fun _ => (like_pos i).symm))

theorem own_mask_like : k0_pay5 = Cert.Attn2Ideal.Gen.k0_pay4 := rfl

theorem own_scores_like (q k : Vec Ideal S128x128 .bf16) : k0_pay8 q k = Cert.Attn2Ideal.Gen.k0_pay8 (F := Ideal) q k := by
  unfold Cert.Attn2Ideal.Gen.k0_pay8 Cert.Attn2Ideal.Gen.k0_pay7
  simp only [shapeCast_self]
  rfl

theorem prev_scores_like (i : grid0.Coords) (q k : Vec Ideal S128x128 .bf16) : k0_pay9 i q k = Cert.Attn2Ideal.Gen.k0_pay9 (F := Ideal) (like i) q k := by
  unfold k0_pay9 Cert.Attn2Ideal.Gen.k0_pay9 Cert.Attn2Ideal.Gen.k0_pay7
  rw [prev_mask_like]
  simp only [shapeCast_self]
  rfl

theorem max_like (i : grid0.Coords) (q k kp : Vec Ideal S128x128 .bf16) : k0_pay10 i q k kp = Cert.Attn2Ideal.Gen.k0_pay10 (F := Ideal) (like i) q k kp := by
  unfold k0_pay10
  rw [own_scores_like, prev_scores_like]
  rfl

theorem exp_own_like (i : grid0.Coords) (q k kp : Vec Ideal S128x128 .bf16) : k0_pay11 i q k kp = Cert.Attn2Ideal.Gen.k0_pay11 (F := Ideal) (like i) q k kp := by
  unfold k0_pay11
  rw [own_scores_like, max_like]
  rfl

theorem exp_prev_like (i : grid0.Coords) (q k kp : Vec Ideal S128x128 .bf16) : k0_pay12 i q k kp = Cert.Attn2Ideal.Gen.k0_pay12 (F := Ideal) (like i) q k kp := by
  unfold k0_pay12
  rw [prev_scores_like, max_like]
  rfl

theorem sum_like (i : grid0.Coords) (q k kp : Vec Ideal S128x128 .bf16) : k0_pay13 i q k kp = Cert.Attn2Ideal.Gen.k0_pay13 (F := Ideal) (like i) q k kp := by
  unfold k0_pay13
  rw [exp_own_like, exp_prev_like]
  rfl

theorem headO_like (i : grid0.Coords) (q k kp v vp : Vec Ideal S128x128 .bf16) :
    headO i q k kp v vp = Cert.Attn2Ideal.Own.headO (F := Ideal) (like i) q k kp v vp := by
  unfold headO k0_pay14 Cert.Attn2Ideal.Own.headO Cert.Attn2Ideal.Gen.k0_pay14
  rw [exp_own_like, exp_prev_like, sum_like]
  simp only [shapeCast_self]
  rfl

theorem headL_like (i : grid0.Coords) (q k kp : Vec Ideal S128x128 .bf16) :
    headL i q k kp = Cert.Attn2Ideal.Own.headL (F := Ideal) (like i) q k kp := by
  unfold headL
  rw [max_like, sum_like]
  rfl

/-- The pieces of the attention block are the last group's. -/
theorem piecesO_like (i : grid0.Coords) (q k v kp vp : Vec Ideal S128x2048 .bf16) :
    piecesO i q k v kp vp = Cert.Attn2Ideal.Own.piecesO (F := Ideal) (like i) q k v kp vp :=
  List.map_congr_left fun h _ => congrArg (fun x => (⟨headRect h, x⟩ : View.Piece (Elt Ideal) S128x2048 .f32)) (headO_like i _ _ _ _ _)

/-- The log-sum-exp block is the last group's. -/
theorem blockL_like (i : grid0.Coords) (q k kp : Vec Ideal S128x2048 .bf16) :
    blockL i q k kp = Cert.Attn2Ideal.Own.blockL (F := Ideal) (like i) q k kp := by
  unfold blockL
  rw [show (fun h => headL i (headOf q h) (headOf k h) (headOf kp h)) = fun h => Cert.Attn2Ideal.Own.headL (F := Ideal) (like i) (headOf q h) (headOf k h) (headOf kp h) from
    funext fun h => headL_like i _ _ _]
  rfl

/-- The masked scores of the previous block depend on the block's number only through its being the first. -/
theorem sPrev_like (i : grid0.Coords) : sPrev (like i 1).val = sPrev (i 1).val := by
  funext q k a j
  unfold sPrev
  exact if_congr (and_congr_right fun _ => like_pos i) rfl rfl

theorem mx_like (i : grid0.Coords) : mx (like i 1).val = mx (i 1).val := by
  funext q k kp a
  unfold mx
  rw [sPrev_like]

theorem den_like (i : grid0.Coords) : den (like i 1).val = den (i 1).val := by
  funext q k kp a
  unfold den
  rw [sPrev_like, mx_like]

/-- **The attention block at an index.** -/
theorem blockO_at (i : grid0.Coords) (q k v kp vp : Vec Ideal S128x2048 .bf16) (a : Fin 128) (h : Fin 16) (e : Fin 128) :
    View.canon (piecesO i q k v kp vp) (ix2 a (⟨128 * h.val + e.val, by omega⟩ : Fin 2048))
      = Ideal.div
          ((∑ j, Ideal.exp (sOwn (at2 (headOf q h)) (at2 (headOf k h)) a j - mx (i 1).val (at2 (headOf q h)) (at2 (headOf k h)) (at2 (headOf kp h)) a) * at2 (headOf v h) j e)
            + ∑ j, Ideal.exp (sPrev (i 1).val (at2 (headOf q h)) (at2 (headOf kp h)) a j - mx (i 1).val (at2 (headOf q h)) (at2 (headOf k h)) (at2 (headOf kp h)) a) * at2 (headOf vp h) j e)
          (den (i 1).val (at2 (headOf q h)) (at2 (headOf k h)) (at2 (headOf kp h)) a) := by
  rw [piecesO_like]
  refine (blockO_apply (like i) q k v kp vp a h e).trans ?_
  rw [headO_apply, sPrev_like, mx_like, den_like]

/-- **The log-sum-exp block at an index.** -/
theorem blockL_at (i : grid0.Coords) (q k kp : Vec Ideal S128x2048 .bf16) (a j : Fin 128) :
    blockL i q k kp (ix2 a j)
      = if hj : j.val < 16 then mx (i 1).val (at2 (headOf q ⟨j.val, hj⟩)) (at2 (headOf k ⟨j.val, hj⟩)) (at2 (headOf kp ⟨j.val, hj⟩)) a
            + Ideal.log (den (i 1).val (at2 (headOf q ⟨j.val, hj⟩)) (at2 (headOf k ⟨j.val, hj⟩)) (at2 (headOf kp ⟨j.val, hj⟩)) a)
        else 0 := by
  rw [blockL_like]
  refine (blockL_apply (like i) q k kp a j).trans ?_
  split
  · rw [headL_apply, mx_like, den_like]
  · rfl

end Cert.Attn0Ideal.Own

end
-- ==== Proof.Attn0Ref.lean ====
/-
  The reference of the first group's windowed attention read at an index, at the ideal values: its two results are the joint
  softmax of a query row over the 256 keys of the previous block and of its own.
-/
module

public import proofs.«01_k».proof.Proof.Gen.Attn0RefIdeal.Read
public import proofs.«01_k».proof.Proof.AttnRef
public import Idealize.ShloMosaic.Lib.KernelVsHost
public import Idealize.ShloMosaic.Lib.WordCmp
public import Idealize.ShloMosaic.Lib.Tactic.WordOmega

@[expose] public section

set_option maxRecDepth 16384

noncomputable section

namespace Cert.Attn0RefIdeal.Own

open Cert.Attn0RefIdeal Cert.Attn0RefIdeal.Gen Cert.Attn0RefIdeal.Read Idealize.ShloMosaic Idealize.ShloMosaic.TcCoe Idealize.SL.Sem Idealize.ShloMosaic.ValueIdx Cert.Softmax
open Cert.Attn2RefIdeal.Own (back_words block_words)

/-- The token of row `a` of block `nb` of the one residue class. -/
def tok0 (nb : Fin 64) (r : Fin 1) (a : Fin 128) : Fin 8192 := ⟨(nb.val * 128 + a.val) * 1 + r.val, by omega⟩

/-- The column of entry `e` of head `h` of the queries (0), keys (1) or values (2) of the first group. -/
def col0 (j : Fin 3) (h : Fin 16) (e : Fin 128) : Fin 18432 := ⟨0 + j.val * 2048 + h.val * 128 + e.val, by omega⟩

abbrev Arg := (⟨S8192x18432, .bf16⟩ : BufTy).Contents (Elt Ideal)

/-- Block `nb` of head `h` of residue class `r` of the queries (0), keys (1) or values (2), by row and entry. -/
def part (x : Arg) (j : Fin 3) (nb : Fin 64) (r : Fin 1) (h : Fin 16) (a e : Fin 128) : EReal := x (ix2 (tok0 nb r a) (col0 j h e))

/-- The block before it. -/
def partPrev (x : Arg) (j : Fin 3) (nb : Fin 64) (r : Fin 1) (h : Fin 16) : Fin 128 → Fin 128 → EReal :=
  prevOf nb.val (part x j ⟨nb.val - 1, by omega⟩ r h)

/-- The 256-row window of a block: the block before it, then itself. -/
def window (x : Arg) (j : Fin 3) (nb : Fin 64) (r : Fin 1) (h : Fin 16) (k : Fin 256) (e : Fin 128) : EReal :=
  join (fun i => partPrev x j nb r h i e) (fun i => part x j nb r h i e) k

theorem flat1 (t : Fin 8192) (g j : Fin 3) (h : Fin 16) (e : Fin 128) (hg : g.val = 0) : idx_main_v1 (ix5 t g j h e) = ix2 t (col0 j h e) := by
  have := t.isLt; have := j.isLt; have := h.isLt; have := e.isLt
  funext c
  apply Fin.ext
  match c with
  | ⟨0, _⟩ => show ((((t.val * 3 + g.val) * 3 + j.val) * 16 + h.val) * 128 + e.val) / 18432 = t.val; omega
  | ⟨1, _⟩ => show ((((t.val * 3 + g.val) * 3 + j.val) * 16 + h.val) * 128 + e.val) % 18432 = 0 + j.val * 2048 + h.val * 128 + e.val; omega

theorem flat3 (t : Fin 8192) (h : Fin 16) (e : Fin 128) : idx_main_v3 (ix3 t h e) = ix5 t 0 0 h e := by
  have := t.isLt; have := h.isLt; have := e.isLt
  funext c
  apply Fin.ext
  match c with
  | ⟨0, _⟩ => show ((t.val * 16 + h.val) * 128 + e.val) / 2048 = t.val; omega
  | ⟨1, _⟩ => rfl
  | ⟨2, _⟩ => rfl
  | ⟨3, _⟩ => show ((t.val * 16 + h.val) * 128 + e.val) / 128 % 16 = h.val; omega
  | ⟨4, _⟩ => show ((t.val * 16 + h.val) * 128 + e.val) % 128 = e.val; omega

theorem flat8 (nb : Fin 64) (a : Fin 128) (r : Fin 1) (h : Fin 16) (e : Fin 128) : idx_main_v8 (ix5 nb a r h e) = ix3 (tok0 nb r a) h e := by
  have := nb.isLt; have := a.isLt; have := r.isLt; have := h.isLt; have := e.isLt
  funext c
  apply Fin.ext
  match c with
  | ⟨0, _⟩ => show ((((nb.val * 128 + a.val) * 1 + r.val) * 16 + h.val) * 128 + e.val) / 2048 = (nb.val * 128 + a.val) * 1 + r.val; omega
  | ⟨1, _⟩ => show ((((nb.val * 128 + a.val) * 1 + r.val) * 16 + h.val) * 128 + e.val) / 128 % 16 = h.val; omega
  | ⟨2, _⟩ => show ((((nb.val * 128 + a.val) * 1 + r.val) * 16 + h.val) * 128 + e.val) % 128 = e.val; omega

theorem slice_idx (t : Fin 8192) (h : Fin 16) (e : Fin 128) :
    idx_main_v2 (ix5 t 0 0 h e) = ix5 t 0 0 h e ∧ idx_main_v4 (ix5 t 0 0 h e) = ix5 t 0 1 h e ∧ idx_main_v6 (ix5 t 0 0 h e) = ix5 t 0 2 h e := by
  refine ⟨?_, ?_, ?_⟩ <;>
  · funext c
    apply Fin.ext
    match c with
    | ⟨0, _⟩ => rfl
    | ⟨1, _⟩ => rfl
    | ⟨2, _⟩ => rfl
    | ⟨3, _⟩ => rfl
    | ⟨4, _⟩ => rfl

theorem query_block (x : Arg) (nb : Fin 64) (a : Fin 128) (r : Fin 1) (h : Fin 16) (e : Fin 128) :
    val_main_v8 (F := Ideal) x (ix5 nb a r h e) = part x 0 nb r h a e := by
  rw [val_main_v8_apply, flat8, val_main_v3_apply, flat3, val_main_v2_apply, (slice_idx _ h e).1, val_main_v1_apply, flat1 _ _ _ _ _ rfl]
  rfl

theorem key_block (x : Arg) (nb : Fin 64) (a : Fin 128) (r : Fin 1) (h : Fin 16) (e : Fin 128) :
    val_main_v9 (F := Ideal) x (ix5 nb a r h e) = part x 1 nb r h a e := by
  rw [val_main_v9_apply, show idx_main_v9 (ix5 nb a r h e) = _ from flat8 nb a r h e, val_main_v5_apply,
    show idx_main_v5 (ix3 (tok0 nb r a) h e) = _ from flat3 _ h e, val_main_v4_apply, (slice_idx _ h e).2.1, val_main_v1_apply, flat1 _ _ _ _ _ rfl]
  rfl

theorem value_block (x : Arg) (nb : Fin 64) (a : Fin 128) (r : Fin 1) (h : Fin 16) (e : Fin 128) :
    val_main_v13 (F := Ideal) x (ix5 nb a r h e) = part x 2 nb r h a e := by
  rw [val_main_v13_apply, show idx_main_v13 (ix5 nb a r h e) = _ from flat8 nb a r h e, val_main_v7_apply,
    show idx_main_v7 (ix3 (tok0 nb r a) h e) = _ from flat3 _ h e, val_main_v6_apply, (slice_idx _ h e).2.2, val_main_v1_apply, flat1 _ _ _ _ _ rfl]
  rfl

/-- A block axis padded by one zero block in front and cut back: the block before. -/
theorem shifted (y : (⟨S64x128x1x16x128, .f32⟩ : BufTy).Contents (Elt Ideal)) (z : (⟨S_, .f32⟩ : BufTy).Contents (Elt Ideal)) (hz : ∀ i, z i = (0 : EReal))
    (nb : Fin 64) (a : Fin 128) (r : Fin 1) (h : Fin 16) (e : Fin 128) :
    pad S65x128x1x16x128 ![1, 0, 0, 0, 0] ![0, 0, 0, 0, 0] ![0, 0, 0, 0, 0] y z pads_S64x128x1x16x128_S65x128x1x16x128_100_000_000_000_000 h_S_
        (idx_main_v11 (ix5 nb a r h e))
      = (if 0 < nb.val then y (ix5 (⟨nb.val - 1, by omega⟩ : Fin 64) a r h e) else 0 : EReal) := by
  by_cases hn : 0 < nb.val
  · rw [if_pos hn]
    refine pad_apply_of_inside _ _ _ _ _ _ _ _ (ix5 (⟨nb.val - 1, by omega⟩ : Fin 64) a r h e) fun c => ?_
    match c with
    | ⟨0, _⟩ => show nb.val = 1 + (nb.val - 1) * (0 + 1); omega
    | ⟨1, _⟩ => show a.val = 0 + a.val * (0 + 1); omega
    | ⟨2, _⟩ => show r.val = 0 + r.val * (0 + 1); omega
    | ⟨3, _⟩ => show h.val = 0 + h.val * (0 + 1); omega
    | ⟨4, _⟩ => show e.val = 0 + e.val * (0 + 1); omega
  · rw [if_neg hn]
    exact (pad_apply_of_not_inside _ _ _ _ _ _ _ _ (0 : Fin 5) fun hin => hn (by have h1 := hin.1; exact h1)).trans (hz _)

/-- Two blocks joined along their rows. -/
theorem joined (y1 y2 : (⟨S64x128x1x16x128, .f32⟩ : BufTy).Contents (Elt Ideal)) (nb : Fin 64) (k : Fin 256) (r : Fin 1) (h : Fin 16) (e : Fin 128) :
    concatenate S64x256x1x16x128 1 [⟨S64x128x1x16x128, y1⟩, ⟨S64x128x1x16x128, y2⟩] concatenates_S64x128x1x16x128_S64x128x1x16x128_S64x256x1x16x128_d1
        (ix5 nb k r h e)
      = join (fun i => y1 (ix5 nb i r h e)) (fun i => y2 (ix5 nb i r h e)) k := by
  unfold join
  split
  · next hk =>
    refine concatenate_pair_apply_left (t := S64x256x1x16x128) (s₁ := S64x128x1x16x128) (s₂ := S64x128x1x16x128) 1 y1 y2 _ _ rfl (ix5 nb (⟨k.val, hk⟩ : Fin 128) r h e) fun c => ?_
    match c with
    | ⟨0, _⟩ => rfl
    | ⟨1, _⟩ => rfl
    | ⟨2, _⟩ => rfl
    | ⟨3, _⟩ => rfl
    | ⟨4, _⟩ => rfl
  · next hk =>
    refine concatenate_pair_apply_right (t := S64x256x1x16x128) (s₁ := S64x128x1x16x128) (s₂ := S64x128x1x16x128) 1 y1 y2 _ _ rfl rfl (ix5 nb (⟨k.val - 128, by omega⟩ : Fin 128) r h e) (fun c hc => ?_) ?_
    · match c with
      | ⟨0, _⟩ => rfl
      | ⟨1, _⟩ => exact absurd rfl hc
      | ⟨2, _⟩ => rfl
      | ⟨3, _⟩ => rfl
      | ⟨4, _⟩ => rfl
    · show k.val - 128 + 128 = k.val
      omega

theorem zero_pad (i : S_.Idx) : val_main_call0_v0 (F := Ideal) i = (0 : EReal) := by
  show ((((0#32 : BitVec 32).toInt : ℝ)) : EReal) = 0
  simp

theorem zero_pad' (i : S_.Idx) : val_main_call1_v0 (F := Ideal) i = (0 : EReal) := by
  show ((((0#32 : BitVec 32).toInt : ℝ)) : EReal) = 0
  simp

theorem zero_lanes (i : S_.Idx) : val_main_call3_v0 (F := Ideal) i = (0 : EReal) := by
  show ((((0#32 : BitVec 32).toInt : ℝ)) : EReal) = 0
  simp

theorem key_window (x : Arg) (nb : Fin 64) (k : Fin 256) (r : Fin 1) (h : Fin 16) (e : Fin 128) :
    val_main_v12 (F := Ideal) x (ix5 nb k r h e) = window x 1 nb r h k e := by
  unfold val_main_v12 window
  rw [joined]
  congr 1
  · funext i
    rw [val_main_v11_apply]
    unfold val_main_v10
    rw [shifted _ _ zero_pad, key_block]
    rfl
  · exact funext fun i => key_block x nb i r h e

theorem value_window (x : Arg) (nb : Fin 64) (k : Fin 256) (r : Fin 1) (h : Fin 16) (e : Fin 128) :
    val_main_v16 (F := Ideal) x (ix5 nb k r h e) = window x 2 nb r h k e := by
  unfold val_main_v16 window
  rw [joined]
  congr 1
  · funext i
    rw [val_main_v15_apply]
    unfold val_main_v14
    rw [show idx_main_v15 (ix5 nb i r h e) = idx_main_v11 (ix5 nb i r h e) from rfl, shifted _ _ zero_pad', value_block]
    rfl
  · exact funext fun i => value_block x nb i r h e

/-- The mask at an index: the key is at most 128 rows back and, before the first block, of the own block. -/
theorem mask_apply (nb : Fin 64) (r : Fin 1) (h : Fin 16) (q : Fin 128) (k : Fin 256) :
    val_main_call2_v1 (F := Ideal) (ix5 nb r h q k)
      = BitVec.ofBool (decide ((q.val ≤ k.val ∧ k.val ≤ q.val + 128) ∧ (0 < nb.val ∨ 128 ≤ k.val))) := by
  rw [val_main_call2_v1_apply, val_main_v46_apply, val_main_v45_apply, val_main_v43_apply, val_main_v42_apply, val_main_v33_apply,
    val_main_v30_apply, val_main_v32_apply, val_main_v26_apply, val_main_v24_apply, val_main_v25_apply, val_main_v23_apply,
    val_main_v22_apply, val_main_v19_apply, val_main_v18_apply, val_main_v21_apply, val_main_v20_apply, val_main_v29_apply, val_main_v31_apply,
    val_main_c_1_apply, val_main_c_2_apply, val_main_c_3_apply,
    val_main_v44_apply, val_main_v41_apply, val_main_v39_apply, val_main_v40_apply, val_main_v38_apply, val_main_v35_apply, val_main_v37_apply,
    val_main_v28_apply, val_main_v27_apply, val_main_v34_apply, val_main_v36_apply, val_main_v21_apply, val_main_v20_apply, val_main_c_4_apply, val_main_c_5_apply]
  refine (congrArg₂ IntOp.andi (back_words q k) (block_words nb.val (by omega) k)).trans ?_
  rw [Bool.decide_and (q.val ≤ k.val ∧ k.val ≤ q.val + 128)]
  generalize decide (q.val ≤ k.val ∧ k.val ≤ q.val + 128) = u
  generalize decide (0 < nb.val ∨ 128 ≤ k.val) = w
  cases u <;> cases w <;> rfl

/-- The scores of a query row over its 256-row window. -/
def scores (x : Arg) (nb : Fin 64) (r : Fin 1) (h : Fin 16) (a : Fin 128) : Fin 256 → EReal :=
  join (sPrev nb.val (part x 0 nb r h) (partPrev x 1 nb r h) a) (sOwn (part x 0 nb r h) (part x 1 nb r h) a)

theorem score_apply (x : Arg) (nb : Fin 64) (r : Fin 1) (h : Fin 16) (a : Fin 128) (k : Fin 256) :
    val_main_v47 (F := Ideal) x (ix5 nb r h a k) = scores x nb r h a k := by
  have ha := a.isLt
  have hk := k.isLt
  rw [val_main_v47_apply, mask_apply, WordCmp.select_ofBool, val_main_v17_apply]
  have dotEq : (∑ e : Fin 128, val_main_v8 (F := Ideal) x (lidx_main_v17 (ix5 nb r h a k) e) * val_main_v12 (F := Ideal) x (ridx_main_v17 (ix5 nb r h a k) e) : EReal)
      = ∑ e : Fin 128, part x 0 nb r h a e * window x 1 nb r h k e := by
    refine Finset.sum_congr rfl fun e _ => ?_
    have el : lidx_main_v17 (ix5 nb r h a k) e = ix5 nb a r h e := by
      funext c; match c with | ⟨0, _⟩ => rfl | ⟨1, _⟩ => rfl | ⟨2, _⟩ => rfl | ⟨3, _⟩ => rfl | ⟨4, _⟩ => rfl
    have er : ridx_main_v17 (ix5 nb r h a k) e = ix5 nb k r h e := by
      funext c; match c with | ⟨0, _⟩ => rfl | ⟨1, _⟩ => rfl | ⟨2, _⟩ => rfl | ⟨3, _⟩ => rfl | ⟨4, _⟩ => rfl
    rw [el, er, query_block, key_window]
  rw [show val_main_call2_v2 (F := Ideal) (ix5 nb r h a k) = masked from rfl, dotEq]
  simp only [decide_eq_true_eq]
  unfold scores window join sPrev sOwn
  by_cases h1 : k.val < 128
  · simp only [dif_pos h1]
    exact if_congr (by constructor <;> intro g <;> (constructor <;> omega)) rfl rfl
  · simp only [dif_neg h1]
    exact if_congr (by constructor <;> intro g <;> first | omega | (constructor <;> omega)) rfl rfl

/-- The maximum of a row's scores. -/
def rowMax (x : Arg) (nb : Fin 64) (r : Fin 1) (h : Fin 16) (a : Fin 128) : EReal :=
  (Finset.univ : Finset (Fin 256)).fold max ⊥ (scores x nb r h a)

/-- The sum of a row's exponentials. -/
def rowDen (x : Arg) (nb : Fin 64) (r : Fin 1) (h : Fin 16) (a : Fin 128) : EReal :=
  ∑ k : Fin 256, Ideal.exp (scores x nb r h a k - rowMax x nb r h a)

/-- A maximum over the last axis, from a start of minus infinity, is the fold over that axis. -/
theorem reduce_max (y : FVec Ideal S64x1x16x128x256 .f32) (z : FVec Ideal S_ .f32) (hz : z (Shape.Idx.first h_S_) = (⊥ : EReal))
    (hred : S64x1x16x128x256.Reduces [4] S64x1x16x128)
    (nb : Fin 64) (r : Fin 1) (h : Fin 16) (a : Fin 128) :
    Host.reduce FloatOps.maximumf y z reducesTo_S64x1x16x128x256_S64x1x16x128_d4 h_S_ (ix4 nb r h a)
      = (Finset.univ : Finset (Fin 256)).fold max (⊥ : EReal) (fun k => y (ix5 nb r h a k)) := by
  rw [Host.reduce_eq_fold_single FloatOps.maximumf y z _ hred h_S_, hz]
  have hf : (y ∘ hred.lift (ix4 nb r h a)) = fun k : Fin 256 => y (ix5 nb r h a k) := funext fun k => congrArg y
    (funext fun c => Fin.ext (by match c with | ⟨0, _⟩ => rfl | ⟨1, _⟩ => rfl | ⟨2, _⟩ => rfl | ⟨3, _⟩ => rfl | ⟨4, _⟩ => rfl))
  exact congrArg (fun f : Fin 256 → EReal => Finset.univ.fold max ⊥ f) hf

theorem max_apply (x : Arg) (nb : Fin 64) (r : Fin 1) (h : Fin 16) (a : Fin 128) :
    val_main_v48 (F := Ideal) x (ix4 nb r h a) = rowMax x nb r h a := by
  unfold val_main_v48 rowMax
  rw [← show (fun k => val_main_v47 (F := Ideal) x (ix5 nb r h a k)) = scores x nb r h a from funext fun k => score_apply x nb r h a k]
  generalize val_main_v47 (F := Ideal) x = y
  exact reduce_max y _ start_eq_bot (by decide) nb r h a

theorem exp_apply (x : Arg) (nb : Fin 64) (r : Fin 1) (h : Fin 16) (a : Fin 128) (k : Fin 256) :
    val_main_v52 (F := Ideal) x (ix5 nb r h a k) = Ideal.exp (scores x nb r h a k - rowMax x nb r h a) := by
  rw [val_main_v52_apply, val_main_v51_apply, score_apply, val_main_v50_apply, val_main_v49_apply]
  have e : idx_main_v49 (idx_main_v50 (ix5 nb r h a k)) = ix4 nb r h a := by
    funext c; match c with | ⟨0, _⟩ => rfl | ⟨1, _⟩ => exact Fin.ext (by show 0 = r.val; omega) | ⟨2, _⟩ => rfl | ⟨3, _⟩ => rfl
  rw [e, max_apply]
  rfl

theorem den_apply (x : Arg) (nb : Fin 64) (r : Fin 1) (h : Fin 16) (a : Fin 128) :
    val_main_v53 (F := Ideal) x (ix4 nb r h a) = rowDen x nb r h a := by
  rw [val_main_v53_apply, show val_main_cst_7 (F := Ideal) (Shape.Idx.first h_S_) = (0 : EReal) from Ideal.ofBits_zero_f32, zero_add]
  refine Finset.sum_congr rfl fun k _ => ?_
  have e : idx_main_v53 (ix4 nb r h a) k = ix5 nb r h a k := by
    funext c; match c with | ⟨0, _⟩ => rfl | ⟨1, _⟩ => rfl | ⟨2, _⟩ => rfl | ⟨3, _⟩ => rfl | ⟨4, _⟩ => rfl
  rw [e, exp_apply]

theorem weight_apply (x : Arg) (nb : Fin 64) (r : Fin 1) (h : Fin 16) (a : Fin 128) (k : Fin 256) :
    val_main_v56 (F := Ideal) x (ix5 nb r h a k)
      = Ideal.div (Ideal.exp (scores x nb r h a k - rowMax x nb r h a)) (rowDen x nb r h a) := by
  rw [val_main_v56_apply, exp_apply, val_main_v55_apply, val_main_v54_apply]
  have e : idx_main_v54 (idx_main_v55 (ix5 nb r h a k)) = ix4 nb r h a := by
    funext c; match c with | ⟨0, _⟩ => rfl | ⟨1, _⟩ => exact Fin.ext (by show 0 = r.val; omega) | ⟨2, _⟩ => rfl | ⟨3, _⟩ => rfl
  rw [e, den_apply]
  rfl

theorem flat65 (nb : Fin 64) (a : Fin 128) (r : Fin 1) (h : Fin 16) (e : Fin 128) :
    idx_main_v62 (idx_main_v65 (ix2 (⟨nb.val * 128 + a.val, by omega⟩ : Fin 8192) (⟨r.val * 2048 + h.val * 128 + e.val, by omega⟩ : Fin 2048)))
      = ix5 nb a r h e := by
  have e1 : idx_main_v65 (ix2 (⟨nb.val * 128 + a.val, by omega⟩ : Fin 8192) (⟨r.val * 2048 + h.val * 128 + e.val, by omega⟩ : Fin 2048)) = ix3 (tok0 nb r a) h e := by
    funext c
    apply Fin.ext
    match c with
    | ⟨0, _⟩ => show ((nb.val * 128 + a.val) * 2048 + (r.val * 2048 + h.val * 128 + e.val)) / 2048 = (nb.val * 128 + a.val) * 1 + r.val; omega
    | ⟨1, _⟩ => show ((nb.val * 128 + a.val) * 2048 + (r.val * 2048 + h.val * 128 + e.val)) / 128 % 16 = h.val; omega
    | ⟨2, _⟩ => show ((nb.val * 128 + a.val) * 2048 + (r.val * 2048 + h.val * 128 + e.val)) % 128 = e.val; omega
  rw [e1]
  funext c
  apply Fin.ext
  match c with
  | ⟨0, _⟩ => show ((((nb.val * 128 + a.val) * 1 + r.val) * 16 + h.val) * 128 + e.val) / 262144 = nb.val; omega
  | ⟨1, _⟩ => show ((((nb.val * 128 + a.val) * 1 + r.val) * 16 + h.val) * 128 + e.val) / 2048 % 128 = a.val; omega
  | ⟨2, _⟩ => show 0 = r.val; omega
  | ⟨3, _⟩ => show ((((nb.val * 128 + a.val) * 1 + r.val) * 16 + h.val) * 128 + e.val) / 128 % 16 = h.val; omega
  | ⟨4, _⟩ => show ((((nb.val * 128 + a.val) * 1 + r.val) * 16 + h.val) * 128 + e.val) % 128 = e.val; omega

/-- **The first result at an index**: the joint softmax-weighted sum of the window's values. -/
theorem out_apply (x : Arg) (nb : Fin 64) (a : Fin 128) (r : Fin 1) (h : Fin 16) (e : Fin 128) :
    val_main_v65 (F := Ideal) x (ix2 (⟨nb.val * 128 + a.val, by omega⟩ : Fin 8192) (⟨r.val * 2048 + h.val * 128 + e.val, by omega⟩ : Fin 2048))
      = ∑ k : Fin 256, window x 2 nb r h k e
          * Ideal.div (Ideal.exp (scores x nb r h a k - rowMax x nb r h a)) (rowDen x nb r h a) := by
  rw [val_main_v65_apply, val_main_v62_apply, flat65, val_main_v58_apply, val_main_v57_apply]
  refine Finset.sum_congr rfl fun k _ => ?_
  have el : lidx_main_v57 (idx_main_v58 (ix5 nb a r h e)) k = ix5 nb k r h e := by
    funext c; match c with | ⟨0, _⟩ => rfl | ⟨1, _⟩ => rfl | ⟨2, _⟩ => rfl | ⟨3, _⟩ => rfl | ⟨4, _⟩ => rfl
  have er : ridx_main_v57 (idx_main_v58 (ix5 nb a r h e)) k = ix5 nb r h a k := by
    funext c; match c with | ⟨0, _⟩ => rfl | ⟨1, _⟩ => rfl | ⟨2, _⟩ => rfl | ⟨3, _⟩ => rfl | ⟨4, _⟩ => rfl
  rw [el, er, value_window, weight_apply]

theorem lane_row (nb : Fin 64) (a : Fin 128) (r : Fin 1) (j : Fin 128) :
    (ix2 (⟨nb.val * 128 + a.val, by omega⟩ : Fin 8192) (⟨r.val * 128 + j.val, by omega⟩ : Fin 128) : S8192x128.Idx) = ix2 (tok0 nb r a) j := by
  funext c
  apply Fin.ext
  match c with
  | ⟨0, _⟩ => show nb.val * 128 + a.val = (nb.val * 128 + a.val) * 1 + r.val; omega
  | ⟨1, _⟩ => show r.val * 128 + j.val = j.val; omega

/-- **The second result at an index**: lane `h < 16` holds head `h`'s log-sum-exp, every later lane zero. -/
theorem lse_apply (x : Arg) (nb : Fin 64) (a : Fin 128) (r : Fin 1) (j : Fin 128) :
    val_main_v66 (F := Ideal) x (ix2 (⟨nb.val * 128 + a.val, by omega⟩ : Fin 8192) (⟨r.val * 128 + j.val, by omega⟩ : Fin 128))
      = if hj : j.val < 16 then rowMax x nb r ⟨j.val, hj⟩ a + Ideal.log (rowDen x nb r ⟨j.val, hj⟩ a) else (0 : EReal) := by
  rw [lane_row]
  unfold val_main_v66
  split
  · next hj =>
    refine (pad_apply_of_inside _ _ _ _ _ _ _ _ (ix2 (tok0 nb r a) (⟨j.val, hj⟩ : Fin 16)) fun c => ?_).trans ?_
    · match c with
      | ⟨0, _⟩ => show (tok0 nb r a).val = 0 + (tok0 nb r a).val * (0 + 1); omega
      | ⟨1, _⟩ => show j.val = 0 + j.val * (0 + 1); omega
    rw [val_main_v64_apply, val_main_v63_apply, val_main_v61_apply]
    have e1 : idx_main_v64 (ix2 (tok0 nb r a) (⟨j.val, hj⟩ : Fin 16)) = ix4 nb a r (⟨j.val, hj⟩ : Fin 16) := by
      funext c
      apply Fin.ext
      match c with
      | ⟨0, _⟩ => show (((nb.val * 128 + a.val) * 1 + r.val) * 16 + j.val) / 2048 = nb.val; omega
      | ⟨1, _⟩ => show (((nb.val * 128 + a.val) * 1 + r.val) * 16 + j.val) / 16 % 128 = a.val; omega
      | ⟨2, _⟩ => show 0 = r.val; omega
      | ⟨3, _⟩ => show (((nb.val * 128 + a.val) * 1 + r.val) * 16 + j.val) % 16 = j.val; omega
    have e2 : idx_main_v61 (idx_main_v63 (ix4 nb a r (⟨j.val, hj⟩ : Fin 16))) = ix5 nb r (⟨j.val, hj⟩ : Fin 16) a 0 := by
      funext c
      apply Fin.ext
      match c with
      | ⟨0, _⟩ => show (((nb.val * 1 + r.val) * 16 + j.val) * 128 + a.val) / 2048 = nb.val; omega
      | ⟨1, _⟩ => show 0 = r.val; omega
      | ⟨2, _⟩ => show (((nb.val * 1 + r.val) * 16 + j.val) * 128 + a.val) / 128 % 16 = j.val; omega
      | ⟨3, _⟩ => show (((nb.val * 1 + r.val) * 16 + j.val) * 128 + a.val) / 1 % 128 = a.val; omega
      | ⟨4, _⟩ => rfl
    rw [e1, e2, val_main_v60_apply, val_main_v59_apply, val_main_v49_apply, val_main_v54_apply]
    have e3 : idx_main_v49 (ix5 nb r (⟨j.val, hj⟩ : Fin 16) a 0) = ix4 nb r (⟨j.val, hj⟩ : Fin 16) a := by
      funext c; match c with | ⟨0, _⟩ => rfl | ⟨1, _⟩ => exact Fin.ext (by show 0 = r.val; omega) | ⟨2, _⟩ => rfl | ⟨3, _⟩ => rfl
    rw [e3, show idx_main_v54 (ix5 nb r (⟨j.val, hj⟩ : Fin 16) a 0) = _ from e3, max_apply, den_apply]
    rfl
  · next hj =>
    refine (pad_apply_of_not_inside _ _ _ _ _ _ _ _ (1 : Fin 2) fun hin => hj ?_).trans (zero_lanes _)
    have h3 : (j.val - 0) / (0 + 1) < 16 := hin.2.2
    omega

end Cert.Attn0RefIdeal.Own

end
-- ==== Proof.Attn0Point.lean ====
/-
  The first group's windowed-attention kernel's two result arrays at an index, as the joint softmax of a query row over its
  window: the blocks the points read off the argument, the key and value block carried from the point before,
  and the two outputs of a point, all by row and entry of the argument array.
-/
module

public import proofs.«01_k».proof.Proof.Attn0Head
public import proofs.«01_k».proof.Proof.AttnPoint
public import proofs.«01_k».proof.Proof.Attn0Ref

@[expose] public section

set_option maxRecDepth 16384

noncomputable section

namespace Cert.Attn0Ideal.Own

open Cert.Attn2Ideal.Own (headOf at2 at2_head zero_bf16 masked_real dot_real)
open Cert.Attn0Ideal Cert.Attn0Ideal.Gen Cert.Attn0Ideal.Value Idealize.ShloMosaic Idealize.ShloMosaic.TcCoe Idealize.SL.Sem Idealize.ShloMosaic.ValueIdx Cert.Softmax
open Cert.Attn0RefIdeal.Own (part partPrev window scores rowMax rowDen tok0 col0)

variable (m : (ℓ : Loc nD τ sig) → Buf (Elt Ideal) ℓ)

/-- The argument array of device `c`. -/
abbrev arg (c : Dev nD) : Cert.Attn0RefIdeal.Own.Arg := m ((c : Thread nD τ).loc main_arg0)

theorem row_of_token (x : Cert.Attn0RefIdeal.Own.Arg) (n : Fin 8192) (r : Fin 1) (k : Fin 18432) (i : S8192x18432.Idx)
    (h0 : (i 0).val = n.val) (h1 : (i 1).val = r.val * 18432 + k.val) :
    x i = x (ix2 (⟨n.val * 1 + r.val, by omega⟩ : Fin 8192) k) := by
  refine congrArg x (funext fun c => Fin.ext ?_)
  match c with
  | ⟨0, _⟩ => show (i 0).val = n.val * 1 + r.val; omega
  | ⟨1, _⟩ => show (i 1).val = k.val; omega

theorem index_0 : ∀ t : Fin cfg0.N, win0_0.index t = ![t.val % 64, t.val / 64 * 9 + 0] :=
  (by decide +kernel : ∀ t : Fin grid0.N, win0_0.index t = ![t.val % 64, t.val / 64 * 9 + 0])
theorem index_1 : ∀ t : Fin cfg0.N, win0_1.index t = ![t.val % 64, t.val / 64 * 9 + 1] :=
  (by decide +kernel : ∀ t : Fin grid0.N, win0_1.index t = ![t.val % 64, t.val / 64 * 9 + 1])
theorem index_2 : ∀ t : Fin cfg0.N, win0_2.index t = ![t.val % 64, t.val / 64 * 9 + 2] :=
  (by decide +kernel : ∀ t : Fin grid0.N, win0_2.index t = ![t.val % 64, t.val / 64 * 9 + 2])
theorem coord_1 : ∀ t : Fin cfg0.N, (grid0.coords t 1).val = t.val % 64 :=
  (by decide +kernel : ∀ t : Fin grid0.N, (grid0.coords t 1).val = t.val % 64)

/-- A point's block of rows. -/
def nbOf (t : Fin cfg0.N) : Fin 64 := ⟨t.val % 64, by omega⟩
/-- A point's residue class. -/
def rOf (t : Fin cfg0.N) : Fin 1 := ⟨t.val / 64, by have := t.isLt; have : cfg0.N = 64 := N_0; omega⟩

/-- Window 0, 1 or 2 at a point: that point's block of queries, keys or values. -/
theorem block_0 (c : Dev nD) (t : Fin cfg0.N) (a : Fin 128) (h : Fin 16) (e : Fin 128) :
    (iblk m c 0 t : Vec Ideal S128x2048 .bf16) (ix2 a (⟨128 * h.val + e.val, by omega⟩ : Fin 2048)) = part (arg m c) 0 (nbOf t) (rOf t) h a e := by
  unfold iblk
  rw [View.read_apply]
  show arg m c _ = _
  refine row_of_token (arg m c) ⟨(nbOf t).val * 128 + a.val, by have := (nbOf t).isLt; omega⟩ (rOf t) (col0 0 h e) _ ?_ ?_
  · show win0_0.index t 0 * 128 + 1 * a.val = t.val % 64 * 128 + a.val
    rw [index_0]; show t.val % 64 * 128 + 1 * a.val = _; omega
  · show win0_0.index t 1 * 2048 + 1 * (128 * h.val + e.val) = t.val / 64 * 18432 + (0 + 0 * 2048 + h.val * 128 + e.val)
    rw [index_0]; show (t.val / 64 * 9 + 0) * 2048 + 1 * (128 * h.val + e.val) = _; omega

theorem block_1 (c : Dev nD) (t : Fin cfg0.N) (a : Fin 128) (h : Fin 16) (e : Fin 128) :
    (iblk m c 1 t : Vec Ideal S128x2048 .bf16) (ix2 a (⟨128 * h.val + e.val, by omega⟩ : Fin 2048)) = part (arg m c) 1 (nbOf t) (rOf t) h a e := by
  unfold iblk
  rw [View.read_apply]
  show arg m c _ = _
  refine row_of_token (arg m c) ⟨(nbOf t).val * 128 + a.val, by have := (nbOf t).isLt; omega⟩ (rOf t) (col0 1 h e) _ ?_ ?_
  · show win0_1.index t 0 * 128 + 1 * a.val = t.val % 64 * 128 + a.val
    rw [index_1]; show t.val % 64 * 128 + 1 * a.val = _; omega
  · show win0_1.index t 1 * 2048 + 1 * (128 * h.val + e.val) = t.val / 64 * 18432 + (0 + 1 * 2048 + h.val * 128 + e.val)
    rw [index_1]; show (t.val / 64 * 9 + 1) * 2048 + 1 * (128 * h.val + e.val) = _; omega

theorem block_2 (c : Dev nD) (t : Fin cfg0.N) (a : Fin 128) (h : Fin 16) (e : Fin 128) :
    (iblk m c 2 t : Vec Ideal S128x2048 .bf16) (ix2 a (⟨128 * h.val + e.val, by omega⟩ : Fin 2048)) = part (arg m c) 2 (nbOf t) (rOf t) h a e := by
  unfold iblk
  rw [View.read_apply]
  show arg m c _ = _
  refine row_of_token (arg m c) ⟨(nbOf t).val * 128 + a.val, by have := (nbOf t).isLt; omega⟩ (rOf t) (col0 2 h e) _ ?_ ?_
  · show win0_2.index t 0 * 128 + 1 * a.val = t.val % 64 * 128 + a.val
    rw [index_2]; show t.val % 64 * 128 + 1 * a.val = _; omega
  · show win0_2.index t 1 * 2048 + 1 * (128 * h.val + e.val) = t.val / 64 * 18432 + (0 + 2 * 2048 + h.val * 128 + e.val)
    rw [index_2]; show (t.val / 64 * 9 + 2) * 2048 + 1 * (128 * h.val + e.val) = _; omega

/-- The key and value block the point finds carried. -/
def carried (c : Dev nD) (t : Fin cfg0.N) (j : Fin 2) : Vec Ideal S128x2048 .bf16 :=
  if t.val % 64 = 0 then (if j = 0 then k0_pay3 (F := Ideal) else k0_pay4 (F := Ideal))
  else if j = 0 then (outsAt0 m c (t.val - 1) (Nat.lt_of_le_of_lt (Nat.sub_le _ _) t.isLt)).2.2.1
  else (outsAt0 m c (t.val - 1) (Nat.lt_of_le_of_lt (Nat.sub_le _ _) t.isLt)).2.2.2

theorem outO (c : Dev nD) (t : Fin cfg0.N) :
    (outsAt0 m c t.val t.isLt).1
      = View.canon (piecesO (grid0.coords t) (iblk m c 0 t) (iblk m c 1 t) (iblk m c 2 t) (carried m c t 0) (carried m c t 1)) := by
  unfold carried
  by_cases h0 : t.val % 64 = 0
  · rw [outO_A m c t h0, if_pos h0, if_pos h0]; rfl
  · rw [outO_B m c t h0, if_neg h0, if_neg h0]; rfl

theorem outL (c : Dev nD) (t : Fin cfg0.N) :
    (outsAt0 m c t.val t.isLt).2.1 = blockL (grid0.coords t) (iblk m c 0 t) (iblk m c 1 t) (carried m c t 0) := by
  unfold carried
  by_cases h0 : t.val % 64 = 0
  · rw [outL_A m c t h0, if_pos h0]; rfl
  · rw [outL_B m c t h0, if_neg h0]; rfl

theorem scrK (c : Dev nD) (t : Fin cfg0.N) : (outsAt0 m c t.val t.isLt).2.2.1 = iblk m c 1 t := by
  by_cases h0 : t.val % 64 = 0
  · exact scrK_A m c t h0
  · exact scrK_B m c t h0

theorem scrV (c : Dev nD) (t : Fin cfg0.N) : (outsAt0 m c t.val t.isLt).2.2.2 = iblk m c 2 t := by
  by_cases h0 : t.val % 64 = 0
  · exact scrV_A m c t h0
  · exact scrV_B m c t h0

/-- The carried key and value tiles are the previous block's, all zero before the first block. -/
theorem carried_K (c : Dev nD) (t : Fin cfg0.N) (h : Fin 16) :
    at2 (headOf (carried m c t 0) h) = partPrev (arg m c) 1 (nbOf t) (rOf t) h := by
  funext a e
  rw [at2_head]
  unfold carried partPrev prevOf
  by_cases h0 : t.val % 64 = 0
  · rw [if_pos h0, if_pos rfl, if_neg (by show ¬ 0 < t.val % 64; omega)]
    unfold k0_pay3
    rw [shapeCast_self]
    exact zero_bf16
  · rw [if_neg h0, if_pos rfl, if_pos (by show 0 < t.val % 64; omega)]
    refine (congrFun (scrK m c ⟨t.val - 1, Nat.lt_of_le_of_lt (Nat.sub_le _ _) t.isLt⟩) _).trans ?_
    rw [block_1]
    have e1 : nbOf ⟨t.val - 1, Nat.lt_of_le_of_lt (Nat.sub_le _ _) t.isLt⟩ = (⟨(nbOf t).val - 1, by have := (nbOf t).isLt; omega⟩ : Fin 64) :=
      Fin.ext (by show (t.val - 1) % 64 = t.val % 64 - 1; omega)
    have e2 : rOf ⟨t.val - 1, Nat.lt_of_le_of_lt (Nat.sub_le _ _) t.isLt⟩ = rOf t :=
      Fin.ext (by show (t.val - 1) / 64 = t.val / 64; omega)
    rw [e1, e2]

theorem carried_V (c : Dev nD) (t : Fin cfg0.N) (h : Fin 16) :
    at2 (headOf (carried m c t 1) h) = partPrev (arg m c) 2 (nbOf t) (rOf t) h := by
  funext a e
  rw [at2_head]
  unfold carried partPrev prevOf
  by_cases h0 : t.val % 64 = 0
  · rw [if_pos h0, if_neg (by decide), if_neg (by show ¬ 0 < t.val % 64; omega)]
    unfold k0_pay4
    rw [shapeCast_self]
    exact zero_bf16
  · rw [if_neg h0, if_neg (by decide), if_pos (by show 0 < t.val % 64; omega)]
    refine (congrFun (scrV m c ⟨t.val - 1, Nat.lt_of_le_of_lt (Nat.sub_le _ _) t.isLt⟩) _).trans ?_
    rw [block_2]
    have e1 : nbOf ⟨t.val - 1, Nat.lt_of_le_of_lt (Nat.sub_le _ _) t.isLt⟩ = (⟨(nbOf t).val - 1, by have := (nbOf t).isLt; omega⟩ : Fin 64) :=
      Fin.ext (by show (t.val - 1) % 64 = t.val % 64 - 1; omega)
    have e2 : rOf ⟨t.val - 1, Nat.lt_of_le_of_lt (Nat.sub_le _ _) t.isLt⟩ = rOf t :=
      Fin.ext (by show (t.val - 1) / 64 = t.val / 64; omega)
    rw [e1, e2]

theorem tile_0 (c : Dev nD) (t : Fin cfg0.N) (h : Fin 16) : at2 (headOf (iblk m c 0 t) h) = part (arg m c) 0 (nbOf t) (rOf t) h := by
  funext a e; rw [at2_head, block_0]
theorem tile_1 (c : Dev nD) (t : Fin cfg0.N) (h : Fin 16) : at2 (headOf (iblk m c 1 t) h) = part (arg m c) 1 (nbOf t) (rOf t) h := by
  funext a e; rw [at2_head, block_1]
theorem tile_2 (c : Dev nD) (t : Fin cfg0.N) (h : Fin 16) : at2 (headOf (iblk m c 2 t) h) = part (arg m c) 2 (nbOf t) (rOf t) h := by
  funext a e; rw [at2_head, block_2]

/-- Every query and key of the group is a real number. -/
def Finite (x : Cert.Attn0RefIdeal.Own.Arg) : Prop :=
  ∀ (j : Fin 3) (n : Fin 8192) (h : Fin 16) (e : Fin 128), j.val < 2 → ∃ v : ℝ, x (ix2 n (col0 j h e)) = (v : EReal)

theorem part_real (x : Cert.Attn0RefIdeal.Own.Arg) (hx : Finite x) (j : Fin 3) (hj : j.val < 2) (nb : Fin 64) (r : Fin 1) (h : Fin 16) (a e : Fin 128) :
    ∃ v : ℝ, part x j nb r h a e = (v : EReal) := hx j (tok0 nb r a) h e hj

theorem own_real (x : Cert.Attn0RefIdeal.Own.Arg) (hx : Finite x) (nb : Fin 64) (r : Fin 1) (h : Fin 16) (a j : Fin 128) :
    ∃ v : ℝ, sOwn (part x 0 nb r h) (part x 1 nb r h) a j = (v : EReal) := by
  unfold sOwn
  split
  · exact dot_real _ _ (part_real x hx 0 (by decide) nb r h a) (part_real x hx 1 (by decide) nb r h j)
  · exact masked_real

theorem prev_real (x : Cert.Attn0RefIdeal.Own.Arg) (hx : Finite x) (nb : Fin 64) (r : Fin 1) (h : Fin 16) (a j : Fin 128) :
    ∃ v : ℝ, sPrev nb.val (part x 0 nb r h) (partPrev x 1 nb r h) a j = (v : EReal) := by
  unfold sPrev
  split
  · next hc =>
    refine dot_real _ _ (part_real x hx 0 (by decide) nb r h a) fun e => ?_
    unfold partPrev prevOf
    rw [if_pos hc.2]
    exact part_real x hx 1 (by decide) _ r h j e
  · exact masked_real

theorem mx_eq (x : Cert.Attn0RefIdeal.Own.Arg) (nb : Fin 64) (r : Fin 1) (h : Fin 16) (a : Fin 128) :
    mx nb.val (part x 0 nb r h) (part x 1 nb r h) (partPrev x 1 nb r h) a = rowMax x nb r h a := by
  unfold mx rowMax scores
  rw [max_join]

theorem den_eq (x : Cert.Attn0RefIdeal.Own.Arg) (nb : Fin 64) (r : Fin 1) (h : Fin 16) (a : Fin 128) :
    den nb.val (part x 0 nb r h) (part x 1 nb r h) (partPrev x 1 nb r h) a = rowDen x nb r h a := by
  unfold den rowDen scores
  rw [mx_eq, den_join]

/-- **The attention output of a point**: entry `e` of head `h` of row `a` is the softmax-weighted sum over the window. -/
theorem pointO (c : Dev nD) (t : Fin cfg0.N) (hx : Finite (arg m c)) (a : Fin 128) (h : Fin 16) (e : Fin 128) :
    (outsAt0 m c t.val t.isLt).1 (ix2 a (⟨128 * h.val + e.val, by omega⟩ : Fin 2048))
      = ∑ k : Fin 256, window (arg m c) 2 (nbOf t) (rOf t) h k e
          * Ideal.div (Ideal.exp (scores (arg m c) (nbOf t) (rOf t) h a k - rowMax (arg m c) (nbOf t) (rOf t) h a)) (rowDen (arg m c) (nbOf t) (rOf t) h a) := by
  rw [outO, blockO_at, tile_0, tile_1, tile_2, carried_K, carried_V, coord_1]
  refine (blockwise _ _ (fun j => part (arg m c) 2 (nbOf t) (rOf t) h j e) (fun j => partPrev (arg m c) 2 (nbOf t) (rOf t) h j e)
    (own_real (arg m c) hx (nbOf t) (rOf t) h a) (prev_real (arg m c) hx (nbOf t) (rOf t) h a)).trans ?_
  rfl

/-- **The log-sum-exp output of a point**: lane `h < 16` holds head `h`'s, every later lane zero. -/
theorem pointL (c : Dev nD) (t : Fin cfg0.N) (a j : Fin 128) :
    (outsAt0 m c t.val t.isLt).2.1 (ix2 a j)
      = if hj : j.val < 16 then rowMax (arg m c) (nbOf t) (rOf t) ⟨j.val, hj⟩ a + Ideal.log (rowDen (arg m c) (nbOf t) (rOf t) ⟨j.val, hj⟩ a)
        else (0 : EReal) := by
  rw [outL, blockL_at]
  split
  · next hj =>
    rw [tile_0, tile_1, carried_K, coord_1]
    exact congrArg₂ (fun x y : EReal => x + Ideal.log y) (mx_eq _ _ _ _ _) (den_eq _ _ _ _ _)
  · rfl

/-- **The first result array** at a row and an entry. -/
theorem result_o (c : Dev nD) (hx : Finite (arg m c)) (nb : Fin 64) (a : Fin 128) (r : Fin 1) (h : Fin 16) (e : Fin 128) :
    G3 m c (ix2 (⟨nb.val * 128 + a.val, by omega⟩ : Fin 8192) (⟨r.val * 2048 + h.val * 128 + e.val, by omega⟩ : Fin 2048))
      = ∑ k : Fin 256, window (arg m c) 2 nb r h k e
          * Ideal.div (Ideal.exp (scores (arg m c) nb r h a k - rowMax (arg m c) nb r h a)) (rowDen (arg m c) nb r h a) := by
  have hN : cfg0.N = 64 := N_0
  have hlt : r.val * 64 + nb.val < cfg0.N := by omega
  have hp : pt3Of (ix2 (⟨nb.val * 128 + a.val, by omega⟩ : Fin 8192) (⟨r.val * 2048 + h.val * 128 + e.val, by omega⟩ : Fin 2048)) = r.val * 64 + nb.val := by
    show 1 * ((nb.val * 128 + a.val) / 128 - 0) + 1 * ((r.val * 2048 + h.val * 128 + e.val) / 2048 - 0) = _
    omega
  have hl : loc3Of (ix2 (⟨nb.val * 128 + a.val, by omega⟩ : Fin 8192) (⟨r.val * 2048 + h.val * 128 + e.val, by omega⟩ : Fin 2048))
      = ix2 a (⟨128 * h.val + e.val, by omega⟩ : Fin 2048) := by
    funext k
    apply Fin.ext
    match k with
    | ⟨0, _⟩ => show (nb.val * 128 + a.val) % 128 = a.val; omega
    | ⟨1, _⟩ => show (r.val * 2048 + h.val * 128 + e.val) % 2048 = 128 * h.val + e.val; omega
  unfold G3
  simp only [hp, hl]
  rw [dif_pos hlt, ← outsAt0_sweep m c _ hlt]
  have e1 : nbOf ⟨r.val * 64 + nb.val, hlt⟩ = nb := Fin.ext (by show (r.val * 64 + nb.val) % 64 = nb.val; omega)
  have e2 : rOf ⟨r.val * 64 + nb.val, hlt⟩ = r := Fin.ext (by show (r.val * 64 + nb.val) / 64 = r.val; omega)
  have key := pointO m c ⟨r.val * 64 + nb.val, hlt⟩ hx a h e
  rw [e1, e2] at key
  exact key

/-- **The second result array** at a row and a lane. -/
theorem result_l (c : Dev nD) (nb : Fin 64) (a : Fin 128) (r : Fin 1) (j : Fin 128) :
    G4 m c (ix2 (⟨nb.val * 128 + a.val, by omega⟩ : Fin 8192) (⟨r.val * 128 + j.val, by omega⟩ : Fin 128))
      = if hj : j.val < 16 then rowMax (arg m c) nb r ⟨j.val, hj⟩ a + Ideal.log (rowDen (arg m c) nb r ⟨j.val, hj⟩ a) else (0 : EReal) := by
  have hN : cfg0.N = 64 := N_0
  have hlt : r.val * 64 + nb.val < cfg0.N := by omega
  have hp : pt4Of (ix2 (⟨nb.val * 128 + a.val, by omega⟩ : Fin 8192) (⟨r.val * 128 + j.val, by omega⟩ : Fin 128)) = r.val * 64 + nb.val := by
    show 1 * ((nb.val * 128 + a.val) / 128 - 0) + 1 * ((r.val * 128 + j.val) / 128 - 0) = _
    omega
  have hl : loc4Of (ix2 (⟨nb.val * 128 + a.val, by omega⟩ : Fin 8192) (⟨r.val * 128 + j.val, by omega⟩ : Fin 128)) = ix2 a j := by
    funext k
    apply Fin.ext
    match k with
    | ⟨0, _⟩ => show (nb.val * 128 + a.val) % 128 = a.val; omega
    | ⟨1, _⟩ => show (r.val * 128 + j.val) % 128 = j.val; omega
  unfold G4
  simp only [hp, hl]
  rw [dif_pos hlt, ← outsAt0_sweep m c _ hlt]
  have e1 : nbOf ⟨r.val * 64 + nb.val, hlt⟩ = nb := Fin.ext (by show (r.val * 64 + nb.val) % 64 = nb.val; omega)
  have e2 : rOf ⟨r.val * 64 + nb.val, hlt⟩ = r := Fin.ext (by show (r.val * 64 + nb.val) / 64 = r.val; omega)
  have key := pointL m c ⟨r.val * 64 + nb.val, hlt⟩ a j
  rw [e1, e2] at key
  exact key

end Cert.Attn0Ideal.Own

end
-- ==== Proof.Attn0.lean ====
/-
  The claims about the first group's windowed attention: the kernel's frames, the reference's frame, and the equality of their
  results over the extended reals for finite queries and keys.
-/
module

public import proofs.«01_k».proof.Defs
public import proofs.«01_k».proof.Proof.Attn
public import proofs.«01_k».proof.Proof.Attn0Point
public import proofs.«01_k».proof.Proof.Gen.Attn0
public import proofs.«01_k».proof.Proof.Gen.Attn0.Frame
public import proofs.«01_k».proof.Proof.Gen.Attn0Ideal
public import proofs.«01_k».proof.Proof.Gen.Attn0RefIdeal
public import proofs.«01_k».proof.Proof.Gen.Pre_finite_qk_g0
public import Idealize.ShloMosaic.Lib.ReduceAll
public import Idealize.ShloMosaic.Lib.Quiescent

@[expose] public section

set_option maxRecDepth 16384

noncomputable section

namespace Cert.Proof.Attn0

open Cert.Attn0RefIdeal.Own (col0)
open Cert.Proof.Attn (real_of_abs_lt infinity_eq_top)
open Idealize.ShloMosaic Idealize.ShloMosaic.TcCoe Idealize.SL.Sem Idealize.ShloMosaic.ValueIdx Cert.Softmax

/-- The stated predicate says that every query and key of the group is a real number. -/
theorem finite_of_pre (x : Cert.Attn0RefIdeal.Own.Arg) (h : Cert.Pre_finite_qk_g0.fn (F := Ideal) x = fun _ => 1#1) :
    Cert.Attn0Ideal.Own.Finite x := by
  intro j n hd e hj
  have h0 := congrFun h (fun a => a.elim0)
  unfold Cert.Pre_finite_qk_g0.fn at h0
  dsimp only at h0
  haveI : Subsingleton Cert.Pre_finite_qk_g0.S_.Idx := ⟨fun a b => funext fun k => k.elim0⟩
  have h1 := Host.reduce_andi_all _ _ _ _ _ h0 (ix2 n (⟨j.val * 2048 + hd.val * 128 + e.val, by omega⟩ : Fin 4096))
  have h2 : Ideal.cmp .olt (max (x (ix2 n (col0 j hd e))) (-(x (ix2 n (col0 j hd e))))) (Ideal.ofBits .f32 0x7F800000#32) = 1#1 := by
    refine Eq.trans ?_ h1
    refine congrArg (fun v : EReal => Ideal.cmp .olt (max v (-v)) (Ideal.ofBits .f32 0x7F800000#32)) ?_
    refine congrArg x (funext fun k => Fin.ext ?_)
    match k with
    | ⟨0, _⟩ => show n.val = 0 + n.val; omega
    | ⟨1, _⟩ => show 0 + j.val * 2048 + hd.val * 128 + e.val = 0 + (j.val * 2048 + hd.val * 128 + e.val); omega
  rw [infinity_eq_top] at h2
  refine real_of_abs_lt _ ?_
  by_contra hc
  rw [show Ideal.cmp .olt (max (x (ix2 n (col0 j hd e))) (-(x (ix2 n (col0 j hd e))))) (⊤ : EReal) = 0#1 from by
    show BitVec.ofBool (decide (_ < _)) = _
    rw [decide_eq_false hc]; rfl] at h2
  exact absurd h2 (by decide)

/-- The two programs' first results agree, index by index. -/
theorem results_o (m : (ℓ : Loc Cert.Attn0Ideal.nD Cert.Attn0Ideal.τ Cert.Attn0Ideal.sig) → Buf (Elt Ideal) ℓ) (c : Dev Cert.Attn0Ideal.nD)
    (hx : Cert.Attn0Ideal.Own.Finite (Cert.Attn0Ideal.Own.arg m c)) :
    Cert.Attn0RefIdeal.Read.val_main_v65 (F := Ideal) (Cert.Attn0Ideal.Own.arg m c) = Cert.Attn0Ideal.Value.G3 m c := by
  funext i
  have i0 : (i 0).val < 8192 := (i 0).isLt
  have i1 : (i 1).val < 2048 := (i 1).isLt
  have ei : i = ix2 (⟨(⟨(i 0).val / 128, by omega⟩ : Fin 64).val * 128 + (⟨(i 0).val % 128, by omega⟩ : Fin 128).val, by omega⟩ : Fin 8192)
      (⟨(⟨(i 1).val / 2048, by omega⟩ : Fin 1).val * 2048 + (⟨(i 1).val / 128 % 16, by omega⟩ : Fin 16).val * 128
        + (⟨(i 1).val % 128, by omega⟩ : Fin 128).val, by dsimp only; omega⟩ : Fin 2048) := by
    funext k
    apply Fin.ext
    match k with
    | ⟨0, _⟩ => show (i 0).val = (i 0).val / 128 * 128 + (i 0).val % 128; omega
    | ⟨1, _⟩ => show (i 1).val = (i 1).val / 2048 * 2048 + (i 1).val / 128 % 16 * 128 + (i 1).val % 128; omega
  rw [ei]
  exact (Cert.Attn0RefIdeal.Own.out_apply _ _ _ _ _ _).trans (Cert.Attn0Ideal.Own.result_o m c hx _ _ _ _ _).symm

/-- The two programs' second results agree, index by index. -/
theorem results_l (m : (ℓ : Loc Cert.Attn0Ideal.nD Cert.Attn0Ideal.τ Cert.Attn0Ideal.sig) → Buf (Elt Ideal) ℓ) (c : Dev Cert.Attn0Ideal.nD) :
    Cert.Attn0RefIdeal.Read.val_main_v66 (F := Ideal) (Cert.Attn0Ideal.Own.arg m c) = Cert.Attn0Ideal.Value.G4 m c := by
  funext i
  have i0 : (i 0).val < 8192 := (i 0).isLt
  have i1 : (i 1).val < 128 := (i 1).isLt
  have ei : i = ix2 (⟨(⟨(i 0).val / 128, by omega⟩ : Fin 64).val * 128 + (⟨(i 0).val % 128, by omega⟩ : Fin 128).val, by omega⟩ : Fin 8192)
      (⟨(⟨(i 1).val / 128, by omega⟩ : Fin 1).val * 128 + (⟨(i 1).val % 128, by omega⟩ : Fin 128).val, by dsimp only; omega⟩ : Fin 128) := by
    funext k
    apply Fin.ext
    match k with
    | ⟨0, _⟩ => show (i 0).val = (i 0).val / 128 * 128 + (i 0).val % 128; omega
    | ⟨1, _⟩ => show (i 1).val = (i 1).val / 128 * 128 + (i 1).val % 128; omega
  rw [ei]
  exact (Cert.Attn0RefIdeal.Own.lse_apply _ _ _ _ _).trans (Cert.Attn0Ideal.Own.result_l m c _ _ _ _).symm

theorem frame_p : Cert.quiescent_Attn0 := fun m ρ _ => Cert.Attn0.Gen.frame m ρ
theorem frame_pi : Cert.quiescent_Attn0Ideal := fun m ρ _ => Cert.Attn0Ideal.Gen.frame m ρ
theorem frame_pi_pre : Cert.quiescent_Attn0Ideal_pre_finite_qk_g0 := fun m ρ _ => Cert.Attn0Ideal.Gen.frame m ρ

theorem frame_ref (m : (ℓ : Loc Cert.Attn0RefIdeal.nD Cert.Attn0RefIdeal.τ Cert.Attn0RefIdeal.sig) → Buf (Elt Ideal) ℓ) (ρ : Dev Cert.Attn0RefIdeal.nD → PrngReg) :
    θ_run (Cert.Attn0RefIdeal.defs (F := Ideal)) (onTc (τ := Cert.Attn0RefIdeal.τ) (Cert.Attn0RefIdeal.main (F := Ideal))) ⟨m, fun _ => 0, ρ⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0))
      ∧ r.2.sem = fun _ => 0) :=
  (θ_run Cert.Attn0RefIdeal.defs _ _).mono
    (fun r h => ⟨fun c => (h c).2.2, Idealize.ShloMosaic.sem_eq_zero_of_no_sems (by decide) r.2⟩)
    (Cert.Attn0RefIdeal.Value.run (F := Ideal) m ρ)

theorem frame_ri : Cert.quiescent_Attn0RefIdeal := fun m ρ _ => frame_ref m ρ
theorem frame_ri_pre : Cert.quiescent_Attn0RefIdeal_pre_finite_qk_g0 := fun m ρ _ => frame_ref m ρ

theorem preserves : Cert.preserves_Attn0_Attn0Ideal := trivial

/-- **The kernel and the reference end with equal results** from equal arguments whose queries and keys are finite. -/
theorem algebraic : Cert.algebraic_Attn0Ideal_Attn0RefIdeal_pre_finite_qk_g0 := fun m ρ m' ρ' hpre hag =>
  ⟨fun c => Cert.Attn0Ideal.Value.G3 m c, fun c => Cert.Attn0Ideal.Value.G4 m c, Cert.Attn0Ideal.Value.run m ρ,
    (θ_run Cert.Attn0RefIdeal.defs _ _).mono
      (fun r h c => by
        refine ⟨(h c).1.trans ?_, (h c).2.1.trans ?_, (h c).2.2⟩
        · rw [Cert.Attn0RefIdeal.Read.val_main_v65_eq, hag c]
          exact results_o m c (finite_of_pre _ (hpre c))
        · rw [Cert.Attn0RefIdeal.Read.val_main_v66_eq, hag c]
          exact results_l m c)
      (Cert.Attn0RefIdeal.Value.run (F := Ideal) m' ρ')⟩

end Cert.Proof.Attn0

end
-- ==== Proof.Rms.lean ====
/-
  The root-mean-square normalisation of a row of 4096 numbers: its factor, and how the kernels' blocks of 256 rows compute it.
-/
module

public import Idealize.ShloMosaic.Lib.Pipeline.ReadBack
public import Idealize.ShloMosaic.Lib.ValueIdx
public import Idealize.ShloMosaic.Lib.Pipeline.ValueKit.Tiles
public import proofs.«01_k».proof.Proof.Blocks

@[expose] public section

set_option maxRecDepth 16384

noncomputable section

namespace Cert.Rms

open Idealize.ShloMosaic Idealize.ShloMosaic.ValueIdx

/-- A row's factor: one over the root of its mean square plus the small constant. -/
def factor (f : Fin 4096 → EReal) : EReal :=
  FloatOps.rsqrt (F := Ideal) (φ := .f32)
    (FloatOps.addf (F := Ideal) (φ := .f32)
      (FloatOps.divf (F := Ideal) (φ := .f32) (∑ k, f k * f k : EReal) (FloatOps.ofBits (F := Ideal) .f32 0x45800000#32))
      (FloatOps.ofBits (F := Ideal) .f32 0x358637BD#32))

/-- A row normalised, with its gains. -/
def normed (f g : Fin 4096 → EReal) (e : Fin 4096) : EReal := f e * factor f * g e

/-- The place of a row's term in a block of 256 rows. -/
theorem lift_row (h : (⟨2, ![256, 4096]⟩ : Shape).Reduces [1] ⟨1, ![256]⟩) (a : Fin 256) (k : Fin 4096) :
    (h.lift (ix1 a) k : (⟨2, ![256, 4096]⟩ : Shape).Idx) = ix2 a k := by
  funext c
  apply Fin.ext
  match c with
  | ⟨0, _⟩ => rfl
  | ⟨1, _⟩ => rfl

/-- A value of each row, stretched along the row. -/
theorem stretched (x : FVec Ideal ⟨2, ![256, 1]⟩ .f32) (hb : (⟨2, ![256, 1]⟩ : Shape).Broadcasts ⟨2, ![256, 4096]⟩) (a : Fin 256) (e : Fin 4096) :
    broadcastTo ⟨2, ![256, 4096]⟩ x hb (ix2 a e) = x (ix2 a 0) := by
  refine broadcastTo_apply (s := ⟨2, ![256, 1]⟩) (t := ⟨2, ![256, 4096]⟩) _ _ _ (ix2 a 0) fun c => ?_
  match c with
  | ⟨0, _⟩ => rfl
  | ⟨1, _⟩ => rfl

/-- The gains, stretched over the rows. -/
theorem gains (g : FVec Ideal ⟨2, ![1, 4096]⟩ .f32) (hb : (⟨2, ![1, 4096]⟩ : Shape).Broadcasts ⟨2, ![256, 4096]⟩) (a : Fin 256) (e : Fin 4096) :
    broadcastTo ⟨2, ![256, 4096]⟩ g hb (ix2 a e) = g (ix2 0 e) := by
  refine broadcastTo_apply (s := ⟨2, ![1, 4096]⟩) (t := ⟨2, ![256, 4096]⟩) _ _ _ (ix2 0 e) fun c => ?_
  match c with
  | ⟨0, _⟩ => rfl
  | ⟨1, _⟩ => rfl

/-- A layer's gains, as a row. -/
theorem gain_row (g : FVec Ideal ⟨3, ![1, 1, 4096]⟩ .f32) (hc : (⟨3, ![1, 1, 4096]⟩ : Shape).ShapeCasts ⟨2, ![1, 4096]⟩) (e : Fin 4096) :
    shapeCast ⟨2, ![1, 4096]⟩ g hc (ix2 0 e) = g (ix3 0 0 e) := by
  refine shapeCast_apply g hc (ix2 0 e) (ix3 0 0 e) ?_
  rw [Shape.rowMajor_val_two, Shape.rowMajor_val_three]
  show (0 * 1 + 0) * 4096 + e.val = 0 * 4096 + e.val
  omega

/-- The factor of each row of a block, as the kernels compute it. -/
theorem factor_apply (P : FVec Ideal ⟨2, ![256, 4096]⟩ .f32) (hr : (⟨2, ![256, 4096]⟩ : Shape).Reduces [1] ⟨1, ![256]⟩)
    (hc : (⟨1, ![256]⟩ : Shape).ShapeCasts ⟨2, ![256, 1]⟩) (hb : (⟨2, ![256, 1]⟩ : Shape).Broadcasts ⟨2, ![256, 4096]⟩) (a : Fin 256) (e : Fin 4096) :
    broadcastTo ⟨2, ![256, 4096]⟩ (rsqrt (addf (divf (shapeCast ⟨2, ![256, 1]⟩ (multiReduction .add [1] ⟨1, ![256]⟩ (mulf P P) 0x00000000#32 hr (.inl rfl) rfl) hc)
        (broadcast ⟨2, ![256, 1]⟩ (Scalar.ofBits (F := Ideal) .f32 0x45800000#32))) (broadcast ⟨2, ![256, 1]⟩ (Scalar.ofBits (F := Ideal) .f32 0x358637BD#32)))) hb (ix2 a e)
      = factor fun k => P (ix2 a k) := by
  refine (stretched _ hb a e).trans ?_
  unfold factor
  refine congrArg (fun u : EReal => FloatOps.rsqrt (F := Ideal) (φ := .f32) (FloatOps.addf (F := Ideal) (φ := .f32)
      (FloatOps.divf (F := Ideal) (φ := .f32) u (FloatOps.ofBits (F := Ideal) .f32 0x45800000#32)) (FloatOps.ofBits (F := Ideal) .f32 0x358637BD#32))) ?_
  refine (shapeCast_apply (s := ⟨1, ![256]⟩) (t := ⟨2, ![256, 1]⟩) _ hc (ix2 a 0) (ix1 a) ?_).trans ?_
  · rw [Shape.rowMajor_val_one, Shape.rowMajor_val_two]
    show a.val = a.val * 1 + 0
    omega
  · refine (Ideal.multiReduction_add_single _ _ _ _ _ _).trans ?_
    exact Finset.sum_congr rfl fun k _ => congrArg (mulf P P) (lift_row hr a k)

end Cert.Rms

end
-- ==== Proof.Norm.lean ====
/-
  The normalisation of the rows: the value of the kernel's result, the reference's value at an index, and the claims about the call.
-/
module

public import proofs.«01_k».proof.Defs
public import proofs.«01_k».proof.Proof.Rms
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Read
public import Idealize.ShloMosaic.Lib.Quiescent

@[expose] public section

set_option maxRecDepth 16384

noncomputable section

namespace Cert.NormIdeal.Own

open Cert.NormIdeal Cert.NormIdeal.Gen Idealize.ShloMosaic Idealize.ShloMosaic.TcCoe Idealize.SL.Sem Idealize.ShloMosaic.ValueIdx Cert.Rms

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- A block's row at an index is the row normalised. -/
theorem block_apply (x : Vec Ideal S256x4096 .f32) (g : Vec Ideal S1x1x4096 .f32) (a : Fin 256) (e : Fin 4096) :
    out0_2 x g (ix2 a e) = normed (fun k => x (ix2 a k)) (fun k => g (ix3 0 0 k)) e := by
  unfold out0_2
  rw [View.canon_unit_zero zero2, View.ld_unit_zero (S := S256x4096) zero2, View.ld_unit_zero (S := S1x1x4096) zero3]
  unfold k0_pay1 normed
  exact congrArg₂ (fun u v : EReal => x (ix2 a e) * u * v) (factor_apply x _ _ _ a e) ((gains _ _ a e).trans (gain_row g _ e))

/-- The rows and the layers' gains, as launched. -/
abbrev rowsArg (c : Dev nD) : S8192x4096.Idx → EReal := m ((c : Thread nD τ).loc main_arg0)
abbrev gainsArg (c : Dev nD) : S2x1x4096.Idx → EReal := m ((c : Thread nD τ).loc main_arg1)

/-- A point's two blocks. -/
abbrev rowsBlk (c : Dev nD) (t : Fin cfg0.N) : S256x4096.Idx → EReal := iblk m c 0 t
abbrev gainsBlk (c : Dev nD) (t : Fin cfg0.N) : S1x1x4096.Idx → EReal := iblk m c 1 t

theorem lt_N (t : Fin cfg0.N) : t.val < 32 := lt_of_lt_of_eq t.isLt (show cfg0.N = 32 from N_0)

theorem index_0 : ∀ t : Fin grid0.N, win0_0.index t = ![t.val, 0] := by decide +kernel
theorem index_1 : ∀ t : Fin grid0.N, win0_1.index t = ![0, 0, 0] := by decide +kernel
theorem index_2 : ∀ t : Fin grid0.N, win0_2.index t = ![t.val, 0] := by decide +kernel

theorem rowsBlk_apply (c : Dev nD) (t : Fin cfg0.N) (a : Fin 256) (k : Fin 4096) (i : Fin 8192) (hi : i.val = 256 * t.val + a.val) :
    rowsBlk m c t (ix2 a k) = rowsArg m c (ix2 i k) := by
  unfold rowsBlk iblk
  rw [View.read_apply]
  show V m c main_arg0 _ = _
  rw [V_main_arg0]
  refine congrArg (rowsArg m c) (funext fun b => Fin.ext ?_)
  match b with
  | ⟨0, _⟩ => show win0_0.index t 0 * 256 + 1 * a.val = i.val
              rw [index_0]; show t.val * 256 + 1 * a.val = _; omega
  | ⟨1, _⟩ => show win0_0.index t 1 * 4096 + 1 * k.val = k.val
              rw [index_0]; show 0 * 4096 + 1 * k.val = _; omega

theorem gainsBlk_apply (c : Dev nD) (t : Fin cfg0.N) (k : Fin 4096) : gainsBlk m c t (ix3 0 0 k) = gainsArg m c (ix3 0 0 k) := by
  unfold gainsBlk iblk
  rw [View.read_apply]
  show V m c main_arg1 _ = _
  rw [V_main_arg1]
  refine congrArg (gainsArg m c) (funext fun b => Fin.ext ?_)
  match b with
  | ⟨0, _⟩ => show win0_1.index t 0 * 1 + 1 * 0 = 0
              rw [index_1]; rfl
  | ⟨1, _⟩ => show win0_1.index t 1 * 1 + 1 * 0 = 0
              rw [index_1]; rfl
  | ⟨2, _⟩ => show win0_1.index t 2 * 4096 + 1 * k.val = k.val
              rw [index_1]; show 0 * 4096 + 1 * k.val = _; omega

/-- The whole result: every row normalised, with the first layer's gains. -/
def result (c : Dev nD) : S8192x4096.Idx → EReal := fun y =>
  normed (fun k => rowsArg m c (ix2 (y 0 : Fin 8192) k)) (fun k => gainsArg m c (ix3 0 0 k)) (y 1 : Fin 4096)

theorem point (c : Dev nD) (t : Fin cfg0.N) (a : Fin 256) (e : Fin 4096) (i : Fin 8192) (hi : i.val = 256 * t.val + a.val) :
    (out0_2 (rowsBlk m c t) (gainsBlk m c t) : Vec Ideal S256x4096 .bf16) (ix2 a e) = result m c (ix2 i e) := by
  rw [block_apply]
  unfold result
  exact congrArg₂ (fun f g => normed f g e) (funext fun k => rowsBlk_apply m c t a k i hi) (funext fun k => gainsBlk_apply m c t k)

/-- Every point writes back its block of the result. -/
theorem flushed_eq (c : Dev nD) (t : Fin cfg0.N) (_ : (cfg0.win 2).flush t = true) :
    (dats m 0 c).flushed 2 t = ((cfg0.win 2).blk t).view.read (Elt Ideal) (result m c) := by
  have hN := lt_N t
  rw [Value.flushed2]
  funext y
  rw [View.read_apply]
  have y0 : (y 0).val < 256 := (y 0).isLt
  have y1 : (y 1).val < 4096 := (y 1).isLt
  have e := point m c t ⟨(y 0).val, y0⟩ ⟨(y 1).val, y1⟩ ⟨256 * t.val + (y 0).val, by omega⟩ rfl
  refine Eq.trans ?_ (e.trans ?_)
  · show (out0_2 (rowsBlk m c t) (gainsBlk m c t) : Vec Ideal S256x4096 .bf16) _ = _
    refine congrArg (out0_2 (rowsBlk m c t) (gainsBlk m c t) : Vec Ideal S256x4096 .bf16) (funext fun b => Fin.ext ?_)
    match b with
    | ⟨0, _⟩ => rfl
    | ⟨1, _⟩ => rfl
  · refine congrArg (result m c) (funext fun b => Fin.ext ?_)
    match b with
    | ⟨0, _⟩ => show 256 * t.val + (y 0).val = win0_2.index t 0 * 256 + 1 * (y 0).val
                rw [index_2]; show _ = t.val * 256 + 1 * (y 0).val; omega
    | ⟨1, _⟩ => show (y 1).val = win0_2.index t 1 * 4096 + 1 * (y 1).val
                rw [index_2]; show _ = 0 * 4096 + 1 * (y 1).val; omega

/-- The result array ends holding it. -/
theorem final_o (c : Dev nD) : (dats m 0 c).arrAt 2 cfg0.N = result m c :=
  (dats m 0 c).arrAt_eq_of_cover 2 (result m c) (flushed_eq m c) fun i => by
    have h0 : (i 0 : Nat) < 8192 := (i 0).isLt
    have h1 : (i 1 : Nat) < 4096 := (i 1).isLt
    have hN : cfg0.N = 32 := N_0
    have ht : (i 0 : Nat) / 256 < cfg0.N := by omega
    refine ⟨⟨(i 0 : Nat) / 256, ht⟩, flush0_2 _, ?_⟩
    show i ∈ ((View.whole main_v0).slice (win0_2.rect ⟨(i 0 : Nat) / 256, ht⟩)).set
    rw [View.set_slice_whole, Rect.mem_set_unit]
    intro b
    match b with
    | ⟨0, _⟩ => show win0_2.index _ 0 * 256 ≤ (i 0 : Nat) ∧ (i 0 : Nat) < win0_2.index _ 0 * 256 + 256
                rw [index_2]
                show (i 0 : Nat) / 256 * 256 ≤ (i 0 : Nat) ∧ (i 0 : Nat) < (i 0 : Nat) / 256 * 256 + 256
                omega
    | ⟨1, _⟩ => show win0_2.index _ 1 * 4096 ≤ (i 1 : Nat) ∧ (i 1 : Nat) < win0_2.index _ 1 * 4096 + 4096
                rw [index_2]
                show 0 * 4096 ≤ (i 1 : Nat) ∧ (i 1 : Nat) < 0 * 4096 + 4096
                omega

end Cert.NormIdeal.Own

namespace Cert.Proof.Norm

open Idealize.ShloMosaic Idealize.ShloMosaic.TcCoe Idealize.SL.Sem Idealize.ShloMosaic.ValueIdx
open Cert.NormRefIdeal Cert.NormRefIdeal.Read Cert.Rms

/-- The reference's factor of a row. -/
theorem factor_ref (x : (⟨S8192x4096, .f32⟩ : BufTy).Contents (Elt Ideal)) (i : Fin 8192) (e : Fin 4096) :
    val_main_v10 (F := Ideal) x (ix2 i e) = factor fun k => x (ix2 i k) := by
  rw [val_main_v10_apply, val_main_v9_apply, val_main_v8_apply, val_main_v7_apply, val_main_cst_1_apply, val_main_v6_apply, val_main_v5_apply,
    val_main_cst_0_apply, val_main_v4_apply, val_main_v3_apply, val_main_cst_apply]
  unfold factor
  refine congrArg (fun u : EReal => FloatOps.rsqrt (F := Ideal) (φ := .f32) (FloatOps.addf (F := Ideal) (φ := .f32)
      (FloatOps.divf (F := Ideal) (φ := .f32) u (FloatOps.ofBits (F := Ideal) .f32 0x45800000#32)) (FloatOps.ofBits (F := Ideal) .f32 0x358637BD#32))) ?_
  show Ideal.ofBits .f32 0x00000000#32 + _ = _
  rw [Ideal.ofBits_zero_f32, zero_add]
  refine Finset.sum_congr rfl fun k _ => ?_
  rw [val_main_v2_apply]
  have h : idx_main_v3 (idx_main_v4 (idx_main_v10 (ix2 i e))) k = ix2 i k := by
    funext b
    match b with
    | ⟨0, _⟩ => rfl
    | ⟨1, _⟩ => rfl
  rw [h]
  rfl

/-- The reference's gains, stretched over the rows: those of the first layer. -/
theorem gain_ref (g : (⟨S2x1x4096, .f32⟩ : BufTy).Contents (Elt Ideal)) (i : Fin 8192) (e : Fin 4096) :
    val_main_v13 (F := Ideal) g (ix2 i e) = g (ix3 0 0 e) := by
  have he := e.isLt
  rw [val_main_v13_apply, val_main_v12_apply, val_main_v1_apply, val_main_v0_apply]
  refine congrArg g (funext fun b => Fin.ext ?_)
  match b with
  | ⟨0, _⟩ => rfl
  | ⟨1, _⟩ => rfl
  | ⟨2, _⟩ => first | rfl | (show e.val % 4096 = e.val; omega)

/-- The reference's result at an index: the row normalised. -/
theorem result_ref (x : (⟨S8192x4096, .f32⟩ : BufTy).Contents (Elt Ideal)) (g : (⟨S2x1x4096, .f32⟩ : BufTy).Contents (Elt Ideal)) (i : Fin 8192) (e : Fin 4096) :
    val_main_v15 (F := Ideal) x g (ix2 i e) = normed (fun k => x (ix2 i k)) (fun k => g (ix3 0 0 k)) e := by
  rw [val_main_v15_apply, val_main_v14_apply, val_main_v11_apply, factor_ref, gain_ref]
  rfl

theorem results (m : (ℓ : Loc Cert.NormIdeal.nD Cert.NormIdeal.τ Cert.NormIdeal.sig) → Buf (Elt Ideal) ℓ) (c : Dev Cert.NormIdeal.nD) :
    val_main_v15 (F := Ideal) (Cert.NormIdeal.Own.rowsArg m c) (Cert.NormIdeal.Own.gainsArg m c) = Cert.NormIdeal.Own.result m c := by
  funext i
  refine Eq.trans (congrArg (val_main_v15 (F := Ideal) (Cert.NormIdeal.Own.rowsArg m c) (Cert.NormIdeal.Own.gainsArg m c)) ?_)
    (result_ref (Cert.NormIdeal.Own.rowsArg m c) (Cert.NormIdeal.Own.gainsArg m c) (i 0 : Fin 8192) (i 1 : Fin 4096))
  funext b
  match b with
  | ⟨0, _⟩ => rfl
  | ⟨1, _⟩ => rfl

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)

theorem preserves : Cert.preserves_Norm_NormIdeal := trivial

/-- **The kernel and the reference end with equal results** from equal arguments. -/
theorem algebraic : Cert.algebraic_NormIdeal_NormRefIdeal := fun m ρ m' ρ' _ hag =>
  ⟨fun c => Cert.NormIdeal.Own.result m c,
    (θ_run Cert.NormIdeal.defs _ _).mono (fun r h c => ⟨(h c).1.trans (Cert.NormIdeal.Own.final_o m c), (h c).2⟩)
      (Cert.NormIdeal.Value.run_blocks m ρ),
    (θ_run Cert.NormRefIdeal.defs _ _).mono
      (fun r h c => by
        refine ⟨(h c).1.trans ?_, (h c).2⟩
        rw [val_main_v15_eq, (hag c).1, (hag c).2]
        exact results m c)
      (Cert.NormRefIdeal.Value.run (F := Ideal) m' ρ')⟩

end Cert.Proof.Norm

end
-- ==== Proof.ResLast.lean ====
/-
  The last residual step: the value of the kernel's result, the reference's value at an index, and the claims about the call.
-/
module

public import proofs.«01_k».proof.Defs
public import proofs.«01_k».proof.Proof.Norm
public import proofs.«01_k».proof.Proof.Gen.ResLast
public import proofs.«01_k».proof.Proof.Gen.ResLast.Frame
public import proofs.«01_k».proof.Proof.Gen.ResLastIdeal
public import proofs.«01_k».proof.Proof.Gen.ResLastIdeal.Value
public import proofs.«01_k».proof.Proof.Gen.ResLastRefIdeal
public import proofs.«01_k».proof.Proof.Gen.ResLastRefIdeal.Read
public import Idealize.ShloMosaic.Lib.Quiescent

@[expose] public section

set_option maxRecDepth 16384

noncomputable section

namespace Cert.ResLastIdeal.Own

open Cert.ResLastIdeal Cert.ResLastIdeal.Gen Idealize.ShloMosaic Idealize.ShloMosaic.TcCoe Idealize.SL.Sem Idealize.ShloMosaic.ValueIdx Cert.Rms
open Cert.NormIdeal.Own (zero2 zero3)

variable (m : (ℓ : Loc nD τ sig) → Buf (Elt Ideal) ℓ)

/-- A block's row at an index: the old row plus the new one normalised. -/
theorem block_apply (y x : Vec Ideal S256x4096 .f32) (g : Vec Ideal S1x1x4096 .f32) (a : Fin 256) (e : Fin 4096) :
    out0_3 y x g (ix2 a e) = (x (ix2 a e) + normed (fun k => y (ix2 a k)) (fun k => g (ix3 0 0 k)) e : EReal) := by
  unfold out0_3
  rw [View.canon_unit_zero zero2, View.ld_unit_zero (S := S256x4096) zero2, View.ld_unit_zero (S := S256x4096) zero2, View.ld_unit_zero (S := S1x1x4096) zero3]
  unfold k0_pay1 normed
  exact congrArg₂ (fun u v : EReal => x (ix2 a e) + y (ix2 a e) * u * v) (factor_apply y _ _ _ a e) ((gains _ _ a e).trans (gain_row g _ e))

/-- The sublayer's output, the stream it is added to and the layers' gains, as launched. -/
abbrev newArg (c : Dev nD) : S8192x4096.Idx → EReal := m ((c : Thread nD τ).loc main_arg0)
abbrev oldArg (c : Dev nD) : S8192x4096.Idx → EReal := m ((c : Thread nD τ).loc main_arg1)
abbrev gainsArg (c : Dev nD) : S2x1x4096.Idx → EReal := m ((c : Thread nD τ).loc main_arg2)

/-- A point's three blocks. -/
abbrev newBlk (c : Dev nD) (t : Fin cfg0.N) : S256x4096.Idx → EReal := iblk m c 0 t
abbrev oldBlk (c : Dev nD) (t : Fin cfg0.N) : S256x4096.Idx → EReal := iblk m c 1 t
abbrev gainsBlk (c : Dev nD) (t : Fin cfg0.N) : S1x1x4096.Idx → EReal := iblk m c 2 t

theorem lt_N (t : Fin cfg0.N) : t.val < 32 := lt_of_lt_of_eq t.isLt (show cfg0.N = 32 from N_0)

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![1, 0, 0] := by decide +kernel
theorem index_3 : ∀ t : Fin grid0.N, win0_3.index t = ![t.val, 0] := by decide +kernel

theorem newBlk_apply (c : Dev nD) (t : Fin cfg0.N) (a : Fin 256) (k : Fin 4096) (i : Fin 8192) (hi : i.val = 256 * t.val + a.val) :
    newBlk m c t (ix2 a k) = newArg m c (ix2 i k) := by
  unfold newBlk iblk
  rw [View.read_apply]
  show V m c main_arg0 _ = _
  rw [V_main_arg0]
  refine congrArg (newArg m c) (funext fun b => Fin.ext ?_)
  match b with
  | ⟨0, _⟩ => show win0_0.index t 0 * 256 + 1 * a.val = i.val
              rw [index_0]; show t.val * 256 + 1 * a.val = _; omega
  | ⟨1, _⟩ => show win0_0.index t 1 * 4096 + 1 * k.val = k.val
              rw [index_0]; show 0 * 4096 + 1 * k.val = _; omega

theorem oldBlk_apply (c : Dev nD) (t : Fin cfg0.N) (a : Fin 256) (k : Fin 4096) (i : Fin 8192) (hi : i.val = 256 * t.val + a.val) :
    oldBlk m c t (ix2 a k) = oldArg m c (ix2 i k) := by
  unfold oldBlk iblk
  rw [View.read_apply]
  show V m c main_arg1 _ = _
  rw [V_main_arg1]
  refine congrArg (oldArg m c) (funext fun b => Fin.ext ?_)
  match b with
  | ⟨0, _⟩ => show win0_1.index t 0 * 256 + 1 * a.val = i.val
              rw [index_1]; show t.val * 256 + 1 * a.val = _; omega
  | ⟨1, _⟩ => show win0_1.index t 1 * 4096 + 1 * k.val = k.val
              rw [index_1]; show 0 * 4096 + 1 * k.val = _; omega

theorem gainsBlk_apply (c : Dev nD) (t : Fin cfg0.N) (k : Fin 4096) : gainsBlk m c t (ix3 0 0 k) = gainsArg m c (ix3 1 0 k) := by
  unfold gainsBlk iblk
  rw [View.read_apply]
  show V m c main_arg2 _ = _
  rw [V_main_arg2]
  refine congrArg (gainsArg m c) (funext fun b => Fin.ext ?_)
  match b with
  | ⟨0, _⟩ => show win0_2.index t 0 * 1 + 1 * 0 = 1
              rw [index_2]; rfl
  | ⟨1, _⟩ => show win0_2.index t 1 * 1 + 1 * 0 = 0
              rw [index_2]; rfl
  | ⟨2, _⟩ => show win0_2.index t 2 * 4096 + 1 * k.val = k.val
              rw [index_2]; show 0 * 4096 + 1 * k.val = _; omega

/-- The whole result: the stream plus the sublayer's output normalised, with the last layer's gains. -/
def result (c : Dev nD) : S8192x4096.Idx → EReal := fun y =>
  oldArg m c (ix2 (y 0 : Fin 8192) (y 1 : Fin 4096))
    + normed (fun k => newArg m c (ix2 (y 0 : Fin 8192) k)) (fun k => gainsArg m c (ix3 1 0 k)) (y 1 : Fin 4096)

theorem point (c : Dev nD) (t : Fin cfg0.N) (a : Fin 256) (e : Fin 4096) (i : Fin 8192) (hi : i.val = 256 * t.val + a.val) :
    (out0_3 (newBlk m c t) (oldBlk m c t) (gainsBlk m c t) : Vec Ideal S256x4096 .f32) (ix2 a e) = result m c (ix2 i e) := by
  rw [block_apply]
  unfold result
  exact congrArg₂ (fun u v : EReal => u + v) (oldBlk_apply m c t a e i hi)
    (congrArg₂ (fun f g => normed f g e) (funext fun k => newBlk_apply m c t a k i hi) (funext fun k => gainsBlk_apply m c t k))

/-- Every point writes back its block of the result. -/
theorem flushed_eq (c : Dev nD) (t : Fin cfg0.N) (_ : (cfg0.win 3).flush t = true) :
    (dats m 0 c).flushed 3 t = ((cfg0.win 3).blk t).view.read (Elt Ideal) (result m c) := by
  have hN := lt_N t
  rw [Value.flushed3]
  funext y
  rw [View.read_apply]
  have y0 : (y 0).val < 256 := (y 0).isLt
  have y1 : (y 1).val < 4096 := (y 1).isLt
  have e := point m c t ⟨(y 0).val, y0⟩ ⟨(y 1).val, y1⟩ ⟨256 * t.val + (y 0).val, by omega⟩ rfl
  refine Eq.trans ?_ (e.trans ?_)
  · show (out0_3 (newBlk m c t) (oldBlk m c t) (gainsBlk m c t) : Vec Ideal S256x4096 .f32) _ = _
    refine congrArg (out0_3 (newBlk m c t) (oldBlk m c t) (gainsBlk m c t) : Vec Ideal S256x4096 .f32) (funext fun b => Fin.ext ?_)
    match b with
    | ⟨0, _⟩ => rfl
    | ⟨1, _⟩ => rfl
  · refine congrArg (result m c) (funext fun b => Fin.ext ?_)
    match b with
    | ⟨0, _⟩ => show 256 * t.val + (y 0).val = win0_3.index t 0 * 256 + 1 * (y 0).val
                rw [index_3]; show _ = t.val * 256 + 1 * (y 0).val; omega
    | ⟨1, _⟩ => show (y 1).val = win0_3.index t 1 * 4096 + 1 * (y 1).val
                rw [index_3]; show _ = 0 * 4096 + 1 * (y 1).val; omega

/-- The result array ends holding it. -/
theorem final_o (c : Dev nD) : (dats m 0 c).arrAt 3 cfg0.N = result m c :=
  (dats m 0 c).arrAt_eq_of_cover 3 (result m c) (flushed_eq m c) fun i => by
    have h0 : (i 0 : Nat) < 8192 := (i 0).isLt
    have h1 : (i 1 : Nat) < 4096 := (i 1).isLt
    have hN : cfg0.N = 32 := N_0
    have ht : (i 0 : Nat) / 256 < cfg0.N := by omega
    refine ⟨⟨(i 0 : Nat) / 256, ht⟩, flush0_3 _, ?_⟩
    show i ∈ ((View.whole main_v0).slice (win0_3.rect ⟨(i 0 : Nat) / 256, ht⟩)).set
    rw [View.set_slice_whole, Rect.mem_set_unit]
    intro b
    match b with
    | ⟨0, _⟩ => show win0_3.index _ 0 * 256 ≤ (i 0 : Nat) ∧ (i 0 : Nat) < win0_3.index _ 0 * 256 + 256
                rw [index_3]
                show (i 0 : Nat) / 256 * 256 ≤ (i 0 : Nat) ∧ (i 0 : Nat) < (i 0 : Nat) / 256 * 256 + 256
                omega
    | ⟨1, _⟩ => show win0_3.index _ 1 * 4096 ≤ (i 1 : Nat) ∧ (i 1 : Nat) < win0_3.index _ 1 * 4096 + 4096
                rw [index_3]
                show 0 * 4096 ≤ (i 1 : Nat) ∧ (i 1 : Nat) < 0 * 4096 + 4096
                omega

end Cert.ResLastIdeal.Own

namespace Cert.Proof.ResLast

open Idealize.ShloMosaic Idealize.ShloMosaic.TcCoe Idealize.SL.Sem Idealize.ShloMosaic.ValueIdx
open Cert.ResLastRefIdeal Cert.ResLastRefIdeal.Read Cert.Rms

/-- The reference's factor of a row is that of the plain normalisation. -/
theorem factor_ref (y : (⟨S8192x4096, .f32⟩ : BufTy).Contents (Elt Ideal)) (i : Fin 8192) (e : Fin 4096) :
    val_main_v10 (F := Ideal) y (ix2 i e) = factor fun k => y (ix2 i k) :=
  (show val_main_v10 (F := Ideal) y (ix2 i e) = Cert.NormRefIdeal.Read.val_main_v10 (F := Ideal) y (ix2 i e) from rfl).trans (Cert.Proof.Norm.factor_ref y i e)

/-- The reference's gains, stretched over the rows: those of the last layer. -/
theorem gain_ref (g : (⟨S2x1x4096, .f32⟩ : BufTy).Contents (Elt Ideal)) (i : Fin 8192) (e : Fin 4096) :
    val_main_v13 (F := Ideal) g (ix2 i e) = g (ix3 1 0 e) := by
  have he := e.isLt
  rw [val_main_v13_apply, val_main_v12_apply, val_main_v1_apply, val_main_v0_apply]
  refine congrArg g (funext fun b => Fin.ext ?_)
  match b with
  | ⟨0, _⟩ => rfl
  | ⟨1, _⟩ => rfl
  | ⟨2, _⟩ => first | rfl | (show e.val % 4096 = e.val; omega)

/-- The reference's result at an index. -/
theorem result_ref (y x : (⟨S8192x4096, .f32⟩ : BufTy).Contents (Elt Ideal)) (g : (⟨S2x1x4096, .f32⟩ : BufTy).Contents (Elt Ideal)) (i : Fin 8192) (e : Fin 4096) :
    val_main_v15 (F := Ideal) y x g (ix2 i e) = (x (ix2 i e) + normed (fun k => y (ix2 i k)) (fun k => g (ix3 1 0 k)) e : EReal) := by
  rw [val_main_v15_apply, val_main_v14_apply, val_main_v11_apply, factor_ref, gain_ref]
  rfl

theorem results (m : (ℓ : Loc Cert.ResLastIdeal.nD Cert.ResLastIdeal.τ Cert.ResLastIdeal.sig) → Buf (Elt Ideal) ℓ) (c : Dev Cert.ResLastIdeal.nD) :
    val_main_v15 (F := Ideal) (Cert.ResLastIdeal.Own.newArg m c) (Cert.ResLastIdeal.Own.oldArg m c) (Cert.ResLastIdeal.Own.gainsArg m c)
      = Cert.ResLastIdeal.Own.result m c := by
  funext i
  refine Eq.trans (congrArg (val_main_v15 (F := Ideal) (Cert.ResLastIdeal.Own.newArg m c) (Cert.ResLastIdeal.Own.oldArg m c) (Cert.ResLastIdeal.Own.gainsArg m c)) ?_)
    (result_ref (Cert.ResLastIdeal.Own.newArg m c) (Cert.ResLastIdeal.Own.oldArg m c) (Cert.ResLastIdeal.Own.gainsArg m c) (i 0 : Fin 8192) (i 1 : Fin 4096))
  funext b
  match b with
  | ⟨0, _⟩ => rfl
  | ⟨1, _⟩ => rfl

theorem frame_p : Cert.quiescent_ResLast := fun m ρ _ => Cert.ResLast.Gen.frame m ρ
theorem frame_pi : Cert.quiescent_ResLastIdeal := fun m ρ _ => Cert.ResLastIdeal.Gen.frame m ρ
theorem frame_ri : Cert.quiescent_ResLastRefIdeal := fun m ρ _ =>
  (θ_run Cert.ResLastRefIdeal.defs _ _).mono
    (fun r h => ⟨fun c => (h c).2, Idealize.ShloMosaic.sem_eq_zero_of_no_sems (by decide) r.2⟩)
    (Cert.ResLastRefIdeal.Value.run (F := Ideal) m ρ)

theorem preserves : Cert.preserves_ResLast_ResLastIdeal := trivial

/-- **The kernel and the reference end with equal results** from equal arguments. -/
theorem algebraic : Cert.algebraic_ResLastIdeal_ResLastRefIdeal := fun m ρ m' ρ' _ hag =>
  ⟨fun c => Cert.ResLastIdeal.Own.result m c,
    (θ_run Cert.ResLastIdeal.defs _ _).mono (fun r h c => ⟨(h c).1.trans (Cert.ResLastIdeal.Own.final_o m c), (h c).2⟩)
      (Cert.ResLastIdeal.Value.run_blocks m ρ),
    (θ_run Cert.ResLastRefIdeal.defs _ _).mono
      (fun r h c => by
        refine ⟨(h c).1.trans ?_, (h c).2⟩
        rw [val_main_v15_eq, (hag c).1, (hag c).2.1, (hag c).2.2]
        exact results m c)
      (Cert.ResLastRefIdeal.Value.run (F := Ideal) m' ρ')⟩

end Cert.Proof.ResLast

end
-- ==== Proof.ResNorm.lean ====
/-
  A residual step and the normalisation of what it leaves: the values of the kernel's two results, the reference's values at an
  index, and the claims about the call.
-/
module

public import proofs.«01_k».proof.Defs
public import proofs.«01_k».proof.Proof.Norm
public import proofs.«01_k».proof.Proof.Gen.ResNorm
public import proofs.«01_k».proof.Proof.Gen.ResNorm.Frame
public import proofs.«01_k».proof.Proof.Gen.ResNormIdeal
public import proofs.«01_k».proof.Proof.Gen.ResNormIdeal.Value
public import proofs.«01_k».proof.Proof.Gen.ResNormRefIdeal
public import proofs.«01_k».proof.Proof.Gen.ResNormRefIdeal.Read
public import Idealize.ShloMosaic.Lib.Quiescent

@[expose] public section

set_option maxRecDepth 16384

noncomputable section

namespace Cert.ResNormIdeal.Own

open Cert.ResNormIdeal Cert.ResNormIdeal.Gen Idealize.ShloMosaic Idealize.ShloMosaic.TcCoe Idealize.SL.Sem Idealize.ShloMosaic.ValueIdx Cert.Rms
open Cert.NormIdeal.Own (zero2 zero3)

variable (m : (ℓ : Loc nD τ sig) → Buf (Elt Ideal) ℓ)

/-- One row: the old row plus the new one normalised. -/
def stepped (y x g : Fin 4096 → EReal) (e : Fin 4096) : EReal := x e + normed y g e

theorem sum_apply (y x : Vec Ideal S256x4096 .f32) (g : Vec Ideal S1x1x4096 .f32) (a : Fin 256) (e : Fin 4096) :
    k0_pay1 y x g (ix2 a e) = stepped (fun k => y (ix2 a k)) (fun k => x (ix2 a k)) (fun k => g (ix3 0 0 k)) e := by
  unfold k0_pay1 stepped normed
  exact congrArg₂ (fun u v : EReal => x (ix2 a e) + y (ix2 a e) * u * v) (factor_apply y _ _ _ a e) ((gains _ _ a e).trans (gain_row g _ e))

theorem norm_apply (y x : Vec Ideal S256x4096 .f32) (g h : Vec Ideal S1x1x4096 .f32) (a : Fin 256) (e : Fin 4096) :
    k0_pay2 y x g h (ix2 a e) = normed (fun k => k0_pay1 y x g (ix2 a k)) (fun k => h (ix3 0 0 k)) e := by
  unfold k0_pay2 normed
  exact congrArg₂ (fun u v : EReal => k0_pay1 y x g (ix2 a e) * u * v) (factor_apply (k0_pay1 y x g) _ _ _ a e) ((gains _ _ a e).trans (gain_row h _ e))

/-- The first block's row at an index. -/
theorem first_apply (y x : Vec Ideal S256x4096 .f32) (g h : Vec Ideal S1x1x4096 .f32) (a : Fin 256) (e : Fin 4096) :
    out0_4 y x g h (ix2 a e) = stepped (fun k => y (ix2 a k)) (fun k => x (ix2 a k)) (fun k => g (ix3 0 0 k)) e := by
  unfold out0_4
  rw [View.canon_unit_zero zero2, View.ld_unit_zero (S := S256x4096) zero2, View.ld_unit_zero (S := S256x4096) zero2, View.ld_unit_zero (S := S1x1x4096) zero3]
  exact sum_apply y x g a e

/-- The second block's row at an index: the first block's row normalised. -/
theorem second_apply (y x : Vec Ideal S256x4096 .f32) (g h : Vec Ideal S1x1x4096 .f32) (a : Fin 256) (e : Fin 4096) :
    out0_5 y x g h (ix2 a e)
      = normed (stepped (fun k => y (ix2 a k)) (fun k => x (ix2 a k)) fun k => g (ix3 0 0 k)) (fun k => h (ix3 0 0 k)) e := by
  unfold out0_5
  rw [View.canon_unit_zero zero2, View.ld_unit_zero (S := S256x4096) zero2, View.ld_unit_zero (S := S256x4096) zero2, View.ld_unit_zero (S := S1x1x4096) zero3,
    View.ld_unit_zero (S := S1x1x4096) zero3, norm_apply]
  exact congrArg (fun f => normed f (fun k => h (ix3 0 0 k)) e) (funext fun k => sum_apply y x g a k)

/-- The sublayer's output, the stream it is added to, and the two lists of gains, as launched. -/
abbrev newArg (c : Dev nD) : S8192x4096.Idx → EReal := m ((c : Thread nD τ).loc main_arg0)
abbrev oldArg (c : Dev nD) : S8192x4096.Idx → EReal := m ((c : Thread nD τ).loc main_arg1)
abbrev postArg (c : Dev nD) : S2x1x4096.Idx → EReal := m ((c : Thread nD τ).loc main_arg2)
abbrev nextArg (c : Dev nD) : S2x1x4096.Idx → EReal := m ((c : Thread nD τ).loc main_arg3)

/-- A point's four blocks. -/
abbrev newBlk (c : Dev nD) (t : Fin cfg0.N) : S256x4096.Idx → EReal := iblk m c 0 t
abbrev oldBlk (c : Dev nD) (t : Fin cfg0.N) : S256x4096.Idx → EReal := iblk m c 1 t
abbrev postBlk (c : Dev nD) (t : Fin cfg0.N) : S1x1x4096.Idx → EReal := iblk m c 2 t
abbrev nextBlk (c : Dev nD) (t : Fin cfg0.N) : S1x1x4096.Idx → EReal := iblk m c 3 t

theorem lt_N (t : Fin cfg0.N) : t.val < 32 := lt_of_lt_of_eq t.isLt (show cfg0.N = 32 from N_0)

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0, 0] := by decide +kernel
theorem index_3 : ∀ t : Fin grid0.N, win0_3.index t = ![0, 0, 0] := by decide +kernel
theorem index_4 : ∀ t : Fin grid0.N, win0_4.index t = ![t.val, 0] := by decide +kernel
theorem index_5 : ∀ t : Fin grid0.N, win0_5.index t = ![t.val, 0] := by decide +kernel

theorem newBlk_apply (c : Dev nD) (t : Fin cfg0.N) (a : Fin 256) (k : Fin 4096) (i : Fin 8192) (hi : i.val = 256 * t.val + a.val) :
    newBlk m c t (ix2 a k) = newArg m c (ix2 i k) := by
  unfold newBlk iblk
  rw [View.read_apply]
  show V m c main_arg0 _ = _
  rw [V_main_arg0]
  refine congrArg (newArg m c) (funext fun b => Fin.ext ?_)
  match b with
  | ⟨0, _⟩ => show win0_0.index t 0 * 256 + 1 * a.val = i.val
              rw [index_0]; show t.val * 256 + 1 * a.val = _; omega
  | ⟨1, _⟩ => show win0_0.index t 1 * 4096 + 1 * k.val = k.val
              rw [index_0]; show 0 * 4096 + 1 * k.val = _; omega

theorem oldBlk_apply (c : Dev nD) (t : Fin cfg0.N) (a : Fin 256) (k : Fin 4096) (i : Fin 8192) (hi : i.val = 256 * t.val + a.val) :
    oldBlk m c t (ix2 a k) = oldArg m c (ix2 i k) := by
  unfold oldBlk iblk
  rw [View.read_apply]
  show V m c main_arg1 _ = _
  rw [V_main_arg1]
  refine congrArg (oldArg m c) (funext fun b => Fin.ext ?_)
  match b with
  | ⟨0, _⟩ => show win0_1.index t 0 * 256 + 1 * a.val = i.val
              rw [index_1]; show t.val * 256 + 1 * a.val = _; omega
  | ⟨1, _⟩ => show win0_1.index t 1 * 4096 + 1 * k.val = k.val
              rw [index_1]; show 0 * 4096 + 1 * k.val = _; omega

theorem postBlk_apply (c : Dev nD) (t : Fin cfg0.N) (k : Fin 4096) : postBlk m c t (ix3 0 0 k) = postArg m c (ix3 0 0 k) := by
  unfold postBlk iblk
  rw [View.read_apply]
  show V m c main_arg2 _ = _
  rw [V_main_arg2]
  refine congrArg (postArg m c) (funext fun b => Fin.ext ?_)
  match b with
  | ⟨0, _⟩ => show win0_2.index t 0 * 1 + 1 * 0 = 0
              rw [index_2]; rfl
  | ⟨1, _⟩ => show win0_2.index t 1 * 1 + 1 * 0 = 0
              rw [index_2]; rfl
  | ⟨2, _⟩ => show win0_2.index t 2 * 4096 + 1 * k.val = k.val
              rw [index_2]; show 0 * 4096 + 1 * k.val = _; omega

theorem nextBlk_apply (c : Dev nD) (t : Fin cfg0.N) (k : Fin 4096) : nextBlk m c t (ix3 0 0 k) = nextArg m c (ix3 0 0 k) := by
  unfold nextBlk iblk
  rw [View.read_apply]
  show V m c main_arg3 _ = _
  rw [V_main_arg3]
  refine congrArg (nextArg m c) (funext fun b => Fin.ext ?_)
  match b with
  | ⟨0, _⟩ => show win0_3.index t 0 * 1 + 1 * 0 = 0
              rw [index_3]; rfl
  | ⟨1, _⟩ => show win0_3.index t 1 * 1 + 1 * 0 = 0
              rw [index_3]; rfl
  | ⟨2, _⟩ => show win0_3.index t 2 * 4096 + 1 * k.val = k.val
              rw [index_3]; show 0 * 4096 + 1 * k.val = _; omega

/-- A row of the stream after the step. -/
def streamRow (c : Dev nD) (i : Fin 8192) : Fin 4096 → EReal :=
  stepped (fun k => newArg m c (ix2 i k)) (fun k => oldArg m c (ix2 i k)) fun k => postArg m c (ix3 0 0 k)

/-- The two whole results: the stream after the step, and its rows normalised. -/
def stream (c : Dev nD) : S8192x4096.Idx → EReal := fun y => streamRow m c (y 0 : Fin 8192) (y 1 : Fin 4096)
def normedStream (c : Dev nD) : S8192x4096.Idx → EReal := fun y =>
  normed (streamRow m c (y 0 : Fin 8192)) (fun k => nextArg m c (ix3 0 0 k)) (y 1 : Fin 4096)

theorem row_of_blocks (c : Dev nD) (t : Fin cfg0.N) (a : Fin 256) (i : Fin 8192) (hi : i.val = 256 * t.val + a.val) :
    stepped (fun k => newBlk m c t (ix2 a k)) (fun k => oldBlk m c t (ix2 a k)) (fun k => postBlk m c t (ix3 0 0 k)) = streamRow m c i := by
  unfold streamRow
  rw [funext fun k => newBlk_apply m c t a k i hi, funext fun k => oldBlk_apply m c t a k i hi, funext fun k => postBlk_apply m c t k]

theorem point_4 (c : Dev nD) (t : Fin cfg0.N) (a : Fin 256) (e : Fin 4096) (i : Fin 8192) (hi : i.val = 256 * t.val + a.val) :
    (out0_4 (newBlk m c t) (oldBlk m c t) (postBlk m c t) (nextBlk m c t) : Vec Ideal S256x4096 .f32) (ix2 a e) = stream m c (ix2 i e) := by
  rw [first_apply, row_of_blocks m c t a i hi]
  rfl

theorem point_5 (c : Dev nD) (t : Fin cfg0.N) (a : Fin 256) (e : Fin 4096) (i : Fin 8192) (hi : i.val = 256 * t.val + a.val) :
    (out0_5 (newBlk m c t) (oldBlk m c t) (postBlk m c t) (nextBlk m c t) : Vec Ideal S256x4096 .bf16) (ix2 a e) = normedStream m c (ix2 i e) := by
  rw [second_apply, row_of_blocks m c t a i hi, funext fun k => nextBlk_apply m c t k]
  rfl

/-- Where a block index lies in the whole array. -/
abbrev placed (t : Fin cfg0.N) (a : Fin 256) : Fin 8192 := ⟨256 * t.val + a.val, by have := lt_N t; omega⟩

theorem placed_4 (t : Fin cfg0.N) (a : Fin 256) (e : Fin 4096) : ((win0_4.rect t).emb (ix2 a e) : S8192x4096.Idx) = ix2 (placed t a) e := by
  funext b
  apply Fin.ext
  match b with
  | ⟨0, _⟩ => show win0_4.index t 0 * 256 + 1 * a.val = 256 * t.val + a.val
              rw [index_4]; show t.val * 256 + 1 * a.val = _; omega
  | ⟨1, _⟩ => show win0_4.index t 1 * 4096 + 1 * e.val = e.val
              rw [index_4]; show 0 * 4096 + 1 * e.val = _; omega

theorem placed_5 (t : Fin cfg0.N) (a : Fin 256) (e : Fin 4096) : ((win0_5.rect t).emb (ix2 a e) : S8192x4096.Idx) = ix2 (placed t a) e := by
  funext b
  apply Fin.ext
  match b with
  | ⟨0, _⟩ => show win0_5.index t 0 * 256 + 1 * a.val = 256 * t.val + a.val
              rw [index_5]; show t.val * 256 + 1 * a.val = _; omega
  | ⟨1, _⟩ => show win0_5.index t 1 * 4096 + 1 * e.val = e.val
              rw [index_5]; show 0 * 4096 + 1 * e.val = _; omega

theorem pair (y : S256x4096.Idx) : y = ix2 (y 0 : Fin 256) (y 1 : Fin 4096) := by
  funext b
  match b with
  | ⟨0, _⟩ => rfl
  | ⟨1, _⟩ => rfl

/-- Every point writes back its block of the first result. -/
theorem flushed_4 (c : Dev nD) (t : Fin cfg0.N) (_ : (cfg0.win 4).flush t = true) :
    (dats m 0 c).flushed 4 t = ((cfg0.win 4).blk t).view.read (Elt Ideal) (stream m c) := by
  rw [Value.flushed4]
  funext y
  rw [View.read_apply]
  refine Eq.trans ?_ ((point_4 m c t (y 0 : Fin 256) (y 1 : Fin 4096) (placed t (y 0 : Fin 256)) rfl).trans ?_)
  · exact congrArg (out0_4 (newBlk m c t) (oldBlk m c t) (postBlk m c t) (nextBlk m c t) : Vec Ideal S256x4096 .f32) (pair y)
  · exact congrArg (stream m c) ((placed_4 t (y 0 : Fin 256) (y 1 : Fin 4096)).symm.trans (congrArg (win0_4.rect t).emb (pair y).symm))

/-- Every point writes back its block of the second result. -/
theorem flushed_5 (c : Dev nD) (t : Fin cfg0.N) (_ : (cfg0.win 5).flush t = true) :
    (dats m 0 c).flushed 5 t = ((cfg0.win 5).blk t).view.read (Elt Ideal) (normedStream m c) := by
  rw [Value.flushed5]
  funext y
  rw [View.read_apply]
  refine Eq.trans ?_ ((point_5 m c t (y 0 : Fin 256) (y 1 : Fin 4096) (placed t (y 0 : Fin 256)) rfl).trans ?_)
  · exact congrArg (out0_5 (newBlk m c t) (oldBlk m c t) (postBlk m c t) (nextBlk m c t) : Vec Ideal S256x4096 .bf16) (pair y)
  · exact congrArg (normedStream m c) ((placed_5 t (y 0 : Fin 256) (y 1 : Fin 4096)).symm.trans (congrArg (win0_5.rect t).emb (pair y).symm))

/-- The first result array ends holding the stream. -/
theorem final_4 (c : Dev nD) : (dats m 0 c).arrAt 4 cfg0.N = stream m c :=
  (dats m 0 c).arrAt_eq_of_cover 4 (stream m c) (flushed_4 m c) fun i => by
    have h0 : (i 0 : Nat) < 8192 := (i 0).isLt
    have h1 : (i 1 : Nat) < 4096 := (i 1).isLt
    have hN : cfg0.N = 32 := N_0
    have ht : (i 0 : Nat) / 256 < cfg0.N := by omega
    refine ⟨⟨(i 0 : Nat) / 256, ht⟩, flush0_4 _, ?_⟩
    show i ∈ ((View.whole main_v0_0).slice (win0_4.rect ⟨(i 0 : Nat) / 256, ht⟩)).set
    rw [View.set_slice_whole, Rect.mem_set_unit]
    intro b
    match b with
    | ⟨0, _⟩ => show win0_4.index _ 0 * 256 ≤ (i 0 : Nat) ∧ (i 0 : Nat) < win0_4.index _ 0 * 256 + 256
                rw [index_4]
                show (i 0 : Nat) / 256 * 256 ≤ (i 0 : Nat) ∧ (i 0 : Nat) < (i 0 : Nat) / 256 * 256 + 256
                omega
    | ⟨1, _⟩ => show win0_4.index _ 1 * 4096 ≤ (i 1 : Nat) ∧ (i 1 : Nat) < win0_4.index _ 1 * 4096 + 4096
                rw [index_4]
                show 0 * 4096 ≤ (i 1 : Nat) ∧ (i 1 : Nat) < 0 * 4096 + 4096
                omega

/-- The second result array ends holding the stream's rows normalised. -/
theorem final_5 (c : Dev nD) : (dats m 0 c).arrAt 5 cfg0.N = normedStream m c :=
  (dats m 0 c).arrAt_eq_of_cover 5 (normedStream m c) (flushed_5 m c) fun i => by
    have h0 : (i 0 : Nat) < 8192 := (i 0).isLt
    have h1 : (i 1 : Nat) < 4096 := (i 1).isLt
    have hN : cfg0.N = 32 := N_0
    have ht : (i 0 : Nat) / 256 < cfg0.N := by omega
    refine ⟨⟨(i 0 : Nat) / 256, ht⟩, flush0_5 _, ?_⟩
    show i ∈ ((View.whole main_v0_1).slice (win0_5.rect ⟨(i 0 : Nat) / 256, ht⟩)).set
    rw [View.set_slice_whole, Rect.mem_set_unit]
    intro b
    match b with
    | ⟨0, _⟩ => show win0_5.index _ 0 * 256 ≤ (i 0 : Nat) ∧ (i 0 : Nat) < win0_5.index _ 0 * 256 + 256
                rw [index_5]
                show (i 0 : Nat) / 256 * 256 ≤ (i 0 : Nat) ∧ (i 0 : Nat) < (i 0 : Nat) / 256 * 256 + 256
                omega
    | ⟨1, _⟩ => show win0_5.index _ 1 * 4096 ≤ (i 1 : Nat) ∧ (i 1 : Nat) < win0_5.index _ 1 * 4096 + 4096
                rw [index_5]
                show 0 * 4096 ≤ (i 1 : Nat) ∧ (i 1 : Nat) < 0 * 4096 + 4096
                omega

end Cert.ResNormIdeal.Own

namespace Cert.Proof.ResNorm

open Idealize.ShloMosaic Idealize.ShloMosaic.TcCoe Idealize.SL.Sem Idealize.ShloMosaic.ValueIdx
open Cert.ResNormRefIdeal Cert.ResNormRefIdeal.Read Cert.Rms
open Cert.ResNormIdeal.Own (stepped)

/-- The added rows are the plain normalisation of the sublayer's output. -/
theorem added_ref (y : (⟨S8192x4096, .f32⟩ : BufTy).Contents (Elt Ideal)) (g : (⟨S2x1x4096, .f32⟩ : BufTy).Contents (Elt Ideal)) (i : Fin 8192) (e : Fin 4096) :
    val_main_v14 (F := Ideal) y g (ix2 i e) = normed (fun k => y (ix2 i k)) (fun k => g (ix3 0 0 k)) e :=
  (show val_main_v14 (F := Ideal) y g (ix2 i e) = Cert.NormRefIdeal.Read.val_main_v15 (F := Ideal) y g (ix2 i e) from rfl).trans
    (Cert.Proof.Norm.result_ref y g i e)

theorem stream_ref (y x : (⟨S8192x4096, .f32⟩ : BufTy).Contents (Elt Ideal)) (g : (⟨S2x1x4096, .f32⟩ : BufTy).Contents (Elt Ideal)) (i : Fin 8192) (e : Fin 4096) :
    val_main_v15 (F := Ideal) y x g (ix2 i e) = stepped (fun k => y (ix2 i k)) (fun k => x (ix2 i k)) (fun k => g (ix3 0 0 k)) e := by
  rw [val_main_v15_apply, added_ref]
  rfl

/-- The second result is the plain normalisation of the first. -/
theorem normed_ref (y x : (⟨S8192x4096, .f32⟩ : BufTy).Contents (Elt Ideal)) (g h : (⟨S2x1x4096, .f32⟩ : BufTy).Contents (Elt Ideal)) (i : Fin 8192) (e : Fin 4096) :
    val_main_v31 (F := Ideal) y x g h (ix2 i e)
      = normed (stepped (fun k => y (ix2 i k)) (fun k => x (ix2 i k)) fun k => g (ix3 0 0 k)) (fun k => h (ix3 0 0 k)) e := by
  refine (show val_main_v31 (F := Ideal) y x g h (ix2 i e) = Cert.NormRefIdeal.Read.val_main_v15 (F := Ideal) (val_main_v15 (F := Ideal) y x g) h (ix2 i e) from rfl).trans
    ((Cert.Proof.Norm.result_ref (val_main_v15 (F := Ideal) y x g) h i e).trans ?_)
  exact congrArg (fun f => normed f (fun k => h (ix3 0 0 k)) e) (funext fun k => stream_ref y x g i k)

theorem pair (i : S8192x4096.Idx) : i = ix2 (i 0 : Fin 8192) (i 1 : Fin 4096) := by
  funext b
  match b with
  | ⟨0, _⟩ => rfl
  | ⟨1, _⟩ => rfl

theorem results_0 (m : (ℓ : Loc Cert.ResNormIdeal.nD Cert.ResNormIdeal.τ Cert.ResNormIdeal.sig) → Buf (Elt Ideal) ℓ) (c : Dev Cert.ResNormIdeal.nD) :
    val_main_v15 (F := Ideal) (Cert.ResNormIdeal.Own.newArg m c) (Cert.ResNormIdeal.Own.oldArg m c) (Cert.ResNormIdeal.Own.postArg m c) = Cert.ResNormIdeal.Own.stream m c :=
  funext fun i => (congrArg (val_main_v15 (F := Ideal) (Cert.ResNormIdeal.Own.newArg m c) (Cert.ResNormIdeal.Own.oldArg m c) (Cert.ResNormIdeal.Own.postArg m c)) (pair i)).trans
    (stream_ref _ _ _ (i 0 : Fin 8192) (i 1 : Fin 4096))

theorem results_1 (m : (ℓ : Loc Cert.ResNormIdeal.nD Cert.ResNormIdeal.τ Cert.ResNormIdeal.sig) → Buf (Elt Ideal) ℓ) (c : Dev Cert.ResNormIdeal.nD) :
    val_main_v31 (F := Ideal) (Cert.ResNormIdeal.Own.newArg m c) (Cert.ResNormIdeal.Own.oldArg m c) (Cert.ResNormIdeal.Own.postArg m c) (Cert.ResNormIdeal.Own.nextArg m c)
      = Cert.ResNormIdeal.Own.normedStream m c :=
  funext fun i => (congrArg (val_main_v31 (F := Ideal) (Cert.ResNormIdeal.Own.newArg m c) (Cert.ResNormIdeal.Own.oldArg m c) (Cert.ResNormIdeal.Own.postArg m c)
      (Cert.ResNormIdeal.Own.nextArg m c)) (pair i)).trans (normed_ref _ _ _ _ (i 0 : Fin 8192) (i 1 : Fin 4096))

theorem frame_p : Cert.quiescent_ResNorm := fun m ρ _ => Cert.ResNorm.Gen.frame m ρ
theorem frame_pi : Cert.quiescent_ResNormIdeal := fun m ρ _ => Cert.ResNormIdeal.Gen.frame m ρ
theorem frame_ri : Cert.quiescent_ResNormRefIdeal := fun m ρ _ =>
  (θ_run Cert.ResNormRefIdeal.defs _ _).mono
    (fun r h => ⟨fun c => (h c).2.2, Idealize.ShloMosaic.sem_eq_zero_of_no_sems (by decide) r.2⟩)
    (Cert.ResNormRefIdeal.Value.run (F := Ideal) m ρ)

theorem preserves : Cert.preserves_ResNorm_ResNormIdeal := trivial

/-- **The kernel and the reference end with equal results** from equal arguments. -/
theorem algebraic : Cert.algebraic_ResNormIdeal_ResNormRefIdeal := fun m ρ m' ρ' _ hag =>
  ⟨fun c => Cert.ResNormIdeal.Own.stream m c, fun c => Cert.ResNormIdeal.Own.normedStream m c,
    (θ_run Cert.ResNormIdeal.defs _ _).mono
      (fun r h c => ⟨(h c).1.trans (Cert.ResNormIdeal.Own.final_4 m c), (h c).2.1.trans (Cert.ResNormIdeal.Own.final_5 m c), (h c).2.2⟩)
      (Cert.ResNormIdeal.Value.run_blocks m ρ),
    (θ_run Cert.ResNormRefIdeal.defs _ _).mono
      (fun r h c => by
        refine ⟨(h c).1.trans ?_, (h c).2.1.trans ?_, (h c).2.2⟩
        · rw [val_main_v15_eq, (hag c).1, (hag c).2.1, (hag c).2.2.1]
          exact results_0 m c
        · rw [val_main_v31_eq, (hag c).1, (hag c).2.1, (hag c).2.2.1, (hag c).2.2.2]
          exact results_1 m c)
      (Cert.ResNormRefIdeal.Value.run (F := Ideal) m' ρ')⟩

end Cert.Proof.ResNorm

end
-- ==== Proof.MemKv.lean ====
/-
  The memory's keys and values: the value of the kernel's result, the reference's value at an index, and the claims about the call.
-/
module

public import proofs.«01_k».proof.Defs
public import proofs.«01_k».proof.Proof.Norm
public import proofs.«01_k».proof.Proof.Gen.MemKv
public import proofs.«01_k».proof.Proof.Gen.MemKv.Frame
public import proofs.«01_k».proof.Proof.Gen.MemKvIdeal
public import proofs.«01_k».proof.Proof.Gen.MemKvIdeal.Value
public import proofs.«01_k».proof.Proof.Gen.MemKvRefIdeal
public import proofs.«01_k».proof.Proof.Gen.MemKvRefIdeal.Read
public import Idealize.ShloMosaic.Lib.Quiescent

@[expose] public section

set_option maxRecDepth 16384

noncomputable section

namespace Cert.MemKvIdeal.Own

open Cert.MemKvIdeal Cert.MemKvIdeal.Gen Idealize.ShloMosaic Idealize.ShloMosaic.TcCoe Idealize.SL.Sem Idealize.ShloMosaic.ValueIdx Cert.Rms
open Cert.NormIdeal.Own (zero2)

variable (m : (ℓ : Loc nD τ sig) → Buf (Elt Ideal) ℓ)

/-- The kernel's normalised rows. -/
def rowsV (x : Vec Ideal S256x4096 .f32) (g : Vec Ideal S1x4096 .f32) : FVec Ideal S256x4096 .f32 :=
  mulf (mulf x (broadcastTo S256x4096 (rsqrt (addf (divf (shapeCast S256x1 (multiReduction .add [1] S256 (mulf x x) 0x00000000#32 reduces_S256x4096_S256 (.inl rfl) rfl) shapeCasts_S256_S256x1)
    (broadcast S256x1 (Scalar.ofBits (F := Ideal) .f32 0x45800000#32))) (broadcast S256x1 (Scalar.ofBits (F := Ideal) .f32 0x358637BD#32)))) broadcasts_S256x1_S256x4096))
    (broadcastTo S256x4096 (shapeCast S1x4096 g shapeCasts_S1x4096_S1x4096) broadcasts_S1x4096_S256x4096)

theorem rowsV_apply (x : Vec Ideal S256x4096 .f32) (g : Vec Ideal S1x4096 .f32) (a : Fin 256) (e : Fin 4096) :
    rowsV x g (ix2 a e) = normed (fun k => x (ix2 a k)) (fun k => g (ix2 0 k)) e := by
  unfold rowsV normed
  rw [shapeCast_self]
  exact congrArg₂ (fun u v : EReal => x (ix2 a e) * u * v) (factor_apply x _ _ _ a e) (gains _ _ a e)

theorem payload_eq (x : Vec Ideal S256x4096 .f32) (g : Vec Ideal S1x4096 .f32) (w : Vec Ideal S4096x512 .f32) :
    k0_pay1 x g w = truncf .bf16 (matmul (φ₁ := .bf16) (φ₂ := .bf16) dot_S256x4096_S4096x512_S256x512_1_0_0_1_n_n none (truncf .bf16 (rowsV x g) bitsLt_bf16_f32 : FVec Ideal S256x4096 .bf16)
      (truncf .bf16 (w : FVec Ideal S4096x512 .f32) bitsLt_bf16_f32 : FVec Ideal S4096x512 .bf16) (constant S256x512 .f32 0x00000000#32)) bitsLt_bf16_f32 := rfl

/-- A block's entry: the row normalised, times a column of the weights. -/
theorem block_apply (x : Vec Ideal S256x4096 .f32) (g : Vec Ideal S1x4096 .f32) (w : Vec Ideal S4096x512 .f32) (a : Fin 256) (e : Fin 512) :
    out0_3 x g w (ix2 a e) = ∑ k : Fin 4096, (normed (fun k => x (ix2 a k)) (fun k => g (ix2 0 k)) k * w (ix2 k e) : EReal) := by
  unfold out0_3
  rw [View.canon_unit_zero zero2, View.ld_unit_zero (S := S256x4096) zero2, View.ld_unit_zero (S := S1x4096) zero2, View.ld_unit_zero (S := S4096x512) zero2,
    payload_eq]
  refine (Ideal.matmul_plain_apply (M := 256) (K := 4096) (N := 512) (φ₁ := .bf16) (φ₂ := .bf16) none _ _ _ a e).trans ?_
  show Ideal.ofBits .f32 0x00000000#32 + _ = _
  rw [Ideal.ofBits_zero_f32, zero_add]
  exact Finset.sum_congr rfl fun k _ => congrArg (fun u : EReal => u * w (ix2 k e)) (rowsV_apply x g a k)

/-- The memory, its gains and the weights, as launched. -/
abbrev memArg (c : Dev nD) : S256x4096.Idx → EReal := m ((c : Thread nD τ).loc main_arg0)
abbrev gainsArg (c : Dev nD) : S4096.Idx → EReal := m ((c : Thread nD τ).loc main_arg1)
abbrev wArg (c : Dev nD) : S4096x2048.Idx → EReal := m ((c : Thread nD τ).loc main_arg2)

/-- A point's three blocks. -/
abbrev memBlk (c : Dev nD) (t : Fin cfg0.N) : S256x4096.Idx → EReal := iblk m c 0 t
abbrev gainsBlk (c : Dev nD) (t : Fin cfg0.N) : S1x4096.Idx → EReal := iblk m c 1 t
abbrev wBlk (c : Dev nD) (t : Fin cfg0.N) : S4096x512.Idx → EReal := iblk m c 2 t

theorem lt_N (t : Fin cfg0.N) : t.val < 4 := lt_of_lt_of_eq t.isLt (show cfg0.N = 4 from N_0)

theorem index_0 : ∀ t : Fin grid0.N, win0_0.index t = ![0, 0] := by decide +kernel
theorem index_1 : ∀ t : Fin grid0.N, win0_1.index t = ![0, 0] := by decide +kernel
theorem index_2 : ∀ t : Fin grid0.N, win0_2.index t = ![0, t.val] := by decide +kernel
theorem index_3 : ∀ t : Fin grid0.N, win0_3.index t = ![0, t.val] := by decide +kernel

/-- The gains enter the grid as one row. -/
theorem V_row (c : Dev nD) : (V m c main_v0 : Vec Ideal S1x4096 .f32) = shapeCast S1x4096 (gainsArg m c : Vec Ideal S4096 .f32) shapeCasts_S4096_S1x4096 := by
  show StableHlo.after hostOps0 _ _ = _
  after_results <;> rfl

theorem memBlk_apply (c : Dev nD) (t : Fin cfg0.N) (a : Fin 256) (k : Fin 4096) : memBlk m c t (ix2 a k) = memArg m c (ix2 a k) := by
  unfold memBlk iblk
  rw [View.read_apply]
  show V m c main_arg0 _ = _
  rw [V_main_arg0]
  refine congrArg (memArg m c) (funext fun b => Fin.ext ?_)
  match b with
  | ⟨0, _⟩ => show win0_0.index t 0 * 256 + 1 * a.val = a.val
              rw [index_0]; show 0 * 256 + 1 * a.val = _; omega
  | ⟨1, _⟩ => show win0_0.index t 1 * 4096 + 1 * k.val = k.val
              rw [index_0]; show 0 * 4096 + 1 * k.val = _; omega

theorem gainsBlk_apply (c : Dev nD) (t : Fin cfg0.N) (k : Fin 4096) : gainsBlk m c t (ix2 0 k) = gainsArg m c (ix1 k) := by
  unfold gainsBlk iblk
  rw [View.read_apply]
  show (V m c main_v0 : Vec Ideal S1x4096 .f32) _ = _
  rw [V_row]
  refine shapeCast_apply (s := S4096) (t := S1x4096) _ _ _ (ix1 k) ?_
  rw [Shape.rowMajor_val_one, Shape.rowMajor_val_two]
  show k.val = (win0_1.index t 0 * 1 + 1 * 0) * 4096 + (win0_1.index t 1 * 4096 + 1 * k.val)
  rw [index_1]
  show k.val = (0 * 1 + 1 * 0) * 4096 + (0 * 4096 + 1 * k.val)
  omega

theorem wBlk_apply (c : Dev nD) (t : Fin cfg0.N) (k : Fin 4096) (e : Fin 512) (n : Fin 2048) (hn : n.val = 512 * t.val + e.val) :
    wBlk m c t (ix2 k e) = wArg m c (ix2 k n) := by
  unfold wBlk iblk
  rw [View.read_apply]
  show V m c main_arg2 _ = _
  rw [V_main_arg2]
  refine congrArg (wArg m c) (funext fun b => Fin.ext ?_)
  match b with
  | ⟨0, _⟩ => show win0_2.index t 0 * 4096 + 1 * k.val = k.val
              rw [index_2]; show 0 * 4096 + 1 * k.val = _; omega
  | ⟨1, _⟩ => show win0_2.index t 1 * 512 + 1 * e.val = n.val
              rw [index_2]; show t.val * 512 + 1 * e.val = _; omega

/-- The whole result: every row of the memory normalised, times the weights. -/
def result (c : Dev nD) : S256x2048.Idx → EReal := fun y =>
  ∑ k : Fin 4096, normed (fun k => memArg m c (ix2 (y 0 : Fin 256) k)) (fun k => gainsArg m c (ix1 k)) k * wArg m c (ix2 k (y 1 : Fin 2048))

theorem point (c : Dev nD) (t : Fin cfg0.N) (a : Fin 256) (e : Fin 512) (n : Fin 2048) (hn : n.val = 512 * t.val + e.val) :
    (out0_3 (memBlk m c t) (gainsBlk m c t) (wBlk m c t) : Vec Ideal S256x512 .bf16) (ix2 a e) = result m c (ix2 a n) := by
  rw [block_apply]
  unfold result
  exact Finset.sum_congr rfl fun k _ => congrArg₂ (fun u v : EReal => u * v)
    (congrArg₂ (fun f g => normed f g k) (funext fun k => memBlk_apply m c t a k) (funext fun k => gainsBlk_apply m c t k)) (wBlk_apply m c t k e n hn)

/-- Every point writes back its block of the result. -/
theorem flushed_eq (c : Dev nD) (t : Fin cfg0.N) (_ : (cfg0.win 3).flush t = true) :
    (dats m 0 c).flushed 3 t = ((cfg0.win 3).blk t).view.read (Elt Ideal) (result m c) := by
  have hN := lt_N t
  rw [Value.flushed3]
  funext y
  rw [View.read_apply]
  have y0 : (y 0).val < 256 := (y 0).isLt
  have y1 : (y 1).val < 512 := (y 1).isLt
  have e := point m c t ⟨(y 0).val, y0⟩ ⟨(y 1).val, y1⟩ ⟨512 * t.val + (y 1).val, by omega⟩ rfl
  refine Eq.trans ?_ (e.trans ?_)
  · show (out0_3 (memBlk m c t) (gainsBlk m c t) (wBlk m c t) : Vec Ideal S256x512 .bf16) _ = _
    refine congrArg (out0_3 (memBlk m c t) (gainsBlk m c t) (wBlk m c t) : Vec Ideal S256x512 .bf16) (funext fun b => Fin.ext ?_)
    match b with
    | ⟨0, _⟩ => rfl
    | ⟨1, _⟩ => rfl
  · refine congrArg (result m c) (funext fun b => Fin.ext ?_)
    match b with
    | ⟨0, _⟩ => show (y 0).val = win0_3.index t 0 * 256 + 1 * (y 0).val
                rw [index_3]; show _ = 0 * 256 + 1 * (y 0).val; omega
    | ⟨1, _⟩ => show 512 * t.val + (y 1).val = win0_3.index t 1 * 512 + 1 * (y 1).val
                rw [index_3]; show _ = t.val * 512 + 1 * (y 1).val; omega

/-- The result array ends holding it. -/
theorem final_o (c : Dev nD) : (dats m 0 c).arrAt 3 cfg0.N = result m c :=
  (dats m 0 c).arrAt_eq_of_cover 3 (result m c) (flushed_eq m c) fun i => by
    have h0 : (i 0 : Nat) < 256 := (i 0).isLt
    have h1 : (i 1 : Nat) < 2048 := (i 1).isLt
    have hN : cfg0.N = 4 := N_0
    have ht : (i 1 : Nat) / 512 < cfg0.N := by omega
    refine ⟨⟨(i 1 : Nat) / 512, ht⟩, flush0_3 _, ?_⟩
    show i ∈ ((View.whole main_v1).slice (win0_3.rect ⟨(i 1 : Nat) / 512, ht⟩)).set
    rw [View.set_slice_whole, Rect.mem_set_unit]
    intro b
    match b with
    | ⟨0, _⟩ => show win0_3.index _ 0 * 256 ≤ (i 0 : Nat) ∧ (i 0 : Nat) < win0_3.index _ 0 * 256 + 256
                rw [index_3]
                show 0 * 256 ≤ (i 0 : Nat) ∧ (i 0 : Nat) < 0 * 256 + 256
                omega
    | ⟨1, _⟩ => show win0_3.index _ 1 * 512 ≤ (i 1 : Nat) ∧ (i 1 : Nat) < win0_3.index _ 1 * 512 + 512
                rw [index_3]
                show (i 1 : Nat) / 512 * 512 ≤ (i 1 : Nat) ∧ (i 1 : Nat) < (i 1 : Nat) / 512 * 512 + 512
                omega

end Cert.MemKvIdeal.Own

namespace Cert.Proof.MemKv

open Idealize.ShloMosaic Idealize.ShloMosaic.TcCoe Idealize.SL.Sem Idealize.ShloMosaic.ValueIdx
open Cert.MemKvRefIdeal Cert.MemKvRefIdeal.Read Cert.Rms

/-- The reference's factor of a row of the memory. -/
theorem factor_ref (x : (⟨S256x4096, .f32⟩ : BufTy).Contents (Elt Ideal)) (i : Fin 256) (e : Fin 4096) :
    val_main_v8 (F := Ideal) x (ix2 i e) = factor fun k => x (ix2 i k) := by
  rw [val_main_v8_apply, val_main_v7_apply, val_main_v6_apply, val_main_v5_apply, val_main_cst_1_apply, val_main_v4_apply, val_main_v3_apply,
    val_main_cst_0_apply, val_main_v2_apply, val_main_v1_apply, val_main_cst_apply]
  unfold factor
  refine congrArg (fun u : EReal => FloatOps.rsqrt (F := Ideal) (φ := .f32) (FloatOps.addf (F := Ideal) (φ := .f32)
      (FloatOps.divf (F := Ideal) (φ := .f32) u (FloatOps.ofBits (F := Ideal) .f32 0x45800000#32)) (FloatOps.ofBits (F := Ideal) .f32 0x358637BD#32))) ?_
  show Ideal.ofBits .f32 0x00000000#32 + _ = _
  rw [Ideal.ofBits_zero_f32, zero_add]
  refine Finset.sum_congr rfl fun k _ => ?_
  rw [val_main_v0_apply]
  have h : idx_main_v1 (idx_main_v2 (idx_main_v8 (ix2 i e))) k = ix2 i k := by
    funext b
    match b with
    | ⟨0, _⟩ => rfl
    | ⟨1, _⟩ => rfl
  rw [h]
  rfl

/-- The reference's normalised rows. -/
theorem rows_ref (x : (⟨S256x4096, .f32⟩ : BufTy).Contents (Elt Ideal)) (g : (⟨S4096, .f32⟩ : BufTy).Contents (Elt Ideal)) (i : Fin 256) (e : Fin 4096) :
    val_main_v12 (F := Ideal) x g (ix2 i e) = normed (fun k => x (ix2 i k)) (fun k => g (ix1 k)) e := by
  rw [val_main_v12_apply, val_main_v9_apply, factor_ref, val_main_v11_apply, val_main_v10_apply]
  refine congrArg (fun v : EReal => x (ix2 i e) * factor (fun k => x (ix2 i k)) * v) (congrArg g (funext fun b => ?_))
  match b with
  | ⟨0, _⟩ => rfl

theorem results (m : (ℓ : Loc Cert.MemKvIdeal.nD Cert.MemKvIdeal.τ Cert.MemKvIdeal.sig) → Buf (Elt Ideal) ℓ) (c : Dev Cert.MemKvIdeal.nD) :
    val_main_v14 (F := Ideal) (Cert.MemKvIdeal.Own.memArg m c) (Cert.MemKvIdeal.Own.gainsArg m c) (Cert.MemKvIdeal.Own.wArg m c) = Cert.MemKvIdeal.Own.result m c := by
  funext i
  rw [val_main_v14_apply]
  show val_main_v13 (F := Ideal) _ _ _ i = _
  rw [val_main_v13_apply]
  unfold Cert.MemKvIdeal.Own.result
  refine Finset.sum_congr rfl fun k _ => congrArg₂ (fun u v : EReal => u * v) ?_ (congrArg (Cert.MemKvIdeal.Own.wArg m c) ?_)
  · refine Eq.trans (congrArg (val_main_v12 (F := Ideal) (Cert.MemKvIdeal.Own.memArg m c) (Cert.MemKvIdeal.Own.gainsArg m c)) ?_)
      (rows_ref (Cert.MemKvIdeal.Own.memArg m c) (Cert.MemKvIdeal.Own.gainsArg m c) (i 0 : Fin 256) k)
    funext b
    match b with
    | ⟨0, _⟩ => rfl
    | ⟨1, _⟩ => rfl
  · funext b
    match b with
    | ⟨0, _⟩ => rfl
    | ⟨1, _⟩ => rfl

theorem frame_p : Cert.quiescent_MemKv := fun m ρ _ => Cert.MemKv.Gen.frame m ρ
theorem frame_pi : Cert.quiescent_MemKvIdeal := fun m ρ _ => Cert.MemKvIdeal.Gen.frame m ρ
theorem frame_ri : Cert.quiescent_MemKvRefIdeal := fun m ρ _ =>
  (θ_run Cert.MemKvRefIdeal.defs _ _).mono
    (fun r h => ⟨fun c => (h c).2, Idealize.ShloMosaic.sem_eq_zero_of_no_sems (by decide) r.2⟩)
    (Cert.MemKvRefIdeal.Value.run (F := Ideal) m ρ)

theorem preserves : Cert.preserves_MemKv_MemKvIdeal := trivial

/-- **The kernel and the reference end with equal results** from equal arguments. -/
theorem algebraic : Cert.algebraic_MemKvIdeal_MemKvRefIdeal := fun m ρ m' ρ' _ hag =>
  ⟨fun c => Cert.MemKvIdeal.Own.result m c,
    (θ_run Cert.MemKvIdeal.defs _ _).mono (fun r h c => ⟨(h c).1.trans (Cert.MemKvIdeal.Own.final_o m c), (h c).2⟩)
      (Cert.MemKvIdeal.Value.run_blocks m ρ),
    (θ_run Cert.MemKvRefIdeal.defs _ _).mono
      (fun r h c => by
        refine ⟨(h c).1.trans ?_, (h c).2⟩
        rw [val_main_v14_eq, (hag c).1, (hag c).2.1, (hag c).2.2]
        exact results m c)
      (Cert.MemKvRefIdeal.Value.run (F := Ideal) m' ρ')⟩

end Cert.Proof.MemKv

end
-- ==== Proof.Merge.lean ====
/-
  The merge of the three groups: the values of the kernel's blocks, the reference's values at an index, and the claims about the
  call.
-/
module

public import proofs.«01_k».proof.Defs
public import proofs.«01_k».proof.Proof.Softmax
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Read
public import Idealize.ShloMosaic.Lib.Quiescent
public import Idealize.ShloMosaic.Lib.Pipeline.ReadBack
public import Idealize.ShloMosaic.Lib.ValueIdx
public import Idealize.ShloMosaic.Lib.Pipeline.ValueKit.Tiles
public import Idealize.ShloMosaic.Lib.KernelVsHost

@[expose] public section

set_option maxRecDepth 16384

noncomputable section

namespace Cert.MergeIdeal.Own

open Cert.MergeIdeal Cert.MergeIdeal.Gen Idealize.ShloMosaic Idealize.ShloMosaic.TcCoe Idealize.SL.Sem Idealize.ShloMosaic.ValueIdx

/-- The largest of three scores. -/
def top (l : Fin 3 → EReal) : EReal := max (max (l 0) (l 1)) (l 2)

/-- The sum of the three exponentials. -/
def total (l : Fin 3 → EReal) : EReal := Ideal.exp (l 0 - top l) + Ideal.exp (l 1 - top l) + Ideal.exp (l 2 - top l)

/-- One group's weight. -/
def weight (l : Fin 3 → EReal) (k : Fin 3) : EReal := Ideal.div (Ideal.exp (l k - top l)) (total l)

/-- The three groups' entries, weighted and added. -/
def mix (l o : Fin 3 → EReal) : EReal := weight l 0 * o 0 + weight l 1 * o 1 + weight l 2 * o 2

theorem inbHead (h : Fin 16) : ∀ a : Fin 2, (![0, 128 * h.val] : Fin 2 → Nat) a + (S512x128.size : Fin 2 → Nat) a ≤ S512x2048.size a := by
  revert h; decide

/-- The rectangle of head `h`'s columns. -/
abbrev headRect (h : Fin 16) : Rect S512x2048 := Rect.unit (s := S512x2048) ![0, 128 * h.val] S512x128.size (inbHead h)

theorem slicesHead : ∀ h : Fin 16, S512x128.Slices ![0, h.val] S512x1 := by decide

/-- A group's weights of head `h`, times the head's columns. -/
def term (h : Fin 16) (w : FVec Ideal S512x128 .f32) (x : Vec Ideal S512x128 .f32) : FVec Ideal S512x128 .f32 :=
  mulf (broadcastTo S512x128 (extractStridedSlice S512x1 ![0, h.val] w (slicesHead h)) broadcasts_S512x1_S512x128) x

/-- One head's tile, as the kernel computes it. -/
def headV (h : Fin 16) (w0 w1 w2 : FVec Ideal S512x128 .f32) (x0 x1 x2 : Vec Ideal S512x128 .f32) : FVec Ideal S512x128 .bf16 :=
  truncf .bf16 (addf (addf (term h w0 x0) (term h w1 x1)) (term h w2 x2)) bitsLt_bf16_f32

theorem term_apply (h : Fin 16) (w : FVec Ideal S512x128 .f32) (x : Vec Ideal S512x128 .f32) (a : Fin 512) (e : Fin 128) :
    term h w x (ix2 a e) = w (ix2 a (⟨h.val, by omega⟩ : Fin 128)) * x (ix2 a e) := by
  refine congrArg (fun z : EReal => z * x (ix2 a e)) ?_
  refine (broadcastTo_apply (s := S512x1) (t := S512x128) _ _ _ (ix2 a 0) fun c => ?_).trans
    (extractStridedSlice_apply (s := S512x128) (t := S512x1) _ _ _ (ix2 a 0) (ix2 a (⟨h.val, by omega⟩ : Fin 128)) fun c => ?_)
  · match c with
    | ⟨0, _⟩ => rfl
    | ⟨1, _⟩ => rfl
  · match c with
    | ⟨0, _⟩ => show a.val = 0 + a.val; omega
    | ⟨1, _⟩ => rfl

/-- The three blocks of weights at an index. -/
theorem weights_apply (y0 y1 y2 : Vec Ideal S512x128 .f32) (a : Fin 512) (h : Fin 128) :
    k0_pay6 y0 y1 y2 (ix2 a h) = weight ![y0 (ix2 a h), y1 (ix2 a h), y2 (ix2 a h)] 0
    ∧ k0_pay7 y0 y1 y2 (ix2 a h) = weight ![y0 (ix2 a h), y1 (ix2 a h), y2 (ix2 a h)] 1
    ∧ k0_pay8 y0 y1 y2 (ix2 a h) = weight ![y0 (ix2 a h), y1 (ix2 a h), y2 (ix2 a h)] 2 := ⟨rfl, rfl, rfl⟩

/-- The sixteen heads, last first. -/
abbrev headsRev : List (Fin 16) := [15, 14, 13, 12, 11, 10, 9, 8, 7, 6, 5, 4, 3, 2, 1, 0]

/-- The block as the pieces its sixteen stores write. -/
def pieces (x0 x1 x2 : Vec Ideal S512x2048 .f32) (y0 y1 y2 : Vec Ideal S512x128 .f32) : List (View.Piece (Elt Ideal) S512x2048 .bf16) :=
  headsRev.map fun h => ⟨headRect h, headV h (k0_pay6 y0 y1 y2) (k0_pay7 y0 y1 y2) (k0_pay8 y0 y1 y2)
    (View.ld x0 (headRect h)) (View.ld x1 (headRect h)) (View.ld x2 (headRect h))⟩

theorem zero2 : (![0, 0] : Fin 2 → Nat) = fun _ => 0 := funext fun a => by fin_cases a <;> rfl

theorem block_eq (x0 x1 x2 : Vec Ideal S512x2048 .f32) (y0 y1 y2 : Vec Ideal S512x128 .f32) :
    out0_6 x0 x1 x2 y0 y1 y2 = View.canon (pieces x0 x1 x2 y0 y1 y2) := by
  unfold out0_6 k0_pay36 k0_pay35 k0_pay34
  rw [View.ld_unit_zero (S := S512x128) zero2, View.ld_unit_zero (S := S512x128) zero2, View.ld_unit_zero (S := S512x128) zero2]
  rfl

/-- The head a column belongs to. -/
abbrev headIx (k : Fin 2048) : Fin 128 := ⟨k.val / 128, by omega⟩

/-- One entry of the merged block. -/
def entry (x0 x1 x2 : S512x2048.Idx → EReal) (y0 y1 y2 : S512x128.Idx → EReal) (a : Fin 512) (k : Fin 2048) : EReal :=
  mix ![y0 (ix2 a (headIx k)), y1 (ix2 a (headIx k)), y2 (ix2 a (headIx k))] ![x0 (ix2 a k), x1 (ix2 a k), x2 (ix2 a k)]

theorem pair (x : S512x128.Idx) : x = ix2 (x 0 : Fin 512) (x 1 : Fin 128) := by
  funext b
  match b with
  | ⟨0, _⟩ => rfl
  | ⟨1, _⟩ => rfl

/-- A head's tile at an index. -/
theorem headV_apply (h : Fin 16) (x0 x1 x2 : Vec Ideal S512x2048 .f32) (y0 y1 y2 : Vec Ideal S512x128 .f32) (a : Fin 512) (e : Fin 128) :
    headV h (k0_pay6 y0 y1 y2) (k0_pay7 y0 y1 y2) (k0_pay8 y0 y1 y2) (View.ld x0 (headRect h)) (View.ld x1 (headRect h)) (View.ld x2 (headRect h)) (ix2 a e)
      = entry x0 x1 x2 y0 y1 y2 a ⟨128 * h.val + e.val, by omega⟩ := by
  have hl : (⟨h.val, by omega⟩ : Fin 128) = headIx ⟨128 * h.val + e.val, by omega⟩ := Fin.ext (by show h.val = (128 * h.val + e.val) / 128; omega)
  have hp : ((headRect h).idx (ix2 a e) : S512x2048.Idx) = ix2 a (⟨128 * h.val + e.val, by omega⟩ : Fin 2048) := by
    funext b
    apply Fin.ext
    match b with
    | ⟨0, _⟩ => show 0 + 1 * a.val = a.val; omega
    | ⟨1, _⟩ => show 128 * h.val + 1 * e.val = 128 * h.val + e.val; omega
  show term h _ _ (ix2 a e) + term h _ _ (ix2 a e) + term h _ _ (ix2 a e) = _
  rw [term_apply, term_apply, term_apply, (weights_apply y0 y1 y2 a _).1, (weights_apply y0 y1 y2 a _).2.1, (weights_apply y0 y1 y2 a _).2.2,
    View.ld_apply, View.ld_apply, View.ld_apply, hp, hl]
  rfl

/-- **The block at an index.** -/
theorem block_apply (x0 x1 x2 : Vec Ideal S512x2048 .f32) (y0 y1 y2 : Vec Ideal S512x128 .f32) (a : Fin 512) (k : Fin 2048) :
    out0_6 x0 x1 x2 y0 y1 y2 (ix2 a k) = entry x0 x1 x2 y0 y1 y2 a k := by
  rw [block_eq]
  refine View.canon_apply_of_pieces (G := fun y : S512x2048.Idx => entry x0 x1 x2 y0 y1 y2 (y 0 : Fin 512) (y 1 : Fin 2048))
    (pieces x0 x1 x2 y0 y1 y2) ?_ (ix2 a k) ?_
  · intro p hp x
    obtain ⟨g, -, rfl⟩ := List.mem_map.mp hp
    refine (congrArg _ (pair x)).trans ((headV_apply g x0 x1 x2 y0 y1 y2 (x 0 : Fin 512) (x 1 : Fin 128)).trans ?_)
    refine congrArg₂ (entry x0 x1 x2 y0 y1 y2) (Fin.ext ?_) (Fin.ext ?_)
    · show (x 0).val = 0 + 1 * (x 0).val; omega
    · show 128 * g.val + (x 1).val = 128 * g.val + 1 * (x 1).val; omega
  · refine ⟨_, List.mem_map.mpr ⟨⟨k.val / 128, by omega⟩, by generalize (⟨k.val / 128, _⟩ : Fin 16) = h; revert h; decide, rfl⟩, ?_⟩
    rw [Rect.mem_set_unit]
    intro c
    match c with
    | ⟨0, _⟩ => exact ⟨Nat.zero_le _, by show a.val < 0 + 512; have := a.isLt; omega⟩
    | ⟨1, _⟩ => exact ⟨by show 128 * (k.val / 128) ≤ k.val; omega, by show k.val < 128 * (k.val / 128) + 128; omega⟩

variable (m : (ℓ : Loc nD τ sig) → Buf (Elt Ideal) ℓ)

/-- The three groups' outputs and their log-sum-exps, as launched. -/
abbrev outArg0 (c : Dev nD) : S8192x2048.Idx → EReal := m ((c : Thread nD τ).loc main_arg0)
abbrev outArg1 (c : Dev nD) : S8192x2048.Idx → EReal := m ((c : Thread nD τ).loc main_arg1)
abbrev outArg2 (c : Dev nD) : S8192x2048.Idx → EReal := m ((c : Thread nD τ).loc main_arg2)
abbrev lseArg0 (c : Dev nD) : S8192x128.Idx → EReal := m ((c : Thread nD τ).loc main_arg3)
abbrev lseArg1 (c : Dev nD) : S8192x128.Idx → EReal := m ((c : Thread nD τ).loc main_arg4)
abbrev lseArg2 (c : Dev nD) : S8192x128.Idx → EReal := m ((c : Thread nD τ).loc main_arg5)

/-- A point's six blocks. -/
abbrev outBlk0 (c : Dev nD) (t : Fin cfg0.N) : S512x2048.Idx → EReal := iblk m c 0 t
abbrev outBlk1 (c : Dev nD) (t : Fin cfg0.N) : S512x2048.Idx → EReal := iblk m c 1 t
abbrev outBlk2 (c : Dev nD) (t : Fin cfg0.N) : S512x2048.Idx → EReal := iblk m c 2 t
abbrev lseBlk0 (c : Dev nD) (t : Fin cfg0.N) : S512x128.Idx → EReal := iblk m c 3 t
abbrev lseBlk1 (c : Dev nD) (t : Fin cfg0.N) : S512x128.Idx → EReal := iblk m c 4 t
abbrev lseBlk2 (c : Dev nD) (t : Fin cfg0.N) : S512x128.Idx → EReal := iblk m c 5 t

theorem lt_N (t : Fin cfg0.N) : t.val < 16 := lt_of_lt_of_eq t.isLt (show cfg0.N = 16 from N_0)

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![t.val, 0] := by decide +kernel

/-- Where an entry of block `t` of 512 rows lies in the whole array. -/
theorem placed_at {n : Nat} (f : Fin 2 → Nat) (t : Nat) (hf : f = ![t, 0]) (a : Fin 512) (k : Fin n) (i : Fin 8192) (hi : i.val = 512 * t + a.val)
    (y : (⟨2, ![8192, n]⟩ : Shape).Idx) (h0 : (y 0).val = f 0 * 512 + 1 * a.val) (h1 : (y 1).val = f 1 * n + 1 * k.val) : y = ix2 i k := by
  subst hf
  funext b
  apply Fin.ext
  match b with
  | ⟨0, _⟩ => refine h0.trans ?_
              show t * 512 + 1 * a.val = i.val; omega
  | ⟨1, _⟩ => refine h1.trans ?_
              show 0 * n + 1 * k.val = k.val; omega

/-- A point's blocks at an index, out of the arrays as launched. -/
theorem outBlks_apply (c : Dev nD) (t : Fin cfg0.N) (a : Fin 512) (k : Fin 2048) (i : Fin 8192) (hi : i.val = 512 * t.val + a.val) :
    outBlk0 m c t (ix2 a k) = outArg0 m c (ix2 i k) ∧ outBlk1 m c t (ix2 a k) = outArg1 m c (ix2 i k)
    ∧ outBlk2 m c t (ix2 a k) = outArg2 m c (ix2 i k) := by
  unfold outBlk0 outBlk1 outBlk2 iblk
  rw [View.read_apply, View.read_apply, View.read_apply]
  refine ⟨?_, ?_, ?_⟩
  · show V m c main_arg0 _ = _
    rw [V_main_arg0]
    exact congrArg (outArg0 m c) (placed_at _ t.val (index_0 t) a k i hi _ rfl rfl)
  · show V m c main_arg1 _ = _
    rw [V_main_arg1]
    exact congrArg (outArg1 m c) (placed_at _ t.val (index_1 t) a k i hi _ rfl rfl)
  · show V m c main_arg2 _ = _
    rw [V_main_arg2]
    exact congrArg (outArg2 m c) (placed_at _ t.val (index_2 t) a k i hi _ rfl rfl)

theorem lseBlks_apply (c : Dev nD) (t : Fin cfg0.N) (a : Fin 512) (k : Fin 128) (i : Fin 8192) (hi : i.val = 512 * t.val + a.val) :
    lseBlk0 m c t (ix2 a k) = lseArg0 m c (ix2 i k) ∧ lseBlk1 m c t (ix2 a k) = lseArg1 m c (ix2 i k)
    ∧ lseBlk2 m c t (ix2 a k) = lseArg2 m c (ix2 i k) := by
  unfold lseBlk0 lseBlk1 lseBlk2 iblk
  rw [View.read_apply, View.read_apply, View.read_apply]
  refine ⟨?_, ?_, ?_⟩
  · show V m c main_arg3 _ = _
    rw [V_main_arg3]
    exact congrArg (lseArg0 m c) (placed_at _ t.val (index_3 t) a k i hi _ rfl rfl)
  · show V m c main_arg4 _ = _
    rw [V_main_arg4]
    exact congrArg (lseArg1 m c) (placed_at _ t.val (index_4 t) a k i hi _ rfl rfl)
  · show V m c main_arg5 _ = _
    rw [V_main_arg5]
    exact congrArg (lseArg2 m c) (placed_at _ t.val (index_5 t) a k i hi _ rfl rfl)

/-- One entry of the merged array. -/
def mergedAt (x0 x1 x2 : S8192x2048.Idx → EReal) (y0 y1 y2 : S8192x128.Idx → EReal) (i : Fin 8192) (k : Fin 2048) : EReal :=
  mix ![y0 (ix2 i (headIx k)), y1 (ix2 i (headIx k)), y2 (ix2 i (headIx k))] ![x0 (ix2 i k), x1 (ix2 i k), x2 (ix2 i k)]

/-- The whole result. -/
def merged (c : Dev nD) : S8192x2048.Idx → EReal := fun y =>
  mergedAt (outArg0 m c) (outArg1 m c) (outArg2 m c) (lseArg0 m c) (lseArg1 m c) (lseArg2 m c) (y 0 : Fin 8192) (y 1 : Fin 2048)

theorem point_6 (c : Dev nD) (t : Fin cfg0.N) (a : Fin 512) (k : Fin 2048) (i : Fin 8192) (hi : i.val = 512 * t.val + a.val) :
    (out0_6 (outBlk0 m c t) (outBlk1 m c t) (outBlk2 m c t) (lseBlk0 m c t) (lseBlk1 m c t) (lseBlk2 m c t) : Vec Ideal S512x2048 .bf16) (ix2 a k)
      = merged m c (ix2 i k) := by
  rw [block_apply]
  unfold entry
  obtain ⟨o0, o1, o2⟩ := outBlks_apply m c t a k i hi
  obtain ⟨l0, l1, l2⟩ := lseBlks_apply m c t a (headIx k) i hi
  rw [o0, o1, o2, l0, l1, l2]
  rfl

/-- Where a block index lies in the whole array. -/
abbrev placed (t : Fin cfg0.N) (a : Fin 512) : Fin 8192 := ⟨512 * t.val + a.val, by have := lt_N t; omega⟩

theorem placed_6 (t : Fin cfg0.N) (a : Fin 512) (k : Fin 2048) : ((win0_6.rect t).emb (ix2 a k) : S8192x2048.Idx) = ix2 (placed t a) k :=
  placed_at _ t.val (index_6 t) a k (placed t a) rfl _ rfl rfl

theorem pairB (y : S512x2048.Idx) : y = ix2 (y 0 : Fin 512) (y 1 : Fin 2048) := by
  funext b
  match b with
  | ⟨0, _⟩ => rfl
  | ⟨1, _⟩ => rfl

/-- Every point writes back its block of the result. -/
theorem flushed_6 (c : Dev nD) (t : Fin cfg0.N) (_ : (cfg0.win 6).flush t = true) :
    (dats m 0 c).flushed 6 t = ((cfg0.win 6).blk t).view.read (Elt Ideal) (merged m c) := by
  rw [Value.flushed6]
  funext y
  rw [View.read_apply]
  refine Eq.trans ?_ ((point_6 m c t (y 0 : Fin 512) (y 1 : Fin 2048) (placed t (y 0 : Fin 512)) rfl).trans ?_)
  · exact congrArg (out0_6 (outBlk0 m c t) (outBlk1 m c t) (outBlk2 m c t) (lseBlk0 m c t) (lseBlk1 m c t) (lseBlk2 m c t) : Vec Ideal S512x2048 .bf16) (pairB y)
  · exact congrArg (merged m c) ((placed_6 t (y 0 : Fin 512) (y 1 : Fin 2048)).symm.trans (congrArg (win0_6.rect t).emb (pairB y).symm))

/-- The result array ends holding the merged groups. -/
theorem final_6 (c : Dev nD) : (dats m 0 c).arrAt 6 cfg0.N = merged m c :=
  (dats m 0 c).arrAt_eq_of_cover 6 (merged m c) (flushed_6 m c) fun i => by
    have h0 : (i 0 : Nat) < 8192 := (i 0).isLt
    have h1 : (i 1 : Nat) < 2048 := (i 1).isLt
    have hN : cfg0.N = 16 := N_0
    have ht : (i 0 : Nat) / 512 < cfg0.N := by omega
    refine ⟨⟨(i 0 : Nat) / 512, ht⟩, flush0_6 _, ?_⟩
    show i ∈ ((View.whole main_v0).slice (win0_6.rect ⟨(i 0 : Nat) / 512, ht⟩)).set
    rw [View.set_slice_whole, Rect.mem_set_unit]
    intro b
    match b with
    | ⟨0, _⟩ => show win0_6.index _ 0 * 512 ≤ (i 0 : Nat) ∧ (i 0 : Nat) < win0_6.index _ 0 * 512 + 512
                rw [index_6]
                show (i 0 : Nat) / 512 * 512 ≤ (i 0 : Nat) ∧ (i 0 : Nat) < (i 0 : Nat) / 512 * 512 + 512
                omega
    | ⟨1, _⟩ => show win0_6.index _ 1 * 2048 ≤ (i 1 : Nat) ∧ (i 1 : Nat) < win0_6.index _ 1 * 2048 + 2048
                rw [index_6]
                show 0 * 2048 ≤ (i 1 : Nat) ∧ (i 1 : Nat) < 0 * 2048 + 2048
                omega

end Cert.MergeIdeal.Own

namespace Cert.Proof.Merge

open Idealize.ShloMosaic Idealize.ShloMosaic.TcCoe Idealize.SL.Sem Idealize.ShloMosaic.ValueIdx
open Cert.MergeRefIdeal Cert.MergeRefIdeal.Gen Cert.MergeRefIdeal.Read
open Cert.MergeIdeal.Own (top total weight mix headIx mergedAt)
open Cert.Softmax (start_eq_bot)

/-- Three arrays stacked, at an index. -/
theorem stack_apply {n : Nat} (y : Fin 3 → (⟨3, ![1, 8192, n]⟩ : Shape).Idx → EReal)
    (hc : Shape.Concatenates [(⟨3, ![1, 8192, n]⟩ : Shape), ⟨3, ![1, 8192, n]⟩, ⟨3, ![1, 8192, n]⟩] ⟨3, ![3, 8192, n]⟩ 0)
    (k : Fin 3) (i : Fin 8192) (e : Fin n) :
    concatenate ⟨3, ![3, 8192, n]⟩ 0 [⟨⟨3, ![1, 8192, n]⟩, y 0⟩, ⟨⟨3, ![1, 8192, n]⟩, y 1⟩, ⟨⟨3, ![1, 8192, n]⟩, y 2⟩] hc (ix3 k i e)
      = y k (ix3 0 i e) := by
  refine concatenate_apply_piece (t := ⟨3, ![3, 8192, n]⟩) 0
    [⟨⟨3, ![1, 8192, n]⟩, y 0⟩, ⟨⟨3, ![1, 8192, n]⟩, y 1⟩, ⟨⟨3, ![1, 8192, n]⟩, y 2⟩] hc (ix3 k i e) k.val k.isLt ⟨3, ![1, 8192, n]⟩ (y k) ?_ rfl k.val ?_ (ix3 0 i e) (fun b hb => ?_) rfl
  · fin_cases k <;> rfl
  · fin_cases k <;> rfl
  · match b with
    | ⟨0, _⟩ => exact absurd rfl hb
    | ⟨1, _⟩ => rfl
    | ⟨2, _⟩ => rfl

variable (x0 x1 x2 : (⟨S8192x2048, .f32⟩ : BufTy).Contents (Elt Ideal)) (y0 y1 y2 : (⟨S8192x128, .f32⟩ : BufTy).Contents (Elt Ideal))

/-- The three log-sum-exps of a row and a head; the three outputs at an entry. -/
abbrev scores (i : Fin 8192) (h : Fin 128) : Fin 3 → EReal := ![y0 (ix2 i h), y1 (ix2 i h), y2 (ix2 i h)]
abbrev outs (i : Fin 8192) (k : Fin 2048) : Fin 3 → EReal := ![x0 (ix2 i k), x1 (ix2 i k), x2 (ix2 i k)]

theorem lse_ref (k : Fin 3) (i : Fin 8192) (h : Fin 16) :
    val_main_v4 (F := Ideal) y0 y1 y2 (ix3 k i h) = scores y0 y1 y2 i ⟨h.val, by omega⟩ k := by
  rw [val_main_v4_apply]
  have e : idx_main_v4 (ix3 k i h) = ix3 k i (⟨h.val, by omega⟩ : Fin 128) := by
    funext c; match c with | ⟨0, _⟩ => rfl | ⟨1, _⟩ => rfl | ⟨2, _⟩ => rfl
  rw [e]
  refine (stack_apply ![val_main_v0 (F := Ideal) y0, val_main_v1 (F := Ideal) y1, val_main_v2 (F := Ideal) y2] _ k i _).trans ?_
  fin_cases k
  · refine (val_main_v0_apply y0 _).trans (congrArg y0 (funext fun c => ?_))
    match c with | ⟨0, _⟩ => rfl | ⟨1, _⟩ => rfl
  · refine (val_main_v1_apply y1 _).trans (congrArg y1 (funext fun c => ?_))
    match c with | ⟨0, _⟩ => rfl | ⟨1, _⟩ => rfl
  · refine (val_main_v2_apply y2 _).trans (congrArg y2 (funext fun c => ?_))
    match c with | ⟨0, _⟩ => rfl | ⟨1, _⟩ => rfl

theorem out_ref (k : Fin 3) (i : Fin 8192) (c : Fin 2048) : val_main_v8 (F := Ideal) x0 x1 x2 (ix3 k i c) = outs x0 x1 x2 i c k := by
  refine (stack_apply ![val_main_v5 (F := Ideal) x0, val_main_v6 (F := Ideal) x1, val_main_v7 (F := Ideal) x2] _ k i _).trans ?_
  fin_cases k
  · refine (val_main_v5_apply x0 _).trans (congrArg x0 (funext fun c => ?_))
    match c with | ⟨0, _⟩ => rfl | ⟨1, _⟩ => rfl
  · refine (val_main_v6_apply x1 _).trans (congrArg x1 (funext fun c => ?_))
    match c with | ⟨0, _⟩ => rfl | ⟨1, _⟩ => rfl
  · refine (val_main_v7_apply x2 _).trans (congrArg x2 (funext fun c => ?_))
    match c with | ⟨0, _⟩ => rfl | ⟨1, _⟩ => rfl

/-- The greatest of three, folded. -/
theorem fold_three (f : Fin 3 → EReal) : (Finset.univ : Finset (Fin 3)).fold max ⊥ f = top f := by
  have h : (Finset.univ : Finset (Fin 3)).fold max ⊥ f = Finset.univ.sup f := rfl
  rw [h]
  unfold top
  apply le_antisymm
  · refine Finset.sup_le fun k _ => ?_
    fin_cases k
    · exact (le_max_left _ _).trans (le_max_left _ _)
    · exact (le_max_right _ _).trans (le_max_left _ _)
    · exact le_max_right _ _
  · exact max_le (max_le (Finset.le_sup (f := f) (Finset.mem_univ _)) (Finset.le_sup (f := f) (Finset.mem_univ _))) (Finset.le_sup (f := f) (Finset.mem_univ _))

theorem max_ref (i : Fin 8192) (h : Fin 16) : val_main_v12 (F := Ideal) y0 y1 y2 (ix2 i h) = top (scores y0 y1 y2 i ⟨h.val, by omega⟩) := by
  rw [val_main_v12_apply, val_main_v11_apply, val_main_cst_0_apply]
  have hv : val_main_v10 (F := Ideal) y0 y1 y2 (ix2 i h) = top (scores y0 y1 y2 i ⟨h.val, by omega⟩) := by
    unfold val_main_v10
    have hred : S3x8192x16.Reduces [0] S8192x16 := by decide
    rw [Host.reduce_eq_fold_single FloatOps.maximumf _ _ _ hred h_S_]
    refine Eq.trans (congrArg (fun z : EReal => Finset.univ.fold max z _) start_eq_bot) ?_
    refine Eq.trans (congrArg (fun f : Fin 3 → EReal => Finset.univ.fold max ⊥ f)
      (funext fun k => Eq.trans (congrArg (val_main_v4 (F := Ideal) y0 y1 y2) (a₂ := ix3 k i h) ?_) (lse_ref y0 y1 y2 k i h))) (fold_three _)
    funext c
    apply Fin.ext
    match c with
    | ⟨0, _⟩ => rfl
    | ⟨1, _⟩ => rfl
    | ⟨2, _⟩ => rfl
  rw [hv]
  exact (congrArg (fun z : EReal => max z _) start_eq_bot).trans (max_eq_right bot_le)

theorem exp_ref (k : Fin 3) (i : Fin 8192) (h : Fin 16) :
    val_main_v16 (F := Ideal) y0 y1 y2 (ix3 k i h)
      = Ideal.exp (scores y0 y1 y2 i ⟨h.val, by omega⟩ k - top (scores y0 y1 y2 i ⟨h.val, by omega⟩)) := by
  rw [val_main_v16_apply, val_main_v15_apply, lse_ref, val_main_v14_apply, val_main_v13_apply]
  have e : idx_main_v13 (idx_main_v14 (ix3 k i h)) = ix2 i h := by
    funext c; match c with | ⟨0, _⟩ => rfl | ⟨1, _⟩ => rfl
  rw [e, max_ref]
  rfl

theorem total_ref (i : Fin 8192) (h : Fin 16) : val_main_v17 (F := Ideal) y0 y1 y2 (ix2 i h) = total (scores y0 y1 y2 i ⟨h.val, by omega⟩) := by
  rw [val_main_v17_apply, show val_main_cst_1 (F := Ideal) (Shape.Idx.first h_S_) = (0 : EReal) from Ideal.ofBits_zero_f32, zero_add]
  have e : ∀ k : Fin 3, idx_main_v17 (ix2 i h) k = ix3 k i h := fun k => by
    funext c; match c with | ⟨0, _⟩ => rfl | ⟨1, _⟩ => rfl | ⟨2, _⟩ => rfl
  rw [Fin.sum_univ_three, e, e, e, exp_ref, exp_ref, exp_ref]
  rfl

theorem weight_ref (k : Fin 3) (i : Fin 8192) (h : Fin 16) :
    val_main_v20 (F := Ideal) y0 y1 y2 (ix3 k i h) = weight (scores y0 y1 y2 i ⟨h.val, by omega⟩) k := by
  rw [val_main_v20_apply, exp_ref, val_main_v19_apply, val_main_v18_apply]
  have e : idx_main_v18 (idx_main_v19 (ix3 k i h)) = ix2 i h := by
    funext c; match c with | ⟨0, _⟩ => rfl | ⟨1, _⟩ => rfl
  rw [e, total_ref]
  rfl

theorem term_ref (k : Fin 3) (i : Fin 8192) (h : Fin 16) (e : Fin 128) :
    val_main_v23 (F := Ideal) x0 x1 x2 y0 y1 y2 (ix4 k i h e)
      = weight (scores y0 y1 y2 i ⟨h.val, by omega⟩) k * outs x0 x1 x2 i ⟨128 * h.val + e.val, by omega⟩ k := by
  rw [val_main_v23_apply, val_main_v22_apply, val_main_v21_apply, val_main_v9_apply]
  have ew : idx_main_v21 (idx_main_v22 (ix4 k i h e)) = ix3 k i h := by
    funext c; match c with | ⟨0, _⟩ => rfl | ⟨1, _⟩ => rfl | ⟨2, _⟩ => rfl
  have eo : idx_main_v9 (ix4 k i h e) = ix3 k i (⟨128 * h.val + e.val, by omega⟩ : Fin 2048) := by
    have := k.isLt
    have := i.isLt
    have := h.isLt
    have := e.isLt
    funext c
    apply Fin.ext
    match c with
    | ⟨0, _⟩ => show (((k.val * 8192 + i.val) * 16 + h.val) * 128 + e.val) / 16777216 = k.val; omega
    | ⟨1, _⟩ => show (((k.val * 8192 + i.val) * 16 + h.val) * 128 + e.val) / 2048 % 8192 = i.val; omega
    | ⟨2, _⟩ => show (((k.val * 8192 + i.val) * 16 + h.val) * 128 + e.val) % 2048 = 128 * h.val + e.val; omega
  rw [ew, eo, weight_ref, out_ref]
  rfl

/-- **The reference at an index.** -/
theorem result_ref (i : Fin 8192) (c : Fin 2048) : val_main_v26 (F := Ideal) x0 x1 x2 y0 y1 y2 (ix2 i c) = mergedAt x0 x1 x2 y0 y1 y2 i c := by
  have := i.isLt
  have := c.isLt
  refine (val_main_v26_apply x0 x1 x2 y0 y1 y2 (ix2 i c)).trans ?_
  show val_main_v25 (F := Ideal) x0 x1 x2 y0 y1 y2 (ix2 i c) = _
  have e25 : idx_main_v25 (ix2 i c) = ix3 i (⟨c.val / 128, by omega⟩ : Fin 16) (⟨c.val % 128, by omega⟩ : Fin 128) := by
    funext b
    apply Fin.ext
    match b with
    | ⟨0, _⟩ => show (i.val * 2048 + c.val) / 2048 = i.val; omega
    | ⟨1, _⟩ => show (i.val * 2048 + c.val) / 128 % 16 = c.val / 128; omega
    | ⟨2, _⟩ => show (i.val * 2048 + c.val) % 128 = c.val % 128; omega
  have e24 : ∀ k : Fin 3, idx_main_v24 (ix3 i (⟨c.val / 128, by omega⟩ : Fin 16) (⟨c.val % 128, by omega⟩ : Fin 128)) k
      = ix4 k i (⟨c.val / 128, by omega⟩ : Fin 16) (⟨c.val % 128, by omega⟩ : Fin 128) := fun k => by
    funext b; match b with | ⟨0, _⟩ => rfl | ⟨1, _⟩ => rfl | ⟨2, _⟩ => rfl | ⟨3, _⟩ => rfl
  have ec : (⟨128 * (c.val / 128) + c.val % 128, by omega⟩ : Fin 2048) = c := Fin.ext (by show 128 * (c.val / 128) + c.val % 128 = c.val; omega)
  rw [val_main_v25_apply, e25, val_main_v24_apply, show val_main_cst_2 (F := Ideal) (Shape.Idx.first h_S_) = (0 : EReal) from Ideal.ofBits_zero_f32, zero_add,
    Fin.sum_univ_three, e24, e24, e24, term_ref, term_ref, term_ref, ec]
  rfl

theorem pair (i : S8192x2048.Idx) : i = ix2 (i 0 : Fin 8192) (i 1 : Fin 2048) := by
  funext b
  match b with
  | ⟨0, _⟩ => rfl
  | ⟨1, _⟩ => rfl

theorem results (i : S8192x2048.Idx) :
    val_main_v26 (F := Ideal) x0 x1 x2 y0 y1 y2 i = mergedAt x0 x1 x2 y0 y1 y2 (i 0 : Fin 8192) (i 1 : Fin 2048) :=
  (congrArg (val_main_v26 (F := Ideal) x0 x1 x2 y0 y1 y2) (pair i)).trans (result_ref x0 x1 x2 y0 y1 y2 (i 0 : Fin 8192) (i 1 : Fin 2048))

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

theorem preserves : Cert.preserves_Merge_MergeIdeal := trivial

/-- **The kernel and the reference end with equal results** from equal arguments. -/
theorem algebraic : Cert.algebraic_MergeIdeal_MergeRefIdeal := fun m ρ m' ρ' _ hag =>
  ⟨fun c => Cert.MergeIdeal.Own.merged m c,
    (θ_run Cert.MergeIdeal.defs _ _).mono
      (fun r h c => ⟨(h c).1.trans (Cert.MergeIdeal.Own.final_6 m c), (h c).2⟩)
      (Cert.MergeIdeal.Value.run_blocks m ρ),
    (θ_run Cert.MergeRefIdeal.defs _ _).mono
      (fun r h c => by
        refine ⟨(h c).1.trans ?_, (h c).2⟩
        rw [val_main_v26_eq, (hag c).1, (hag c).2.1, (hag c).2.2.1, (hag c).2.2.2.1, (hag c).2.2.2.2.1, (hag c).2.2.2.2.2]
        exact funext fun i => results _ _ _ _ _ _ i)
      (Cert.MergeRefIdeal.Value.run (F := Ideal) m' ρ')⟩

end Cert.Proof.Merge

end
-- ==== Proof.RopeTable.lean ====
/-
  The tables of the rotation: what the kernel's arguments hold when it starts, and what its two result arrays hold at the end.
-/
module

public import proofs.«01_k».proof.Proof.Gen.RopeIdeal
public import proofs.«01_k».proof.Proof.Gen.RopeIdeal.Frame
public import Idealize.ShloMosaic.Lib.Pipeline.Value
public import Idealize.ShloMosaic.Lib.Pipeline.ReadBack
public import Idealize.ShloMosaic.Lib.ValueIdx
public import Idealize.ShloMosaic.Lib.Pipeline.ValueKit.Tiles
public import Idealize.ShloMosaic.Lib.StableHlo.Run
public import Idealize.ShloMosaic.Lib.IdealHost

@[expose] public section

set_option maxRecDepth 16384

noncomputable section

namespace Cert.RopeIdeal.Own

open Cert.RopeIdeal Cert.RopeIdeal.Gen Idealize.ShloMosaic Idealize.ShloMosaic.TcCoe Idealize.SL.Sem Idealize.ShloMosaic.ValueIdx

variable {F : FTy → Type} [FloatOps F]

/-- Two rows of 64 entries, one after the other. -/
def twoHalves (a b : (⟨S64, .f32⟩ : BufTy).Contents (Elt F)) : (⟨S128, .f32⟩ : BufTy).Contents (Elt F) :=
  concatenate S128 0 [⟨S64, a⟩, ⟨S64, b⟩] concatenates_S64_S64_S128_d0

theorem twoHalves_left (a b : FVec Ideal S64 .f32) (e : Fin 128) (h : e.val < 64) : twoHalves (F := Ideal) a b (ix1 e) = a (ix1 ⟨e.val, h⟩) :=
  concatenate_pair_apply_left (t := S128) (s₁ := S64) (s₂ := S64) 0 a b concatenates_S64_S64_S128_d0 (ix1 e) rfl (ix1 ⟨e.val, h⟩) fun c => by
    match c with
    | ⟨0, _⟩ => rfl

theorem twoHalves_right (a b : FVec Ideal S64 .f32) (e : Fin 128) (h : 64 ≤ e.val) :
    twoHalves (F := Ideal) a b (ix1 e) = b (ix1 ⟨e.val - 64, by omega⟩) :=
  concatenate_pair_apply_right (t := S128) (s₁ := S64) (s₂ := S64) 0 a b concatenates_S64_S64_S128_d0 (ix1 e) rfl rfl (ix1 ⟨e.val - 64, by omega⟩)
    (fun c hc => by
      match c with
      | ⟨0, _⟩ => exact absurd rfl hc)
    (by show e.val - 64 + 64 = e.val; omega)

/-- The operations before the kernel, in order. -/
abbrev prefixOps : List (HloOp τ sig (Elt F)) :=
  [ StableHlo.nullary main_v0 (sitofp .f32 (iotaInDim S64 32 0)),
    StableHlo.unary main_v0 main_v1 (Host.negf : (⟨S64, .f32⟩ : BufTy).Contents (Elt F) → (⟨S64, .f32⟩ : BufTy).Contents (Elt F)),
    StableHlo.nullary main_cst (constant S_ .f32 0x40000000#32),
    StableHlo.unary main_cst main_v2 (broadcastInDim S64 ![] bcast_S_S64 : (⟨S_, .f32⟩ : BufTy).Contents (Elt F) → (⟨S64, .f32⟩ : BufTy).Contents (Elt F)),
    StableHlo.binary main_v1 main_v2 main_v3 (mulf : (⟨S64, .f32⟩ : BufTy).Contents (Elt F) → (⟨S64, .f32⟩ : BufTy).Contents (Elt F) → (⟨S64, .f32⟩ : BufTy).Contents (Elt F)),
    StableHlo.nullary main_cst_0 (constant S_ .f32 0x43000000#32),
    StableHlo.unary main_cst_0 main_v4 (broadcastInDim S64 ![] bcast_S_S64 : (⟨S_, .f32⟩ : BufTy).Contents (Elt F) → (⟨S64, .f32⟩ : BufTy).Contents (Elt F)),
    StableHlo.binary main_v3 main_v4 main_v5 (Host.divf : (⟨S64, .f32⟩ : BufTy).Contents (Elt F) → (⟨S64, .f32⟩ : BufTy).Contents (Elt F) → (⟨S64, .f32⟩ : BufTy).Contents (Elt F)),
    StableHlo.nullary main_cst_1 (constant S_ .f32 0x461C4000#32),
    StableHlo.unary main_cst_1 main_v6 (broadcastInDim S64 ![] bcast_S_S64 : (⟨S_, .f32⟩ : BufTy).Contents (Elt F) → (⟨S64, .f32⟩ : BufTy).Contents (Elt F)),
    StableHlo.binary main_v6 main_v5 main_v7 (Host.powf : (⟨S64, .f32⟩ : BufTy).Contents (Elt F) → (⟨S64, .f32⟩ : BufTy).Contents (Elt F) → (⟨S64, .f32⟩ : BufTy).Contents (Elt F)),
    StableHlo.binary main_v7 main_v7 main_v8 (twoHalves (F := F)),
    StableHlo.reshape main_v8 main_v9 (rfl : (.f32 : EltTy) = .f32) shapeCasts_S128_S1x128,
    StableHlo.nullary main_cst_2 (constant S_ .f32 0x3F800000#32),
    StableHlo.unary main_cst_2 main_v10 (broadcastInDim S64 ![] bcast_S_S64 : (⟨S_, .f32⟩ : BufTy).Contents (Elt F) → (⟨S64, .f32⟩ : BufTy).Contents (Elt F)),
    StableHlo.unary main_v10 main_v11 (Host.negf : (⟨S64, .f32⟩ : BufTy).Contents (Elt F) → (⟨S64, .f32⟩ : BufTy).Contents (Elt F)),
    StableHlo.nullary main_cst_3 (constant S_ .f32 0x3F800000#32),
    StableHlo.unary main_cst_3 main_v12 (broadcastInDim S64 ![] bcast_S_S64 : (⟨S_, .f32⟩ : BufTy).Contents (Elt F) → (⟨S64, .f32⟩ : BufTy).Contents (Elt F)),
    StableHlo.binary main_v11 main_v12 main_v13 (twoHalves (F := F)),
    StableHlo.reshape main_v13 main_v14 (rfl : (.f32 : EltTy) = .f32) shapeCasts_S128_S1x128,
    StableHlo.reshape main_arg0 main_v15 (rfl : (.i32 : EltTy) = .i32) shapeCasts_S1x8192_S8192x1 ]

/-- The 64 frequencies. -/
def freq : FVec Ideal S64 .f32 :=
  Host.powf (broadcastInDim S64 ![] bcast_S_S64 (constant (F := Ideal) S_ .f32 0x461C4000#32))
    (Host.divf (mulf (Host.negf (sitofp .f32 (iotaInDim S64 32 0))) (broadcastInDim S64 ![] bcast_S_S64 (constant (F := Ideal) S_ .f32 0x40000000#32)))
      (broadcastInDim S64 ![] bcast_S_S64 (constant (F := Ideal) S_ .f32 0x43000000#32)))

/-- A row of ones. -/
def ones : FVec Ideal S64 .f32 := broadcastInDim S64 ![] bcast_S_S64 (constant (F := Ideal) S_ .f32 0x3F800000#32)

theorem ones_apply (i : S64.Idx) : ones i = 1 := Ideal.ofBits_one_f32

variable (m : (ℓ : Loc nD τ sig) → Buf (Elt Ideal) ℓ)

/-- The positions, as launched. -/
abbrev posArg (c : Dev nD) : S1x8192.Idx → BitVec 32 := m ((c : Thread nD τ).loc main_arg0)

theorem V_freq (c : Dev nD) : (V m c main_v9 : S1x128.Idx → EReal) = shapeCast S1x128 (twoHalves (F := Ideal) freq freq) shapeCasts_S128_S1x128 := by
  show StableHlo.after (prefixOps (F := Ideal)) (fun b => m (c, b)) main_v9 = _
  after_results_simp <;> rfl

theorem V_sign (c : Dev nD) :
    (V m c main_v14 : S1x128.Idx → EReal) = shapeCast S1x128 (twoHalves (F := Ideal) (Host.negf ones) ones) shapeCasts_S128_S1x128 := by
  show StableHlo.after (prefixOps (F := Ideal)) (fun b => m (c, b)) main_v14 = _
  after_results_simp <;> rfl

theorem V_pos (c : Dev nD) : (V m c main_v15 : S8192x1.Idx → BitVec 32) = shapeCast S8192x1 (posArg m c) shapeCasts_S1x8192_S8192x1 := by
  show StableHlo.after (prefixOps (F := Ideal)) (fun b => m (c, b)) main_v15 = _
  after_results_simp <;> rfl

theorem row_apply (g : S128.Idx → EReal) (e : Fin 128) : shapeCast S1x128 g shapeCasts_S128_S1x128 (ix2 0 e) = g (ix1 e) := by
  refine shapeCast_apply g shapeCasts_S128_S1x128 (ix2 0 e) (ix1 e) ?_
  rw [Shape.rowMajor_val_two, Shape.rowMajor_val_one]
  show e.val = 0 * 128 + e.val
  omega

theorem col_apply (g : S1x8192.Idx → BitVec 32) (i : Fin 8192) : shapeCast S8192x1 g shapeCasts_S1x8192_S8192x1 (ix2 i 0) = g (ix2 0 i) := by
  refine shapeCast_apply g shapeCasts_S1x8192_S8192x1 (ix2 i 0) (ix2 0 i) ?_
  rw [Shape.rowMajor_val_two, Shape.rowMajor_val_two]
  show 0 * 8192 + i.val = i.val * 1 + 0
  omega

/-- The angle of a position at a column. -/
def angle (p : BitVec 32) (e : Fin 128) : EReal := ((p.toInt : ℝ) : EReal) * freq (ix1 (⟨e.val % 64, by omega⟩ : Fin 64))

/-- One entry of each table. -/
def cosAt (p : BitVec 32) (e : Fin 128) : EReal := Ideal.cos (angle p e)
def sinAt (p : BitVec 32) (e : Fin 128) : EReal := if e.val < 64 then -Ideal.sin (angle p e) else Ideal.sin (angle p e)

/-- The row of frequencies at an index. -/
theorem freq_row (e : Fin 128) : twoHalves (F := Ideal) freq freq (ix1 e) = freq (ix1 (⟨e.val % 64, by omega⟩ : Fin 64)) := by
  by_cases h : e.val < 64
  · exact (twoHalves_left freq freq e h).trans (congrArg (fun k : Fin 64 => freq (ix1 k)) (Fin.ext (Nat.mod_eq_of_lt h).symm))
  · exact (twoHalves_right freq freq e (by omega)).trans
      (congrArg (fun k : Fin 64 => freq (ix1 k)) (Fin.ext (by show e.val - 64 = e.val % 64; omega)))

/-- The row of signs, multiplied onto a value. -/
theorem sign_row (e : Fin 128) (z : EReal) : z * twoHalves (F := Ideal) (Host.negf ones) ones (ix1 e) = if e.val < 64 then -z else z := by
  by_cases h : e.val < 64
  · rw [twoHalves_left _ _ e h, if_pos h]
    show z * -(ones _) = -z
    rw [ones_apply, mul_neg, mul_one]
  · rw [twoHalves_right _ _ e (by omega), if_neg h, ones_apply, mul_one]

theorem zero2 : (![0, 0] : Fin 2 → Nat) = fun _ => 0 := funext fun a => by fin_cases a <;> rfl

/-- The kernel's angles at an index. -/
theorem pay1_apply (x : Vec Ideal S1024x1 .i32) (f : Vec Ideal S1x128 .f32) (a : Fin 1024) (e : Fin 128) :
    k0_pay1 x f (ix2 a e) = (((x (ix2 a 0) : BitVec 32).toInt : ℝ) : EReal) * f (ix2 0 e) := by
  unfold k0_pay1
  rw [shapeCast_self, shapeCast_self]
  refine congrArg₂ (fun u v : EReal => u * v)
    (broadcastTo_apply (s := S1024x1) (t := S1024x128) _ _ _ (ix2 a 0) fun c => ?_)
    (broadcastTo_apply (s := S1x128) (t := S1024x128) _ _ _ (ix2 0 e) fun c => ?_)
  · match c with
    | ⟨0, _⟩ => rfl
    | ⟨1, _⟩ => rfl
  · match c with
    | ⟨0, _⟩ => rfl
    | ⟨1, _⟩ => rfl

theorem block_cos (x : Vec Ideal S1024x1 .i32) (f g : Vec Ideal S1x128 .f32) (a : Fin 1024) (e : Fin 128) :
    out0_3 x f g (ix2 a e) = Ideal.cos ((((x (ix2 a 0) : BitVec 32).toInt : ℝ) : EReal) * f (ix2 0 e)) := by
  unfold out0_3
  rw [View.canon_unit_zero (S := S1024x128) zero2, View.ld_unit_zero (S := S1024x1) zero2, View.ld_unit_zero (S := S1x128) zero2]
  exact congrArg Ideal.cos (pay1_apply x f a e)

theorem block_sin (x : Vec Ideal S1024x1 .i32) (f g : Vec Ideal S1x128 .f32) (a : Fin 1024) (e : Fin 128) :
    out0_4 x f g (ix2 a e) = Ideal.sin ((((x (ix2 a 0) : BitVec 32).toInt : ℝ) : EReal) * f (ix2 0 e)) * g (ix2 0 e) := by
  unfold out0_4
  rw [View.canon_unit_zero (S := S1024x128) zero2, View.ld_unit_zero (S := S1024x1) zero2, View.ld_unit_zero (S := S1x128) zero2,
    View.ld_unit_zero (S := S1x128) zero2]
  unfold k0_pay3
  rw [shapeCast_self]
  refine congrArg₂ (fun u v : EReal => Ideal.sin u * v) (pay1_apply x f a e)
    (broadcastTo_apply (s := S1x128) (t := S1024x128) _ _ _ (ix2 0 e) fun c => ?_)
  match c with
  | ⟨0, _⟩ => rfl
  | ⟨1, _⟩ => rfl

/-- A point's three blocks. -/
abbrev posBlk (c : Dev nD) (t : Fin cfg0.N) : S1024x1.Idx → BitVec 32 := iblk m c 0 t
abbrev freqBlk (c : Dev nD) (t : Fin cfg0.N) : S1x128.Idx → EReal := iblk m c 1 t
abbrev signBlk (c : Dev nD) (t : Fin cfg0.N) : S1x128.Idx → EReal := iblk m c 2 t

theorem lt_N (t : Fin cfg0.N) : t.val < 8 := lt_of_lt_of_eq t.isLt (show cfg0.N = 8 from N_0)

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![t.val, 0] := by decide +kernel

/-- Where an entry of a block lies in its whole array. -/
theorem placed_at {R N n : Nat} (f : Fin 2 → Nat) (t : Nat) (hf : f = ![t, 0]) (a : Fin R) (k : Fin n) (i : Fin N) (hi : i.val = R * t + a.val)
    (y : (⟨2, ![N, n]⟩ : Shape).Idx) (h0 : (y 0).val = f 0 * R + 1 * a.val) (h1 : (y 1).val = f 1 * n + 1 * k.val) : y = ix2 i k := by
  subst hf
  funext b
  apply Fin.ext
  match b with
  | ⟨0, _⟩ => refine h0.trans ?_
              show t * R + 1 * a.val = i.val
              rw [hi, Nat.mul_comm, Nat.one_mul]
  | ⟨1, _⟩ => refine h1.trans ?_
              show 0 * n + 1 * k.val = k.val; omega

theorem pos_apply (c : Dev nD) (t : Fin cfg0.N) (a : Fin 1024) (i : Fin 8192) (hi : i.val = 1024 * t.val + a.val) :
    posBlk m c t (ix2 a 0) = posArg m c (ix2 0 i) := by
  unfold posBlk iblk
  rw [View.read_apply]
  refine Eq.trans ?_ (col_apply (posArg m c) i)
  show (V m c main_v15 : S8192x1.Idx → BitVec 32) _ = _
  rw [V_pos]
  exact congrArg (shapeCast S8192x1 (posArg m c) shapeCasts_S1x8192_S8192x1) (placed_at _ t.val (index_0 t) a (0 : Fin 1) i hi _ rfl rfl)

theorem freqBlk_apply (c : Dev nD) (t : Fin cfg0.N) (e : Fin 128) : freqBlk m c t (ix2 0 e) = freq (ix1 (⟨e.val % 64, by omega⟩ : Fin 64)) := by
  unfold freqBlk iblk
  rw [View.read_apply]
  refine Eq.trans ?_ ((row_apply (twoHalves (F := Ideal) freq freq) e).trans (freq_row e))
  show (V m c main_v9 : S1x128.Idx → EReal) _ = _
  rw [V_freq]
  exact congrArg (shapeCast S1x128 (twoHalves (F := Ideal) freq freq) shapeCasts_S128_S1x128) (placed_at _ 0 (index_1 t) (0 : Fin 1) e (0 : Fin 1) rfl _ rfl rfl)

theorem signBlk_apply (c : Dev nD) (t : Fin cfg0.N) (e : Fin 128) : signBlk m c t (ix2 0 e) = twoHalves (F := Ideal) (Host.negf ones) ones (ix1 e) := by
  unfold signBlk iblk
  rw [View.read_apply]
  refine Eq.trans ?_ (row_apply (twoHalves (F := Ideal) (Host.negf ones) ones) e)
  show (V m c main_v14 : S1x128.Idx → EReal) _ = _
  rw [V_sign]
  exact congrArg (shapeCast S1x128 (twoHalves (F := Ideal) (Host.negf ones) ones) shapeCasts_S128_S1x128)
    (placed_at _ 0 (index_2 t) (0 : Fin 1) e (0 : Fin 1) rfl _ rfl rfl)

/-- The two tables, whole. -/
def cosTable (p : S1x8192.Idx → BitVec 32) : S8192x128.Idx → EReal := fun y => cosAt (p (ix2 0 (y 0 : Fin 8192))) (y 1 : Fin 128)
def sinTable (p : S1x8192.Idx → BitVec 32) : S8192x128.Idx → EReal := fun y => sinAt (p (ix2 0 (y 0 : Fin 8192))) (y 1 : Fin 128)

theorem point_3 (c : Dev nD) (t : Fin cfg0.N) (a : Fin 1024) (e : Fin 128) (i : Fin 8192) (hi : i.val = 1024 * t.val + a.val) :
    (out0_3 (posBlk m c t) (freqBlk m c t) (signBlk m c t) : Vec Ideal S1024x128 .f32) (ix2 a e) = cosTable (posArg m c) (ix2 i e) := by
  rw [block_cos, pos_apply m c t a i hi, freqBlk_apply]
  rfl

theorem point_4 (c : Dev nD) (t : Fin cfg0.N) (a : Fin 1024) (e : Fin 128) (i : Fin 8192) (hi : i.val = 1024 * t.val + a.val) :
    (out0_4 (posBlk m c t) (freqBlk m c t) (signBlk m c t) : Vec Ideal S1024x128 .f32) (ix2 a e) = sinTable (posArg m c) (ix2 i e) := by
  rw [block_sin, pos_apply m c t a i hi, freqBlk_apply, signBlk_apply, sign_row]
  rfl

/-- Where a block's row lies in the whole array. -/
abbrev placed (t : Fin cfg0.N) (a : Fin 1024) : Fin 8192 := ⟨1024 * t.val + a.val, by have := lt_N t; omega⟩

theorem placed_3 (t : Fin cfg0.N) (a : Fin 1024) (k : Fin 128) : ((win0_3.rect t).emb (ix2 a k) : S8192x128.Idx) = ix2 (placed t a) k :=
  placed_at _ t.val (index_3 t) a k (placed t a) rfl _ rfl rfl

theorem placed_4 (t : Fin cfg0.N) (a : Fin 1024) (k : Fin 128) : ((win0_4.rect t).emb (ix2 a k) : S8192x128.Idx) = ix2 (placed t a) k :=
  placed_at _ t.val (index_4 t) a k (placed t a) rfl _ rfl rfl

theorem pairB (y : S1024x128.Idx) : y = ix2 (y 0 : Fin 1024) (y 1 : Fin 128) := by
  funext b
  match b with
  | ⟨0, _⟩ => rfl
  | ⟨1, _⟩ => rfl

/-- Every point writes back its block of each table. -/
theorem flushed_3 (c : Dev nD) (t : Fin cfg0.N) (_ : (cfg0.win 3).flush t = true) :
    (dats m 0 c).flushed 3 t = ((cfg0.win 3).blk t).view.read (Elt Ideal) (cosTable (posArg m c)) := by
  show (cfg0.win 3).cut (grid0.coords t) ((dats m 0 c).after 3 t) = _
  rw [after0_3]
  funext y
  rw [View.read_apply]
  refine Eq.trans ?_ ((point_3 m c t (y 0 : Fin 1024) (y 1 : Fin 128) (placed t (y 0 : Fin 1024)) rfl).trans ?_)
  · exact congrArg (out0_3 (posBlk m c t) (freqBlk m c t) (signBlk m c t) : Vec Ideal S1024x128 .f32) (pairB y)
  · exact congrArg (cosTable (posArg m c)) ((placed_3 t (y 0 : Fin 1024) (y 1 : Fin 128)).symm.trans (congrArg (win0_3.rect t).emb (pairB y).symm))

theorem flushed_4 (c : Dev nD) (t : Fin cfg0.N) (_ : (cfg0.win 4).flush t = true) :
    (dats m 0 c).flushed 4 t = ((cfg0.win 4).blk t).view.read (Elt Ideal) (sinTable (posArg m c)) := by
  show (cfg0.win 4).cut (grid0.coords t) ((dats m 0 c).after 4 t) = _
  rw [after0_4]
  funext y
  rw [View.read_apply]
  refine Eq.trans ?_ ((point_4 m c t (y 0 : Fin 1024) (y 1 : Fin 128) (placed t (y 0 : Fin 1024)) rfl).trans ?_)
  · exact congrArg (out0_4 (posBlk m c t) (freqBlk m c t) (signBlk m c t) : Vec Ideal S1024x128 .f32) (pairB y)
  · exact congrArg (sinTable (posArg m c)) ((placed_4 t (y 0 : Fin 1024) (y 1 : Fin 128)).symm.trans (congrArg (win0_4.rect t).emb (pairB y).symm))

/-- The blocks of 1024 rows tile the table. -/
theorem tiles (f : Fin 2 → Nat) (i : S8192x128.Idx) (hf : f = ![(i 0 : Nat) / 1024, 0]) (b : Fin 2) :
    f b * (S1024x128.size : Fin 2 → Nat) b ≤ (i b : Nat) ∧ (i b : Nat) < f b * (S1024x128.size : Fin 2 → Nat) b + (S1024x128.size : Fin 2 → Nat) b := by
  subst hf
  have h0 : (i 0 : Nat) < 8192 := (i 0).isLt
  have h1 : (i 1 : Nat) < 128 := (i 1).isLt
  match b with
  | ⟨0, _⟩ => show (i 0 : Nat) / 1024 * 1024 ≤ (i 0 : Nat) ∧ (i 0 : Nat) < (i 0 : Nat) / 1024 * 1024 + 1024
              omega
  | ⟨1, _⟩ => show 0 * 128 ≤ (i 1 : Nat) ∧ (i 1 : Nat) < 0 * 128 + 128
              omega

theorem row_point (i : S8192x128.Idx) : (i 0 : Nat) / 1024 < cfg0.N := by
  have h0 : (i 0 : Nat) < 8192 := (i 0).isLt
  have hN : cfg0.N = 8 := N_0
  omega

/-- The result arrays end holding the two tables. -/
theorem final_3 (c : Dev nD) : (dats m 0 c).arrAt 3 cfg0.N = cosTable (posArg m c) :=
  (dats m 0 c).arrAt_eq_of_cover 3 (cosTable (posArg m c)) (flushed_3 m c) fun i => by
    refine ⟨⟨(i 0 : Nat) / 1024, row_point i⟩, flush0_3 _, ?_⟩
    show i ∈ ((View.whole main_v16_0).slice (win0_3.rect ⟨(i 0 : Nat) / 1024, row_point i⟩)).set
    rw [View.set_slice_whole, Rect.mem_set_unit]
    exact tiles _ i (index_3 _)

theorem final_4 (c : Dev nD) : (dats m 0 c).arrAt 4 cfg0.N = sinTable (posArg m c) :=
  (dats m 0 c).arrAt_eq_of_cover 4 (sinTable (posArg m c)) (flushed_4 m c) fun i => by
    refine ⟨⟨(i 0 : Nat) / 1024, row_point i⟩, flush0_4 _, ?_⟩
    show i ∈ ((View.whole main_v16_1).slice (win0_4.rect ⟨(i 0 : Nat) / 1024, row_point i⟩)).set
    rw [View.set_slice_whole, Rect.mem_set_unit]
    exact tiles _ i (index_4 _)

/-- The kernel ends with the two tables, its argument unchanged. -/
theorem run (ρ : Dev nD → PrngReg) : θ_run defs (onTc (τ := τ) (main (F := Ideal))) ⟨m, fun _ => 0, ρ⟩ fun r => ∀ c : Dev nD,
    r.2.mem ((c : Thread nD τ).loc main_v16_0) = cosTable (posArg m c)
    ∧ r.2.mem ((c : Thread nD τ).loc main_v16_1) = sinTable (posArg m c)
    ∧ r.2.mem ((c : Thread nD τ).loc main_arg0) = m ((c : Thread nD τ).loc main_arg0) :=
  (θ_run defs _ _).mono (fun _ h c => ⟨((h c).1 3).trans (final_3 m c), ((h c).1 4).trans (final_4 m c),
      ((h c).2 main_arg0 (Pipeline.mem_restRefs_of main_arg0 (by decide) (by decide))).trans (V_main_arg0 m c)⟩)
    (run_main m ρ)

end Cert.RopeIdeal.Own

end
-- ==== Proof.RopeRun.lean ====
/-
  The reference of the rotation's tables: its operations in order, and its run read back.
-/
module

public import proofs.«01_k».proof.Proof.Gen.RopeRefIdeal
public import Idealize.ShloMosaic.Lib.StableHlo.Run
public import Idealize.ShloMosaic.Lib.IdealHost

@[expose] public section

noncomputable section

namespace Cert.RopeRefIdeal.Own

open Cert.RopeRefIdeal Cert.RopeRefIdeal.Gen Idealize.ShloMosaic Idealize.ShloMosaic.TcCoe Idealize.SL.Sem Idealize.ShloMosaic.StableHlo

variable {F : FTy → Type} [FloatOps F]

/-- Two tables of 64 columns, side by side. -/
def sideBySide (a b : (⟨S8192x64, .f32⟩ : BufTy).Contents (Elt F)) : (⟨S8192x128, .f32⟩ : BufTy).Contents (Elt F) :=
  concatenate S8192x128 1 [⟨S8192x64, a⟩, ⟨S8192x64, b⟩] concatenates_S8192x64_S8192x64_S8192x128_d1

/-- The reference's operations, in order. -/
abbrev ops : List (HloOp τ sig (Elt F)) :=
  [ nullary main_v0 (sitofp .f32 (iotaInDim S64 32 0)),
    unary main_v0 main_v1 (Host.negf : (⟨S64, .f32⟩ : BufTy).Contents (Elt F) → (⟨S64, .f32⟩ : BufTy).Contents (Elt F)),
    nullary main_cst (constant S_ .f32 0x40000000#32),
    unary main_cst main_v2 (broadcastInDim S64 ![] bcast_S_S64 : (⟨S_, .f32⟩ : BufTy).Contents (Elt F) → (⟨S64, .f32⟩ : BufTy).Contents (Elt F)),
    binary main_v1 main_v2 main_v3 (mulf : (⟨S64, .f32⟩ : BufTy).Contents (Elt F) → (⟨S64, .f32⟩ : BufTy).Contents (Elt F) → (⟨S64, .f32⟩ : BufTy).Contents (Elt F)),
    nullary main_cst_0 (constant S_ .f32 0x43000000#32),
    unary main_cst_0 main_v4 (broadcastInDim S64 ![] bcast_S_S64 : (⟨S_, .f32⟩ : BufTy).Contents (Elt F) → (⟨S64, .f32⟩ : BufTy).Contents (Elt F)),
    binary main_v3 main_v4 main_v5 (Host.divf : (⟨S64, .f32⟩ : BufTy).Contents (Elt F) → (⟨S64, .f32⟩ : BufTy).Contents (Elt F) → (⟨S64, .f32⟩ : BufTy).Contents (Elt F)),
    nullary main_cst_1 (constant S_ .f32 0x461C4000#32),
    unary main_cst_1 main_v6 (broadcastInDim S64 ![] bcast_S_S64 : (⟨S_, .f32⟩ : BufTy).Contents (Elt F) → (⟨S64, .f32⟩ : BufTy).Contents (Elt F)),
    binary main_v6 main_v5 main_v7 (Host.powf : (⟨S64, .f32⟩ : BufTy).Contents (Elt F) → (⟨S64, .f32⟩ : BufTy).Contents (Elt F) → (⟨S64, .f32⟩ : BufTy).Contents (Elt F)),
    unary main_arg0 main_v8 (sitofp .f32 : (⟨S1x8192, .i32⟩ : BufTy).Contents (Elt F) → (⟨S1x8192, .f32⟩ : BufTy).Contents (Elt F)),
    reshape main_v8 main_v9 (rfl : (.f32 : EltTy) = .f32) shapeCasts_S1x8192_S8192,
    unary main_v9 main_v10 (broadcastInDim S8192x1 ![0] bcast_S8192_S8192x1_0 : (⟨S8192, .f32⟩ : BufTy).Contents (Elt F) → (⟨S8192x1, .f32⟩ : BufTy).Contents (Elt F)),
    unary main_v7 main_v11 (broadcastInDim S1x64 ![1] bcast_S64_S1x64_1 : (⟨S64, .f32⟩ : BufTy).Contents (Elt F) → (⟨S1x64, .f32⟩ : BufTy).Contents (Elt F)),
    unary main_v10 main_v12 (broadcastInDim S8192x64 ![0, 1] bcast_S8192x1_S8192x64_0_1 : (⟨S8192x1, .f32⟩ : BufTy).Contents (Elt F) → (⟨S8192x64, .f32⟩ : BufTy).Contents (Elt F)),
    unary main_v11 main_v13 (broadcastInDim S8192x64 ![0, 1] bcast_S1x64_S8192x64_0_1 : (⟨S1x64, .f32⟩ : BufTy).Contents (Elt F) → (⟨S8192x64, .f32⟩ : BufTy).Contents (Elt F)),
    binary main_v12 main_v13 main_v14 (mulf : (⟨S8192x64, .f32⟩ : BufTy).Contents (Elt F) → (⟨S8192x64, .f32⟩ : BufTy).Contents (Elt F) → (⟨S8192x64, .f32⟩ : BufTy).Contents (Elt F)),
    unary main_v14 main_v15 (Host.cos : (⟨S8192x64, .f32⟩ : BufTy).Contents (Elt F) → (⟨S8192x64, .f32⟩ : BufTy).Contents (Elt F)),
    unary main_v14 main_v16 (Host.sin : (⟨S8192x64, .f32⟩ : BufTy).Contents (Elt F) → (⟨S8192x64, .f32⟩ : BufTy).Contents (Elt F)),
    binary main_v15 main_v15 main_v17 (sideBySide (F := F)),
    unary main_v16 main_v18 (Host.negf : (⟨S8192x64, .f32⟩ : BufTy).Contents (Elt F) → (⟨S8192x64, .f32⟩ : BufTy).Contents (Elt F)),
    binary main_v18 main_v16 main_v19 (sideBySide (F := F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., unary_bufs_sub .., unary_bufs_sub .., unary_bufs_sub .., binary_bufs_sub .., unary_bufs_sub .., unary_bufs_sub .., binary_bufs_sub .., unary_bufs_sub .., binary_bufs_sub ..⟩

/-- The 64 frequencies. -/
def freq : FVec Ideal S64 .f32 :=
  Host.powf (broadcastInDim S64 ![] bcast_S_S64 (constant (F := Ideal) S_ .f32 0x461C4000#32))
    (Host.divf (mulf (Host.negf (sitofp .f32 (iotaInDim S64 32 0))) (broadcastInDim S64 ![] bcast_S_S64 (constant (F := Ideal) S_ .f32 0x40000000#32)))
      (broadcastInDim S64 ![] bcast_S_S64 (constant (F := Ideal) S_ .f32 0x43000000#32)))

/-- The angles: each position times each frequency. -/
def angles (p : IVec S1x8192 32) : FVec Ideal S8192x64 .f32 :=
  mulf (broadcastInDim S8192x64 ![0, 1] bcast_S8192x1_S8192x64_0_1 (broadcastInDim S8192x1 ![0] bcast_S8192_S8192x1_0
      (shapeCast S8192 (sitofp (F := Ideal) .f32 p) shapeCasts_S1x8192_S8192)))
    (broadcastInDim S8192x64 ![0, 1] bcast_S1x64_S8192x64_0_1 (broadcastInDim S1x64 ![1] bcast_S64_S1x64_1 freq))

/-- The two tables. -/
def cosTable (p : IVec S1x8192 32) : FVec Ideal S8192x128 .f32 := sideBySide (F := Ideal) (Host.cos (angles p)) (Host.cos (angles p))
def sinTable (p : IVec S1x8192 32) : FVec Ideal S8192x128 .f32 := sideBySide (F := Ideal) (Host.negf (Host.sin (angles p))) (Host.sin (angles p))

set_option maxHeartbeats 2000000 in
/-- The reference ends with the two tables, its argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = cosTable (m ((c.tc : Thread nD τ).loc main_arg0))
      ∧ r.2.mem ((c.tc : Thread nD τ).loc main_v19) = sinTable (m ((c.tc : Thread nD τ).loc main_arg0))
      ∧ r.2.mem ((c.tc : Thread nD τ).loc main_arg0) = m ((c.tc : Thread nD τ).loc main_arg0) :=
  (θ_run defs _ _).mono (fun _ h c => ⟨(h c main_v17).trans (by after_results_simp <;> rfl),
      (h c main_v19).trans (by after_results_simp <;> rfl),
      (h c main_arg0).trans (by after_results_simp <;> rfl)⟩)
    (run_seq scopedRefs_eq scopedSems_eq defs main (fun _ => ops) main_eq (fun _ => ops_sub) m ρ)

end Cert.RopeRefIdeal.Own

end
-- ==== Proof.Rope.lean ====
/-
  The tables of the rotation: the reference's tables at an index, and the claims about the call.
-/
module

public import proofs.«01_k».proof.Defs
public import proofs.«01_k».proof.Proof.RopeTable
public import proofs.«01_k».proof.Proof.RopeRun
public import proofs.«01_k».proof.Proof.Gen.Rope
public import proofs.«01_k».proof.Proof.Gen.Rope.Frame
public import Idealize.ShloMosaic.Lib.Quiescent
public import Idealize.ShloMosaic.Lib.KernelVsHost

@[expose] public section

set_option maxRecDepth 16384

noncomputable section

namespace Cert.Proof.Rope

open Cert.RopeRefIdeal Cert.RopeRefIdeal.Gen Cert.RopeRefIdeal.Own Idealize.ShloMosaic Idealize.ShloMosaic.TcCoe Idealize.SL.Sem Idealize.ShloMosaic.ValueIdx

/-- The reference's angles at an index. -/
theorem angles_apply (p : IVec S1x8192 32) (i : Fin 8192) (k : Fin 64) :
    angles p (ix2 i k) = (((p (ix2 0 i)).toInt : ℝ) : EReal) * freq (ix1 k) := by
  unfold angles
  refine congrArg₂ (fun u v : EReal => u * v) ?_ ?_
  · refine (broadcastInDim_apply (s := S8192x1) (t := S8192x64) _ _ _ (ix2 i k) (ix2 i 0) fun c => ?_).trans
      ((broadcastInDim_apply (s := S8192) (t := S8192x1) _ _ _ (ix2 i 0) (ix1 i) fun c => ?_).trans ?_)
    · match c with
      | ⟨0, _⟩ => rfl
      | ⟨1, _⟩ => rfl
    · match c with
      | ⟨0, _⟩ => rfl
    · refine shapeCast_apply (s := S1x8192) (t := S8192) _ shapeCasts_S1x8192_S8192 (ix1 i) (ix2 0 i) ?_
      rw [Shape.rowMajor_val_two, Shape.rowMajor_val_one]
      show 0 * 8192 + i.val = i.val
      omega
  · refine (broadcastInDim_apply (s := S1x64) (t := S8192x64) _ _ _ (ix2 i k) (ix2 0 k) fun c => ?_).trans
      (broadcastInDim_apply (s := S64) (t := S1x64) _ _ _ (ix2 0 k) (ix1 k) fun c => ?_)
    · match c with
      | ⟨0, _⟩ => rfl
      | ⟨1, _⟩ => rfl
    · match c with
      | ⟨0, _⟩ => rfl

theorem side_left (a b : FVec Ideal S8192x64 .f32) (i : Fin 8192) (e : Fin 128) (h : e.val < 64) :
    sideBySide (F := Ideal) a b (ix2 i e) = a (ix2 i (⟨e.val % 64, by omega⟩ : Fin 64)) :=
  concatenate_pair_apply_left (t := S8192x128) (s₁ := S8192x64) (s₂ := S8192x64) 1 a b concatenates_S8192x64_S8192x64_S8192x128_d1 (ix2 i e) rfl
    (ix2 i (⟨e.val % 64, by omega⟩ : Fin 64)) fun c => by
      match c with
      | ⟨0, _⟩ => rfl
      | ⟨1, _⟩ => exact Nat.mod_eq_of_lt h

theorem side_right (a b : FVec Ideal S8192x64 .f32) (i : Fin 8192) (e : Fin 128) (h : 64 ≤ e.val) :
    sideBySide (F := Ideal) a b (ix2 i e) = b (ix2 i (⟨e.val % 64, by omega⟩ : Fin 64)) :=
  concatenate_pair_apply_right (t := S8192x128) (s₁ := S8192x64) (s₂ := S8192x64) 1 a b concatenates_S8192x64_S8192x64_S8192x128_d1 (ix2 i e) rfl rfl
    (ix2 i (⟨e.val % 64, by omega⟩ : Fin 64))
    (fun c hc => by
      match c with
      | ⟨0, _⟩ => rfl
      | ⟨1, _⟩ => exact absurd rfl hc)
    (by show e.val % 64 + 64 = e.val; omega)

theorem angle_eq (p : IVec S1x8192 32) (i : Fin 8192) (e : Fin 128) :
    angles p (ix2 i (⟨e.val % 64, by omega⟩ : Fin 64)) = Cert.RopeIdeal.Own.angle (p (ix2 0 i)) e := angles_apply p i _

theorem pair (i : S8192x128.Idx) : i = ix2 (i 0 : Fin 8192) (i 1 : Fin 128) := by
  funext b
  match b with
  | ⟨0, _⟩ => rfl
  | ⟨1, _⟩ => rfl

/-- **The reference's tables are the kernel's.** -/
theorem cos_eq (p : IVec S1x8192 32) : Cert.RopeRefIdeal.Own.cosTable p = Cert.RopeIdeal.Own.cosTable p := by
  funext y
  refine (congrArg (Cert.RopeRefIdeal.Own.cosTable p) (pair y)).trans ?_
  unfold Cert.RopeRefIdeal.Own.cosTable
  by_cases h : (y 1 : Fin 128).val < 64
  · exact (side_left _ _ _ _ h).trans (congrArg Ideal.cos (angle_eq p (y 0 : Fin 8192) (y 1 : Fin 128)))
  · exact (side_right _ _ _ _ (by omega)).trans (congrArg Ideal.cos (angle_eq p (y 0 : Fin 8192) (y 1 : Fin 128)))

theorem sin_eq (p : IVec S1x8192 32) : Cert.RopeRefIdeal.Own.sinTable p = Cert.RopeIdeal.Own.sinTable p := by
  funext y
  refine (congrArg (Cert.RopeRefIdeal.Own.sinTable p) (pair y)).trans ?_
  unfold Cert.RopeRefIdeal.Own.sinTable Cert.RopeIdeal.Own.sinTable Cert.RopeIdeal.Own.sinAt
  by_cases h : (y 1 : Fin 128).val < 64
  · rw [if_pos h]
    exact (side_left _ _ _ _ h).trans (congrArg (fun z : EReal => -Ideal.sin z) (angle_eq p (y 0 : Fin 8192) (y 1 : Fin 128)))
  · rw [if_neg h]
    exact (side_right _ _ _ _ (by omega)).trans (congrArg Ideal.sin (angle_eq p (y 0 : Fin 8192) (y 1 : Fin 128)))

theorem frame_p : Cert.quiescent_Rope := fun m ρ _ => Cert.Rope.Gen.frame m ρ
theorem frame_pi : Cert.quiescent_RopeIdeal := fun m ρ _ => Cert.RopeIdeal.Gen.frame m ρ
theorem frame_ri : Cert.quiescent_RopeRefIdeal := fun m ρ _ =>
  (θ_run Cert.RopeRefIdeal.defs _ _).mono
    (fun r h => ⟨fun c => (h c).2.2, Idealize.ShloMosaic.sem_eq_zero_of_no_sems (by decide) r.2⟩)
    (Cert.RopeRefIdeal.Own.run m ρ)

theorem preserves : Cert.preserves_Rope_RopeIdeal := trivial

/-- **The kernel and the reference end with equal tables** from equal positions. -/
theorem algebraic : Cert.algebraic_RopeIdeal_RopeRefIdeal := fun m ρ m' ρ' _ hag =>
  ⟨fun c => Cert.RopeIdeal.Own.cosTable (Cert.RopeIdeal.Own.posArg m c), fun c => Cert.RopeIdeal.Own.sinTable (Cert.RopeIdeal.Own.posArg m c),
    Cert.RopeIdeal.Own.run m ρ,
    (θ_run Cert.RopeRefIdeal.defs _ _).mono
      (fun r h c => by
        refine ⟨(h c).1.trans ?_, (h c).2.1.trans ?_, (h c).2.2⟩
        · rw [hag c]; exact cos_eq _
        · rw [hag c]; exact sin_eq _)
      (Cert.RopeRefIdeal.Own.run m' ρ')⟩

end Cert.Proof.Rope

end
-- ==== Proof.lean ====
/-
  The proof of every claim of the certificate, from the modules of each call.
-/
module

public import proofs.«01_k».proof.Defs
public import proofs.«01_k».proof.Proof.Attn
public import proofs.«01_k».proof.Proof.FfnOut
public import proofs.«01_k».proof.Proof.OutProj
public import proofs.«01_k».proof.Proof.FfnIn
public import proofs.«01_k».proof.Proof.AttnIn
public import proofs.«01_k».proof.Proof.ConvIn
public import proofs.«01_k».proof.Proof.OutProjAttn
public import proofs.«01_k».proof.Proof.MemConv
public import proofs.«01_k».proof.Proof.MemAttn
public import proofs.«01_k».proof.Proof.Attn1
public import proofs.«01_k».proof.Proof.Attn0
public import proofs.«01_k».proof.Proof.Norm
public import proofs.«01_k».proof.Proof.ResLast
public import proofs.«01_k».proof.Proof.ResNorm
public import proofs.«01_k».proof.Proof.MemKv
public import proofs.«01_k».proof.Proof.Merge
public import proofs.«01_k».proof.Proof.Rope

@[expose] public section

noncomputable section

namespace Cert.Proof

open Idealize.ShloMosaic Idealize.SL.Sem

/-- Every claim of the certificate. -/
theorem claim : Cert.Claim := ⟨Cert.Attn2.Gen.facts, Cert.Attn2Ideal.Gen.facts, Cert.Attn2RefIdeal.Gen.facts,
  Cert.FfnOut.Gen.facts, Cert.FfnOutIdeal.Gen.facts, Cert.FfnOutRefIdeal.Gen.facts,
  Cert.OutProj.Gen.facts, Cert.OutProjIdeal.Gen.facts, Cert.OutProjRefIdeal.Gen.facts,
  Cert.FfnIn.Gen.facts, Cert.FfnInIdeal.Gen.facts, Cert.FfnInRefIdeal.Gen.facts,
  Cert.AttnIn.Gen.facts, Cert.AttnInIdeal.Gen.facts, Cert.AttnInRefIdeal.Gen.facts,
  Cert.ConvIn.Gen.facts, Cert.ConvInIdeal.Gen.facts, Cert.ConvInRefIdeal.Gen.facts,
  Cert.OutProjAttn.Gen.facts, Cert.OutProjAttnIdeal.Gen.facts, Cert.OutProjAttnRefIdeal.Gen.facts,
  Cert.MemConv.Gen.facts, Cert.MemConvIdeal.Gen.facts, Cert.MemConvRefIdeal.Gen.facts,
  Cert.MemAttn.Gen.facts, Cert.MemAttnIdeal.Gen.facts, Cert.MemAttnRefIdeal.Gen.facts,
  Cert.Attn1.Gen.facts, Cert.Attn1Ideal.Gen.facts, Cert.Attn1RefIdeal.Gen.facts,
  Cert.Attn0.Gen.facts, Cert.Attn0Ideal.Gen.facts, Cert.Attn0RefIdeal.Gen.facts,
  Cert.Norm.Gen.facts, Cert.NormIdeal.Gen.facts, Cert.NormRefIdeal.Gen.facts,
  Cert.ResLast.Gen.facts, Cert.ResLastIdeal.Gen.facts, Cert.ResLastRefIdeal.Gen.facts,
  Cert.ResNorm.Gen.facts, Cert.ResNormIdeal.Gen.facts, Cert.ResNormRefIdeal.Gen.facts,
  Cert.MemKv.Gen.facts, Cert.MemKvIdeal.Gen.facts, Cert.MemKvRefIdeal.Gen.facts,
  Cert.Merge.Gen.facts, Cert.MergeIdeal.Gen.facts, Cert.MergeRefIdeal.Gen.facts,
  Cert.Rope.Gen.facts, Cert.RopeIdeal.Gen.facts, Cert.RopeRefIdeal.Gen.facts,
  Cert.Pre_finite_qk.Gen.facts, Cert.Pre_finite_qk_g1.Gen.facts, Cert.Pre_finite_qk_g0.Gen.facts,
  Attn.frame_p, Attn.frame_pi, Attn.frame_pi_pre, Attn.frame_ri, Attn.frame_ri_pre,
  FfnOut.frame_p, FfnOut.frame_pi, FfnOut.frame_ri, OutProj.frame_p, OutProj.frame_pi, OutProj.frame_ri,
  FfnIn.frame_p, FfnIn.frame_pi, FfnIn.frame_ri, AttnIn.frame_p, AttnIn.frame_pi, AttnIn.frame_ri,
  ConvIn.frame_p, ConvIn.frame_pi, ConvIn.frame_ri,
  OutProjAttn.frame_p, OutProjAttn.frame_pi, OutProjAttn.frame_ri,
  MemConv.frame_p, MemConv.frame_pi, MemConv.frame_ri,
  MemAttn.frame_p, MemAttn.frame_pi, MemAttn.frame_ri,
  Attn1.frame_p, Attn1.frame_pi, Attn1.frame_pi_pre, Attn1.frame_ri, Attn1.frame_ri_pre,
  Attn0.frame_p, Attn0.frame_pi, Attn0.frame_pi_pre, Attn0.frame_ri, Attn0.frame_ri_pre,
  Norm.frame_p, Norm.frame_pi, Norm.frame_ri,
  ResLast.frame_p, ResLast.frame_pi, ResLast.frame_ri,
  ResNorm.frame_p, ResNorm.frame_pi, ResNorm.frame_ri,
  MemKv.frame_p, MemKv.frame_pi, MemKv.frame_ri,
  Merge.frame_p, Merge.frame_pi, Merge.frame_ri,
  Rope.frame_p, Rope.frame_pi, Rope.frame_ri,
  Attn.preserves, Attn.algebraic, FfnOut.preserves, FfnOut.algebraic, OutProj.preserves, OutProj.algebraic,
  FfnIn.preserves, FfnIn.algebraic, AttnIn.preserves, AttnIn.algebraic, ConvIn.preserves, ConvIn.algebraic,
  OutProjAttn.preserves, OutProjAttn.algebraic, MemConv.preserves, MemConv.algebraic, MemAttn.preserves, MemAttn.algebraic,
  Attn1.preserves, Attn1.algebraic, Attn0.preserves, Attn0.algebraic,
  Norm.preserves, Norm.algebraic, ResLast.preserves, ResLast.algebraic, ResNorm.preserves, ResNorm.algebraic, MemKv.preserves, MemKv.algebraic,
  Merge.preserves, Merge.algebraic, Rope.preserves, Rope.algebraic⟩

end Cert.Proof

end
